-- ==== Defs.lean ====
def Pre_Kernel [hPre_routed : Cert.Pre_routed.Facts] (m : (ℓ : Loc Cert.Kernel.nD Cert.Kernel.τ Cert.Kernel.sig) → Buf (Elt Bits) ℓ) : Prop :=
  ∀ c : Dev Cert.Kernel.nD,
    (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_ready : Cert.Pre_ready.Facts] (m : (ℓ : Loc Cert.Kernel3.nD Cert.Kernel3.τ Cert.Kernel3.sig) → Buf (Elt Bits) ℓ) : Prop :=
  ∀ c : Dev Cert.Kernel3.nD,
    (Cert.Pre_ready.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5))) = (fun _ => 1#1)

def Pre_Kernel3Ideal [hPre_ready : Cert.Pre_ready.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_ready.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal [hPre_ready : Cert.Pre_ready.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_ready.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def quiescent_Kernel [hKernel : Cert.Kernel.Facts] [hPre_routed : Cert.Pre_routed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] [hPre_ready : Cert.Pre_ready.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] [hPre_ready : Cert.Pre_ready.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] [hPre_ready : Cert.Pre_ready.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v6_0)) (v1 : (c : Dev Cert.Kernel2Ideal.nD) → Buf (Elt Ideal) ((c.tc : Thread Cert.Kernel2Ideal.nD Cert.Kernel2Ideal.τ).loc Cert.Kernel2Ideal.main_v6_1)) (v2 : (c : Dev Cert.Kernel2Ideal.nD) → Buf (Elt Ideal) ((c.tc : Thread Cert.Kernel2Ideal.nD Cert.Kernel2Ideal.τ).loc Cert.Kernel2Ideal.main_v6_2)) (v3 : (c : Dev Cert.Kernel2Ideal.nD) → Buf (Elt Ideal) ((c.tc : Thread Cert.Kernel2Ideal.nD Cert.Kernel2Ideal.τ).loc Cert.Kernel2Ideal.main_v6_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6_0) = v0 c
          ∧ r.2.mem ((c.tc : Thread Cert.Kernel2Ideal.nD Cert.Kernel2Ideal.τ).loc Cert.Kernel2Ideal.main_v6_1) = v1 c
          ∧ r.2.mem ((c.tc : Thread Cert.Kernel2Ideal.nD Cert.Kernel2Ideal.τ).loc Cert.Kernel2Ideal.main_v6_2) = v2 c
          ∧ r.2.mem ((c.tc : Thread Cert.Kernel2Ideal.nD Cert.Kernel2Ideal.τ).loc Cert.Kernel2Ideal.main_v6_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_v19) = v1 c
          ∧ r.2.mem ((c.tc : Thread Cert.Reference2Ideal.nD Cert.Reference2Ideal.τ).loc Cert.Reference2Ideal.main_v20) = v2 c
          ∧ r.2.mem ((c.tc : Thread Cert.Reference2Ideal.nD Cert.Reference2Ideal.τ).loc Cert.Reference2Ideal.main_v21) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] [hPre_ready : Cert.Pre_ready.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v38) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_routed : Cert.Pre_routed.Facts) (hPre_ready : Cert.Pre_ready.Facts),
    quiescent_Kernel (hKernel := hKernel) (hPre_routed := hPre_routed)
    ∧ quiescent_KernelIdeal (hKernelIdeal := hKernelIdeal) (hPre_routed := hPre_routed)
    ∧ quiescent_ReferenceIdeal (hReferenceIdeal := hReferenceIdeal) (hPre_routed := hPre_routed)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_ready := hPre_ready)
    ∧ quiescent_Kernel3Ideal (hKernel3Ideal := hKernel3Ideal) (hPre_ready := hPre_ready)
    ∧ quiescent_Reference3Ideal (hReference3Ideal := hReference3Ideal) (hPre_ready := hPre_ready)
    ∧ preserves_Kernel_KernelIdeal
    ∧ algebraic_KernelIdeal_ReferenceIdeal (hKernelIdeal := hKernelIdeal) (hReferenceIdeal := hReferenceIdeal) (hPre_routed := hPre_routed)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_ready := hPre_ready)
-- ==== Pre_ready.lean ====
abbrev S444 : Shape := ⟨1, ![444]⟩
abbrev S1 : Shape := ⟨1, ![1]⟩
abbrev S227328x1024 : Shape := ⟨2, ![227328, 1024]⟩
abbrev S1x64x1024x256 : Shape := ⟨4, ![1, 64, 1024, 256]⟩
abbrev S1x64x256x1024 : Shape := ⟨4, ![1, 64, 256, 1024]⟩
abbrev S_ : Shape := ⟨0, ![]⟩

class Facts : Prop where
  bcast_S_S444 : S_.BroadcastsInDim S444 (![] : Fin 0 → Fin S444.rank)
  reducesTo_S444_S_d0 : S444.ReducesTo [0] S_
  h_S_ : 0 < S_.numel
  shapeCasts_S1_S_ : S1.ShapeCasts S_

variable [Facts]

def fn {F : FTy → Type} [FloatOps F] (main_arg0 : IVec S444 32) (main_arg1 : IVec S1 32) (main_arg2 : FVec F S227328x1024 .bf16) (main_arg3 : FVec F S1x64x1024x256 .f32) (main_arg4 : FVec F S1x64x1024x256 .f32) (main_arg5 : FVec F S1x64x256x1024 .f32) : IVec S_ 1 :=
  let main_c : IVec S_ 32 := constantI S_ 32 0#32
  let main_v0 : IVec S444 32 := broadcastInDim S444 ![] bcast_S_S444 main_c
  let main_v1 : IVec S444 1 := cmpi .sge main_arg0 main_v0
  let main_c_0 : IVec S_ 32 := constantI S_ 32 64#32
  let main_v2 : IVec S444 32 := broadcastInDim S444 ![] bcast_S_S444 main_c_0
  let main_v3 : IVec S444 1 := cmpi .slt main_arg0 main_v2
  let main_v4 : IVec S444 1 := andi main_v1 main_v3
  let main_c_1 : IVec S_ 1 := constantI S_ 1 1#1
  let main_v5 : IVec S_ 1 := (fun x v => Host.reduce IntOp.andi x v reducesTo_S444_S_d0 h_S_) main_v4 main_c_1
  let main_v6 : IVec S_ 32 := shapeCast S_ main_arg1 shapeCasts_S1_S_
  let main_c_2 : IVec S_ 32 := constantI S_ 32 1#32
  let main_v7 : IVec S_ 1 := cmpi .sge main_v6 main_c_2
  let main_v8 : IVec S_ 1 := andi main_v5 main_v7
  main_v8
-- ==== Pre_routed.lean ====
abbrev S64 : Shape := ⟨1, ![64]⟩
abbrev S1 : Shape := ⟨1, ![1]⟩
abbrev S64x1x256 : Shape := ⟨3, ![64, 1, 256]⟩
abbrev S1x1x128 : Shape := ⟨3, ![1, 1, 128]⟩
abbrev S8x16384 : Shape := ⟨2, ![8, 16384]⟩
abbrev S16384x1024 : Shape := ⟨2, ![16384, 1024]⟩
abbrev S8x128 : Shape := ⟨2, ![8, 128]⟩
abbrev S128x1024 : Shape := ⟨2, ![128, 1024]⟩
abbrev S256 : Shape := ⟨1, ![256]⟩
abbrev S_ : Shape := ⟨0, ![]⟩
abbrev S1x256 : Shape := ⟨2, ![1, 256]⟩
abbrev S64x1 : Shape := ⟨2, ![64, 1]⟩
abbrev S64x256 : Shape := ⟨2, ![64, 256]⟩
abbrev S128 : Shape := ⟨1, ![128]⟩
abbrev S16384 : Shape := ⟨1, ![16384]⟩
abbrev S14208 : Shape := ⟨1, ![14208]⟩
abbrev S14208x1 : Shape := ⟨2, ![14208, 1]⟩
abbrev S1x16384 : Shape := ⟨2, ![1, 16384]⟩
abbrev S14208x16384 : Shape := ⟨2, ![14208, 16384]⟩
abbrev S1x128 : Shape := ⟨2, ![1, 128]⟩
abbrev S14208x128 : Shape := ⟨2, ![14208, 128]⟩
abbrev S1x64 : Shape := ⟨2, ![1, 64]⟩
abbrev S14208x64 : Shape := ⟨2, ![14208, 64]⟩
abbrev S8x64x256 : Shape := ⟨3, ![8, 64, 256]⟩
abbrev S1x64x1 : Shape := ⟨3, ![1, 64, 1]⟩
abbrev S64x8x256 : Shape := ⟨3, ![64, 8, 256]⟩
abbrev S64x2048 : Shape := ⟨2, ![64, 2048]⟩
abbrev S1024 : Shape := ⟨1, ![1024]⟩
abbrev S2048 : Shape := ⟨1, ![2048]⟩
abbrev S64x2048x1 : Shape := ⟨3, ![64, 2048, 1]⟩
abbrev S64x1x2048 : Shape := ⟨3, ![64, 1, 2048]⟩
abbrev S64x2048x2048 : Shape := ⟨3, ![64, 2048, 2048]⟩
abbrev S2048x1 : Shape := ⟨2, ![2048, 1]⟩
abbrev S1x2048 : Shape := ⟨2, ![1, 2048]⟩
abbrev S2048x2048 : Shape := ⟨2, ![2048, 2048]⟩
abbrev S1x2048x2048 : Shape := ⟨3, ![1, 2048, 2048]⟩
abbrev S1024x1 : Shape := ⟨2, ![1024, 1]⟩
abbrev S1x1024 : Shape := ⟨2, ![1, 1024]⟩
abbrev S1024x1024 : Shape := ⟨2, ![1024, 1024]⟩

class Facts : Prop where
  bcast_S_S256 : S_.BroadcastsInDim S256 (![] : Fin 0 → Fin S256.rank)
  bcast_S256_S1x256_1 : S256.BroadcastsInDim S1x256 (![1] : Fin 1 → Fin S1x256.rank)
  bcast_S64_S64x1_0 : S64.BroadcastsInDim S64x1 (![0] : Fin 1 → Fin S64x1.rank)
  bcast_S1x256_S64x256_0_1 : S1x256.BroadcastsInDim S64x256 (![0, 1] : Fin 2 → Fin S64x256.rank)
  bcast_S64x1_S64x256_0_1 : S64x1.BroadcastsInDim S64x256 (![0, 1] : Fin 2 → Fin S64x256.rank)
  slices_S256_S128_0 : S256.Slices ![0] S128
  shapeCasts_S1_S_ : S1.ShapeCasts S_
  bcast_S_S128 : S_.BroadcastsInDim S128 (![] : Fin 0 → Fin S128.rank)
  shapeCasts_S64x1x256_S64x256 : S64x1x256.ShapeCasts S64x256
  bcast_S_S64x256 : S_.BroadcastsInDim S64x256 (![] : Fin 0 → Fin S64x256.rank)
  shapeCasts_S64x256_S16384 : S64x256.ShapeCasts S16384
  shapeCasts_S1x1x128_S128 : S1x1x128.ShapeCasts S128
  bcast_S_S64 : S_.BroadcastsInDim S64 (![] : Fin 0 → Fin S64.rank)
  bcast_S_S14208 : S_.BroadcastsInDim S14208 (![] : Fin 0 → Fin S14208.rank)
  bcast_S14208_S14208x1_0 : S14208.BroadcastsInDim S14208x1 (![0] : Fin 1 → Fin S14208x1.rank)
  bcast_S16384_S1x16384_1 : S16384.BroadcastsInDim S1x16384 (![1] : Fin 1 → Fin S1x16384.rank)
  bcast_S14208x1_S14208x16384_0_1 : S14208x1.BroadcastsInDim S14208x16384 (![0, 1] : Fin 2 → Fin S14208x16384.rank)
  bcast_S1x16384_S14208x16384_0_1 : S1x16384.BroadcastsInDim S14208x16384 (![0, 1] : Fin 2 → Fin S14208x16384.rank)
  natLt_1_32 : 1 < 32
  reducesTo_S14208x16384_S14208_d1 : S14208x16384.ReducesTo [1] S14208
  h_S_ : 0 < S_.numel
  bcast_S128_S1x128_1 : S128.BroadcastsInDim S1x128 (![1] : Fin 1 → Fin S1x128.rank)
  bcast_S14208x1_S14208x128_0_1 : S14208x1.BroadcastsInDim S14208x128 (![0, 1] : Fin 2 → Fin S14208x128.rank)
  bcast_S1x128_S14208x128_0_1 : S1x128.BroadcastsInDim S14208x128 (![0, 1] : Fin 2 → Fin S14208x128.rank)
  reducesTo_S14208x128_S14208_d1 : S14208x128.ReducesTo [1] S14208
  bcast_S64_S1x64_1 : S64.BroadcastsInDim S1x64 (![1] : Fin 1 → Fin S1x64.rank)
  bcast_S1x64_S14208x64_0_1 : S1x64.BroadcastsInDim S14208x64 (![0, 1] : Fin 2 → Fin S14208x64.rank)
  bcast_S14208x1_S14208x64_0_1 : S14208x1.BroadcastsInDim S14208x64 (![0, 1] : Fin 2 → Fin S14208x64.rank)
  reducesTo_S14208x64_S14208_d1 : S14208x64.ReducesTo [1] S14208
  bcast_S_S1 : S_.BroadcastsInDim S1 (![] : Fin 0 → Fin S1.rank)
  bcast_S1_S14208_0 : S1.BroadcastsInDim S14208 (![0] : Fin 1 → Fin S14208.rank)
  reducesTo_S64_S_d0 : S64.ReducesTo [0] S_
  reducesTo_S1_S_d0 : S1.ReducesTo [0] S_
  reducesTo_S64x256_S_d0_1 : S64x256.ReducesTo [0, 1] S_
  reducesTo_S128_S_d0 : S128.ReducesTo [0] S_
  slices_S64_S1_0 : S64.Slices ![0] S1
  reducesTo_S14208_S_d0 : S14208.ReducesTo [0] S_
  shapeCasts_S8x16384_S8x64x256 : S8x16384.ShapeCasts S8x64x256
  bcast_S_S8x64x256 : S_.BroadcastsInDim S8x64x256 (![] : Fin 0 → Fin S8x64x256.rank)
  bcast_S64_S1x64x1_1 : S64.BroadcastsInDim S1x64x1 (![1] : Fin 1 → Fin S1x64x1.rank)
  bcast_S1x64x1_S8x64x256_0_1_2 : S1x64x1.BroadcastsInDim S8x64x256 (![0, 1, 2] : Fin 3 → Fin S8x64x256.rank)
  reducesTo_S8x64x256_S_d0_1_2 : S8x64x256.ReducesTo [0, 1, 2] S_
  bcast_S_S8x128 : S_.BroadcastsInDim S8x128 (![] : Fin 0 → Fin S8x128.rank)
  reducesTo_S8x128_S_d0_1 : S8x128.ReducesTo [0, 1] S_
  transposes_S8x64x256_S64x8x256_1_0_2 : S8x64x256.Transposes [1, 0, 2] S64x8x256
  shapeCasts_S64x8x256_S64x2048 : S64x8x256.ShapeCasts S64x2048
  shapeCasts_S8x128_S1024 : S8x128.ShapeCasts S1024
  bcast_S64x2048_S64x2048x1_0_1 : S64x2048.BroadcastsInDim S64x2048x1 (![0, 1] : Fin 2 → Fin S64x2048x1.rank)
  bcast_S64x2048_S64x1x2048_0_2 : S64x2048.BroadcastsInDim S64x1x2048 (![0, 2] : Fin 2 → Fin S64x1x2048.rank)
  bcast_S64x2048x1_S64x2048x2048_0_1_2 : S64x2048x1.BroadcastsInDim S64x2048x2048 (![0, 1, 2] : Fin 3 → Fin S64x2048x2048.rank)
  bcast_S64x1x2048_S64x2048x2048_0_1_2 : S64x1x2048.BroadcastsInDim S64x2048x2048 (![0, 1, 2] : Fin 3 → Fin S64x2048x2048.rank)
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S2048x1_S2048x2048_0_1 : S2048x1.BroadcastsInDim S2048x2048 (![0, 1] : Fin 2 → Fin S2048x2048.rank)
  bcast_S1x2048_S2048x2048_0_1 : S1x2048.BroadcastsInDim S2048x2048 (![0, 1] : Fin 2 → Fin S2048x2048.rank)
  bcast_S2048x2048_S1x2048x2048_1_2 : S2048x2048.BroadcastsInDim S1x2048x2048 (![1, 2] : Fin 2 → Fin S1x2048x2048.rank)
  bcast_S1x2048x2048_S64x2048x2048_0_1_2 : S1x2048x2048.BroadcastsInDim S64x2048x2048 (![0, 1, 2] : Fin 3 → Fin S64x2048x2048.rank)
  reducesTo_S64x2048x2048_S_d0_1_2 : S64x2048x2048.ReducesTo [0, 1, 2] S_
  bcast_S1024_S1024x1_0 : S1024.BroadcastsInDim S1024x1 (![0] : Fin 1 → Fin S1024x1.rank)
  bcast_S1024_S1x1024_1 : S1024.BroadcastsInDim S1x1024 (![1] : Fin 1 → Fin S1x1024.rank)
  bcast_S1024x1_S1024x1024_0_1 : S1024x1.BroadcastsInDim S1024x1024 (![0, 1] : Fin 2 → Fin S1024x1024.rank)
  bcast_S1x1024_S1024x1024_0_1 : S1x1024.BroadcastsInDim S1024x1024 (![0, 1] : Fin 2 → Fin S1024x1024.rank)
  reducesTo_S1024x1024_S_d0_1 : S1024x1024.ReducesTo [0, 1] S_

variable [Facts]

def fn_where {F : FTy → Type} [FloatOps F] (arg0 : IVec S64x256 1) (arg1 : IVec S64x256 32) (arg2 : IVec S_ 32) : IVec S64x256 32 :=
  let v0 : IVec S_ 32 := id arg2
  let v1 : IVec S64x256 32 := broadcastInDim S64x256 ![] bcast_S_S64x256 v0
  let v2 : IVec S64x256 32 := select arg0 arg1 v1
  v2

def fn_where_0 {F : FTy → Type} [FloatOps F] (arg0 : IVec S128 1) (arg1 : IVec S128 32) (arg2 : IVec S_ 32) : IVec S128 32 :=
  let v0 : IVec S_ 32 := id arg2
  let v1 : IVec S128 32 := broadcastInDim S128 ![] bcast_S_S128 v0
  let v2 : IVec S128 32 := select arg0 arg1 v1
  v2

def fn_where_1 {F : FTy → Type} [FloatOps F] (arg0 : IVec S64x256 1) (arg1 : IVec S64x256 1) (arg2 : IVec S_ 1) : IVec S64x256 1 :=
  let v0 : IVec S64x256 1 := broadcastInDim S64x256 ![] bcast_S_S64x256 arg2
  let v1 : IVec S64x256 1 := select arg0 arg1 v0
  v1

def fn_where_2 {F : FTy → Type} [FloatOps F] (arg0 : IVec S128 1) (arg1 : IVec S128 1) (arg2 : IVec S_ 1) : IVec S128 1 :=
  let v0 : IVec S128 1 := broadcastInDim S128 ![] bcast_S_S128 arg2
  let v1 : IVec S128 1 := select arg0 arg1 v0
  v1

def fn_part10 {F : FTy → Type} [FloatOps F] (main_v168 : IVec S1024 32) (main_v183 : IVec S_ 1) (main_v186 : IVec S1024x1024 32) (main_v187 : IVec S1024x1024 32) : IVec S_ 1 :=
  let main_v188 : IVec S1024x1024 1 := cmpi .ne main_v186 main_v187
  let main_v189 : IVec S1024x1 32 := broadcastInDim S1024x1 ![0] bcast_S1024_S1024x1_0 main_v168
  let main_v190 : IVec S1x1024 32 := broadcastInDim S1x1024 ![1] bcast_S1024_S1x1024_1 main_v168
  let main_v191 : IVec S1024x1024 32 := broadcastInDim S1024x1024 ![0, 1] bcast_S1024x1_S1024x1024_0_1 main_v189
  let main_v192 : IVec S1024x1024 32 := broadcastInDim S1024x1024 ![0, 1] bcast_S1x1024_S1024x1024_0_1 main_v190
  let main_v193 : IVec S1024x1024 1 := cmpi .eq main_v191 main_v192
  let main_v194 : IVec S1024x1024 1 := ori main_v188 main_v193
  let main_c_51 : IVec S_ 1 := constantI S_ 1 1#1
  let main_v195 : IVec S_ 1 := (fun x v => Host.reduce IntOp.andi x v reducesTo_S1024x1024_S_d0_1 h_S_) main_v194 main_c_51
  let main_v196 : IVec S_ 1 := andi main_v183 main_v195
  main_v196

def fn_part9 {F : FTy → Type} [FloatOps F] (main_arg9 : IVec S8x128 32) (main_v163 : IVec S_ 1) (main_v164 : IVec S64x8x256 32) : IVec S_ 1 :=
  let main_v165 : IVec S64x2048 32 := shapeCast S64x2048 main_v164 shapeCasts_S64x8x256_S64x2048
  let main_v166 : IVec S1024 32 := shapeCast S1024 main_arg9 shapeCasts_S8x128_S1024
  let main_v167 : IVec S2048 32 := iotaInDim S2048 32 0
  let main_v168 : IVec S1024 32 := iotaInDim S1024 32 0
  let main_v169 : IVec S64x2048x1 32 := broadcastInDim S64x2048x1 ![0, 1] bcast_S64x2048_S64x2048x1_0_1 main_v165
  let main_v170 : IVec S64x1x2048 32 := broadcastInDim S64x1x2048 ![0, 2] bcast_S64x2048_S64x1x2048_0_2 main_v165
  let main_v171 : IVec S64x2048x2048 32 := broadcastInDim S64x2048x2048 ![0, 1, 2] bcast_S64x2048x1_S64x2048x2048_0_1_2 main_v169
  let main_v172 : IVec S64x2048x2048 32 := broadcastInDim S64x2048x2048 ![0, 1, 2] bcast_S64x1x2048_S64x2048x2048_0_1_2 main_v170
  let main_v173 : IVec S64x2048x2048 1 := cmpi .ne main_v171 main_v172
  let main_v174 : IVec S2048x1 32 := broadcastInDim S2048x1 ![0] bcast_S2048_S2048x1_0 main_v167
  let main_v175 : IVec S1x2048 32 := broadcastInDim S1x2048 ![1] bcast_S2048_S1x2048_1 main_v167
  let main_v176 : IVec S2048x2048 32 := broadcastInDim S2048x2048 ![0, 1] bcast_S2048x1_S2048x2048_0_1 main_v174
  let main_v177 : IVec S2048x2048 32 := broadcastInDim S2048x2048 ![0, 1] bcast_S1x2048_S2048x2048_0_1 main_v175
  let main_v178 : IVec S2048x2048 1 := cmpi .eq main_v176 main_v177
  let main_v179 : IVec S1x2048x2048 1 := broadcastInDim S1x2048x2048 ![1, 2] bcast_S2048x2048_S1x2048x2048_1_2 main_v178
  let main_v180 : IVec S64x2048x2048 1 := broadcastInDim S64x2048x2048 ![0, 1, 2] bcast_S1x2048x2048_S64x2048x2048_0_1_2 main_v179
  let main_v181 : IVec S64x2048x2048 1 := ori main_v173 main_v180
  let main_c_50 : IVec S_ 1 := constantI S_ 1 1#1
  let main_v182 : IVec S_ 1 := (fun x v => Host.reduce IntOp.andi x v reducesTo_S64x2048x2048_S_d0_1_2 h_S_) main_v181 main_c_50
  let main_v183 : IVec S_ 1 := andi main_v163 main_v182
  let main_v184 : IVec S1024x1 32 := broadcastInDim S1024x1 ![0] bcast_S1024_S1024x1_0 main_v166
  let main_v185 : IVec S1x1024 32 := broadcastInDim S1x1024 ![1] bcast_S1024_S1x1024_1 main_v166
  let main_v186 : IVec S1024x1024 32 := broadcastInDim S1024x1024 ![0, 1] bcast_S1024x1_S1024x1024_0_1 main_v184
  let main_v187 : IVec S1024x1024 32 := broadcastInDim S1024x1024 ![0, 1] bcast_S1x1024_S1024x1024_0_1 main_v185
  fn_part10 (F := F) main_v168 main_v183 main_v186 main_v187

def fn_part8 {F : FTy → Type} [FloatOps F] (main_arg0 : IVec S64 32) (main_arg1 : IVec S1 32) (main_arg7 : IVec S8x16384 32) (main_arg9 : IVec S8x128 32) (main_v142 : IVec S_ 1) (main_v144 : IVec S14208 1) (main_c_45 : IVec S_ 1) : IVec S_ 1 :=
  let main_v145 : IVec S_ 1 := (fun x v => Host.reduce IntOp.andi x v reducesTo_S14208_S_d0 h_S_) main_v144 main_c_45
  let main_v146 : IVec S_ 1 := andi main_v142 main_v145
  let main_v147 : IVec S8x64x256 32 := shapeCast S8x64x256 main_arg7 shapeCasts_S8x16384_S8x64x256
  let main_c_46 : IVec S_ 32 := constantI S_ 32 0#32
  let main_v148 : IVec S8x64x256 32 := broadcastInDim S8x64x256 ![] bcast_S_S8x64x256 main_c_46
  let main_v149 : IVec S8x64x256 1 := cmpi .sge main_v147 main_v148
  let main_v150 : IVec S1x64x1 32 := broadcastInDim S1x64x1 ![1] bcast_S64_S1x64x1_1 main_arg0
  let main_v151 : IVec S8x64x256 32 := broadcastInDim S8x64x256 ![0, 1, 2] bcast_S1x64x1_S8x64x256_0_1_2 main_v150
  let main_v152 : IVec S8x64x256 1 := cmpi .slt main_v147 main_v151
  let main_v153 : IVec S8x64x256 1 := andi main_v149 main_v152
  let main_c_47 : IVec S_ 1 := constantI S_ 1 1#1
  let main_v154 : IVec S_ 1 := (fun x v => Host.reduce IntOp.andi x v reducesTo_S8x64x256_S_d0_1_2 h_S_) main_v153 main_c_47
  let main_v155 : IVec S_ 1 := andi main_v146 main_v154
  let main_c_48 : IVec S_ 32 := constantI S_ 32 0#32
  let main_v156 : IVec S8x128 32 := broadcastInDim S8x128 ![] bcast_S_S8x128 main_c_48
  let main_v157 : IVec S8x128 1 := cmpi .sge main_arg9 main_v156
  let main_v158 : IVec S_ 32 := shapeCast S_ main_arg1 shapeCasts_S1_S_
  let main_v159 : IVec S8x128 32 := broadcastInDim S8x128 ![] bcast_S_S8x128 main_v158
  let main_v160 : IVec S8x128 1 := cmpi .slt main_arg9 main_v159
  let main_v161 : IVec S8x128 1 := andi main_v157 main_v160
  let main_c_49 : IVec S_ 1 := constantI S_ 1 1#1
  let main_v162 : IVec S_ 1 := (fun x v => Host.reduce IntOp.andi x v reducesTo_S8x128_S_d0_1 h_S_) main_v161 main_c_49
  let main_v163 : IVec S_ 1 := andi main_v155 main_v162
  let main_v164 : IVec S64x8x256 32 := (transpose S64x8x256 [1, 0, 2] · transposes_S8x64x256_S64x8x256_1_0_2) main_v147
  fn_part9 (F := F) main_arg9 main_v163 main_v164

def fn_part7 {F : FTy → Type} [FloatOps F] (main_arg0 : IVec S64 32) (main_arg1 : IVec S1 32) (main_arg2 : IVec S64 32) (main_arg4 : IVec S1 32) (main_arg7 : IVec S8x16384 32) (main_arg9 : IVec S8x128 32) (main_v57 : IVec S14208 32) (main_v126 : IVec S_ 1) (main_v128 : IVec S64 1) : IVec S_ 1 :=
  let main_c_38 : IVec S_ 1 := constantI S_ 1 1#1
  let main_v129 : IVec S_ 1 := (fun x v => Host.reduce IntOp.andi x v reducesTo_S64_S_d0 h_S_) main_v128 main_c_38
  let main_v130 : IVec S1 32 := (extractStridedSlice S1 ![0] · slices_S64_S1_0) main_arg2
  let main_c_39 : IVec S_ 32 := constantI S_ 32 227328#32
  let main_v131 : IVec S1 32 := broadcastInDim S1 ![] bcast_S_S1 main_c_39
  let main_v132 : IVec S1 1 := cmpi .slt main_v130 main_v131
  let main_c_40 : IVec S_ 1 := constantI S_ 1 1#1
  let main_v133 : IVec S_ 1 := (fun x v => Host.reduce IntOp.andi x v reducesTo_S1_S_d0 h_S_) main_v132 main_c_40
  let main_v134 : IVec S_ 1 := andi main_v129 main_v133
  let main_v135 : IVec S_ 1 := andi main_v126 main_v134
  let main_c_41 : IVec S_ 32 := constantI S_ 32 0#32
  let main_v136 : IVec S1 32 := broadcastInDim S1 ![] bcast_S_S1 main_c_41
  let main_v137 : IVec S1 1 := cmpi .sge main_arg4 main_v136
  let main_c_42 : IVec S_ 32 := constantI S_ 32 444#32
  let main_v138 : IVec S1 32 := broadcastInDim S1 ![] bcast_S_S1 main_c_42
  let main_v139 : IVec S1 1 := cmpi .sle main_arg4 main_v138
  let main_v140 : IVec S1 1 := andi main_v137 main_v139
  let main_c_43 : IVec S_ 1 := constantI S_ 1 1#1
  let main_v141 : IVec S_ 1 := (fun x v => Host.reduce IntOp.andi x v reducesTo_S1_S_d0 h_S_) main_v140 main_c_43
  let main_v142 : IVec S_ 1 := andi main_v135 main_v141
  let main_c_44 : IVec S_ 32 := constantI S_ 32 1#32
  let main_v143 : IVec S14208 32 := broadcastInDim S14208 ![] bcast_S_S14208 main_c_44
  let main_v144 : IVec S14208 1 := cmpi .eq main_v57 main_v143
  let main_c_45 : IVec S_ 1 := constantI S_ 1 1#1
  fn_part8 (F := F) main_arg0 main_arg1 main_arg7 main_arg9 main_v142 main_v144 main_c_45

def fn_part6 {F : FTy → Type} [FloatOps F] (main_arg0 : IVec S64 32) (main_arg1 : IVec S1 32) (main_arg2 : IVec S64 32) (main_arg3 : IVec S64 32) (main_arg4 : IVec S1 32) (main_arg7 : IVec S8x16384 32) (main_arg9 : IVec S8x128 32) (main_v19 : IVec S64 32) (main_v57 : IVec S14208 32) (main_v108 : IVec S_ 1) (main_v110 : IVec S64 1) (main_c_31 : IVec S_ 32) : IVec S_ 1 :=
  let main_v111 : IVec S64 32 := broadcastInDim S64 ![] bcast_S_S64 main_c_31
  let main_v112 : IVec S64 1 := cmpi .sle main_arg2 main_v111
  let main_v113 : IVec S64 1 := andi main_v110 main_v112
  let main_c_32 : IVec S_ 32 := constantI S_ 32 16#32
  let main_v114 : IVec S64 32 := broadcastInDim S64 ![] bcast_S_S64 main_c_32
  let main_v115 : IVec S64 32 := Host.remsi main_arg2 main_v114
  let main_c_33 : IVec S_ 32 := constantI S_ 32 0#32
  let main_v116 : IVec S64 32 := broadcastInDim S64 ![] bcast_S_S64 main_c_33
  let main_v117 : IVec S64 1 := cmpi .eq main_v115 main_v116
  let main_v118 : IVec S64 1 := andi main_v113 main_v117
  let main_c_34 : IVec S_ 32 := constantI S_ 32 0#32
  let main_v119 : IVec S64 32 := broadcastInDim S64 ![] bcast_S_S64 main_c_34
  let main_v120 : IVec S64 1 := cmpi .sge main_arg3 main_v119
  let main_v121 : IVec S64 1 := andi main_v118 main_v120
  let main_c_35 : IVec S_ 32 := constantI S_ 32 14208#32
  let main_v122 : IVec S64 32 := broadcastInDim S64 ![] bcast_S_S64 main_c_35
  let main_v123 : IVec S64 1 := cmpi .sle main_arg3 main_v122
  let main_v124 : IVec S64 1 := andi main_v121 main_v123
  let main_c_36 : IVec S_ 1 := constantI S_ 1 1#1
  let main_v125 : IVec S_ 1 := (fun x v => Host.reduce IntOp.andi x v reducesTo_S64_S_d0 h_S_) main_v124 main_c_36
  let main_v126 : IVec S_ 1 := andi main_v108 main_v125
  let main_c_37 : IVec S_ 32 := constantI S_ 32 227328#32
  let main_v127 : IVec S64 32 := broadcastInDim S64 ![] bcast_S_S64 main_c_37
  let main_v128 : IVec S64 1 := cmpi .sle main_v19 main_v127
  fn_part7 (F := F) main_arg0 main_arg1 main_arg2 main_arg4 main_arg7 main_arg9 main_v57 main_v126 main_v128

def fn_part5 {F : FTy → Type} [FloatOps F] (main_arg0 : IVec S64 32) (main_arg1 : IVec S1 32) (main_arg2 : IVec S64 32) (main_arg3 : IVec S64 32) (main_arg4 : IVec S1 32) (main_arg6 : IVec S1x1x128 32) (main_arg7 : IVec S8x16384 32) (main_arg9 : IVec S8x128 32) (main_v11 : IVec S128 1) (main_v19 : IVec S64 32) (main_v57 : IVec S14208 32) (main_v94 : IVec S_ 1) : IVec S_ 1 :=
  let main_v95 : IVec S128 32 := shapeCast S128 main_arg6 shapeCasts_S1x1x128_S128
  let main_c_24 : IVec S_ 32 := constantI S_ 32 0#32
  let main_v96 : IVec S128 32 := broadcastInDim S128 ![] bcast_S_S128 main_c_24
  let main_v97 : IVec S128 1 := cmpi .sge main_v95 main_v96
  let main_c_25 : IVec S_ 32 := constantI S_ 32 227328#32
  let main_v98 : IVec S128 32 := broadcastInDim S128 ![] bcast_S_S128 main_c_25
  let main_v99 : IVec S128 1 := cmpi .slt main_v95 main_v98
  let main_v100 : IVec S128 1 := andi main_v97 main_v99
  let main_c_26 : IVec S_ 32 := constantI S_ 32 16#32
  let main_v101 : IVec S128 32 := broadcastInDim S128 ![] bcast_S_S128 main_c_26
  let main_v102 : IVec S128 32 := Host.remsi main_v95 main_v101
  let main_c_27 : IVec S_ 32 := constantI S_ 32 0#32
  let main_v103 : IVec S128 32 := broadcastInDim S128 ![] bcast_S_S128 main_c_27
  let main_v104 : IVec S128 1 := cmpi .eq main_v102 main_v103
  let main_v105 : IVec S128 1 := andi main_v100 main_v104
  let main_c_28 : IVec S_ 1 := constantI S_ 1 1#1
  let main_v106 : IVec S128 1 := fn_where_2 (F := F) main_v11 main_v105 main_c_28
  let main_c_29 : IVec S_ 1 := constantI S_ 1 1#1
  let main_v107 : IVec S_ 1 := (fun x v => Host.reduce IntOp.andi x v reducesTo_S128_S_d0 h_S_) main_v106 main_c_29
  let main_v108 : IVec S_ 1 := andi main_v94 main_v107
  let main_c_30 : IVec S_ 32 := constantI S_ 32 0#32
  let main_v109 : IVec S64 32 := broadcastInDim S64 ![] bcast_S_S64 main_c_30
  let main_v110 : IVec S64 1 := cmpi .sge main_arg2 main_v109
  let main_c_31 : IVec S_ 32 := constantI S_ 32 227328#32
  fn_part6 (F := F) main_arg0 main_arg1 main_arg2 main_arg3 main_arg4 main_arg7 main_arg9 main_v19 main_v57 main_v108 main_v110 main_c_31

def fn_part4 {F : FTy → Type} [FloatOps F] (main_arg0 : IVec S64 32) (main_arg1 : IVec S1 32) (main_arg2 : IVec S64 32) (main_arg3 : IVec S64 32) (main_arg4 : IVec S1 32) (main_arg5 : IVec S64x1x256 32) (main_arg6 : IVec S1x1x128 32) (main_arg7 : IVec S8x16384 32) (main_arg9 : IVec S8x128 32) (main_v7 : IVec S64x256 1) (main_v11 : IVec S128 1) (main_v19 : IVec S64 32) (main_v57 : IVec S14208 32) (main_v68 : IVec S_ 1) (main_v73 : IVec S1 1) (main_v77 : IVec S1 1) : IVec S_ 1 :=
  let main_v78 : IVec S1 1 := andi main_v73 main_v77
  let main_c_17 : IVec S_ 1 := constantI S_ 1 1#1
  let main_v79 : IVec S_ 1 := (fun x v => Host.reduce IntOp.andi x v reducesTo_S1_S_d0 h_S_) main_v78 main_c_17
  let main_v80 : IVec S_ 1 := andi main_v68 main_v79
  let main_v81 : IVec S64x256 32 := shapeCast S64x256 main_arg5 shapeCasts_S64x1x256_S64x256
  let main_c_18 : IVec S_ 32 := constantI S_ 32 0#32
  let main_v82 : IVec S64x256 32 := broadcastInDim S64x256 ![] bcast_S_S64x256 main_c_18
  let main_v83 : IVec S64x256 1 := cmpi .sge main_v81 main_v82
  let main_c_19 : IVec S_ 32 := constantI S_ 32 227328#32
  let main_v84 : IVec S64x256 32 := broadcastInDim S64x256 ![] bcast_S_S64x256 main_c_19
  let main_v85 : IVec S64x256 1 := cmpi .slt main_v81 main_v84
  let main_v86 : IVec S64x256 1 := andi main_v83 main_v85
  let main_c_20 : IVec S_ 32 := constantI S_ 32 16#32
  let main_v87 : IVec S64x256 32 := broadcastInDim S64x256 ![] bcast_S_S64x256 main_c_20
  let main_v88 : IVec S64x256 32 := Host.remsi main_v81 main_v87
  let main_c_21 : IVec S_ 32 := constantI S_ 32 0#32
  let main_v89 : IVec S64x256 32 := broadcastInDim S64x256 ![] bcast_S_S64x256 main_c_21
  let main_v90 : IVec S64x256 1 := cmpi .eq main_v88 main_v89
  let main_v91 : IVec S64x256 1 := andi main_v86 main_v90
  let main_c_22 : IVec S_ 1 := constantI S_ 1 1#1
  let main_v92 : IVec S64x256 1 := fn_where_1 (F := F) main_v7 main_v91 main_c_22
  let main_c_23 : IVec S_ 1 := constantI S_ 1 1#1
  let main_v93 : IVec S_ 1 := (fun x v => Host.reduce IntOp.andi x v reducesTo_S64x256_S_d0_1 h_S_) main_v92 main_c_23
  let main_v94 : IVec S_ 1 := andi main_v80 main_v93
  fn_part5 (F := F) main_arg0 main_arg1 main_arg2 main_arg3 main_arg4 main_arg6 main_arg7 main_arg9 main_v11 main_v19 main_v57 main_v94

def fn_part3 {F : FTy → Type} [FloatOps F] (main_arg0 : IVec S64 32) (main_arg1 : IVec S1 32) (main_arg2 : IVec S64 32) (main_arg3 : IVec S64 32) (main_arg4 : IVec S1 32) (main_arg5 : IVec S64x1x256 32) (main_arg6 : IVec S1x1x128 32) (main_arg7 : IVec S8x16384 32) (main_arg9 : IVec S8x128 32) (main_v7 : IVec S64x256 1) (main_v11 : IVec S128 1) (main_v19 : IVec S64 32) (main_v57 : IVec S14208 32) (main_v59 : IVec S64 1) (main_v60 : IVec S64 32) : IVec S_ 1 :=
  let main_v61 : IVec S64 1 := cmpi .sle main_arg0 main_v60
  let main_v62 : IVec S64 1 := andi main_v59 main_v61
  let main_c_10 : IVec S_ 32 := constantI S_ 32 16#32
  let main_v63 : IVec S64 32 := broadcastInDim S64 ![] bcast_S_S64 main_c_10
  let main_v64 : IVec S64 32 := Host.remsi main_arg0 main_v63
  let main_c_11 : IVec S_ 32 := constantI S_ 32 0#32
  let main_v65 : IVec S64 32 := broadcastInDim S64 ![] bcast_S_S64 main_c_11
  let main_v66 : IVec S64 1 := cmpi .eq main_v64 main_v65
  let main_v67 : IVec S64 1 := andi main_v62 main_v66
  let main_c_12 : IVec S_ 1 := constantI S_ 1 1#1
  let main_v68 : IVec S_ 1 := (fun x v => Host.reduce IntOp.andi x v reducesTo_S64_S_d0 h_S_) main_v67 main_c_12
  let main_c_13 : IVec S_ 32 := constantI S_ 32 0#32
  let main_v69 : IVec S1 32 := broadcastInDim S1 ![] bcast_S_S1 main_c_13
  let main_v70 : IVec S1 1 := cmpi .sge main_arg1 main_v69
  let main_c_14 : IVec S_ 32 := constantI S_ 32 2048#32
  let main_v71 : IVec S1 32 := broadcastInDim S1 ![] bcast_S_S1 main_c_14
  let main_v72 : IVec S1 1 := cmpi .sle main_arg1 main_v71
  let main_v73 : IVec S1 1 := andi main_v70 main_v72
  let main_c_15 : IVec S_ 32 := constantI S_ 32 16#32
  let main_v74 : IVec S1 32 := broadcastInDim S1 ![] bcast_S_S1 main_c_15
  let main_v75 : IVec S1 32 := Host.remsi main_arg1 main_v74
  let main_c_16 : IVec S_ 32 := constantI S_ 32 0#32
  let main_v76 : IVec S1 32 := broadcastInDim S1 ![] bcast_S_S1 main_c_16
  let main_v77 : IVec S1 1 := cmpi .eq main_v75 main_v76
  fn_part4 (F := F) main_arg0 main_arg1 main_arg2 main_arg3 main_arg4 main_arg5 main_arg6 main_arg7 main_arg9 main_v7 main_v11 main_v19 main_v57 main_v68 main_v73 main_v77

def fn_part2 {F : FTy → Type} [FloatOps F] (main_arg0 : IVec S64 32) (main_arg1 : IVec S1 32) (main_arg2 : IVec S64 32) (main_arg3 : IVec S64 32) (main_arg4 : IVec S1 32) (main_arg5 : IVec S64x1x256 32) (main_arg6 : IVec S1x1x128 32) (main_arg7 : IVec S8x16384 32) (main_arg9 : IVec S8x128 32) (main_v7 : IVec S64x256 1) (main_v11 : IVec S128 1) (main_v19 : IVec S64 32) (main_v22 : IVec S14208 32) (main_v37 : IVec S14208 32) (main_v39 : IVec S14208x1 32) (main_v40 : IVec S14208x64 32) : IVec S_ 1 :=
  let main_v41 : IVec S14208x64 32 := broadcastInDim S14208x64 ![0, 1] bcast_S14208x1_S14208x64_0_1 main_v39
  let main_v42 : IVec S14208x64 1 := cmpi .sle main_v40 main_v41
  let main_v43 : IVec S14208x1 32 := broadcastInDim S14208x1 ![0] bcast_S14208_S14208x1_0 main_v22
  let main_v44 : IVec S1x64 32 := broadcastInDim S1x64 ![1] bcast_S64_S1x64_1 main_v19
  let main_v45 : IVec S14208x64 32 := broadcastInDim S14208x64 ![0, 1] bcast_S14208x1_S14208x64_0_1 main_v43
  let main_v46 : IVec S14208x64 32 := broadcastInDim S14208x64 ![0, 1] bcast_S1x64_S14208x64_0_1 main_v44
  let main_v47 : IVec S14208x64 1 := cmpi .slt main_v45 main_v46
  let main_v48 : IVec S14208x64 1 := andi main_v42 main_v47
  let main_v49 : IVec S14208x64 32 := (extui 32 · natLt_1_32) main_v48
  let main_c_6 : IVec S_ 32 := constantI S_ 32 0#32
  let main_v50 : IVec S14208 32 := (fun x v => Host.reduce IntOp.addi x v reducesTo_S14208x64_S14208_d1 h_S_) main_v49 main_c_6
  let main_v51 : IVec S14208 32 := addi main_v37 main_v50
  let main_c_7 : IVec S_ 32 := constantI S_ 32 512#32
  let main_v52 : IVec S1 32 := broadcastInDim S1 ![] bcast_S_S1 main_c_7
  let main_v53 : IVec S1 32 := muli main_v52 main_arg4
  let main_v54 : IVec S14208 32 := broadcastInDim S14208 ![0] bcast_S1_S14208_0 main_v53
  let main_v55 : IVec S14208 1 := cmpi .sle main_v54 main_v22
  let main_v56 : IVec S14208 32 := (extui 32 · natLt_1_32) main_v55
  let main_v57 : IVec S14208 32 := addi main_v51 main_v56
  let main_c_8 : IVec S_ 32 := constantI S_ 32 0#32
  let main_v58 : IVec S64 32 := broadcastInDim S64 ![] bcast_S_S64 main_c_8
  let main_v59 : IVec S64 1 := cmpi .sge main_arg0 main_v58
  let main_c_9 : IVec S_ 32 := constantI S_ 32 3072#32
  let main_v60 : IVec S64 32 := broadcastInDim S64 ![] bcast_S_S64 main_c_9
  fn_part3 (F := F) main_arg0 main_arg1 main_arg2 main_arg3 main_arg4 main_arg5 main_arg6 main_arg7 main_arg9 main_v7 main_v11 main_v19 main_v57 main_v59 main_v60

def fn_part1 {F : FTy → Type} [FloatOps F] (main_arg0 : IVec S64 32) (main_arg1 : IVec S1 32) (main_arg2 : IVec S64 32) (main_arg3 : IVec S64 32) (main_arg4 : IVec S1 32) (main_arg5 : IVec S64x1x256 32) (main_arg6 : IVec S1x1x128 32) (main_arg7 : IVec S8x16384 32) (main_arg9 : IVec S8x128 32) (main_v7 : IVec S64x256 1) (main_v11 : IVec S128 1) (main_v14 : IVec S16384 32) (main_v16 : IVec S128 32) (main_v19 : IVec S64 32) : IVec S_ 1 :=
  let main_v20 : IVec S14208 32 := iotaInDim S14208 32 0
  let main_c_3 : IVec S_ 32 := constantI S_ 32 16#32
  let main_v21 : IVec S14208 32 := broadcastInDim S14208 ![] bcast_S_S14208 main_c_3
  let main_v22 : IVec S14208 32 := muli main_v21 main_v20
  let main_v23 : IVec S14208x1 32 := broadcastInDim S14208x1 ![0] bcast_S14208_S14208x1_0 main_v22
  let main_v24 : IVec S1x16384 32 := broadcastInDim S1x16384 ![1] bcast_S16384_S1x16384_1 main_v14
  let main_v25 : IVec S14208x16384 32 := broadcastInDim S14208x16384 ![0, 1] bcast_S14208x1_S14208x16384_0_1 main_v23
  let main_v26 : IVec S14208x16384 32 := broadcastInDim S14208x16384 ![0, 1] bcast_S1x16384_S14208x16384_0_1 main_v24
  let main_v27 : IVec S14208x16384 1 := cmpi .eq main_v25 main_v26
  let main_v28 : IVec S14208x16384 32 := (extui 32 · natLt_1_32) main_v27
  let main_c_4 : IVec S_ 32 := constantI S_ 32 0#32
  let main_v29 : IVec S14208 32 := (fun x v => Host.reduce IntOp.addi x v reducesTo_S14208x16384_S14208_d1 h_S_) main_v28 main_c_4
  let main_v30 : IVec S14208x1 32 := broadcastInDim S14208x1 ![0] bcast_S14208_S14208x1_0 main_v22
  let main_v31 : IVec S1x128 32 := broadcastInDim S1x128 ![1] bcast_S128_S1x128_1 main_v16
  let main_v32 : IVec S14208x128 32 := broadcastInDim S14208x128 ![0, 1] bcast_S14208x1_S14208x128_0_1 main_v30
  let main_v33 : IVec S14208x128 32 := broadcastInDim S14208x128 ![0, 1] bcast_S1x128_S14208x128_0_1 main_v31
  let main_v34 : IVec S14208x128 1 := cmpi .eq main_v32 main_v33
  let main_v35 : IVec S14208x128 32 := (extui 32 · natLt_1_32) main_v34
  let main_c_5 : IVec S_ 32 := constantI S_ 32 0#32
  let main_v36 : IVec S14208 32 := (fun x v => Host.reduce IntOp.addi x v reducesTo_S14208x128_S14208_d1 h_S_) main_v35 main_c_5
  let main_v37 : IVec S14208 32 := addi main_v29 main_v36
  let main_v38 : IVec S1x64 32 := broadcastInDim S1x64 ![1] bcast_S64_S1x64_1 main_arg2
  let main_v39 : IVec S14208x1 32 := broadcastInDim S14208x1 ![0] bcast_S14208_S14208x1_0 main_v22
  let main_v40 : IVec S14208x64 32 := broadcastInDim S14208x64 ![0, 1] bcast_S1x64_S14208x64_0_1 main_v38
  fn_part2 (F := F) main_arg0 main_arg1 main_arg2 main_arg3 main_arg4 main_arg5 main_arg6 main_arg7 main_arg9 main_v7 main_v11 main_v19 main_v22 main_v37 main_v39 main_v40

def fn {F : FTy → Type} [FloatOps F] (main_arg0 : IVec S64 32) (main_arg1 : IVec S1 32) (main_arg2 : IVec S64 32) (main_arg3 : IVec S64 32) (main_arg4 : IVec S1 32) (main_arg5 : IVec S64x1x256 32) (main_arg6 : IVec S1x1x128 32) (main_arg7 : IVec S8x16384 32) (main_arg8 : FVec F S16384x1024 .bf16) (main_arg9 : IVec S8x128 32) (main_arg10 : FVec F S128x1024 .bf16) : IVec S_ 1 :=
  let main_v0 : IVec S256 32 := iotaInDim S256 32 0
  let main_c : IVec S_ 32 := constantI S_ 32 16#32
  let main_v1 : IVec S256 32 := broadcastInDim S256 ![] bcast_S_S256 main_c
  let main_v2 : IVec S256 32 := muli main_v1 main_v0
  let main_v3 : IVec S1x256 32 := broadcastInDim S1x256 ![1] bcast_S256_S1x256_1 main_v2
  let main_v4 : IVec S64x1 32 := broadcastInDim S64x1 ![0] bcast_S64_S64x1_0 main_arg0
  let main_v5 : IVec S64x256 32 := broadcastInDim S64x256 ![0, 1] bcast_S1x256_S64x256_0_1 main_v3
  let main_v6 : IVec S64x256 32 := broadcastInDim S64x256 ![0, 1] bcast_S64x1_S64x256_0_1 main_v4
  let main_v7 : IVec S64x256 1 := cmpi .slt main_v5 main_v6
  let main_v8 : IVec S128 32 := (extractStridedSlice S128 ![0] · slices_S256_S128_0) main_v2
  let main_v9 : IVec S_ 32 := shapeCast S_ main_arg1 shapeCasts_S1_S_
  let main_v10 : IVec S128 32 := broadcastInDim S128 ![] bcast_S_S128 main_v9
  let main_v11 : IVec S128 1 := cmpi .slt main_v8 main_v10
  let main_v12 : IVec S64x256 32 := shapeCast S64x256 main_arg5 shapeCasts_S64x1x256_S64x256
  let main_c_0 : IVec S_ 32 := constantI S_ 32 4294967295#32
  let main_v13 : IVec S64x256 32 := fn_where (F := F) main_v7 main_v12 main_c_0
  let main_v14 : IVec S16384 32 := shapeCast S16384 main_v13 shapeCasts_S64x256_S16384
  let main_v15 : IVec S128 32 := shapeCast S128 main_arg6 shapeCasts_S1x1x128_S128
  let main_c_1 : IVec S_ 32 := constantI S_ 32 4294967295#32
  let main_v16 : IVec S128 32 := fn_where_0 (F := F) main_v11 main_v15 main_c_1
  let main_c_2 : IVec S_ 32 := constantI S_ 32 16#32
  let main_v17 : IVec S64 32 := broadcastInDim S64 ![] bcast_S_S64 main_c_2
  let main_v18 : IVec S64 32 := muli main_v17 main_arg3
  let main_v19 : IVec S64 32 := addi main_arg2 main_v18
  fn_part1 (F := F) main_arg0 main_arg1 main_arg2 main_arg3 main_arg4 main_arg5 main_arg6 main_arg7 main_arg9 main_v7 main_v11 main_v14 main_v16 main_v19
-- ==== Kernel.lean ====
abbrev S64 : Shape := ⟨1, ![64]⟩
abbrev S1 : Shape := ⟨1, ![1]⟩
abbrev S64x1x256 : Shape := ⟨3, ![64, 1, 256]⟩
abbrev S1x1x128 : Shape := ⟨3, ![1, 1, 128]⟩
abbrev S8x16384 : Shape := ⟨2, ![8, 16384]⟩
abbrev S16384x1024 : Shape := ⟨2, ![16384, 1024]⟩
abbrev S8x128 : Shape := ⟨2, ![8, 128]⟩
abbrev S128x1024 : Shape := ⟨2, ![128, 1024]⟩
abbrev S227328x1024 : Shape := ⟨2, ![227328, 1024]⟩
abbrev S1x1x256 : Shape := ⟨3, ![1, 1, 256]⟩
abbrev S8x256 : Shape := ⟨2, ![8, 256]⟩
abbrev S256x1024 : Shape := ⟨2, ![256, 1024]⟩
abbrev S2x3072x1024 : Shape := ⟨3, ![2, 3072, 1024]⟩
abbrev S512x1024 : Shape := ⟨2, ![512, 1024]⟩
abbrev S3 : Shape := ⟨1, ![3]⟩
abbrev S_ : Shape := ⟨0, ![]⟩
abbrev S1x128x1024 : Shape := ⟨3, ![1, 128, 1024]⟩
abbrev S16x1024 : Shape := ⟨2, ![16, 1024]⟩
abbrev S1x16x1024 : Shape := ⟨3, ![1, 16, 1024]⟩
abbrev S512x1 : Shape := ⟨2, ![512, 1]⟩
abbrev S1x256 : Shape := ⟨2, ![1, 256]⟩
abbrev S512x256 : Shape := ⟨2, ![512, 256]⟩
abbrev S1x512x1024 : Shape := ⟨3, ![1, 512, 1024]⟩
abbrev S1x1x1 : Shape := ⟨3, ![1, 1, 1]⟩
abbrev S1x128 : Shape := ⟨2, ![1, 128]⟩
abbrev S512x128 : Shape := ⟨2, ![512, 128]⟩

abbrev nBuf : Space → Nat
  | .hbm => 12
  | .vmem => 8
  | .smem => 8
  | _ => 0

abbrev bufTy : (tb : Table) → Fin (tcTables nBuf tb) → BufTy
  | .hbm, ⟨0, _⟩ => ⟨S64, .i32⟩
  | .hbm, ⟨1, _⟩ => ⟨S1, .i32⟩
  | .hbm, ⟨2, _⟩ => ⟨S64, .i32⟩
  | .hbm, ⟨3, _⟩ => ⟨S64, .i32⟩
  | .hbm, ⟨4, _⟩ => ⟨S1, .i32⟩
  | .hbm, ⟨5, _⟩ => ⟨S64x1x256, .i32⟩
  | .hbm, ⟨6, _⟩ => ⟨S1x1x128, .i32⟩
  | .hbm, ⟨7, _⟩ => ⟨S8x16384, .i32⟩
  | .hbm, ⟨8, _⟩ => ⟨S16384x1024, .bf16⟩
  | .hbm, ⟨9, _⟩ => ⟨S8x128, .i32⟩
  | .hbm, ⟨10, _⟩ => ⟨S128x1024, .bf16⟩
  | .hbm, ⟨11, _⟩ => ⟨S227328x1024, .bf16⟩
  | .local _ .vmem, ⟨0, _⟩ => ⟨S8x256, .i32⟩
  | .local _ .vmem, ⟨1, _⟩ => ⟨S8x256, .i32⟩
  | .local _ .vmem, ⟨2, _⟩ => ⟨S256x1024, .bf16⟩
  | .local _ .vmem, ⟨3, _⟩ => ⟨S256x1024, .bf16⟩
  | .local _ .vmem, ⟨4, _⟩ => ⟨S8x128, .i32⟩
  | .local _ .vmem, ⟨5, _⟩ => ⟨S128x1024, .bf16⟩
  | .local _ .vmem, ⟨6, _⟩ => ⟨S2x3072x1024, .bf16⟩
  | .local _ .vmem, ⟨7, _⟩ => ⟨S512x1024, .bf16⟩
  | .local _ .smem, ⟨0, _⟩ => ⟨S64, .i32⟩
  | .local _ .smem, ⟨1, _⟩ => ⟨S1, .i32⟩
  | .local _ .smem, ⟨2, _⟩ => ⟨S64, .i32⟩
  | .local _ .smem, ⟨3, _⟩ => ⟨S64, .i32⟩
  | .local _ .smem, ⟨4, _⟩ => ⟨S1, .i32⟩
  | .local _ .smem, ⟨5, _⟩ => ⟨S1x1x256, .i32⟩
  | .local _ .smem, ⟨6, _⟩ => ⟨S1x1x256, .i32⟩
  | .local _ .smem, ⟨7, _⟩ => ⟨S1x1x128, .i32⟩
  | _, _ => ⟨S64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | .smem, ⟨7, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg7_0 : Ref sig .tc := ⟨.vmem, 0, rfl⟩
abbrev cc0_stg7_1 : Ref sig .tc := ⟨.vmem, 1, rfl⟩
abbrev cc0_stg8_0 : Ref sig .tc := ⟨.vmem, 2, rfl⟩
abbrev cc0_stg8_1 : Ref sig .tc := ⟨.vmem, 3, rfl⟩
abbrev cc0_stg9_0 : Ref sig .tc := ⟨.vmem, 4, rfl⟩
abbrev cc0_stg10_0 : Ref sig .tc := ⟨.vmem, 5, rfl⟩
abbrev cc0_scratch0 : Ref sig .tc := ⟨.vmem, 6, rfl⟩
abbrev cc0_scratch1 : Ref sig .tc := ⟨.vmem, 7, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg4_0 : Ref sig .tc := ⟨.smem, 4, rfl⟩
abbrev cc0_stg5_0 : Ref sig .tc := ⟨.smem, 5, rfl⟩
abbrev cc0_stg5_1 : Ref sig .tc := ⟨.smem, 6, rfl⟩
abbrev cc0_stg6_0 : Ref sig .tc := ⟨.smem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![65], ![false]⟩

def k0_cond1 (i : grid0.Coords) : BitVec 1 :=
  let arg0 : BitVec 32 := BitVec.ofNat 32 (i 0).val
  let c2_i32_0 : BitVec 32 := 2#32
  let v1 : BitVec 1 := Scalar.cmpi .sge arg0 c2_i32_0
  let v2 : BitVec 32 := Scalar.extui v1
  let c0_i32 : BitVec 32 := 0#32
  let v3 : BitVec 1 := Scalar.cmpi .ne v2 c0_i32
  v3

def k0_off1 (i : grid0.Coords) : Fin 1 → Nat :=
  let arg0 : BitVec 32 := BitVec.ofNat 32 (i 0).val
  let c2_i32_4 : BitVec 32 := 2#32
  let v10 : BitVec 32 := Scalar.subi arg0 c2_i32_4
  let v11 : Index := Scalar.indexCast v10
  ![v11.toNat]
@[reducible] def k0_t1_loop (v12 : BitVec 32) : Scf.Loop 32 :=
  let c0_i32_6 : BitVec 32 := 0#32
  let c4_i32 : BitVec 32 := 4#32
  let v13 : BitVec 32 := Scalar.shrui v12 c4_i32
  let c3_i32 : BitVec 32 := 3#32
  let v14 : BitVec 32 := Scalar.shrui v13 c3_i32
  let v15 : BitVec 32 := Scalar.subi v14 c0_i32_6
  let c1_i32 : BitVec 32 := 1#32
  let v17 : BitVec 32 := Scalar.divsi v15 c1_i32
  let v18 : BitVec 32 := Scalar.muli v17 c1_i32
  let v19 : BitVec 32 := Scalar.addi c0_i32_6 v18
  let c1_i32_7 : BitVec 32 := 1#32
  ⟨c0_i32_6, v19, c1_i32_7⟩

def k0_off2 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off3 (i : grid0.Coords) : Fin 3 → Nat :=
  let arg0 : BitVec 32 := BitVec.ofNat 32 (i 0).val
  let c2_i32 : BitVec 32 := 2#32
  let v0 : BitVec 32 := Scalar.remsi arg0 c2_i32
  let c0_i32_15 : BitVec 32 := 0#32
  let c0_i32_16 : BitVec 32 := 0#32
  ![v0.toNat, 0, 0]
@[reducible] def k0_t2_loop (v12 : BitVec 32) : Scf.Loop 32 :=
  let c0_i32_6 : BitVec 32 := 0#32
  let c4_i32 : BitVec 32 := 4#32
  let v13 : BitVec 32 := Scalar.shrui v12 c4_i32
  let c3_i32 : BitVec 32 := 3#32
  let v14 : BitVec 32 := Scalar.shrui v13 c3_i32
  let v15 : BitVec 32 := Scalar.subi v14 c0_i32_6
  let c1_i32 : BitVec 32 := 1#32
  let v17 : BitVec 32 := Scalar.divsi v15 c1_i32
  let v18 : BitVec 32 := Scalar.muli v17 c1_i32
  let v19 : BitVec 32 := Scalar.addi c0_i32_6 v18
  let v16 : BitVec 32 := Scalar.addi c0_i32_6 v15
  let c1_i32_8 : BitVec 32 := 1#32
  ⟨v19, v16, c1_i32_8⟩
def k0_off4 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off5 (i : grid0.Coords) : Fin 3 → Nat :=
  let arg0 : BitVec 32 := BitVec.ofNat 32 (i 0).val
  let c2_i32 : BitVec 32 := 2#32
  let v0 : BitVec 32 := Scalar.remsi arg0 c2_i32
  let c0_i32_15 : BitVec 32 := 0#32
  let c0_i32_16 : BitVec 32 := 0#32
  ![v0.toNat, 0, 0]
@[reducible] def k0_t3_loop (v12 : BitVec 32) : Scf.Loop 32 :=
  let c4_i32 : BitVec 32 := 4#32
  let v13 : BitVec 32 := Scalar.shrui v12 c4_i32
  let c3_i32 : BitVec 32 := 3#32
  let v14 : BitVec 32 := Scalar.shrui v13 c3_i32
  let c8_i32 : BitVec 32 := 8#32
  let v20 : BitVec 32 := Scalar.muli v14 c8_i32
  let v21 : BitVec 32 := Scalar.subi v13 v20
  let c1_i32_10 : BitVec 32 := 1#32
  let v23 : BitVec 32 := Scalar.divsi v21 c1_i32_10
  let v24 : BitVec 32 := Scalar.muli v23 c1_i32_10
  let v25 : BitVec 32 := Scalar.addi v20 v24
  let c1_i32_11 : BitVec 32 := 1#32
  ⟨v20, v25, c1_i32_11⟩
def k0_off6 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off7 (i : grid0.Coords) : Fin 3 → Nat :=
  let arg0 : BitVec 32 := BitVec.ofNat 32 (i 0).val
  let c2_i32 : BitVec 32 := 2#32
  let v0 : BitVec 32 := Scalar.remsi arg0 c2_i32
  let c0_i32_15 : BitVec 32 := 0#32
  let c0_i32_16 : BitVec 32 := 0#32
  ![v0.toNat, 0, 0]
@[reducible] def k0_t4_loop (v12 : BitVec 32) : Scf.Loop 32 :=
  let c4_i32 : BitVec 32 := 4#32
  let v13 : BitVec 32 := Scalar.shrui v12 c4_i32
  let c3_i32 : BitVec 32 := 3#32
  let v14 : BitVec 32 := Scalar.shrui v13 c3_i32
  let c8_i32 : BitVec 32 := 8#32
  let v20 : BitVec 32 := Scalar.muli v14 c8_i32
  let v21 : BitVec 32 := Scalar.subi v13 v20
  let c1_i32_10 : BitVec 32 := 1#32
  let v23 : BitVec 32 := Scalar.divsi v21 c1_i32_10
  let v24 : BitVec 32 := Scalar.muli v23 c1_i32_10
  let v25 : BitVec 32 := Scalar.addi v20 v24
  let v22 : BitVec 32 := Scalar.addi v20 v21
  let c1_i32_12 : BitVec 32 := 1#32
  ⟨v25, v22, c1_i32_12⟩

def k0_chk1 (i : grid0.Coords) (v12 : BitVec 32) : Prop :=
  (∀ (k0_h1 : k0_cond1 i = 1#1), (k0_t1_loop v12).OK) ∧
  (∀ (k0_h1 : k0_cond1 i = 1#1), (k0_t2_loop v12).OK) ∧
  (∀ (k0_h1 : k0_cond1 i = 1#1), (k0_t3_loop v12).OK) ∧
  (∀ (k0_h1 : k0_cond1 i = 1#1), (k0_t4_loop v12).OK)
theorem k0_t1_ok : ∀ (i : grid0.Coords) (v12 : BitVec 32) (k0_hw1 : k0_chk1 i v12), ∀ (k0_h1 : k0_cond1 i = 1#1), (k0_t1_loop v12).OK := fun i v12 k0_hw1 k0_h1 => k0_hw1.1 k0_h1
theorem k0_t2_ok : ∀ (i : grid0.Coords) (v12 : BitVec 32) (k0_hw1 : k0_chk1 i v12), ∀ (k0_h1 : k0_cond1 i = 1#1), (k0_t2_loop v12).OK := fun i v12 k0_hw1 k0_h1 => k0_hw1.2.1 k0_h1
theorem k0_t3_ok : ∀ (i : grid0.Coords) (v12 : BitVec 32) (k0_hw1 : k0_chk1 i v12), ∀ (k0_h1 : k0_cond1 i = 1#1), (k0_t3_loop v12).OK := fun i v12 k0_hw1 k0_h1 => k0_hw1.2.2.1 k0_h1
theorem k0_t4_ok : ∀ (i : grid0.Coords) (v12 : BitVec 32) (k0_hw1 : k0_chk1 i v12), ∀ (k0_h1 : k0_cond1 i = 1#1), (k0_t4_loop v12).OK := fun i v12 k0_hw1 k0_h1 => k0_hw1.2.2.2 k0_h1

def k0_off8 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off9 (i : grid0.Coords) : Fin 3 → Nat :=
  let arg0 : BitVec 32 := BitVec.ofNat 32 (i 0).val
  let c2_i32 : BitVec 32 := 2#32
  let v0 : BitVec 32 := Scalar.remsi arg0 c2_i32
  let c0_i32_15 : BitVec 32 := 0#32
  let c0_i32_16 : BitVec 32 := 0#32
  ![v0.toNat, 0, 0]
def k0_cond2 (i : grid0.Coords) : BitVec 1 :=
  let arg0 : BitVec 32 := BitVec.ofNat 32 (i 0).val
  let c64_i32 : BitVec 32 := 64#32
  let v4 : BitVec 1 := Scalar.cmpi .slt arg0 c64_i32
  let v5 : BitVec 32 := Scalar.extui v4
  let c0_i32_1 : BitVec 32 := 0#32
  let v6 : BitVec 1 := Scalar.cmpi .ne v5 c0_i32_1
  v6

def k0_off10 (i : grid0.Coords) : Fin 1 → Nat :=
  let arg0 : BitVec 32 := BitVec.ofNat 32 (i 0).val
  let v10 : Index := Scalar.indexCast arg0
  ![v10.toNat]
def k0_off11 (i : grid0.Coords) : Fin 3 → Nat :=
  let arg0 : BitVec 32 := BitVec.ofNat 32 (i 0).val
  let c2_i32 : BitVec 32 := 2#32
  let v0 : BitVec 32 := Scalar.remsi arg0 c2_i32
  let v63 : Index := Scalar.indexCast v0
  let c0_8 : Index := 0#32
  let c0_9 : Index := 0#32
  ![v63.toNat, 0, 0]
def k0_off12 (i : grid0.Coords) : Fin 3 → Nat :=
  let arg0 : BitVec 32 := BitVec.ofNat 32 (i 0).val
  let c2_i32 : BitVec 32 := 2#32
  let v0 : BitVec 32 := Scalar.remsi arg0 c2_i32
  let v118 : Index := Scalar.indexCast v0
  let c512 : Index := 512#32
  let c0_15 : Index := 0#32
  ![v118.toNat, 512, 0]
def k0_off13 (i : grid0.Coords) : Fin 3 → Nat :=
  let arg0 : BitVec 32 := BitVec.ofNat 32 (i 0).val
  let c2_i32 : BitVec 32 := 2#32
  let v0 : BitVec 32 := Scalar.remsi arg0 c2_i32
  let v173 : Index := Scalar.indexCast v0
  let c1024 : Index := 1024#32
  let c0_21 : Index := 0#32
  ![v173.toNat, 1024, 0]
def k0_off14 (i : grid0.Coords) : Fin 3 → Nat :=
  let arg0 : BitVec 32 := BitVec.ofNat 32 (i 0).val
  let c2_i32 : BitVec 32 := 2#32
  let v0 : BitVec 32 := Scalar.remsi arg0 c2_i32
  let v228 : Index := Scalar.indexCast v0
  let c1536 : Index := 1536#32
  let c0_27 : Index := 0#32
  ![v228.toNat, 1536, 0]
def k0_off15 (i : grid0.Coords) : Fin 3 → Nat :=
  let arg0 : BitVec 32 := BitVec.ofNat 32 (i 0).val
  let c2_i32 : BitVec 32 := 2#32
  let v0 : BitVec 32 := Scalar.remsi arg0 c2_i32
  let v302 : Index := Scalar.indexCast v0
  let c2048 : Index := 2048#32
  let c0_44 : Index := 0#32
  ![v302.toNat, 2048, 0]
def k0_off16 (i : grid0.Coords) : Fin 3 → Nat :=
  let arg0 : BitVec 32 := BitVec.ofNat 32 (i 0).val
  let c2_i32 : BitVec 32 := 2#32
  let v0 : BitVec 32 := Scalar.remsi arg0 c2_i32
  let v302 : Index := Scalar.indexCast v0
  let c2560 : Index := 2560#32
  let c0_44 : Index := 0#32
  ![v302.toNat, 2560, 0]
@[reducible] def k0_t5_loop (v11 : BitVec 32) : Scf.Loop 32 :=
  let c0_i32_31 : BitVec 32 := 0#32
  let c4_i32 : BitVec 32 := 4#32
  let v238 : BitVec 32 := Scalar.shrui v11 c4_i32
  let c3_i32 : BitVec 32 := 3#32
  let v239 : BitVec 32 := Scalar.shrui v238 c3_i32
  let v240 : BitVec 32 := Scalar.subi v239 c0_i32_31
  let c1_i32 : BitVec 32 := 1#32
  let v242 : BitVec 32 := Scalar.divsi v240 c1_i32
  let v243 : BitVec 32 := Scalar.muli v242 c1_i32
  let v244 : BitVec 32 := Scalar.addi c0_i32_31 v243
  let c1_i32_32 : BitVec 32 := 1#32
  ⟨c0_i32_31, v244, c1_i32_32⟩

def k0_mult1 (v11 : BitVec 32) (k0_t5 : Fin (k0_t5_loop v11).trips) : BitVec 32 :=
  let c0_i32_31 : BitVec 32 := 0#32
  let c1_i32_32 : BitVec 32 := 1#32
  let arg16 : BitVec 32 := Scf.iv c0_i32_31 c1_i32_32 k0_t5
  let c8_i32_38 : BitVec 32 := 8#32
  let v251 : BitVec 32 := Scalar.muli arg16 c8_i32_38
  let c0_i32_39 : BitVec 32 := 0#32
  let v252 : BitVec 32 := Scalar.addi v251 c0_i32_39
  let c16_i32 : BitVec 32 := 16#32
  let v253 : BitVec 32 := Scalar.muli v252 c16_i32
  v253
def k0_off17 (v11 : BitVec 32) (k0_t5 : Fin (k0_t5_loop v11).trips) : Fin 3 → Nat :=
  let c0_40 : Index := 0#32
  let c0_41 : Index := 0#32
  let c0_i32_31 : BitVec 32 := 0#32
  let c1_i32_32 : BitVec 32 := 1#32
  let arg16 : BitVec 32 := Scf.iv c0_i32_31 c1_i32_32 k0_t5
  let c8_i32_38 : BitVec 32 := 8#32
  let v251 : BitVec 32 := Scalar.muli arg16 c8_i32_38
  let c0_i32_39 : BitVec 32 := 0#32
  let v252 : BitVec 32 := Scalar.addi v251 c0_i32_39
  let v255 : Index := Scalar.indexCast v252
  ![0, 0, v255.toNat]
def k0_mult2 (v256 : BitVec 32) : BitVec 32 :=
  v256

def k0_off18 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off19 (v256 : BitVec 32) : Fin 2 → Nat :=
  let v257 : BitVec 32 := v256
  let c0_i32_42 : BitVec 32 := 0#32
  ![v257.toNat, 0]
def k0_off20 (i : grid0.Coords) (v11 : BitVec 32) (k0_t5 : Fin (k0_t5_loop v11).trips) : Fin 3 → Nat :=
  let arg0 : BitVec 32 := BitVec.ofNat 32 (i 0).val
  let c2_i32 : BitVec 32 := 2#32
  let v0 : BitVec 32 := Scalar.remsi arg0 c2_i32
  let c0_i32_31 : BitVec 32 := 0#32
  let c1_i32_32 : BitVec 32 := 1#32
  let arg16 : BitVec 32 := Scf.iv c0_i32_31 c1_i32_32 k0_t5
  let c8_i32_38 : BitVec 32 := 8#32
  let v251 : BitVec 32 := Scalar.muli arg16 c8_i32_38
  let c0_i32_39 : BitVec 32 := 0#32
  let v252 : BitVec 32 := Scalar.addi v251 c0_i32_39
  let c16_i32 : BitVec 32 := 16#32
  let v253 : BitVec 32 := Scalar.muli v252 c16_i32
  let v254 : BitVec 32 := v253
  let c0_i32_43 : BitVec 32 := 0#32
  ![v0.toNat, v254.toNat, 0]

def k0_chk3 (i : grid0.Coords) (v256 : BitVec 32) : Prop :=
  (∀ (k0_h2 : k0_cond2 i = 1#1), 16 ∣ (k0_mult2 v256).toNat) ∧
  (∀ (k0_h2 : k0_cond2 i = 1#1), ∀ a, (k0_off19 v256) a + S16x1024.size a ≤ S227328x1024.size a) ∧
  (∀ (k0_h2 : k0_cond2 i = 1#1), ∀ (hinb : ∀ a, (k0_off19 v256) a + S16x1024.size a ≤ S227328x1024.size a), (Rect.unit (s := S227328x1024) (k0_off19 v256) S16x1024.size hinb).WholeWords (EltTy.packing .bf16))
theorem k0_mult2_dvd : ∀ (i : grid0.Coords) (v256 : BitVec 32) (k0_hw3 : k0_chk3 i v256), ∀ (k0_h2 : k0_cond2 i = 1#1), 16 ∣ (k0_mult2 v256).toNat := fun i v256 k0_hw3 k0_h2 => k0_hw3.1 k0_h2
theorem k0_off19_inb : ∀ (i : grid0.Coords) (v256 : BitVec 32) (k0_hw3 : k0_chk3 i v256), ∀ (k0_h2 : k0_cond2 i = 1#1), ∀ a, (k0_off19 v256) a + S16x1024.size a ≤ S227328x1024.size a := fun i v256 k0_hw3 k0_h2 => k0_hw3.2.1 k0_h2
theorem k0_off19_wordsbf16 : ∀ (i : grid0.Coords) (v256 : BitVec 32) (k0_hw3 : k0_chk3 i v256), ∀ (k0_h2 : k0_cond2 i = 1#1), (Rect.unit (s := S227328x1024) (k0_off19 v256) S16x1024.size (k0_off19_inb i v256 k0_hw3 k0_h2)).WholeWords (EltTy.packing .bf16) := fun i v256 k0_hw3 k0_h2 => k0_hw3.2.2 k0_h2 (k0_off19_inb i v256 k0_hw3 k0_h2)

def k0_mult3 (v11 : BitVec 32) (k0_t5 : Fin (k0_t5_loop v11).trips) : BitVec 32 :=
  let c0_i32_31 : BitVec 32 := 0#32
  let c1_i32_32 : BitVec 32 := 1#32
  let arg16 : BitVec 32 := Scf.iv c0_i32_31 c1_i32_32 k0_t5
  let c8_i32_44 : BitVec 32 := 8#32
  let v263 : BitVec 32 := Scalar.muli arg16 c8_i32_44
  let c1_i32_45 : BitVec 32 := 1#32
  let v264 : BitVec 32 := Scalar.addi v263 c1_i32_45
  let c16_i32_46 : BitVec 32 := 16#32
  let v265 : BitVec 32 := Scalar.muli v264 c16_i32_46
  v265
def k0_off21 (v11 : BitVec 32) (k0_t5 : Fin (k0_t5_loop v11).trips) : Fin 3 → Nat :=
  let c0_47 : Index := 0#32
  let c0_48 : Index := 0#32
  let c0_i32_31 : BitVec 32 := 0#32
  let c1_i32_32 : BitVec 32 := 1#32
  let arg16 : BitVec 32 := Scf.iv c0_i32_31 c1_i32_32 k0_t5
  let c8_i32_44 : BitVec 32 := 8#32
  let v263 : BitVec 32 := Scalar.muli arg16 c8_i32_44
  let c1_i32_45 : BitVec 32 := 1#32
  let v264 : BitVec 32 := Scalar.addi v263 c1_i32_45
  let v267 : Index := Scalar.indexCast v264
  ![0, 0, v267.toNat]
def k0_mult4 (v268 : BitVec 32) : BitVec 32 :=
  v268

def k0_off22 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off23 (v268 : BitVec 32) : Fin 2 → Nat :=
  let v269 : BitVec 32 := v268
  let c0_i32_49 : BitVec 32 := 0#32
  ![v269.toNat, 0]
def k0_off24 (i : grid0.Coords) (v11 : BitVec 32) (k0_t5 : Fin (k0_t5_loop v11).trips) : Fin 3 → Nat :=
  let arg0 : BitVec 32 := BitVec.ofNat 32 (i 0).val
  let c2_i32 : BitVec 32 := 2#32
  let v0 : BitVec 32 := Scalar.remsi arg0 c2_i32
  let c0_i32_31 : BitVec 32 := 0#32
  let c1_i32_32 : BitVec 32 := 1#32
  let arg16 : BitVec 32 := Scf.iv c0_i32_31 c1_i32_32 k0_t5
  let c8_i32_44 : BitVec 32 := 8#32
  let v263 : BitVec 32 := Scalar.muli arg16 c8_i32_44
  let c1_i32_45 : BitVec 32 := 1#32
  let v264 : BitVec 32 := Scalar.addi v263 c1_i32_45
  let c16_i32_46 : BitVec 32 := 16#32
  let v265 : BitVec 32 := Scalar.muli v264 c16_i32_46
  let v266 : BitVec 32 := v265
  let c0_i32_50 : BitVec 32 := 0#32
  ![v0.toNat, v266.toNat, 0]

def k0_chk4 (i : grid0.Coords) (v268 : BitVec 32) : Prop :=
  (∀ (k0_h2 : k0_cond2 i = 1#1), 16 ∣ (k0_mult4 v268).toNat) ∧
  (∀ (k0_h2 : k0_cond2 i = 1#1), ∀ a, (k0_off23 v268) a + S16x1024.size a ≤ S227328x1024.size a) ∧
  (∀ (k0_h2 : k0_cond2 i = 1#1), ∀ (hinb : ∀ a, (k0_off23 v268) a + S16x1024.size a ≤ S227328x1024.size a), (Rect.unit (s := S227328x1024) (k0_off23 v268) S16x1024.size hinb).WholeWords (EltTy.packing .bf16))
theorem k0_mult4_dvd : ∀ (i : grid0.Coords) (v268 : BitVec 32) (k0_hw4 : k0_chk4 i v268), ∀ (k0_h2 : k0_cond2 i = 1#1), 16 ∣ (k0_mult4 v268).toNat := fun i v268 k0_hw4 k0_h2 => k0_hw4.1 k0_h2
theorem k0_off23_inb : ∀ (i : grid0.Coords) (v268 : BitVec 32) (k0_hw4 : k0_chk4 i v268), ∀ (k0_h2 : k0_cond2 i = 1#1), ∀ a, (k0_off23 v268) a + S16x1024.size a ≤ S227328x1024.size a := fun i v268 k0_hw4 k0_h2 => k0_hw4.2.1 k0_h2
theorem k0_off23_wordsbf16 : ∀ (i : grid0.Coords) (v268 : BitVec 32) (k0_hw4 : k0_chk4 i v268), ∀ (k0_h2 : k0_cond2 i = 1#1), (Rect.unit (s := S227328x1024) (k0_off23 v268) S16x1024.size (k0_off23_inb i v268 k0_hw4 k0_h2)).WholeWords (EltTy.packing .bf16) := fun i v268 k0_hw4 k0_h2 => k0_hw4.2.2 k0_h2 (k0_off23_inb i v268 k0_hw4 k0_h2)

def k0_mult5 (v11 : BitVec 32) (k0_t5 : Fin (k0_t5_loop v11).trips) : BitVec 32 :=
  let c0_i32_31 : BitVec 32 := 0#32
  let c1_i32_32 : BitVec 32 := 1#32
  let arg16 : BitVec 32 := Scf.iv c0_i32_31 c1_i32_32 k0_t5
  let c8_i32_51 : BitVec 32 := 8#32
  let v275 : BitVec 32 := Scalar.muli arg16 c8_i32_51
  let c2_i32_52 : BitVec 32 := 2#32
  let v276 : BitVec 32 := Scalar.addi v275 c2_i32_52
  let c16_i32_53 : BitVec 32 := 16#32
  let v277 : BitVec 32 := Scalar.muli v276 c16_i32_53
  v277
def k0_off25 (v11 : BitVec 32) (k0_t5 : Fin (k0_t5_loop v11).trips) : Fin 3 → Nat :=
  let c0_54 : Index := 0#32
  let c0_55 : Index := 0#32
  let c0_i32_31 : BitVec 32 := 0#32
  let c1_i32_32 : BitVec 32 := 1#32
  let arg16 : BitVec 32 := Scf.iv c0_i32_31 c1_i32_32 k0_t5
  let c8_i32_51 : BitVec 32 := 8#32
  let v275 : BitVec 32 := Scalar.muli arg16 c8_i32_51
  let c2_i32_52 : BitVec 32 := 2#32
  let v276 : BitVec 32 := Scalar.addi v275 c2_i32_52
  let v279 : Index := Scalar.indexCast v276
  ![0, 0, v279.toNat]
def k0_mult6 (v280 : BitVec 32) : BitVec 32 :=
  v280

def k0_off26 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off27 (v280 : BitVec 32) : Fin 2 → Nat :=
  let v281 : BitVec 32 := v280
  let c0_i32_56 : BitVec 32 := 0#32
  ![v281.toNat, 0]
def k0_off28 (i : grid0.Coords) (v11 : BitVec 32) (k0_t5 : Fin (k0_t5_loop v11).trips) : Fin 3 → Nat :=
  let arg0 : BitVec 32 := BitVec.ofNat 32 (i 0).val
  let c2_i32 : BitVec 32 := 2#32
  let v0 : BitVec 32 := Scalar.remsi arg0 c2_i32
  let c0_i32_31 : BitVec 32 := 0#32
  let c1_i32_32 : BitVec 32 := 1#32
  let arg16 : BitVec 32 := Scf.iv c0_i32_31 c1_i32_32 k0_t5
  let c8_i32_51 : BitVec 32 := 8#32
  let v275 : BitVec 32 := Scalar.muli arg16 c8_i32_51
  let c2_i32_52 : BitVec 32 := 2#32
  let v276 : BitVec 32 := Scalar.addi v275 c2_i32_52
  let c16_i32_53 : BitVec 32 := 16#32
  let v277 : BitVec 32 := Scalar.muli v276 c16_i32_53
  let v278 : BitVec 32 := v277
  let c0_i32_57 : BitVec 32 := 0#32
  ![v0.toNat, v278.toNat, 0]

def k0_chk5 (i : grid0.Coords) (v280 : BitVec 32) : Prop :=
  (∀ (k0_h2 : k0_cond2 i = 1#1), 16 ∣ (k0_mult6 v280).toNat) ∧
  (∀ (k0_h2 : k0_cond2 i = 1#1), ∀ a, (k0_off27 v280) a + S16x1024.size a ≤ S227328x1024.size a) ∧
  (∀ (k0_h2 : k0_cond2 i = 1#1), ∀ (hinb : ∀ a, (k0_off27 v280) a + S16x1024.size a ≤ S227328x1024.size a), (Rect.unit (s := S227328x1024) (k0_off27 v280) S16x1024.size hinb).WholeWords (EltTy.packing .bf16))
theorem k0_mult6_dvd : ∀ (i : grid0.Coords) (v280 : BitVec 32) (k0_hw5 : k0_chk5 i v280), ∀ (k0_h2 : k0_cond2 i = 1#1), 16 ∣ (k0_mult6 v280).toNat := fun i v280 k0_hw5 k0_h2 => k0_hw5.1 k0_h2
theorem k0_off27_inb : ∀ (i : grid0.Coords) (v280 : BitVec 32) (k0_hw5 : k0_chk5 i v280), ∀ (k0_h2 : k0_cond2 i = 1#1), ∀ a, (k0_off27 v280) a + S16x1024.size a ≤ S227328x1024.size a := fun i v280 k0_hw5 k0_h2 => k0_hw5.2.1 k0_h2
theorem k0_off27_wordsbf16 : ∀ (i : grid0.Coords) (v280 : BitVec 32) (k0_hw5 : k0_chk5 i v280), ∀ (k0_h2 : k0_cond2 i = 1#1), (Rect.unit (s := S227328x1024) (k0_off27 v280) S16x1024.size (k0_off27_inb i v280 k0_hw5 k0_h2)).WholeWords (EltTy.packing .bf16) := fun i v280 k0_hw5 k0_h2 => k0_hw5.2.2 k0_h2 (k0_off27_inb i v280 k0_hw5 k0_h2)

def k0_mult7 (v11 : BitVec 32) (k0_t5 : Fin (k0_t5_loop v11).trips) : BitVec 32 :=
  let c0_i32_31 : BitVec 32 := 0#32
  let c1_i32_32 : BitVec 32 := 1#32
  let arg16 : BitVec 32 := Scf.iv c0_i32_31 c1_i32_32 k0_t5
  let c8_i32_58 : BitVec 32 := 8#32
  let v287 : BitVec 32 := Scalar.muli arg16 c8_i32_58
  let c3_i32_59 : BitVec 32 := 3#32
  let v288 : BitVec 32 := Scalar.addi v287 c3_i32_59
  let c16_i32_60 : BitVec 32 := 16#32
  let v289 : BitVec 32 := Scalar.muli v288 c16_i32_60
  v289
def k0_off29 (v11 : BitVec 32) (k0_t5 : Fin (k0_t5_loop v11).trips) : Fin 3 → Nat :=
  let c0_61 : Index := 0#32
  let c0_62 : Index := 0#32
  let c0_i32_31 : BitVec 32 := 0#32
  let c1_i32_32 : BitVec 32 := 1#32
  let arg16 : BitVec 32 := Scf.iv c0_i32_31 c1_i32_32 k0_t5
  let c8_i32_58 : BitVec 32 := 8#32
  let v287 : BitVec 32 := Scalar.muli arg16 c8_i32_58
  let c3_i32_59 : BitVec 32 := 3#32
  let v288 : BitVec 32 := Scalar.addi v287 c3_i32_59
  let v291 : Index := Scalar.indexCast v288
  ![0, 0, v291.toNat]
def k0_mult8 (v292 : BitVec 32) : BitVec 32 :=
  v292

def k0_off30 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off31 (v292 : BitVec 32) : Fin 2 → Nat :=
  let v293 : BitVec 32 := v292
  let c0_i32_63 : BitVec 32 := 0#32
  ![v293.toNat, 0]
def k0_off32 (i : grid0.Coords) (v11 : BitVec 32) (k0_t5 : Fin (k0_t5_loop v11).trips) : Fin 3 → Nat :=
  let arg0 : BitVec 32 := BitVec.ofNat 32 (i 0).val
  let c2_i32 : BitVec 32 := 2#32
  let v0 : BitVec 32 := Scalar.remsi arg0 c2_i32
  let c0_i32_31 : BitVec 32 := 0#32
  let c1_i32_32 : BitVec 32 := 1#32
  let arg16 : BitVec 32 := Scf.iv c0_i32_31 c1_i32_32 k0_t5
  let c8_i32_58 : BitVec 32 := 8#32
  let v287 : BitVec 32 := Scalar.muli arg16 c8_i32_58
  let c3_i32_59 : BitVec 32 := 3#32
  let v288 : BitVec 32 := Scalar.addi v287 c3_i32_59
  let c16_i32_60 : BitVec 32 := 16#32
  let v289 : BitVec 32 := Scalar.muli v288 c16_i32_60
  let v290 : BitVec 32 := v289
  let c0_i32_64 : BitVec 32 := 0#32
  ![v0.toNat, v290.toNat, 0]

def k0_chk6 (i : grid0.Coords) (v292 : BitVec 32) : Prop :=
  (∀ (k0_h2 : k0_cond2 i = 1#1), 16 ∣ (k0_mult8 v292).toNat) ∧
  (∀ (k0_h2 : k0_cond2 i = 1#1), ∀ a, (k0_off31 v292) a + S16x1024.size a ≤ S227328x1024.size a) ∧
  (∀ (k0_h2 : k0_cond2 i = 1#1), ∀ (hinb : ∀ a, (k0_off31 v292) a + S16x1024.size a ≤ S227328x1024.size a), (Rect.unit (s := S227328x1024) (k0_off31 v292) S16x1024.size hinb).WholeWords (EltTy.packing .bf16))
theorem k0_mult8_dvd : ∀ (i : grid0.Coords) (v292 : BitVec 32) (k0_hw6 : k0_chk6 i v292), ∀ (k0_h2 : k0_cond2 i = 1#1), 16 ∣ (k0_mult8 v292).toNat := fun i v292 k0_hw6 k0_h2 => k0_hw6.1 k0_h2
theorem k0_off31_inb : ∀ (i : grid0.Coords) (v292 : BitVec 32) (k0_hw6 : k0_chk6 i v292), ∀ (k0_h2 : k0_cond2 i = 1#1), ∀ a, (k0_off31 v292) a + S16x1024.size a ≤ S227328x1024.size a := fun i v292 k0_hw6 k0_h2 => k0_hw6.2.1 k0_h2
theorem k0_off31_wordsbf16 : ∀ (i : grid0.Coords) (v292 : BitVec 32) (k0_hw6 : k0_chk6 i v292), ∀ (k0_h2 : k0_cond2 i = 1#1), (Rect.unit (s := S227328x1024) (k0_off31 v292) S16x1024.size (k0_off31_inb i v292 k0_hw6 k0_h2)).WholeWords (EltTy.packing .bf16) := fun i v292 k0_hw6 k0_h2 => k0_hw6.2.2 k0_h2 (k0_off31_inb i v292 k0_hw6 k0_h2)

def k0_mult9 (v11 : BitVec 32) (k0_t5 : Fin (k0_t5_loop v11).trips) : BitVec 32 :=
  let c0_i32_31 : BitVec 32 := 0#32
  let c1_i32_32 : BitVec 32 := 1#32
  let arg16 : BitVec 32 := Scf.iv c0_i32_31 c1_i32_32 k0_t5
  let c8_i32_65 : BitVec 32 := 8#32
  let v299 : BitVec 32 := Scalar.muli arg16 c8_i32_65
  let c4_i32_66 : BitVec 32 := 4#32
  let v300 : BitVec 32 := Scalar.addi v299 c4_i32_66
  let c16_i32_67 : BitVec 32 := 16#32
  let v301 : BitVec 32 := Scalar.muli v300 c16_i32_67
  v301
def k0_off33 (v11 : BitVec 32) (k0_t5 : Fin (k0_t5_loop v11).trips) : Fin 3 → Nat :=
  let c0_68 : Index := 0#32
  let c0_69 : Index := 0#32
  let c0_i32_31 : BitVec 32 := 0#32
  let c1_i32_32 : BitVec 32 := 1#32
  let arg16 : BitVec 32 := Scf.iv c0_i32_31 c1_i32_32 k0_t5
  let c8_i32_65 : BitVec 32 := 8#32
  let v299 : BitVec 32 := Scalar.muli arg16 c8_i32_65
  let c4_i32_66 : BitVec 32 := 4#32
  let v300 : BitVec 32 := Scalar.addi v299 c4_i32_66
  let v303 : Index := Scalar.indexCast v300
  ![0, 0, v303.toNat]
def k0_mult10 (v304 : BitVec 32) : BitVec 32 :=
  v304

def k0_off34 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off35 (v304 : BitVec 32) : Fin 2 → Nat :=
  let v305 : BitVec 32 := v304
  let c0_i32_70 : BitVec 32 := 0#32
  ![v305.toNat, 0]
def k0_off36 (i : grid0.Coords) (v11 : BitVec 32) (k0_t5 : Fin (k0_t5_loop v11).trips) : Fin 3 → Nat :=
  let arg0 : BitVec 32 := BitVec.ofNat 32 (i 0).val
  let c2_i32 : BitVec 32 := 2#32
  let v0 : BitVec 32 := Scalar.remsi arg0 c2_i32
  let c0_i32_31 : BitVec 32 := 0#32
  let c1_i32_32 : BitVec 32 := 1#32
  let arg16 : BitVec 32 := Scf.iv c0_i32_31 c1_i32_32 k0_t5
  let c8_i32_65 : BitVec 32 := 8#32
  let v299 : BitVec 32 := Scalar.muli arg16 c8_i32_65
  let c4_i32_66 : BitVec 32 := 4#32
  let v300 : BitVec 32 := Scalar.addi v299 c4_i32_66
  let c16_i32_67 : BitVec 32 := 16#32
  let v301 : BitVec 32 := Scalar.muli v300 c16_i32_67
  let v302 : BitVec 32 := v301
  let c0_i32_71 : BitVec 32 := 0#32
  ![v0.toNat, v302.toNat, 0]

def k0_chk7 (i : grid0.Coords) (v304 : BitVec 32) : Prop :=
  (∀ (k0_h2 : k0_cond2 i = 1#1), 16 ∣ (k0_mult10 v304).toNat) ∧
  (∀ (k0_h2 : k0_cond2 i = 1#1), ∀ a, (k0_off35 v304) a + S16x1024.size a ≤ S227328x1024.size a) ∧
  (∀ (k0_h2 : k0_cond2 i = 1#1), ∀ (hinb : ∀ a, (k0_off35 v304) a + S16x1024.size a ≤ S227328x1024.size a), (Rect.unit (s := S227328x1024) (k0_off35 v304) S16x1024.size hinb).WholeWords (EltTy.packing .bf16))
theorem k0_mult10_dvd : ∀ (i : grid0.Coords) (v304 : BitVec 32) (k0_hw7 : k0_chk7 i v304), ∀ (k0_h2 : k0_cond2 i = 1#1), 16 ∣ (k0_mult10 v304).toNat := fun i v304 k0_hw7 k0_h2 => k0_hw7.1 k0_h2
theorem k0_off35_inb : ∀ (i : grid0.Coords) (v304 : BitVec 32) (k0_hw7 : k0_chk7 i v304), ∀ (k0_h2 : k0_cond2 i = 1#1), ∀ a, (k0_off35 v304) a + S16x1024.size a ≤ S227328x1024.size a := fun i v304 k0_hw7 k0_h2 => k0_hw7.2.1 k0_h2
theorem k0_off35_wordsbf16 : ∀ (i : grid0.Coords) (v304 : BitVec 32) (k0_hw7 : k0_chk7 i v304), ∀ (k0_h2 : k0_cond2 i = 1#1), (Rect.unit (s := S227328x1024) (k0_off35 v304) S16x1024.size (k0_off35_inb i v304 k0_hw7 k0_h2)).WholeWords (EltTy.packing .bf16) := fun i v304 k0_hw7 k0_h2 => k0_hw7.2.2 k0_h2 (k0_off35_inb i v304 k0_hw7 k0_h2)

def k0_mult11 (v11 : BitVec 32) (k0_t5 : Fin (k0_t5_loop v11).trips) : BitVec 32 :=
  let c0_i32_31 : BitVec 32 := 0#32
  let c1_i32_32 : BitVec 32 := 1#32
  let arg16 : BitVec 32 := Scf.iv c0_i32_31 c1_i32_32 k0_t5
  let c8_i32_72 : BitVec 32 := 8#32
  let v311 : BitVec 32 := Scalar.muli arg16 c8_i32_72
  let c5_i32 : BitVec 32 := 5#32
  let v312 : BitVec 32 := Scalar.addi v311 c5_i32
  let c16_i32_73 : BitVec 32 := 16#32
  let v313 : BitVec 32 := Scalar.muli v312 c16_i32_73
  v313
def k0_off37 (v11 : BitVec 32) (k0_t5 : Fin (k0_t5_loop v11).trips) : Fin 3 → Nat :=
  let c0_74 : Index := 0#32
  let c0_75 : Index := 0#32
  let c0_i32_31 : BitVec 32 := 0#32
  let c1_i32_32 : BitVec 32 := 1#32
  let arg16 : BitVec 32 := Scf.iv c0_i32_31 c1_i32_32 k0_t5
  let c8_i32_72 : BitVec 32 := 8#32
  let v311 : BitVec 32 := Scalar.muli arg16 c8_i32_72
  let c5_i32 : BitVec 32 := 5#32
  let v312 : BitVec 32 := Scalar.addi v311 c5_i32
  let v315 : Index := Scalar.indexCast v312
  ![0, 0, v315.toNat]
def k0_mult12 (v316 : BitVec 32) : BitVec 32 :=
  v316

def k0_off38 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off39 (v316 : BitVec 32) : Fin 2 → Nat :=
  let v317 : BitVec 32 := v316
  let c0_i32_76 : BitVec 32 := 0#32
  ![v317.toNat, 0]
def k0_off40 (i : grid0.Coords) (v11 : BitVec 32) (k0_t5 : Fin (k0_t5_loop v11).trips) : Fin 3 → Nat :=
  let arg0 : BitVec 32 := BitVec.ofNat 32 (i 0).val
  let c2_i32 : BitVec 32 := 2#32
  let v0 : BitVec 32 := Scalar.remsi arg0 c2_i32
  let c0_i32_31 : BitVec 32 := 0#32
  let c1_i32_32 : BitVec 32 := 1#32
  let arg16 : BitVec 32 := Scf.iv c0_i32_31 c1_i32_32 k0_t5
  let c8_i32_72 : BitVec 32 := 8#32
  let v311 : BitVec 32 := Scalar.muli arg16 c8_i32_72
  let c5_i32 : BitVec 32 := 5#32
  let v312 : BitVec 32 := Scalar.addi v311 c5_i32
  let c16_i32_73 : BitVec 32 := 16#32
  let v313 : BitVec 32 := Scalar.muli v312 c16_i32_73
  let v314 : BitVec 32 := v313
  let c0_i32_77 : BitVec 32 := 0#32
  ![v0.toNat, v314.toNat, 0]

def k0_chk8 (i : grid0.Coords) (v316 : BitVec 32) : Prop :=
  (∀ (k0_h2 : k0_cond2 i = 1#1), 16 ∣ (k0_mult12 v316).toNat) ∧
  (∀ (k0_h2 : k0_cond2 i = 1#1), ∀ a, (k0_off39 v316) a + S16x1024.size a ≤ S227328x1024.size a) ∧
  (∀ (k0_h2 : k0_cond2 i = 1#1), ∀ (hinb : ∀ a, (k0_off39 v316) a + S16x1024.size a ≤ S227328x1024.size a), (Rect.unit (s := S227328x1024) (k0_off39 v316) S16x1024.size hinb).WholeWords (EltTy.packing .bf16))
theorem k0_mult12_dvd : ∀ (i : grid0.Coords) (v316 : BitVec 32) (k0_hw8 : k0_chk8 i v316), ∀ (k0_h2 : k0_cond2 i = 1#1), 16 ∣ (k0_mult12 v316).toNat := fun i v316 k0_hw8 k0_h2 => k0_hw8.1 k0_h2
theorem k0_off39_inb : ∀ (i : grid0.Coords) (v316 : BitVec 32) (k0_hw8 : k0_chk8 i v316), ∀ (k0_h2 : k0_cond2 i = 1#1), ∀ a, (k0_off39 v316) a + S16x1024.size a ≤ S227328x1024.size a := fun i v316 k0_hw8 k0_h2 => k0_hw8.2.1 k0_h2
theorem k0_off39_wordsbf16 : ∀ (i : grid0.Coords) (v316 : BitVec 32) (k0_hw8 : k0_chk8 i v316), ∀ (k0_h2 : k0_cond2 i = 1#1), (Rect.unit (s := S227328x1024) (k0_off39 v316) S16x1024.size (k0_off39_inb i v316 k0_hw8 k0_h2)).WholeWords (EltTy.packing .bf16) := fun i v316 k0_hw8 k0_h2 => k0_hw8.2.2 k0_h2 (k0_off39_inb i v316 k0_hw8 k0_h2)

def k0_mult13 (v11 : BitVec 32) (k0_t5 : Fin (k0_t5_loop v11).trips) : BitVec 32 :=
  let c0_i32_31 : BitVec 32 := 0#32
  let c1_i32_32 : BitVec 32 := 1#32
  let arg16 : BitVec 32 := Scf.iv c0_i32_31 c1_i32_32 k0_t5
  let c8_i32_78 : BitVec 32 := 8#32
  let v323 : BitVec 32 := Scalar.muli arg16 c8_i32_78
  let c6_i32 : BitVec 32 := 6#32
  let v324 : BitVec 32 := Scalar.addi v323 c6_i32
  let c16_i32_79 : BitVec 32 := 16#32
  let v325 : BitVec 32 := Scalar.muli v324 c16_i32_79
  v325
def k0_off41 (v11 : BitVec 32) (k0_t5 : Fin (k0_t5_loop v11).trips) : Fin 3 → Nat :=
  let c0_80 : Index := 0#32
  let c0_81 : Index := 0#32
  let c0_i32_31 : BitVec 32 := 0#32
  let c1_i32_32 : BitVec 32 := 1#32
  let arg16 : BitVec 32 := Scf.iv c0_i32_31 c1_i32_32 k0_t5
  let c8_i32_78 : BitVec 32 := 8#32
  let v323 : BitVec 32 := Scalar.muli arg16 c8_i32_78
  let c6_i32 : BitVec 32 := 6#32
  let v324 : BitVec 32 := Scalar.addi v323 c6_i32
  let v327 : Index := Scalar.indexCast v324
  ![0, 0, v327.toNat]
def k0_mult14 (v328 : BitVec 32) : BitVec 32 :=
  v328

def k0_off42 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off43 (v328 : BitVec 32) : Fin 2 → Nat :=
  let v329 : BitVec 32 := v328
  let c0_i32_82 : BitVec 32 := 0#32
  ![v329.toNat, 0]
def k0_off44 (i : grid0.Coords) (v11 : BitVec 32) (k0_t5 : Fin (k0_t5_loop v11).trips) : Fin 3 → Nat :=
  let arg0 : BitVec 32 := BitVec.ofNat 32 (i 0).val
  let c2_i32 : BitVec 32 := 2#32
  let v0 : BitVec 32 := Scalar.remsi arg0 c2_i32
  let c0_i32_31 : BitVec 32 := 0#32
  let c1_i32_32 : BitVec 32 := 1#32
  let arg16 : BitVec 32 := Scf.iv c0_i32_31 c1_i32_32 k0_t5
  let c8_i32_78 : BitVec 32 := 8#32
  let v323 : BitVec 32 := Scalar.muli arg16 c8_i32_78
  let c6_i32 : BitVec 32 := 6#32
  let v324 : BitVec 32 := Scalar.addi v323 c6_i32
  let c16_i32_79 : BitVec 32 := 16#32
  let v325 : BitVec 32 := Scalar.muli v324 c16_i32_79
  let v326 : BitVec 32 := v325
  let c0_i32_83 : BitVec 32 := 0#32
  ![v0.toNat, v326.toNat, 0]

def k0_chk9 (i : grid0.Coords) (v328 : BitVec 32) : Prop :=
  (∀ (k0_h2 : k0_cond2 i = 1#1), 16 ∣ (k0_mult14 v328).toNat) ∧
  (∀ (k0_h2 : k0_cond2 i = 1#1), ∀ a, (k0_off43 v328) a + S16x1024.size a ≤ S227328x1024.size a) ∧
  (∀ (k0_h2 : k0_cond2 i = 1#1), ∀ (hinb : ∀ a, (k0_off43 v328) a + S16x1024.size a ≤ S227328x1024.size a), (Rect.unit (s := S227328x1024) (k0_off43 v328) S16x1024.size hinb).WholeWords (EltTy.packing .bf16))
theorem k0_mult14_dvd : ∀ (i : grid0.Coords) (v328 : BitVec 32) (k0_hw9 : k0_chk9 i v328), ∀ (k0_h2 : k0_cond2 i = 1#1), 16 ∣ (k0_mult14 v328).toNat := fun i v328 k0_hw9 k0_h2 => k0_hw9.1 k0_h2
theorem k0_off43_inb : ∀ (i : grid0.Coords) (v328 : BitVec 32) (k0_hw9 : k0_chk9 i v328), ∀ (k0_h2 : k0_cond2 i = 1#1), ∀ a, (k0_off43 v328) a + S16x1024.size a ≤ S227328x1024.size a := fun i v328 k0_hw9 k0_h2 => k0_hw9.2.1 k0_h2
theorem k0_off43_wordsbf16 : ∀ (i : grid0.Coords) (v328 : BitVec 32) (k0_hw9 : k0_chk9 i v328), ∀ (k0_h2 : k0_cond2 i = 1#1), (Rect.unit (s := S227328x1024) (k0_off43 v328) S16x1024.size (k0_off43_inb i v328 k0_hw9 k0_h2)).WholeWords (EltTy.packing .bf16) := fun i v328 k0_hw9 k0_h2 => k0_hw9.2.2 k0_h2 (k0_off43_inb i v328 k0_hw9 k0_h2)

def k0_mult15 (v11 : BitVec 32) (k0_t5 : Fin (k0_t5_loop v11).trips) : BitVec 32 :=
  let c0_i32_31 : BitVec 32 := 0#32
  let c1_i32_32 : BitVec 32 := 1#32
  let arg16 : BitVec 32 := Scf.iv c0_i32_31 c1_i32_32 k0_t5
  let c8_i32_84 : BitVec 32 := 8#32
  let v335 : BitVec 32 := Scalar.muli arg16 c8_i32_84
  let c7_i32 : BitVec 32 := 7#32
  let v336 : BitVec 32 := Scalar.addi v335 c7_i32
  let c16_i32_85 : BitVec 32 := 16#32
  let v337 : BitVec 32 := Scalar.muli v336 c16_i32_85
  v337
def k0_off45 (v11 : BitVec 32) (k0_t5 : Fin (k0_t5_loop v11).trips) : Fin 3 → Nat :=
  let c0_86 : Index := 0#32
  let c0_87 : Index := 0#32
  let c0_i32_31 : BitVec 32 := 0#32
  let c1_i32_32 : BitVec 32 := 1#32
  let arg16 : BitVec 32 := Scf.iv c0_i32_31 c1_i32_32 k0_t5
  let c8_i32_84 : BitVec 32 := 8#32
  let v335 : BitVec 32 := Scalar.muli arg16 c8_i32_84
  let c7_i32 : BitVec 32 := 7#32
  let v336 : BitVec 32 := Scalar.addi v335 c7_i32
  let v339 : Index := Scalar.indexCast v336
  ![0, 0, v339.toNat]
def k0_mult16 (v340 : BitVec 32) : BitVec 32 :=
  v340

def k0_off46 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off47 (v340 : BitVec 32) : Fin 2 → Nat :=
  let v341 : BitVec 32 := v340
  let c0_i32_88 : BitVec 32 := 0#32
  ![v341.toNat, 0]
def k0_off48 (i : grid0.Coords) (v11 : BitVec 32) (k0_t5 : Fin (k0_t5_loop v11).trips) : Fin 3 → Nat :=
  let arg0 : BitVec 32 := BitVec.ofNat 32 (i 0).val
  let c2_i32 : BitVec 32 := 2#32
  let v0 : BitVec 32 := Scalar.remsi arg0 c2_i32
  let c0_i32_31 : BitVec 32 := 0#32
  let c1_i32_32 : BitVec 32 := 1#32
  let arg16 : BitVec 32 := Scf.iv c0_i32_31 c1_i32_32 k0_t5
  let c8_i32_84 : BitVec 32 := 8#32
  let v335 : BitVec 32 := Scalar.muli arg16 c8_i32_84
  let c7_i32 : BitVec 32 := 7#32
  let v336 : BitVec 32 := Scalar.addi v335 c7_i32
  let c16_i32_85 : BitVec 32 := 16#32
  let v337 : BitVec 32 := Scalar.muli v336 c16_i32_85
  let v338 : BitVec 32 := v337
  let c0_i32_89 : BitVec 32 := 0#32
  ![v0.toNat, v338.toNat, 0]

def k0_chk10 (i : grid0.Coords) (v340 : BitVec 32) : Prop :=
  (∀ (k0_h2 : k0_cond2 i = 1#1), 16 ∣ (k0_mult16 v340).toNat) ∧
  (∀ (k0_h2 : k0_cond2 i = 1#1), ∀ a, (k0_off47 v340) a + S16x1024.size a ≤ S227328x1024.size a) ∧
  (∀ (k0_h2 : k0_cond2 i = 1#1), ∀ (hinb : ∀ a, (k0_off47 v340) a + S16x1024.size a ≤ S227328x1024.size a), (Rect.unit (s := S227328x1024) (k0_off47 v340) S16x1024.size hinb).WholeWords (EltTy.packing .bf16))
theorem k0_mult16_dvd : ∀ (i : grid0.Coords) (v340 : BitVec 32) (k0_hw10 : k0_chk10 i v340), ∀ (k0_h2 : k0_cond2 i = 1#1), 16 ∣ (k0_mult16 v340).toNat := fun i v340 k0_hw10 k0_h2 => k0_hw10.1 k0_h2
theorem k0_off47_inb : ∀ (i : grid0.Coords) (v340 : BitVec 32) (k0_hw10 : k0_chk10 i v340), ∀ (k0_h2 : k0_cond2 i = 1#1), ∀ a, (k0_off47 v340) a + S16x1024.size a ≤ S227328x1024.size a := fun i v340 k0_hw10 k0_h2 => k0_hw10.2.1 k0_h2
theorem k0_off47_wordsbf16 : ∀ (i : grid0.Coords) (v340 : BitVec 32) (k0_hw10 : k0_chk10 i v340), ∀ (k0_h2 : k0_cond2 i = 1#1), (Rect.unit (s := S227328x1024) (k0_off47 v340) S16x1024.size (k0_off47_inb i v340 k0_hw10 k0_h2)).WholeWords (EltTy.packing .bf16) := fun i v340 k0_hw10 k0_h2 => k0_hw10.2.2 k0_h2 (k0_off47_inb i v340 k0_hw10 k0_h2)

@[reducible] def k0_t6_loop (v11 : BitVec 32) : Scf.Loop 32 :=
  let c0_i32_31 : BitVec 32 := 0#32
  let c4_i32 : BitVec 32 := 4#32
  let v238 : BitVec 32 := Scalar.shrui v11 c4_i32
  let c3_i32 : BitVec 32 := 3#32
  let v239 : BitVec 32 := Scalar.shrui v238 c3_i32
  let v240 : BitVec 32 := Scalar.subi v239 c0_i32_31
  let c1_i32 : BitVec 32 := 1#32
  let v242 : BitVec 32 := Scalar.divsi v240 c1_i32
  let v243 : BitVec 32 := Scalar.muli v242 c1_i32
  let v244 : BitVec 32 := Scalar.addi c0_i32_31 v243
  let v241 : BitVec 32 := Scalar.addi c0_i32_31 v240
  let c1_i32_33 : BitVec 32 := 1#32
  ⟨v244, v241, c1_i32_33⟩
def k0_mult17 (v11 : BitVec 32) (k0_t6 : Fin (k0_t6_loop v11).trips) : BitVec 32 :=
  let c0_i32_31 : BitVec 32 := 0#32
  let c4_i32 : BitVec 32 := 4#32
  let v238 : BitVec 32 := Scalar.shrui v11 c4_i32
  let c3_i32 : BitVec 32 := 3#32
  let v239 : BitVec 32 := Scalar.shrui v238 c3_i32
  let v240 : BitVec 32 := Scalar.subi v239 c0_i32_31
  let c1_i32 : BitVec 32 := 1#32
  let v242 : BitVec 32 := Scalar.divsi v240 c1_i32
  let v243 : BitVec 32 := Scalar.muli v242 c1_i32
  let v244 : BitVec 32 := Scalar.addi c0_i32_31 v243
  let c1_i32_33 : BitVec 32 := 1#32
  let arg16 : BitVec 32 := Scf.iv v244 c1_i32_33 k0_t6
  let c8_i32_38 : BitVec 32 := 8#32
  let v251 : BitVec 32 := Scalar.muli arg16 c8_i32_38
  let c0_i32_39 : BitVec 32 := 0#32
  let v252 : BitVec 32 := Scalar.addi v251 c0_i32_39
  let c16_i32 : BitVec 32 := 16#32
  let v253 : BitVec 32 := Scalar.muli v252 c16_i32
  v253
def k0_off49 (v11 : BitVec 32) (k0_t6 : Fin (k0_t6_loop v11).trips) : Fin 3 → Nat :=
  let c0_40 : Index := 0#32
  let c0_41 : Index := 0#32
  let c0_i32_31 : BitVec 32 := 0#32
  let c4_i32 : BitVec 32 := 4#32
  let v238 : BitVec 32 := Scalar.shrui v11 c4_i32
  let c3_i32 : BitVec 32 := 3#32
  let v239 : BitVec 32 := Scalar.shrui v238 c3_i32
  let v240 : BitVec 32 := Scalar.subi v239 c0_i32_31
  let c1_i32 : BitVec 32 := 1#32
  let v242 : BitVec 32 := Scalar.divsi v240 c1_i32
  let v243 : BitVec 32 := Scalar.muli v242 c1_i32
  let v244 : BitVec 32 := Scalar.addi c0_i32_31 v243
  let c1_i32_33 : BitVec 32 := 1#32
  let arg16 : BitVec 32 := Scf.iv v244 c1_i32_33 k0_t6
  let c8_i32_38 : BitVec 32 := 8#32
  let v251 : BitVec 32 := Scalar.muli arg16 c8_i32_38
  let c0_i32_39 : BitVec 32 := 0#32
  let v252 : BitVec 32 := Scalar.addi v251 c0_i32_39
  let v255 : Index := Scalar.indexCast v252
  ![0, 0, v255.toNat]
def k0_mult18 (v256 : BitVec 32) : BitVec 32 :=
  v256

def k0_off50 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off51 (v256 : BitVec 32) : Fin 2 → Nat :=
  let v257 : BitVec 32 := v256
  let c0_i32_42 : BitVec 32 := 0#32
  ![v257.toNat, 0]
def k0_off52 (i : grid0.Coords) (v11 : BitVec 32) (k0_t6 : Fin (k0_t6_loop v11).trips) : Fin 3 → Nat :=
  let arg0 : BitVec 32 := BitVec.ofNat 32 (i 0).val
  let c2_i32 : BitVec 32 := 2#32
  let v0 : BitVec 32 := Scalar.remsi arg0 c2_i32
  let c0_i32_31 : BitVec 32 := 0#32
  let c4_i32 : BitVec 32 := 4#32
  let v238 : BitVec 32 := Scalar.shrui v11 c4_i32
  let c3_i32 : BitVec 32 := 3#32
  let v239 : BitVec 32 := Scalar.shrui v238 c3_i32
  let v240 : BitVec 32 := Scalar.subi v239 c0_i32_31
  let c1_i32 : BitVec 32 := 1#32
  let v242 : BitVec 32 := Scalar.divsi v240 c1_i32
  let v243 : BitVec 32 := Scalar.muli v242 c1_i32
  let v244 : BitVec 32 := Scalar.addi c0_i32_31 v243
  let c1_i32_33 : BitVec 32 := 1#32
  let arg16 : BitVec 32 := Scf.iv v244 c1_i32_33 k0_t6
  let c8_i32_38 : BitVec 32 := 8#32
  let v251 : BitVec 32 := Scalar.muli arg16 c8_i32_38
  let c0_i32_39 : BitVec 32 := 0#32
  let v252 : BitVec 32 := Scalar.addi v251 c0_i32_39
  let c16_i32 : BitVec 32 := 16#32
  let v253 : BitVec 32 := Scalar.muli v252 c16_i32
  let v254 : BitVec 32 := v253
  let c0_i32_43 : BitVec 32 := 0#32
  ![v0.toNat, v254.toNat, 0]

def k0_chk11 (i : grid0.Coords) (v256 : BitVec 32) : Prop :=
  (∀ (k0_h2 : k0_cond2 i = 1#1), 16 ∣ (k0_mult18 v256).toNat) ∧
  (∀ (k0_h2 : k0_cond2 i = 1#1), ∀ a, (k0_off51 v256) a + S16x1024.size a ≤ S227328x1024.size a) ∧
  (∀ (k0_h2 : k0_cond2 i = 1#1), ∀ (hinb : ∀ a, (k0_off51 v256) a + S16x1024.size a ≤ S227328x1024.size a), (Rect.unit (s := S227328x1024) (k0_off51 v256) S16x1024.size hinb).WholeWords (EltTy.packing .bf16))
theorem k0_mult18_dvd : ∀ (i : grid0.Coords) (v256 : BitVec 32) (k0_hw11 : k0_chk11 i v256), ∀ (k0_h2 : k0_cond2 i = 1#1), 16 ∣ (k0_mult18 v256).toNat := fun i v256 k0_hw11 k0_h2 => k0_hw11.1 k0_h2
theorem k0_off51_inb : ∀ (i : grid0.Coords) (v256 : BitVec 32) (k0_hw11 : k0_chk11 i v256), ∀ (k0_h2 : k0_cond2 i = 1#1), ∀ a, (k0_off51 v256) a + S16x1024.size a ≤ S227328x1024.size a := fun i v256 k0_hw11 k0_h2 => k0_hw11.2.1 k0_h2
theorem k0_off51_wordsbf16 : ∀ (i : grid0.Coords) (v256 : BitVec 32) (k0_hw11 : k0_chk11 i v256), ∀ (k0_h2 : k0_cond2 i = 1#1), (Rect.unit (s := S227328x1024) (k0_off51 v256) S16x1024.size (k0_off51_inb i v256 k0_hw11 k0_h2)).WholeWords (EltTy.packing .bf16) := fun i v256 k0_hw11 k0_h2 => k0_hw11.2.2 k0_h2 (k0_off51_inb i v256 k0_hw11 k0_h2)

def k0_mult19 (v11 : BitVec 32) (k0_t6 : Fin (k0_t6_loop v11).trips) : BitVec 32 :=
  let c0_i32_31 : BitVec 32 := 0#32
  let c4_i32 : BitVec 32 := 4#32
  let v238 : BitVec 32 := Scalar.shrui v11 c4_i32
  let c3_i32 : BitVec 32 := 3#32
  let v239 : BitVec 32 := Scalar.shrui v238 c3_i32
  let v240 : BitVec 32 := Scalar.subi v239 c0_i32_31
  let c1_i32 : BitVec 32 := 1#32
  let v242 : BitVec 32 := Scalar.divsi v240 c1_i32
  let v243 : BitVec 32 := Scalar.muli v242 c1_i32
  let v244 : BitVec 32 := Scalar.addi c0_i32_31 v243
  let c1_i32_33 : BitVec 32 := 1#32
  let arg16 : BitVec 32 := Scf.iv v244 c1_i32_33 k0_t6
  let c8_i32_44 : BitVec 32 := 8#32
  let v263 : BitVec 32 := Scalar.muli arg16 c8_i32_44
  let c1_i32_45 : BitVec 32 := 1#32
  let v264 : BitVec 32 := Scalar.addi v263 c1_i32_45
  let c16_i32_46 : BitVec 32 := 16#32
  let v265 : BitVec 32 := Scalar.muli v264 c16_i32_46
  v265
def k0_off53 (v11 : BitVec 32) (k0_t6 : Fin (k0_t6_loop v11).trips) : Fin 3 → Nat :=
  let c0_47 : Index := 0#32
  let c0_48 : Index := 0#32
  let c0_i32_31 : BitVec 32 := 0#32
  let c4_i32 : BitVec 32 := 4#32
  let v238 : BitVec 32 := Scalar.shrui v11 c4_i32
  let c3_i32 : BitVec 32 := 3#32
  let v239 : BitVec 32 := Scalar.shrui v238 c3_i32
  let v240 : BitVec 32 := Scalar.subi v239 c0_i32_31
  let c1_i32 : BitVec 32 := 1#32
  let v242 : BitVec 32 := Scalar.divsi v240 c1_i32
  let v243 : BitVec 32 := Scalar.muli v242 c1_i32
  let v244 : BitVec 32 := Scalar.addi c0_i32_31 v243
  let c1_i32_33 : BitVec 32 := 1#32
  let arg16 : BitVec 32 := Scf.iv v244 c1_i32_33 k0_t6
  let c8_i32_44 : BitVec 32 := 8#32
  let v263 : BitVec 32 := Scalar.muli arg16 c8_i32_44
  let c1_i32_45 : BitVec 32 := 1#32
  let v264 : BitVec 32 := Scalar.addi v263 c1_i32_45
  let v267 : Index := Scalar.indexCast v264
  ![0, 0, v267.toNat]
def k0_mult20 (v268 : BitVec 32) : BitVec 32 :=
  v268

def k0_off54 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off55 (v268 : BitVec 32) : Fin 2 → Nat :=
  let v269 : BitVec 32 := v268
  let c0_i32_49 : BitVec 32 := 0#32
  ![v269.toNat, 0]
def k0_off56 (i : grid0.Coords) (v11 : BitVec 32) (k0_t6 : Fin (k0_t6_loop v11).trips) : Fin 3 → Nat :=
  let arg0 : BitVec 32 := BitVec.ofNat 32 (i 0).val
  let c2_i32 : BitVec 32 := 2#32
  let v0 : BitVec 32 := Scalar.remsi arg0 c2_i32
  let c0_i32_31 : BitVec 32 := 0#32
  let c4_i32 : BitVec 32 := 4#32
  let v238 : BitVec 32 := Scalar.shrui v11 c4_i32
  let c3_i32 : BitVec 32 := 3#32
  let v239 : BitVec 32 := Scalar.shrui v238 c3_i32
  let v240 : BitVec 32 := Scalar.subi v239 c0_i32_31
  let c1_i32 : BitVec 32 := 1#32
  let v242 : BitVec 32 := Scalar.divsi v240 c1_i32
  let v243 : BitVec 32 := Scalar.muli v242 c1_i32
  let v244 : BitVec 32 := Scalar.addi c0_i32_31 v243
  let c1_i32_33 : BitVec 32 := 1#32
  let arg16 : BitVec 32 := Scf.iv v244 c1_i32_33 k0_t6
  let c8_i32_44 : BitVec 32 := 8#32
  let v263 : BitVec 32 := Scalar.muli arg16 c8_i32_44
  let c1_i32_45 : BitVec 32 := 1#32
  let v264 : BitVec 32 := Scalar.addi v263 c1_i32_45
  let c16_i32_46 : BitVec 32 := 16#32
  let v265 : BitVec 32 := Scalar.muli v264 c16_i32_46
  let v266 : BitVec 32 := v265
  let c0_i32_50 : BitVec 32 := 0#32
  ![v0.toNat, v266.toNat, 0]

def k0_chk12 (i : grid0.Coords) (v268 : BitVec 32) : Prop :=
  (∀ (k0_h2 : k0_cond2 i = 1#1), 16 ∣ (k0_mult20 v268).toNat) ∧
  (∀ (k0_h2 : k0_cond2 i = 1#1), ∀ a, (k0_off55 v268) a + S16x1024.size a ≤ S227328x1024.size a) ∧
  (∀ (k0_h2 : k0_cond2 i = 1#1), ∀ (hinb : ∀ a, (k0_off55 v268) a + S16x1024.size a ≤ S227328x1024.size a), (Rect.unit (s := S227328x1024) (k0_off55 v268) S16x1024.size hinb).WholeWords (EltTy.packing .bf16))
theorem k0_mult20_dvd : ∀ (i : grid0.Coords) (v268 : BitVec 32) (k0_hw12 : k0_chk12 i v268), ∀ (k0_h2 : k0_cond2 i = 1#1), 16 ∣ (k0_mult20 v268).toNat := fun i v268 k0_hw12 k0_h2 => k0_hw12.1 k0_h2
theorem k0_off55_inb : ∀ (i : grid0.Coords) (v268 : BitVec 32) (k0_hw12 : k0_chk12 i v268), ∀ (k0_h2 : k0_cond2 i = 1#1), ∀ a, (k0_off55 v268) a + S16x1024.size a ≤ S227328x1024.size a := fun i v268 k0_hw12 k0_h2 => k0_hw12.2.1 k0_h2
theorem k0_off55_wordsbf16 : ∀ (i : grid0.Coords) (v268 : BitVec 32) (k0_hw12 : k0_chk12 i v268), ∀ (k0_h2 : k0_cond2 i = 1#1), (Rect.unit (s := S227328x1024) (k0_off55 v268) S16x1024.size (k0_off55_inb i v268 k0_hw12 k0_h2)).WholeWords (EltTy.packing .bf16) := fun i v268 k0_hw12 k0_h2 => k0_hw12.2.2 k0_h2 (k0_off55_inb i v268 k0_hw12 k0_h2)

def k0_mult21 (v11 : BitVec 32) (k0_t6 : Fin (k0_t6_loop v11).trips) : BitVec 32 :=
  let c0_i32_31 : BitVec 32 := 0#32
  let c4_i32 : BitVec 32 := 4#32
  let v238 : BitVec 32 := Scalar.shrui v11 c4_i32
  let c3_i32 : BitVec 32 := 3#32
  let v239 : BitVec 32 := Scalar.shrui v238 c3_i32
  let v240 : BitVec 32 := Scalar.subi v239 c0_i32_31
  let c1_i32 : BitVec 32 := 1#32
  let v242 : BitVec 32 := Scalar.divsi v240 c1_i32
  let v243 : BitVec 32 := Scalar.muli v242 c1_i32
  let v244 : BitVec 32 := Scalar.addi c0_i32_31 v243
  let c1_i32_33 : BitVec 32 := 1#32
  let arg16 : BitVec 32 := Scf.iv v244 c1_i32_33 k0_t6
  let c8_i32_51 : BitVec 32 := 8#32
  let v275 : BitVec 32 := Scalar.muli arg16 c8_i32_51
  let c2_i32_52 : BitVec 32 := 2#32
  let v276 : BitVec 32 := Scalar.addi v275 c2_i32_52
  let c16_i32_53 : BitVec 32 := 16#32
  let v277 : BitVec 32 := Scalar.muli v276 c16_i32_53
  v277
def k0_off57 (v11 : BitVec 32) (k0_t6 : Fin (k0_t6_loop v11).trips) : Fin 3 → Nat :=
  let c0_54 : Index := 0#32
  let c0_55 : Index := 0#32
  let c0_i32_31 : BitVec 32 := 0#32
  let c4_i32 : BitVec 32 := 4#32
  let v238 : BitVec 32 := Scalar.shrui v11 c4_i32
  let c3_i32 : BitVec 32 := 3#32
  let v239 : BitVec 32 := Scalar.shrui v238 c3_i32
  let v240 : BitVec 32 := Scalar.subi v239 c0_i32_31
  let c1_i32 : BitVec 32 := 1#32
  let v242 : BitVec 32 := Scalar.divsi v240 c1_i32
  let v243 : BitVec 32 := Scalar.muli v242 c1_i32
  let v244 : BitVec 32 := Scalar.addi c0_i32_31 v243
  let c1_i32_33 : BitVec 32 := 1#32
  let arg16 : BitVec 32 := Scf.iv v244 c1_i32_33 k0_t6
  let c8_i32_51 : BitVec 32 := 8#32
  let v275 : BitVec 32 := Scalar.muli arg16 c8_i32_51
  let c2_i32_52 : BitVec 32 := 2#32
  let v276 : BitVec 32 := Scalar.addi v275 c2_i32_52
  let v279 : Index := Scalar.indexCast v276
  ![0, 0, v279.toNat]
def k0_mult22 (v280 : BitVec 32) : BitVec 32 :=
  v280

def k0_off58 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off59 (v280 : BitVec 32) : Fin 2 → Nat :=
  let v281 : BitVec 32 := v280
  let c0_i32_56 : BitVec 32 := 0#32
  ![v281.toNat, 0]
def k0_off60 (i : grid0.Coords) (v11 : BitVec 32) (k0_t6 : Fin (k0_t6_loop v11).trips) : Fin 3 → Nat :=
  let arg0 : BitVec 32 := BitVec.ofNat 32 (i 0).val
  let c2_i32 : BitVec 32 := 2#32
  let v0 : BitVec 32 := Scalar.remsi arg0 c2_i32
  let c0_i32_31 : BitVec 32 := 0#32
  let c4_i32 : BitVec 32 := 4#32
  let v238 : BitVec 32 := Scalar.shrui v11 c4_i32
  let c3_i32 : BitVec 32 := 3#32
  let v239 : BitVec 32 := Scalar.shrui v238 c3_i32
  let v240 : BitVec 32 := Scalar.subi v239 c0_i32_31
  let c1_i32 : BitVec 32 := 1#32
  let v242 : BitVec 32 := Scalar.divsi v240 c1_i32
  let v243 : BitVec 32 := Scalar.muli v242 c1_i32
  let v244 : BitVec 32 := Scalar.addi c0_i32_31 v243
  let c1_i32_33 : BitVec 32 := 1#32
  let arg16 : BitVec 32 := Scf.iv v244 c1_i32_33 k0_t6
  let c8_i32_51 : BitVec 32 := 8#32
  let v275 : BitVec 32 := Scalar.muli arg16 c8_i32_51
  let c2_i32_52 : BitVec 32 := 2#32
  let v276 : BitVec 32 := Scalar.addi v275 c2_i32_52
  let c16_i32_53 : BitVec 32 := 16#32
  let v277 : BitVec 32 := Scalar.muli v276 c16_i32_53
  let v278 : BitVec 32 := v277
  let c0_i32_57 : BitVec 32 := 0#32
  ![v0.toNat, v278.toNat, 0]

def k0_chk13 (i : grid0.Coords) (v280 : BitVec 32) : Prop :=
  (∀ (k0_h2 : k0_cond2 i = 1#1), 16 ∣ (k0_mult22 v280).toNat) ∧
  (∀ (k0_h2 : k0_cond2 i = 1#1), ∀ a, (k0_off59 v280) a + S16x1024.size a ≤ S227328x1024.size a) ∧
  (∀ (k0_h2 : k0_cond2 i = 1#1), ∀ (hinb : ∀ a, (k0_off59 v280) a + S16x1024.size a ≤ S227328x1024.size a), (Rect.unit (s := S227328x1024) (k0_off59 v280) S16x1024.size hinb).WholeWords (EltTy.packing .bf16))
theorem k0_mult22_dvd : ∀ (i : grid0.Coords) (v280 : BitVec 32) (k0_hw13 : k0_chk13 i v280), ∀ (k0_h2 : k0_cond2 i = 1#1), 16 ∣ (k0_mult22 v280).toNat := fun i v280 k0_hw13 k0_h2 => k0_hw13.1 k0_h2
theorem k0_off59_inb : ∀ (i : grid0.Coords) (v280 : BitVec 32) (k0_hw13 : k0_chk13 i v280), ∀ (k0_h2 : k0_cond2 i = 1#1), ∀ a, (k0_off59 v280) a + S16x1024.size a ≤ S227328x1024.size a := fun i v280 k0_hw13 k0_h2 => k0_hw13.2.1 k0_h2
theorem k0_off59_wordsbf16 : ∀ (i : grid0.Coords) (v280 : BitVec 32) (k0_hw13 : k0_chk13 i v280), ∀ (k0_h2 : k0_cond2 i = 1#1), (Rect.unit (s := S227328x1024) (k0_off59 v280) S16x1024.size (k0_off59_inb i v280 k0_hw13 k0_h2)).WholeWords (EltTy.packing .bf16) := fun i v280 k0_hw13 k0_h2 => k0_hw13.2.2 k0_h2 (k0_off59_inb i v280 k0_hw13 k0_h2)

def k0_mult23 (v11 : BitVec 32) (k0_t6 : Fin (k0_t6_loop v11).trips) : BitVec 32 :=
  let c0_i32_31 : BitVec 32 := 0#32
  let c4_i32 : BitVec 32 := 4#32
  let v238 : BitVec 32 := Scalar.shrui v11 c4_i32
  let c3_i32 : BitVec 32 := 3#32
  let v239 : BitVec 32 := Scalar.shrui v238 c3_i32
  let v240 : BitVec 32 := Scalar.subi v239 c0_i32_31
  let c1_i32 : BitVec 32 := 1#32
  let v242 : BitVec 32 := Scalar.divsi v240 c1_i32
  let v243 : BitVec 32 := Scalar.muli v242 c1_i32
  let v244 : BitVec 32 := Scalar.addi c0_i32_31 v243
  let c1_i32_33 : BitVec 32 := 1#32
  let arg16 : BitVec 32 := Scf.iv v244 c1_i32_33 k0_t6
  let c8_i32_58 : BitVec 32 := 8#32
  let v287 : BitVec 32 := Scalar.muli arg16 c8_i32_58
  let c3_i32_59 : BitVec 32 := 3#32
  let v288 : BitVec 32 := Scalar.addi v287 c3_i32_59
  let c16_i32_60 : BitVec 32 := 16#32
  let v289 : BitVec 32 := Scalar.muli v288 c16_i32_60
  v289
def k0_off61 (v11 : BitVec 32) (k0_t6 : Fin (k0_t6_loop v11).trips) : Fin 3 → Nat :=
  let c0_61 : Index := 0#32
  let c0_62 : Index := 0#32
  let c0_i32_31 : BitVec 32 := 0#32
  let c4_i32 : BitVec 32 := 4#32
  let v238 : BitVec 32 := Scalar.shrui v11 c4_i32
  let c3_i32 : BitVec 32 := 3#32
  let v239 : BitVec 32 := Scalar.shrui v238 c3_i32
  let v240 : BitVec 32 := Scalar.subi v239 c0_i32_31
  let c1_i32 : BitVec 32 := 1#32
  let v242 : BitVec 32 := Scalar.divsi v240 c1_i32
  let v243 : BitVec 32 := Scalar.muli v242 c1_i32
  let v244 : BitVec 32 := Scalar.addi c0_i32_31 v243
  let c1_i32_33 : BitVec 32 := 1#32
  let arg16 : BitVec 32 := Scf.iv v244 c1_i32_33 k0_t6
  let c8_i32_58 : BitVec 32 := 8#32
  let v287 : BitVec 32 := Scalar.muli arg16 c8_i32_58
  let c3_i32_59 : BitVec 32 := 3#32
  let v288 : BitVec 32 := Scalar.addi v287 c3_i32_59
  let v291 : Index := Scalar.indexCast v288
  ![0, 0, v291.toNat]
def k0_mult24 (v292 : BitVec 32) : BitVec 32 :=
  v292

def k0_off62 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off63 (v292 : BitVec 32) : Fin 2 → Nat :=
  let v293 : BitVec 32 := v292
  let c0_i32_63 : BitVec 32 := 0#32
  ![v293.toNat, 0]
def k0_off64 (i : grid0.Coords) (v11 : BitVec 32) (k0_t6 : Fin (k0_t6_loop v11).trips) : Fin 3 → Nat :=
  let arg0 : BitVec 32 := BitVec.ofNat 32 (i 0).val
  let c2_i32 : BitVec 32 := 2#32
  let v0 : BitVec 32 := Scalar.remsi arg0 c2_i32
  let c0_i32_31 : BitVec 32 := 0#32
  let c4_i32 : BitVec 32 := 4#32
  let v238 : BitVec 32 := Scalar.shrui v11 c4_i32
  let c3_i32 : BitVec 32 := 3#32
  let v239 : BitVec 32 := Scalar.shrui v238 c3_i32
  let v240 : BitVec 32 := Scalar.subi v239 c0_i32_31
  let c1_i32 : BitVec 32 := 1#32
  let v242 : BitVec 32 := Scalar.divsi v240 c1_i32
  let v243 : BitVec 32 := Scalar.muli v242 c1_i32
  let v244 : BitVec 32 := Scalar.addi c0_i32_31 v243
  let c1_i32_33 : BitVec 32 := 1#32
  let arg16 : BitVec 32 := Scf.iv v244 c1_i32_33 k0_t6
  let c8_i32_58 : BitVec 32 := 8#32
  let v287 : BitVec 32 := Scalar.muli arg16 c8_i32_58
  let c3_i32_59 : BitVec 32 := 3#32
  let v288 : BitVec 32 := Scalar.addi v287 c3_i32_59
  let c16_i32_60 : BitVec 32 := 16#32
  let v289 : BitVec 32 := Scalar.muli v288 c16_i32_60
  let v290 : BitVec 32 := v289
  let c0_i32_64 : BitVec 32 := 0#32
  ![v0.toNat, v290.toNat, 0]

def k0_chk14 (i : grid0.Coords) (v292 : BitVec 32) : Prop :=
  (∀ (k0_h2 : k0_cond2 i = 1#1), 16 ∣ (k0_mult24 v292).toNat) ∧
  (∀ (k0_h2 : k0_cond2 i = 1#1), ∀ a, (k0_off63 v292) a + S16x1024.size a ≤ S227328x1024.size a) ∧
  (∀ (k0_h2 : k0_cond2 i = 1#1), ∀ (hinb : ∀ a, (k0_off63 v292) a + S16x1024.size a ≤ S227328x1024.size a), (Rect.unit (s := S227328x1024) (k0_off63 v292) S16x1024.size hinb).WholeWords (EltTy.packing .bf16))
theorem k0_mult24_dvd : ∀ (i : grid0.Coords) (v292 : BitVec 32) (k0_hw14 : k0_chk14 i v292), ∀ (k0_h2 : k0_cond2 i = 1#1), 16 ∣ (k0_mult24 v292).toNat := fun i v292 k0_hw14 k0_h2 => k0_hw14.1 k0_h2
theorem k0_off63_inb : ∀ (i : grid0.Coords) (v292 : BitVec 32) (k0_hw14 : k0_chk14 i v292), ∀ (k0_h2 : k0_cond2 i = 1#1), ∀ a, (k0_off63 v292) a + S16x1024.size a ≤ S227328x1024.size a := fun i v292 k0_hw14 k0_h2 => k0_hw14.2.1 k0_h2
theorem k0_off63_wordsbf16 : ∀ (i : grid0.Coords) (v292 : BitVec 32) (k0_hw14 : k0_chk14 i v292), ∀ (k0_h2 : k0_cond2 i = 1#1), (Rect.unit (s := S227328x1024) (k0_off63 v292) S16x1024.size (k0_off63_inb i v292 k0_hw14 k0_h2)).WholeWords (EltTy.packing .bf16) := fun i v292 k0_hw14 k0_h2 => k0_hw14.2.2 k0_h2 (k0_off63_inb i v292 k0_hw14 k0_h2)

def k0_mult25 (v11 : BitVec 32) (k0_t6 : Fin (k0_t6_loop v11).trips) : BitVec 32 :=
  let c0_i32_31 : BitVec 32 := 0#32
  let c4_i32 : BitVec 32 := 4#32
  let v238 : BitVec 32 := Scalar.shrui v11 c4_i32
  let c3_i32 : BitVec 32 := 3#32
  let v239 : BitVec 32 := Scalar.shrui v238 c3_i32
  let v240 : BitVec 32 := Scalar.subi v239 c0_i32_31
  let c1_i32 : BitVec 32 := 1#32
  let v242 : BitVec 32 := Scalar.divsi v240 c1_i32
  let v243 : BitVec 32 := Scalar.muli v242 c1_i32
  let v244 : BitVec 32 := Scalar.addi c0_i32_31 v243
  let c1_i32_33 : BitVec 32 := 1#32
  let arg16 : BitVec 32 := Scf.iv v244 c1_i32_33 k0_t6
  let c8_i32_65 : BitVec 32 := 8#32
  let v299 : BitVec 32 := Scalar.muli arg16 c8_i32_65
  let c4_i32_66 : BitVec 32 := 4#32
  let v300 : BitVec 32 := Scalar.addi v299 c4_i32_66
  let c16_i32_67 : BitVec 32 := 16#32
  let v301 : BitVec 32 := Scalar.muli v300 c16_i32_67
  v301
def k0_off65 (v11 : BitVec 32) (k0_t6 : Fin (k0_t6_loop v11).trips) : Fin 3 → Nat :=
  let c0_68 : Index := 0#32
  let c0_69 : Index := 0#32
  let c0_i32_31 : BitVec 32 := 0#32
  let c4_i32 : BitVec 32 := 4#32
  let v238 : BitVec 32 := Scalar.shrui v11 c4_i32
  let c3_i32 : BitVec 32 := 3#32
  let v239 : BitVec 32 := Scalar.shrui v238 c3_i32
  let v240 : BitVec 32 := Scalar.subi v239 c0_i32_31
  let c1_i32 : BitVec 32 := 1#32
  let v242 : BitVec 32 := Scalar.divsi v240 c1_i32
  let v243 : BitVec 32 := Scalar.muli v242 c1_i32
  let v244 : BitVec 32 := Scalar.addi c0_i32_31 v243
  let c1_i32_33 : BitVec 32 := 1#32
  let arg16 : BitVec 32 := Scf.iv v244 c1_i32_33 k0_t6
  let c8_i32_65 : BitVec 32 := 8#32
  let v299 : BitVec 32 := Scalar.muli arg16 c8_i32_65
  let c4_i32_66 : BitVec 32 := 4#32
  let v300 : BitVec 32 := Scalar.addi v299 c4_i32_66
  let v303 : Index := Scalar.indexCast v300
  ![0, 0, v303.toNat]
def k0_mult26 (v304 : BitVec 32) : BitVec 32 :=
  v304

def k0_off66 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off67 (v304 : BitVec 32) : Fin 2 → Nat :=
  let v305 : BitVec 32 := v304
  let c0_i32_70 : BitVec 32 := 0#32
  ![v305.toNat, 0]
def k0_off68 (i : grid0.Coords) (v11 : BitVec 32) (k0_t6 : Fin (k0_t6_loop v11).trips) : Fin 3 → Nat :=
  let arg0 : BitVec 32 := BitVec.ofNat 32 (i 0).val
  let c2_i32 : BitVec 32 := 2#32
  let v0 : BitVec 32 := Scalar.remsi arg0 c2_i32
  let c0_i32_31 : BitVec 32 := 0#32
  let c4_i32 : BitVec 32 := 4#32
  let v238 : BitVec 32 := Scalar.shrui v11 c4_i32
  let c3_i32 : BitVec 32 := 3#32
  let v239 : BitVec 32 := Scalar.shrui v238 c3_i32
  let v240 : BitVec 32 := Scalar.subi v239 c0_i32_31
  let c1_i32 : BitVec 32 := 1#32
  let v242 : BitVec 32 := Scalar.divsi v240 c1_i32
  let v243 : BitVec 32 := Scalar.muli v242 c1_i32
  let v244 : BitVec 32 := Scalar.addi c0_i32_31 v243
  let c1_i32_33 : BitVec 32 := 1#32
  let arg16 : BitVec 32 := Scf.iv v244 c1_i32_33 k0_t6
  let c8_i32_65 : BitVec 32 := 8#32
  let v299 : BitVec 32 := Scalar.muli arg16 c8_i32_65
  let c4_i32_66 : BitVec 32 := 4#32
  let v300 : BitVec 32 := Scalar.addi v299 c4_i32_66
  let c16_i32_67 : BitVec 32 := 16#32
  let v301 : BitVec 32 := Scalar.muli v300 c16_i32_67
  let v302 : BitVec 32 := v301
  let c0_i32_71 : BitVec 32 := 0#32
  ![v0.toNat, v302.toNat, 0]

def k0_chk15 (i : grid0.Coords) (v304 : BitVec 32) : Prop :=
  (∀ (k0_h2 : k0_cond2 i = 1#1), 16 ∣ (k0_mult26 v304).toNat) ∧
  (∀ (k0_h2 : k0_cond2 i = 1#1), ∀ a, (k0_off67 v304) a + S16x1024.size a ≤ S227328x1024.size a) ∧
  (∀ (k0_h2 : k0_cond2 i = 1#1), ∀ (hinb : ∀ a, (k0_off67 v304) a + S16x1024.size a ≤ S227328x1024.size a), (Rect.unit (s := S227328x1024) (k0_off67 v304) S16x1024.size hinb).WholeWords (EltTy.packing .bf16))
theorem k0_mult26_dvd : ∀ (i : grid0.Coords) (v304 : BitVec 32) (k0_hw15 : k0_chk15 i v304), ∀ (k0_h2 : k0_cond2 i = 1#1), 16 ∣ (k0_mult26 v304).toNat := fun i v304 k0_hw15 k0_h2 => k0_hw15.1 k0_h2
theorem k0_off67_inb : ∀ (i : grid0.Coords) (v304 : BitVec 32) (k0_hw15 : k0_chk15 i v304), ∀ (k0_h2 : k0_cond2 i = 1#1), ∀ a, (k0_off67 v304) a + S16x1024.size a ≤ S227328x1024.size a := fun i v304 k0_hw15 k0_h2 => k0_hw15.2.1 k0_h2
theorem k0_off67_wordsbf16 : ∀ (i : grid0.Coords) (v304 : BitVec 32) (k0_hw15 : k0_chk15 i v304), ∀ (k0_h2 : k0_cond2 i = 1#1), (Rect.unit (s := S227328x1024) (k0_off67 v304) S16x1024.size (k0_off67_inb i v304 k0_hw15 k0_h2)).WholeWords (EltTy.packing .bf16) := fun i v304 k0_hw15 k0_h2 => k0_hw15.2.2 k0_h2 (k0_off67_inb i v304 k0_hw15 k0_h2)

def k0_mult27 (v11 : BitVec 32) (k0_t6 : Fin (k0_t6_loop v11).trips) : BitVec 32 :=
  let c0_i32_31 : BitVec 32 := 0#32
  let c4_i32 : BitVec 32 := 4#32
  let v238 : BitVec 32 := Scalar.shrui v11 c4_i32
  let c3_i32 : BitVec 32 := 3#32
  let v239 : BitVec 32 := Scalar.shrui v238 c3_i32
  let v240 : BitVec 32 := Scalar.subi v239 c0_i32_31
  let c1_i32 : BitVec 32 := 1#32
  let v242 : BitVec 32 := Scalar.divsi v240 c1_i32
  let v243 : BitVec 32 := Scalar.muli v242 c1_i32
  let v244 : BitVec 32 := Scalar.addi c0_i32_31 v243
  let c1_i32_33 : BitVec 32 := 1#32
  let arg16 : BitVec 32 := Scf.iv v244 c1_i32_33 k0_t6
  let c8_i32_72 : BitVec 32 := 8#32
  let v311 : BitVec 32 := Scalar.muli arg16 c8_i32_72
  let c5_i32 : BitVec 32 := 5#32
  let v312 : BitVec 32 := Scalar.addi v311 c5_i32
  let c16_i32_73 : BitVec 32 := 16#32
  let v313 : BitVec 32 := Scalar.muli v312 c16_i32_73
  v313
def k0_off69 (v11 : BitVec 32) (k0_t6 : Fin (k0_t6_loop v11).trips) : Fin 3 → Nat :=
  let c0_74 : Index := 0#32
  let c0_75 : Index := 0#32
  let c0_i32_31 : BitVec 32 := 0#32
  let c4_i32 : BitVec 32 := 4#32
  let v238 : BitVec 32 := Scalar.shrui v11 c4_i32
  let c3_i32 : BitVec 32 := 3#32
  let v239 : BitVec 32 := Scalar.shrui v238 c3_i32
  let v240 : BitVec 32 := Scalar.subi v239 c0_i32_31
  let c1_i32 : BitVec 32 := 1#32
  let v242 : BitVec 32 := Scalar.divsi v240 c1_i32
  let v243 : BitVec 32 := Scalar.muli v242 c1_i32
  let v244 : BitVec 32 := Scalar.addi c0_i32_31 v243
  let c1_i32_33 : BitVec 32 := 1#32
  let arg16 : BitVec 32 := Scf.iv v244 c1_i32_33 k0_t6
  let c8_i32_72 : BitVec 32 := 8#32
  let v311 : BitVec 32 := Scalar.muli arg16 c8_i32_72
  let c5_i32 : BitVec 32 := 5#32
  let v312 : BitVec 32 := Scalar.addi v311 c5_i32
  let v315 : Index := Scalar.indexCast v312
  ![0, 0, v315.toNat]
def k0_mult28 (v316 : BitVec 32) : BitVec 32 :=
  v316

def k0_off70 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off71 (v316 : BitVec 32) : Fin 2 → Nat :=
  let v317 : BitVec 32 := v316
  let c0_i32_76 : BitVec 32 := 0#32
  ![v317.toNat, 0]
def k0_off72 (i : grid0.Coords) (v11 : BitVec 32) (k0_t6 : Fin (k0_t6_loop v11).trips) : Fin 3 → Nat :=
  let arg0 : BitVec 32 := BitVec.ofNat 32 (i 0).val
  let c2_i32 : BitVec 32 := 2#32
  let v0 : BitVec 32 := Scalar.remsi arg0 c2_i32
  let c0_i32_31 : BitVec 32 := 0#32
  let c4_i32 : BitVec 32 := 4#32
  let v238 : BitVec 32 := Scalar.shrui v11 c4_i32
  let c3_i32 : BitVec 32 := 3#32
  let v239 : BitVec 32 := Scalar.shrui v238 c3_i32
  let v240 : BitVec 32 := Scalar.subi v239 c0_i32_31
  let c1_i32 : BitVec 32 := 1#32
  let v242 : BitVec 32 := Scalar.divsi v240 c1_i32
  let v243 : BitVec 32 := Scalar.muli v242 c1_i32
  let v244 : BitVec 32 := Scalar.addi c0_i32_31 v243
  let c1_i32_33 : BitVec 32 := 1#32
  let arg16 : BitVec 32 := Scf.iv v244 c1_i32_33 k0_t6
  let c8_i32_72 : BitVec 32 := 8#32
  let v311 : BitVec 32 := Scalar.muli arg16 c8_i32_72
  let c5_i32 : BitVec 32 := 5#32
  let v312 : BitVec 32 := Scalar.addi v311 c5_i32
  let c16_i32_73 : BitVec 32 := 16#32
  let v313 : BitVec 32 := Scalar.muli v312 c16_i32_73
  let v314 : BitVec 32 := v313
  let c0_i32_77 : BitVec 32 := 0#32
  ![v0.toNat, v314.toNat, 0]

def k0_chk16 (i : grid0.Coords) (v316 : BitVec 32) : Prop :=
  (∀ (k0_h2 : k0_cond2 i = 1#1), 16 ∣ (k0_mult28 v316).toNat) ∧
  (∀ (k0_h2 : k0_cond2 i = 1#1), ∀ a, (k0_off71 v316) a + S16x1024.size a ≤ S227328x1024.size a) ∧
  (∀ (k0_h2 : k0_cond2 i = 1#1), ∀ (hinb : ∀ a, (k0_off71 v316) a + S16x1024.size a ≤ S227328x1024.size a), (Rect.unit (s := S227328x1024) (k0_off71 v316) S16x1024.size hinb).WholeWords (EltTy.packing .bf16))
theorem k0_mult28_dvd : ∀ (i : grid0.Coords) (v316 : BitVec 32) (k0_hw16 : k0_chk16 i v316), ∀ (k0_h2 : k0_cond2 i = 1#1), 16 ∣ (k0_mult28 v316).toNat := fun i v316 k0_hw16 k0_h2 => k0_hw16.1 k0_h2
theorem k0_off71_inb : ∀ (i : grid0.Coords) (v316 : BitVec 32) (k0_hw16 : k0_chk16 i v316), ∀ (k0_h2 : k0_cond2 i = 1#1), ∀ a, (k0_off71 v316) a + S16x1024.size a ≤ S227328x1024.size a := fun i v316 k0_hw16 k0_h2 => k0_hw16.2.1 k0_h2
theorem k0_off71_wordsbf16 : ∀ (i : grid0.Coords) (v316 : BitVec 32) (k0_hw16 : k0_chk16 i v316), ∀ (k0_h2 : k0_cond2 i = 1#1), (Rect.unit (s := S227328x1024) (k0_off71 v316) S16x1024.size (k0_off71_inb i v316 k0_hw16 k0_h2)).WholeWords (EltTy.packing .bf16) := fun i v316 k0_hw16 k0_h2 => k0_hw16.2.2 k0_h2 (k0_off71_inb i v316 k0_hw16 k0_h2)

def k0_mult29 (v11 : BitVec 32) (k0_t6 : Fin (k0_t6_loop v11).trips) : BitVec 32 :=
  let c0_i32_31 : BitVec 32 := 0#32
  let c4_i32 : BitVec 32 := 4#32
  let v238 : BitVec 32 := Scalar.shrui v11 c4_i32
  let c3_i32 : BitVec 32 := 3#32
  let v239 : BitVec 32 := Scalar.shrui v238 c3_i32
  let v240 : BitVec 32 := Scalar.subi v239 c0_i32_31
  let c1_i32 : BitVec 32 := 1#32
  let v242 : BitVec 32 := Scalar.divsi v240 c1_i32
  let v243 : BitVec 32 := Scalar.muli v242 c1_i32
  let v244 : BitVec 32 := Scalar.addi c0_i32_31 v243
  let c1_i32_33 : BitVec 32 := 1#32
  let arg16 : BitVec 32 := Scf.iv v244 c1_i32_33 k0_t6
  let c8_i32_78 : BitVec 32 := 8#32
  let v323 : BitVec 32 := Scalar.muli arg16 c8_i32_78
  let c6_i32 : BitVec 32 := 6#32
  let v324 : BitVec 32 := Scalar.addi v323 c6_i32
  let c16_i32_79 : BitVec 32 := 16#32
  let v325 : BitVec 32 := Scalar.muli v324 c16_i32_79
  v325
def k0_off73 (v11 : BitVec 32) (k0_t6 : Fin (k0_t6_loop v11).trips) : Fin 3 → Nat :=
  let c0_80 : Index := 0#32
  let c0_81 : Index := 0#32
  let c0_i32_31 : BitVec 32 := 0#32
  let c4_i32 : BitVec 32 := 4#32
  let v238 : BitVec 32 := Scalar.shrui v11 c4_i32
  let c3_i32 : BitVec 32 := 3#32
  let v239 : BitVec 32 := Scalar.shrui v238 c3_i32
  let v240 : BitVec 32 := Scalar.subi v239 c0_i32_31
  let c1_i32 : BitVec 32 := 1#32
  let v242 : BitVec 32 := Scalar.divsi v240 c1_i32
  let v243 : BitVec 32 := Scalar.muli v242 c1_i32
  let v244 : BitVec 32 := Scalar.addi c0_i32_31 v243
  let c1_i32_33 : BitVec 32 := 1#32
  let arg16 : BitVec 32 := Scf.iv v244 c1_i32_33 k0_t6
  let c8_i32_78 : BitVec 32 := 8#32
  let v323 : BitVec 32 := Scalar.muli arg16 c8_i32_78
  let c6_i32 : BitVec 32 := 6#32
  let v324 : BitVec 32 := Scalar.addi v323 c6_i32
  let v327 : Index := Scalar.indexCast v324
  ![0, 0, v327.toNat]
def k0_mult30 (v328 : BitVec 32) : BitVec 32 :=
  v328

def k0_off74 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off75 (v328 : BitVec 32) : Fin 2 → Nat :=
  let v329 : BitVec 32 := v328
  let c0_i32_82 : BitVec 32 := 0#32
  ![v329.toNat, 0]
def k0_off76 (i : grid0.Coords) (v11 : BitVec 32) (k0_t6 : Fin (k0_t6_loop v11).trips) : Fin 3 → Nat :=
  let arg0 : BitVec 32 := BitVec.ofNat 32 (i 0).val
  let c2_i32 : BitVec 32 := 2#32
  let v0 : BitVec 32 := Scalar.remsi arg0 c2_i32
  let c0_i32_31 : BitVec 32 := 0#32
  let c4_i32 : BitVec 32 := 4#32
  let v238 : BitVec 32 := Scalar.shrui v11 c4_i32
  let c3_i32 : BitVec 32 := 3#32
  let v239 : BitVec 32 := Scalar.shrui v238 c3_i32
  let v240 : BitVec 32 := Scalar.subi v239 c0_i32_31
  let c1_i32 : BitVec 32 := 1#32
  let v242 : BitVec 32 := Scalar.divsi v240 c1_i32
  let v243 : BitVec 32 := Scalar.muli v242 c1_i32
  let v244 : BitVec 32 := Scalar.addi c0_i32_31 v243
  let c1_i32_33 : BitVec 32 := 1#32
  let arg16 : BitVec 32 := Scf.iv v244 c1_i32_33 k0_t6
  let c8_i32_78 : BitVec 32 := 8#32
  let v323 : BitVec 32 := Scalar.muli arg16 c8_i32_78
  let c6_i32 : BitVec 32 := 6#32
  let v324 : BitVec 32 := Scalar.addi v323 c6_i32
  let c16_i32_79 : BitVec 32 := 16#32
  let v325 : BitVec 32 := Scalar.muli v324 c16_i32_79
  let v326 : BitVec 32 := v325
  let c0_i32_83 : BitVec 32 := 0#32
  ![v0.toNat, v326.toNat, 0]

def k0_chk17 (i : grid0.Coords) (v328 : BitVec 32) : Prop :=
  (∀ (k0_h2 : k0_cond2 i = 1#1), 16 ∣ (k0_mult30 v328).toNat) ∧
  (∀ (k0_h2 : k0_cond2 i = 1#1), ∀ a, (k0_off75 v328) a + S16x1024.size a ≤ S227328x1024.size a) ∧
  (∀ (k0_h2 : k0_cond2 i = 1#1), ∀ (hinb : ∀ a, (k0_off75 v328) a + S16x1024.size a ≤ S227328x1024.size a), (Rect.unit (s := S227328x1024) (k0_off75 v328) S16x1024.size hinb).WholeWords (EltTy.packing .bf16))
theorem k0_mult30_dvd : ∀ (i : grid0.Coords) (v328 : BitVec 32) (k0_hw17 : k0_chk17 i v328), ∀ (k0_h2 : k0_cond2 i = 1#1), 16 ∣ (k0_mult30 v328).toNat := fun i v328 k0_hw17 k0_h2 => k0_hw17.1 k0_h2
theorem k0_off75_inb : ∀ (i : grid0.Coords) (v328 : BitVec 32) (k0_hw17 : k0_chk17 i v328), ∀ (k0_h2 : k0_cond2 i = 1#1), ∀ a, (k0_off75 v328) a + S16x1024.size a ≤ S227328x1024.size a := fun i v328 k0_hw17 k0_h2 => k0_hw17.2.1 k0_h2
theorem k0_off75_wordsbf16 : ∀ (i : grid0.Coords) (v328 : BitVec 32) (k0_hw17 : k0_chk17 i v328), ∀ (k0_h2 : k0_cond2 i = 1#1), (Rect.unit (s := S227328x1024) (k0_off75 v328) S16x1024.size (k0_off75_inb i v328 k0_hw17 k0_h2)).WholeWords (EltTy.packing .bf16) := fun i v328 k0_hw17 k0_h2 => k0_hw17.2.2 k0_h2 (k0_off75_inb i v328 k0_hw17 k0_h2)

def k0_mult31 (v11 : BitVec 32) (k0_t6 : Fin (k0_t6_loop v11).trips) : BitVec 32 :=
  let c0_i32_31 : BitVec 32 := 0#32
  let c4_i32 : BitVec 32 := 4#32
  let v238 : BitVec 32 := Scalar.shrui v11 c4_i32
  let c3_i32 : BitVec 32 := 3#32
  let v239 : BitVec 32 := Scalar.shrui v238 c3_i32
  let v240 : BitVec 32 := Scalar.subi v239 c0_i32_31
  let c1_i32 : BitVec 32 := 1#32
  let v242 : BitVec 32 := Scalar.divsi v240 c1_i32
  let v243 : BitVec 32 := Scalar.muli v242 c1_i32
  let v244 : BitVec 32 := Scalar.addi c0_i32_31 v243
  let c1_i32_33 : BitVec 32 := 1#32
  let arg16 : BitVec 32 := Scf.iv v244 c1_i32_33 k0_t6
  let c8_i32_84 : BitVec 32 := 8#32
  let v335 : BitVec 32 := Scalar.muli arg16 c8_i32_84
  let c7_i32 : BitVec 32 := 7#32
  let v336 : BitVec 32 := Scalar.addi v335 c7_i32
  let c16_i32_85 : BitVec 32 := 16#32
  let v337 : BitVec 32 := Scalar.muli v336 c16_i32_85
  v337
def k0_off77 (v11 : BitVec 32) (k0_t6 : Fin (k0_t6_loop v11).trips) : Fin 3 → Nat :=
  let c0_86 : Index := 0#32
  let c0_87 : Index := 0#32
  let c0_i32_31 : BitVec 32 := 0#32
  let c4_i32 : BitVec 32 := 4#32
  let v238 : BitVec 32 := Scalar.shrui v11 c4_i32
  let c3_i32 : BitVec 32 := 3#32
  let v239 : BitVec 32 := Scalar.shrui v238 c3_i32
  let v240 : BitVec 32 := Scalar.subi v239 c0_i32_31
  let c1_i32 : BitVec 32 := 1#32
  let v242 : BitVec 32 := Scalar.divsi v240 c1_i32
  let v243 : BitVec 32 := Scalar.muli v242 c1_i32
  let v244 : BitVec 32 := Scalar.addi c0_i32_31 v243
  let c1_i32_33 : BitVec 32 := 1#32
  let arg16 : BitVec 32 := Scf.iv v244 c1_i32_33 k0_t6
  let c8_i32_84 : BitVec 32 := 8#32
  let v335 : BitVec 32 := Scalar.muli arg16 c8_i32_84
  let c7_i32 : BitVec 32 := 7#32
  let v336 : BitVec 32 := Scalar.addi v335 c7_i32
  let v339 : Index := Scalar.indexCast v336
  ![0, 0, v339.toNat]
def k0_mult32 (v340 : BitVec 32) : BitVec 32 :=
  v340

def k0_off78 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off79 (v340 : BitVec 32) : Fin 2 → Nat :=
  let v341 : BitVec 32 := v340
  let c0_i32_88 : BitVec 32 := 0#32
  ![v341.toNat, 0]
def k0_off80 (i : grid0.Coords) (v11 : BitVec 32) (k0_t6 : Fin (k0_t6_loop v11).trips) : Fin 3 → Nat :=
  let arg0 : BitVec 32 := BitVec.ofNat 32 (i 0).val
  let c2_i32 : BitVec 32 := 2#32
  let v0 : BitVec 32 := Scalar.remsi arg0 c2_i32
  let c0_i32_31 : BitVec 32 := 0#32
  let c4_i32 : BitVec 32 := 4#32
  let v238 : BitVec 32 := Scalar.shrui v11 c4_i32
  let c3_i32 : BitVec 32 := 3#32
  let v239 : BitVec 32 := Scalar.shrui v238 c3_i32
  let v240 : BitVec 32 := Scalar.subi v239 c0_i32_31
  let c1_i32 : BitVec 32 := 1#32
  let v242 : BitVec 32 := Scalar.divsi v240 c1_i32
  let v243 : BitVec 32 := Scalar.muli v242 c1_i32
  let v244 : BitVec 32 := Scalar.addi c0_i32_31 v243
  let c1_i32_33 : BitVec 32 := 1#32
  let arg16 : BitVec 32 := Scf.iv v244 c1_i32_33 k0_t6
  let c8_i32_84 : BitVec 32 := 8#32
  let v335 : BitVec 32 := Scalar.muli arg16 c8_i32_84
  let c7_i32 : BitVec 32 := 7#32
  let v336 : BitVec 32 := Scalar.addi v335 c7_i32
  let c16_i32_85 : BitVec 32 := 16#32
  let v337 : BitVec 32 := Scalar.muli v336 c16_i32_85
  let v338 : BitVec 32 := v337
  let c0_i32_89 : BitVec 32 := 0#32
  ![v0.toNat, v338.toNat, 0]

def k0_chk18 (i : grid0.Coords) (v340 : BitVec 32) : Prop :=
  (∀ (k0_h2 : k0_cond2 i = 1#1), 16 ∣ (k0_mult32 v340).toNat) ∧
  (∀ (k0_h2 : k0_cond2 i = 1#1), ∀ a, (k0_off79 v340) a + S16x1024.size a ≤ S227328x1024.size a) ∧
  (∀ (k0_h2 : k0_cond2 i = 1#1), ∀ (hinb : ∀ a, (k0_off79 v340) a + S16x1024.size a ≤ S227328x1024.size a), (Rect.unit (s := S227328x1024) (k0_off79 v340) S16x1024.size hinb).WholeWords (EltTy.packing .bf16))
theorem k0_mult32_dvd : ∀ (i : grid0.Coords) (v340 : BitVec 32) (k0_hw18 : k0_chk18 i v340), ∀ (k0_h2 : k0_cond2 i = 1#1), 16 ∣ (k0_mult32 v340).toNat := fun i v340 k0_hw18 k0_h2 => k0_hw18.1 k0_h2
theorem k0_off79_inb : ∀ (i : grid0.Coords) (v340 : BitVec 32) (k0_hw18 : k0_chk18 i v340), ∀ (k0_h2 : k0_cond2 i = 1#1), ∀ a, (k0_off79 v340) a + S16x1024.size a ≤ S227328x1024.size a := fun i v340 k0_hw18 k0_h2 => k0_hw18.2.1 k0_h2
theorem k0_off79_wordsbf16 : ∀ (i : grid0.Coords) (v340 : BitVec 32) (k0_hw18 : k0_chk18 i v340), ∀ (k0_h2 : k0_cond2 i = 1#1), (Rect.unit (s := S227328x1024) (k0_off79 v340) S16x1024.size (k0_off79_inb i v340 k0_hw18 k0_h2)).WholeWords (EltTy.packing .bf16) := fun i v340 k0_hw18 k0_h2 => k0_hw18.2.2 k0_h2 (k0_off79_inb i v340 k0_hw18 k0_h2)

@[reducible] def k0_t7_loop (v11 : BitVec 32) : Scf.Loop 32 :=
  let c4_i32 : BitVec 32 := 4#32
  let v238 : BitVec 32 := Scalar.shrui v11 c4_i32
  let c3_i32 : BitVec 32 := 3#32
  let v239 : BitVec 32 := Scalar.shrui v238 c3_i32
  let c8_i32 : BitVec 32 := 8#32
  let v245 : BitVec 32 := Scalar.muli v239 c8_i32
  let v246 : BitVec 32 := Scalar.subi v238 v245
  let c1_i32_35 : BitVec 32 := 1#32
  let v248 : BitVec 32 := Scalar.divsi v246 c1_i32_35
  let v249 : BitVec 32 := Scalar.muli v248 c1_i32_35
  let v250 : BitVec 32 := Scalar.addi v245 v249
  let c1_i32_36 : BitVec 32 := 1#32
  ⟨v245, v250, c1_i32_36⟩
def k0_mult33 (v11 : BitVec 32) (k0_t7 : Fin (k0_t7_loop v11).trips) : BitVec 32 :=
  let c4_i32 : BitVec 32 := 4#32
  let v238 : BitVec 32 := Scalar.shrui v11 c4_i32
  let c3_i32 : BitVec 32 := 3#32
  let v239 : BitVec 32 := Scalar.shrui v238 c3_i32
  let c8_i32 : BitVec 32 := 8#32
  let v245 : BitVec 32 := Scalar.muli v239 c8_i32
  let c1_i32_36 : BitVec 32 := 1#32
  let arg16 : BitVec 32 := Scf.iv v245 c1_i32_36 k0_t7
  let c16_i32 : BitVec 32 := 16#32
  let v251 : BitVec 32 := Scalar.muli arg16 c16_i32
  v251
def k0_off81 (v11 : BitVec 32) (k0_t7 : Fin (k0_t7_loop v11).trips) : Fin 3 → Nat :=
  let c0_38 : Index := 0#32
  let c0_39 : Index := 0#32
  let c4_i32 : BitVec 32 := 4#32
  let v238 : BitVec 32 := Scalar.shrui v11 c4_i32
  let c3_i32 : BitVec 32 := 3#32
  let v239 : BitVec 32 := Scalar.shrui v238 c3_i32
  let c8_i32 : BitVec 32 := 8#32
  let v245 : BitVec 32 := Scalar.muli v239 c8_i32
  let c1_i32_36 : BitVec 32 := 1#32
  let arg16 : BitVec 32 := Scf.iv v245 c1_i32_36 k0_t7
  let v253 : Index := Scalar.indexCast arg16
  ![0, 0, v253.toNat]
def k0_mult34 (v254 : BitVec 32) : BitVec 32 :=
  v254

def k0_off82 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off83 (v254 : BitVec 32) : Fin 2 → Nat :=
  let v255 : BitVec 32 := v254
  let c0_i32_40 : BitVec 32 := 0#32
  ![v255.toNat, 0]
def k0_off84 (i : grid0.Coords) (v11 : BitVec 32) (k0_t7 : Fin (k0_t7_loop v11).trips) : Fin 3 → Nat :=
  let arg0 : BitVec 32 := BitVec.ofNat 32 (i 0).val
  let c2_i32 : BitVec 32 := 2#32
  let v0 : BitVec 32 := Scalar.remsi arg0 c2_i32
  let c4_i32 : BitVec 32 := 4#32
  let v238 : BitVec 32 := Scalar.shrui v11 c4_i32
  let c3_i32 : BitVec 32 := 3#32
  let v239 : BitVec 32 := Scalar.shrui v238 c3_i32
  let c8_i32 : BitVec 32 := 8#32
  let v245 : BitVec 32 := Scalar.muli v239 c8_i32
  let c1_i32_36 : BitVec 32 := 1#32
  let arg16 : BitVec 32 := Scf.iv v245 c1_i32_36 k0_t7
  let c16_i32 : BitVec 32 := 16#32
  let v251 : BitVec 32 := Scalar.muli arg16 c16_i32
  let v252 : BitVec 32 := v251
  let c0_i32_41 : BitVec 32 := 0#32
  ![v0.toNat, v252.toNat, 0]

def k0_chk19 (i : grid0.Coords) (v254 : BitVec 32) : Prop :=
  (∀ (k0_h2 : k0_cond2 i = 1#1), 16 ∣ (k0_mult34 v254).toNat) ∧
  (∀ (k0_h2 : k0_cond2 i = 1#1), ∀ a, (k0_off83 v254) a + S16x1024.size a ≤ S227328x1024.size a) ∧
  (∀ (k0_h2 : k0_cond2 i = 1#1), ∀ (hinb : ∀ a, (k0_off83 v254) a + S16x1024.size a ≤ S227328x1024.size a), (Rect.unit (s := S227328x1024) (k0_off83 v254) S16x1024.size hinb).WholeWords (EltTy.packing .bf16))
theorem k0_mult34_dvd : ∀ (i : grid0.Coords) (v254 : BitVec 32) (k0_hw19 : k0_chk19 i v254), ∀ (k0_h2 : k0_cond2 i = 1#1), 16 ∣ (k0_mult34 v254).toNat := fun i v254 k0_hw19 k0_h2 => k0_hw19.1 k0_h2
theorem k0_off83_inb : ∀ (i : grid0.Coords) (v254 : BitVec 32) (k0_hw19 : k0_chk19 i v254), ∀ (k0_h2 : k0_cond2 i = 1#1), ∀ a, (k0_off83 v254) a + S16x1024.size a ≤ S227328x1024.size a := fun i v254 k0_hw19 k0_h2 => k0_hw19.2.1 k0_h2
theorem k0_off83_wordsbf16 : ∀ (i : grid0.Coords) (v254 : BitVec 32) (k0_hw19 : k0_chk19 i v254), ∀ (k0_h2 : k0_cond2 i = 1#1), (Rect.unit (s := S227328x1024) (k0_off83 v254) S16x1024.size (k0_off83_inb i v254 k0_hw19 k0_h2)).WholeWords (EltTy.packing .bf16) := fun i v254 k0_hw19 k0_h2 => k0_hw19.2.2 k0_h2 (k0_off83_inb i v254 k0_hw19 k0_h2)

@[reducible] def k0_t8_loop (v11 : BitVec 32) : Scf.Loop 32 :=
  let c4_i32 : BitVec 32 := 4#32
  let v238 : BitVec 32 := Scalar.shrui v11 c4_i32
  let c3_i32 : BitVec 32 := 3#32
  let v239 : BitVec 32 := Scalar.shrui v238 c3_i32
  let c8_i32 : BitVec 32 := 8#32
  let v245 : BitVec 32 := Scalar.muli v239 c8_i32
  let v246 : BitVec 32 := Scalar.subi v238 v245
  let c1_i32_35 : BitVec 32 := 1#32
  let v248 : BitVec 32 := Scalar.divsi v246 c1_i32_35
  let v249 : BitVec 32 := Scalar.muli v248 c1_i32_35
  let v250 : BitVec 32 := Scalar.addi v245 v249
  let v247 : BitVec 32 := Scalar.addi v245 v246
  let c1_i32_37 : BitVec 32 := 1#32
  ⟨v250, v247, c1_i32_37⟩
def k0_mult35 (v11 : BitVec 32) (k0_t8 : Fin (k0_t8_loop v11).trips) : BitVec 32 :=
  let c4_i32 : BitVec 32 := 4#32
  let v238 : BitVec 32 := Scalar.shrui v11 c4_i32
  let c3_i32 : BitVec 32 := 3#32
  let v239 : BitVec 32 := Scalar.shrui v238 c3_i32
  let c8_i32 : BitVec 32 := 8#32
  let v245 : BitVec 32 := Scalar.muli v239 c8_i32
  let v246 : BitVec 32 := Scalar.subi v238 v245
  let c1_i32_35 : BitVec 32 := 1#32
  let v248 : BitVec 32 := Scalar.divsi v246 c1_i32_35
  let v249 : BitVec 32 := Scalar.muli v248 c1_i32_35
  let v250 : BitVec 32 := Scalar.addi v245 v249
  let c1_i32_37 : BitVec 32 := 1#32
  let arg16 : BitVec 32 := Scf.iv v250 c1_i32_37 k0_t8
  let c16_i32 : BitVec 32 := 16#32
  let v251 : BitVec 32 := Scalar.muli arg16 c16_i32
  v251
def k0_off85 (v11 : BitVec 32) (k0_t8 : Fin (k0_t8_loop v11).trips) : Fin 3 → Nat :=
  let c0_38 : Index := 0#32
  let c0_39 : Index := 0#32
  let c4_i32 : BitVec 32 := 4#32
  let v238 : BitVec 32 := Scalar.shrui v11 c4_i32
  let c3_i32 : BitVec 32 := 3#32
  let v239 : BitVec 32 := Scalar.shrui v238 c3_i32
  let c8_i32 : BitVec 32 := 8#32
  let v245 : BitVec 32 := Scalar.muli v239 c8_i32
  let v246 : BitVec 32 := Scalar.subi v238 v245
  let c1_i32_35 : BitVec 32 := 1#32
  let v248 : BitVec 32 := Scalar.divsi v246 c1_i32_35
  let v249 : BitVec 32 := Scalar.muli v248 c1_i32_35
  let v250 : BitVec 32 := Scalar.addi v245 v249
  let c1_i32_37 : BitVec 32 := 1#32
  let arg16 : BitVec 32 := Scf.iv v250 c1_i32_37 k0_t8
  let v253 : Index := Scalar.indexCast arg16
  ![0, 0, v253.toNat]
def k0_mult36 (v254 : BitVec 32) : BitVec 32 :=
  v254

def k0_off86 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off87 (v254 : BitVec 32) : Fin 2 → Nat :=
  let v255 : BitVec 32 := v254
  let c0_i32_40 : BitVec 32 := 0#32
  ![v255.toNat, 0]
def k0_off88 (i : grid0.Coords) (v11 : BitVec 32) (k0_t8 : Fin (k0_t8_loop v11).trips) : Fin 3 → Nat :=
  let arg0 : BitVec 32 := BitVec.ofNat 32 (i 0).val
  let c2_i32 : BitVec 32 := 2#32
  let v0 : BitVec 32 := Scalar.remsi arg0 c2_i32
  let c4_i32 : BitVec 32 := 4#32
  let v238 : BitVec 32 := Scalar.shrui v11 c4_i32
  let c3_i32 : BitVec 32 := 3#32
  let v239 : BitVec 32 := Scalar.shrui v238 c3_i32
  let c8_i32 : BitVec 32 := 8#32
  let v245 : BitVec 32 := Scalar.muli v239 c8_i32
  let v246 : BitVec 32 := Scalar.subi v238 v245
  let c1_i32_35 : BitVec 32 := 1#32
  let v248 : BitVec 32 := Scalar.divsi v246 c1_i32_35
  let v249 : BitVec 32 := Scalar.muli v248 c1_i32_35
  let v250 : BitVec 32 := Scalar.addi v245 v249
  let c1_i32_37 : BitVec 32 := 1#32
  let arg16 : BitVec 32 := Scf.iv v250 c1_i32_37 k0_t8
  let c16_i32 : BitVec 32 := 16#32
  let v251 : BitVec 32 := Scalar.muli arg16 c16_i32
  let v252 : BitVec 32 := v251
  let c0_i32_41 : BitVec 32 := 0#32
  ![v0.toNat, v252.toNat, 0]

def k0_chk2_0 (i : grid0.Coords) (v11 : BitVec 32) : Prop :=
  (∀ (k0_h2 : k0_cond2 i = 1#1), (k0_t5_loop v11).OK) ∧
  (∀ k0_t5 : Fin (k0_t5_loop v11).trips, ∀ (k0_h2 : k0_cond2 i = 1#1), 16 ∣ (k0_mult1 v11 k0_t5).toNat) ∧
  (∀ k0_t5 : Fin (k0_t5_loop v11).trips, ∀ (k0_h2 : k0_cond2 i = 1#1), ∀ a, (k0_off17 v11 k0_t5) a + S1x1x1.size a ≤ S1x1x256.size a) ∧
  (∀ k0_t5 : Fin (k0_t5_loop v11).trips, ∀ (k0_h2 : k0_cond2 i = 1#1), ∀ a, (k0_off20 i v11 k0_t5) a + S1x16x1024.size a ≤ S2x3072x1024.size a) ∧
  (∀ k0_t5 : Fin (k0_t5_loop v11).trips, ∀ (k0_h2 : k0_cond2 i = 1#1), ∀ (hinb : ∀ a, (k0_off20 i v11 k0_t5) a + S1x16x1024.size a ≤ S2x3072x1024.size a), (Rect.unit (s := S2x3072x1024) (k0_off20 i v11 k0_t5) S1x16x1024.size hinb).WholeWords (EltTy.packing .bf16)) ∧
  (∀ k0_t5 : Fin (k0_t5_loop v11).trips, ∀ (k0_h2 : k0_cond2 i = 1#1), 16 ∣ (k0_mult3 v11 k0_t5).toNat) ∧
  (∀ k0_t5 : Fin (k0_t5_loop v11).trips, ∀ (k0_h2 : k0_cond2 i = 1#1), ∀ a, (k0_off21 v11 k0_t5) a + S1x1x1.size a ≤ S1x1x256.size a) ∧
  (∀ k0_t5 : Fin (k0_t5_loop v11).trips, ∀ (k0_h2 : k0_cond2 i = 1#1), ∀ a, (k0_off24 i v11 k0_t5) a + S1x16x1024.size a ≤ S2x3072x1024.size a) ∧
  (∀ k0_t5 : Fin (k0_t5_loop v11).trips, ∀ (k0_h2 : k0_cond2 i = 1#1), ∀ (hinb : ∀ a, (k0_off24 i v11 k0_t5) a + S1x16x1024.size a ≤ S2x3072x1024.size a), (Rect.unit (s := S2x3072x1024) (k0_off24 i v11 k0_t5) S1x16x1024.size hinb).WholeWords (EltTy.packing .bf16)) ∧
  (∀ k0_t5 : Fin (k0_t5_loop v11).trips, ∀ (k0_h2 : k0_cond2 i = 1#1), 16 ∣ (k0_mult5 v11 k0_t5).toNat) ∧
  (∀ k0_t5 : Fin (k0_t5_loop v11).trips, ∀ (k0_h2 : k0_cond2 i = 1#1), ∀ a, (k0_off25 v11 k0_t5) a + S1x1x1.size a ≤ S1x1x256.size a) ∧
  (∀ k0_t5 : Fin (k0_t5_loop v11).trips, ∀ (k0_h2 : k0_cond2 i = 1#1), ∀ a, (k0_off28 i v11 k0_t5) a + S1x16x1024.size a ≤ S2x3072x1024.size a) ∧
  (∀ k0_t5 : Fin (k0_t5_loop v11).trips, ∀ (k0_h2 : k0_cond2 i = 1#1), ∀ (hinb : ∀ a, (k0_off28 i v11 k0_t5) a + S1x16x1024.size a ≤ S2x3072x1024.size a), (Rect.unit (s := S2x3072x1024) (k0_off28 i v11 k0_t5) S1x16x1024.size hinb).WholeWords (EltTy.packing .bf16)) ∧
  (∀ k0_t5 : Fin (k0_t5_loop v11).trips, ∀ (k0_h2 : k0_cond2 i = 1#1), 16 ∣ (k0_mult7 v11 k0_t5).toNat) ∧
  (∀ k0_t5 : Fin (k0_t5_loop v11).trips, ∀ (k0_h2 : k0_cond2 i = 1#1), ∀ a, (k0_off29 v11 k0_t5) a + S1x1x1.size a ≤ S1x1x256.size a) ∧
  (∀ k0_t5 : Fin (k0_t5_loop v11).trips, ∀ (k0_h2 : k0_cond2 i = 1#1), ∀ a, (k0_off32 i v11 k0_t5) a + S1x16x1024.size a ≤ S2x3072x1024.size a) ∧
  (∀ k0_t5 : Fin (k0_t5_loop v11).trips, ∀ (k0_h2 : k0_cond2 i = 1#1), ∀ (hinb : ∀ a, (k0_off32 i v11 k0_t5) a + S1x16x1024.size a ≤ S2x3072x1024.size a), (Rect.unit (s := S2x3072x1024) (k0_off32 i v11 k0_t5) S1x16x1024.size hinb).WholeWords (EltTy.packing .bf16)) ∧
  (∀ k0_t5 : Fin (k0_t5_loop v11).trips, ∀ (k0_h2 : k0_cond2 i = 1#1), 16 ∣ (k0_mult9 v11 k0_t5).toNat) ∧
  (∀ k0_t5 : Fin (k0_t5_loop v11).trips, ∀ (k0_h2 : k0_cond2 i = 1#1), ∀ a, (k0_off33 v11 k0_t5) a + S1x1x1.size a ≤ S1x1x256.size a) ∧
  (∀ k0_t5 : Fin (k0_t5_loop v11).trips, ∀ (k0_h2 : k0_cond2 i = 1#1), ∀ a, (k0_off36 i v11 k0_t5) a + S1x16x1024.size a ≤ S2x3072x1024.size a) ∧
  (∀ k0_t5 : Fin (k0_t5_loop v11).trips, ∀ (k0_h2 : k0_cond2 i = 1#1), ∀ (hinb : ∀ a, (k0_off36 i v11 k0_t5) a + S1x16x1024.size a ≤ S2x3072x1024.size a), (Rect.unit (s := S2x3072x1024) (k0_off36 i v11 k0_t5) S1x16x1024.size hinb).WholeWords (EltTy.packing .bf16)) ∧
  (∀ k0_t5 : Fin (k0_t5_loop v11).trips, ∀ (k0_h2 : k0_cond2 i = 1#1), 16 ∣ (k0_mult11 v11 k0_t5).toNat) ∧
  (∀ k0_t5 : Fin (k0_t5_loop v11).trips, ∀ (k0_h2 : k0_cond2 i = 1#1), ∀ a, (k0_off37 v11 k0_t5) a + S1x1x1.size a ≤ S1x1x256.size a) ∧
  (∀ k0_t5 : Fin (k0_t5_loop v11).trips, ∀ (k0_h2 : k0_cond2 i = 1#1), ∀ a, (k0_off40 i v11 k0_t5) a + S1x16x1024.size a ≤ S2x3072x1024.size a) ∧
  (∀ k0_t5 : Fin (k0_t5_loop v11).trips, ∀ (k0_h2 : k0_cond2 i = 1#1), ∀ (hinb : ∀ a, (k0_off40 i v11 k0_t5) a + S1x16x1024.size a ≤ S2x3072x1024.size a), (Rect.unit (s := S2x3072x1024) (k0_off40 i v11 k0_t5) S1x16x1024.size hinb).WholeWords (EltTy.packing .bf16)) ∧
  (∀ k0_t5 : Fin (k0_t5_loop v11).trips, ∀ (k0_h2 : k0_cond2 i = 1#1), 16 ∣ (k0_mult13 v11 k0_t5).toNat) ∧
  (∀ k0_t5 : Fin (k0_t5_loop v11).trips, ∀ (k0_h2 : k0_cond2 i = 1#1), ∀ a, (k0_off41 v11 k0_t5) a + S1x1x1.size a ≤ S1x1x256.size a) ∧
  (∀ k0_t5 : Fin (k0_t5_loop v11).trips, ∀ (k0_h2 : k0_cond2 i = 1#1), ∀ a, (k0_off44 i v11 k0_t5) a + S1x16x1024.size a ≤ S2x3072x1024.size a) ∧
  (∀ k0_t5 : Fin (k0_t5_loop v11).trips, ∀ (k0_h2 : k0_cond2 i = 1#1), ∀ (hinb : ∀ a, (k0_off44 i v11 k0_t5) a + S1x16x1024.size a ≤ S2x3072x1024.size a), (Rect.unit (s := S2x3072x1024) (k0_off44 i v11 k0_t5) S1x16x1024.size hinb).WholeWords (EltTy.packing .bf16)) ∧
  (∀ k0_t5 : Fin (k0_t5_loop v11).trips, ∀ (k0_h2 : k0_cond2 i = 1#1), 16 ∣ (k0_mult15 v11 k0_t5).toNat) ∧
  (∀ k0_t5 : Fin (k0_t5_loop v11).trips, ∀ (k0_h2 : k0_cond2 i = 1#1), ∀ a, (k0_off45 v11 k0_t5) a + S1x1x1.size a ≤ S1x1x256.size a) ∧
  (∀ k0_t5 : Fin (k0_t5_loop v11).trips, ∀ (k0_h2 : k0_cond2 i = 1#1), ∀ a, (k0_off48 i v11 k0_t5) a + S1x16x1024.size a ≤ S2x3072x1024.size a)
def k0_chk2_1 (i : grid0.Coords) (v11 : BitVec 32) : Prop :=
  (∀ k0_t5 : Fin (k0_t5_loop v11).trips, ∀ (k0_h2 : k0_cond2 i = 1#1), ∀ (hinb : ∀ a, (k0_off48 i v11 k0_t5) a + S1x16x1024.size a ≤ S2x3072x1024.size a), (Rect.unit (s := S2x3072x1024) (k0_off48 i v11 k0_t5) S1x16x1024.size hinb).WholeWords (EltTy.packing .bf16)) ∧
  (∀ (k0_h2 : k0_cond2 i = 1#1), (k0_t6_loop v11).OK) ∧
  (∀ k0_t6 : Fin (k0_t6_loop v11).trips, ∀ (k0_h2 : k0_cond2 i = 1#1), 16 ∣ (k0_mult17 v11 k0_t6).toNat) ∧
  (∀ k0_t6 : Fin (k0_t6_loop v11).trips, ∀ (k0_h2 : k0_cond2 i = 1#1), ∀ a, (k0_off49 v11 k0_t6) a + S1x1x1.size a ≤ S1x1x256.size a) ∧
  (∀ k0_t6 : Fin (k0_t6_loop v11).trips, ∀ (k0_h2 : k0_cond2 i = 1#1), ∀ a, (k0_off52 i v11 k0_t6) a + S1x16x1024.size a ≤ S2x3072x1024.size a) ∧
  (∀ k0_t6 : Fin (k0_t6_loop v11).trips, ∀ (k0_h2 : k0_cond2 i = 1#1), ∀ (hinb : ∀ a, (k0_off52 i v11 k0_t6) a + S1x16x1024.size a ≤ S2x3072x1024.size a), (Rect.unit (s := S2x3072x1024) (k0_off52 i v11 k0_t6) S1x16x1024.size hinb).WholeWords (EltTy.packing .bf16)) ∧
  (∀ k0_t6 : Fin (k0_t6_loop v11).trips, ∀ (k0_h2 : k0_cond2 i = 1#1), 16 ∣ (k0_mult19 v11 k0_t6).toNat) ∧
  (∀ k0_t6 : Fin (k0_t6_loop v11).trips, ∀ (k0_h2 : k0_cond2 i = 1#1), ∀ a, (k0_off53 v11 k0_t6) a + S1x1x1.size a ≤ S1x1x256.size a) ∧
  (∀ k0_t6 : Fin (k0_t6_loop v11).trips, ∀ (k0_h2 : k0_cond2 i = 1#1), ∀ a, (k0_off56 i v11 k0_t6) a + S1x16x1024.size a ≤ S2x3072x1024.size a) ∧
  (∀ k0_t6 : Fin (k0_t6_loop v11).trips, ∀ (k0_h2 : k0_cond2 i = 1#1), ∀ (hinb : ∀ a, (k0_off56 i v11 k0_t6) a + S1x16x1024.size a ≤ S2x3072x1024.size a), (Rect.unit (s := S2x3072x1024) (k0_off56 i v11 k0_t6) S1x16x1024.size hinb).WholeWords (EltTy.packing .bf16)) ∧
  (∀ k0_t6 : Fin (k0_t6_loop v11).trips, ∀ (k0_h2 : k0_cond2 i = 1#1), 16 ∣ (k0_mult21 v11 k0_t6).toNat) ∧
  (∀ k0_t6 : Fin (k0_t6_loop v11).trips, ∀ (k0_h2 : k0_cond2 i = 1#1), ∀ a, (k0_off57 v11 k0_t6) a + S1x1x1.size a ≤ S1x1x256.size a) ∧
  (∀ k0_t6 : Fin (k0_t6_loop v11).trips, ∀ (k0_h2 : k0_cond2 i = 1#1), ∀ a, (k0_off60 i v11 k0_t6) a + S1x16x1024.size a ≤ S2x3072x1024.size a) ∧
  (∀ k0_t6 : Fin (k0_t6_loop v11).trips, ∀ (k0_h2 : k0_cond2 i = 1#1), ∀ (hinb : ∀ a, (k0_off60 i v11 k0_t6) a + S1x16x1024.size a ≤ S2x3072x1024.size a), (Rect.unit (s := S2x3072x1024) (k0_off60 i v11 k0_t6) S1x16x1024.size hinb).WholeWords (EltTy.packing .bf16)) ∧
  (∀ k0_t6 : Fin (k0_t6_loop v11).trips, ∀ (k0_h2 : k0_cond2 i = 1#1), 16 ∣ (k0_mult23 v11 k0_t6).toNat) ∧
  (∀ k0_t6 : Fin (k0_t6_loop v11).trips, ∀ (k0_h2 : k0_cond2 i = 1#1), ∀ a, (k0_off61 v11 k0_t6) a + S1x1x1.size a ≤ S1x1x256.size a) ∧
  (∀ k0_t6 : Fin (k0_t6_loop v11).trips, ∀ (k0_h2 : k0_cond2 i = 1#1), ∀ a, (k0_off64 i v11 k0_t6) a + S1x16x1024.size a ≤ S2x3072x1024.size a) ∧
  (∀ k0_t6 : Fin (k0_t6_loop v11).trips, ∀ (k0_h2 : k0_cond2 i = 1#1), ∀ (hinb : ∀ a, (k0_off64 i v11 k0_t6) a + S1x16x1024.size a ≤ S2x3072x1024.size a), (Rect.unit (s := S2x3072x1024) (k0_off64 i v11 k0_t6) S1x16x1024.size hinb).WholeWords (EltTy.packing .bf16)) ∧
  (∀ k0_t6 : Fin (k0_t6_loop v11).trips, ∀ (k0_h2 : k0_cond2 i = 1#1), 16 ∣ (k0_mult25 v11 k0_t6).toNat) ∧
  (∀ k0_t6 : Fin (k0_t6_loop v11).trips, ∀ (k0_h2 : k0_cond2 i = 1#1), ∀ a, (k0_off65 v11 k0_t6) a + S1x1x1.size a ≤ S1x1x256.size a) ∧
  (∀ k0_t6 : Fin (k0_t6_loop v11).trips, ∀ (k0_h2 : k0_cond2 i = 1#1), ∀ a, (k0_off68 i v11 k0_t6) a + S1x16x1024.size a ≤ S2x3072x1024.size a) ∧
  (∀ k0_t6 : Fin (k0_t6_loop v11).trips, ∀ (k0_h2 : k0_cond2 i = 1#1), ∀ (hinb : ∀ a, (k0_off68 i v11 k0_t6) a + S1x16x1024.size a ≤ S2x3072x1024.size a), (Rect.unit (s := S2x3072x1024) (k0_off68 i v11 k0_t6) S1x16x1024.size hinb).WholeWords (EltTy.packing .bf16)) ∧
  (∀ k0_t6 : Fin (k0_t6_loop v11).trips, ∀ (k0_h2 : k0_cond2 i = 1#1), 16 ∣ (k0_mult27 v11 k0_t6).toNat) ∧
  (∀ k0_t6 : Fin (k0_t6_loop v11).trips, ∀ (k0_h2 : k0_cond2 i = 1#1), ∀ a, (k0_off69 v11 k0_t6) a + S1x1x1.size a ≤ S1x1x256.size a) ∧
  (∀ k0_t6 : Fin (k0_t6_loop v11).trips, ∀ (k0_h2 : k0_cond2 i = 1#1), ∀ a, (k0_off72 i v11 k0_t6) a + S1x16x1024.size a ≤ S2x3072x1024.size a) ∧
  (∀ k0_t6 : Fin (k0_t6_loop v11).trips, ∀ (k0_h2 : k0_cond2 i = 1#1), ∀ (hinb : ∀ a, (k0_off72 i v11 k0_t6) a + S1x16x1024.size a ≤ S2x3072x1024.size a), (Rect.unit (s := S2x3072x1024) (k0_off72 i v11 k0_t6) S1x16x1024.size hinb).WholeWords (EltTy.packing .bf16)) ∧
  (∀ k0_t6 : Fin (k0_t6_loop v11).trips, ∀ (k0_h2 : k0_cond2 i = 1#1), 16 ∣ (k0_mult29 v11 k0_t6).toNat) ∧
  (∀ k0_t6 : Fin (k0_t6_loop v11).trips, ∀ (k0_h2 : k0_cond2 i = 1#1), ∀ a, (k0_off73 v11 k0_t6) a + S1x1x1.size a ≤ S1x1x256.size a) ∧
  (∀ k0_t6 : Fin (k0_t6_loop v11).trips, ∀ (k0_h2 : k0_cond2 i = 1#1), ∀ a, (k0_off76 i v11 k0_t6) a + S1x16x1024.size a ≤ S2x3072x1024.size a) ∧
  (∀ k0_t6 : Fin (k0_t6_loop v11).trips, ∀ (k0_h2 : k0_cond2 i = 1#1), ∀ (hinb : ∀ a, (k0_off76 i v11 k0_t6) a + S1x16x1024.size a ≤ S2x3072x1024.size a), (Rect.unit (s := S2x3072x1024) (k0_off76 i v11 k0_t6) S1x16x1024.size hinb).WholeWords (EltTy.packing .bf16)) ∧
  (∀ k0_t6 : Fin (k0_t6_loop v11).trips, ∀ (k0_h2 : k0_cond2 i = 1#1), 16 ∣ (k0_mult31 v11 k0_t6).toNat) ∧
  (∀ k0_t6 : Fin (k0_t6_loop v11).trips, ∀ (k0_h2 : k0_cond2 i = 1#1), ∀ a, (k0_off77 v11 k0_t6) a + S1x1x1.size a ≤ S1x1x256.size a)
def k0_chk2_2 (i : grid0.Coords) (v11 : BitVec 32) : Prop :=
  (∀ k0_t6 : Fin (k0_t6_loop v11).trips, ∀ (k0_h2 : k0_cond2 i = 1#1), ∀ a, (k0_off80 i v11 k0_t6) a + S1x16x1024.size a ≤ S2x3072x1024.size a) ∧
  (∀ k0_t6 : Fin (k0_t6_loop v11).trips, ∀ (k0_h2 : k0_cond2 i = 1#1), ∀ (hinb : ∀ a, (k0_off80 i v11 k0_t6) a + S1x16x1024.size a ≤ S2x3072x1024.size a), (Rect.unit (s := S2x3072x1024) (k0_off80 i v11 k0_t6) S1x16x1024.size hinb).WholeWords (EltTy.packing .bf16)) ∧
  (∀ (k0_h2 : k0_cond2 i = 1#1), (k0_t7_loop v11).OK) ∧
  (∀ k0_t7 : Fin (k0_t7_loop v11).trips, ∀ (k0_h2 : k0_cond2 i = 1#1), 16 ∣ (k0_mult33 v11 k0_t7).toNat) ∧
  (∀ k0_t7 : Fin (k0_t7_loop v11).trips, ∀ (k0_h2 : k0_cond2 i = 1#1), ∀ a, (k0_off81 v11 k0_t7) a + S1x1x1.size a ≤ S1x1x256.size a) ∧
  (∀ k0_t7 : Fin (k0_t7_loop v11).trips, ∀ (k0_h2 : k0_cond2 i = 1#1), ∀ a, (k0_off84 i v11 k0_t7) a + S1x16x1024.size a ≤ S2x3072x1024.size a) ∧
  (∀ k0_t7 : Fin (k0_t7_loop v11).trips, ∀ (k0_h2 : k0_cond2 i = 1#1), ∀ (hinb : ∀ a, (k0_off84 i v11 k0_t7) a + S1x16x1024.size a ≤ S2x3072x1024.size a), (Rect.unit (s := S2x3072x1024) (k0_off84 i v11 k0_t7) S1x16x1024.size hinb).WholeWords (EltTy.packing .bf16)) ∧
  (∀ (k0_h2 : k0_cond2 i = 1#1), (k0_t8_loop v11).OK) ∧
  (∀ k0_t8 : Fin (k0_t8_loop v11).trips, ∀ (k0_h2 : k0_cond2 i = 1#1), 16 ∣ (k0_mult35 v11 k0_t8).toNat) ∧
  (∀ k0_t8 : Fin (k0_t8_loop v11).trips, ∀ (k0_h2 : k0_cond2 i = 1#1), ∀ a, (k0_off85 v11 k0_t8) a + S1x1x1.size a ≤ S1x1x256.size a) ∧
  (∀ k0_t8 : Fin (k0_t8_loop v11).trips, ∀ (k0_h2 : k0_cond2 i = 1#1), ∀ a, (k0_off88 i v11 k0_t8) a + S1x16x1024.size a ≤ S2x3072x1024.size a) ∧
  (∀ k0_t8 : Fin (k0_t8_loop v11).trips, ∀ (k0_h2 : k0_cond2 i = 1#1), ∀ (hinb : ∀ a, (k0_off88 i v11 k0_t8) a + S1x16x1024.size a ≤ S2x3072x1024.size a), (Rect.unit (s := S2x3072x1024) (k0_off88 i v11 k0_t8) S1x16x1024.size hinb).WholeWords (EltTy.packing .bf16))
def k0_chk2 (i : grid0.Coords) (v11 : BitVec 32) : Prop :=
  k0_chk2_0 i v11 ∧
  k0_chk2_1 i v11 ∧
  k0_chk2_2 i v11
theorem k0_t5_ok : ∀ (i : grid0.Coords) (v11 : BitVec 32) (k0_hw2 : k0_chk2 i v11), ∀ (k0_h2 : k0_cond2 i = 1#1), (k0_t5_loop v11).OK := fun i v11 k0_hw2 k0_h2 => k0_hw2.1.1 k0_h2
theorem k0_mult1_dvd : ∀ (i : grid0.Coords) (v11 : BitVec 32) (k0_hw2 : k0_chk2 i v11) (k0_t5 : Fin (k0_t5_loop v11).trips), ∀ (k0_h2 : k0_cond2 i = 1#1), 16 ∣ (k0_mult1 v11 k0_t5).toNat := fun i v11 k0_hw2 k0_t5 k0_h2 => k0_hw2.1.2.1 k0_t5 k0_h2
theorem k0_off17_inb : ∀ (i : grid0.Coords) (v11 : BitVec 32) (k0_hw2 : k0_chk2 i v11) (k0_t5 : Fin (k0_t5_loop v11).trips), ∀ (k0_h2 : k0_cond2 i = 1#1), ∀ a, (k0_off17 v11 k0_t5) a + S1x1x1.size a ≤ S1x1x256.size a := fun i v11 k0_hw2 k0_t5 k0_h2 => k0_hw2.1.2.2.1 k0_t5 k0_h2
theorem k0_off20_inb : ∀ (i : grid0.Coords) (v11 : BitVec 32) (k0_hw2 : k0_chk2 i v11) (k0_t5 : Fin (k0_t5_loop v11).trips), ∀ (k0_h2 : k0_cond2 i = 1#1), ∀ a, (k0_off20 i v11 k0_t5) a + S1x16x1024.size a ≤ S2x3072x1024.size a := fun i v11 k0_hw2 k0_t5 k0_h2 => k0_hw2.1.2.2.2.1 k0_t5 k0_h2
theorem k0_off20_wordsbf16 : ∀ (i : grid0.Coords) (v11 : BitVec 32) (k0_hw2 : k0_chk2 i v11) (k0_t5 : Fin (k0_t5_loop v11).trips), ∀ (k0_h2 : k0_cond2 i = 1#1), (Rect.unit (s := S2x3072x1024) (k0_off20 i v11 k0_t5) S1x16x1024.size (k0_off20_inb i v11 k0_hw2 k0_t5 k0_h2)).WholeWords (EltTy.packing .bf16) := fun i v11 k0_hw2 k0_t5 k0_h2 => k0_hw2.1.2.2.2.2.1 k0_t5 k0_h2 (k0_off20_inb i v11 k0_hw2 k0_t5 k0_h2)
theorem k0_mult3_dvd : ∀ (i : grid0.Coords) (v11 : BitVec 32) (k0_hw2 : k0_chk2 i v11) (k0_t5 : Fin (k0_t5_loop v11).trips), ∀ (k0_h2 : k0_cond2 i = 1#1), 16 ∣ (k0_mult3 v11 k0_t5).toNat := fun i v11 k0_hw2 k0_t5 k0_h2 => k0_hw2.1.2.2.2.2.2.1 k0_t5 k0_h2
theorem k0_off21_inb : ∀ (i : grid0.Coords) (v11 : BitVec 32) (k0_hw2 : k0_chk2 i v11) (k0_t5 : Fin (k0_t5_loop v11).trips), ∀ (k0_h2 : k0_cond2 i = 1#1), ∀ a, (k0_off21 v11 k0_t5) a + S1x1x1.size a ≤ S1x1x256.size a := fun i v11 k0_hw2 k0_t5 k0_h2 => k0_hw2.1.2.2.2.2.2.2.1 k0_t5 k0_h2
theorem k0_off24_inb : ∀ (i : grid0.Coords) (v11 : BitVec 32) (k0_hw2 : k0_chk2 i v11) (k0_t5 : Fin (k0_t5_loop v11).trips), ∀ (k0_h2 : k0_cond2 i = 1#1), ∀ a, (k0_off24 i v11 k0_t5) a + S1x16x1024.size a ≤ S2x3072x1024.size a := fun i v11 k0_hw2 k0_t5 k0_h2 => k0_hw2.1.2.2.2.2.2.2.2.1 k0_t5 k0_h2
theorem k0_off24_wordsbf16 : ∀ (i : grid0.Coords) (v11 : BitVec 32) (k0_hw2 : k0_chk2 i v11) (k0_t5 : Fin (k0_t5_loop v11).trips), ∀ (k0_h2 : k0_cond2 i = 1#1), (Rect.unit (s := S2x3072x1024) (k0_off24 i v11 k0_t5) S1x16x1024.size (k0_off24_inb i v11 k0_hw2 k0_t5 k0_h2)).WholeWords (EltTy.packing .bf16) := fun i v11 k0_hw2 k0_t5 k0_h2 => k0_hw2.1.2.2.2.2.2.2.2.2.1 k0_t5 k0_h2 (k0_off24_inb i v11 k0_hw2 k0_t5 k0_h2)
theorem k0_mult5_dvd : ∀ (i : grid0.Coords) (v11 : BitVec 32) (k0_hw2 : k0_chk2 i v11) (k0_t5 : Fin (k0_t5_loop v11).trips), ∀ (k0_h2 : k0_cond2 i = 1#1), 16 ∣ (k0_mult5 v11 k0_t5).toNat := fun i v11 k0_hw2 k0_t5 k0_h2 => k0_hw2.1.2.2.2.2.2.2.2.2.2.1 k0_t5 k0_h2
theorem k0_off25_inb : ∀ (i : grid0.Coords) (v11 : BitVec 32) (k0_hw2 : k0_chk2 i v11) (k0_t5 : Fin (k0_t5_loop v11).trips), ∀ (k0_h2 : k0_cond2 i = 1#1), ∀ a, (k0_off25 v11 k0_t5) a + S1x1x1.size a ≤ S1x1x256.size a := fun i v11 k0_hw2 k0_t5 k0_h2 => k0_hw2.1.2.2.2.2.2.2.2.2.2.2.1 k0_t5 k0_h2
theorem k0_off28_inb : ∀ (i : grid0.Coords) (v11 : BitVec 32) (k0_hw2 : k0_chk2 i v11) (k0_t5 : Fin (k0_t5_loop v11).trips), ∀ (k0_h2 : k0_cond2 i = 1#1), ∀ a, (k0_off28 i v11 k0_t5) a + S1x16x1024.size a ≤ S2x3072x1024.size a := fun i v11 k0_hw2 k0_t5 k0_h2 => k0_hw2.1.2.2.2.2.2.2.2.2.2.2.2.1 k0_t5 k0_h2
theorem k0_off28_wordsbf16 : ∀ (i : grid0.Coords) (v11 : BitVec 32) (k0_hw2 : k0_chk2 i v11) (k0_t5 : Fin (k0_t5_loop v11).trips), ∀ (k0_h2 : k0_cond2 i = 1#1), (Rect.unit (s := S2x3072x1024) (k0_off28 i v11 k0_t5) S1x16x1024.size (k0_off28_inb i v11 k0_hw2 k0_t5 k0_h2)).WholeWords (EltTy.packing .bf16) := fun i v11 k0_hw2 k0_t5 k0_h2 => k0_hw2.1.2.2.2.2.2.2.2.2.2.2.2.2.1 k0_t5 k0_h2 (k0_off28_inb i v11 k0_hw2 k0_t5 k0_h2)
theorem k0_mult7_dvd : ∀ (i : grid0.Coords) (v11 : BitVec 32) (k0_hw2 : k0_chk2 i v11) (k0_t5 : Fin (k0_t5_loop v11).trips), ∀ (k0_h2 : k0_cond2 i = 1#1), 16 ∣ (k0_mult7 v11 k0_t5).toNat := fun i v11 k0_hw2 k0_t5 k0_h2 => k0_hw2.1.2.2.2.2.2.2.2.2.2.2.2.2.2.1 k0_t5 k0_h2
theorem k0_off29_inb : ∀ (i : grid0.Coords) (v11 : BitVec 32) (k0_hw2 : k0_chk2 i v11) (k0_t5 : Fin (k0_t5_loop v11).trips), ∀ (k0_h2 : k0_cond2 i = 1#1), ∀ a, (k0_off29 v11 k0_t5) a + S1x1x1.size a ≤ S1x1x256.size a := fun i v11 k0_hw2 k0_t5 k0_h2 => k0_hw2.1.2.2.2.2.2.2.2.2.2.2.2.2.2.2.1 k0_t5 k0_h2
theorem k0_off32_inb : ∀ (i : grid0.Coords) (v11 : BitVec 32) (k0_hw2 : k0_chk2 i v11) (k0_t5 : Fin (k0_t5_loop v11).trips), ∀ (k0_h2 : k0_cond2 i = 1#1), ∀ a, (k0_off32 i v11 k0_t5) a + S1x16x1024.size a ≤ S2x3072x1024.size a := fun i v11 k0_hw2 k0_t5 k0_h2 => k0_hw2.1.2.2.2.2.2.2.2.2.2.2.2.2.2.2.2.1 k0_t5 k0_h2
theorem k0_off32_wordsbf16 : ∀ (i : grid0.Coords) (v11 : BitVec 32) (k0_hw2 : k0_chk2 i v11) (k0_t5 : Fin (k0_t5_loop v11).trips), ∀ (k0_h2 : k0_cond2 i = 1#1), (Rect.unit (s := S2x3072x1024) (k0_off32 i v11 k0_t5) S1x16x1024.size (k0_off32_inb i v11 k0_hw2 k0_t5 k0_h2)).WholeWords (EltTy.packing .bf16) := fun i v11 k0_hw2 k0_t5 k0_h2 => k0_hw2.1.2.2.2.2.2.2.2.2.2.2.2.2.2.2.2.2.1 k0_t5 k0_h2 (k0_off32_inb i v11 k0_hw2 k0_t5 k0_h2)
theorem k0_mult9_dvd : ∀ (i : grid0.Coords) (v11 : BitVec 32) (k0_hw2 : k0_chk2 i v11) (k0_t5 : Fin (k0_t5_loop v11).trips), ∀ (k0_h2 : k0_cond2 i = 1#1), 16 ∣ (k0_mult9 v11 k0_t5).toNat := fun i v11 k0_hw2 k0_t5 k0_h2 => k0_hw2.1.2.2.2.2.2.2.2.2.2.2.2.2.2.2.2.2.2.1 k0_t5 k0_h2
theorem k0_off33_inb : ∀ (i : grid0.Coords) (v11 : BitVec 32) (k0_hw2 : k0_chk2 i v11) (k0_t5 : Fin (k0_t5_loop v11).trips), ∀ (k0_h2 : k0_cond2 i = 1#1), ∀ a, (k0_off33 v11 k0_t5) a + S1x1x1.size a ≤ S1x1x256.size a := fun i v11 k0_hw2 k0_t5 k0_h2 => k0_hw2.1.2.2.2.2.2.2.2.2.2.2.2.2.2.2.2.2.2.2.1 k0_t5 k0_h2
theorem k0_off36_inb : ∀ (i : grid0.Coords) (v11 : BitVec 32) (k0_hw2 : k0_chk2 i v11) (k0_t5 : Fin (k0_t5_loop v11).trips), ∀ (k0_h2 : k0_cond2 i = 1#1), ∀ a, (k0_off36 i v11 k0_t5) a + S1x16x1024.size a ≤ S2x3072x1024.size a := fun i v11 k0_hw2 k0_t5 k0_h2 => k0_hw2.1.2.2.2.2.2.2.2.2.2.2.2.2.2.2.2.2.2.2.2.1 k0_t5 k0_h2
theorem k0_off36_wordsbf16 : ∀ (i : grid0.Coords) (v11 : BitVec 32) (k0_hw2 : k0_chk2 i v11) (k0_t5 : Fin (k0_t5_loop v11).trips), ∀ (k0_h2 : k0_cond2 i = 1#1), (Rect.unit (s := S2x3072x1024) (k0_off36 i v11 k0_t5) S1x16x1024.size (k0_off36_inb i v11 k0_hw2 k0_t5 k0_h2)).WholeWords (EltTy.packing .bf16) := fun i v11 k0_hw2 k0_t5 k0_h2 => k0_hw2.1.2.2.2.2.2.2.2.2.2.2.2.2.2.2.2.2.2.2.2.2.1 k0_t5 k0_h2 (k0_off36_inb i v11 k0_hw2 k0_t5 k0_h2)
theorem k0_mult11_dvd : ∀ (i : grid0.Coords) (v11 : BitVec 32) (k0_hw2 : k0_chk2 i v11) (k0_t5 : Fin (k0_t5_loop v11).trips), ∀ (k0_h2 : k0_cond2 i = 1#1), 16 ∣ (k0_mult11 v11 k0_t5).toNat := fun i v11 k0_hw2 k0_t5 k0_h2 => k0_hw2.1.2.2.2.2.2.2.2.2.2.2.2.2.2.2.2.2.2.2.2.2.2.1 k0_t5 k0_h2
theorem k0_off37_inb : ∀ (i : grid0.Coords) (v11 : BitVec 32) (k0_hw2 : k0_chk2 i v11) (k0_t5 : Fin (k0_t5_loop v11).trips), ∀ (k0_h2 : k0_cond2 i = 1#1), ∀ a, (k0_off37 v11 k0_t5) a + S1x1x1.size a ≤ S1x1x256.size a := fun i v11 k0_hw2 k0_t5 k0_h2 => k0_hw2.1.2.2.2.2.2.2.2.2.2.2.2.2.2.2.2.2.2.2.2.2.2.2.1 k0_t5 k0_h2
theorem k0_off40_inb : ∀ (i : grid0.Coords) (v11 : BitVec 32) (k0_hw2 : k0_chk2 i v11) (k0_t5 : Fin (k0_t5_loop v11).trips), ∀ (k0_h2 : k0_cond2 i = 1#1), ∀ a, (k0_off40 i v11 k0_t5) a + S1x16x1024.size a ≤ S2x3072x1024.size a := fun i v11 k0_hw2 k0_t5 k0_h2 => k0_hw2.1.2.2.2.2.2.2.2.2.2.2.2.2.2.2.2.2.2.2.2.2.2.2.2.1 k0_t5 k0_h2
theorem k0_off40_wordsbf16 : ∀ (i : grid0.Coords) (v11 : BitVec 32) (k0_hw2 : k0_chk2 i v11) (k0_t5 : Fin (k0_t5_loop v11).trips), ∀ (k0_h2 : k0_cond2 i = 1#1), (Rect.unit (s := S2x3072x1024) (k0_off40 i v11 k0_t5) S1x16x1024.size (k0_off40_inb i v11 k0_hw2 k0_t5 k0_h2)).WholeWords (EltTy.packing .bf16) := fun i v11 k0_hw2 k0_t5 k0_h2 => k0_hw2.1.2.2.2.2.2.2.2.2.2.2.2.2.2.2.2.2.2.2.2.2.2.2.2.2.1 k0_t5 k0_h2 (k0_off40_inb i v11 k0_hw2 k0_t5 k0_h2)
theorem k0_mult13_dvd : ∀ (i : grid0.Coords) (v11 : BitVec 32) (k0_hw2 : k0_chk2 i v11) (k0_t5 : Fin (k0_t5_loop v11).trips), ∀ (k0_h2 : k0_cond2 i = 1#1), 16 ∣ (k0_mult13 v11 k0_t5).toNat := fun i v11 k0_hw2 k0_t5 k0_h2 => k0_hw2.1.2.2.2.2.2.2.2.2.2.2.2.2.2.2.2.2.2.2.2.2.2.2.2.2.2.1 k0_t5 k0_h2
theorem k0_off41_inb : ∀ (i : grid0.Coords) (v11 : BitVec 32) (k0_hw2 : k0_chk2 i v11) (k0_t5 : Fin (k0_t5_loop v11).trips), ∀ (k0_h2 : k0_cond2 i = 1#1), ∀ a, (k0_off41 v11 k0_t5) a + S1x1x1.size a ≤ S1x1x256.size a := fun i v11 k0_hw2 k0_t5 k0_h2 => k0_hw2.1.2.2.2.2.2.2.2.2.2.2.2.2.2.2.2.2.2.2.2.2.2.2.2.2.2.2.1 k0_t5 k0_h2
theorem k0_off44_inb : ∀ (i : grid0.Coords) (v11 : BitVec 32) (k0_hw2 : k0_chk2 i v11) (k0_t5 : Fin (k0_t5_loop v11).trips), ∀ (k0_h2 : k0_cond2 i = 1#1), ∀ a, (k0_off44 i v11 k0_t5) a + S1x16x1024.size a ≤ S2x3072x1024.size a := fun i v11 k0_hw2 k0_t5 k0_h2 => k0_hw2.1.2.2.2.2.2.2.2.2.2.2.2.2.2.2.2.2.2.2.2.2.2.2.2.2.2.2.2.1 k0_t5 k0_h2
theorem k0_off44_wordsbf16 : ∀ (i : grid0.Coords) (v11 : BitVec 32) (k0_hw2 : k0_chk2 i v11) (k0_t5 : Fin (k0_t5_loop v11).trips), ∀ (k0_h2 : k0_cond2 i = 1#1), (Rect.unit (s := S2x3072x1024) (k0_off44 i v11 k0_t5) S1x16x1024.size (k0_off44_inb i v11 k0_hw2 k0_t5 k0_h2)).WholeWords (EltTy.packing .bf16) := fun i v11 k0_hw2 k0_t5 k0_h2 => k0_hw2.1.2.2.2.2.2.2.2.2.2.2.2.2.2.2.2.2.2.2.2.2.2.2.2.2.2.2.2.2.1 k0_t5 k0_h2 (k0_off44_inb i v11 k0_hw2 k0_t5 k0_h2)
theorem k0_mult15_dvd : ∀ (i : grid0.Coords) (v11 : BitVec 32) (k0_hw2 : k0_chk2 i v11) (k0_t5 : Fin (k0_t5_loop v11).trips), ∀ (k0_h2 : k0_cond2 i = 1#1), 16 ∣ (k0_mult15 v11 k0_t5).toNat := fun i v11 k0_hw2 k0_t5 k0_h2 => k0_hw2.1.2.2.2.2.2.2.2.2.2.2.2.2.2.2.2.2.2.2.2.2.2.2.2.2.2.2.2.2.2.1 k0_t5 k0_h2
theorem k0_off45_inb : ∀ (i : grid0.Coords) (v11 : BitVec 32) (k0_hw2 : k0_chk2 i v11) (k0_t5 : Fin (k0_t5_loop v11).trips), ∀ (k0_h2 : k0_cond2 i = 1#1), ∀ a, (k0_off45 v11 k0_t5) a + S1x1x1.size a ≤ S1x1x256.size a := fun i v11 k0_hw2 k0_t5 k0_h2 => k0_hw2.1.2.2.2.2.2.2.2.2.2.2.2.2.2.2.2.2.2.2.2.2.2.2.2.2.2.2.2.2.2.2.1 k0_t5 k0_h2
theorem k0_off48_inb : ∀ (i : grid0.Coords) (v11 : BitVec 32) (k0_hw2 : k0_chk2 i v11) (k0_t5 : Fin (k0_t5_loop v11).trips), ∀ (k0_h2 : k0_cond2 i = 1#1), ∀ a, (k0_off48 i v11 k0_t5) a + S1x16x1024.size a ≤ S2x3072x1024.size a := fun i v11 k0_hw2 k0_t5 k0_h2 => k0_hw2.1.2.2.2.2.2.2.2.2.2.2.2.2.2.2.2.2.2.2.2.2.2.2.2.2.2.2.2.2.2.2.2 k0_t5 k0_h2
theorem k0_off48_wordsbf16 : ∀ (i : grid0.Coords) (v11 : BitVec 32) (k0_hw2 : k0_chk2 i v11) (k0_t5 : Fin (k0_t5_loop v11).trips), ∀ (k0_h2 : k0_cond2 i = 1#1), (Rect.unit (s := S2x3072x1024) (k0_off48 i v11 k0_t5) S1x16x1024.size (k0_off48_inb i v11 k0_hw2 k0_t5 k0_h2)).WholeWords (EltTy.packing .bf16) := fun i v11 k0_hw2 k0_t5 k0_h2 => k0_hw2.2.1.1 k0_t5 k0_h2 (k0_off48_inb i v11 k0_hw2 k0_t5 k0_h2)
theorem k0_t6_ok : ∀ (i : grid0.Coords) (v11 : BitVec 32) (k0_hw2 : k0_chk2 i v11), ∀ (k0_h2 : k0_cond2 i = 1#1), (k0_t6_loop v11).OK := fun i v11 k0_hw2 k0_h2 => k0_hw2.2.1.2.1 k0_h2
theorem k0_mult17_dvd : ∀ (i : grid0.Coords) (v11 : BitVec 32) (k0_hw2 : k0_chk2 i v11) (k0_t6 : Fin (k0_t6_loop v11).trips), ∀ (k0_h2 : k0_cond2 i = 1#1), 16 ∣ (k0_mult17 v11 k0_t6).toNat := fun i v11 k0_hw2 k0_t6 k0_h2 => k0_hw2.2.1.2.2.1 k0_t6 k0_h2
theorem k0_off49_inb : ∀ (i : grid0.Coords) (v11 : BitVec 32) (k0_hw2 : k0_chk2 i v11) (k0_t6 : Fin (k0_t6_loop v11).trips), ∀ (k0_h2 : k0_cond2 i = 1#1), ∀ a, (k0_off49 v11 k0_t6) a + S1x1x1.size a ≤ S1x1x256.size a := fun i v11 k0_hw2 k0_t6 k0_h2 => k0_hw2.2.1.2.2.2.1 k0_t6 k0_h2
theorem k0_off52_inb : ∀ (i : grid0.Coords) (v11 : BitVec 32) (k0_hw2 : k0_chk2 i v11) (k0_t6 : Fin (k0_t6_loop v11).trips), ∀ (k0_h2 : k0_cond2 i = 1#1), ∀ a, (k0_off52 i v11 k0_t6) a + S1x16x1024.size a ≤ S2x3072x1024.size a := fun i v11 k0_hw2 k0_t6 k0_h2 => k0_hw2.2.1.2.2.2.2.1 k0_t6 k0_h2
theorem k0_off52_wordsbf16 : ∀ (i : grid0.Coords) (v11 : BitVec 32) (k0_hw2 : k0_chk2 i v11) (k0_t6 : Fin (k0_t6_loop v11).trips), ∀ (k0_h2 : k0_cond2 i = 1#1), (Rect.unit (s := S2x3072x1024) (k0_off52 i v11 k0_t6) S1x16x1024.size (k0_off52_inb i v11 k0_hw2 k0_t6 k0_h2)).WholeWords (EltTy.packing .bf16) := fun i v11 k0_hw2 k0_t6 k0_h2 => k0_hw2.2.1.2.2.2.2.2.1 k0_t6 k0_h2 (k0_off52_inb i v11 k0_hw2 k0_t6 k0_h2)
theorem k0_mult19_dvd : ∀ (i : grid0.Coords) (v11 : BitVec 32) (k0_hw2 : k0_chk2 i v11) (k0_t6 : Fin (k0_t6_loop v11).trips), ∀ (k0_h2 : k0_cond2 i = 1#1), 16 ∣ (k0_mult19 v11 k0_t6).toNat := fun i v11 k0_hw2 k0_t6 k0_h2 => k0_hw2.2.1.2.2.2.2.2.2.1 k0_t6 k0_h2
theorem k0_off53_inb : ∀ (i : grid0.Coords) (v11 : BitVec 32) (k0_hw2 : k0_chk2 i v11) (k0_t6 : Fin (k0_t6_loop v11).trips), ∀ (k0_h2 : k0_cond2 i = 1#1), ∀ a, (k0_off53 v11 k0_t6) a + S1x1x1.size a ≤ S1x1x256.size a := fun i v11 k0_hw2 k0_t6 k0_h2 => k0_hw2.2.1.2.2.2.2.2.2.2.1 k0_t6 k0_h2
theorem k0_off56_inb : ∀ (i : grid0.Coords) (v11 : BitVec 32) (k0_hw2 : k0_chk2 i v11) (k0_t6 : Fin (k0_t6_loop v11).trips), ∀ (k0_h2 : k0_cond2 i = 1#1), ∀ a, (k0_off56 i v11 k0_t6) a + S1x16x1024.size a ≤ S2x3072x1024.size a := fun i v11 k0_hw2 k0_t6 k0_h2 => k0_hw2.2.1.2.2.2.2.2.2.2.2.1 k0_t6 k0_h2
theorem k0_off56_wordsbf16 : ∀ (i : grid0.Coords) (v11 : BitVec 32) (k0_hw2 : k0_chk2 i v11) (k0_t6 : Fin (k0_t6_loop v11).trips), ∀ (k0_h2 : k0_cond2 i = 1#1), (Rect.unit (s := S2x3072x1024) (k0_off56 i v11 k0_t6) S1x16x1024.size (k0_off56_inb i v11 k0_hw2 k0_t6 k0_h2)).WholeWords (EltTy.packing .bf16) := fun i v11 k0_hw2 k0_t6 k0_h2 => k0_hw2.2.1.2.2.2.2.2.2.2.2.2.1 k0_t6 k0_h2 (k0_off56_inb i v11 k0_hw2 k0_t6 k0_h2)
theorem k0_mult21_dvd : ∀ (i : grid0.Coords) (v11 : BitVec 32) (k0_hw2 : k0_chk2 i v11) (k0_t6 : Fin (k0_t6_loop v11).trips), ∀ (k0_h2 : k0_cond2 i = 1#1), 16 ∣ (k0_mult21 v11 k0_t6).toNat := fun i v11 k0_hw2 k0_t6 k0_h2 => k0_hw2.2.1.2.2.2.2.2.2.2.2.2.2.1 k0_t6 k0_h2
theorem k0_off57_inb : ∀ (i : grid0.Coords) (v11 : BitVec 32) (k0_hw2 : k0_chk2 i v11) (k0_t6 : Fin (k0_t6_loop v11).trips), ∀ (k0_h2 : k0_cond2 i = 1#1), ∀ a, (k0_off57 v11 k0_t6) a + S1x1x1.size a ≤ S1x1x256.size a := fun i v11 k0_hw2 k0_t6 k0_h2 => k0_hw2.2.1.2.2.2.2.2.2.2.2.2.2.2.1 k0_t6 k0_h2
theorem k0_off60_inb : ∀ (i : grid0.Coords) (v11 : BitVec 32) (k0_hw2 : k0_chk2 i v11) (k0_t6 : Fin (k0_t6_loop v11).trips), ∀ (k0_h2 : k0_cond2 i = 1#1), ∀ a, (k0_off60 i v11 k0_t6) a + S1x16x1024.size a ≤ S2x3072x1024.size a := fun i v11 k0_hw2 k0_t6 k0_h2 => k0_hw2.2.1.2.2.2.2.2.2.2.2.2.2.2.2.1 k0_t6 k0_h2
theorem k0_off60_wordsbf16 : ∀ (i : grid0.Coords) (v11 : BitVec 32) (k0_hw2 : k0_chk2 i v11) (k0_t6 : Fin (k0_t6_loop v11).trips), ∀ (k0_h2 : k0_cond2 i = 1#1), (Rect.unit (s := S2x3072x1024) (k0_off60 i v11 k0_t6) S1x16x1024.size (k0_off60_inb i v11 k0_hw2 k0_t6 k0_h2)).WholeWords (EltTy.packing .bf16) := fun i v11 k0_hw2 k0_t6 k0_h2 => k0_hw2.2.1.2.2.2.2.2.2.2.2.2.2.2.2.2.1 k0_t6 k0_h2 (k0_off60_inb i v11 k0_hw2 k0_t6 k0_h2)
theorem k0_mult23_dvd : ∀ (i : grid0.Coords) (v11 : BitVec 32) (k0_hw2 : k0_chk2 i v11) (k0_t6 : Fin (k0_t6_loop v11).trips), ∀ (k0_h2 : k0_cond2 i = 1#1), 16 ∣ (k0_mult23 v11 k0_t6).toNat := fun i v11 k0_hw2 k0_t6 k0_h2 => k0_hw2.2.1.2.2.2.2.2.2.2.2.2.2.2.2.2.2.1 k0_t6 k0_h2
theorem k0_off61_inb : ∀ (i : grid0.Coords) (v11 : BitVec 32) (k0_hw2 : k0_chk2 i v11) (k0_t6 : Fin (k0_t6_loop v11).trips), ∀ (k0_h2 : k0_cond2 i = 1#1), ∀ a, (k0_off61 v11 k0_t6) a + S1x1x1.size a ≤ S1x1x256.size a := fun i v11 k0_hw2 k0_t6 k0_h2 => k0_hw2.2.1.2.2.2.2.2.2.2.2.2.2.2.2.2.2.2.1 k0_t6 k0_h2
theorem k0_off64_inb : ∀ (i : grid0.Coords) (v11 : BitVec 32) (k0_hw2 : k0_chk2 i v11) (k0_t6 : Fin (k0_t6_loop v11).trips), ∀ (k0_h2 : k0_cond2 i = 1#1), ∀ a, (k0_off64 i v11 k0_t6) a + S1x16x1024.size a ≤ S2x3072x1024.size a := fun i v11 k0_hw2 k0_t6 k0_h2 => k0_hw2.2.1.2.2.2.2.2.2.2.2.2.2.2.2.2.2.2.2.1 k0_t6 k0_h2
theorem k0_off64_wordsbf16 : ∀ (i : grid0.Coords) (v11 : BitVec 32) (k0_hw2 : k0_chk2 i v11) (k0_t6 : Fin (k0_t6_loop v11).trips), ∀ (k0_h2 : k0_cond2 i = 1#1), (Rect.unit (s := S2x3072x1024) (k0_off64 i v11 k0_t6) S1x16x1024.size (k0_off64_inb i v11 k0_hw2 k0_t6 k0_h2)).WholeWords (EltTy.packing .bf16) := fun i v11 k0_hw2 k0_t6 k0_h2 => k0_hw2.2.1.2.2.2.2.2.2.2.2.2.2.2.2.2.2.2.2.2.1 k0_t6 k0_h2 (k0_off64_inb i v11 k0_hw2 k0_t6 k0_h2)
theorem k0_mult25_dvd : ∀ (i : grid0.Coords) (v11 : BitVec 32) (k0_hw2 : k0_chk2 i v11) (k0_t6 : Fin (k0_t6_loop v11).trips), ∀ (k0_h2 : k0_cond2 i = 1#1), 16 ∣ (k0_mult25 v11 k0_t6).toNat := fun i v11 k0_hw2 k0_t6 k0_h2 => k0_hw2.2.1.2.2.2.2.2.2.2.2.2.2.2.2.2.2.2.2.2.2.1 k0_t6 k0_h2
theorem k0_off65_inb : ∀ (i : grid0.Coords) (v11 : BitVec 32) (k0_hw2 : k0_chk2 i v11) (k0_t6 : Fin (k0_t6_loop v11).trips), ∀ (k0_h2 : k0_cond2 i = 1#1), ∀ a, (k0_off65 v11 k0_t6) a + S1x1x1.size a ≤ S1x1x256.size a := fun i v11 k0_hw2 k0_t6 k0_h2 => k0_hw2.2.1.2.2.2.2.2.2.2.2.2.2.2.2.2.2.2.2.2.2.2.1 k0_t6 k0_h2
theorem k0_off68_inb : ∀ (i : grid0.Coords) (v11 : BitVec 32) (k0_hw2 : k0_chk2 i v11) (k0_t6 : Fin (k0_t6_loop v11).trips), ∀ (k0_h2 : k0_cond2 i = 1#1), ∀ a, (k0_off68 i v11 k0_t6) a + S1x16x1024.size a ≤ S2x3072x1024.size a := fun i v11 k0_hw2 k0_t6 k0_h2 => k0_hw2.2.1.2.2.2.2.2.2.2.2.2.2.2.2.2.2.2.2.2.2.2.2.1 k0_t6 k0_h2
theorem k0_off68_wordsbf16 : ∀ (i : grid0.Coords) (v11 : BitVec 32) (k0_hw2 : k0_chk2 i v11) (k0_t6 : Fin (k0_t6_loop v11).trips), ∀ (k0_h2 : k0_cond2 i = 1#1), (Rect.unit (s := S2x3072x1024) (k0_off68 i v11 k0_t6) S1x16x1024.size (k0_off68_inb i v11 k0_hw2 k0_t6 k0_h2)).WholeWords (EltTy.packing .bf16) := fun i v11 k0_hw2 k0_t6 k0_h2 => k0_hw2.2.1.2.2.2.2.2.2.2.2.2.2.2.2.2.2.2.2.2.2.2.2.2.1 k0_t6 k0_h2 (k0_off68_inb i v11 k0_hw2 k0_t6 k0_h2)
theorem k0_mult27_dvd : ∀ (i : grid0.Coords) (v11 : BitVec 32) (k0_hw2 : k0_chk2 i v11) (k0_t6 : Fin (k0_t6_loop v11).trips), ∀ (k0_h2 : k0_cond2 i = 1#1), 16 ∣ (k0_mult27 v11 k0_t6).toNat := fun i v11 k0_hw2 k0_t6 k0_h2 => k0_hw2.2.1.2.2.2.2.2.2.2.2.2.2.2.2.2.2.2.2.2.2.2.2.2.2.1 k0_t6 k0_h2
theorem k0_off69_inb : ∀ (i : grid0.Coords) (v11 : BitVec 32) (k0_hw2 : k0_chk2 i v11) (k0_t6 : Fin (k0_t6_loop v11).trips), ∀ (k0_h2 : k0_cond2 i = 1#1), ∀ a, (k0_off69 v11 k0_t6) a + S1x1x1.size a ≤ S1x1x256.size a := fun i v11 k0_hw2 k0_t6 k0_h2 => k0_hw2.2.1.2.2.2.2.2.2.2.2.2.2.2.2.2.2.2.2.2.2.2.2.2.2.2.1 k0_t6 k0_h2
theorem k0_off72_inb : ∀ (i : grid0.Coords) (v11 : BitVec 32) (k0_hw2 : k0_chk2 i v11) (k0_t6 : Fin (k0_t6_loop v11).trips), ∀ (k0_h2 : k0_cond2 i = 1#1), ∀ a, (k0_off72 i v11 k0_t6) a + S1x16x1024.size a ≤ S2x3072x1024.size a := fun i v11 k0_hw2 k0_t6 k0_h2 => k0_hw2.2.1.2.2.2.2.2.2.2.2.2.2.2.2.2.2.2.2.2.2.2.2.2.2.2.2.1 k0_t6 k0_h2
theorem k0_off72_wordsbf16 : ∀ (i : grid0.Coords) (v11 : BitVec 32) (k0_hw2 : k0_chk2 i v11) (k0_t6 : Fin (k0_t6_loop v11).trips), ∀ (k0_h2 : k0_cond2 i = 1#1), (Rect.unit (s := S2x3072x1024) (k0_off72 i v11 k0_t6) S1x16x1024.size (k0_off72_inb i v11 k0_hw2 k0_t6 k0_h2)).WholeWords (EltTy.packing .bf16) := fun i v11 k0_hw2 k0_t6 k0_h2 => k0_hw2.2.1.2.2.2.2.2.2.2.2.2.2.2.2.2.2.2.2.2.2.2.2.2.2.2.2.2.1 k0_t6 k0_h2 (k0_off72_inb i v11 k0_hw2 k0_t6 k0_h2)
theorem k0_mult29_dvd : ∀ (i : grid0.Coords) (v11 : BitVec 32) (k0_hw2 : k0_chk2 i v11) (k0_t6 : Fin (k0_t6_loop v11).trips), ∀ (k0_h2 : k0_cond2 i = 1#1), 16 ∣ (k0_mult29 v11 k0_t6).toNat := fun i v11 k0_hw2 k0_t6 k0_h2 => k0_hw2.2.1.2.2.2.2.2.2.2.2.2.2.2.2.2.2.2.2.2.2.2.2.2.2.2.2.2.2.1 k0_t6 k0_h2
theorem k0_off73_inb : ∀ (i : grid0.Coords) (v11 : BitVec 32) (k0_hw2 : k0_chk2 i v11) (k0_t6 : Fin (k0_t6_loop v11).trips), ∀ (k0_h2 : k0_cond2 i = 1#1), ∀ a, (k0_off73 v11 k0_t6) a + S1x1x1.size a ≤ S1x1x256.size a := fun i v11 k0_hw2 k0_t6 k0_h2 => k0_hw2.2.1.2.2.2.2.2.2.2.2.2.2.2.2.2.2.2.2.2.2.2.2.2.2.2.2.2.2.2.1 k0_t6 k0_h2
theorem k0_off76_inb : ∀ (i : grid0.Coords) (v11 : BitVec 32) (k0_hw2 : k0_chk2 i v11) (k0_t6 : Fin (k0_t6_loop v11).trips), ∀ (k0_h2 : k0_cond2 i = 1#1), ∀ a, (k0_off76 i v11 k0_t6) a + S1x16x1024.size a ≤ S2x3072x1024.size a := fun i v11 k0_hw2 k0_t6 k0_h2 => k0_hw2.2.1.2.2.2.2.2.2.2.2.2.2.2.2.2.2.2.2.2.2.2.2.2.2.2.2.2.2.2.2.1 k0_t6 k0_h2
theorem k0_off76_wordsbf16 : ∀ (i : grid0.Coords) (v11 : BitVec 32) (k0_hw2 : k0_chk2 i v11) (k0_t6 : Fin (k0_t6_loop v11).trips), ∀ (k0_h2 : k0_cond2 i = 1#1), (Rect.unit (s := S2x3072x1024) (k0_off76 i v11 k0_t6) S1x16x1024.size (k0_off76_inb i v11 k0_hw2 k0_t6 k0_h2)).WholeWords (EltTy.packing .bf16) := fun i v11 k0_hw2 k0_t6 k0_h2 => k0_hw2.2.1.2.2.2.2.2.2.2.2.2.2.2.2.2.2.2.2.2.2.2.2.2.2.2.2.2.2.2.2.2.1 k0_t6 k0_h2 (k0_off76_inb i v11 k0_hw2 k0_t6 k0_h2)
theorem k0_mult31_dvd : ∀ (i : grid0.Coords) (v11 : BitVec 32) (k0_hw2 : k0_chk2 i v11) (k0_t6 : Fin (k0_t6_loop v11).trips), ∀ (k0_h2 : k0_cond2 i = 1#1), 16 ∣ (k0_mult31 v11 k0_t6).toNat := fun i v11 k0_hw2 k0_t6 k0_h2 => k0_hw2.2.1.2.2.2.2.2.2.2.2.2.2.2.2.2.2.2.2.2.2.2.2.2.2.2.2.2.2.2.2.2.2.1 k0_t6 k0_h2
theorem k0_off77_inb : ∀ (i : grid0.Coords) (v11 : BitVec 32) (k0_hw2 : k0_chk2 i v11) (k0_t6 : Fin (k0_t6_loop v11).trips), ∀ (k0_h2 : k0_cond2 i = 1#1), ∀ a, (k0_off77 v11 k0_t6) a + S1x1x1.size a ≤ S1x1x256.size a := fun i v11 k0_hw2 k0_t6 k0_h2 => k0_hw2.2.1.2.2.2.2.2.2.2.2.2.2.2.2.2.2.2.2.2.2.2.2.2.2.2.2.2.2.2.2.2.2.2 k0_t6 k0_h2
theorem k0_off80_inb : ∀ (i : grid0.Coords) (v11 : BitVec 32) (k0_hw2 : k0_chk2 i v11) (k0_t6 : Fin (k0_t6_loop v11).trips), ∀ (k0_h2 : k0_cond2 i = 1#1), ∀ a, (k0_off80 i v11 k0_t6) a + S1x16x1024.size a ≤ S2x3072x1024.size a := fun i v11 k0_hw2 k0_t6 k0_h2 => k0_hw2.2.2.1 k0_t6 k0_h2
theorem k0_off80_wordsbf16 : ∀ (i : grid0.Coords) (v11 : BitVec 32) (k0_hw2 : k0_chk2 i v11) (k0_t6 : Fin (k0_t6_loop v11).trips), ∀ (k0_h2 : k0_cond2 i = 1#1), (Rect.unit (s := S2x3072x1024) (k0_off80 i v11 k0_t6) S1x16x1024.size (k0_off80_inb i v11 k0_hw2 k0_t6 k0_h2)).WholeWords (EltTy.packing .bf16) := fun i v11 k0_hw2 k0_t6 k0_h2 => k0_hw2.2.2.2.1 k0_t6 k0_h2 (k0_off80_inb i v11 k0_hw2 k0_t6 k0_h2)
theorem k0_t7_ok : ∀ (i : grid0.Coords) (v11 : BitVec 32) (k0_hw2 : k0_chk2 i v11), ∀ (k0_h2 : k0_cond2 i = 1#1), (k0_t7_loop v11).OK := fun i v11 k0_hw2 k0_h2 => k0_hw2.2.2.2.2.1 k0_h2
theorem k0_mult33_dvd : ∀ (i : grid0.Coords) (v11 : BitVec 32) (k0_hw2 : k0_chk2 i v11) (k0_t7 : Fin (k0_t7_loop v11).trips), ∀ (k0_h2 : k0_cond2 i = 1#1), 16 ∣ (k0_mult33 v11 k0_t7).toNat := fun i v11 k0_hw2 k0_t7 k0_h2 => k0_hw2.2.2.2.2.2.1 k0_t7 k0_h2
theorem k0_off81_inb : ∀ (i : grid0.Coords) (v11 : BitVec 32) (k0_hw2 : k0_chk2 i v11) (k0_t7 : Fin (k0_t7_loop v11).trips), ∀ (k0_h2 : k0_cond2 i = 1#1), ∀ a, (k0_off81 v11 k0_t7) a + S1x1x1.size a ≤ S1x1x256.size a := fun i v11 k0_hw2 k0_t7 k0_h2 => k0_hw2.2.2.2.2.2.2.1 k0_t7 k0_h2
theorem k0_off84_inb : ∀ (i : grid0.Coords) (v11 : BitVec 32) (k0_hw2 : k0_chk2 i v11) (k0_t7 : Fin (k0_t7_loop v11).trips), ∀ (k0_h2 : k0_cond2 i = 1#1), ∀ a, (k0_off84 i v11 k0_t7) a + S1x16x1024.size a ≤ S2x3072x1024.size a := fun i v11 k0_hw2 k0_t7 k0_h2 => k0_hw2.2.2.2.2.2.2.2.1 k0_t7 k0_h2
theorem k0_off84_wordsbf16 : ∀ (i : grid0.Coords) (v11 : BitVec 32) (k0_hw2 : k0_chk2 i v11) (k0_t7 : Fin (k0_t7_loop v11).trips), ∀ (k0_h2 : k0_cond2 i = 1#1), (Rect.unit (s := S2x3072x1024) (k0_off84 i v11 k0_t7) S1x16x1024.size (k0_off84_inb i v11 k0_hw2 k0_t7 k0_h2)).WholeWords (EltTy.packing .bf16) := fun i v11 k0_hw2 k0_t7 k0_h2 => k0_hw2.2.2.2.2.2.2.2.2.1 k0_t7 k0_h2 (k0_off84_inb i v11 k0_hw2 k0_t7 k0_h2)
theorem k0_t8_ok : ∀ (i : grid0.Coords) (v11 : BitVec 32) (k0_hw2 : k0_chk2 i v11), ∀ (k0_h2 : k0_cond2 i = 1#1), (k0_t8_loop v11).OK := fun i v11 k0_hw2 k0_h2 => k0_hw2.2.2.2.2.2.2.2.2.2.1 k0_h2
theorem k0_mult35_dvd : ∀ (i : grid0.Coords) (v11 : BitVec 32) (k0_hw2 : k0_chk2 i v11) (k0_t8 : Fin (k0_t8_loop v11).trips), ∀ (k0_h2 : k0_cond2 i = 1#1), 16 ∣ (k0_mult35 v11 k0_t8).toNat := fun i v11 k0_hw2 k0_t8 k0_h2 => k0_hw2.2.2.2.2.2.2.2.2.2.2.1 k0_t8 k0_h2
theorem k0_off85_inb : ∀ (i : grid0.Coords) (v11 : BitVec 32) (k0_hw2 : k0_chk2 i v11) (k0_t8 : Fin (k0_t8_loop v11).trips), ∀ (k0_h2 : k0_cond2 i = 1#1), ∀ a, (k0_off85 v11 k0_t8) a + S1x1x1.size a ≤ S1x1x256.size a := fun i v11 k0_hw2 k0_t8 k0_h2 => k0_hw2.2.2.2.2.2.2.2.2.2.2.2.1 k0_t8 k0_h2
theorem k0_off88_inb : ∀ (i : grid0.Coords) (v11 : BitVec 32) (k0_hw2 : k0_chk2 i v11) (k0_t8 : Fin (k0_t8_loop v11).trips), ∀ (k0_h2 : k0_cond2 i = 1#1), ∀ a, (k0_off88 i v11 k0_t8) a + S1x16x1024.size a ≤ S2x3072x1024.size a := fun i v11 k0_hw2 k0_t8 k0_h2 => k0_hw2.2.2.2.2.2.2.2.2.2.2.2.2.1 k0_t8 k0_h2
theorem k0_off88_wordsbf16 : ∀ (i : grid0.Coords) (v11 : BitVec 32) (k0_hw2 : k0_chk2 i v11) (k0_t8 : Fin (k0_t8_loop v11).trips), ∀ (k0_h2 : k0_cond2 i = 1#1), (Rect.unit (s := S2x3072x1024) (k0_off88 i v11 k0_t8) S1x16x1024.size (k0_off88_inb i v11 k0_hw2 k0_t8 k0_h2)).WholeWords (EltTy.packing .bf16) := fun i v11 k0_hw2 k0_t8 k0_h2 => k0_hw2.2.2.2.2.2.2.2.2.2.2.2.2.2 k0_t8 k0_h2 (k0_off88_inb i v11 k0_hw2 k0_t8 k0_h2)

def k0_chk20 (i : grid0.Coords) (v254 : BitVec 32) : Prop :=
  (∀ (k0_h2 : k0_cond2 i = 1#1), 16 ∣ (k0_mult36 v254).toNat) ∧
  (∀ (k0_h2 : k0_cond2 i = 1#1), ∀ a, (k0_off87 v254) a + S16x1024.size a ≤ S227328x1024.size a) ∧
  (∀ (k0_h2 : k0_cond2 i = 1#1), ∀ (hinb : ∀ a, (k0_off87 v254) a + S16x1024.size a ≤ S227328x1024.size a), (Rect.unit (s := S227328x1024) (k0_off87 v254) S16x1024.size hinb).WholeWords (EltTy.packing .bf16))
theorem k0_mult36_dvd : ∀ (i : grid0.Coords) (v254 : BitVec 32) (k0_hw20 : k0_chk20 i v254), ∀ (k0_h2 : k0_cond2 i = 1#1), 16 ∣ (k0_mult36 v254).toNat := fun i v254 k0_hw20 k0_h2 => k0_hw20.1 k0_h2
theorem k0_off87_inb : ∀ (i : grid0.Coords) (v254 : BitVec 32) (k0_hw20 : k0_chk20 i v254), ∀ (k0_h2 : k0_cond2 i = 1#1), ∀ a, (k0_off87 v254) a + S16x1024.size a ≤ S227328x1024.size a := fun i v254 k0_hw20 k0_h2 => k0_hw20.2.1 k0_h2
theorem k0_off87_wordsbf16 : ∀ (i : grid0.Coords) (v254 : BitVec 32) (k0_hw20 : k0_chk20 i v254), ∀ (k0_h2 : k0_cond2 i = 1#1), (Rect.unit (s := S227328x1024) (k0_off87 v254) S16x1024.size (k0_off87_inb i v254 k0_hw20 k0_h2)).WholeWords (EltTy.packing .bf16) := fun i v254 k0_hw20 k0_h2 => k0_hw20.2.2 k0_h2 (k0_off87_inb i v254 k0_hw20 k0_h2)

def k0_cond5 (i : grid0.Coords) : BitVec 1 :=
  let arg0 : BitVec 32 := BitVec.ofNat 32 (i 0).val
  let c64_i32_2 : BitVec 32 := 64#32
  let v7 : BitVec 1 := Scalar.cmpi .eq arg0 c64_i32_2
  let v8 : BitVec 32 := Scalar.extui v7
  let c0_i32_3 : BitVec 32 := 0#32
  let v9 : BitVec 1 := Scalar.cmpi .ne v8 c0_i32_3
  v9

def k0_off89 (i : grid0.Coords) : Fin 3 → Nat :=
  let arg0 : BitVec 32 := BitVec.ofNat 32 (i 0).val
  let c2_i32 : BitVec 32 := 2#32
  let v0 : BitVec 32 := Scalar.remsi arg0 c2_i32
  let v62 : Index := Scalar.indexCast v0
  let c0_9 : Index := 0#32
  let c0_10 : Index := 0#32
  ![v62.toNat, 0, 0]
def k0_off90 (i : grid0.Coords) : Fin 3 → Nat :=
  let arg0 : BitVec 32 := BitVec.ofNat 32 (i 0).val
  let c2_i32 : BitVec 32 := 2#32
  let v0 : BitVec 32 := Scalar.remsi arg0 c2_i32
  let v117 : Index := Scalar.indexCast v0
  let c512 : Index := 512#32
  let c0_16 : Index := 0#32
  ![v117.toNat, 512, 0]
def k0_off91 (i : grid0.Coords) : Fin 3 → Nat :=
  let arg0 : BitVec 32 := BitVec.ofNat 32 (i 0).val
  let c2_i32 : BitVec 32 := 2#32
  let v0 : BitVec 32 := Scalar.remsi arg0 c2_i32
  let v243 : Index := Scalar.indexCast v0
  let c1024 : Index := 1024#32
  let c0_83 : Index := 0#32
  ![v243.toNat, 1024, 0]
def k0_off92 (i : grid0.Coords) : Fin 3 → Nat :=
  let arg0 : BitVec 32 := BitVec.ofNat 32 (i 0).val
  let c2_i32 : BitVec 32 := 2#32
  let v0 : BitVec 32 := Scalar.remsi arg0 c2_i32
  let v243 : Index := Scalar.indexCast v0
  let c1536 : Index := 1536#32
  let c0_83 : Index := 0#32
  ![v243.toNat, 1536, 0]
@[reducible] def k0_t9_loop (v10 : BitVec 32) : Scf.Loop 32 :=
  let c0_i32_20 : BitVec 32 := 0#32
  let c4_i32 : BitVec 32 := 4#32
  let v127 : BitVec 32 := Scalar.shrui v10 c4_i32
  let c3_i32 : BitVec 32 := 3#32
  let v128 : BitVec 32 := Scalar.shrui v127 c3_i32
  let v129 : BitVec 32 := Scalar.subi v128 c0_i32_20
  let c1_i32 : BitVec 32 := 1#32
  let v131 : BitVec 32 := Scalar.divsi v129 c1_i32
  let v132 : BitVec 32 := Scalar.muli v131 c1_i32
  let v133 : BitVec 32 := Scalar.addi c0_i32_20 v132
  let c1_i32_21 : BitVec 32 := 1#32
  ⟨c0_i32_20, v133, c1_i32_21⟩

def k0_mult37 (v10 : BitVec 32) (k0_t9 : Fin (k0_t9_loop v10).trips) : BitVec 32 :=
  let c0_i32_20 : BitVec 32 := 0#32
  let c1_i32_21 : BitVec 32 := 1#32
  let arg16 : BitVec 32 := Scf.iv c0_i32_20 c1_i32_21 k0_t9
  let c8_i32_77 : BitVec 32 := 8#32
  let v192 : BitVec 32 := Scalar.muli arg16 c8_i32_77
  let c0_i32_78 : BitVec 32 := 0#32
  let v193 : BitVec 32 := Scalar.addi v192 c0_i32_78
  let c16_i32 : BitVec 32 := 16#32
  let v194 : BitVec 32 := Scalar.muli v193 c16_i32
  v194
def k0_off93 (v10 : BitVec 32) (k0_t9 : Fin (k0_t9_loop v10).trips) : Fin 3 → Nat :=
  let c0_79 : Index := 0#32
  let c0_80 : Index := 0#32
  let c0_i32_20 : BitVec 32 := 0#32
  let c1_i32_21 : BitVec 32 := 1#32
  let arg16 : BitVec 32 := Scf.iv c0_i32_20 c1_i32_21 k0_t9
  let c8_i32_77 : BitVec 32 := 8#32
  let v192 : BitVec 32 := Scalar.muli arg16 c8_i32_77
  let c0_i32_78 : BitVec 32 := 0#32
  let v193 : BitVec 32 := Scalar.addi v192 c0_i32_78
  let v196 : Index := Scalar.indexCast v193
  ![0, 0, v196.toNat]
def k0_mult38 (v197 : BitVec 32) : BitVec 32 :=
  v197

def k0_off94 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off95 (v197 : BitVec 32) : Fin 2 → Nat :=
  let v198 : BitVec 32 := v197
  let c0_i32_81 : BitVec 32 := 0#32
  ![v198.toNat, 0]
def k0_off96 (i : grid0.Coords) (v10 : BitVec 32) (k0_t9 : Fin (k0_t9_loop v10).trips) : Fin 3 → Nat :=
  let arg0 : BitVec 32 := BitVec.ofNat 32 (i 0).val
  let c2_i32 : BitVec 32 := 2#32
  let v0 : BitVec 32 := Scalar.remsi arg0 c2_i32
  let c0_i32_20 : BitVec 32 := 0#32
  let c1_i32_21 : BitVec 32 := 1#32
  let arg16 : BitVec 32 := Scf.iv c0_i32_20 c1_i32_21 k0_t9
  let c8_i32_77 : BitVec 32 := 8#32
  let v192 : BitVec 32 := Scalar.muli arg16 c8_i32_77
  let c0_i32_78 : BitVec 32 := 0#32
  let v193 : BitVec 32 := Scalar.addi v192 c0_i32_78
  let c16_i32 : BitVec 32 := 16#32
  let v194 : BitVec 32 := Scalar.muli v193 c16_i32
  let v195 : BitVec 32 := v194
  let c0_i32_82 : BitVec 32 := 0#32
  ![v0.toNat, v195.toNat, 0]

def k0_chk22 (i : grid0.Coords) (v197 : BitVec 32) : Prop :=
  (∀ (k0_h5 : k0_cond5 i = 1#1), 16 ∣ (k0_mult38 v197).toNat) ∧
  (∀ (k0_h5 : k0_cond5 i = 1#1), ∀ a, (k0_off95 v197) a + S16x1024.size a ≤ S227328x1024.size a) ∧
  (∀ (k0_h5 : k0_cond5 i = 1#1), ∀ (hinb : ∀ a, (k0_off95 v197) a + S16x1024.size a ≤ S227328x1024.size a), (Rect.unit (s := S227328x1024) (k0_off95 v197) S16x1024.size hinb).WholeWords (EltTy.packing .bf16))
theorem k0_mult38_dvd : ∀ (i : grid0.Coords) (v197 : BitVec 32) (k0_hw22 : k0_chk22 i v197), ∀ (k0_h5 : k0_cond5 i = 1#1), 16 ∣ (k0_mult38 v197).toNat := fun i v197 k0_hw22 k0_h5 => k0_hw22.1 k0_h5
theorem k0_off95_inb : ∀ (i : grid0.Coords) (v197 : BitVec 32) (k0_hw22 : k0_chk22 i v197), ∀ (k0_h5 : k0_cond5 i = 1#1), ∀ a, (k0_off95 v197) a + S16x1024.size a ≤ S227328x1024.size a := fun i v197 k0_hw22 k0_h5 => k0_hw22.2.1 k0_h5
theorem k0_off95_wordsbf16 : ∀ (i : grid0.Coords) (v197 : BitVec 32) (k0_hw22 : k0_chk22 i v197), ∀ (k0_h5 : k0_cond5 i = 1#1), (Rect.unit (s := S227328x1024) (k0_off95 v197) S16x1024.size (k0_off95_inb i v197 k0_hw22 k0_h5)).WholeWords (EltTy.packing .bf16) := fun i v197 k0_hw22 k0_h5 => k0_hw22.2.2 k0_h5 (k0_off95_inb i v197 k0_hw22 k0_h5)

def k0_mult39 (v10 : BitVec 32) (k0_t9 : Fin (k0_t9_loop v10).trips) : BitVec 32 :=
  let c0_i32_20 : BitVec 32 := 0#32
  let c1_i32_21 : BitVec 32 := 1#32
  let arg16 : BitVec 32 := Scf.iv c0_i32_20 c1_i32_21 k0_t9
  let c8_i32_83 : BitVec 32 := 8#32
  let v204 : BitVec 32 := Scalar.muli arg16 c8_i32_83
  let c1_i32_84 : BitVec 32 := 1#32
  let v205 : BitVec 32 := Scalar.addi v204 c1_i32_84
  let c16_i32_85 : BitVec 32 := 16#32
  let v206 : BitVec 32 := Scalar.muli v205 c16_i32_85
  v206
def k0_off97 (v10 : BitVec 32) (k0_t9 : Fin (k0_t9_loop v10).trips) : Fin 3 → Nat :=
  let c0_86 : Index := 0#32
  let c0_87 : Index := 0#32
  let c0_i32_20 : BitVec 32 := 0#32
  let c1_i32_21 : BitVec 32 := 1#32
  let arg16 : BitVec 32 := Scf.iv c0_i32_20 c1_i32_21 k0_t9
  let c8_i32_83 : BitVec 32 := 8#32
  let v204 : BitVec 32 := Scalar.muli arg16 c8_i32_83
  let c1_i32_84 : BitVec 32 := 1#32
  let v205 : BitVec 32 := Scalar.addi v204 c1_i32_84
  let v208 : Index := Scalar.indexCast v205
  ![0, 0, v208.toNat]
def k0_mult40 (v209 : BitVec 32) : BitVec 32 :=
  v209

def k0_off98 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off99 (v209 : BitVec 32) : Fin 2 → Nat :=
  let v210 : BitVec 32 := v209
  let c0_i32_88 : BitVec 32 := 0#32
  ![v210.toNat, 0]
def k0_off100 (i : grid0.Coords) (v10 : BitVec 32) (k0_t9 : Fin (k0_t9_loop v10).trips) : Fin 3 → Nat :=
  let arg0 : BitVec 32 := BitVec.ofNat 32 (i 0).val
  let c2_i32 : BitVec 32 := 2#32
  let v0 : BitVec 32 := Scalar.remsi arg0 c2_i32
  let c0_i32_20 : BitVec 32 := 0#32
  let c1_i32_21 : BitVec 32 := 1#32
  let arg16 : BitVec 32 := Scf.iv c0_i32_20 c1_i32_21 k0_t9
  let c8_i32_83 : BitVec 32 := 8#32
  let v204 : BitVec 32 := Scalar.muli arg16 c8_i32_83
  let c1_i32_84 : BitVec 32 := 1#32
  let v205 : BitVec 32 := Scalar.addi v204 c1_i32_84
  let c16_i32_85 : BitVec 32 := 16#32
  let v206 : BitVec 32 := Scalar.muli v205 c16_i32_85
  let v207 : BitVec 32 := v206
  let c0_i32_89 : BitVec 32 := 0#32
  ![v0.toNat, v207.toNat, 0]

def k0_chk23 (i : grid0.Coords) (v209 : BitVec 32) : Prop :=
  (∀ (k0_h5 : k0_cond5 i = 1#1), 16 ∣ (k0_mult40 v209).toNat) ∧
  (∀ (k0_h5 : k0_cond5 i = 1#1), ∀ a, (k0_off99 v209) a + S16x1024.size a ≤ S227328x1024.size a) ∧
  (∀ (k0_h5 : k0_cond5 i = 1#1), ∀ (hinb : ∀ a, (k0_off99 v209) a + S16x1024.size a ≤ S227328x1024.size a), (Rect.unit (s := S227328x1024) (k0_off99 v209) S16x1024.size hinb).WholeWords (EltTy.packing .bf16))
theorem k0_mult40_dvd : ∀ (i : grid0.Coords) (v209 : BitVec 32) (k0_hw23 : k0_chk23 i v209), ∀ (k0_h5 : k0_cond5 i = 1#1), 16 ∣ (k0_mult40 v209).toNat := fun i v209 k0_hw23 k0_h5 => k0_hw23.1 k0_h5
theorem k0_off99_inb : ∀ (i : grid0.Coords) (v209 : BitVec 32) (k0_hw23 : k0_chk23 i v209), ∀ (k0_h5 : k0_cond5 i = 1#1), ∀ a, (k0_off99 v209) a + S16x1024.size a ≤ S227328x1024.size a := fun i v209 k0_hw23 k0_h5 => k0_hw23.2.1 k0_h5
theorem k0_off99_wordsbf16 : ∀ (i : grid0.Coords) (v209 : BitVec 32) (k0_hw23 : k0_chk23 i v209), ∀ (k0_h5 : k0_cond5 i = 1#1), (Rect.unit (s := S227328x1024) (k0_off99 v209) S16x1024.size (k0_off99_inb i v209 k0_hw23 k0_h5)).WholeWords (EltTy.packing .bf16) := fun i v209 k0_hw23 k0_h5 => k0_hw23.2.2 k0_h5 (k0_off99_inb i v209 k0_hw23 k0_h5)

def k0_mult41 (v10 : BitVec 32) (k0_t9 : Fin (k0_t9_loop v10).trips) : BitVec 32 :=
  let c0_i32_20 : BitVec 32 := 0#32
  let c1_i32_21 : BitVec 32 := 1#32
  let arg16 : BitVec 32 := Scf.iv c0_i32_20 c1_i32_21 k0_t9
  let c8_i32_90 : BitVec 32 := 8#32
  let v216 : BitVec 32 := Scalar.muli arg16 c8_i32_90
  let c2_i32_91 : BitVec 32 := 2#32
  let v217 : BitVec 32 := Scalar.addi v216 c2_i32_91
  let c16_i32_92 : BitVec 32 := 16#32
  let v218 : BitVec 32 := Scalar.muli v217 c16_i32_92
  v218
def k0_off101 (v10 : BitVec 32) (k0_t9 : Fin (k0_t9_loop v10).trips) : Fin 3 → Nat :=
  let c0_93 : Index := 0#32
  let c0_94 : Index := 0#32
  let c0_i32_20 : BitVec 32 := 0#32
  let c1_i32_21 : BitVec 32 := 1#32
  let arg16 : BitVec 32 := Scf.iv c0_i32_20 c1_i32_21 k0_t9
  let c8_i32_90 : BitVec 32 := 8#32
  let v216 : BitVec 32 := Scalar.muli arg16 c8_i32_90
  let c2_i32_91 : BitVec 32 := 2#32
  let v217 : BitVec 32 := Scalar.addi v216 c2_i32_91
  let v220 : Index := Scalar.indexCast v217
  ![0, 0, v220.toNat]
def k0_mult42 (v221 : BitVec 32) : BitVec 32 :=
  v221

def k0_off102 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off103 (v221 : BitVec 32) : Fin 2 → Nat :=
  let v222 : BitVec 32 := v221
  let c0_i32_95 : BitVec 32 := 0#32
  ![v222.toNat, 0]
def k0_off104 (i : grid0.Coords) (v10 : BitVec 32) (k0_t9 : Fin (k0_t9_loop v10).trips) : Fin 3 → Nat :=
  let arg0 : BitVec 32 := BitVec.ofNat 32 (i 0).val
  let c2_i32 : BitVec 32 := 2#32
  let v0 : BitVec 32 := Scalar.remsi arg0 c2_i32
  let c0_i32_20 : BitVec 32 := 0#32
  let c1_i32_21 : BitVec 32 := 1#32
  let arg16 : BitVec 32 := Scf.iv c0_i32_20 c1_i32_21 k0_t9
  let c8_i32_90 : BitVec 32 := 8#32
  let v216 : BitVec 32 := Scalar.muli arg16 c8_i32_90
  let c2_i32_91 : BitVec 32 := 2#32
  let v217 : BitVec 32 := Scalar.addi v216 c2_i32_91
  let c16_i32_92 : BitVec 32 := 16#32
  let v218 : BitVec 32 := Scalar.muli v217 c16_i32_92
  let v219 : BitVec 32 := v218
  let c0_i32_96 : BitVec 32 := 0#32
  ![v0.toNat, v219.toNat, 0]

def k0_chk24 (i : grid0.Coords) (v221 : BitVec 32) : Prop :=
  (∀ (k0_h5 : k0_cond5 i = 1#1), 16 ∣ (k0_mult42 v221).toNat) ∧
  (∀ (k0_h5 : k0_cond5 i = 1#1), ∀ a, (k0_off103 v221) a + S16x1024.size a ≤ S227328x1024.size a) ∧
  (∀ (k0_h5 : k0_cond5 i = 1#1), ∀ (hinb : ∀ a, (k0_off103 v221) a + S16x1024.size a ≤ S227328x1024.size a), (Rect.unit (s := S227328x1024) (k0_off103 v221) S16x1024.size hinb).WholeWords (EltTy.packing .bf16))
theorem k0_mult42_dvd : ∀ (i : grid0.Coords) (v221 : BitVec 32) (k0_hw24 : k0_chk24 i v221), ∀ (k0_h5 : k0_cond5 i = 1#1), 16 ∣ (k0_mult42 v221).toNat := fun i v221 k0_hw24 k0_h5 => k0_hw24.1 k0_h5
theorem k0_off103_inb : ∀ (i : grid0.Coords) (v221 : BitVec 32) (k0_hw24 : k0_chk24 i v221), ∀ (k0_h5 : k0_cond5 i = 1#1), ∀ a, (k0_off103 v221) a + S16x1024.size a ≤ S227328x1024.size a := fun i v221 k0_hw24 k0_h5 => k0_hw24.2.1 k0_h5
theorem k0_off103_wordsbf16 : ∀ (i : grid0.Coords) (v221 : BitVec 32) (k0_hw24 : k0_chk24 i v221), ∀ (k0_h5 : k0_cond5 i = 1#1), (Rect.unit (s := S227328x1024) (k0_off103 v221) S16x1024.size (k0_off103_inb i v221 k0_hw24 k0_h5)).WholeWords (EltTy.packing .bf16) := fun i v221 k0_hw24 k0_h5 => k0_hw24.2.2 k0_h5 (k0_off103_inb i v221 k0_hw24 k0_h5)

def k0_mult43 (v10 : BitVec 32) (k0_t9 : Fin (k0_t9_loop v10).trips) : BitVec 32 :=
  let c0_i32_20 : BitVec 32 := 0#32
  let c1_i32_21 : BitVec 32 := 1#32
  let arg16 : BitVec 32 := Scf.iv c0_i32_20 c1_i32_21 k0_t9
  let c8_i32_97 : BitVec 32 := 8#32
  let v228 : BitVec 32 := Scalar.muli arg16 c8_i32_97
  let c3_i32_98 : BitVec 32 := 3#32
  let v229 : BitVec 32 := Scalar.addi v228 c3_i32_98
  let c16_i32_99 : BitVec 32 := 16#32
  let v230 : BitVec 32 := Scalar.muli v229 c16_i32_99
  v230
def k0_off105 (v10 : BitVec 32) (k0_t9 : Fin (k0_t9_loop v10).trips) : Fin 3 → Nat :=
  let c0_100 : Index := 0#32
  let c0_101 : Index := 0#32
  let c0_i32_20 : BitVec 32 := 0#32
  let c1_i32_21 : BitVec 32 := 1#32
  let arg16 : BitVec 32 := Scf.iv c0_i32_20 c1_i32_21 k0_t9
  let c8_i32_97 : BitVec 32 := 8#32
  let v228 : BitVec 32 := Scalar.muli arg16 c8_i32_97
  let c3_i32_98 : BitVec 32 := 3#32
  let v229 : BitVec 32 := Scalar.addi v228 c3_i32_98
  let v232 : Index := Scalar.indexCast v229
  ![0, 0, v232.toNat]
def k0_mult44 (v233 : BitVec 32) : BitVec 32 :=
  v233

def k0_off106 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off107 (v233 : BitVec 32) : Fin 2 → Nat :=
  let v234 : BitVec 32 := v233
  let c0_i32_102 : BitVec 32 := 0#32
  ![v234.toNat, 0]
def k0_off108 (i : grid0.Coords) (v10 : BitVec 32) (k0_t9 : Fin (k0_t9_loop v10).trips) : Fin 3 → Nat :=
  let arg0 : BitVec 32 := BitVec.ofNat 32 (i 0).val
  let c2_i32 : BitVec 32 := 2#32
  let v0 : BitVec 32 := Scalar.remsi arg0 c2_i32
  let c0_i32_20 : BitVec 32 := 0#32
  let c1_i32_21 : BitVec 32 := 1#32
  let arg16 : BitVec 32 := Scf.iv c0_i32_20 c1_i32_21 k0_t9
  let c8_i32_97 : BitVec 32 := 8#32
  let v228 : BitVec 32 := Scalar.muli arg16 c8_i32_97
  let c3_i32_98 : BitVec 32 := 3#32
  let v229 : BitVec 32 := Scalar.addi v228 c3_i32_98
  let c16_i32_99 : BitVec 32 := 16#32
  let v230 : BitVec 32 := Scalar.muli v229 c16_i32_99
  let v231 : BitVec 32 := v230
  let c0_i32_103 : BitVec 32 := 0#32
  ![v0.toNat, v231.toNat, 0]

def k0_chk25 (i : grid0.Coords) (v233 : BitVec 32) : Prop :=
  (∀ (k0_h5 : k0_cond5 i = 1#1), 16 ∣ (k0_mult44 v233).toNat) ∧
  (∀ (k0_h5 : k0_cond5 i = 1#1), ∀ a, (k0_off107 v233) a + S16x1024.size a ≤ S227328x1024.size a) ∧
  (∀ (k0_h5 : k0_cond5 i = 1#1), ∀ (hinb : ∀ a, (k0_off107 v233) a + S16x1024.size a ≤ S227328x1024.size a), (Rect.unit (s := S227328x1024) (k0_off107 v233) S16x1024.size hinb).WholeWords (EltTy.packing .bf16))
theorem k0_mult44_dvd : ∀ (i : grid0.Coords) (v233 : BitVec 32) (k0_hw25 : k0_chk25 i v233), ∀ (k0_h5 : k0_cond5 i = 1#1), 16 ∣ (k0_mult44 v233).toNat := fun i v233 k0_hw25 k0_h5 => k0_hw25.1 k0_h5
theorem k0_off107_inb : ∀ (i : grid0.Coords) (v233 : BitVec 32) (k0_hw25 : k0_chk25 i v233), ∀ (k0_h5 : k0_cond5 i = 1#1), ∀ a, (k0_off107 v233) a + S16x1024.size a ≤ S227328x1024.size a := fun i v233 k0_hw25 k0_h5 => k0_hw25.2.1 k0_h5
theorem k0_off107_wordsbf16 : ∀ (i : grid0.Coords) (v233 : BitVec 32) (k0_hw25 : k0_chk25 i v233), ∀ (k0_h5 : k0_cond5 i = 1#1), (Rect.unit (s := S227328x1024) (k0_off107 v233) S16x1024.size (k0_off107_inb i v233 k0_hw25 k0_h5)).WholeWords (EltTy.packing .bf16) := fun i v233 k0_hw25 k0_h5 => k0_hw25.2.2 k0_h5 (k0_off107_inb i v233 k0_hw25 k0_h5)

def k0_mult45 (v10 : BitVec 32) (k0_t9 : Fin (k0_t9_loop v10).trips) : BitVec 32 :=
  let c0_i32_20 : BitVec 32 := 0#32
  let c1_i32_21 : BitVec 32 := 1#32
  let arg16 : BitVec 32 := Scf.iv c0_i32_20 c1_i32_21 k0_t9
  let c8_i32_104 : BitVec 32 := 8#32
  let v240 : BitVec 32 := Scalar.muli arg16 c8_i32_104
  let c4_i32_105 : BitVec 32 := 4#32
  let v241 : BitVec 32 := Scalar.addi v240 c4_i32_105
  let c16_i32_106 : BitVec 32 := 16#32
  let v242 : BitVec 32 := Scalar.muli v241 c16_i32_106
  v242
def k0_off109 (v10 : BitVec 32) (k0_t9 : Fin (k0_t9_loop v10).trips) : Fin 3 → Nat :=
  let c0_107 : Index := 0#32
  let c0_108 : Index := 0#32
  let c0_i32_20 : BitVec 32 := 0#32
  let c1_i32_21 : BitVec 32 := 1#32
  let arg16 : BitVec 32 := Scf.iv c0_i32_20 c1_i32_21 k0_t9
  let c8_i32_104 : BitVec 32 := 8#32
  let v240 : BitVec 32 := Scalar.muli arg16 c8_i32_104
  let c4_i32_105 : BitVec 32 := 4#32
  let v241 : BitVec 32 := Scalar.addi v240 c4_i32_105
  let v244 : Index := Scalar.indexCast v241
  ![0, 0, v244.toNat]
def k0_mult46 (v245 : BitVec 32) : BitVec 32 :=
  v245

def k0_off110 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off111 (v245 : BitVec 32) : Fin 2 → Nat :=
  let v246 : BitVec 32 := v245
  let c0_i32_109 : BitVec 32 := 0#32
  ![v246.toNat, 0]
def k0_off112 (i : grid0.Coords) (v10 : BitVec 32) (k0_t9 : Fin (k0_t9_loop v10).trips) : Fin 3 → Nat :=
  let arg0 : BitVec 32 := BitVec.ofNat 32 (i 0).val
  let c2_i32 : BitVec 32 := 2#32
  let v0 : BitVec 32 := Scalar.remsi arg0 c2_i32
  let c0_i32_20 : BitVec 32 := 0#32
  let c1_i32_21 : BitVec 32 := 1#32
  let arg16 : BitVec 32 := Scf.iv c0_i32_20 c1_i32_21 k0_t9
  let c8_i32_104 : BitVec 32 := 8#32
  let v240 : BitVec 32 := Scalar.muli arg16 c8_i32_104
  let c4_i32_105 : BitVec 32 := 4#32
  let v241 : BitVec 32 := Scalar.addi v240 c4_i32_105
  let c16_i32_106 : BitVec 32 := 16#32
  let v242 : BitVec 32 := Scalar.muli v241 c16_i32_106
  let v243 : BitVec 32 := v242
  let c0_i32_110 : BitVec 32 := 0#32
  ![v0.toNat, v243.toNat, 0]

def k0_chk26 (i : grid0.Coords) (v245 : BitVec 32) : Prop :=
  (∀ (k0_h5 : k0_cond5 i = 1#1), 16 ∣ (k0_mult46 v245).toNat) ∧
  (∀ (k0_h5 : k0_cond5 i = 1#1), ∀ a, (k0_off111 v245) a + S16x1024.size a ≤ S227328x1024.size a) ∧
  (∀ (k0_h5 : k0_cond5 i = 1#1), ∀ (hinb : ∀ a, (k0_off111 v245) a + S16x1024.size a ≤ S227328x1024.size a), (Rect.unit (s := S227328x1024) (k0_off111 v245) S16x1024.size hinb).WholeWords (EltTy.packing .bf16))
theorem k0_mult46_dvd : ∀ (i : grid0.Coords) (v245 : BitVec 32) (k0_hw26 : k0_chk26 i v245), ∀ (k0_h5 : k0_cond5 i = 1#1), 16 ∣ (k0_mult46 v245).toNat := fun i v245 k0_hw26 k0_h5 => k0_hw26.1 k0_h5
theorem k0_off111_inb : ∀ (i : grid0.Coords) (v245 : BitVec 32) (k0_hw26 : k0_chk26 i v245), ∀ (k0_h5 : k0_cond5 i = 1#1), ∀ a, (k0_off111 v245) a + S16x1024.size a ≤ S227328x1024.size a := fun i v245 k0_hw26 k0_h5 => k0_hw26.2.1 k0_h5
theorem k0_off111_wordsbf16 : ∀ (i : grid0.Coords) (v245 : BitVec 32) (k0_hw26 : k0_chk26 i v245), ∀ (k0_h5 : k0_cond5 i = 1#1), (Rect.unit (s := S227328x1024) (k0_off111 v245) S16x1024.size (k0_off111_inb i v245 k0_hw26 k0_h5)).WholeWords (EltTy.packing .bf16) := fun i v245 k0_hw26 k0_h5 => k0_hw26.2.2 k0_h5 (k0_off111_inb i v245 k0_hw26 k0_h5)

def k0_mult47 (v10 : BitVec 32) (k0_t9 : Fin (k0_t9_loop v10).trips) : BitVec 32 :=
  let c0_i32_20 : BitVec 32 := 0#32
  let c1_i32_21 : BitVec 32 := 1#32
  let arg16 : BitVec 32 := Scf.iv c0_i32_20 c1_i32_21 k0_t9
  let c8_i32_111 : BitVec 32 := 8#32
  let v252 : BitVec 32 := Scalar.muli arg16 c8_i32_111
  let c5_i32 : BitVec 32 := 5#32
  let v253 : BitVec 32 := Scalar.addi v252 c5_i32
  let c16_i32_112 : BitVec 32 := 16#32
  let v254 : BitVec 32 := Scalar.muli v253 c16_i32_112
  v254
def k0_off113 (v10 : BitVec 32) (k0_t9 : Fin (k0_t9_loop v10).trips) : Fin 3 → Nat :=
  let c0_113 : Index := 0#32
  let c0_114 : Index := 0#32
  let c0_i32_20 : BitVec 32 := 0#32
  let c1_i32_21 : BitVec 32 := 1#32
  let arg16 : BitVec 32 := Scf.iv c0_i32_20 c1_i32_21 k0_t9
  let c8_i32_111 : BitVec 32 := 8#32
  let v252 : BitVec 32 := Scalar.muli arg16 c8_i32_111
  let c5_i32 : BitVec 32 := 5#32
  let v253 : BitVec 32 := Scalar.addi v252 c5_i32
  let v256 : Index := Scalar.indexCast v253
  ![0, 0, v256.toNat]
def k0_mult48 (v257 : BitVec 32) : BitVec 32 :=
  v257

def k0_off114 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off115 (v257 : BitVec 32) : Fin 2 → Nat :=
  let v258 : BitVec 32 := v257
  let c0_i32_115 : BitVec 32 := 0#32
  ![v258.toNat, 0]
def k0_off116 (i : grid0.Coords) (v10 : BitVec 32) (k0_t9 : Fin (k0_t9_loop v10).trips) : Fin 3 → Nat :=
  let arg0 : BitVec 32 := BitVec.ofNat 32 (i 0).val
  let c2_i32 : BitVec 32 := 2#32
  let v0 : BitVec 32 := Scalar.remsi arg0 c2_i32
  let c0_i32_20 : BitVec 32 := 0#32
  let c1_i32_21 : BitVec 32 := 1#32
  let arg16 : BitVec 32 := Scf.iv c0_i32_20 c1_i32_21 k0_t9
  let c8_i32_111 : BitVec 32 := 8#32
  let v252 : BitVec 32 := Scalar.muli arg16 c8_i32_111
  let c5_i32 : BitVec 32 := 5#32
  let v253 : BitVec 32 := Scalar.addi v252 c5_i32
  let c16_i32_112 : BitVec 32 := 16#32
  let v254 : BitVec 32 := Scalar.muli v253 c16_i32_112
  let v255 : BitVec 32 := v254
  let c0_i32_116 : BitVec 32 := 0#32
  ![v0.toNat, v255.toNat, 0]

def k0_chk27 (i : grid0.Coords) (v257 : BitVec 32) : Prop :=
  (∀ (k0_h5 : k0_cond5 i = 1#1), 16 ∣ (k0_mult48 v257).toNat) ∧
  (∀ (k0_h5 : k0_cond5 i = 1#1), ∀ a, (k0_off115 v257) a + S16x1024.size a ≤ S227328x1024.size a) ∧
  (∀ (k0_h5 : k0_cond5 i = 1#1), ∀ (hinb : ∀ a, (k0_off115 v257) a + S16x1024.size a ≤ S227328x1024.size a), (Rect.unit (s := S227328x1024) (k0_off115 v257) S16x1024.size hinb).WholeWords (EltTy.packing .bf16))
theorem k0_mult48_dvd : ∀ (i : grid0.Coords) (v257 : BitVec 32) (k0_hw27 : k0_chk27 i v257), ∀ (k0_h5 : k0_cond5 i = 1#1), 16 ∣ (k0_mult48 v257).toNat := fun i v257 k0_hw27 k0_h5 => k0_hw27.1 k0_h5
theorem k0_off115_inb : ∀ (i : grid0.Coords) (v257 : BitVec 32) (k0_hw27 : k0_chk27 i v257), ∀ (k0_h5 : k0_cond5 i = 1#1), ∀ a, (k0_off115 v257) a + S16x1024.size a ≤ S227328x1024.size a := fun i v257 k0_hw27 k0_h5 => k0_hw27.2.1 k0_h5
theorem k0_off115_wordsbf16 : ∀ (i : grid0.Coords) (v257 : BitVec 32) (k0_hw27 : k0_chk27 i v257), ∀ (k0_h5 : k0_cond5 i = 1#1), (Rect.unit (s := S227328x1024) (k0_off115 v257) S16x1024.size (k0_off115_inb i v257 k0_hw27 k0_h5)).WholeWords (EltTy.packing .bf16) := fun i v257 k0_hw27 k0_h5 => k0_hw27.2.2 k0_h5 (k0_off115_inb i v257 k0_hw27 k0_h5)

def k0_mult49 (v10 : BitVec 32) (k0_t9 : Fin (k0_t9_loop v10).trips) : BitVec 32 :=
  let c0_i32_20 : BitVec 32 := 0#32
  let c1_i32_21 : BitVec 32 := 1#32
  let arg16 : BitVec 32 := Scf.iv c0_i32_20 c1_i32_21 k0_t9
  let c8_i32_117 : BitVec 32 := 8#32
  let v264 : BitVec 32 := Scalar.muli arg16 c8_i32_117
  let c6_i32 : BitVec 32 := 6#32
  let v265 : BitVec 32 := Scalar.addi v264 c6_i32
  let c16_i32_118 : BitVec 32 := 16#32
  let v266 : BitVec 32 := Scalar.muli v265 c16_i32_118
  v266
def k0_off117 (v10 : BitVec 32) (k0_t9 : Fin (k0_t9_loop v10).trips) : Fin 3 → Nat :=
  let c0_119 : Index := 0#32
  let c0_120 : Index := 0#32
  let c0_i32_20 : BitVec 32 := 0#32
  let c1_i32_21 : BitVec 32 := 1#32
  let arg16 : BitVec 32 := Scf.iv c0_i32_20 c1_i32_21 k0_t9
  let c8_i32_117 : BitVec 32 := 8#32
  let v264 : BitVec 32 := Scalar.muli arg16 c8_i32_117
  let c6_i32 : BitVec 32 := 6#32
  let v265 : BitVec 32 := Scalar.addi v264 c6_i32
  let v268 : Index := Scalar.indexCast v265
  ![0, 0, v268.toNat]
def k0_mult50 (v269 : BitVec 32) : BitVec 32 :=
  v269

def k0_off118 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off119 (v269 : BitVec 32) : Fin 2 → Nat :=
  let v270 : BitVec 32 := v269
  let c0_i32_121 : BitVec 32 := 0#32
  ![v270.toNat, 0]
def k0_off120 (i : grid0.Coords) (v10 : BitVec 32) (k0_t9 : Fin (k0_t9_loop v10).trips) : Fin 3 → Nat :=
  let arg0 : BitVec 32 := BitVec.ofNat 32 (i 0).val
  let c2_i32 : BitVec 32 := 2#32
  let v0 : BitVec 32 := Scalar.remsi arg0 c2_i32
  let c0_i32_20 : BitVec 32 := 0#32
  let c1_i32_21 : BitVec 32 := 1#32
  let arg16 : BitVec 32 := Scf.iv c0_i32_20 c1_i32_21 k0_t9
  let c8_i32_117 : BitVec 32 := 8#32
  let v264 : BitVec 32 := Scalar.muli arg16 c8_i32_117
  let c6_i32 : BitVec 32 := 6#32
  let v265 : BitVec 32 := Scalar.addi v264 c6_i32
  let c16_i32_118 : BitVec 32 := 16#32
  let v266 : BitVec 32 := Scalar.muli v265 c16_i32_118
  let v267 : BitVec 32 := v266
  let c0_i32_122 : BitVec 32 := 0#32
  ![v0.toNat, v267.toNat, 0]

def k0_chk28 (i : grid0.Coords) (v269 : BitVec 32) : Prop :=
  (∀ (k0_h5 : k0_cond5 i = 1#1), 16 ∣ (k0_mult50 v269).toNat) ∧
  (∀ (k0_h5 : k0_cond5 i = 1#1), ∀ a, (k0_off119 v269) a + S16x1024.size a ≤ S227328x1024.size a) ∧
  (∀ (k0_h5 : k0_cond5 i = 1#1), ∀ (hinb : ∀ a, (k0_off119 v269) a + S16x1024.size a ≤ S227328x1024.size a), (Rect.unit (s := S227328x1024) (k0_off119 v269) S16x1024.size hinb).WholeWords (EltTy.packing .bf16))
theorem k0_mult50_dvd : ∀ (i : grid0.Coords) (v269 : BitVec 32) (k0_hw28 : k0_chk28 i v269), ∀ (k0_h5 : k0_cond5 i = 1#1), 16 ∣ (k0_mult50 v269).toNat := fun i v269 k0_hw28 k0_h5 => k0_hw28.1 k0_h5
theorem k0_off119_inb : ∀ (i : grid0.Coords) (v269 : BitVec 32) (k0_hw28 : k0_chk28 i v269), ∀ (k0_h5 : k0_cond5 i = 1#1), ∀ a, (k0_off119 v269) a + S16x1024.size a ≤ S227328x1024.size a := fun i v269 k0_hw28 k0_h5 => k0_hw28.2.1 k0_h5
theorem k0_off119_wordsbf16 : ∀ (i : grid0.Coords) (v269 : BitVec 32) (k0_hw28 : k0_chk28 i v269), ∀ (k0_h5 : k0_cond5 i = 1#1), (Rect.unit (s := S227328x1024) (k0_off119 v269) S16x1024.size (k0_off119_inb i v269 k0_hw28 k0_h5)).WholeWords (EltTy.packing .bf16) := fun i v269 k0_hw28 k0_h5 => k0_hw28.2.2 k0_h5 (k0_off119_inb i v269 k0_hw28 k0_h5)

def k0_mult51 (v10 : BitVec 32) (k0_t9 : Fin (k0_t9_loop v10).trips) : BitVec 32 :=
  let c0_i32_20 : BitVec 32 := 0#32
  let c1_i32_21 : BitVec 32 := 1#32
  let arg16 : BitVec 32 := Scf.iv c0_i32_20 c1_i32_21 k0_t9
  let c8_i32_123 : BitVec 32 := 8#32
  let v276 : BitVec 32 := Scalar.muli arg16 c8_i32_123
  let c7_i32 : BitVec 32 := 7#32
  let v277 : BitVec 32 := Scalar.addi v276 c7_i32
  let c16_i32_124 : BitVec 32 := 16#32
  let v278 : BitVec 32 := Scalar.muli v277 c16_i32_124
  v278
def k0_off121 (v10 : BitVec 32) (k0_t9 : Fin (k0_t9_loop v10).trips) : Fin 3 → Nat :=
  let c0_125 : Index := 0#32
  let c0_126 : Index := 0#32
  let c0_i32_20 : BitVec 32 := 0#32
  let c1_i32_21 : BitVec 32 := 1#32
  let arg16 : BitVec 32 := Scf.iv c0_i32_20 c1_i32_21 k0_t9
  let c8_i32_123 : BitVec 32 := 8#32
  let v276 : BitVec 32 := Scalar.muli arg16 c8_i32_123
  let c7_i32 : BitVec 32 := 7#32
  let v277 : BitVec 32 := Scalar.addi v276 c7_i32
  let v280 : Index := Scalar.indexCast v277
  ![0, 0, v280.toNat]
def k0_mult52 (v281 : BitVec 32) : BitVec 32 :=
  v281

def k0_off122 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off123 (v281 : BitVec 32) : Fin 2 → Nat :=
  let v282 : BitVec 32 := v281
  let c0_i32_127 : BitVec 32 := 0#32
  ![v282.toNat, 0]
def k0_off124 (i : grid0.Coords) (v10 : BitVec 32) (k0_t9 : Fin (k0_t9_loop v10).trips) : Fin 3 → Nat :=
  let arg0 : BitVec 32 := BitVec.ofNat 32 (i 0).val
  let c2_i32 : BitVec 32 := 2#32
  let v0 : BitVec 32 := Scalar.remsi arg0 c2_i32
  let c0_i32_20 : BitVec 32 := 0#32
  let c1_i32_21 : BitVec 32 := 1#32
  let arg16 : BitVec 32 := Scf.iv c0_i32_20 c1_i32_21 k0_t9
  let c8_i32_123 : BitVec 32 := 8#32
  let v276 : BitVec 32 := Scalar.muli arg16 c8_i32_123
  let c7_i32 : BitVec 32 := 7#32
  let v277 : BitVec 32 := Scalar.addi v276 c7_i32
  let c16_i32_124 : BitVec 32 := 16#32
  let v278 : BitVec 32 := Scalar.muli v277 c16_i32_124
  let v279 : BitVec 32 := v278
  let c0_i32_128 : BitVec 32 := 0#32
  ![v0.toNat, v279.toNat, 0]

def k0_chk29 (i : grid0.Coords) (v281 : BitVec 32) : Prop :=
  (∀ (k0_h5 : k0_cond5 i = 1#1), 16 ∣ (k0_mult52 v281).toNat) ∧
  (∀ (k0_h5 : k0_cond5 i = 1#1), ∀ a, (k0_off123 v281) a + S16x1024.size a ≤ S227328x1024.size a) ∧
  (∀ (k0_h5 : k0_cond5 i = 1#1), ∀ (hinb : ∀ a, (k0_off123 v281) a + S16x1024.size a ≤ S227328x1024.size a), (Rect.unit (s := S227328x1024) (k0_off123 v281) S16x1024.size hinb).WholeWords (EltTy.packing .bf16))
theorem k0_mult52_dvd : ∀ (i : grid0.Coords) (v281 : BitVec 32) (k0_hw29 : k0_chk29 i v281), ∀ (k0_h5 : k0_cond5 i = 1#1), 16 ∣ (k0_mult52 v281).toNat := fun i v281 k0_hw29 k0_h5 => k0_hw29.1 k0_h5
theorem k0_off123_inb : ∀ (i : grid0.Coords) (v281 : BitVec 32) (k0_hw29 : k0_chk29 i v281), ∀ (k0_h5 : k0_cond5 i = 1#1), ∀ a, (k0_off123 v281) a + S16x1024.size a ≤ S227328x1024.size a := fun i v281 k0_hw29 k0_h5 => k0_hw29.2.1 k0_h5
theorem k0_off123_wordsbf16 : ∀ (i : grid0.Coords) (v281 : BitVec 32) (k0_hw29 : k0_chk29 i v281), ∀ (k0_h5 : k0_cond5 i = 1#1), (Rect.unit (s := S227328x1024) (k0_off123 v281) S16x1024.size (k0_off123_inb i v281 k0_hw29 k0_h5)).WholeWords (EltTy.packing .bf16) := fun i v281 k0_hw29 k0_h5 => k0_hw29.2.2 k0_h5 (k0_off123_inb i v281 k0_hw29 k0_h5)

@[reducible] def k0_t10_loop (v10 : BitVec 32) : Scf.Loop 32 :=
  let c0_i32_20 : BitVec 32 := 0#32
  let c4_i32 : BitVec 32 := 4#32
  let v127 : BitVec 32 := Scalar.shrui v10 c4_i32
  let c3_i32 : BitVec 32 := 3#32
  let v128 : BitVec 32 := Scalar.shrui v127 c3_i32
  let v129 : BitVec 32 := Scalar.subi v128 c0_i32_20
  let c1_i32 : BitVec 32 := 1#32
  let v131 : BitVec 32 := Scalar.divsi v129 c1_i32
  let v132 : BitVec 32 := Scalar.muli v131 c1_i32
  let v133 : BitVec 32 := Scalar.addi c0_i32_20 v132
  let v130 : BitVec 32 := Scalar.addi c0_i32_20 v129
  let c1_i32_22 : BitVec 32 := 1#32
  ⟨v133, v130, c1_i32_22⟩
def k0_mult53 (v10 : BitVec 32) (k0_t10 : Fin (k0_t10_loop v10).trips) : BitVec 32 :=
  let c0_i32_20 : BitVec 32 := 0#32
  let c4_i32 : BitVec 32 := 4#32
  let v127 : BitVec 32 := Scalar.shrui v10 c4_i32
  let c3_i32 : BitVec 32 := 3#32
  let v128 : BitVec 32 := Scalar.shrui v127 c3_i32
  let v129 : BitVec 32 := Scalar.subi v128 c0_i32_20
  let c1_i32 : BitVec 32 := 1#32
  let v131 : BitVec 32 := Scalar.divsi v129 c1_i32
  let v132 : BitVec 32 := Scalar.muli v131 c1_i32
  let v133 : BitVec 32 := Scalar.addi c0_i32_20 v132
  let c1_i32_22 : BitVec 32 := 1#32
  let arg16 : BitVec 32 := Scf.iv v133 c1_i32_22 k0_t10
  let c8_i32_77 : BitVec 32 := 8#32
  let v192 : BitVec 32 := Scalar.muli arg16 c8_i32_77
  let c0_i32_78 : BitVec 32 := 0#32
  let v193 : BitVec 32 := Scalar.addi v192 c0_i32_78
  let c16_i32 : BitVec 32 := 16#32
  let v194 : BitVec 32 := Scalar.muli v193 c16_i32
  v194
def k0_off125 (v10 : BitVec 32) (k0_t10 : Fin (k0_t10_loop v10).trips) : Fin 3 → Nat :=
  let c0_79 : Index := 0#32
  let c0_80 : Index := 0#32
  let c0_i32_20 : BitVec 32 := 0#32
  let c4_i32 : BitVec 32 := 4#32
  let v127 : BitVec 32 := Scalar.shrui v10 c4_i32
  let c3_i32 : BitVec 32 := 3#32
  let v128 : BitVec 32 := Scalar.shrui v127 c3_i32
  let v129 : BitVec 32 := Scalar.subi v128 c0_i32_20
  let c1_i32 : BitVec 32 := 1#32
  let v131 : BitVec 32 := Scalar.divsi v129 c1_i32
  let v132 : BitVec 32 := Scalar.muli v131 c1_i32
  let v133 : BitVec 32 := Scalar.addi c0_i32_20 v132
  let c1_i32_22 : BitVec 32 := 1#32
  let arg16 : BitVec 32 := Scf.iv v133 c1_i32_22 k0_t10
  let c8_i32_77 : BitVec 32 := 8#32
  let v192 : BitVec 32 := Scalar.muli arg16 c8_i32_77
  let c0_i32_78 : BitVec 32 := 0#32
  let v193 : BitVec 32 := Scalar.addi v192 c0_i32_78
  let v196 : Index := Scalar.indexCast v193
  ![0, 0, v196.toNat]
def k0_mult54 (v197 : BitVec 32) : BitVec 32 :=
  v197

def k0_off126 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off127 (v197 : BitVec 32) : Fin 2 → Nat :=
  let v198 : BitVec 32 := v197
  let c0_i32_81 : BitVec 32 := 0#32
  ![v198.toNat, 0]
def k0_off128 (i : grid0.Coords) (v10 : BitVec 32) (k0_t10 : Fin (k0_t10_loop v10).trips) : Fin 3 → Nat :=
  let arg0 : BitVec 32 := BitVec.ofNat 32 (i 0).val
  let c2_i32 : BitVec 32 := 2#32
  let v0 : BitVec 32 := Scalar.remsi arg0 c2_i32
  let c0_i32_20 : BitVec 32 := 0#32
  let c4_i32 : BitVec 32 := 4#32
  let v127 : BitVec 32 := Scalar.shrui v10 c4_i32
  let c3_i32 : BitVec 32 := 3#32
  let v128 : BitVec 32 := Scalar.shrui v127 c3_i32
  let v129 : BitVec 32 := Scalar.subi v128 c0_i32_20
  let c1_i32 : BitVec 32 := 1#32
  let v131 : BitVec 32 := Scalar.divsi v129 c1_i32
  let v132 : BitVec 32 := Scalar.muli v131 c1_i32
  let v133 : BitVec 32 := Scalar.addi c0_i32_20 v132
  let c1_i32_22 : BitVec 32 := 1#32
  let arg16 : BitVec 32 := Scf.iv v133 c1_i32_22 k0_t10
  let c8_i32_77 : BitVec 32 := 8#32
  let v192 : BitVec 32 := Scalar.muli arg16 c8_i32_77
  let c0_i32_78 : BitVec 32 := 0#32
  let v193 : BitVec 32 := Scalar.addi v192 c0_i32_78
  let c16_i32 : BitVec 32 := 16#32
  let v194 : BitVec 32 := Scalar.muli v193 c16_i32
  let v195 : BitVec 32 := v194
  let c0_i32_82 : BitVec 32 := 0#32
  ![v0.toNat, v195.toNat, 0]

def k0_chk30 (i : grid0.Coords) (v197 : BitVec 32) : Prop :=
  (∀ (k0_h5 : k0_cond5 i = 1#1), 16 ∣ (k0_mult54 v197).toNat) ∧
  (∀ (k0_h5 : k0_cond5 i = 1#1), ∀ a, (k0_off127 v197) a + S16x1024.size a ≤ S227328x1024.size a) ∧
  (∀ (k0_h5 : k0_cond5 i = 1#1), ∀ (hinb : ∀ a, (k0_off127 v197) a + S16x1024.size a ≤ S227328x1024.size a), (Rect.unit (s := S227328x1024) (k0_off127 v197) S16x1024.size hinb).WholeWords (EltTy.packing .bf16))
theorem k0_mult54_dvd : ∀ (i : grid0.Coords) (v197 : BitVec 32) (k0_hw30 : k0_chk30 i v197), ∀ (k0_h5 : k0_cond5 i = 1#1), 16 ∣ (k0_mult54 v197).toNat := fun i v197 k0_hw30 k0_h5 => k0_hw30.1 k0_h5
theorem k0_off127_inb : ∀ (i : grid0.Coords) (v197 : BitVec 32) (k0_hw30 : k0_chk30 i v197), ∀ (k0_h5 : k0_cond5 i = 1#1), ∀ a, (k0_off127 v197) a + S16x1024.size a ≤ S227328x1024.size a := fun i v197 k0_hw30 k0_h5 => k0_hw30.2.1 k0_h5
theorem k0_off127_wordsbf16 : ∀ (i : grid0.Coords) (v197 : BitVec 32) (k0_hw30 : k0_chk30 i v197), ∀ (k0_h5 : k0_cond5 i = 1#1), (Rect.unit (s := S227328x1024) (k0_off127 v197) S16x1024.size (k0_off127_inb i v197 k0_hw30 k0_h5)).WholeWords (EltTy.packing .bf16) := fun i v197 k0_hw30 k0_h5 => k0_hw30.2.2 k0_h5 (k0_off127_inb i v197 k0_hw30 k0_h5)

def k0_mult55 (v10 : BitVec 32) (k0_t10 : Fin (k0_t10_loop v10).trips) : BitVec 32 :=
  let c0_i32_20 : BitVec 32 := 0#32
  let c4_i32 : BitVec 32 := 4#32
  let v127 : BitVec 32 := Scalar.shrui v10 c4_i32
  let c3_i32 : BitVec 32 := 3#32
  let v128 : BitVec 32 := Scalar.shrui v127 c3_i32
  let v129 : BitVec 32 := Scalar.subi v128 c0_i32_20
  let c1_i32 : BitVec 32 := 1#32
  let v131 : BitVec 32 := Scalar.divsi v129 c1_i32
  let v132 : BitVec 32 := Scalar.muli v131 c1_i32
  let v133 : BitVec 32 := Scalar.addi c0_i32_20 v132
  let c1_i32_22 : BitVec 32 := 1#32
  let arg16 : BitVec 32 := Scf.iv v133 c1_i32_22 k0_t10
  let c8_i32_83 : BitVec 32 := 8#32
  let v204 : BitVec 32 := Scalar.muli arg16 c8_i32_83
  let c1_i32_84 : BitVec 32 := 1#32
  let v205 : BitVec 32 := Scalar.addi v204 c1_i32_84
  let c16_i32_85 : BitVec 32 := 16#32
  let v206 : BitVec 32 := Scalar.muli v205 c16_i32_85
  v206
def k0_off129 (v10 : BitVec 32) (k0_t10 : Fin (k0_t10_loop v10).trips) : Fin 3 → Nat :=
  let c0_86 : Index := 0#32
  let c0_87 : Index := 0#32
  let c0_i32_20 : BitVec 32 := 0#32
  let c4_i32 : BitVec 32 := 4#32
  let v127 : BitVec 32 := Scalar.shrui v10 c4_i32
  let c3_i32 : BitVec 32 := 3#32
  let v128 : BitVec 32 := Scalar.shrui v127 c3_i32
  let v129 : BitVec 32 := Scalar.subi v128 c0_i32_20
  let c1_i32 : BitVec 32 := 1#32
  let v131 : BitVec 32 := Scalar.divsi v129 c1_i32
  let v132 : BitVec 32 := Scalar.muli v131 c1_i32
  let v133 : BitVec 32 := Scalar.addi c0_i32_20 v132
  let c1_i32_22 : BitVec 32 := 1#32
  let arg16 : BitVec 32 := Scf.iv v133 c1_i32_22 k0_t10
  let c8_i32_83 : BitVec 32 := 8#32
  let v204 : BitVec 32 := Scalar.muli arg16 c8_i32_83
  let c1_i32_84 : BitVec 32 := 1#32
  let v205 : BitVec 32 := Scalar.addi v204 c1_i32_84
  let v208 : Index := Scalar.indexCast v205
  ![0, 0, v208.toNat]
def k0_mult56 (v209 : BitVec 32) : BitVec 32 :=
  v209

def k0_off130 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off131 (v209 : BitVec 32) : Fin 2 → Nat :=
  let v210 : BitVec 32 := v209
  let c0_i32_88 : BitVec 32 := 0#32
  ![v210.toNat, 0]
def k0_off132 (i : grid0.Coords) (v10 : BitVec 32) (k0_t10 : Fin (k0_t10_loop v10).trips) : Fin 3 → Nat :=
  let arg0 : BitVec 32 := BitVec.ofNat 32 (i 0).val
  let c2_i32 : BitVec 32 := 2#32
  let v0 : BitVec 32 := Scalar.remsi arg0 c2_i32
  let c0_i32_20 : BitVec 32 := 0#32
  let c4_i32 : BitVec 32 := 4#32
  let v127 : BitVec 32 := Scalar.shrui v10 c4_i32
  let c3_i32 : BitVec 32 := 3#32
  let v128 : BitVec 32 := Scalar.shrui v127 c3_i32
  let v129 : BitVec 32 := Scalar.subi v128 c0_i32_20
  let c1_i32 : BitVec 32 := 1#32
  let v131 : BitVec 32 := Scalar.divsi v129 c1_i32
  let v132 : BitVec 32 := Scalar.muli v131 c1_i32
  let v133 : BitVec 32 := Scalar.addi c0_i32_20 v132
  let c1_i32_22 : BitVec 32 := 1#32
  let arg16 : BitVec 32 := Scf.iv v133 c1_i32_22 k0_t10
  let c8_i32_83 : BitVec 32 := 8#32
  let v204 : BitVec 32 := Scalar.muli arg16 c8_i32_83
  let c1_i32_84 : BitVec 32 := 1#32
  let v205 : BitVec 32 := Scalar.addi v204 c1_i32_84
  let c16_i32_85 : BitVec 32 := 16#32
  let v206 : BitVec 32 := Scalar.muli v205 c16_i32_85
  let v207 : BitVec 32 := v206
  let c0_i32_89 : BitVec 32 := 0#32
  ![v0.toNat, v207.toNat, 0]

def k0_chk31 (i : grid0.Coords) (v209 : BitVec 32) : Prop :=
  (∀ (k0_h5 : k0_cond5 i = 1#1), 16 ∣ (k0_mult56 v209).toNat) ∧
  (∀ (k0_h5 : k0_cond5 i = 1#1), ∀ a, (k0_off131 v209) a + S16x1024.size a ≤ S227328x1024.size a) ∧
  (∀ (k0_h5 : k0_cond5 i = 1#1), ∀ (hinb : ∀ a, (k0_off131 v209) a + S16x1024.size a ≤ S227328x1024.size a), (Rect.unit (s := S227328x1024) (k0_off131 v209) S16x1024.size hinb).WholeWords (EltTy.packing .bf16))
theorem k0_mult56_dvd : ∀ (i : grid0.Coords) (v209 : BitVec 32) (k0_hw31 : k0_chk31 i v209), ∀ (k0_h5 : k0_cond5 i = 1#1), 16 ∣ (k0_mult56 v209).toNat := fun i v209 k0_hw31 k0_h5 => k0_hw31.1 k0_h5
theorem k0_off131_inb : ∀ (i : grid0.Coords) (v209 : BitVec 32) (k0_hw31 : k0_chk31 i v209), ∀ (k0_h5 : k0_cond5 i = 1#1), ∀ a, (k0_off131 v209) a + S16x1024.size a ≤ S227328x1024.size a := fun i v209 k0_hw31 k0_h5 => k0_hw31.2.1 k0_h5
theorem k0_off131_wordsbf16 : ∀ (i : grid0.Coords) (v209 : BitVec 32) (k0_hw31 : k0_chk31 i v209), ∀ (k0_h5 : k0_cond5 i = 1#1), (Rect.unit (s := S227328x1024) (k0_off131 v209) S16x1024.size (k0_off131_inb i v209 k0_hw31 k0_h5)).WholeWords (EltTy.packing .bf16) := fun i v209 k0_hw31 k0_h5 => k0_hw31.2.2 k0_h5 (k0_off131_inb i v209 k0_hw31 k0_h5)

def k0_mult57 (v10 : BitVec 32) (k0_t10 : Fin (k0_t10_loop v10).trips) : BitVec 32 :=
  let c0_i32_20 : BitVec 32 := 0#32
  let c4_i32 : BitVec 32 := 4#32
  let v127 : BitVec 32 := Scalar.shrui v10 c4_i32
  let c3_i32 : BitVec 32 := 3#32
  let v128 : BitVec 32 := Scalar.shrui v127 c3_i32
  let v129 : BitVec 32 := Scalar.subi v128 c0_i32_20
  let c1_i32 : BitVec 32 := 1#32
  let v131 : BitVec 32 := Scalar.divsi v129 c1_i32
  let v132 : BitVec 32 := Scalar.muli v131 c1_i32
  let v133 : BitVec 32 := Scalar.addi c0_i32_20 v132
  let c1_i32_22 : BitVec 32 := 1#32
  let arg16 : BitVec 32 := Scf.iv v133 c1_i32_22 k0_t10
  let c8_i32_90 : BitVec 32 := 8#32
  let v216 : BitVec 32 := Scalar.muli arg16 c8_i32_90
  let c2_i32_91 : BitVec 32 := 2#32
  let v217 : BitVec 32 := Scalar.addi v216 c2_i32_91
  let c16_i32_92 : BitVec 32 := 16#32
  let v218 : BitVec 32 := Scalar.muli v217 c16_i32_92
  v218
def k0_off133 (v10 : BitVec 32) (k0_t10 : Fin (k0_t10_loop v10).trips) : Fin 3 → Nat :=
  let c0_93 : Index := 0#32
  let c0_94 : Index := 0#32
  let c0_i32_20 : BitVec 32 := 0#32
  let c4_i32 : BitVec 32 := 4#32
  let v127 : BitVec 32 := Scalar.shrui v10 c4_i32
  let c3_i32 : BitVec 32 := 3#32
  let v128 : BitVec 32 := Scalar.shrui v127 c3_i32
  let v129 : BitVec 32 := Scalar.subi v128 c0_i32_20
  let c1_i32 : BitVec 32 := 1#32
  let v131 : BitVec 32 := Scalar.divsi v129 c1_i32
  let v132 : BitVec 32 := Scalar.muli v131 c1_i32
  let v133 : BitVec 32 := Scalar.addi c0_i32_20 v132
  let c1_i32_22 : BitVec 32 := 1#32
  let arg16 : BitVec 32 := Scf.iv v133 c1_i32_22 k0_t10
  let c8_i32_90 : BitVec 32 := 8#32
  let v216 : BitVec 32 := Scalar.muli arg16 c8_i32_90
  let c2_i32_91 : BitVec 32 := 2#32
  let v217 : BitVec 32 := Scalar.addi v216 c2_i32_91
  let v220 : Index := Scalar.indexCast v217
  ![0, 0, v220.toNat]
def k0_mult58 (v221 : BitVec 32) : BitVec 32 :=
  v221

def k0_off134 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off135 (v221 : BitVec 32) : Fin 2 → Nat :=
  let v222 : BitVec 32 := v221
  let c0_i32_95 : BitVec 32 := 0#32
  ![v222.toNat, 0]
def k0_off136 (i : grid0.Coords) (v10 : BitVec 32) (k0_t10 : Fin (k0_t10_loop v10).trips) : Fin 3 → Nat :=
  let arg0 : BitVec 32 := BitVec.ofNat 32 (i 0).val
  let c2_i32 : BitVec 32 := 2#32
  let v0 : BitVec 32 := Scalar.remsi arg0 c2_i32
  let c0_i32_20 : BitVec 32 := 0#32
  let c4_i32 : BitVec 32 := 4#32
  let v127 : BitVec 32 := Scalar.shrui v10 c4_i32
  let c3_i32 : BitVec 32 := 3#32
  let v128 : BitVec 32 := Scalar.shrui v127 c3_i32
  let v129 : BitVec 32 := Scalar.subi v128 c0_i32_20
  let c1_i32 : BitVec 32 := 1#32
  let v131 : BitVec 32 := Scalar.divsi v129 c1_i32
  let v132 : BitVec 32 := Scalar.muli v131 c1_i32
  let v133 : BitVec 32 := Scalar.addi c0_i32_20 v132
  let c1_i32_22 : BitVec 32 := 1#32
  let arg16 : BitVec 32 := Scf.iv v133 c1_i32_22 k0_t10
  let c8_i32_90 : BitVec 32 := 8#32
  let v216 : BitVec 32 := Scalar.muli arg16 c8_i32_90
  let c2_i32_91 : BitVec 32 := 2#32
  let v217 : BitVec 32 := Scalar.addi v216 c2_i32_91
  let c16_i32_92 : BitVec 32 := 16#32
  let v218 : BitVec 32 := Scalar.muli v217 c16_i32_92
  let v219 : BitVec 32 := v218
  let c0_i32_96 : BitVec 32 := 0#32
  ![v0.toNat, v219.toNat, 0]

def k0_chk32 (i : grid0.Coords) (v221 : BitVec 32) : Prop :=
  (∀ (k0_h5 : k0_cond5 i = 1#1), 16 ∣ (k0_mult58 v221).toNat) ∧
  (∀ (k0_h5 : k0_cond5 i = 1#1), ∀ a, (k0_off135 v221) a + S16x1024.size a ≤ S227328x1024.size a) ∧
  (∀ (k0_h5 : k0_cond5 i = 1#1), ∀ (hinb : ∀ a, (k0_off135 v221) a + S16x1024.size a ≤ S227328x1024.size a), (Rect.unit (s := S227328x1024) (k0_off135 v221) S16x1024.size hinb).WholeWords (EltTy.packing .bf16))
theorem k0_mult58_dvd : ∀ (i : grid0.Coords) (v221 : BitVec 32) (k0_hw32 : k0_chk32 i v221), ∀ (k0_h5 : k0_cond5 i = 1#1), 16 ∣ (k0_mult58 v221).toNat := fun i v221 k0_hw32 k0_h5 => k0_hw32.1 k0_h5
theorem k0_off135_inb : ∀ (i : grid0.Coords) (v221 : BitVec 32) (k0_hw32 : k0_chk32 i v221), ∀ (k0_h5 : k0_cond5 i = 1#1), ∀ a, (k0_off135 v221) a + S16x1024.size a ≤ S227328x1024.size a := fun i v221 k0_hw32 k0_h5 => k0_hw32.2.1 k0_h5
theorem k0_off135_wordsbf16 : ∀ (i : grid0.Coords) (v221 : BitVec 32) (k0_hw32 : k0_chk32 i v221), ∀ (k0_h5 : k0_cond5 i = 1#1), (Rect.unit (s := S227328x1024) (k0_off135 v221) S16x1024.size (k0_off135_inb i v221 k0_hw32 k0_h5)).WholeWords (EltTy.packing .bf16) := fun i v221 k0_hw32 k0_h5 => k0_hw32.2.2 k0_h5 (k0_off135_inb i v221 k0_hw32 k0_h5)

def k0_mult59 (v10 : BitVec 32) (k0_t10 : Fin (k0_t10_loop v10).trips) : BitVec 32 :=
  let c0_i32_20 : BitVec 32 := 0#32
  let c4_i32 : BitVec 32 := 4#32
  let v127 : BitVec 32 := Scalar.shrui v10 c4_i32
  let c3_i32 : BitVec 32 := 3#32
  let v128 : BitVec 32 := Scalar.shrui v127 c3_i32
  let v129 : BitVec 32 := Scalar.subi v128 c0_i32_20
  let c1_i32 : BitVec 32 := 1#32
  let v131 : BitVec 32 := Scalar.divsi v129 c1_i32
  let v132 : BitVec 32 := Scalar.muli v131 c1_i32
  let v133 : BitVec 32 := Scalar.addi c0_i32_20 v132
  let c1_i32_22 : BitVec 32 := 1#32
  let arg16 : BitVec 32 := Scf.iv v133 c1_i32_22 k0_t10
  let c8_i32_97 : BitVec 32 := 8#32
  let v228 : BitVec 32 := Scalar.muli arg16 c8_i32_97
  let c3_i32_98 : BitVec 32 := 3#32
  let v229 : BitVec 32 := Scalar.addi v228 c3_i32_98
  let c16_i32_99 : BitVec 32 := 16#32
  let v230 : BitVec 32 := Scalar.muli v229 c16_i32_99
  v230
def k0_off137 (v10 : BitVec 32) (k0_t10 : Fin (k0_t10_loop v10).trips) : Fin 3 → Nat :=
  let c0_100 : Index := 0#32
  let c0_101 : Index := 0#32
  let c0_i32_20 : BitVec 32 := 0#32
  let c4_i32 : BitVec 32 := 4#32
  let v127 : BitVec 32 := Scalar.shrui v10 c4_i32
  let c3_i32 : BitVec 32 := 3#32
  let v128 : BitVec 32 := Scalar.shrui v127 c3_i32
  let v129 : BitVec 32 := Scalar.subi v128 c0_i32_20
  let c1_i32 : BitVec 32 := 1#32
  let v131 : BitVec 32 := Scalar.divsi v129 c1_i32
  let v132 : BitVec 32 := Scalar.muli v131 c1_i32
  let v133 : BitVec 32 := Scalar.addi c0_i32_20 v132
  let c1_i32_22 : BitVec 32 := 1#32
  let arg16 : BitVec 32 := Scf.iv v133 c1_i32_22 k0_t10
  let c8_i32_97 : BitVec 32 := 8#32
  let v228 : BitVec 32 := Scalar.muli arg16 c8_i32_97
  let c3_i32_98 : BitVec 32 := 3#32
  let v229 : BitVec 32 := Scalar.addi v228 c3_i32_98
  let v232 : Index := Scalar.indexCast v229
  ![0, 0, v232.toNat]
def k0_mult60 (v233 : BitVec 32) : BitVec 32 :=
  v233

def k0_off138 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off139 (v233 : BitVec 32) : Fin 2 → Nat :=
  let v234 : BitVec 32 := v233
  let c0_i32_102 : BitVec 32 := 0#32
  ![v234.toNat, 0]
def k0_off140 (i : grid0.Coords) (v10 : BitVec 32) (k0_t10 : Fin (k0_t10_loop v10).trips) : Fin 3 → Nat :=
  let arg0 : BitVec 32 := BitVec.ofNat 32 (i 0).val
  let c2_i32 : BitVec 32 := 2#32
  let v0 : BitVec 32 := Scalar.remsi arg0 c2_i32
  let c0_i32_20 : BitVec 32 := 0#32
  let c4_i32 : BitVec 32 := 4#32
  let v127 : BitVec 32 := Scalar.shrui v10 c4_i32
  let c3_i32 : BitVec 32 := 3#32
  let v128 : BitVec 32 := Scalar.shrui v127 c3_i32
  let v129 : BitVec 32 := Scalar.subi v128 c0_i32_20
  let c1_i32 : BitVec 32 := 1#32
  let v131 : BitVec 32 := Scalar.divsi v129 c1_i32
  let v132 : BitVec 32 := Scalar.muli v131 c1_i32
  let v133 : BitVec 32 := Scalar.addi c0_i32_20 v132
  let c1_i32_22 : BitVec 32 := 1#32
  let arg16 : BitVec 32 := Scf.iv v133 c1_i32_22 k0_t10
  let c8_i32_97 : BitVec 32 := 8#32
  let v228 : BitVec 32 := Scalar.muli arg16 c8_i32_97
  let c3_i32_98 : BitVec 32 := 3#32
  let v229 : BitVec 32 := Scalar.addi v228 c3_i32_98
  let c16_i32_99 : BitVec 32 := 16#32
  let v230 : BitVec 32 := Scalar.muli v229 c16_i32_99
  let v231 : BitVec 32 := v230
  let c0_i32_103 : BitVec 32 := 0#32
  ![v0.toNat, v231.toNat, 0]

def k0_chk33 (i : grid0.Coords) (v233 : BitVec 32) : Prop :=
  (∀ (k0_h5 : k0_cond5 i = 1#1), 16 ∣ (k0_mult60 v233).toNat) ∧
  (∀ (k0_h5 : k0_cond5 i = 1#1), ∀ a, (k0_off139 v233) a + S16x1024.size a ≤ S227328x1024.size a) ∧
  (∀ (k0_h5 : k0_cond5 i = 1#1), ∀ (hinb : ∀ a, (k0_off139 v233) a + S16x1024.size a ≤ S227328x1024.size a), (Rect.unit (s := S227328x1024) (k0_off139 v233) S16x1024.size hinb).WholeWords (EltTy.packing .bf16))
theorem k0_mult60_dvd : ∀ (i : grid0.Coords) (v233 : BitVec 32) (k0_hw33 : k0_chk33 i v233), ∀ (k0_h5 : k0_cond5 i = 1#1), 16 ∣ (k0_mult60 v233).toNat := fun i v233 k0_hw33 k0_h5 => k0_hw33.1 k0_h5
theorem k0_off139_inb : ∀ (i : grid0.Coords) (v233 : BitVec 32) (k0_hw33 : k0_chk33 i v233), ∀ (k0_h5 : k0_cond5 i = 1#1), ∀ a, (k0_off139 v233) a + S16x1024.size a ≤ S227328x1024.size a := fun i v233 k0_hw33 k0_h5 => k0_hw33.2.1 k0_h5
theorem k0_off139_wordsbf16 : ∀ (i : grid0.Coords) (v233 : BitVec 32) (k0_hw33 : k0_chk33 i v233), ∀ (k0_h5 : k0_cond5 i = 1#1), (Rect.unit (s := S227328x1024) (k0_off139 v233) S16x1024.size (k0_off139_inb i v233 k0_hw33 k0_h5)).WholeWords (EltTy.packing .bf16) := fun i v233 k0_hw33 k0_h5 => k0_hw33.2.2 k0_h5 (k0_off139_inb i v233 k0_hw33 k0_h5)

def k0_mult61 (v10 : BitVec 32) (k0_t10 : Fin (k0_t10_loop v10).trips) : BitVec 32 :=
  let c0_i32_20 : BitVec 32 := 0#32
  let c4_i32 : BitVec 32 := 4#32
  let v127 : BitVec 32 := Scalar.shrui v10 c4_i32
  let c3_i32 : BitVec 32 := 3#32
  let v128 : BitVec 32 := Scalar.shrui v127 c3_i32
  let v129 : BitVec 32 := Scalar.subi v128 c0_i32_20
  let c1_i32 : BitVec 32 := 1#32
  let v131 : BitVec 32 := Scalar.divsi v129 c1_i32
  let v132 : BitVec 32 := Scalar.muli v131 c1_i32
  let v133 : BitVec 32 := Scalar.addi c0_i32_20 v132
  let c1_i32_22 : BitVec 32 := 1#32
  let arg16 : BitVec 32 := Scf.iv v133 c1_i32_22 k0_t10
  let c8_i32_104 : BitVec 32 := 8#32
  let v240 : BitVec 32 := Scalar.muli arg16 c8_i32_104
  let c4_i32_105 : BitVec 32 := 4#32
  let v241 : BitVec 32 := Scalar.addi v240 c4_i32_105
  let c16_i32_106 : BitVec 32 := 16#32
  let v242 : BitVec 32 := Scalar.muli v241 c16_i32_106
  v242
def k0_off141 (v10 : BitVec 32) (k0_t10 : Fin (k0_t10_loop v10).trips) : Fin 3 → Nat :=
  let c0_107 : Index := 0#32
  let c0_108 : Index := 0#32
  let c0_i32_20 : BitVec 32 := 0#32
  let c4_i32 : BitVec 32 := 4#32
  let v127 : BitVec 32 := Scalar.shrui v10 c4_i32
  let c3_i32 : BitVec 32 := 3#32
  let v128 : BitVec 32 := Scalar.shrui v127 c3_i32
  let v129 : BitVec 32 := Scalar.subi v128 c0_i32_20
  let c1_i32 : BitVec 32 := 1#32
  let v131 : BitVec 32 := Scalar.divsi v129 c1_i32
  let v132 : BitVec 32 := Scalar.muli v131 c1_i32
  let v133 : BitVec 32 := Scalar.addi c0_i32_20 v132
  let c1_i32_22 : BitVec 32 := 1#32
  let arg16 : BitVec 32 := Scf.iv v133 c1_i32_22 k0_t10
  let c8_i32_104 : BitVec 32 := 8#32
  let v240 : BitVec 32 := Scalar.muli arg16 c8_i32_104
  let c4_i32_105 : BitVec 32 := 4#32
  let v241 : BitVec 32 := Scalar.addi v240 c4_i32_105
  let v244 : Index := Scalar.indexCast v241
  ![0, 0, v244.toNat]
def k0_mult62 (v245 : BitVec 32) : BitVec 32 :=
  v245

def k0_off142 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off143 (v245 : BitVec 32) : Fin 2 → Nat :=
  let v246 : BitVec 32 := v245
  let c0_i32_109 : BitVec 32 := 0#32
  ![v246.toNat, 0]
def k0_off144 (i : grid0.Coords) (v10 : BitVec 32) (k0_t10 : Fin (k0_t10_loop v10).trips) : Fin 3 → Nat :=
  let arg0 : BitVec 32 := BitVec.ofNat 32 (i 0).val
  let c2_i32 : BitVec 32 := 2#32
  let v0 : BitVec 32 := Scalar.remsi arg0 c2_i32
  let c0_i32_20 : BitVec 32 := 0#32
  let c4_i32 : BitVec 32 := 4#32
  let v127 : BitVec 32 := Scalar.shrui v10 c4_i32
  let c3_i32 : BitVec 32 := 3#32
  let v128 : BitVec 32 := Scalar.shrui v127 c3_i32
  let v129 : BitVec 32 := Scalar.subi v128 c0_i32_20
  let c1_i32 : BitVec 32 := 1#32
  let v131 : BitVec 32 := Scalar.divsi v129 c1_i32
  let v132 : BitVec 32 := Scalar.muli v131 c1_i32
  let v133 : BitVec 32 := Scalar.addi c0_i32_20 v132
  let c1_i32_22 : BitVec 32 := 1#32
  let arg16 : BitVec 32 := Scf.iv v133 c1_i32_22 k0_t10
  let c8_i32_104 : BitVec 32 := 8#32
  let v240 : BitVec 32 := Scalar.muli arg16 c8_i32_104
  let c4_i32_105 : BitVec 32 := 4#32
  let v241 : BitVec 32 := Scalar.addi v240 c4_i32_105
  let c16_i32_106 : BitVec 32 := 16#32
  let v242 : BitVec 32 := Scalar.muli v241 c16_i32_106
  let v243 : BitVec 32 := v242
  let c0_i32_110 : BitVec 32 := 0#32
  ![v0.toNat, v243.toNat, 0]

def k0_chk34 (i : grid0.Coords) (v245 : BitVec 32) : Prop :=
  (∀ (k0_h5 : k0_cond5 i = 1#1), 16 ∣ (k0_mult62 v245).toNat) ∧
  (∀ (k0_h5 : k0_cond5 i = 1#1), ∀ a, (k0_off143 v245) a + S16x1024.size a ≤ S227328x1024.size a) ∧
  (∀ (k0_h5 : k0_cond5 i = 1#1), ∀ (hinb : ∀ a, (k0_off143 v245) a + S16x1024.size a ≤ S227328x1024.size a), (Rect.unit (s := S227328x1024) (k0_off143 v245) S16x1024.size hinb).WholeWords (EltTy.packing .bf16))
theorem k0_mult62_dvd : ∀ (i : grid0.Coords) (v245 : BitVec 32) (k0_hw34 : k0_chk34 i v245), ∀ (k0_h5 : k0_cond5 i = 1#1), 16 ∣ (k0_mult62 v245).toNat := fun i v245 k0_hw34 k0_h5 => k0_hw34.1 k0_h5
theorem k0_off143_inb : ∀ (i : grid0.Coords) (v245 : BitVec 32) (k0_hw34 : k0_chk34 i v245), ∀ (k0_h5 : k0_cond5 i = 1#1), ∀ a, (k0_off143 v245) a + S16x1024.size a ≤ S227328x1024.size a := fun i v245 k0_hw34 k0_h5 => k0_hw34.2.1 k0_h5
theorem k0_off143_wordsbf16 : ∀ (i : grid0.Coords) (v245 : BitVec 32) (k0_hw34 : k0_chk34 i v245), ∀ (k0_h5 : k0_cond5 i = 1#1), (Rect.unit (s := S227328x1024) (k0_off143 v245) S16x1024.size (k0_off143_inb i v245 k0_hw34 k0_h5)).WholeWords (EltTy.packing .bf16) := fun i v245 k0_hw34 k0_h5 => k0_hw34.2.2 k0_h5 (k0_off143_inb i v245 k0_hw34 k0_h5)

def k0_mult63 (v10 : BitVec 32) (k0_t10 : Fin (k0_t10_loop v10).trips) : BitVec 32 :=
  let c0_i32_20 : BitVec 32 := 0#32
  let c4_i32 : BitVec 32 := 4#32
  let v127 : BitVec 32 := Scalar.shrui v10 c4_i32
  let c3_i32 : BitVec 32 := 3#32
  let v128 : BitVec 32 := Scalar.shrui v127 c3_i32
  let v129 : BitVec 32 := Scalar.subi v128 c0_i32_20
  let c1_i32 : BitVec 32 := 1#32
  let v131 : BitVec 32 := Scalar.divsi v129 c1_i32
  let v132 : BitVec 32 := Scalar.muli v131 c1_i32
  let v133 : BitVec 32 := Scalar.addi c0_i32_20 v132
  let c1_i32_22 : BitVec 32 := 1#32
  let arg16 : BitVec 32 := Scf.iv v133 c1_i32_22 k0_t10
  let c8_i32_111 : BitVec 32 := 8#32
  let v252 : BitVec 32 := Scalar.muli arg16 c8_i32_111
  let c5_i32 : BitVec 32 := 5#32
  let v253 : BitVec 32 := Scalar.addi v252 c5_i32
  let c16_i32_112 : BitVec 32 := 16#32
  let v254 : BitVec 32 := Scalar.muli v253 c16_i32_112
  v254
def k0_off145 (v10 : BitVec 32) (k0_t10 : Fin (k0_t10_loop v10).trips) : Fin 3 → Nat :=
  let c0_113 : Index := 0#32
  let c0_114 : Index := 0#32
  let c0_i32_20 : BitVec 32 := 0#32
  let c4_i32 : BitVec 32 := 4#32
  let v127 : BitVec 32 := Scalar.shrui v10 c4_i32
  let c3_i32 : BitVec 32 := 3#32
  let v128 : BitVec 32 := Scalar.shrui v127 c3_i32
  let v129 : BitVec 32 := Scalar.subi v128 c0_i32_20
  let c1_i32 : BitVec 32 := 1#32
  let v131 : BitVec 32 := Scalar.divsi v129 c1_i32
  let v132 : BitVec 32 := Scalar.muli v131 c1_i32
  let v133 : BitVec 32 := Scalar.addi c0_i32_20 v132
  let c1_i32_22 : BitVec 32 := 1#32
  let arg16 : BitVec 32 := Scf.iv v133 c1_i32_22 k0_t10
  let c8_i32_111 : BitVec 32 := 8#32
  let v252 : BitVec 32 := Scalar.muli arg16 c8_i32_111
  let c5_i32 : BitVec 32 := 5#32
  let v253 : BitVec 32 := Scalar.addi v252 c5_i32
  let v256 : Index := Scalar.indexCast v253
  ![0, 0, v256.toNat]
def k0_mult64 (v257 : BitVec 32) : BitVec 32 :=
  v257

def k0_off146 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off147 (v257 : BitVec 32) : Fin 2 → Nat :=
  let v258 : BitVec 32 := v257
  let c0_i32_115 : BitVec 32 := 0#32
  ![v258.toNat, 0]
def k0_off148 (i : grid0.Coords) (v10 : BitVec 32) (k0_t10 : Fin (k0_t10_loop v10).trips) : Fin 3 → Nat :=
  let arg0 : BitVec 32 := BitVec.ofNat 32 (i 0).val
  let c2_i32 : BitVec 32 := 2#32
  let v0 : BitVec 32 := Scalar.remsi arg0 c2_i32
  let c0_i32_20 : BitVec 32 := 0#32
  let c4_i32 : BitVec 32 := 4#32
  let v127 : BitVec 32 := Scalar.shrui v10 c4_i32
  let c3_i32 : BitVec 32 := 3#32
  let v128 : BitVec 32 := Scalar.shrui v127 c3_i32
  let v129 : BitVec 32 := Scalar.subi v128 c0_i32_20
  let c1_i32 : BitVec 32 := 1#32
  let v131 : BitVec 32 := Scalar.divsi v129 c1_i32
  let v132 : BitVec 32 := Scalar.muli v131 c1_i32
  let v133 : BitVec 32 := Scalar.addi c0_i32_20 v132
  let c1_i32_22 : BitVec 32 := 1#32
  let arg16 : BitVec 32 := Scf.iv v133 c1_i32_22 k0_t10
  let c8_i32_111 : BitVec 32 := 8#32
  let v252 : BitVec 32 := Scalar.muli arg16 c8_i32_111
  let c5_i32 : BitVec 32 := 5#32
  let v253 : BitVec 32 := Scalar.addi v252 c5_i32
  let c16_i32_112 : BitVec 32 := 16#32
  let v254 : BitVec 32 := Scalar.muli v253 c16_i32_112
  let v255 : BitVec 32 := v254
  let c0_i32_116 : BitVec 32 := 0#32
  ![v0.toNat, v255.toNat, 0]

def k0_chk35 (i : grid0.Coords) (v257 : BitVec 32) : Prop :=
  (∀ (k0_h5 : k0_cond5 i = 1#1), 16 ∣ (k0_mult64 v257).toNat) ∧
  (∀ (k0_h5 : k0_cond5 i = 1#1), ∀ a, (k0_off147 v257) a + S16x1024.size a ≤ S227328x1024.size a) ∧
  (∀ (k0_h5 : k0_cond5 i = 1#1), ∀ (hinb : ∀ a, (k0_off147 v257) a + S16x1024.size a ≤ S227328x1024.size a), (Rect.unit (s := S227328x1024) (k0_off147 v257) S16x1024.size hinb).WholeWords (EltTy.packing .bf16))
theorem k0_mult64_dvd : ∀ (i : grid0.Coords) (v257 : BitVec 32) (k0_hw35 : k0_chk35 i v257), ∀ (k0_h5 : k0_cond5 i = 1#1), 16 ∣ (k0_mult64 v257).toNat := fun i v257 k0_hw35 k0_h5 => k0_hw35.1 k0_h5
theorem k0_off147_inb : ∀ (i : grid0.Coords) (v257 : BitVec 32) (k0_hw35 : k0_chk35 i v257), ∀ (k0_h5 : k0_cond5 i = 1#1), ∀ a, (k0_off147 v257) a + S16x1024.size a ≤ S227328x1024.size a := fun i v257 k0_hw35 k0_h5 => k0_hw35.2.1 k0_h5
theorem k0_off147_wordsbf16 : ∀ (i : grid0.Coords) (v257 : BitVec 32) (k0_hw35 : k0_chk35 i v257), ∀ (k0_h5 : k0_cond5 i = 1#1), (Rect.unit (s := S227328x1024) (k0_off147 v257) S16x1024.size (k0_off147_inb i v257 k0_hw35 k0_h5)).WholeWords (EltTy.packing .bf16) := fun i v257 k0_hw35 k0_h5 => k0_hw35.2.2 k0_h5 (k0_off147_inb i v257 k0_hw35 k0_h5)

def k0_mult65 (v10 : BitVec 32) (k0_t10 : Fin (k0_t10_loop v10).trips) : BitVec 32 :=
  let c0_i32_20 : BitVec 32 := 0#32
  let c4_i32 : BitVec 32 := 4#32
  let v127 : BitVec 32 := Scalar.shrui v10 c4_i32
  let c3_i32 : BitVec 32 := 3#32
  let v128 : BitVec 32 := Scalar.shrui v127 c3_i32
  let v129 : BitVec 32 := Scalar.subi v128 c0_i32_20
  let c1_i32 : BitVec 32 := 1#32
  let v131 : BitVec 32 := Scalar.divsi v129 c1_i32
  let v132 : BitVec 32 := Scalar.muli v131 c1_i32
  let v133 : BitVec 32 := Scalar.addi c0_i32_20 v132
  let c1_i32_22 : BitVec 32 := 1#32
  let arg16 : BitVec 32 := Scf.iv v133 c1_i32_22 k0_t10
  let c8_i32_117 : BitVec 32 := 8#32
  let v264 : BitVec 32 := Scalar.muli arg16 c8_i32_117
  let c6_i32 : BitVec 32 := 6#32
  let v265 : BitVec 32 := Scalar.addi v264 c6_i32
  let c16_i32_118 : BitVec 32 := 16#32
  let v266 : BitVec 32 := Scalar.muli v265 c16_i32_118
  v266
def k0_off149 (v10 : BitVec 32) (k0_t10 : Fin (k0_t10_loop v10).trips) : Fin 3 → Nat :=
  let c0_119 : Index := 0#32
  let c0_120 : Index := 0#32
  let c0_i32_20 : BitVec 32 := 0#32
  let c4_i32 : BitVec 32 := 4#32
  let v127 : BitVec 32 := Scalar.shrui v10 c4_i32
  let c3_i32 : BitVec 32 := 3#32
  let v128 : BitVec 32 := Scalar.shrui v127 c3_i32
  let v129 : BitVec 32 := Scalar.subi v128 c0_i32_20
  let c1_i32 : BitVec 32 := 1#32
  let v131 : BitVec 32 := Scalar.divsi v129 c1_i32
  let v132 : BitVec 32 := Scalar.muli v131 c1_i32
  let v133 : BitVec 32 := Scalar.addi c0_i32_20 v132
  let c1_i32_22 : BitVec 32 := 1#32
  let arg16 : BitVec 32 := Scf.iv v133 c1_i32_22 k0_t10
  let c8_i32_117 : BitVec 32 := 8#32
  let v264 : BitVec 32 := Scalar.muli arg16 c8_i32_117
  let c6_i32 : BitVec 32 := 6#32
  let v265 : BitVec 32 := Scalar.addi v264 c6_i32
  let v268 : Index := Scalar.indexCast v265
  ![0, 0, v268.toNat]
def k0_mult66 (v269 : BitVec 32) : BitVec 32 :=
  v269

def k0_off150 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off151 (v269 : BitVec 32) : Fin 2 → Nat :=
  let v270 : BitVec 32 := v269
  let c0_i32_121 : BitVec 32 := 0#32
  ![v270.toNat, 0]
def k0_off152 (i : grid0.Coords) (v10 : BitVec 32) (k0_t10 : Fin (k0_t10_loop v10).trips) : Fin 3 → Nat :=
  let arg0 : BitVec 32 := BitVec.ofNat 32 (i 0).val
  let c2_i32 : BitVec 32 := 2#32
  let v0 : BitVec 32 := Scalar.remsi arg0 c2_i32
  let c0_i32_20 : BitVec 32 := 0#32
  let c4_i32 : BitVec 32 := 4#32
  let v127 : BitVec 32 := Scalar.shrui v10 c4_i32
  let c3_i32 : BitVec 32 := 3#32
  let v128 : BitVec 32 := Scalar.shrui v127 c3_i32
  let v129 : BitVec 32 := Scalar.subi v128 c0_i32_20
  let c1_i32 : BitVec 32 := 1#32
  let v131 : BitVec 32 := Scalar.divsi v129 c1_i32
  let v132 : BitVec 32 := Scalar.muli v131 c1_i32
  let v133 : BitVec 32 := Scalar.addi c0_i32_20 v132
  let c1_i32_22 : BitVec 32 := 1#32
  let arg16 : BitVec 32 := Scf.iv v133 c1_i32_22 k0_t10
  let c8_i32_117 : BitVec 32 := 8#32
  let v264 : BitVec 32 := Scalar.muli arg16 c8_i32_117
  let c6_i32 : BitVec 32 := 6#32
  let v265 : BitVec 32 := Scalar.addi v264 c6_i32
  let c16_i32_118 : BitVec 32 := 16#32
  let v266 : BitVec 32 := Scalar.muli v265 c16_i32_118
  let v267 : BitVec 32 := v266
  let c0_i32_122 : BitVec 32 := 0#32
  ![v0.toNat, v267.toNat, 0]

def k0_chk36 (i : grid0.Coords) (v269 : BitVec 32) : Prop :=
  (∀ (k0_h5 : k0_cond5 i = 1#1), 16 ∣ (k0_mult66 v269).toNat) ∧
  (∀ (k0_h5 : k0_cond5 i = 1#1), ∀ a, (k0_off151 v269) a + S16x1024.size a ≤ S227328x1024.size a) ∧
  (∀ (k0_h5 : k0_cond5 i = 1#1), ∀ (hinb : ∀ a, (k0_off151 v269) a + S16x1024.size a ≤ S227328x1024.size a), (Rect.unit (s := S227328x1024) (k0_off151 v269) S16x1024.size hinb).WholeWords (EltTy.packing .bf16))
theorem k0_mult66_dvd : ∀ (i : grid0.Coords) (v269 : BitVec 32) (k0_hw36 : k0_chk36 i v269), ∀ (k0_h5 : k0_cond5 i = 1#1), 16 ∣ (k0_mult66 v269).toNat := fun i v269 k0_hw36 k0_h5 => k0_hw36.1 k0_h5
theorem k0_off151_inb : ∀ (i : grid0.Coords) (v269 : BitVec 32) (k0_hw36 : k0_chk36 i v269), ∀ (k0_h5 : k0_cond5 i = 1#1), ∀ a, (k0_off151 v269) a + S16x1024.size a ≤ S227328x1024.size a := fun i v269 k0_hw36 k0_h5 => k0_hw36.2.1 k0_h5
theorem k0_off151_wordsbf16 : ∀ (i : grid0.Coords) (v269 : BitVec 32) (k0_hw36 : k0_chk36 i v269), ∀ (k0_h5 : k0_cond5 i = 1#1), (Rect.unit (s := S227328x1024) (k0_off151 v269) S16x1024.size (k0_off151_inb i v269 k0_hw36 k0_h5)).WholeWords (EltTy.packing .bf16) := fun i v269 k0_hw36 k0_h5 => k0_hw36.2.2 k0_h5 (k0_off151_inb i v269 k0_hw36 k0_h5)

def k0_mult67 (v10 : BitVec 32) (k0_t10 : Fin (k0_t10_loop v10).trips) : BitVec 32 :=
  let c0_i32_20 : BitVec 32 := 0#32
  let c4_i32 : BitVec 32 := 4#32
  let v127 : BitVec 32 := Scalar.shrui v10 c4_i32
  let c3_i32 : BitVec 32 := 3#32
  let v128 : BitVec 32 := Scalar.shrui v127 c3_i32
  let v129 : BitVec 32 := Scalar.subi v128 c0_i32_20
  let c1_i32 : BitVec 32 := 1#32
  let v131 : BitVec 32 := Scalar.divsi v129 c1_i32
  let v132 : BitVec 32 := Scalar.muli v131 c1_i32
  let v133 : BitVec 32 := Scalar.addi c0_i32_20 v132
  let c1_i32_22 : BitVec 32 := 1#32
  let arg16 : BitVec 32 := Scf.iv v133 c1_i32_22 k0_t10
  let c8_i32_123 : BitVec 32 := 8#32
  let v276 : BitVec 32 := Scalar.muli arg16 c8_i32_123
  let c7_i32 : BitVec 32 := 7#32
  let v277 : BitVec 32 := Scalar.addi v276 c7_i32
  let c16_i32_124 : BitVec 32 := 16#32
  let v278 : BitVec 32 := Scalar.muli v277 c16_i32_124
  v278
def k0_off153 (v10 : BitVec 32) (k0_t10 : Fin (k0_t10_loop v10).trips) : Fin 3 → Nat :=
  let c0_125 : Index := 0#32
  let c0_126 : Index := 0#32
  let c0_i32_20 : BitVec 32 := 0#32
  let c4_i32 : BitVec 32 := 4#32
  let v127 : BitVec 32 := Scalar.shrui v10 c4_i32
  let c3_i32 : BitVec 32 := 3#32
  let v128 : BitVec 32 := Scalar.shrui v127 c3_i32
  let v129 : BitVec 32 := Scalar.subi v128 c0_i32_20
  let c1_i32 : BitVec 32 := 1#32
  let v131 : BitVec 32 := Scalar.divsi v129 c1_i32
  let v132 : BitVec 32 := Scalar.muli v131 c1_i32
  let v133 : BitVec 32 := Scalar.addi c0_i32_20 v132
  let c1_i32_22 : BitVec 32 := 1#32
  let arg16 : BitVec 32 := Scf.iv v133 c1_i32_22 k0_t10
  let c8_i32_123 : BitVec 32 := 8#32
  let v276 : BitVec 32 := Scalar.muli arg16 c8_i32_123
  let c7_i32 : BitVec 32 := 7#32
  let v277 : BitVec 32 := Scalar.addi v276 c7_i32
  let v280 : Index := Scalar.indexCast v277
  ![0, 0, v280.toNat]
def k0_mult68 (v281 : BitVec 32) : BitVec 32 :=
  v281

def k0_off154 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off155 (v281 : BitVec 32) : Fin 2 → Nat :=
  let v282 : BitVec 32 := v281
  let c0_i32_127 : BitVec 32 := 0#32
  ![v282.toNat, 0]
def k0_off156 (i : grid0.Coords) (v10 : BitVec 32) (k0_t10 : Fin (k0_t10_loop v10).trips) : Fin 3 → Nat :=
  let arg0 : BitVec 32 := BitVec.ofNat 32 (i 0).val
  let c2_i32 : BitVec 32 := 2#32
  let v0 : BitVec 32 := Scalar.remsi arg0 c2_i32
  let c0_i32_20 : BitVec 32 := 0#32
  let c4_i32 : BitVec 32 := 4#32
  let v127 : BitVec 32 := Scalar.shrui v10 c4_i32
  let c3_i32 : BitVec 32 := 3#32
  let v128 : BitVec 32 := Scalar.shrui v127 c3_i32
  let v129 : BitVec 32 := Scalar.subi v128 c0_i32_20
  let c1_i32 : BitVec 32 := 1#32
  let v131 : BitVec 32 := Scalar.divsi v129 c1_i32
  let v132 : BitVec 32 := Scalar.muli v131 c1_i32
  let v133 : BitVec 32 := Scalar.addi c0_i32_20 v132
  let c1_i32_22 : BitVec 32 := 1#32
  let arg16 : BitVec 32 := Scf.iv v133 c1_i32_22 k0_t10
  let c8_i32_123 : BitVec 32 := 8#32
  let v276 : BitVec 32 := Scalar.muli arg16 c8_i32_123
  let c7_i32 : BitVec 32 := 7#32
  let v277 : BitVec 32 := Scalar.addi v276 c7_i32
  let c16_i32_124 : BitVec 32 := 16#32
  let v278 : BitVec 32 := Scalar.muli v277 c16_i32_124
  let v279 : BitVec 32 := v278
  let c0_i32_128 : BitVec 32 := 0#32
  ![v0.toNat, v279.toNat, 0]

def k0_chk37 (i : grid0.Coords) (v281 : BitVec 32) : Prop :=
  (∀ (k0_h5 : k0_cond5 i = 1#1), 16 ∣ (k0_mult68 v281).toNat) ∧
  (∀ (k0_h5 : k0_cond5 i = 1#1), ∀ a, (k0_off155 v281) a + S16x1024.size a ≤ S227328x1024.size a) ∧
  (∀ (k0_h5 : k0_cond5 i = 1#1), ∀ (hinb : ∀ a, (k0_off155 v281) a + S16x1024.size a ≤ S227328x1024.size a), (Rect.unit (s := S227328x1024) (k0_off155 v281) S16x1024.size hinb).WholeWords (EltTy.packing .bf16))
theorem k0_mult68_dvd : ∀ (i : grid0.Coords) (v281 : BitVec 32) (k0_hw37 : k0_chk37 i v281), ∀ (k0_h5 : k0_cond5 i = 1#1), 16 ∣ (k0_mult68 v281).toNat := fun i v281 k0_hw37 k0_h5 => k0_hw37.1 k0_h5
theorem k0_off155_inb : ∀ (i : grid0.Coords) (v281 : BitVec 32) (k0_hw37 : k0_chk37 i v281), ∀ (k0_h5 : k0_cond5 i = 1#1), ∀ a, (k0_off155 v281) a + S16x1024.size a ≤ S227328x1024.size a := fun i v281 k0_hw37 k0_h5 => k0_hw37.2.1 k0_h5
theorem k0_off155_wordsbf16 : ∀ (i : grid0.Coords) (v281 : BitVec 32) (k0_hw37 : k0_chk37 i v281), ∀ (k0_h5 : k0_cond5 i = 1#1), (Rect.unit (s := S227328x1024) (k0_off155 v281) S16x1024.size (k0_off155_inb i v281 k0_hw37 k0_h5)).WholeWords (EltTy.packing .bf16) := fun i v281 k0_hw37 k0_h5 => k0_hw37.2.2 k0_h5 (k0_off155_inb i v281 k0_hw37 k0_h5)

@[reducible] def k0_t11_loop (v10 : BitVec 32) : Scf.Loop 32 :=
  let c4_i32 : BitVec 32 := 4#32
  let v127 : BitVec 32 := Scalar.shrui v10 c4_i32
  let c3_i32 : BitVec 32 := 3#32
  let v128 : BitVec 32 := Scalar.shrui v127 c3_i32
  let c8_i32 : BitVec 32 := 8#32
  let v134 : BitVec 32 := Scalar.muli v128 c8_i32
  let v135 : BitVec 32 := Scalar.subi v127 v134
  let c1_i32_24 : BitVec 32 := 1#32
  let v137 : BitVec 32 := Scalar.divsi v135 c1_i32_24
  let v138 : BitVec 32 := Scalar.muli v137 c1_i32_24
  let v139 : BitVec 32 := Scalar.addi v134 v138
  let c1_i32_25 : BitVec 32 := 1#32
  ⟨v134, v139, c1_i32_25⟩
def k0_mult69 (v10 : BitVec 32) (k0_t11 : Fin (k0_t11_loop v10).trips) : BitVec 32 :=
  let c4_i32 : BitVec 32 := 4#32
  let v127 : BitVec 32 := Scalar.shrui v10 c4_i32
  let c3_i32 : BitVec 32 := 3#32
  let v128 : BitVec 32 := Scalar.shrui v127 c3_i32
  let c8_i32 : BitVec 32 := 8#32
  let v134 : BitVec 32 := Scalar.muli v128 c8_i32
  let c1_i32_25 : BitVec 32 := 1#32
  let arg16 : BitVec 32 := Scf.iv v134 c1_i32_25 k0_t11
  let c16_i32 : BitVec 32 := 16#32
  let v192 : BitVec 32 := Scalar.muli arg16 c16_i32
  v192
def k0_off157 (v10 : BitVec 32) (k0_t11 : Fin (k0_t11_loop v10).trips) : Fin 3 → Nat :=
  let c0_77 : Index := 0#32
  let c0_78 : Index := 0#32
  let c4_i32 : BitVec 32 := 4#32
  let v127 : BitVec 32 := Scalar.shrui v10 c4_i32
  let c3_i32 : BitVec 32 := 3#32
  let v128 : BitVec 32 := Scalar.shrui v127 c3_i32
  let c8_i32 : BitVec 32 := 8#32
  let v134 : BitVec 32 := Scalar.muli v128 c8_i32
  let c1_i32_25 : BitVec 32 := 1#32
  let arg16 : BitVec 32 := Scf.iv v134 c1_i32_25 k0_t11
  let v194 : Index := Scalar.indexCast arg16
  ![0, 0, v194.toNat]
def k0_mult70 (v195 : BitVec 32) : BitVec 32 :=
  v195

def k0_off158 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off159 (v195 : BitVec 32) : Fin 2 → Nat :=
  let v196 : BitVec 32 := v195
  let c0_i32_79 : BitVec 32 := 0#32
  ![v196.toNat, 0]
def k0_off160 (i : grid0.Coords) (v10 : BitVec 32) (k0_t11 : Fin (k0_t11_loop v10).trips) : Fin 3 → Nat :=
  let arg0 : BitVec 32 := BitVec.ofNat 32 (i 0).val
  let c2_i32 : BitVec 32 := 2#32
  let v0 : BitVec 32 := Scalar.remsi arg0 c2_i32
  let c4_i32 : BitVec 32 := 4#32
  let v127 : BitVec 32 := Scalar.shrui v10 c4_i32
  let c3_i32 : BitVec 32 := 3#32
  let v128 : BitVec 32 := Scalar.shrui v127 c3_i32
  let c8_i32 : BitVec 32 := 8#32
  let v134 : BitVec 32 := Scalar.muli v128 c8_i32
  let c1_i32_25 : BitVec 32 := 1#32
  let arg16 : BitVec 32 := Scf.iv v134 c1_i32_25 k0_t11
  let c16_i32 : BitVec 32 := 16#32
  let v192 : BitVec 32 := Scalar.muli arg16 c16_i32
  let v193 : BitVec 32 := v192
  let c0_i32_80 : BitVec 32 := 0#32
  ![v0.toNat, v193.toNat, 0]

def k0_chk38 (i : grid0.Coords) (v195 : BitVec 32) : Prop :=
  (∀ (k0_h5 : k0_cond5 i = 1#1), 16 ∣ (k0_mult70 v195).toNat) ∧
  (∀ (k0_h5 : k0_cond5 i = 1#1), ∀ a, (k0_off159 v195) a + S16x1024.size a ≤ S227328x1024.size a) ∧
  (∀ (k0_h5 : k0_cond5 i = 1#1), ∀ (hinb : ∀ a, (k0_off159 v195) a + S16x1024.size a ≤ S227328x1024.size a), (Rect.unit (s := S227328x1024) (k0_off159 v195) S16x1024.size hinb).WholeWords (EltTy.packing .bf16))
theorem k0_mult70_dvd : ∀ (i : grid0.Coords) (v195 : BitVec 32) (k0_hw38 : k0_chk38 i v195), ∀ (k0_h5 : k0_cond5 i = 1#1), 16 ∣ (k0_mult70 v195).toNat := fun i v195 k0_hw38 k0_h5 => k0_hw38.1 k0_h5
theorem k0_off159_inb : ∀ (i : grid0.Coords) (v195 : BitVec 32) (k0_hw38 : k0_chk38 i v195), ∀ (k0_h5 : k0_cond5 i = 1#1), ∀ a, (k0_off159 v195) a + S16x1024.size a ≤ S227328x1024.size a := fun i v195 k0_hw38 k0_h5 => k0_hw38.2.1 k0_h5
theorem k0_off159_wordsbf16 : ∀ (i : grid0.Coords) (v195 : BitVec 32) (k0_hw38 : k0_chk38 i v195), ∀ (k0_h5 : k0_cond5 i = 1#1), (Rect.unit (s := S227328x1024) (k0_off159 v195) S16x1024.size (k0_off159_inb i v195 k0_hw38 k0_h5)).WholeWords (EltTy.packing .bf16) := fun i v195 k0_hw38 k0_h5 => k0_hw38.2.2 k0_h5 (k0_off159_inb i v195 k0_hw38 k0_h5)

@[reducible] def k0_t12_loop (v10 : BitVec 32) : Scf.Loop 32 :=
  let c4_i32 : BitVec 32 := 4#32
  let v127 : BitVec 32 := Scalar.shrui v10 c4_i32
  let c3_i32 : BitVec 32 := 3#32
  let v128 : BitVec 32 := Scalar.shrui v127 c3_i32
  let c8_i32 : BitVec 32 := 8#32
  let v134 : BitVec 32 := Scalar.muli v128 c8_i32
  let v135 : BitVec 32 := Scalar.subi v127 v134
  let c1_i32_24 : BitVec 32 := 1#32
  let v137 : BitVec 32 := Scalar.divsi v135 c1_i32_24
  let v138 : BitVec 32 := Scalar.muli v137 c1_i32_24
  let v139 : BitVec 32 := Scalar.addi v134 v138
  let v136 : BitVec 32 := Scalar.addi v134 v135
  let c1_i32_26 : BitVec 32 := 1#32
  ⟨v139, v136, c1_i32_26⟩
def k0_mult71 (v10 : BitVec 32) (k0_t12 : Fin (k0_t12_loop v10).trips) : BitVec 32 :=
  let c4_i32 : BitVec 32 := 4#32
  let v127 : BitVec 32 := Scalar.shrui v10 c4_i32
  let c3_i32 : BitVec 32 := 3#32
  let v128 : BitVec 32 := Scalar.shrui v127 c3_i32
  let c8_i32 : BitVec 32 := 8#32
  let v134 : BitVec 32 := Scalar.muli v128 c8_i32
  let v135 : BitVec 32 := Scalar.subi v127 v134
  let c1_i32_24 : BitVec 32 := 1#32
  let v137 : BitVec 32 := Scalar.divsi v135 c1_i32_24
  let v138 : BitVec 32 := Scalar.muli v137 c1_i32_24
  let v139 : BitVec 32 := Scalar.addi v134 v138
  let c1_i32_26 : BitVec 32 := 1#32
  let arg16 : BitVec 32 := Scf.iv v139 c1_i32_26 k0_t12
  let c16_i32 : BitVec 32 := 16#32
  let v192 : BitVec 32 := Scalar.muli arg16 c16_i32
  v192
def k0_off161 (v10 : BitVec 32) (k0_t12 : Fin (k0_t12_loop v10).trips) : Fin 3 → Nat :=
  let c0_77 : Index := 0#32
  let c0_78 : Index := 0#32
  let c4_i32 : BitVec 32 := 4#32
  let v127 : BitVec 32 := Scalar.shrui v10 c4_i32
  let c3_i32 : BitVec 32 := 3#32
  let v128 : BitVec 32 := Scalar.shrui v127 c3_i32
  let c8_i32 : BitVec 32 := 8#32
  let v134 : BitVec 32 := Scalar.muli v128 c8_i32
  let v135 : BitVec 32 := Scalar.subi v127 v134
  let c1_i32_24 : BitVec 32 := 1#32
  let v137 : BitVec 32 := Scalar.divsi v135 c1_i32_24
  let v138 : BitVec 32 := Scalar.muli v137 c1_i32_24
  let v139 : BitVec 32 := Scalar.addi v134 v138
  let c1_i32_26 : BitVec 32 := 1#32
  let arg16 : BitVec 32 := Scf.iv v139 c1_i32_26 k0_t12
  let v194 : Index := Scalar.indexCast arg16
  ![0, 0, v194.toNat]
def k0_mult72 (v195 : BitVec 32) : BitVec 32 :=
  v195

def k0_off162 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off163 (v195 : BitVec 32) : Fin 2 → Nat :=
  let v196 : BitVec 32 := v195
  let c0_i32_79 : BitVec 32 := 0#32
  ![v196.toNat, 0]
def k0_off164 (i : grid0.Coords) (v10 : BitVec 32) (k0_t12 : Fin (k0_t12_loop v10).trips) : Fin 3 → Nat :=
  let arg0 : BitVec 32 := BitVec.ofNat 32 (i 0).val
  let c2_i32 : BitVec 32 := 2#32
  let v0 : BitVec 32 := Scalar.remsi arg0 c2_i32
  let c4_i32 : BitVec 32 := 4#32
  let v127 : BitVec 32 := Scalar.shrui v10 c4_i32
  let c3_i32 : BitVec 32 := 3#32
  let v128 : BitVec 32 := Scalar.shrui v127 c3_i32
  let c8_i32 : BitVec 32 := 8#32
  let v134 : BitVec 32 := Scalar.muli v128 c8_i32
  let v135 : BitVec 32 := Scalar.subi v127 v134
  let c1_i32_24 : BitVec 32 := 1#32
  let v137 : BitVec 32 := Scalar.divsi v135 c1_i32_24
  let v138 : BitVec 32 := Scalar.muli v137 c1_i32_24
  let v139 : BitVec 32 := Scalar.addi v134 v138
  let c1_i32_26 : BitVec 32 := 1#32
  let arg16 : BitVec 32 := Scf.iv v139 c1_i32_26 k0_t12
  let c16_i32 : BitVec 32 := 16#32
  let v192 : BitVec 32 := Scalar.muli arg16 c16_i32
  let v193 : BitVec 32 := v192
  let c0_i32_80 : BitVec 32 := 0#32
  ![v0.toNat, v193.toNat, 0]

def k0_chk21_0 (i : grid0.Coords) (v10 : BitVec 32) : Prop :=
  (∀ (k0_h5 : k0_cond5 i = 1#1), (k0_t9_loop v10).OK) ∧
  (∀ k0_t9 : Fin (k0_t9_loop v10).trips, ∀ (k0_h5 : k0_cond5 i = 1#1), 16 ∣ (k0_mult37 v10 k0_t9).toNat) ∧
  (∀ k0_t9 : Fin (k0_t9_loop v10).trips, ∀ (k0_h5 : k0_cond5 i = 1#1), ∀ a, (k0_off93 v10 k0_t9) a + S1x1x1.size a ≤ S1x1x128.size a) ∧
  (∀ k0_t9 : Fin (k0_t9_loop v10).trips, ∀ (k0_h5 : k0_cond5 i = 1#1), ∀ a, (k0_off96 i v10 k0_t9) a + S1x16x1024.size a ≤ S2x3072x1024.size a) ∧
  (∀ k0_t9 : Fin (k0_t9_loop v10).trips, ∀ (k0_h5 : k0_cond5 i = 1#1), ∀ (hinb : ∀ a, (k0_off96 i v10 k0_t9) a + S1x16x1024.size a ≤ S2x3072x1024.size a), (Rect.unit (s := S2x3072x1024) (k0_off96 i v10 k0_t9) S1x16x1024.size hinb).WholeWords (EltTy.packing .bf16)) ∧
  (∀ k0_t9 : Fin (k0_t9_loop v10).trips, ∀ (k0_h5 : k0_cond5 i = 1#1), 16 ∣ (k0_mult39 v10 k0_t9).toNat) ∧
  (∀ k0_t9 : Fin (k0_t9_loop v10).trips, ∀ (k0_h5 : k0_cond5 i = 1#1), ∀ a, (k0_off97 v10 k0_t9) a + S1x1x1.size a ≤ S1x1x128.size a) ∧
  (∀ k0_t9 : Fin (k0_t9_loop v10).trips, ∀ (k0_h5 : k0_cond5 i = 1#1), ∀ a, (k0_off100 i v10 k0_t9) a + S1x16x1024.size a ≤ S2x3072x1024.size a) ∧
  (∀ k0_t9 : Fin (k0_t9_loop v10).trips, ∀ (k0_h5 : k0_cond5 i = 1#1), ∀ (hinb : ∀ a, (k0_off100 i v10 k0_t9) a + S1x16x1024.size a ≤ S2x3072x1024.size a), (Rect.unit (s := S2x3072x1024) (k0_off100 i v10 k0_t9) S1x16x1024.size hinb).WholeWords (EltTy.packing .bf16)) ∧
  (∀ k0_t9 : Fin (k0_t9_loop v10).trips, ∀ (k0_h5 : k0_cond5 i = 1#1), 16 ∣ (k0_mult41 v10 k0_t9).toNat) ∧
  (∀ k0_t9 : Fin (k0_t9_loop v10).trips, ∀ (k0_h5 : k0_cond5 i = 1#1), ∀ a, (k0_off101 v10 k0_t9) a + S1x1x1.size a ≤ S1x1x128.size a) ∧
  (∀ k0_t9 : Fin (k0_t9_loop v10).trips, ∀ (k0_h5 : k0_cond5 i = 1#1), ∀ a, (k0_off104 i v10 k0_t9) a + S1x16x1024.size a ≤ S2x3072x1024.size a) ∧
  (∀ k0_t9 : Fin (k0_t9_loop v10).trips, ∀ (k0_h5 : k0_cond5 i = 1#1), ∀ (hinb : ∀ a, (k0_off104 i v10 k0_t9) a + S1x16x1024.size a ≤ S2x3072x1024.size a), (Rect.unit (s := S2x3072x1024) (k0_off104 i v10 k0_t9) S1x16x1024.size hinb).WholeWords (EltTy.packing .bf16)) ∧
  (∀ k0_t9 : Fin (k0_t9_loop v10).trips, ∀ (k0_h5 : k0_cond5 i = 1#1), 16 ∣ (k0_mult43 v10 k0_t9).toNat) ∧
  (∀ k0_t9 : Fin (k0_t9_loop v10).trips, ∀ (k0_h5 : k0_cond5 i = 1#1), ∀ a, (k0_off105 v10 k0_t9) a + S1x1x1.size a ≤ S1x1x128.size a) ∧
  (∀ k0_t9 : Fin (k0_t9_loop v10).trips, ∀ (k0_h5 : k0_cond5 i = 1#1), ∀ a, (k0_off108 i v10 k0_t9) a + S1x16x1024.size a ≤ S2x3072x1024.size a) ∧
  (∀ k0_t9 : Fin (k0_t9_loop v10).trips, ∀ (k0_h5 : k0_cond5 i = 1#1), ∀ (hinb : ∀ a, (k0_off108 i v10 k0_t9) a + S1x16x1024.size a ≤ S2x3072x1024.size a), (Rect.unit (s := S2x3072x1024) (k0_off108 i v10 k0_t9) S1x16x1024.size hinb).WholeWords (EltTy.packing .bf16)) ∧
  (∀ k0_t9 : Fin (k0_t9_loop v10).trips, ∀ (k0_h5 : k0_cond5 i = 1#1), 16 ∣ (k0_mult45 v10 k0_t9).toNat) ∧
  (∀ k0_t9 : Fin (k0_t9_loop v10).trips, ∀ (k0_h5 : k0_cond5 i = 1#1), ∀ a, (k0_off109 v10 k0_t9) a + S1x1x1.size a ≤ S1x1x128.size a) ∧
  (∀ k0_t9 : Fin (k0_t9_loop v10).trips, ∀ (k0_h5 : k0_cond5 i = 1#1), ∀ a, (k0_off112 i v10 k0_t9) a + S1x16x1024.size a ≤ S2x3072x1024.size a) ∧
  (∀ k0_t9 : Fin (k0_t9_loop v10).trips, ∀ (k0_h5 : k0_cond5 i = 1#1), ∀ (hinb : ∀ a, (k0_off112 i v10 k0_t9) a + S1x16x1024.size a ≤ S2x3072x1024.size a), (Rect.unit (s := S2x3072x1024) (k0_off112 i v10 k0_t9) S1x16x1024.size hinb).WholeWords (EltTy.packing .bf16)) ∧
  (∀ k0_t9 : Fin (k0_t9_loop v10).trips, ∀ (k0_h5 : k0_cond5 i = 1#1), 16 ∣ (k0_mult47 v10 k0_t9).toNat) ∧
  (∀ k0_t9 : Fin (k0_t9_loop v10).trips, ∀ (k0_h5 : k0_cond5 i = 1#1), ∀ a, (k0_off113 v10 k0_t9) a + S1x1x1.size a ≤ S1x1x128.size a) ∧
  (∀ k0_t9 : Fin (k0_t9_loop v10).trips, ∀ (k0_h5 : k0_cond5 i = 1#1), ∀ a, (k0_off116 i v10 k0_t9) a + S1x16x1024.size a ≤ S2x3072x1024.size a) ∧
  (∀ k0_t9 : Fin (k0_t9_loop v10).trips, ∀ (k0_h5 : k0_cond5 i = 1#1), ∀ (hinb : ∀ a, (k0_off116 i v10 k0_t9) a + S1x16x1024.size a ≤ S2x3072x1024.size a), (Rect.unit (s := S2x3072x1024) (k0_off116 i v10 k0_t9) S1x16x1024.size hinb).WholeWords (EltTy.packing .bf16)) ∧
  (∀ k0_t9 : Fin (k0_t9_loop v10).trips, ∀ (k0_h5 : k0_cond5 i = 1#1), 16 ∣ (k0_mult49 v10 k0_t9).toNat) ∧
  (∀ k0_t9 : Fin (k0_t9_loop v10).trips, ∀ (k0_h5 : k0_cond5 i = 1#1), ∀ a, (k0_off117 v10 k0_t9) a + S1x1x1.size a ≤ S1x1x128.size a) ∧
  (∀ k0_t9 : Fin (k0_t9_loop v10).trips, ∀ (k0_h5 : k0_cond5 i = 1#1), ∀ a, (k0_off120 i v10 k0_t9) a + S1x16x1024.size a ≤ S2x3072x1024.size a) ∧
  (∀ k0_t9 : Fin (k0_t9_loop v10).trips, ∀ (k0_h5 : k0_cond5 i = 1#1), ∀ (hinb : ∀ a, (k0_off120 i v10 k0_t9) a + S1x16x1024.size a ≤ S2x3072x1024.size a), (Rect.unit (s := S2x3072x1024) (k0_off120 i v10 k0_t9) S1x16x1024.size hinb).WholeWords (EltTy.packing .bf16)) ∧
  (∀ k0_t9 : Fin (k0_t9_loop v10).trips, ∀ (k0_h5 : k0_cond5 i = 1#1), 16 ∣ (k0_mult51 v10 k0_t9).toNat) ∧
  (∀ k0_t9 : Fin (k0_t9_loop v10).trips, ∀ (k0_h5 : k0_cond5 i = 1#1), ∀ a, (k0_off121 v10 k0_t9) a + S1x1x1.size a ≤ S1x1x128.size a) ∧
  (∀ k0_t9 : Fin (k0_t9_loop v10).trips, ∀ (k0_h5 : k0_cond5 i = 1#1), ∀ a, (k0_off124 i v10 k0_t9) a + S1x16x1024.size a ≤ S2x3072x1024.size a)
def k0_chk21_1 (i : grid0.Coords) (v10 : BitVec 32) : Prop :=
  (∀ k0_t9 : Fin (k0_t9_loop v10).trips, ∀ (k0_h5 : k0_cond5 i = 1#1), ∀ (hinb : ∀ a, (k0_off124 i v10 k0_t9) a + S1x16x1024.size a ≤ S2x3072x1024.size a), (Rect.unit (s := S2x3072x1024) (k0_off124 i v10 k0_t9) S1x16x1024.size hinb).WholeWords (EltTy.packing .bf16)) ∧
  (∀ (k0_h5 : k0_cond5 i = 1#1), (k0_t10_loop v10).OK) ∧
  (∀ k0_t10 : Fin (k0_t10_loop v10).trips, ∀ (k0_h5 : k0_cond5 i = 1#1), 16 ∣ (k0_mult53 v10 k0_t10).toNat) ∧
  (∀ k0_t10 : Fin (k0_t10_loop v10).trips, ∀ (k0_h5 : k0_cond5 i = 1#1), ∀ a, (k0_off125 v10 k0_t10) a + S1x1x1.size a ≤ S1x1x128.size a) ∧
  (∀ k0_t10 : Fin (k0_t10_loop v10).trips, ∀ (k0_h5 : k0_cond5 i = 1#1), ∀ a, (k0_off128 i v10 k0_t10) a + S1x16x1024.size a ≤ S2x3072x1024.size a) ∧
  (∀ k0_t10 : Fin (k0_t10_loop v10).trips, ∀ (k0_h5 : k0_cond5 i = 1#1), ∀ (hinb : ∀ a, (k0_off128 i v10 k0_t10) a + S1x16x1024.size a ≤ S2x3072x1024.size a), (Rect.unit (s := S2x3072x1024) (k0_off128 i v10 k0_t10) S1x16x1024.size hinb).WholeWords (EltTy.packing .bf16)) ∧
  (∀ k0_t10 : Fin (k0_t10_loop v10).trips, ∀ (k0_h5 : k0_cond5 i = 1#1), 16 ∣ (k0_mult55 v10 k0_t10).toNat) ∧
  (∀ k0_t10 : Fin (k0_t10_loop v10).trips, ∀ (k0_h5 : k0_cond5 i = 1#1), ∀ a, (k0_off129 v10 k0_t10) a + S1x1x1.size a ≤ S1x1x128.size a) ∧
  (∀ k0_t10 : Fin (k0_t10_loop v10).trips, ∀ (k0_h5 : k0_cond5 i = 1#1), ∀ a, (k0_off132 i v10 k0_t10) a + S1x16x1024.size a ≤ S2x3072x1024.size a) ∧
  (∀ k0_t10 : Fin (k0_t10_loop v10).trips, ∀ (k0_h5 : k0_cond5 i = 1#1), ∀ (hinb : ∀ a, (k0_off132 i v10 k0_t10) a + S1x16x1024.size a ≤ S2x3072x1024.size a), (Rect.unit (s := S2x3072x1024) (k0_off132 i v10 k0_t10) S1x16x1024.size hinb).WholeWords (EltTy.packing .bf16)) ∧
  (∀ k0_t10 : Fin (k0_t10_loop v10).trips, ∀ (k0_h5 : k0_cond5 i = 1#1), 16 ∣ (k0_mult57 v10 k0_t10).toNat) ∧
  (∀ k0_t10 : Fin (k0_t10_loop v10).trips, ∀ (k0_h5 : k0_cond5 i = 1#1), ∀ a, (k0_off133 v10 k0_t10) a + S1x1x1.size a ≤ S1x1x128.size a) ∧
  (∀ k0_t10 : Fin (k0_t10_loop v10).trips, ∀ (k0_h5 : k0_cond5 i = 1#1), ∀ a, (k0_off136 i v10 k0_t10) a + S1x16x1024.size a ≤ S2x3072x1024.size a) ∧
  (∀ k0_t10 : Fin (k0_t10_loop v10).trips, ∀ (k0_h5 : k0_cond5 i = 1#1), ∀ (hinb : ∀ a, (k0_off136 i v10 k0_t10) a + S1x16x1024.size a ≤ S2x3072x1024.size a), (Rect.unit (s := S2x3072x1024) (k0_off136 i v10 k0_t10) S1x16x1024.size hinb).WholeWords (EltTy.packing .bf16)) ∧
  (∀ k0_t10 : Fin (k0_t10_loop v10).trips, ∀ (k0_h5 : k0_cond5 i = 1#1), 16 ∣ (k0_mult59 v10 k0_t10).toNat) ∧
  (∀ k0_t10 : Fin (k0_t10_loop v10).trips, ∀ (k0_h5 : k0_cond5 i = 1#1), ∀ a, (k0_off137 v10 k0_t10) a + S1x1x1.size a ≤ S1x1x128.size a) ∧
  (∀ k0_t10 : Fin (k0_t10_loop v10).trips, ∀ (k0_h5 : k0_cond5 i = 1#1), ∀ a, (k0_off140 i v10 k0_t10) a + S1x16x1024.size a ≤ S2x3072x1024.size a) ∧
  (∀ k0_t10 : Fin (k0_t10_loop v10).trips, ∀ (k0_h5 : k0_cond5 i = 1#1), ∀ (hinb : ∀ a, (k0_off140 i v10 k0_t10) a + S1x16x1024.size a ≤ S2x3072x1024.size a), (Rect.unit (s := S2x3072x1024) (k0_off140 i v10 k0_t10) S1x16x1024.size hinb).WholeWords (EltTy.packing .bf16)) ∧
  (∀ k0_t10 : Fin (k0_t10_loop v10).trips, ∀ (k0_h5 : k0_cond5 i = 1#1), 16 ∣ (k0_mult61 v10 k0_t10).toNat) ∧
  (∀ k0_t10 : Fin (k0_t10_loop v10).trips, ∀ (k0_h5 : k0_cond5 i = 1#1), ∀ a, (k0_off141 v10 k0_t10) a + S1x1x1.size a ≤ S1x1x128.size a) ∧
  (∀ k0_t10 : Fin (k0_t10_loop v10).trips, ∀ (k0_h5 : k0_cond5 i = 1#1), ∀ a, (k0_off144 i v10 k0_t10) a + S1x16x1024.size a ≤ S2x3072x1024.size a) ∧
  (∀ k0_t10 : Fin (k0_t10_loop v10).trips, ∀ (k0_h5 : k0_cond5 i = 1#1), ∀ (hinb : ∀ a, (k0_off144 i v10 k0_t10) a + S1x16x1024.size a ≤ S2x3072x1024.size a), (Rect.unit (s := S2x3072x1024) (k0_off144 i v10 k0_t10) S1x16x1024.size hinb).WholeWords (EltTy.packing .bf16)) ∧
  (∀ k0_t10 : Fin (k0_t10_loop v10).trips, ∀ (k0_h5 : k0_cond5 i = 1#1), 16 ∣ (k0_mult63 v10 k0_t10).toNat) ∧
  (∀ k0_t10 : Fin (k0_t10_loop v10).trips, ∀ (k0_h5 : k0_cond5 i = 1#1), ∀ a, (k0_off145 v10 k0_t10) a + S1x1x1.size a ≤ S1x1x128.size a) ∧
  (∀ k0_t10 : Fin (k0_t10_loop v10).trips, ∀ (k0_h5 : k0_cond5 i = 1#1), ∀ a, (k0_off148 i v10 k0_t10) a + S1x16x1024.size a ≤ S2x3072x1024.size a) ∧
  (∀ k0_t10 : Fin (k0_t10_loop v10).trips, ∀ (k0_h5 : k0_cond5 i = 1#1), ∀ (hinb : ∀ a, (k0_off148 i v10 k0_t10) a + S1x16x1024.size a ≤ S2x3072x1024.size a), (Rect.unit (s := S2x3072x1024) (k0_off148 i v10 k0_t10) S1x16x1024.size hinb).WholeWords (EltTy.packing .bf16)) ∧
  (∀ k0_t10 : Fin (k0_t10_loop v10).trips, ∀ (k0_h5 : k0_cond5 i = 1#1), 16 ∣ (k0_mult65 v10 k0_t10).toNat) ∧
  (∀ k0_t10 : Fin (k0_t10_loop v10).trips, ∀ (k0_h5 : k0_cond5 i = 1#1), ∀ a, (k0_off149 v10 k0_t10) a + S1x1x1.size a ≤ S1x1x128.size a) ∧
  (∀ k0_t10 : Fin (k0_t10_loop v10).trips, ∀ (k0_h5 : k0_cond5 i = 1#1), ∀ a, (k0_off152 i v10 k0_t10) a + S1x16x1024.size a ≤ S2x3072x1024.size a) ∧
  (∀ k0_t10 : Fin (k0_t10_loop v10).trips, ∀ (k0_h5 : k0_cond5 i = 1#1), ∀ (hinb : ∀ a, (k0_off152 i v10 k0_t10) a + S1x16x1024.size a ≤ S2x3072x1024.size a), (Rect.unit (s := S2x3072x1024) (k0_off152 i v10 k0_t10) S1x16x1024.size hinb).WholeWords (EltTy.packing .bf16)) ∧
  (∀ k0_t10 : Fin (k0_t10_loop v10).trips, ∀ (k0_h5 : k0_cond5 i = 1#1), 16 ∣ (k0_mult67 v10 k0_t10).toNat) ∧
  (∀ k0_t10 : Fin (k0_t10_loop v10).trips, ∀ (k0_h5 : k0_cond5 i = 1#1), ∀ a, (k0_off153 v10 k0_t10) a + S1x1x1.size a ≤ S1x1x128.size a)
def k0_chk21_2 (i : grid0.Coords) (v10 : BitVec 32) : Prop :=
  (∀ k0_t10 : Fin (k0_t10_loop v10).trips, ∀ (k0_h5 : k0_cond5 i = 1#1), ∀ a, (k0_off156 i v10 k0_t10) a + S1x16x1024.size a ≤ S2x3072x1024.size a) ∧
  (∀ k0_t10 : Fin (k0_t10_loop v10).trips, ∀ (k0_h5 : k0_cond5 i = 1#1), ∀ (hinb : ∀ a, (k0_off156 i v10 k0_t10) a + S1x16x1024.size a ≤ S2x3072x1024.size a), (Rect.unit (s := S2x3072x1024) (k0_off156 i v10 k0_t10) S1x16x1024.size hinb).WholeWords (EltTy.packing .bf16)) ∧
  (∀ (k0_h5 : k0_cond5 i = 1#1), (k0_t11_loop v10).OK) ∧
  (∀ k0_t11 : Fin (k0_t11_loop v10).trips, ∀ (k0_h5 : k0_cond5 i = 1#1), 16 ∣ (k0_mult69 v10 k0_t11).toNat) ∧
  (∀ k0_t11 : Fin (k0_t11_loop v10).trips, ∀ (k0_h5 : k0_cond5 i = 1#1), ∀ a, (k0_off157 v10 k0_t11) a + S1x1x1.size a ≤ S1x1x128.size a) ∧
  (∀ k0_t11 : Fin (k0_t11_loop v10).trips, ∀ (k0_h5 : k0_cond5 i = 1#1), ∀ a, (k0_off160 i v10 k0_t11) a + S1x16x1024.size a ≤ S2x3072x1024.size a) ∧
  (∀ k0_t11 : Fin (k0_t11_loop v10).trips, ∀ (k0_h5 : k0_cond5 i = 1#1), ∀ (hinb : ∀ a, (k0_off160 i v10 k0_t11) a + S1x16x1024.size a ≤ S2x3072x1024.size a), (Rect.unit (s := S2x3072x1024) (k0_off160 i v10 k0_t11) S1x16x1024.size hinb).WholeWords (EltTy.packing .bf16)) ∧
  (∀ (k0_h5 : k0_cond5 i = 1#1), (k0_t12_loop v10).OK) ∧
  (∀ k0_t12 : Fin (k0_t12_loop v10).trips, ∀ (k0_h5 : k0_cond5 i = 1#1), 16 ∣ (k0_mult71 v10 k0_t12).toNat) ∧
  (∀ k0_t12 : Fin (k0_t12_loop v10).trips, ∀ (k0_h5 : k0_cond5 i = 1#1), ∀ a, (k0_off161 v10 k0_t12) a + S1x1x1.size a ≤ S1x1x128.size a) ∧
  (∀ k0_t12 : Fin (k0_t12_loop v10).trips, ∀ (k0_h5 : k0_cond5 i = 1#1), ∀ a, (k0_off164 i v10 k0_t12) a + S1x16x1024.size a ≤ S2x3072x1024.size a) ∧
  (∀ k0_t12 : Fin (k0_t12_loop v10).trips, ∀ (k0_h5 : k0_cond5 i = 1#1), ∀ (hinb : ∀ a, (k0_off164 i v10 k0_t12) a + S1x16x1024.size a ≤ S2x3072x1024.size a), (Rect.unit (s := S2x3072x1024) (k0_off164 i v10 k0_t12) S1x16x1024.size hinb).WholeWords (EltTy.packing .bf16))
def k0_chk21 (i : grid0.Coords) (v10 : BitVec 32) : Prop :=
  k0_chk21_0 i v10 ∧
  k0_chk21_1 i v10 ∧
  k0_chk21_2 i v10
theorem k0_t9_ok : ∀ (i : grid0.Coords) (v10 : BitVec 32) (k0_hw21 : k0_chk21 i v10), ∀ (k0_h5 : k0_cond5 i = 1#1), (k0_t9_loop v10).OK := fun i v10 k0_hw21 k0_h5 => k0_hw21.1.1 k0_h5
theorem k0_mult37_dvd : ∀ (i : grid0.Coords) (v10 : BitVec 32) (k0_hw21 : k0_chk21 i v10) (k0_t9 : Fin (k0_t9_loop v10).trips), ∀ (k0_h5 : k0_cond5 i = 1#1), 16 ∣ (k0_mult37 v10 k0_t9).toNat := fun i v10 k0_hw21 k0_t9 k0_h5 => k0_hw21.1.2.1 k0_t9 k0_h5
theorem k0_off93_inb : ∀ (i : grid0.Coords) (v10 : BitVec 32) (k0_hw21 : k0_chk21 i v10) (k0_t9 : Fin (k0_t9_loop v10).trips), ∀ (k0_h5 : k0_cond5 i = 1#1), ∀ a, (k0_off93 v10 k0_t9) a + S1x1x1.size a ≤ S1x1x128.size a := fun i v10 k0_hw21 k0_t9 k0_h5 => k0_hw21.1.2.2.1 k0_t9 k0_h5
theorem k0_off96_inb : ∀ (i : grid0.Coords) (v10 : BitVec 32) (k0_hw21 : k0_chk21 i v10) (k0_t9 : Fin (k0_t9_loop v10).trips), ∀ (k0_h5 : k0_cond5 i = 1#1), ∀ a, (k0_off96 i v10 k0_t9) a + S1x16x1024.size a ≤ S2x3072x1024.size a := fun i v10 k0_hw21 k0_t9 k0_h5 => k0_hw21.1.2.2.2.1 k0_t9 k0_h5
theorem k0_off96_wordsbf16 : ∀ (i : grid0.Coords) (v10 : BitVec 32) (k0_hw21 : k0_chk21 i v10) (k0_t9 : Fin (k0_t9_loop v10).trips), ∀ (k0_h5 : k0_cond5 i = 1#1), (Rect.unit (s := S2x3072x1024) (k0_off96 i v10 k0_t9) S1x16x1024.size (k0_off96_inb i v10 k0_hw21 k0_t9 k0_h5)).WholeWords (EltTy.packing .bf16) := fun i v10 k0_hw21 k0_t9 k0_h5 => k0_hw21.1.2.2.2.2.1 k0_t9 k0_h5 (k0_off96_inb i v10 k0_hw21 k0_t9 k0_h5)
theorem k0_mult39_dvd : ∀ (i : grid0.Coords) (v10 : BitVec 32) (k0_hw21 : k0_chk21 i v10) (k0_t9 : Fin (k0_t9_loop v10).trips), ∀ (k0_h5 : k0_cond5 i = 1#1), 16 ∣ (k0_mult39 v10 k0_t9).toNat := fun i v10 k0_hw21 k0_t9 k0_h5 => k0_hw21.1.2.2.2.2.2.1 k0_t9 k0_h5
theorem k0_off97_inb : ∀ (i : grid0.Coords) (v10 : BitVec 32) (k0_hw21 : k0_chk21 i v10) (k0_t9 : Fin (k0_t9_loop v10).trips), ∀ (k0_h5 : k0_cond5 i = 1#1), ∀ a, (k0_off97 v10 k0_t9) a + S1x1x1.size a ≤ S1x1x128.size a := fun i v10 k0_hw21 k0_t9 k0_h5 => k0_hw21.1.2.2.2.2.2.2.1 k0_t9 k0_h5
theorem k0_off100_inb : ∀ (i : grid0.Coords) (v10 : BitVec 32) (k0_hw21 : k0_chk21 i v10) (k0_t9 : Fin (k0_t9_loop v10).trips), ∀ (k0_h5 : k0_cond5 i = 1#1), ∀ a, (k0_off100 i v10 k0_t9) a + S1x16x1024.size a ≤ S2x3072x1024.size a := fun i v10 k0_hw21 k0_t9 k0_h5 => k0_hw21.1.2.2.2.2.2.2.2.1 k0_t9 k0_h5
theorem k0_off100_wordsbf16 : ∀ (i : grid0.Coords) (v10 : BitVec 32) (k0_hw21 : k0_chk21 i v10) (k0_t9 : Fin (k0_t9_loop v10).trips), ∀ (k0_h5 : k0_cond5 i = 1#1), (Rect.unit (s := S2x3072x1024) (k0_off100 i v10 k0_t9) S1x16x1024.size (k0_off100_inb i v10 k0_hw21 k0_t9 k0_h5)).WholeWords (EltTy.packing .bf16) := fun i v10 k0_hw21 k0_t9 k0_h5 => k0_hw21.1.2.2.2.2.2.2.2.2.1 k0_t9 k0_h5 (k0_off100_inb i v10 k0_hw21 k0_t9 k0_h5)
theorem k0_mult41_dvd : ∀ (i : grid0.Coords) (v10 : BitVec 32) (k0_hw21 : k0_chk21 i v10) (k0_t9 : Fin (k0_t9_loop v10).trips), ∀ (k0_h5 : k0_cond5 i = 1#1), 16 ∣ (k0_mult41 v10 k0_t9).toNat := fun i v10 k0_hw21 k0_t9 k0_h5 => k0_hw21.1.2.2.2.2.2.2.2.2.2.1 k0_t9 k0_h5
theorem k0_off101_inb : ∀ (i : grid0.Coords) (v10 : BitVec 32) (k0_hw21 : k0_chk21 i v10) (k0_t9 : Fin (k0_t9_loop v10).trips), ∀ (k0_h5 : k0_cond5 i = 1#1), ∀ a, (k0_off101 v10 k0_t9) a + S1x1x1.size a ≤ S1x1x128.size a := fun i v10 k0_hw21 k0_t9 k0_h5 => k0_hw21.1.2.2.2.2.2.2.2.2.2.2.1 k0_t9 k0_h5
theorem k0_off104_inb : ∀ (i : grid0.Coords) (v10 : BitVec 32) (k0_hw21 : k0_chk21 i v10) (k0_t9 : Fin (k0_t9_loop v10).trips), ∀ (k0_h5 : k0_cond5 i = 1#1), ∀ a, (k0_off104 i v10 k0_t9) a + S1x16x1024.size a ≤ S2x3072x1024.size a := fun i v10 k0_hw21 k0_t9 k0_h5 => k0_hw21.1.2.2.2.2.2.2.2.2.2.2.2.1 k0_t9 k0_h5
theorem k0_off104_wordsbf16 : ∀ (i : grid0.Coords) (v10 : BitVec 32) (k0_hw21 : k0_chk21 i v10) (k0_t9 : Fin (k0_t9_loop v10).trips), ∀ (k0_h5 : k0_cond5 i = 1#1), (Rect.unit (s := S2x3072x1024) (k0_off104 i v10 k0_t9) S1x16x1024.size (k0_off104_inb i v10 k0_hw21 k0_t9 k0_h5)).WholeWords (EltTy.packing .bf16) := fun i v10 k0_hw21 k0_t9 k0_h5 => k0_hw21.1.2.2.2.2.2.2.2.2.2.2.2.2.1 k0_t9 k0_h5 (k0_off104_inb i v10 k0_hw21 k0_t9 k0_h5)
theorem k0_mult43_dvd : ∀ (i : grid0.Coords) (v10 : BitVec 32) (k0_hw21 : k0_chk21 i v10) (k0_t9 : Fin (k0_t9_loop v10).trips), ∀ (k0_h5 : k0_cond5 i = 1#1), 16 ∣ (k0_mult43 v10 k0_t9).toNat := fun i v10 k0_hw21 k0_t9 k0_h5 => k0_hw21.1.2.2.2.2.2.2.2.2.2.2.2.2.2.1 k0_t9 k0_h5
theorem k0_off105_inb : ∀ (i : grid0.Coords) (v10 : BitVec 32) (k0_hw21 : k0_chk21 i v10) (k0_t9 : Fin (k0_t9_loop v10).trips), ∀ (k0_h5 : k0_cond5 i = 1#1), ∀ a, (k0_off105 v10 k0_t9) a + S1x1x1.size a ≤ S1x1x128.size a := fun i v10 k0_hw21 k0_t9 k0_h5 => k0_hw21.1.2.2.2.2.2.2.2.2.2.2.2.2.2.2.1 k0_t9 k0_h5
theorem k0_off108_inb : ∀ (i : grid0.Coords) (v10 : BitVec 32) (k0_hw21 : k0_chk21 i v10) (k0_t9 : Fin (k0_t9_loop v10).trips), ∀ (k0_h5 : k0_cond5 i = 1#1), ∀ a, (k0_off108 i v10 k0_t9) a + S1x16x1024.size a ≤ S2x3072x1024.size a := fun i v10 k0_hw21 k0_t9 k0_h5 => k0_hw21.1.2.2.2.2.2.2.2.2.2.2.2.2.2.2.2.1 k0_t9 k0_h5
theorem k0_off108_wordsbf16 : ∀ (i : grid0.Coords) (v10 : BitVec 32) (k0_hw21 : k0_chk21 i v10) (k0_t9 : Fin (k0_t9_loop v10).trips), ∀ (k0_h5 : k0_cond5 i = 1#1), (Rect.unit (s := S2x3072x1024) (k0_off108 i v10 k0_t9) S1x16x1024.size (k0_off108_inb i v10 k0_hw21 k0_t9 k0_h5)).WholeWords (EltTy.packing .bf16) := fun i v10 k0_hw21 k0_t9 k0_h5 => k0_hw21.1.2.2.2.2.2.2.2.2.2.2.2.2.2.2.2.2.1 k0_t9 k0_h5 (k0_off108_inb i v10 k0_hw21 k0_t9 k0_h5)
theorem k0_mult45_dvd : ∀ (i : grid0.Coords) (v10 : BitVec 32) (k0_hw21 : k0_chk21 i v10) (k0_t9 : Fin (k0_t9_loop v10).trips), ∀ (k0_h5 : k0_cond5 i = 1#1), 16 ∣ (k0_mult45 v10 k0_t9).toNat := fun i v10 k0_hw21 k0_t9 k0_h5 => k0_hw21.1.2.2.2.2.2.2.2.2.2.2.2.2.2.2.2.2.2.1 k0_t9 k0_h5
theorem k0_off109_inb : ∀ (i : grid0.Coords) (v10 : BitVec 32) (k0_hw21 : k0_chk21 i v10) (k0_t9 : Fin (k0_t9_loop v10).trips), ∀ (k0_h5 : k0_cond5 i = 1#1), ∀ a, (k0_off109 v10 k0_t9) a + S1x1x1.size a ≤ S1x1x128.size a := fun i v10 k0_hw21 k0_t9 k0_h5 => k0_hw21.1.2.2.2.2.2.2.2.2.2.2.2.2.2.2.2.2.2.2.1 k0_t9 k0_h5
theorem k0_off112_inb : ∀ (i : grid0.Coords) (v10 : BitVec 32) (k0_hw21 : k0_chk21 i v10) (k0_t9 : Fin (k0_t9_loop v10).trips), ∀ (k0_h5 : k0_cond5 i = 1#1), ∀ a, (k0_off112 i v10 k0_t9) a + S1x16x1024.size a ≤ S2x3072x1024.size a := fun i v10 k0_hw21 k0_t9 k0_h5 => k0_hw21.1.2.2.2.2.2.2.2.2.2.2.2.2.2.2.2.2.2.2.2.1 k0_t9 k0_h5
theorem k0_off112_wordsbf16 : ∀ (i : grid0.Coords) (v10 : BitVec 32) (k0_hw21 : k0_chk21 i v10) (k0_t9 : Fin (k0_t9_loop v10).trips), ∀ (k0_h5 : k0_cond5 i = 1#1), (Rect.unit (s := S2x3072x1024) (k0_off112 i v10 k0_t9) S1x16x1024.size (k0_off112_inb i v10 k0_hw21 k0_t9 k0_h5)).WholeWords (EltTy.packing .bf16) := fun i v10 k0_hw21 k0_t9 k0_h5 => k0_hw21.1.2.2.2.2.2.2.2.2.2.2.2.2.2.2.2.2.2.2.2.2.1 k0_t9 k0_h5 (k0_off112_inb i v10 k0_hw21 k0_t9 k0_h5)
theorem k0_mult47_dvd : ∀ (i : grid0.Coords) (v10 : BitVec 32) (k0_hw21 : k0_chk21 i v10) (k0_t9 : Fin (k0_t9_loop v10).trips), ∀ (k0_h5 : k0_cond5 i = 1#1), 16 ∣ (k0_mult47 v10 k0_t9).toNat := fun i v10 k0_hw21 k0_t9 k0_h5 => k0_hw21.1.2.2.2.2.2.2.2.2.2.2.2.2.2.2.2.2.2.2.2.2.2.1 k0_t9 k0_h5
theorem k0_off113_inb : ∀ (i : grid0.Coords) (v10 : BitVec 32) (k0_hw21 : k0_chk21 i v10) (k0_t9 : Fin (k0_t9_loop v10).trips), ∀ (k0_h5 : k0_cond5 i = 1#1), ∀ a, (k0_off113 v10 k0_t9) a + S1x1x1.size a ≤ S1x1x128.size a := fun i v10 k0_hw21 k0_t9 k0_h5 => k0_hw21.1.2.2.2.2.2.2.2.2.2.2.2.2.2.2.2.2.2.2.2.2.2.2.1 k0_t9 k0_h5
theorem k0_off116_inb : ∀ (i : grid0.Coords) (v10 : BitVec 32) (k0_hw21 : k0_chk21 i v10) (k0_t9 : Fin (k0_t9_loop v10).trips), ∀ (k0_h5 : k0_cond5 i = 1#1), ∀ a, (k0_off116 i v10 k0_t9) a + S1x16x1024.size a ≤ S2x3072x1024.size a := fun i v10 k0_hw21 k0_t9 k0_h5 => k0_hw21.1.2.2.2.2.2.2.2.2.2.2.2.2.2.2.2.2.2.2.2.2.2.2.2.1 k0_t9 k0_h5
theorem k0_off116_wordsbf16 : ∀ (i : grid0.Coords) (v10 : BitVec 32) (k0_hw21 : k0_chk21 i v10) (k0_t9 : Fin (k0_t9_loop v10).trips), ∀ (k0_h5 : k0_cond5 i = 1#1), (Rect.unit (s := S2x3072x1024) (k0_off116 i v10 k0_t9) S1x16x1024.size (k0_off116_inb i v10 k0_hw21 k0_t9 k0_h5)).WholeWords (EltTy.packing .bf16) := fun i v10 k0_hw21 k0_t9 k0_h5 => k0_hw21.1.2.2.2.2.2.2.2.2.2.2.2.2.2.2.2.2.2.2.2.2.2.2.2.2.1 k0_t9 k0_h5 (k0_off116_inb i v10 k0_hw21 k0_t9 k0_h5)
theorem k0_mult49_dvd : ∀ (i : grid0.Coords) (v10 : BitVec 32) (k0_hw21 : k0_chk21 i v10) (k0_t9 : Fin (k0_t9_loop v10).trips), ∀ (k0_h5 : k0_cond5 i = 1#1), 16 ∣ (k0_mult49 v10 k0_t9).toNat := fun i v10 k0_hw21 k0_t9 k0_h5 => k0_hw21.1.2.2.2.2.2.2.2.2.2.2.2.2.2.2.2.2.2.2.2.2.2.2.2.2.2.1 k0_t9 k0_h5
theorem k0_off117_inb : ∀ (i : grid0.Coords) (v10 : BitVec 32) (k0_hw21 : k0_chk21 i v10) (k0_t9 : Fin (k0_t9_loop v10).trips), ∀ (k0_h5 : k0_cond5 i = 1#1), ∀ a, (k0_off117 v10 k0_t9) a + S1x1x1.size a ≤ S1x1x128.size a := fun i v10 k0_hw21 k0_t9 k0_h5 => k0_hw21.1.2.2.2.2.2.2.2.2.2.2.2.2.2.2.2.2.2.2.2.2.2.2.2.2.2.2.1 k0_t9 k0_h5
theorem k0_off120_inb : ∀ (i : grid0.Coords) (v10 : BitVec 32) (k0_hw21 : k0_chk21 i v10) (k0_t9 : Fin (k0_t9_loop v10).trips), ∀ (k0_h5 : k0_cond5 i = 1#1), ∀ a, (k0_off120 i v10 k0_t9) a + S1x16x1024.size a ≤ S2x3072x1024.size a := fun i v10 k0_hw21 k0_t9 k0_h5 => k0_hw21.1.2.2.2.2.2.2.2.2.2.2.2.2.2.2.2.2.2.2.2.2.2.2.2.2.2.2.2.1 k0_t9 k0_h5
theorem k0_off120_wordsbf16 : ∀ (i : grid0.Coords) (v10 : BitVec 32) (k0_hw21 : k0_chk21 i v10) (k0_t9 : Fin (k0_t9_loop v10).trips), ∀ (k0_h5 : k0_cond5 i = 1#1), (Rect.unit (s := S2x3072x1024) (k0_off120 i v10 k0_t9) S1x16x1024.size (k0_off120_inb i v10 k0_hw21 k0_t9 k0_h5)).WholeWords (EltTy.packing .bf16) := fun i v10 k0_hw21 k0_t9 k0_h5 => k0_hw21.1.2.2.2.2.2.2.2.2.2.2.2.2.2.2.2.2.2.2.2.2.2.2.2.2.2.2.2.2.1 k0_t9 k0_h5 (k0_off120_inb i v10 k0_hw21 k0_t9 k0_h5)
theorem k0_mult51_dvd : ∀ (i : grid0.Coords) (v10 : BitVec 32) (k0_hw21 : k0_chk21 i v10) (k0_t9 : Fin (k0_t9_loop v10).trips), ∀ (k0_h5 : k0_cond5 i = 1#1), 16 ∣ (k0_mult51 v10 k0_t9).toNat := fun i v10 k0_hw21 k0_t9 k0_h5 => k0_hw21.1.2.2.2.2.2.2.2.2.2.2.2.2.2.2.2.2.2.2.2.2.2.2.2.2.2.2.2.2.2.1 k0_t9 k0_h5
theorem k0_off121_inb : ∀ (i : grid0.Coords) (v10 : BitVec 32) (k0_hw21 : k0_chk21 i v10) (k0_t9 : Fin (k0_t9_loop v10).trips), ∀ (k0_h5 : k0_cond5 i = 1#1), ∀ a, (k0_off121 v10 k0_t9) a + S1x1x1.size a ≤ S1x1x128.size a := fun i v10 k0_hw21 k0_t9 k0_h5 => k0_hw21.1.2.2.2.2.2.2.2.2.2.2.2.2.2.2.2.2.2.2.2.2.2.2.2.2.2.2.2.2.2.2.1 k0_t9 k0_h5
theorem k0_off124_inb : ∀ (i : grid0.Coords) (v10 : BitVec 32) (k0_hw21 : k0_chk21 i v10) (k0_t9 : Fin (k0_t9_loop v10).trips), ∀ (k0_h5 : k0_cond5 i = 1#1), ∀ a, (k0_off124 i v10 k0_t9) a + S1x16x1024.size a ≤ S2x3072x1024.size a := fun i v10 k0_hw21 k0_t9 k0_h5 => k0_hw21.1.2.2.2.2.2.2.2.2.2.2.2.2.2.2.2.2.2.2.2.2.2.2.2.2.2.2.2.2.2.2.2 k0_t9 k0_h5
theorem k0_off124_wordsbf16 : ∀ (i : grid0.Coords) (v10 : BitVec 32) (k0_hw21 : k0_chk21 i v10) (k0_t9 : Fin (k0_t9_loop v10).trips), ∀ (k0_h5 : k0_cond5 i = 1#1), (Rect.unit (s := S2x3072x1024) (k0_off124 i v10 k0_t9) S1x16x1024.size (k0_off124_inb i v10 k0_hw21 k0_t9 k0_h5)).WholeWords (EltTy.packing .bf16) := fun i v10 k0_hw21 k0_t9 k0_h5 => k0_hw21.2.1.1 k0_t9 k0_h5 (k0_off124_inb i v10 k0_hw21 k0_t9 k0_h5)
theorem k0_t10_ok : ∀ (i : grid0.Coords) (v10 : BitVec 32) (k0_hw21 : k0_chk21 i v10), ∀ (k0_h5 : k0_cond5 i = 1#1), (k0_t10_loop v10).OK := fun i v10 k0_hw21 k0_h5 => k0_hw21.2.1.2.1 k0_h5
theorem k0_mult53_dvd : ∀ (i : grid0.Coords) (v10 : BitVec 32) (k0_hw21 : k0_chk21 i v10) (k0_t10 : Fin (k0_t10_loop v10).trips), ∀ (k0_h5 : k0_cond5 i = 1#1), 16 ∣ (k0_mult53 v10 k0_t10).toNat := fun i v10 k0_hw21 k0_t10 k0_h5 => k0_hw21.2.1.2.2.1 k0_t10 k0_h5
theorem k0_off125_inb : ∀ (i : grid0.Coords) (v10 : BitVec 32) (k0_hw21 : k0_chk21 i v10) (k0_t10 : Fin (k0_t10_loop v10).trips), ∀ (k0_h5 : k0_cond5 i = 1#1), ∀ a, (k0_off125 v10 k0_t10) a + S1x1x1.size a ≤ S1x1x128.size a := fun i v10 k0_hw21 k0_t10 k0_h5 => k0_hw21.2.1.2.2.2.1 k0_t10 k0_h5
theorem k0_off128_inb : ∀ (i : grid0.Coords) (v10 : BitVec 32) (k0_hw21 : k0_chk21 i v10) (k0_t10 : Fin (k0_t10_loop v10).trips), ∀ (k0_h5 : k0_cond5 i = 1#1), ∀ a, (k0_off128 i v10 k0_t10) a + S1x16x1024.size a ≤ S2x3072x1024.size a := fun i v10 k0_hw21 k0_t10 k0_h5 => k0_hw21.2.1.2.2.2.2.1 k0_t10 k0_h5
theorem k0_off128_wordsbf16 : ∀ (i : grid0.Coords) (v10 : BitVec 32) (k0_hw21 : k0_chk21 i v10) (k0_t10 : Fin (k0_t10_loop v10).trips), ∀ (k0_h5 : k0_cond5 i = 1#1), (Rect.unit (s := S2x3072x1024) (k0_off128 i v10 k0_t10) S1x16x1024.size (k0_off128_inb i v10 k0_hw21 k0_t10 k0_h5)).WholeWords (EltTy.packing .bf16) := fun i v10 k0_hw21 k0_t10 k0_h5 => k0_hw21.2.1.2.2.2.2.2.1 k0_t10 k0_h5 (k0_off128_inb i v10 k0_hw21 k0_t10 k0_h5)
theorem k0_mult55_dvd : ∀ (i : grid0.Coords) (v10 : BitVec 32) (k0_hw21 : k0_chk21 i v10) (k0_t10 : Fin (k0_t10_loop v10).trips), ∀ (k0_h5 : k0_cond5 i = 1#1), 16 ∣ (k0_mult55 v10 k0_t10).toNat := fun i v10 k0_hw21 k0_t10 k0_h5 => k0_hw21.2.1.2.2.2.2.2.2.1 k0_t10 k0_h5
theorem k0_off129_inb : ∀ (i : grid0.Coords) (v10 : BitVec 32) (k0_hw21 : k0_chk21 i v10) (k0_t10 : Fin (k0_t10_loop v10).trips), ∀ (k0_h5 : k0_cond5 i = 1#1), ∀ a, (k0_off129 v10 k0_t10) a + S1x1x1.size a ≤ S1x1x128.size a := fun i v10 k0_hw21 k0_t10 k0_h5 => k0_hw21.2.1.2.2.2.2.2.2.2.1 k0_t10 k0_h5
theorem k0_off132_inb : ∀ (i : grid0.Coords) (v10 : BitVec 32) (k0_hw21 : k0_chk21 i v10) (k0_t10 : Fin (k0_t10_loop v10).trips), ∀ (k0_h5 : k0_cond5 i = 1#1), ∀ a, (k0_off132 i v10 k0_t10) a + S1x16x1024.size a ≤ S2x3072x1024.size a := fun i v10 k0_hw21 k0_t10 k0_h5 => k0_hw21.2.1.2.2.2.2.2.2.2.2.1 k0_t10 k0_h5
theorem k0_off132_wordsbf16 : ∀ (i : grid0.Coords) (v10 : BitVec 32) (k0_hw21 : k0_chk21 i v10) (k0_t10 : Fin (k0_t10_loop v10).trips), ∀ (k0_h5 : k0_cond5 i = 1#1), (Rect.unit (s := S2x3072x1024) (k0_off132 i v10 k0_t10) S1x16x1024.size (k0_off132_inb i v10 k0_hw21 k0_t10 k0_h5)).WholeWords (EltTy.packing .bf16) := fun i v10 k0_hw21 k0_t10 k0_h5 => k0_hw21.2.1.2.2.2.2.2.2.2.2.2.1 k0_t10 k0_h5 (k0_off132_inb i v10 k0_hw21 k0_t10 k0_h5)
theorem k0_mult57_dvd : ∀ (i : grid0.Coords) (v10 : BitVec 32) (k0_hw21 : k0_chk21 i v10) (k0_t10 : Fin (k0_t10_loop v10).trips), ∀ (k0_h5 : k0_cond5 i = 1#1), 16 ∣ (k0_mult57 v10 k0_t10).toNat := fun i v10 k0_hw21 k0_t10 k0_h5 => k0_hw21.2.1.2.2.2.2.2.2.2.2.2.2.1 k0_t10 k0_h5
theorem k0_off133_inb : ∀ (i : grid0.Coords) (v10 : BitVec 32) (k0_hw21 : k0_chk21 i v10) (k0_t10 : Fin (k0_t10_loop v10).trips), ∀ (k0_h5 : k0_cond5 i = 1#1), ∀ a, (k0_off133 v10 k0_t10) a + S1x1x1.size a ≤ S1x1x128.size a := fun i v10 k0_hw21 k0_t10 k0_h5 => k0_hw21.2.1.2.2.2.2.2.2.2.2.2.2.2.1 k0_t10 k0_h5
theorem k0_off136_inb : ∀ (i : grid0.Coords) (v10 : BitVec 32) (k0_hw21 : k0_chk21 i v10) (k0_t10 : Fin (k0_t10_loop v10).trips), ∀ (k0_h5 : k0_cond5 i = 1#1), ∀ a, (k0_off136 i v10 k0_t10) a + S1x16x1024.size a ≤ S2x3072x1024.size a := fun i v10 k0_hw21 k0_t10 k0_h5 => k0_hw21.2.1.2.2.2.2.2.2.2.2.2.2.2.2.1 k0_t10 k0_h5
theorem k0_off136_wordsbf16 : ∀ (i : grid0.Coords) (v10 : BitVec 32) (k0_hw21 : k0_chk21 i v10) (k0_t10 : Fin (k0_t10_loop v10).trips), ∀ (k0_h5 : k0_cond5 i = 1#1), (Rect.unit (s := S2x3072x1024) (k0_off136 i v10 k0_t10) S1x16x1024.size (k0_off136_inb i v10 k0_hw21 k0_t10 k0_h5)).WholeWords (EltTy.packing .bf16) := fun i v10 k0_hw21 k0_t10 k0_h5 => k0_hw21.2.1.2.2.2.2.2.2.2.2.2.2.2.2.2.1 k0_t10 k0_h5 (k0_off136_inb i v10 k0_hw21 k0_t10 k0_h5)
theorem k0_mult59_dvd : ∀ (i : grid0.Coords) (v10 : BitVec 32) (k0_hw21 : k0_chk21 i v10) (k0_t10 : Fin (k0_t10_loop v10).trips), ∀ (k0_h5 : k0_cond5 i = 1#1), 16 ∣ (k0_mult59 v10 k0_t10).toNat := fun i v10 k0_hw21 k0_t10 k0_h5 => k0_hw21.2.1.2.2.2.2.2.2.2.2.2.2.2.2.2.2.1 k0_t10 k0_h5
theorem k0_off137_inb : ∀ (i : grid0.Coords) (v10 : BitVec 32) (k0_hw21 : k0_chk21 i v10) (k0_t10 : Fin (k0_t10_loop v10).trips), ∀ (k0_h5 : k0_cond5 i = 1#1), ∀ a, (k0_off137 v10 k0_t10) a + S1x1x1.size a ≤ S1x1x128.size a := fun i v10 k0_hw21 k0_t10 k0_h5 => k0_hw21.2.1.2.2.2.2.2.2.2.2.2.2.2.2.2.2.2.1 k0_t10 k0_h5
theorem k0_off140_inb : ∀ (i : grid0.Coords) (v10 : BitVec 32) (k0_hw21 : k0_chk21 i v10) (k0_t10 : Fin (k0_t10_loop v10).trips), ∀ (k0_h5 : k0_cond5 i = 1#1), ∀ a, (k0_off140 i v10 k0_t10) a + S1x16x1024.size a ≤ S2x3072x1024.size a := fun i v10 k0_hw21 k0_t10 k0_h5 => k0_hw21.2.1.2.2.2.2.2.2.2.2.2.2.2.2.2.2.2.2.1 k0_t10 k0_h5
theorem k0_off140_wordsbf16 : ∀ (i : grid0.Coords) (v10 : BitVec 32) (k0_hw21 : k0_chk21 i v10) (k0_t10 : Fin (k0_t10_loop v10).trips), ∀ (k0_h5 : k0_cond5 i = 1#1), (Rect.unit (s := S2x3072x1024) (k0_off140 i v10 k0_t10) S1x16x1024.size (k0_off140_inb i v10 k0_hw21 k0_t10 k0_h5)).WholeWords (EltTy.packing .bf16) := fun i v10 k0_hw21 k0_t10 k0_h5 => k0_hw21.2.1.2.2.2.2.2.2.2.2.2.2.2.2.2.2.2.2.2.1 k0_t10 k0_h5 (k0_off140_inb i v10 k0_hw21 k0_t10 k0_h5)
theorem k0_mult61_dvd : ∀ (i : grid0.Coords) (v10 : BitVec 32) (k0_hw21 : k0_chk21 i v10) (k0_t10 : Fin (k0_t10_loop v10).trips), ∀ (k0_h5 : k0_cond5 i = 1#1), 16 ∣ (k0_mult61 v10 k0_t10).toNat := fun i v10 k0_hw21 k0_t10 k0_h5 => k0_hw21.2.1.2.2.2.2.2.2.2.2.2.2.2.2.2.2.2.2.2.2.1 k0_t10 k0_h5
theorem k0_off141_inb : ∀ (i : grid0.Coords) (v10 : BitVec 32) (k0_hw21 : k0_chk21 i v10) (k0_t10 : Fin (k0_t10_loop v10).trips), ∀ (k0_h5 : k0_cond5 i = 1#1), ∀ a, (k0_off141 v10 k0_t10) a + S1x1x1.size a ≤ S1x1x128.size a := fun i v10 k0_hw21 k0_t10 k0_h5 => k0_hw21.2.1.2.2.2.2.2.2.2.2.2.2.2.2.2.2.2.2.2.2.2.1 k0_t10 k0_h5
theorem k0_off144_inb : ∀ (i : grid0.Coords) (v10 : BitVec 32) (k0_hw21 : k0_chk21 i v10) (k0_t10 : Fin (k0_t10_loop v10).trips), ∀ (k0_h5 : k0_cond5 i = 1#1), ∀ a, (k0_off144 i v10 k0_t10) a + S1x16x1024.size a ≤ S2x3072x1024.size a := fun i v10 k0_hw21 k0_t10 k0_h5 => k0_hw21.2.1.2.2.2.2.2.2.2.2.2.2.2.2.2.2.2.2.2.2.2.2.1 k0_t10 k0_h5
theorem k0_off144_wordsbf16 : ∀ (i : grid0.Coords) (v10 : BitVec 32) (k0_hw21 : k0_chk21 i v10) (k0_t10 : Fin (k0_t10_loop v10).trips), ∀ (k0_h5 : k0_cond5 i = 1#1), (Rect.unit (s := S2x3072x1024) (k0_off144 i v10 k0_t10) S1x16x1024.size (k0_off144_inb i v10 k0_hw21 k0_t10 k0_h5)).WholeWords (EltTy.packing .bf16) := fun i v10 k0_hw21 k0_t10 k0_h5 => k0_hw21.2.1.2.2.2.2.2.2.2.2.2.2.2.2.2.2.2.2.2.2.2.2.2.1 k0_t10 k0_h5 (k0_off144_inb i v10 k0_hw21 k0_t10 k0_h5)
theorem k0_mult63_dvd : ∀ (i : grid0.Coords) (v10 : BitVec 32) (k0_hw21 : k0_chk21 i v10) (k0_t10 : Fin (k0_t10_loop v10).trips), ∀ (k0_h5 : k0_cond5 i = 1#1), 16 ∣ (k0_mult63 v10 k0_t10).toNat := fun i v10 k0_hw21 k0_t10 k0_h5 => k0_hw21.2.1.2.2.2.2.2.2.2.2.2.2.2.2.2.2.2.2.2.2.2.2.2.2.1 k0_t10 k0_h5
theorem k0_off145_inb : ∀ (i : grid0.Coords) (v10 : BitVec 32) (k0_hw21 : k0_chk21 i v10) (k0_t10 : Fin (k0_t10_loop v10).trips), ∀ (k0_h5 : k0_cond5 i = 1#1), ∀ a, (k0_off145 v10 k0_t10) a + S1x1x1.size a ≤ S1x1x128.size a := fun i v10 k0_hw21 k0_t10 k0_h5 => k0_hw21.2.1.2.2.2.2.2.2.2.2.2.2.2.2.2.2.2.2.2.2.2.2.2.2.2.1 k0_t10 k0_h5
theorem k0_off148_inb : ∀ (i : grid0.Coords) (v10 : BitVec 32) (k0_hw21 : k0_chk21 i v10) (k0_t10 : Fin (k0_t10_loop v10).trips), ∀ (k0_h5 : k0_cond5 i = 1#1), ∀ a, (k0_off148 i v10 k0_t10) a + S1x16x1024.size a ≤ S2x3072x1024.size a := fun i v10 k0_hw21 k0_t10 k0_h5 => k0_hw21.2.1.2.2.2.2.2.2.2.2.2.2.2.2.2.2.2.2.2.2.2.2.2.2.2.2.1 k0_t10 k0_h5
theorem k0_off148_wordsbf16 : ∀ (i : grid0.Coords) (v10 : BitVec 32) (k0_hw21 : k0_chk21 i v10) (k0_t10 : Fin (k0_t10_loop v10).trips), ∀ (k0_h5 : k0_cond5 i = 1#1), (Rect.unit (s := S2x3072x1024) (k0_off148 i v10 k0_t10) S1x16x1024.size (k0_off148_inb i v10 k0_hw21 k0_t10 k0_h5)).WholeWords (EltTy.packing .bf16) := fun i v10 k0_hw21 k0_t10 k0_h5 => k0_hw21.2.1.2.2.2.2.2.2.2.2.2.2.2.2.2.2.2.2.2.2.2.2.2.2.2.2.2.1 k0_t10 k0_h5 (k0_off148_inb i v10 k0_hw21 k0_t10 k0_h5)
theorem k0_mult65_dvd : ∀ (i : grid0.Coords) (v10 : BitVec 32) (k0_hw21 : k0_chk21 i v10) (k0_t10 : Fin (k0_t10_loop v10).trips), ∀ (k0_h5 : k0_cond5 i = 1#1), 16 ∣ (k0_mult65 v10 k0_t10).toNat := fun i v10 k0_hw21 k0_t10 k0_h5 => k0_hw21.2.1.2.2.2.2.2.2.2.2.2.2.2.2.2.2.2.2.2.2.2.2.2.2.2.2.2.2.1 k0_t10 k0_h5
theorem k0_off149_inb : ∀ (i : grid0.Coords) (v10 : BitVec 32) (k0_hw21 : k0_chk21 i v10) (k0_t10 : Fin (k0_t10_loop v10).trips), ∀ (k0_h5 : k0_cond5 i = 1#1), ∀ a, (k0_off149 v10 k0_t10) a + S1x1x1.size a ≤ S1x1x128.size a := fun i v10 k0_hw21 k0_t10 k0_h5 => k0_hw21.2.1.2.2.2.2.2.2.2.2.2.2.2.2.2.2.2.2.2.2.2.2.2.2.2.2.2.2.2.1 k0_t10 k0_h5
theorem k0_off152_inb : ∀ (i : grid0.Coords) (v10 : BitVec 32) (k0_hw21 : k0_chk21 i v10) (k0_t10 : Fin (k0_t10_loop v10).trips), ∀ (k0_h5 : k0_cond5 i = 1#1), ∀ a, (k0_off152 i v10 k0_t10) a + S1x16x1024.size a ≤ S2x3072x1024.size a := fun i v10 k0_hw21 k0_t10 k0_h5 => k0_hw21.2.1.2.2.2.2.2.2.2.2.2.2.2.2.2.2.2.2.2.2.2.2.2.2.2.2.2.2.2.2.1 k0_t10 k0_h5
theorem k0_off152_wordsbf16 : ∀ (i : grid0.Coords) (v10 : BitVec 32) (k0_hw21 : k0_chk21 i v10) (k0_t10 : Fin (k0_t10_loop v10).trips), ∀ (k0_h5 : k0_cond5 i = 1#1), (Rect.unit (s := S2x3072x1024) (k0_off152 i v10 k0_t10) S1x16x1024.size (k0_off152_inb i v10 k0_hw21 k0_t10 k0_h5)).WholeWords (EltTy.packing .bf16) := fun i v10 k0_hw21 k0_t10 k0_h5 => k0_hw21.2.1.2.2.2.2.2.2.2.2.2.2.2.2.2.2.2.2.2.2.2.2.2.2.2.2.2.2.2.2.2.1 k0_t10 k0_h5 (k0_off152_inb i v10 k0_hw21 k0_t10 k0_h5)
theorem k0_mult67_dvd : ∀ (i : grid0.Coords) (v10 : BitVec 32) (k0_hw21 : k0_chk21 i v10) (k0_t10 : Fin (k0_t10_loop v10).trips), ∀ (k0_h5 : k0_cond5 i = 1#1), 16 ∣ (k0_mult67 v10 k0_t10).toNat := fun i v10 k0_hw21 k0_t10 k0_h5 => k0_hw21.2.1.2.2.2.2.2.2.2.2.2.2.2.2.2.2.2.2.2.2.2.2.2.2.2.2.2.2.2.2.2.2.1 k0_t10 k0_h5
theorem k0_off153_inb : ∀ (i : grid0.Coords) (v10 : BitVec 32) (k0_hw21 : k0_chk21 i v10) (k0_t10 : Fin (k0_t10_loop v10).trips), ∀ (k0_h5 : k0_cond5 i = 1#1), ∀ a, (k0_off153 v10 k0_t10) a + S1x1x1.size a ≤ S1x1x128.size a := fun i v10 k0_hw21 k0_t10 k0_h5 => k0_hw21.2.1.2.2.2.2.2.2.2.2.2.2.2.2.2.2.2.2.2.2.2.2.2.2.2.2.2.2.2.2.2.2.2 k0_t10 k0_h5
theorem k0_off156_inb : ∀ (i : grid0.Coords) (v10 : BitVec 32) (k0_hw21 : k0_chk21 i v10) (k0_t10 : Fin (k0_t10_loop v10).trips), ∀ (k0_h5 : k0_cond5 i = 1#1), ∀ a, (k0_off156 i v10 k0_t10) a + S1x16x1024.size a ≤ S2x3072x1024.size a := fun i v10 k0_hw21 k0_t10 k0_h5 => k0_hw21.2.2.1 k0_t10 k0_h5
theorem k0_off156_wordsbf16 : ∀ (i : grid0.Coords) (v10 : BitVec 32) (k0_hw21 : k0_chk21 i v10) (k0_t10 : Fin (k0_t10_loop v10).trips), ∀ (k0_h5 : k0_cond5 i = 1#1), (Rect.unit (s := S2x3072x1024) (k0_off156 i v10 k0_t10) S1x16x1024.size (k0_off156_inb i v10 k0_hw21 k0_t10 k0_h5)).WholeWords (EltTy.packing .bf16) := fun i v10 k0_hw21 k0_t10 k0_h5 => k0_hw21.2.2.2.1 k0_t10 k0_h5 (k0_off156_inb i v10 k0_hw21 k0_t10 k0_h5)
theorem k0_t11_ok : ∀ (i : grid0.Coords) (v10 : BitVec 32) (k0_hw21 : k0_chk21 i v10), ∀ (k0_h5 : k0_cond5 i = 1#1), (k0_t11_loop v10).OK := fun i v10 k0_hw21 k0_h5 => k0_hw21.2.2.2.2.1 k0_h5
theorem k0_mult69_dvd : ∀ (i : grid0.Coords) (v10 : BitVec 32) (k0_hw21 : k0_chk21 i v10) (k0_t11 : Fin (k0_t11_loop v10).trips), ∀ (k0_h5 : k0_cond5 i = 1#1), 16 ∣ (k0_mult69 v10 k0_t11).toNat := fun i v10 k0_hw21 k0_t11 k0_h5 => k0_hw21.2.2.2.2.2.1 k0_t11 k0_h5
theorem k0_off157_inb : ∀ (i : grid0.Coords) (v10 : BitVec 32) (k0_hw21 : k0_chk21 i v10) (k0_t11 : Fin (k0_t11_loop v10).trips), ∀ (k0_h5 : k0_cond5 i = 1#1), ∀ a, (k0_off157 v10 k0_t11) a + S1x1x1.size a ≤ S1x1x128.size a := fun i v10 k0_hw21 k0_t11 k0_h5 => k0_hw21.2.2.2.2.2.2.1 k0_t11 k0_h5
theorem k0_off160_inb : ∀ (i : grid0.Coords) (v10 : BitVec 32) (k0_hw21 : k0_chk21 i v10) (k0_t11 : Fin (k0_t11_loop v10).trips), ∀ (k0_h5 : k0_cond5 i = 1#1), ∀ a, (k0_off160 i v10 k0_t11) a + S1x16x1024.size a ≤ S2x3072x1024.size a := fun i v10 k0_hw21 k0_t11 k0_h5 => k0_hw21.2.2.2.2.2.2.2.1 k0_t11 k0_h5
theorem k0_off160_wordsbf16 : ∀ (i : grid0.Coords) (v10 : BitVec 32) (k0_hw21 : k0_chk21 i v10) (k0_t11 : Fin (k0_t11_loop v10).trips), ∀ (k0_h5 : k0_cond5 i = 1#1), (Rect.unit (s := S2x3072x1024) (k0_off160 i v10 k0_t11) S1x16x1024.size (k0_off160_inb i v10 k0_hw21 k0_t11 k0_h5)).WholeWords (EltTy.packing .bf16) := fun i v10 k0_hw21 k0_t11 k0_h5 => k0_hw21.2.2.2.2.2.2.2.2.1 k0_t11 k0_h5 (k0_off160_inb i v10 k0_hw21 k0_t11 k0_h5)
theorem k0_t12_ok : ∀ (i : grid0.Coords) (v10 : BitVec 32) (k0_hw21 : k0_chk21 i v10), ∀ (k0_h5 : k0_cond5 i = 1#1), (k0_t12_loop v10).OK := fun i v10 k0_hw21 k0_h5 => k0_hw21.2.2.2.2.2.2.2.2.2.1 k0_h5
theorem k0_mult71_dvd : ∀ (i : grid0.Coords) (v10 : BitVec 32) (k0_hw21 : k0_chk21 i v10) (k0_t12 : Fin (k0_t12_loop v10).trips), ∀ (k0_h5 : k0_cond5 i = 1#1), 16 ∣ (k0_mult71 v10 k0_t12).toNat := fun i v10 k0_hw21 k0_t12 k0_h5 => k0_hw21.2.2.2.2.2.2.2.2.2.2.1 k0_t12 k0_h5
theorem k0_off161_inb : ∀ (i : grid0.Coords) (v10 : BitVec 32) (k0_hw21 : k0_chk21 i v10) (k0_t12 : Fin (k0_t12_loop v10).trips), ∀ (k0_h5 : k0_cond5 i = 1#1), ∀ a, (k0_off161 v10 k0_t12) a + S1x1x1.size a ≤ S1x1x128.size a := fun i v10 k0_hw21 k0_t12 k0_h5 => k0_hw21.2.2.2.2.2.2.2.2.2.2.2.1 k0_t12 k0_h5
theorem k0_off164_inb : ∀ (i : grid0.Coords) (v10 : BitVec 32) (k0_hw21 : k0_chk21 i v10) (k0_t12 : Fin (k0_t12_loop v10).trips), ∀ (k0_h5 : k0_cond5 i = 1#1), ∀ a, (k0_off164 i v10 k0_t12) a + S1x16x1024.size a ≤ S2x3072x1024.size a := fun i v10 k0_hw21 k0_t12 k0_h5 => k0_hw21.2.2.2.2.2.2.2.2.2.2.2.2.1 k0_t12 k0_h5
theorem k0_off164_wordsbf16 : ∀ (i : grid0.Coords) (v10 : BitVec 32) (k0_hw21 : k0_chk21 i v10) (k0_t12 : Fin (k0_t12_loop v10).trips), ∀ (k0_h5 : k0_cond5 i = 1#1), (Rect.unit (s := S2x3072x1024) (k0_off164 i v10 k0_t12) S1x16x1024.size (k0_off164_inb i v10 k0_hw21 k0_t12 k0_h5)).WholeWords (EltTy.packing .bf16) := fun i v10 k0_hw21 k0_t12 k0_h5 => k0_hw21.2.2.2.2.2.2.2.2.2.2.2.2.2 k0_t12 k0_h5 (k0_off164_inb i v10 k0_hw21 k0_t12 k0_h5)

def k0_chk39 (i : grid0.Coords) (v195 : BitVec 32) : Prop :=
  (∀ (k0_h5 : k0_cond5 i = 1#1), 16 ∣ (k0_mult72 v195).toNat) ∧
  (∀ (k0_h5 : k0_cond5 i = 1#1), ∀ a, (k0_off163 v195) a + S16x1024.size a ≤ S227328x1024.size a) ∧
  (∀ (k0_h5 : k0_cond5 i = 1#1), ∀ (hinb : ∀ a, (k0_off163 v195) a + S16x1024.size a ≤ S227328x1024.size a), (Rect.unit (s := S227328x1024) (k0_off163 v195) S16x1024.size hinb).WholeWords (EltTy.packing .bf16))
theorem k0_mult72_dvd : ∀ (i : grid0.Coords) (v195 : BitVec 32) (k0_hw39 : k0_chk39 i v195), ∀ (k0_h5 : k0_cond5 i = 1#1), 16 ∣ (k0_mult72 v195).toNat := fun i v195 k0_hw39 k0_h5 => k0_hw39.1 k0_h5
theorem k0_off163_inb : ∀ (i : grid0.Coords) (v195 : BitVec 32) (k0_hw39 : k0_chk39 i v195), ∀ (k0_h5 : k0_cond5 i = 1#1), ∀ a, (k0_off163 v195) a + S16x1024.size a ≤ S227328x1024.size a := fun i v195 k0_hw39 k0_h5 => k0_hw39.2.1 k0_h5
theorem k0_off163_wordsbf16 : ∀ (i : grid0.Coords) (v195 : BitVec 32) (k0_hw39 : k0_chk39 i v195), ∀ (k0_h5 : k0_cond5 i = 1#1), (Rect.unit (s := S227328x1024) (k0_off163 v195) S16x1024.size (k0_off163_inb i v195 k0_hw39 k0_h5)).WholeWords (EltTy.packing .bf16) := fun i v195 k0_hw39 k0_h5 => k0_hw39.2.2 k0_h5 (k0_off163_inb i v195 k0_hw39 k0_h5)

@[reducible] def k0_t13_loop (v141 : BitVec 32) : Scf.Loop 32 :=
  let c0_i32_31 : BitVec 32 := 0#32
  let c4_i32_28 : BitVec 32 := 4#32
  let v142 : BitVec 32 := Scalar.shrui v141 c4_i32_28
  let c3_i32_29 : BitVec 32 := 3#32
  let v143 : BitVec 32 := Scalar.shrui v142 c3_i32_29
  let v144 : BitVec 32 := Scalar.subi v143 c0_i32_31
  let c1_i32_32 : BitVec 32 := 1#32
  let v146 : BitVec 32 := Scalar.divsi v144 c1_i32_32
  let v147 : BitVec 32 := Scalar.muli v146 c1_i32_32
  let v148 : BitVec 32 := Scalar.addi c0_i32_31 v147
  let c1_i32_33 : BitVec 32 := 1#32
  ⟨c0_i32_31, v148, c1_i32_33⟩

def k0_off165 (i : grid0.Coords) : Fin 1 → Nat :=
  let c1_i32_27 : BitVec 32 := 1#32
  let arg0 : BitVec 32 := BitVec.ofNat 32 (i 0).val
  let c2_i32 : BitVec 32 := 2#32
  let v0 : BitVec 32 := Scalar.remsi arg0 c2_i32
  let v140 : BitVec 32 := Scalar.subi c1_i32_27 v0
  ![v140.toNat]
def k0_off166 (i : grid0.Coords) : Fin 3 → Nat :=
  let c1_i32_27 : BitVec 32 := 1#32
  let arg0 : BitVec 32 := BitVec.ofNat 32 (i 0).val
  let c2_i32 : BitVec 32 := 2#32
  let v0 : BitVec 32 := Scalar.remsi arg0 c2_i32
  let v140 : BitVec 32 := Scalar.subi c1_i32_27 v0
  let c0_i32_79 : BitVec 32 := 0#32
  let c0_i32_80 : BitVec 32 := 0#32
  ![v140.toNat, 0, 0]
@[reducible] def k0_t14_loop (v141 : BitVec 32) : Scf.Loop 32 :=
  let c0_i32_31 : BitVec 32 := 0#32
  let c4_i32_28 : BitVec 32 := 4#32
  let v142 : BitVec 32 := Scalar.shrui v141 c4_i32_28
  let c3_i32_29 : BitVec 32 := 3#32
  let v143 : BitVec 32 := Scalar.shrui v142 c3_i32_29
  let v144 : BitVec 32 := Scalar.subi v143 c0_i32_31
  let c1_i32_32 : BitVec 32 := 1#32
  let v146 : BitVec 32 := Scalar.divsi v144 c1_i32_32
  let v147 : BitVec 32 := Scalar.muli v146 c1_i32_32
  let v148 : BitVec 32 := Scalar.addi c0_i32_31 v147
  let v145 : BitVec 32 := Scalar.addi c0_i32_31 v144
  let c1_i32_34 : BitVec 32 := 1#32
  ⟨v148, v145, c1_i32_34⟩
def k0_off167 (i : grid0.Coords) : Fin 1 → Nat :=
  let c1_i32_27 : BitVec 32 := 1#32
  let arg0 : BitVec 32 := BitVec.ofNat 32 (i 0).val
  let c2_i32 : BitVec 32 := 2#32
  let v0 : BitVec 32 := Scalar.remsi arg0 c2_i32
  let v140 : BitVec 32 := Scalar.subi c1_i32_27 v0
  ![v140.toNat]
def k0_off168 (i : grid0.Coords) : Fin 3 → Nat :=
  let c1_i32_27 : BitVec 32 := 1#32
  let arg0 : BitVec 32 := BitVec.ofNat 32 (i 0).val
  let c2_i32 : BitVec 32 := 2#32
  let v0 : BitVec 32 := Scalar.remsi arg0 c2_i32
  let v140 : BitVec 32 := Scalar.subi c1_i32_27 v0
  let c0_i32_79 : BitVec 32 := 0#32
  let c0_i32_80 : BitVec 32 := 0#32
  ![v140.toNat, 0, 0]
@[reducible] def k0_t15_loop (v141 : BitVec 32) : Scf.Loop 32 :=
  let c4_i32_28 : BitVec 32 := 4#32
  let v142 : BitVec 32 := Scalar.shrui v141 c4_i32_28
  let c3_i32_29 : BitVec 32 := 3#32
  let v143 : BitVec 32 := Scalar.shrui v142 c3_i32_29
  let c8_i32_35 : BitVec 32 := 8#32
  let v149 : BitVec 32 := Scalar.muli v143 c8_i32_35
  let v150 : BitVec 32 := Scalar.subi v142 v149
  let c1_i32_37 : BitVec 32 := 1#32
  let v152 : BitVec 32 := Scalar.divsi v150 c1_i32_37
  let v153 : BitVec 32 := Scalar.muli v152 c1_i32_37
  let v154 : BitVec 32 := Scalar.addi v149 v153
  let c1_i32_38 : BitVec 32 := 1#32
  ⟨v149, v154, c1_i32_38⟩
def k0_off169 (i : grid0.Coords) : Fin 1 → Nat :=
  let c1_i32_27 : BitVec 32 := 1#32
  let arg0 : BitVec 32 := BitVec.ofNat 32 (i 0).val
  let c2_i32 : BitVec 32 := 2#32
  let v0 : BitVec 32 := Scalar.remsi arg0 c2_i32
  let v140 : BitVec 32 := Scalar.subi c1_i32_27 v0
  ![v140.toNat]
def k0_off170 (i : grid0.Coords) : Fin 3 → Nat :=
  let c1_i32_27 : BitVec 32 := 1#32
  let arg0 : BitVec 32 := BitVec.ofNat 32 (i 0).val
  let c2_i32 : BitVec 32 := 2#32
  let v0 : BitVec 32 := Scalar.remsi arg0 c2_i32
  let v140 : BitVec 32 := Scalar.subi c1_i32_27 v0
  let c0_i32_79 : BitVec 32 := 0#32
  let c0_i32_80 : BitVec 32 := 0#32
  ![v140.toNat, 0, 0]
@[reducible] def k0_t16_loop (v141 : BitVec 32) : Scf.Loop 32 :=
  let c4_i32_28 : BitVec 32 := 4#32
  let v142 : BitVec 32 := Scalar.shrui v141 c4_i32_28
  let c3_i32_29 : BitVec 32 := 3#32
  let v143 : BitVec 32 := Scalar.shrui v142 c3_i32_29
  let c8_i32_35 : BitVec 32 := 8#32
  let v149 : BitVec 32 := Scalar.muli v143 c8_i32_35
  let v150 : BitVec 32 := Scalar.subi v142 v149
  let c1_i32_37 : BitVec 32 := 1#32
  let v152 : BitVec 32 := Scalar.divsi v150 c1_i32_37
  let v153 : BitVec 32 := Scalar.muli v152 c1_i32_37
  let v154 : BitVec 32 := Scalar.addi v149 v153
  let v151 : BitVec 32 := Scalar.addi v149 v150
  let c1_i32_39 : BitVec 32 := 1#32
  ⟨v154, v151, c1_i32_39⟩

def k0_chk40 (i : grid0.Coords) (v141 : BitVec 32) : Prop :=
  (∀ (k0_h5 : k0_cond5 i = 1#1), (k0_t13_loop v141).OK) ∧
  (∀ (k0_h5 : k0_cond5 i = 1#1), (k0_t14_loop v141).OK) ∧
  (∀ (k0_h5 : k0_cond5 i = 1#1), (k0_t15_loop v141).OK) ∧
  (∀ (k0_h5 : k0_cond5 i = 1#1), (k0_t16_loop v141).OK)
theorem k0_t13_ok : ∀ (i : grid0.Coords) (v141 : BitVec 32) (k0_hw40 : k0_chk40 i v141), ∀ (k0_h5 : k0_cond5 i = 1#1), (k0_t13_loop v141).OK := fun i v141 k0_hw40 k0_h5 => k0_hw40.1 k0_h5
theorem k0_t14_ok : ∀ (i : grid0.Coords) (v141 : BitVec 32) (k0_hw40 : k0_chk40 i v141), ∀ (k0_h5 : k0_cond5 i = 1#1), (k0_t14_loop v141).OK := fun i v141 k0_hw40 k0_h5 => k0_hw40.2.1 k0_h5
theorem k0_t15_ok : ∀ (i : grid0.Coords) (v141 : BitVec 32) (k0_hw40 : k0_chk40 i v141), ∀ (k0_h5 : k0_cond5 i = 1#1), (k0_t15_loop v141).OK := fun i v141 k0_hw40 k0_h5 => k0_hw40.2.2.1 k0_h5
theorem k0_t16_ok : ∀ (i : grid0.Coords) (v141 : BitVec 32) (k0_hw40 : k0_chk40 i v141), ∀ (k0_h5 : k0_cond5 i = 1#1), (k0_t16_loop v141).OK := fun i v141 k0_hw40 k0_h5 => k0_hw40.2.2.2 k0_h5

def k0_off171 (i : grid0.Coords) : Fin 1 → Nat :=
  let c1_i32_27 : BitVec 32 := 1#32
  let arg0 : BitVec 32 := BitVec.ofNat 32 (i 0).val
  let c2_i32 : BitVec 32 := 2#32
  let v0 : BitVec 32 := Scalar.remsi arg0 c2_i32
  let v140 : BitVec 32 := Scalar.subi c1_i32_27 v0
  ![v140.toNat]
def k0_off172 (i : grid0.Coords) : Fin 3 → Nat :=
  let c1_i32_27 : BitVec 32 := 1#32
  let arg0 : BitVec 32 := BitVec.ofNat 32 (i 0).val
  let c2_i32 : BitVec 32 := 2#32
  let v0 : BitVec 32 := Scalar.remsi arg0 c2_i32
  let v140 : BitVec 32 := Scalar.subi c1_i32_27 v0
  let c0_i32_79 : BitVec 32 := 0#32
  let c0_i32_80 : BitVec 32 := 0#32
  ![v140.toNat, 0, 0]
@[reducible] def k0_t17_loop (v155 : BitVec 32) : Scf.Loop 32 :=
  let c0_i32_44 : BitVec 32 := 0#32
  let c4_i32_41 : BitVec 32 := 4#32
  let v156 : BitVec 32 := Scalar.shrui v155 c4_i32_41
  let c3_i32_42 : BitVec 32 := 3#32
  let v157 : BitVec 32 := Scalar.shrui v156 c3_i32_42
  let v158 : BitVec 32 := Scalar.subi v157 c0_i32_44
  let c1_i32_45 : BitVec 32 := 1#32
  let v160 : BitVec 32 := Scalar.divsi v158 c1_i32_45
  let v161 : BitVec 32 := Scalar.muli v160 c1_i32_45
  let v162 : BitVec 32 := Scalar.addi c0_i32_44 v161
  let c1_i32_46 : BitVec 32 := 1#32
  ⟨c0_i32_44, v162, c1_i32_46⟩

def k0_off173 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off174 (i : grid0.Coords) : Fin 3 → Nat :=
  let arg0 : BitVec 32 := BitVec.ofNat 32 (i 0).val
  let c2_i32 : BitVec 32 := 2#32
  let v0 : BitVec 32 := Scalar.remsi arg0 c2_i32
  let c0_i32_79 : BitVec 32 := 0#32
  let c0_i32_80 : BitVec 32 := 0#32
  ![v0.toNat, 0, 0]
@[reducible] def k0_t18_loop (v155 : BitVec 32) : Scf.Loop 32 :=
  let c0_i32_44 : BitVec 32 := 0#32
  let c4_i32_41 : BitVec 32 := 4#32
  let v156 : BitVec 32 := Scalar.shrui v155 c4_i32_41
  let c3_i32_42 : BitVec 32 := 3#32
  let v157 : BitVec 32 := Scalar.shrui v156 c3_i32_42
  let v158 : BitVec 32 := Scalar.subi v157 c0_i32_44
  let c1_i32_45 : BitVec 32 := 1#32
  let v160 : BitVec 32 := Scalar.divsi v158 c1_i32_45
  let v161 : BitVec 32 := Scalar.muli v160 c1_i32_45
  let v162 : BitVec 32 := Scalar.addi c0_i32_44 v161
  let v159 : BitVec 32 := Scalar.addi c0_i32_44 v158
  let c1_i32_47 : BitVec 32 := 1#32
  ⟨v162, v159, c1_i32_47⟩
def k0_off175 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off176 (i : grid0.Coords) : Fin 3 → Nat :=
  let arg0 : BitVec 32 := BitVec.ofNat 32 (i 0).val
  let c2_i32 : BitVec 32 := 2#32
  let v0 : BitVec 32 := Scalar.remsi arg0 c2_i32
  let c0_i32_79 : BitVec 32 := 0#32
  let c0_i32_80 : BitVec 32 := 0#32
  ![v0.toNat, 0, 0]
@[reducible] def k0_t19_loop (v155 : BitVec 32) : Scf.Loop 32 :=
  let c4_i32_41 : BitVec 32 := 4#32
  let v156 : BitVec 32 := Scalar.shrui v155 c4_i32_41
  let c3_i32_42 : BitVec 32 := 3#32
  let v157 : BitVec 32 := Scalar.shrui v156 c3_i32_42
  let c8_i32_48 : BitVec 32 := 8#32
  let v163 : BitVec 32 := Scalar.muli v157 c8_i32_48
  let v164 : BitVec 32 := Scalar.subi v156 v163
  let c1_i32_50 : BitVec 32 := 1#32
  let v166 : BitVec 32 := Scalar.divsi v164 c1_i32_50
  let v167 : BitVec 32 := Scalar.muli v166 c1_i32_50
  let v168 : BitVec 32 := Scalar.addi v163 v167
  let c1_i32_51 : BitVec 32 := 1#32
  ⟨v163, v168, c1_i32_51⟩
def k0_off177 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off178 (i : grid0.Coords) : Fin 3 → Nat :=
  let arg0 : BitVec 32 := BitVec.ofNat 32 (i 0).val
  let c2_i32 : BitVec 32 := 2#32
  let v0 : BitVec 32 := Scalar.remsi arg0 c2_i32
  let c0_i32_79 : BitVec 32 := 0#32
  let c0_i32_80 : BitVec 32 := 0#32
  ![v0.toNat, 0, 0]
@[reducible] def k0_t20_loop (v155 : BitVec 32) : Scf.Loop 32 :=
  let c4_i32_41 : BitVec 32 := 4#32
  let v156 : BitVec 32 := Scalar.shrui v155 c4_i32_41
  let c3_i32_42 : BitVec 32 := 3#32
  let v157 : BitVec 32 := Scalar.shrui v156 c3_i32_42
  let c8_i32_48 : BitVec 32 := 8#32
  let v163 : BitVec 32 := Scalar.muli v157 c8_i32_48
  let v164 : BitVec 32 := Scalar.subi v156 v163
  let c1_i32_50 : BitVec 32 := 1#32
  let v166 : BitVec 32 := Scalar.divsi v164 c1_i32_50
  let v167 : BitVec 32 := Scalar.muli v166 c1_i32_50
  let v168 : BitVec 32 := Scalar.addi v163 v167
  let v165 : BitVec 32 := Scalar.addi v163 v164
  let c1_i32_52 : BitVec 32 := 1#32
  ⟨v168, v165, c1_i32_52⟩

def k0_chk41 (i : grid0.Coords) (v155 : BitVec 32) : Prop :=
  (∀ (k0_h5 : k0_cond5 i = 1#1), (k0_t17_loop v155).OK) ∧
  (∀ (k0_h5 : k0_cond5 i = 1#1), (k0_t18_loop v155).OK) ∧
  (∀ (k0_h5 : k0_cond5 i = 1#1), (k0_t19_loop v155).OK) ∧
  (∀ (k0_h5 : k0_cond5 i = 1#1), (k0_t20_loop v155).OK)
theorem k0_t17_ok : ∀ (i : grid0.Coords) (v155 : BitVec 32) (k0_hw41 : k0_chk41 i v155), ∀ (k0_h5 : k0_cond5 i = 1#1), (k0_t17_loop v155).OK := fun i v155 k0_hw41 k0_h5 => k0_hw41.1 k0_h5
theorem k0_t18_ok : ∀ (i : grid0.Coords) (v155 : BitVec 32) (k0_hw41 : k0_chk41 i v155), ∀ (k0_h5 : k0_cond5 i = 1#1), (k0_t18_loop v155).OK := fun i v155 k0_hw41 k0_h5 => k0_hw41.2.1 k0_h5
theorem k0_t19_ok : ∀ (i : grid0.Coords) (v155 : BitVec 32) (k0_hw41 : k0_chk41 i v155), ∀ (k0_h5 : k0_cond5 i = 1#1), (k0_t19_loop v155).OK := fun i v155 k0_hw41 k0_h5 => k0_hw41.2.2.1 k0_h5
theorem k0_t20_ok : ∀ (i : grid0.Coords) (v155 : BitVec 32) (k0_hw41 : k0_chk41 i v155), ∀ (k0_h5 : k0_cond5 i = 1#1), (k0_t20_loop v155).OK := fun i v155 k0_hw41 k0_h5 => k0_hw41.2.2.2 k0_h5

def k0_off179 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off180 (i : grid0.Coords) : Fin 3 → Nat :=
  let arg0 : BitVec 32 := BitVec.ofNat 32 (i 0).val
  let c2_i32 : BitVec 32 := 2#32
  let v0 : BitVec 32 := Scalar.remsi arg0 c2_i32
  let c0_i32_79 : BitVec 32 := 0#32
  let c0_i32_80 : BitVec 32 := 0#32
  ![v0.toNat, 0, 0]
@[reducible] def k0_t21_loop : Scf.Loop 32 :=
  let c0_i32_57 : BitVec 32 := 0#32
  let c64_i32_58 : BitVec 32 := 64#32
  let v173 : BitVec 32 := Scalar.addi c0_i32_57 c64_i32_58
  let c1_i32_59 : BitVec 32 := 1#32
  ⟨c0_i32_57, v173, c1_i32_59⟩
def k0_off181 (k0_t21 : Fin k0_t21_loop.trips) : Fin 1 → Nat :=
  let c0_i32_57 : BitVec 32 := 0#32
  let c1_i32_59 : BitVec 32 := 1#32
  let arg16 : BitVec 32 := Scf.iv c0_i32_57 c1_i32_59 k0_t21
  let v192 : Index := Scalar.indexCast arg16
  ![v192.toNat]
@[reducible] def k0_t22_loop (v193 : BitVec 32) : Scf.Loop 32 :=
  let c0_i32_78 : BitVec 32 := 0#32
  let v194 : BitVec 32 := Scalar.subi v193 c0_i32_78
  let c1_i32_79 : BitVec 32 := 1#32
  let v196 : BitVec 32 := Scalar.divsi v194 c1_i32_79
  let v197 : BitVec 32 := Scalar.muli v196 c1_i32_79
  let v198 : BitVec 32 := Scalar.addi c0_i32_78 v197
  let c1_i32_80 : BitVec 32 := 1#32
  ⟨c0_i32_78, v198, c1_i32_80⟩

def k0_off182 (k0_t21 : Fin k0_t21_loop.trips) : Fin 1 → Nat :=
  let c0_i32_57 : BitVec 32 := 0#32
  let c1_i32_59 : BitVec 32 := 1#32
  let arg16 : BitVec 32 := Scf.iv c0_i32_57 c1_i32_59 k0_t21
  let v202 : Index := Scalar.indexCast arg16
  ![v202.toNat]
def k0_mult73 (v193 : BitVec 32) (k0_t22 : Fin (k0_t22_loop v193).trips) (v203 : BitVec 32) : BitVec 32 :=
  let c0_i32_78 : BitVec 32 := 0#32
  let c1_i32_80 : BitVec 32 := 1#32
  let arg18 : BitVec 32 := Scf.iv c0_i32_78 c1_i32_80 k0_t22
  let c16_i32 : BitVec 32 := 16#32
  let v204 : BitVec 32 := Scalar.muli arg18 c16_i32
  let v205 : BitVec 32 := Scalar.addi v203 v204
  v205

def k0_off183 (v193 : BitVec 32) (k0_t22 : Fin (k0_t22_loop v193).trips) (v203 : BitVec 32) : Fin 2 → Nat :=
  let c0_i32_78 : BitVec 32 := 0#32
  let c1_i32_80 : BitVec 32 := 1#32
  let arg18 : BitVec 32 := Scf.iv c0_i32_78 c1_i32_80 k0_t22
  let c16_i32 : BitVec 32 := 16#32
  let v204 : BitVec 32 := Scalar.muli arg18 c16_i32
  let v205 : BitVec 32 := Scalar.addi v203 v204
  let v206 : BitVec 32 := v205
  let c0_i32_83 : BitVec 32 := 0#32
  ![v206.toNat, 0]

def k0_chk43 (i : grid0.Coords) (v193 : BitVec 32) (k0_t22 : Fin (k0_t22_loop v193).trips) (v203 : BitVec 32) : Prop :=
  (∀ (k0_h5 : k0_cond5 i = 1#1), 16 ∣ (k0_mult73 v193 k0_t22 v203).toNat) ∧
  (∀ (k0_h5 : k0_cond5 i = 1#1), ∀ a, (k0_off183 v193 k0_t22 v203) a + S16x1024.size a ≤ S227328x1024.size a) ∧
  (∀ (k0_h5 : k0_cond5 i = 1#1), ∀ (hinb : ∀ a, (k0_off183 v193 k0_t22 v203) a + S16x1024.size a ≤ S227328x1024.size a), (Rect.unit (s := S227328x1024) (k0_off183 v193 k0_t22 v203) S16x1024.size hinb).WholeWords (EltTy.packing .bf16))
theorem k0_mult73_dvd : ∀ (i : grid0.Coords) (v193 : BitVec 32) (k0_t22 : Fin (k0_t22_loop v193).trips) (v203 : BitVec 32) (k0_hw43 : k0_chk43 i v193 k0_t22 v203), ∀ (k0_h5 : k0_cond5 i = 1#1), 16 ∣ (k0_mult73 v193 k0_t22 v203).toNat := fun i v193 k0_t22 v203 k0_hw43 k0_h5 => k0_hw43.1 k0_h5
theorem k0_off183_inb : ∀ (i : grid0.Coords) (v193 : BitVec 32) (k0_t22 : Fin (k0_t22_loop v193).trips) (v203 : BitVec 32) (k0_hw43 : k0_chk43 i v193 k0_t22 v203), ∀ (k0_h5 : k0_cond5 i = 1#1), ∀ a, (k0_off183 v193 k0_t22 v203) a + S16x1024.size a ≤ S227328x1024.size a := fun i v193 k0_t22 v203 k0_hw43 k0_h5 => k0_hw43.2.1 k0_h5
theorem k0_off183_wordsbf16 : ∀ (i : grid0.Coords) (v193 : BitVec 32) (k0_t22 : Fin (k0_t22_loop v193).trips) (v203 : BitVec 32) (k0_hw43 : k0_chk43 i v193 k0_t22 v203), ∀ (k0_h5 : k0_cond5 i = 1#1), (Rect.unit (s := S227328x1024) (k0_off183 v193 k0_t22 v203) S16x1024.size (k0_off183_inb i v193 k0_t22 v203 k0_hw43 k0_h5)).WholeWords (EltTy.packing .bf16) := fun i v193 k0_t22 v203 k0_hw43 k0_h5 => k0_hw43.2.2 k0_h5 (k0_off183_inb i v193 k0_t22 v203 k0_hw43 k0_h5)

@[reducible] def k0_t23_loop (v193 : BitVec 32) : Scf.Loop 32 :=
  let c0_i32_78 : BitVec 32 := 0#32
  let v194 : BitVec 32 := Scalar.subi v193 c0_i32_78
  let c1_i32_79 : BitVec 32 := 1#32
  let v196 : BitVec 32 := Scalar.divsi v194 c1_i32_79
  let v197 : BitVec 32 := Scalar.muli v196 c1_i32_79
  let v198 : BitVec 32 := Scalar.addi c0_i32_78 v197
  let v195 : BitVec 32 := Scalar.addi c0_i32_78 v194
  let c1_i32_81 : BitVec 32 := 1#32
  ⟨v198, v195, c1_i32_81⟩

def k0_chk42 (i : grid0.Coords) (v193 : BitVec 32) : Prop :=
  (∀ (k0_h5 : k0_cond5 i = 1#1), (k0_t22_loop v193).OK) ∧
  (∀ (k0_h5 : k0_cond5 i = 1#1), (k0_t23_loop v193).OK)
theorem k0_t22_ok : ∀ (i : grid0.Coords) (v193 : BitVec 32) (k0_hw42 : k0_chk42 i v193), ∀ (k0_h5 : k0_cond5 i = 1#1), (k0_t22_loop v193).OK := fun i v193 k0_hw42 k0_h5 => k0_hw42.1 k0_h5
theorem k0_t23_ok : ∀ (i : grid0.Coords) (v193 : BitVec 32) (k0_hw42 : k0_chk42 i v193), ∀ (k0_h5 : k0_cond5 i = 1#1), (k0_t23_loop v193).OK := fun i v193 k0_hw42 k0_h5 => k0_hw42.2 k0_h5

def k0_off184 (k0_t21 : Fin k0_t21_loop.trips) : Fin 1 → Nat :=
  let c0_i32_57 : BitVec 32 := 0#32
  let c1_i32_59 : BitVec 32 := 1#32
  let arg16 : BitVec 32 := Scf.iv c0_i32_57 c1_i32_59 k0_t21
  let v202 : Index := Scalar.indexCast arg16
  ![v202.toNat]
def k0_mult74 (v193 : BitVec 32) (k0_t23 : Fin (k0_t23_loop v193).trips) (v203 : BitVec 32) : BitVec 32 :=
  let c0_i32_78 : BitVec 32 := 0#32
  let v194 : BitVec 32 := Scalar.subi v193 c0_i32_78
  let c1_i32_79 : BitVec 32 := 1#32
  let v196 : BitVec 32 := Scalar.divsi v194 c1_i32_79
  let v197 : BitVec 32 := Scalar.muli v196 c1_i32_79
  let v198 : BitVec 32 := Scalar.addi c0_i32_78 v197
  let c1_i32_81 : BitVec 32 := 1#32
  let arg18 : BitVec 32 := Scf.iv v198 c1_i32_81 k0_t23
  let c16_i32 : BitVec 32 := 16#32
  let v204 : BitVec 32 := Scalar.muli arg18 c16_i32
  let v205 : BitVec 32 := Scalar.addi v203 v204
  v205

def k0_off185 (v193 : BitVec 32) (k0_t23 : Fin (k0_t23_loop v193).trips) (v203 : BitVec 32) : Fin 2 → Nat :=
  let c0_i32_78 : BitVec 32 := 0#32
  let v194 : BitVec 32 := Scalar.subi v193 c0_i32_78
  let c1_i32_79 : BitVec 32 := 1#32
  let v196 : BitVec 32 := Scalar.divsi v194 c1_i32_79
  let v197 : BitVec 32 := Scalar.muli v196 c1_i32_79
  let v198 : BitVec 32 := Scalar.addi c0_i32_78 v197
  let c1_i32_81 : BitVec 32 := 1#32
  let arg18 : BitVec 32 := Scf.iv v198 c1_i32_81 k0_t23
  let c16_i32 : BitVec 32 := 16#32
  let v204 : BitVec 32 := Scalar.muli arg18 c16_i32
  let v205 : BitVec 32 := Scalar.addi v203 v204
  let v206 : BitVec 32 := v205
  let c0_i32_83 : BitVec 32 := 0#32
  ![v206.toNat, 0]

def k0_chk44 (i : grid0.Coords) (v193 : BitVec 32) (k0_t23 : Fin (k0_t23_loop v193).trips) (v203 : BitVec 32) : Prop :=
  (∀ (k0_h5 : k0_cond5 i = 1#1), 16 ∣ (k0_mult74 v193 k0_t23 v203).toNat) ∧
  (∀ (k0_h5 : k0_cond5 i = 1#1), ∀ a, (k0_off185 v193 k0_t23 v203) a + S16x1024.size a ≤ S227328x1024.size a) ∧
  (∀ (k0_h5 : k0_cond5 i = 1#1), ∀ (hinb : ∀ a, (k0_off185 v193 k0_t23 v203) a + S16x1024.size a ≤ S227328x1024.size a), (Rect.unit (s := S227328x1024) (k0_off185 v193 k0_t23 v203) S16x1024.size hinb).WholeWords (EltTy.packing .bf16))
theorem k0_mult74_dvd : ∀ (i : grid0.Coords) (v193 : BitVec 32) (k0_t23 : Fin (k0_t23_loop v193).trips) (v203 : BitVec 32) (k0_hw44 : k0_chk44 i v193 k0_t23 v203), ∀ (k0_h5 : k0_cond5 i = 1#1), 16 ∣ (k0_mult74 v193 k0_t23 v203).toNat := fun i v193 k0_t23 v203 k0_hw44 k0_h5 => k0_hw44.1 k0_h5
theorem k0_off185_inb : ∀ (i : grid0.Coords) (v193 : BitVec 32) (k0_t23 : Fin (k0_t23_loop v193).trips) (v203 : BitVec 32) (k0_hw44 : k0_chk44 i v193 k0_t23 v203), ∀ (k0_h5 : k0_cond5 i = 1#1), ∀ a, (k0_off185 v193 k0_t23 v203) a + S16x1024.size a ≤ S227328x1024.size a := fun i v193 k0_t23 v203 k0_hw44 k0_h5 => k0_hw44.2.1 k0_h5
theorem k0_off185_wordsbf16 : ∀ (i : grid0.Coords) (v193 : BitVec 32) (k0_t23 : Fin (k0_t23_loop v193).trips) (v203 : BitVec 32) (k0_hw44 : k0_chk44 i v193 k0_t23 v203), ∀ (k0_h5 : k0_cond5 i = 1#1), (Rect.unit (s := S227328x1024) (k0_off185 v193 k0_t23 v203) S16x1024.size (k0_off185_inb i v193 k0_t23 v203 k0_hw44 k0_h5)).WholeWords (EltTy.packing .bf16) := fun i v193 k0_t23 v203 k0_hw44 k0_h5 => k0_hw44.2.2 k0_h5 (k0_off185_inb i v193 k0_t23 v203 k0_hw44 k0_h5)

def k0_off186 (k0_t21 : Fin k0_t21_loop.trips) : Fin 1 → Nat :=
  let c0_i32_57 : BitVec 32 := 0#32
  let c1_i32_59 : BitVec 32 := 1#32
  let arg16 : BitVec 32 := Scf.iv c0_i32_57 c1_i32_59 k0_t21
  let v199 : Index := Scalar.indexCast arg16
  ![v199.toNat]
@[reducible] def k0_t24_loop (v174 : BitVec 32) : Scf.Loop 32 :=
  let c0_i32_62 : BitVec 32 := 0#32
  let v175 : BitVec 32 := Scalar.subi v174 c0_i32_62
  let c1_i32_63 : BitVec 32 := 1#32
  let v177 : BitVec 32 := Scalar.divsi v175 c1_i32_63
  let v178 : BitVec 32 := Scalar.muli v177 c1_i32_63
  let v179 : BitVec 32 := Scalar.addi c0_i32_62 v178
  let c1_i32_64 : BitVec 32 := 1#32
  ⟨c0_i32_62, v179, c1_i32_64⟩

def k0_mult75 (v192 : BitVec 32) : BitVec 32 :=
  let c0_i32_78 : BitVec 32 := 0#32
  let v193 : BitVec 32 := Scalar.addi v192 c0_i32_78
  v193

def k0_off187 (v192 : BitVec 32) : Fin 2 → Nat :=
  let c0_i32_78 : BitVec 32 := 0#32
  let v193 : BitVec 32 := Scalar.addi v192 c0_i32_78
  let v194 : BitVec 32 := v193
  let c0_i32_80 : BitVec 32 := 0#32
  ![v194.toNat, 0]

def k0_chk46 (i : grid0.Coords) (v192 : BitVec 32) : Prop :=
  (∀ (k0_h5 : k0_cond5 i = 1#1), 16 ∣ (k0_mult75 v192).toNat) ∧
  (∀ (k0_h5 : k0_cond5 i = 1#1), ∀ a, (k0_off187 v192) a + S16x1024.size a ≤ S227328x1024.size a) ∧
  (∀ (k0_h5 : k0_cond5 i = 1#1), ∀ (hinb : ∀ a, (k0_off187 v192) a + S16x1024.size a ≤ S227328x1024.size a), (Rect.unit (s := S227328x1024) (k0_off187 v192) S16x1024.size hinb).WholeWords (EltTy.packing .bf16))
theorem k0_mult75_dvd : ∀ (i : grid0.Coords) (v192 : BitVec 32) (k0_hw46 : k0_chk46 i v192), ∀ (k0_h5 : k0_cond5 i = 1#1), 16 ∣ (k0_mult75 v192).toNat := fun i v192 k0_hw46 k0_h5 => k0_hw46.1 k0_h5
theorem k0_off187_inb : ∀ (i : grid0.Coords) (v192 : BitVec 32) (k0_hw46 : k0_chk46 i v192), ∀ (k0_h5 : k0_cond5 i = 1#1), ∀ a, (k0_off187 v192) a + S16x1024.size a ≤ S227328x1024.size a := fun i v192 k0_hw46 k0_h5 => k0_hw46.2.1 k0_h5
theorem k0_off187_wordsbf16 : ∀ (i : grid0.Coords) (v192 : BitVec 32) (k0_hw46 : k0_chk46 i v192), ∀ (k0_h5 : k0_cond5 i = 1#1), (Rect.unit (s := S227328x1024) (k0_off187 v192) S16x1024.size (k0_off187_inb i v192 k0_hw46 k0_h5)).WholeWords (EltTy.packing .bf16) := fun i v192 k0_hw46 k0_h5 => k0_hw46.2.2 k0_h5 (k0_off187_inb i v192 k0_hw46 k0_h5)

@[reducible] def k0_t25_loop (v174 : BitVec 32) : Scf.Loop 32 :=
  let c0_i32_62 : BitVec 32 := 0#32
  let v175 : BitVec 32 := Scalar.subi v174 c0_i32_62
  let c1_i32_63 : BitVec 32 := 1#32
  let v177 : BitVec 32 := Scalar.divsi v175 c1_i32_63
  let v178 : BitVec 32 := Scalar.muli v177 c1_i32_63
  let v179 : BitVec 32 := Scalar.addi c0_i32_62 v178
  let v176 : BitVec 32 := Scalar.addi c0_i32_62 v175
  let c1_i32_65 : BitVec 32 := 1#32
  ⟨v179, v176, c1_i32_65⟩

def k0_chk45 (i : grid0.Coords) (v174 : BitVec 32) : Prop :=
  (∀ (k0_h5 : k0_cond5 i = 1#1), (k0_t24_loop v174).OK) ∧
  (∀ (k0_h5 : k0_cond5 i = 1#1), (k0_t25_loop v174).OK)
theorem k0_t24_ok : ∀ (i : grid0.Coords) (v174 : BitVec 32) (k0_hw45 : k0_chk45 i v174), ∀ (k0_h5 : k0_cond5 i = 1#1), (k0_t24_loop v174).OK := fun i v174 k0_hw45 k0_h5 => k0_hw45.1 k0_h5
theorem k0_t25_ok : ∀ (i : grid0.Coords) (v174 : BitVec 32) (k0_hw45 : k0_chk45 i v174), ∀ (k0_h5 : k0_cond5 i = 1#1), (k0_t25_loop v174).OK := fun i v174 k0_hw45 k0_h5 => k0_hw45.2 k0_h5

def k0_mult76 (v192 : BitVec 32) : BitVec 32 :=
  let c0_i32_78 : BitVec 32 := 0#32
  let v193 : BitVec 32 := Scalar.addi v192 c0_i32_78
  v193

def k0_off188 (v192 : BitVec 32) : Fin 2 → Nat :=
  let c0_i32_78 : BitVec 32 := 0#32
  let v193 : BitVec 32 := Scalar.addi v192 c0_i32_78
  let v194 : BitVec 32 := v193
  let c0_i32_80 : BitVec 32 := 0#32
  ![v194.toNat, 0]

def k0_chk47 (i : grid0.Coords) (v192 : BitVec 32) : Prop :=
  (∀ (k0_h5 : k0_cond5 i = 1#1), 16 ∣ (k0_mult76 v192).toNat) ∧
  (∀ (k0_h5 : k0_cond5 i = 1#1), ∀ a, (k0_off188 v192) a + S16x1024.size a ≤ S227328x1024.size a) ∧
  (∀ (k0_h5 : k0_cond5 i = 1#1), ∀ (hinb : ∀ a, (k0_off188 v192) a + S16x1024.size a ≤ S227328x1024.size a), (Rect.unit (s := S227328x1024) (k0_off188 v192) S16x1024.size hinb).WholeWords (EltTy.packing .bf16))
theorem k0_mult76_dvd : ∀ (i : grid0.Coords) (v192 : BitVec 32) (k0_hw47 : k0_chk47 i v192), ∀ (k0_h5 : k0_cond5 i = 1#1), 16 ∣ (k0_mult76 v192).toNat := fun i v192 k0_hw47 k0_h5 => k0_hw47.1 k0_h5
theorem k0_off188_inb : ∀ (i : grid0.Coords) (v192 : BitVec 32) (k0_hw47 : k0_chk47 i v192), ∀ (k0_h5 : k0_cond5 i = 1#1), ∀ a, (k0_off188 v192) a + S16x1024.size a ≤ S227328x1024.size a := fun i v192 k0_hw47 k0_h5 => k0_hw47.2.1 k0_h5
theorem k0_off188_wordsbf16 : ∀ (i : grid0.Coords) (v192 : BitVec 32) (k0_hw47 : k0_chk47 i v192), ∀ (k0_h5 : k0_cond5 i = 1#1), (Rect.unit (s := S227328x1024) (k0_off188 v192) S16x1024.size (k0_off188_inb i v192 k0_hw47 k0_h5)).WholeWords (EltTy.packing .bf16) := fun i v192 k0_hw47 k0_h5 => k0_hw47.2.2 k0_h5 (k0_off188_inb i v192 k0_hw47 k0_h5)

@[reducible] def k0_t26_loop (v180 : BitVec 32) : Scf.Loop 32 :=
  let c0_i32_68 : BitVec 32 := 0#32
  let c444_i32 : BitVec 32 := 444#32
  let v181 : BitVec 32 := Scalar.subi c444_i32 v180
  let v182 : BitVec 32 := Scalar.subi v181 c0_i32_68
  let c1_i32_69 : BitVec 32 := 1#32
  let v184 : BitVec 32 := Scalar.divsi v182 c1_i32_69
  let v185 : BitVec 32 := Scalar.muli v184 c1_i32_69
  let v186 : BitVec 32 := Scalar.addi c0_i32_68 v185
  let c1_i32_70 : BitVec 32 := 1#32
  ⟨c0_i32_68, v186, c1_i32_70⟩

def k0_mult77 (v180 : BitVec 32) (k0_t26 : Fin (k0_t26_loop v180).trips) : BitVec 32 :=
  let c0_i32_68 : BitVec 32 := 0#32
  let c1_i32_70 : BitVec 32 := 1#32
  let arg16 : BitVec 32 := Scf.iv c0_i32_68 c1_i32_70 k0_t26
  let v192 : BitVec 32 := Scalar.addi v180 arg16
  let c512_i32_77 : BitVec 32 := 512#32
  let v193 : BitVec 32 := Scalar.muli v192 c512_i32_77
  v193
def k0_off189 (v180 : BitVec 32) (k0_t26 : Fin (k0_t26_loop v180).trips) : Fin 2 → Nat :=
  let c0_i32_68 : BitVec 32 := 0#32
  let c1_i32_70 : BitVec 32 := 1#32
  let arg16 : BitVec 32 := Scf.iv c0_i32_68 c1_i32_70 k0_t26
  let v192 : BitVec 32 := Scalar.addi v180 arg16
  let c512_i32_77 : BitVec 32 := 512#32
  let v193 : BitVec 32 := Scalar.muli v192 c512_i32_77
  let v194 : BitVec 32 := v193
  let c0_i32_79 : BitVec 32 := 0#32
  ![v194.toNat, 0]
@[reducible] def k0_t27_loop (v180 : BitVec 32) : Scf.Loop 32 :=
  let c0_i32_68 : BitVec 32 := 0#32
  let c444_i32 : BitVec 32 := 444#32
  let v181 : BitVec 32 := Scalar.subi c444_i32 v180
  let v182 : BitVec 32 := Scalar.subi v181 c0_i32_68
  let c1_i32_69 : BitVec 32 := 1#32
  let v184 : BitVec 32 := Scalar.divsi v182 c1_i32_69
  let v185 : BitVec 32 := Scalar.muli v184 c1_i32_69
  let v186 : BitVec 32 := Scalar.addi c0_i32_68 v185
  let v183 : BitVec 32 := Scalar.addi c0_i32_68 v182
  let c1_i32_71 : BitVec 32 := 1#32
  ⟨v186, v183, c1_i32_71⟩
def k0_mult78 (v180 : BitVec 32) (k0_t27 : Fin (k0_t27_loop v180).trips) : BitVec 32 :=
  let c0_i32_68 : BitVec 32 := 0#32
  let c444_i32 : BitVec 32 := 444#32
  let v181 : BitVec 32 := Scalar.subi c444_i32 v180
  let v182 : BitVec 32 := Scalar.subi v181 c0_i32_68
  let c1_i32_69 : BitVec 32 := 1#32
  let v184 : BitVec 32 := Scalar.divsi v182 c1_i32_69
  let v185 : BitVec 32 := Scalar.muli v184 c1_i32_69
  let v186 : BitVec 32 := Scalar.addi c0_i32_68 v185
  let c1_i32_71 : BitVec 32 := 1#32
  let arg16 : BitVec 32 := Scf.iv v186 c1_i32_71 k0_t27
  let v192 : BitVec 32 := Scalar.addi v180 arg16
  let c512_i32_77 : BitVec 32 := 512#32
  let v193 : BitVec 32 := Scalar.muli v192 c512_i32_77
  v193
def k0_off190 (v180 : BitVec 32) (k0_t27 : Fin (k0_t27_loop v180).trips) : Fin 2 → Nat :=
  let c0_i32_68 : BitVec 32 := 0#32
  let c444_i32 : BitVec 32 := 444#32
  let v181 : BitVec 32 := Scalar.subi c444_i32 v180
  let v182 : BitVec 32 := Scalar.subi v181 c0_i32_68
  let c1_i32_69 : BitVec 32 := 1#32
  let v184 : BitVec 32 := Scalar.divsi v182 c1_i32_69
  let v185 : BitVec 32 := Scalar.muli v184 c1_i32_69
  let v186 : BitVec 32 := Scalar.addi c0_i32_68 v185
  let c1_i32_71 : BitVec 32 := 1#32
  let arg16 : BitVec 32 := Scf.iv v186 c1_i32_71 k0_t27
  let v192 : BitVec 32 := Scalar.addi v180 arg16
  let c512_i32_77 : BitVec 32 := 512#32
  let v193 : BitVec 32 := Scalar.muli v192 c512_i32_77
  let v194 : BitVec 32 := v193
  let c0_i32_79 : BitVec 32 := 0#32
  ![v194.toNat, 0]
@[reducible] def k0_t28_loop (v180 : BitVec 32) : Scf.Loop 32 :=
  let c0_i32_73 : BitVec 32 := 0#32
  let c444_i32 : BitVec 32 := 444#32
  let v181 : BitVec 32 := Scalar.subi c444_i32 v180
  let v187 : BitVec 32 := Scalar.subi v181 c0_i32_73
  let c1_i32_74 : BitVec 32 := 1#32
  let v189 : BitVec 32 := Scalar.divsi v187 c1_i32_74
  let v190 : BitVec 32 := Scalar.muli v189 c1_i32_74
  let v191 : BitVec 32 := Scalar.addi c0_i32_73 v190
  let c1_i32_75 : BitVec 32 := 1#32
  ⟨c0_i32_73, v191, c1_i32_75⟩
def k0_mult79 (v180 : BitVec 32) (k0_t28 : Fin (k0_t28_loop v180).trips) : BitVec 32 :=
  let c0_i32_73 : BitVec 32 := 0#32
  let c1_i32_75 : BitVec 32 := 1#32
  let arg16 : BitVec 32 := Scf.iv c0_i32_73 c1_i32_75 k0_t28
  let v192 : BitVec 32 := Scalar.addi v180 arg16
  let c512_i32_77 : BitVec 32 := 512#32
  let v193 : BitVec 32 := Scalar.muli v192 c512_i32_77
  v193
def k0_off191 (v180 : BitVec 32) (k0_t28 : Fin (k0_t28_loop v180).trips) : Fin 2 → Nat :=
  let c0_i32_73 : BitVec 32 := 0#32
  let c1_i32_75 : BitVec 32 := 1#32
  let arg16 : BitVec 32 := Scf.iv c0_i32_73 c1_i32_75 k0_t28
  let v192 : BitVec 32 := Scalar.addi v180 arg16
  let c512_i32_77 : BitVec 32 := 512#32
  let v193 : BitVec 32 := Scalar.muli v192 c512_i32_77
  let v194 : BitVec 32 := v193
  let c0_i32_79 : BitVec 32 := 0#32
  ![v194.toNat, 0]
@[reducible] def k0_t29_loop (v180 : BitVec 32) : Scf.Loop 32 :=
  let c0_i32_73 : BitVec 32 := 0#32
  let c444_i32 : BitVec 32 := 444#32
  let v181 : BitVec 32 := Scalar.subi c444_i32 v180
  let v187 : BitVec 32 := Scalar.subi v181 c0_i32_73
  let c1_i32_74 : BitVec 32 := 1#32
  let v189 : BitVec 32 := Scalar.divsi v187 c1_i32_74
  let v190 : BitVec 32 := Scalar.muli v189 c1_i32_74
  let v191 : BitVec 32 := Scalar.addi c0_i32_73 v190
  let v188 : BitVec 32 := Scalar.addi c0_i32_73 v187
  let c1_i32_76 : BitVec 32 := 1#32
  ⟨v191, v188, c1_i32_76⟩
def k0_mult80 (v180 : BitVec 32) (k0_t29 : Fin (k0_t29_loop v180).trips) : BitVec 32 :=
  let c0_i32_73 : BitVec 32 := 0#32
  let c444_i32 : BitVec 32 := 444#32
  let v181 : BitVec 32 := Scalar.subi c444_i32 v180
  let v187 : BitVec 32 := Scalar.subi v181 c0_i32_73
  let c1_i32_74 : BitVec 32 := 1#32
  let v189 : BitVec 32 := Scalar.divsi v187 c1_i32_74
  let v190 : BitVec 32 := Scalar.muli v189 c1_i32_74
  let v191 : BitVec 32 := Scalar.addi c0_i32_73 v190
  let c1_i32_76 : BitVec 32 := 1#32
  let arg16 : BitVec 32 := Scf.iv v191 c1_i32_76 k0_t29
  let v192 : BitVec 32 := Scalar.addi v180 arg16
  let c512_i32_77 : BitVec 32 := 512#32
  let v193 : BitVec 32 := Scalar.muli v192 c512_i32_77
  v193
def k0_off192 (v180 : BitVec 32) (k0_t29 : Fin (k0_t29_loop v180).trips) : Fin 2 → Nat :=
  let c0_i32_73 : BitVec 32 := 0#32
  let c444_i32 : BitVec 32 := 444#32
  let v181 : BitVec 32 := Scalar.subi c444_i32 v180
  let v187 : BitVec 32 := Scalar.subi v181 c0_i32_73
  let c1_i32_74 : BitVec 32 := 1#32
  let v189 : BitVec 32 := Scalar.divsi v187 c1_i32_74
  let v190 : BitVec 32 := Scalar.muli v189 c1_i32_74
  let v191 : BitVec 32 := Scalar.addi c0_i32_73 v190
  let c1_i32_76 : BitVec 32 := 1#32
  let arg16 : BitVec 32 := Scf.iv v191 c1_i32_76 k0_t29
  let v192 : BitVec 32 := Scalar.addi v180 arg16
  let c512_i32_77 : BitVec 32 := 512#32
  let v193 : BitVec 32 := Scalar.muli v192 c512_i32_77
  let v194 : BitVec 32 := v193
  let c0_i32_79 : BitVec 32 := 0#32
  ![v194.toNat, 0]

def k0_chk48 (i : grid0.Coords) (v180 : BitVec 32) : Prop :=
  (∀ (k0_h5 : k0_cond5 i = 1#1), (k0_t26_loop v180).OK) ∧
  (∀ k0_t26 : Fin (k0_t26_loop v180).trips, ∀ (k0_h5 : k0_cond5 i = 1#1), 512 ∣ (k0_mult77 v180 k0_t26).toNat) ∧
  (∀ k0_t26 : Fin (k0_t26_loop v180).trips, ∀ (k0_h5 : k0_cond5 i = 1#1), ∀ a, (k0_off189 v180 k0_t26) a + S512x1024.size a ≤ S227328x1024.size a) ∧
  (∀ k0_t26 : Fin (k0_t26_loop v180).trips, ∀ (k0_h5 : k0_cond5 i = 1#1), ∀ (hinb : ∀ a, (k0_off189 v180 k0_t26) a + S512x1024.size a ≤ S227328x1024.size a), (Rect.unit (s := S227328x1024) (k0_off189 v180 k0_t26) S512x1024.size hinb).WholeWords (EltTy.packing .bf16)) ∧
  (∀ (k0_h5 : k0_cond5 i = 1#1), (k0_t27_loop v180).OK) ∧
  (∀ k0_t27 : Fin (k0_t27_loop v180).trips, ∀ (k0_h5 : k0_cond5 i = 1#1), 512 ∣ (k0_mult78 v180 k0_t27).toNat) ∧
  (∀ k0_t27 : Fin (k0_t27_loop v180).trips, ∀ (k0_h5 : k0_cond5 i = 1#1), ∀ a, (k0_off190 v180 k0_t27) a + S512x1024.size a ≤ S227328x1024.size a) ∧
  (∀ k0_t27 : Fin (k0_t27_loop v180).trips, ∀ (k0_h5 : k0_cond5 i = 1#1), ∀ (hinb : ∀ a, (k0_off190 v180 k0_t27) a + S512x1024.size a ≤ S227328x1024.size a), (Rect.unit (s := S227328x1024) (k0_off190 v180 k0_t27) S512x1024.size hinb).WholeWords (EltTy.packing .bf16)) ∧
  (∀ (k0_h5 : k0_cond5 i = 1#1), (k0_t28_loop v180).OK) ∧
  (∀ k0_t28 : Fin (k0_t28_loop v180).trips, ∀ (k0_h5 : k0_cond5 i = 1#1), 512 ∣ (k0_mult79 v180 k0_t28).toNat) ∧
  (∀ k0_t28 : Fin (k0_t28_loop v180).trips, ∀ (k0_h5 : k0_cond5 i = 1#1), ∀ a, (k0_off191 v180 k0_t28) a + S512x1024.size a ≤ S227328x1024.size a) ∧
  (∀ k0_t28 : Fin (k0_t28_loop v180).trips, ∀ (k0_h5 : k0_cond5 i = 1#1), ∀ (hinb : ∀ a, (k0_off191 v180 k0_t28) a + S512x1024.size a ≤ S227328x1024.size a), (Rect.unit (s := S227328x1024) (k0_off191 v180 k0_t28) S512x1024.size hinb).WholeWords (EltTy.packing .bf16)) ∧
  (∀ (k0_h5 : k0_cond5 i = 1#1), (k0_t29_loop v180).OK) ∧
  (∀ k0_t29 : Fin (k0_t29_loop v180).trips, ∀ (k0_h5 : k0_cond5 i = 1#1), 512 ∣ (k0_mult80 v180 k0_t29).toNat) ∧
  (∀ k0_t29 : Fin (k0_t29_loop v180).trips, ∀ (k0_h5 : k0_cond5 i = 1#1), ∀ a, (k0_off192 v180 k0_t29) a + S512x1024.size a ≤ S227328x1024.size a) ∧
  (∀ k0_t29 : Fin (k0_t29_loop v180).trips, ∀ (k0_h5 : k0_cond5 i = 1#1), ∀ (hinb : ∀ a, (k0_off192 v180 k0_t29) a + S512x1024.size a ≤ S227328x1024.size a), (Rect.unit (s := S227328x1024) (k0_off192 v180 k0_t29) S512x1024.size hinb).WholeWords (EltTy.packing .bf16))
theorem k0_t26_ok : ∀ (i : grid0.Coords) (v180 : BitVec 32) (k0_hw48 : k0_chk48 i v180), ∀ (k0_h5 : k0_cond5 i = 1#1), (k0_t26_loop v180).OK := fun i v180 k0_hw48 k0_h5 => k0_hw48.1 k0_h5
theorem k0_mult77_dvd : ∀ (i : grid0.Coords) (v180 : BitVec 32) (k0_hw48 : k0_chk48 i v180) (k0_t26 : Fin (k0_t26_loop v180).trips), ∀ (k0_h5 : k0_cond5 i = 1#1), 512 ∣ (k0_mult77 v180 k0_t26).toNat := fun i v180 k0_hw48 k0_t26 k0_h5 => k0_hw48.2.1 k0_t26 k0_h5
theorem k0_off189_inb : ∀ (i : grid0.Coords) (v180 : BitVec 32) (k0_hw48 : k0_chk48 i v180) (k0_t26 : Fin (k0_t26_loop v180).trips), ∀ (k0_h5 : k0_cond5 i = 1#1), ∀ a, (k0_off189 v180 k0_t26) a + S512x1024.size a ≤ S227328x1024.size a := fun i v180 k0_hw48 k0_t26 k0_h5 => k0_hw48.2.2.1 k0_t26 k0_h5
theorem k0_off189_wordsbf16 : ∀ (i : grid0.Coords) (v180 : BitVec 32) (k0_hw48 : k0_chk48 i v180) (k0_t26 : Fin (k0_t26_loop v180).trips), ∀ (k0_h5 : k0_cond5 i = 1#1), (Rect.unit (s := S227328x1024) (k0_off189 v180 k0_t26) S512x1024.size (k0_off189_inb i v180 k0_hw48 k0_t26 k0_h5)).WholeWords (EltTy.packing .bf16) := fun i v180 k0_hw48 k0_t26 k0_h5 => k0_hw48.2.2.2.1 k0_t26 k0_h5 (k0_off189_inb i v180 k0_hw48 k0_t26 k0_h5)
theorem k0_t27_ok : ∀ (i : grid0.Coords) (v180 : BitVec 32) (k0_hw48 : k0_chk48 i v180), ∀ (k0_h5 : k0_cond5 i = 1#1), (k0_t27_loop v180).OK := fun i v180 k0_hw48 k0_h5 => k0_hw48.2.2.2.2.1 k0_h5
theorem k0_mult78_dvd : ∀ (i : grid0.Coords) (v180 : BitVec 32) (k0_hw48 : k0_chk48 i v180) (k0_t27 : Fin (k0_t27_loop v180).trips), ∀ (k0_h5 : k0_cond5 i = 1#1), 512 ∣ (k0_mult78 v180 k0_t27).toNat := fun i v180 k0_hw48 k0_t27 k0_h5 => k0_hw48.2.2.2.2.2.1 k0_t27 k0_h5
theorem k0_off190_inb : ∀ (i : grid0.Coords) (v180 : BitVec 32) (k0_hw48 : k0_chk48 i v180) (k0_t27 : Fin (k0_t27_loop v180).trips), ∀ (k0_h5 : k0_cond5 i = 1#1), ∀ a, (k0_off190 v180 k0_t27) a + S512x1024.size a ≤ S227328x1024.size a := fun i v180 k0_hw48 k0_t27 k0_h5 => k0_hw48.2.2.2.2.2.2.1 k0_t27 k0_h5
theorem k0_off190_wordsbf16 : ∀ (i : grid0.Coords) (v180 : BitVec 32) (k0_hw48 : k0_chk48 i v180) (k0_t27 : Fin (k0_t27_loop v180).trips), ∀ (k0_h5 : k0_cond5 i = 1#1), (Rect.unit (s := S227328x1024) (k0_off190 v180 k0_t27) S512x1024.size (k0_off190_inb i v180 k0_hw48 k0_t27 k0_h5)).WholeWords (EltTy.packing .bf16) := fun i v180 k0_hw48 k0_t27 k0_h5 => k0_hw48.2.2.2.2.2.2.2.1 k0_t27 k0_h5 (k0_off190_inb i v180 k0_hw48 k0_t27 k0_h5)
theorem k0_t28_ok : ∀ (i : grid0.Coords) (v180 : BitVec 32) (k0_hw48 : k0_chk48 i v180), ∀ (k0_h5 : k0_cond5 i = 1#1), (k0_t28_loop v180).OK := fun i v180 k0_hw48 k0_h5 => k0_hw48.2.2.2.2.2.2.2.2.1 k0_h5
theorem k0_mult79_dvd : ∀ (i : grid0.Coords) (v180 : BitVec 32) (k0_hw48 : k0_chk48 i v180) (k0_t28 : Fin (k0_t28_loop v180).trips), ∀ (k0_h5 : k0_cond5 i = 1#1), 512 ∣ (k0_mult79 v180 k0_t28).toNat := fun i v180 k0_hw48 k0_t28 k0_h5 => k0_hw48.2.2.2.2.2.2.2.2.2.1 k0_t28 k0_h5
theorem k0_off191_inb : ∀ (i : grid0.Coords) (v180 : BitVec 32) (k0_hw48 : k0_chk48 i v180) (k0_t28 : Fin (k0_t28_loop v180).trips), ∀ (k0_h5 : k0_cond5 i = 1#1), ∀ a, (k0_off191 v180 k0_t28) a + S512x1024.size a ≤ S227328x1024.size a := fun i v180 k0_hw48 k0_t28 k0_h5 => k0_hw48.2.2.2.2.2.2.2.2.2.2.1 k0_t28 k0_h5
theorem k0_off191_wordsbf16 : ∀ (i : grid0.Coords) (v180 : BitVec 32) (k0_hw48 : k0_chk48 i v180) (k0_t28 : Fin (k0_t28_loop v180).trips), ∀ (k0_h5 : k0_cond5 i = 1#1), (Rect.unit (s := S227328x1024) (k0_off191 v180 k0_t28) S512x1024.size (k0_off191_inb i v180 k0_hw48 k0_t28 k0_h5)).WholeWords (EltTy.packing .bf16) := fun i v180 k0_hw48 k0_t28 k0_h5 => k0_hw48.2.2.2.2.2.2.2.2.2.2.2.1 k0_t28 k0_h5 (k0_off191_inb i v180 k0_hw48 k0_t28 k0_h5)
theorem k0_t29_ok : ∀ (i : grid0.Coords) (v180 : BitVec 32) (k0_hw48 : k0_chk48 i v180), ∀ (k0_h5 : k0_cond5 i = 1#1), (k0_t29_loop v180).OK := fun i v180 k0_hw48 k0_h5 => k0_hw48.2.2.2.2.2.2.2.2.2.2.2.2.1 k0_h5
theorem k0_mult80_dvd : ∀ (i : grid0.Coords) (v180 : BitVec 32) (k0_hw48 : k0_chk48 i v180) (k0_t29 : Fin (k0_t29_loop v180).trips), ∀ (k0_h5 : k0_cond5 i = 1#1), 512 ∣ (k0_mult80 v180 k0_t29).toNat := fun i v180 k0_hw48 k0_t29 k0_h5 => k0_hw48.2.2.2.2.2.2.2.2.2.2.2.2.2.1 k0_t29 k0_h5
theorem k0_off192_inb : ∀ (i : grid0.Coords) (v180 : BitVec 32) (k0_hw48 : k0_chk48 i v180) (k0_t29 : Fin (k0_t29_loop v180).trips), ∀ (k0_h5 : k0_cond5 i = 1#1), ∀ a, (k0_off192 v180 k0_t29) a + S512x1024.size a ≤ S227328x1024.size a := fun i v180 k0_hw48 k0_t29 k0_h5 => k0_hw48.2.2.2.2.2.2.2.2.2.2.2.2.2.2.1 k0_t29 k0_h5
theorem k0_off192_wordsbf16 : ∀ (i : grid0.Coords) (v180 : BitVec 32) (k0_hw48 : k0_chk48 i v180) (k0_t29 : Fin (k0_t29_loop v180).trips), ∀ (k0_h5 : k0_cond5 i = 1#1), (Rect.unit (s := S227328x1024) (k0_off192 v180 k0_t29) S512x1024.size (k0_off192_inb i v180 k0_hw48 k0_t29 k0_h5)).WholeWords (EltTy.packing .bf16) := fun i v180 k0_hw48 k0_t29 k0_h5 => k0_hw48.2.2.2.2.2.2.2.2.2.2.2.2.2.2.2 k0_t29 k0_h5 (k0_off192_inb i v180 k0_hw48 k0_t29 k0_h5)

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S64 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S64 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S64 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .smem S1x1x256 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .smem S1x1x128 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x256 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S64 : Shape := ⟨1, ![64]⟩
abbrev S1 : Shape := ⟨1, ![1]⟩
abbrev S64x1x256 : Shape := ⟨3, ![64, 1, 256]⟩
abbrev S1x1x128 : Shape := ⟨3, ![1, 1, 128]⟩
abbrev S8x16384 : Shape := ⟨2, ![8, 16384]⟩
abbrev S16384x1024 : Shape := ⟨2, ![16384, 1024]⟩
abbrev S8x128 : Shape := ⟨2, ![8, 128]⟩
abbrev S128x1024 : Shape := ⟨2, ![128, 1024]⟩
abbrev S16384 : Shape := ⟨1, ![16384]⟩
abbrev S_ : Shape := ⟨0, ![]⟩
abbrev S1x16384 : Shape := ⟨2, ![1, 16384]⟩
abbrev S8x16384x1 : Shape := ⟨3, ![8, 16384, 1]⟩
abbrev S128 : Shape := ⟨1, ![128]⟩
abbrev S8x128x1 : Shape := ⟨3, ![8, 128, 1]⟩
abbrev S8x16512 : Shape := ⟨2, ![8, 16512]⟩
abbrev S227328 : Shape := ⟨1, ![227328]⟩
abbrev S8x16512x1 : Shape := ⟨3, ![8, 16512, 1]⟩
abbrev S1x1024 : Shape := ⟨2, ![1, 1024]⟩
abbrev S16513x1024 : Shape := ⟨2, ![16513, 1024]⟩
abbrev S227328x1 : Shape := ⟨2, ![227328, 1]⟩
abbrev S227328x1024 : Shape := ⟨2, ![227328, 1024]⟩

abbrev nBuf : Space → Nat
  | .hbm => 87
  | .vmem => 0
  | .smem => 0
  | _ => 0

abbrev bufTy : (tb : Table) → Fin (tcTables nBuf tb) → BufTy
  | .hbm, ⟨0, _⟩ => ⟨S64, .i32⟩
  | .hbm, ⟨1, _⟩ => ⟨S1, .i32⟩
  | .hbm, ⟨2, _⟩ => ⟨S64, .i32⟩
  | .hbm, ⟨3, _⟩ => ⟨S64, .i32⟩
  | .hbm, ⟨4, _⟩ => ⟨S1, .i32⟩
  | .hbm, ⟨5, _⟩ => ⟨S64x1x256, .i32⟩
  | .hbm, ⟨6, _⟩ => ⟨S1x1x128, .i32⟩
  | .hbm, ⟨7, _⟩ => ⟨S8x16384, .i32⟩
  | .hbm, ⟨8, _⟩ => ⟨S16384x1024, .bf16⟩
  | .hbm, ⟨9, _⟩ => ⟨S8x128, .i32⟩
  | .hbm, ⟨10, _⟩ => ⟨S128x1024, .bf16⟩
  | .hbm, ⟨11, _⟩ => ⟨S16384, .i32⟩
  | .hbm, ⟨12, _⟩ => ⟨S_, .i32⟩
  | .hbm, ⟨13, _⟩ => ⟨S16384, .i32⟩
  | .hbm, ⟨14, _⟩ => ⟨S16384, .i32⟩
  | .hbm, ⟨15, _⟩ => ⟨S16384, .i32⟩
  | .hbm, ⟨16, _⟩ => ⟨S1x16384, .i32⟩
  | .hbm, ⟨17, _⟩ => ⟨S_, .i32⟩
  | .hbm, ⟨18, _⟩ => ⟨S1x16384, .i32⟩
  | .hbm, ⟨19, _⟩ => ⟨S1x16384, .i32⟩
  | .hbm, ⟨20, _⟩ => ⟨S_, .i32⟩
  | .hbm, ⟨21, _⟩ => ⟨S8x16384, .i32⟩
  | .hbm, ⟨22, _⟩ => ⟨S8x16384, .i32⟩
  | .hbm, ⟨23, _⟩ => ⟨S8x16384, .i32⟩
  | .hbm, ⟨24, _⟩ => ⟨S8x16384, .i32⟩
  | .hbm, ⟨25, _⟩ => ⟨S_, .i32⟩
  | .hbm, ⟨26, _⟩ => ⟨S8x16384, .i32⟩
  | .hbm, ⟨27, _⟩ => ⟨S8x16384, .i1⟩
  | .hbm, ⟨28, _⟩ => ⟨S_, .i32⟩
  | .hbm, ⟨29, _⟩ => ⟨S8x16384, .i32⟩
  | .hbm, ⟨30, _⟩ => ⟨S8x16384, .i32⟩
  | .hbm, ⟨31, _⟩ => ⟨S8x16384, .i32⟩
  | .hbm, ⟨32, _⟩ => ⟨S8x16384x1, .i32⟩
  | .hbm, ⟨33, _⟩ => ⟨S8x16384, .i32⟩
  | .hbm, ⟨34, _⟩ => ⟨S128, .i32⟩
  | .hbm, ⟨35, _⟩ => ⟨S_, .i32⟩
  | .hbm, ⟨36, _⟩ => ⟨S8x128, .i32⟩
  | .hbm, ⟨37, _⟩ => ⟨S8x128, .i32⟩
  | .hbm, ⟨38, _⟩ => ⟨S_, .i32⟩
  | .hbm, ⟨39, _⟩ => ⟨S8x128, .i32⟩
  | .hbm, ⟨40, _⟩ => ⟨S8x128, .i1⟩
  | .hbm, ⟨41, _⟩ => ⟨S_, .i32⟩
  | .hbm, ⟨42, _⟩ => ⟨S8x128, .i32⟩
  | .hbm, ⟨43, _⟩ => ⟨S8x128, .i32⟩
  | .hbm, ⟨44, _⟩ => ⟨S8x128, .i32⟩
  | .hbm, ⟨45, _⟩ => ⟨S8x128x1, .i32⟩
  | .hbm, ⟨46, _⟩ => ⟨S8x128, .i32⟩
  | .hbm, ⟨47, _⟩ => ⟨S_, .i32⟩
  | .hbm, ⟨48, _⟩ => ⟨S8x16384, .i32⟩
  | .hbm, ⟨49, _⟩ => ⟨S8x16384, .i32⟩
  | .hbm, ⟨50, _⟩ => ⟨S8x16384, .i32⟩
  | .hbm, ⟨51, _⟩ => ⟨S_, .i32⟩
  | .hbm, ⟨52, _⟩ => ⟨S8x128, .i32⟩
  | .hbm, ⟨53, _⟩ => ⟨S8x128, .i32⟩
  | .hbm, ⟨54, _⟩ => ⟨S8x128, .i32⟩
  | .hbm, ⟨55, _⟩ => ⟨S16384, .i32⟩
  | .hbm, ⟨56, _⟩ => ⟨S8x16384, .i32⟩
  | .hbm, ⟨57, _⟩ => ⟨S128, .i32⟩
  | .hbm, ⟨58, _⟩ => ⟨S_, .i32⟩
  | .hbm, ⟨59, _⟩ => ⟨S128, .i32⟩
  | .hbm, ⟨60, _⟩ => ⟨S128, .i32⟩
  | .hbm, ⟨61, _⟩ => ⟨S8x128, .i32⟩
  | .hbm, ⟨62, _⟩ => ⟨S8x16512, .i32⟩
  | .hbm, ⟨63, _⟩ => ⟨S8x16512, .i32⟩
  | .hbm, ⟨64, _⟩ => ⟨S_, .i32⟩
  | .hbm, ⟨65, _⟩ => ⟨S227328, .i32⟩
  | .hbm, ⟨66, _⟩ => ⟨S_, .i32⟩
  | .hbm, ⟨67, _⟩ => ⟨S8x16512, .i32⟩
  | .hbm, ⟨68, _⟩ => ⟨S8x16512, .i1⟩
  | .hbm, ⟨69, _⟩ => ⟨S_, .i32⟩
  | .hbm, ⟨70, _⟩ => ⟨S8x16512, .i32⟩
  | .hbm, ⟨71, _⟩ => ⟨S8x16512, .i32⟩
  | .hbm, ⟨72, _⟩ => ⟨S8x16512, .i32⟩
  | .hbm, ⟨73, _⟩ => ⟨S8x16512x1, .i32⟩
  | .hbm, ⟨74, _⟩ => ⟨S227328, .i32⟩
  | .hbm, ⟨75, _⟩ => ⟨S_, .bf16⟩
  | .hbm, ⟨76, _⟩ => ⟨S1x1024, .bf16⟩
  | .hbm, ⟨77, _⟩ => ⟨S16513x1024, .bf16⟩
  | .hbm, ⟨78, _⟩ => ⟨S_, .i32⟩
  | .hbm, ⟨79, _⟩ => ⟨S227328, .i32⟩
  | .hbm, ⟨80, _⟩ => ⟨S227328, .i1⟩
  | .hbm, ⟨81, _⟩ => ⟨S_, .i32⟩
  | .hbm, ⟨82, _⟩ => ⟨S227328, .i32⟩
  | .hbm, ⟨83, _⟩ => ⟨S227328, .i32⟩
  | .hbm, ⟨84, _⟩ => ⟨S227328, .i32⟩
  | .hbm, ⟨85, _⟩ => ⟨S227328x1, .i32⟩
  | .hbm, ⟨86, _⟩ => ⟨S227328x1024, .bf16⟩
  | _, _ => ⟨S64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c_0 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_2 : Ref sig .tc := ⟨.hbm, 25, rfl⟩
abbrev main_v11 : Ref sig .tc := ⟨.hbm, 26, rfl⟩
abbrev main_v12 : Ref sig .tc := ⟨.hbm, 27, rfl⟩
abbrev main_c_3 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_c_6 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_7 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_8 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_9 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c_10 : Ref sig .tc := ⟨.hbm, 64, rfl⟩
abbrev main_v42 : Ref sig .tc := ⟨.hbm, 65, rfl⟩
abbrev main_c_11 : Ref sig .tc := ⟨.hbm, 66, rfl⟩
abbrev main_v43 : Ref sig .tc := ⟨.hbm, 67, rfl⟩
abbrev main_v44 : Ref sig .tc := ⟨.hbm, 68, rfl⟩
abbrev main_c_12 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst : Ref sig .tc := ⟨.hbm, 75, rfl⟩
abbrev main_v50 : Ref sig .tc := ⟨.hbm, 76, rfl⟩
abbrev main_v51 : Ref sig .tc := ⟨.hbm, 77, rfl⟩
abbrev main_c_13 : Ref sig .tc := ⟨.hbm, 78, rfl⟩
abbrev main_v52 : Ref sig .tc := ⟨.hbm, 79, rfl⟩
abbrev main_v53 : Ref sig .tc := ⟨.hbm, 80, rfl⟩
abbrev main_c_14 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩

abbrev nD : Nat := 1
abbrev τ : Topo := Topo.v7x

variable {F : FTy → Type} [FloatOps F]
-- ==== Kernel2.lean ====
abbrev S8x256x1024 : Shape := ⟨3, ![8, 256, 1024]⟩
abbrev S1x1024 : Shape := ⟨2, ![1, 1024]⟩
abbrev S1x1024x1024 : Shape := ⟨3, ![1, 1024, 1024]⟩
abbrev S1024 : Shape := ⟨1, ![1024]⟩
abbrev S1024x1024 : Shape := ⟨2, ![1024, 1024]⟩
abbrev S8x256x4x256 : Shape := ⟨4, ![8, 256, 4, 256]⟩
abbrev S1x256x1024 : Shape := ⟨3, ![1, 256, 1024]⟩
abbrev S1x256x4x256 : Shape := ⟨4, ![1, 256, 4, 256]⟩
abbrev S256x1024 : Shape := ⟨2, ![256, 1024]⟩
abbrev S256 : Shape := ⟨1, ![256]⟩
abbrev S256x1 : Shape := ⟨2, ![256, 1]⟩
abbrev S256x4x256 : Shape := ⟨3, ![256, 4, 256]⟩

abbrev nBuf : Space → Nat
  | .hbm => 14
  | .vmem => 13
  | .smem => 0
  | _ => 0

abbrev bufTy : (tb : Table) → Fin (tcTables nBuf tb) → BufTy
  | .hbm, ⟨0, _⟩ => ⟨S8x256x1024, .f32⟩
  | .hbm, ⟨1, _⟩ => ⟨S1x1024, .f32⟩
  | .hbm, ⟨2, _⟩ => ⟨S1x1024x1024, .f32⟩
  | .hbm, ⟨3, _⟩ => ⟨S1x1024x1024, .f32⟩
  | .hbm, ⟨4, _⟩ => ⟨S1024, .f32⟩
  | .hbm, ⟨5, _⟩ => ⟨S1x1024, .f32⟩
  | .hbm, ⟨6, _⟩ => ⟨S1024x1024, .f32⟩
  | .hbm, ⟨7, _⟩ => ⟨S1024x1024, .bf16⟩
  | .hbm, ⟨8, _⟩ => ⟨S1024x1024, .f32⟩
  | .hbm, ⟨9, _⟩ => ⟨S1024x1024, .bf16⟩
  | .hbm, ⟨10, _⟩ => ⟨S8x256x4x256, .f32⟩
  | .hbm, ⟨11, _⟩ => ⟨S8x256x4x256, .f32⟩
  | .hbm, ⟨12, _⟩ => ⟨S8x256x1024, .bf16⟩
  | .hbm, ⟨13, _⟩ => ⟨S8x256x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1x256x4x256, .f32⟩
  | .local _ .vmem, ⟨6, _⟩ => ⟨S1x256x4x256, .f32⟩
  | .local _ .vmem, ⟨7, _⟩ => ⟨S1x256x4x256, .f32⟩
  | .local _ .vmem, ⟨8, _⟩ => ⟨S1x256x4x256, .f32⟩
  | .local _ .vmem, ⟨9, _⟩ => ⟨S1x256x1024, .bf16⟩
  | .local _ .vmem, ⟨10, _⟩ => ⟨S1x256x1024, .bf16⟩
  | .local _ .vmem, ⟨11, _⟩ => ⟨S1x256x1024, .bf16⟩
  | .local _ .vmem, ⟨12, _⟩ => ⟨S1x256x1024, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x4x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x4x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S8x256x1024 : Shape := ⟨3, ![8, 256, 1024]⟩
abbrev S1x1024 : Shape := ⟨2, ![1, 1024]⟩
abbrev S1x1024x1024 : Shape := ⟨3, ![1, 1024, 1024]⟩
abbrev S_ : Shape := ⟨0, ![]⟩
abbrev S8x256 : Shape := ⟨2, ![8, 256]⟩
abbrev S8x256x1 : Shape := ⟨3, ![8, 256, 1]⟩
abbrev S1024 : Shape := ⟨1, ![1024]⟩
abbrev S1x1x1024 : Shape := ⟨3, ![1, 1, 1024]⟩
abbrev S1024x1024 : Shape := ⟨2, ![1024, 1024]⟩
abbrev S8x256x4x256 : Shape := ⟨4, ![8, 256, 4, 256]⟩

abbrev nBuf : Space → Nat
  | .hbm => 29
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1x1024, .f32⟩
  | .hbm, ⟨2, _⟩ => ⟨S1x1024x1024, .f32⟩
  | .hbm, ⟨3, _⟩ => ⟨S1x1024x1024, .f32⟩
  | .hbm, ⟨4, _⟩ => ⟨S8x256x1024, .f32⟩
  | .hbm, ⟨5, _⟩ => ⟨S_, .f32⟩
  | .hbm, ⟨6, _⟩ => ⟨S8x256, .f32⟩
  | .hbm, ⟨7, _⟩ => ⟨S8x256x1, .f32⟩
  | .hbm, ⟨8, _⟩ => ⟨S_, .f32⟩
  | .hbm, ⟨9, _⟩ => ⟨S8x256x1, .f32⟩
  | .hbm, ⟨10, _⟩ => ⟨S8x256x1, .f32⟩
  | .hbm, ⟨11, _⟩ => ⟨S_, .f32⟩
  | .hbm, ⟨12, _⟩ => ⟨S8x256x1, .f32⟩
  | .hbm, ⟨13, _⟩ => ⟨S8x256x1, .f32⟩
  | .hbm, ⟨14, _⟩ => ⟨S8x256x1, .f32⟩
  | .hbm, ⟨15, _⟩ => ⟨S8x256x1024, .f32⟩
  | .hbm, ⟨16, _⟩ => ⟨S8x256x1024, .f32⟩
  | .hbm, ⟨17, _⟩ => ⟨S1024, .f32⟩
  | .hbm, ⟨18, _⟩ => ⟨S1x1x1024, .f32⟩
  | .hbm, ⟨19, _⟩ => ⟨S8x256x1024, .f32⟩
  | .hbm, ⟨20, _⟩ => ⟨S8x256x1024, .f32⟩
  | .hbm, ⟨21, _⟩ => ⟨S1024x1024, .f32⟩
  | .hbm, ⟨22, _⟩ => ⟨S8x256x1024, .f32⟩
  | .hbm, ⟨23, _⟩ => ⟨S1024x1024, .f32⟩
  | .hbm, ⟨24, _⟩ => ⟨S8x256x1024, .f32⟩
  | .hbm, ⟨25, _⟩ => ⟨S8x256x4x256, .f32⟩
  | .hbm, ⟨26, _⟩ => ⟨S8x256x4x256, .f32⟩
  | .hbm, ⟨27, _⟩ => ⟨S8x256x1024, .bf16⟩
  | .hbm, ⟨28, _⟩ => ⟨S8x256x1024, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Kernel3.lean ====
abbrev S444 : Shape := ⟨1, ![444]⟩
abbrev S1 : Shape := ⟨1, ![1]⟩
abbrev S227328x1024 : Shape := ⟨2, ![227328, 1024]⟩
abbrev S1x64x1024x256 : Shape := ⟨4, ![1, 64, 1024, 256]⟩
abbrev S1x64x256x1024 : Shape := ⟨4, ![1, 64, 256, 1024]⟩
abbrev S64x1024x256 : Shape := ⟨3, ![64, 1024, 256]⟩
abbrev S64x256x1024 : Shape := ⟨3, ![64, 256, 1024]⟩
abbrev S1024x1024 : Shape := ⟨2, ![1024, 1024]⟩
abbrev S1x1024x256 : Shape := ⟨3, ![1, 1024, 256]⟩
abbrev S1x256x1024 : Shape := ⟨3, ![1, 256, 1024]⟩
abbrev S1024x512 : Shape := ⟨2, ![1024, 512]⟩
abbrev S256x1024 : Shape := ⟨2, ![256, 1024]⟩
abbrev S1024x256 : Shape := ⟨2, ![1024, 256]⟩
abbrev S512x1024 : Shape := ⟨2, ![512, 1024]⟩
abbrev S512x512 : Shape := ⟨2, ![512, 512]⟩
abbrev S512x256 : Shape := ⟨2, ![512, 256]⟩

abbrev nBuf : Space → Nat
  | .hbm => 8
  | .vmem => 20
  | .smem => 2
  | _ => 0

abbrev bufTy : (tb : Table) → Fin (tcTables nBuf tb) → BufTy
  | .hbm, ⟨0, _⟩ => ⟨S227328x1024, .bf16⟩
  | .hbm, ⟨1, _⟩ => ⟨S1x64x1024x256, .f32⟩
  | .hbm, ⟨2, _⟩ => ⟨S1x64x1024x256, .f32⟩
  | .hbm, ⟨3, _⟩ => ⟨S1x64x256x1024, .f32⟩
  | .hbm, ⟨4, _⟩ => ⟨S64x1024x256, .f32⟩
  | .hbm, ⟨5, _⟩ => ⟨S64x1024x256, .f32⟩
  | .hbm, ⟨6, _⟩ => ⟨S64x256x1024, .f32⟩
  | .hbm, ⟨7, _⟩ => ⟨S227328x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x256x1024, .f32⟩
  | .local _ .vmem, ⟨7, _⟩ => ⟨S1x256x1024, .f32⟩
  | .local _ .vmem, ⟨8, _⟩ => ⟨S1x1024x256, .f32⟩
  | .local _ .vmem, ⟨9, _⟩ => ⟨S1x1024x256, .f32⟩
  | .local _ .vmem, ⟨10, _⟩ => ⟨S1x1024x256, .f32⟩
  | .local _ .vmem, ⟨11, _⟩ => ⟨S1x1024x256, .f32⟩
  | .local _ .vmem, ⟨12, _⟩ => ⟨S1x256x1024, .f32⟩
  | .local _ .vmem, ⟨13, _⟩ => ⟨S1x256x1024, .f32⟩
  | .local _ .vmem, ⟨14, _⟩ => ⟨S1024x1024, .bf16⟩
  | .local _ .vmem, ⟨15, _⟩ => ⟨S1024x1024, .bf16⟩
  | .local _ .vmem, ⟨16, _⟩ => ⟨S1024x512, .bf16⟩
  | .local _ .vmem, ⟨17, _⟩ => ⟨S256x1024, .bf16⟩
  | .local _ .vmem, ⟨18, _⟩ => ⟨S1024x512, .bf16⟩
  | .local _ .vmem, ⟨19, _⟩ => ⟨S256x1024, .bf16⟩
  | .local _ .smem, ⟨0, _⟩ => ⟨S444, .i32⟩
  | .local _ .smem, ⟨1, _⟩ => ⟨S1, .i32⟩
  | _, _ => ⟨S227328x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![222], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) (c0_i32 : BitVec 32) : Fin 1 → Nat :=
  let arg0 : BitVec 32 := BitVec.ofNat 32 (i 0).val
  let c2_i32 : BitVec 32 := 2#32
  let v0 : BitVec 32 := Scalar.muli arg0 c2_i32
  let v1 : BitVec 32 := Scalar.addi v0 c0_i32
  let v2 : Index := Scalar.indexCast v1
  ![v2.toNat]
def k0_off2 (i : grid0.Coords) : Fin 1 → Nat :=
  let arg0 : BitVec 32 := BitVec.ofNat 32 (i 0).val
  let c2_i32 : BitVec 32 := 2#32
  let v1 : BitVec 32 := Scalar.muli arg0 c2_i32
  let c0_i32 : BitVec 32 := 0#32
  let v2 : BitVec 32 := Scalar.addi v1 c0_i32
  let c2_i32_1 : BitVec 32 := 2#32
  let v6 : BitVec 32 := Scalar.subi v2 c2_i32_1
  let c0_i32_2 : BitVec 32 := 0#32
  let v7 : BitVec 32 := Scalar.maxsi v6 c0_i32_2
  let v8 : Index := Scalar.indexCast v7
  ![v8.toNat]
def k0_off3 (i : grid0.Coords) : Fin 1 → Nat :=
  let arg0 : BitVec 32 := BitVec.ofNat 32 (i 0).val
  let c2_i32_4 : BitVec 32 := 2#32
  let v16 : BitVec 32 := Scalar.muli arg0 c2_i32_4
  let c1_i32 : BitVec 32 := 1#32
  let v17 : BitVec 32 := Scalar.addi v16 c1_i32
  let v19 : Index := Scalar.indexCast v17
  ![v19.toNat]
def k0_off4 (i : grid0.Coords) : Fin 1 → Nat :=
  let arg0 : BitVec 32 := BitVec.ofNat 32 (i 0).val
  let c2_i32_4 : BitVec 32 := 2#32
  let v16 : BitVec 32 := Scalar.muli arg0 c2_i32_4
  let c1_i32 : BitVec 32 := 1#32
  let v17 : BitVec 32 := Scalar.addi v16 c1_i32
  let c2_i32_6 : BitVec 32 := 2#32
  let v21 : BitVec 32 := Scalar.subi v17 c2_i32_6
  let c0_i32_7 : BitVec 32 := 0#32
  let v22 : BitVec 32 := Scalar.maxsi v21 c0_i32_7
  let v23 : Index := Scalar.indexCast v22
  ![v23.toNat]
def k0_cond3 (i : grid0.Coords) (v0 : BitVec 32) : BitVec 1 :=
  let arg0 : BitVec 32 := BitVec.ofNat 32 (i 0).val
  let c2_i32_9 : BitVec 32 := 2#32
  let v31 : BitVec 32 := Scalar.muli arg0 c2_i32_9
  let v32 : BitVec 1 := Scalar.cmpi .slt v31 v0
  let v33 : BitVec 32 := Scalar.extui v32
  let c0_i32_10 : BitVec 32 := 0#32
  let v34 : BitVec 1 := Scalar.cmpi .ne v33 c0_i32_10
  v34

def k0_cond4 (i : grid0.Coords) (v0 : BitVec 32) : BitVec 1 :=
  let arg0 : BitVec 32 := BitVec.ofNat 32 (i 0).val
  let c2_i32_11 : BitVec 32 := 2#32
  let v35 : BitVec 32 := Scalar.muli arg0 c2_i32_11
  let v36 : BitVec 1 := Scalar.cmpi .sge v35 v0
  let v37 : BitVec 32 := Scalar.extui v36
  let c0_i32_12 : BitVec 32 := 0#32
  let v38 : BitVec 1 := Scalar.cmpi .ne v37 c0_i32_12
  v38

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let v19 : BitVec 32 := Scalar.minsi arg0 v18
  let c0_i32_5 : BitVec 32 := 0#32
  let c0_i32_6 : BitVec 32 := 0#32
  ![v19.toNat, c0_i32_5.toNat]

def cc0_transform_1 (k0_off1_inb : ∀ i : grid0.Coords, ∀ (r : Fin 2), ∀ a, (k0_off1 i (BitVec.ofNat 32 r.val)) a + S1.size a ≤ S444.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  let v3 : BitVec 32 := pf.at 0 (Rect.unit (s := S444) ![v2.toNat] S1.size (k0_off1_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc0_transform_2 (k0_off1_inb : ∀ i : grid0.Coords, ∀ (r : Fin 2), ∀ a, (k0_off1 i (BitVec.ofNat 32 r.val)) a + S1.size a ≤ S444.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  let v3 : BitVec 32 := pf.at 0 (Rect.unit (s := S444) ![v2.toNat] S1.size (k0_off1_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc0_transform_3 (k0_off1_inb : ∀ i : grid0.Coords, ∀ (r : Fin 2), ∀ a, (k0_off1 i (BitVec.ofNat 32 r.val)) a + S1.size a ≤ S444.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  let v3 : BitVec 32 := pf.at 0 (Rect.unit (s := S444) ![v2.toNat] S1.size (k0_off1_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc0_transform_4 (k0_off1_inb : ∀ i : grid0.Coords, ∀ (r : Fin 2), ∀ a, (k0_off1 i (BitVec.ofNat 32 r.val)) a + S1.size a ≤ S444.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let v2 : Index := Scalar.indexCast v1
  let v3 : BitVec 32 := pf.at 0 (Rect.unit (s := S444) ![v2.toNat] S1.size (k0_off1_inb i 1)) numel1_S1
  let c0_i32 : BitVec 32 := 0#32
  let c0_i32_0 : BitVec 32 := 0#32
  let c0_i32_1 : BitVec 32 := 0#32
  ![v3.toNat, c0_i32.toNat, c0_i32_0.toNat]

def cc0_transform_5 (k0_off1_inb : ∀ i : grid0.Coords, ∀ (r : Fin 2), ∀ a, (k0_off1 i (BitVec.ofNat 32 r.val)) a + S1.size a ≤ S444.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let v2 : Index := Scalar.indexCast v1
  let v3 : BitVec 32 := pf.at 0 (Rect.unit (s := S444) ![v2.toNat] S1.size (k0_off1_inb i 1)) numel1_S1
  let c0_i32 : BitVec 32 := 0#32
  let c0_i32_0 : BitVec 32 := 0#32
  let c0_i32_1 : BitVec 32 := 0#32
  ![v3.toNat, c0_i32.toNat, c0_i32_0.toNat]

def cc0_transform_6 (k0_off1_inb : ∀ i : grid0.Coords, ∀ (r : Fin 2), ∀ a, (k0_off1 i (BitVec.ofNat 32 r.val)) a + S1.size a ≤ S444.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let v2 : Index := Scalar.indexCast v1
  let v3 : BitVec 32 := pf.at 0 (Rect.unit (s := S444) ![v2.toNat] S1.size (k0_off1_inb i 1)) numel1_S1
  let c0_i32 : BitVec 32 := 0#32
  let c0_i32_0 : BitVec 32 := 0#32
  let c0_i32_1 : BitVec 32 := 0#32
  ![v3.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S444 : Shape := ⟨1, ![444]⟩
abbrev S1 : Shape := ⟨1, ![1]⟩
abbrev S227328x1024 : Shape := ⟨2, ![227328, 1024]⟩
abbrev S1x64x1024x256 : Shape := ⟨4, ![1, 64, 1024, 256]⟩
abbrev S1x64x256x1024 : Shape := ⟨4, ![1, 64, 256, 1024]⟩
abbrev S444x512x1024 : Shape := ⟨3, ![444, 512, 1024]⟩
abbrev S64x1024x256 : Shape := ⟨3, ![64, 1024, 256]⟩
abbrev S_ : Shape := ⟨0, ![]⟩
abbrev S444x1 : Shape := ⟨2, ![444, 1]⟩
abbrev S444x1024x256 : Shape := ⟨3, ![444, 1024, 256]⟩
abbrev S64x256x1024 : Shape := ⟨3, ![64, 256, 1024]⟩
abbrev S444x256x1024 : Shape := ⟨3, ![444, 256, 1024]⟩
abbrev S444x512x256 : Shape := ⟨3, ![444, 512, 256]⟩
abbrev S444x1x1 : Shape := ⟨3, ![444, 1, 1]⟩

abbrev nBuf : Space → Nat
  | .hbm => 63
  | .vmem => 0
  | .smem => 0
  | _ => 0

abbrev bufTy : (tb : Table) → Fin (tcTables nBuf tb) → BufTy
  | .hbm, ⟨0, _⟩ => ⟨S444, .i32⟩
  | .hbm, ⟨1, _⟩ => ⟨S1, .i32⟩
  | .hbm, ⟨2, _⟩ => ⟨S227328x1024, .bf16⟩
  | .hbm, ⟨3, _⟩ => ⟨S1x64x1024x256, .f32⟩
  | .hbm, ⟨4, _⟩ => ⟨S1x64x1024x256, .f32⟩
  | .hbm, ⟨5, _⟩ => ⟨S1x64x256x1024, .f32⟩
  | .hbm, ⟨6, _⟩ => ⟨S227328x1024, .f32⟩
  | .hbm, ⟨7, _⟩ => ⟨S444x512x1024, .f32⟩
  | .hbm, ⟨8, _⟩ => ⟨S64x1024x256, .f32⟩
  | .hbm, ⟨9, _⟩ => ⟨S_, .i32⟩
  | .hbm, ⟨10, _⟩ => ⟨S444, .i32⟩
  | .hbm, ⟨11, _⟩ => ⟨S444, .i1⟩
  | .hbm, ⟨12, _⟩ => ⟨S_, .i32⟩
  | .hbm, ⟨13, _⟩ => ⟨S444, .i32⟩
  | .hbm, ⟨14, _⟩ => ⟨S444, .i32⟩
  | .hbm, ⟨15, _⟩ => ⟨S444, .i32⟩
  | .hbm, ⟨16, _⟩ => ⟨S444x1, .i32⟩
  | .hbm, ⟨17, _⟩ => ⟨S444x1024x256, .f32⟩
  | .hbm, ⟨18, _⟩ => ⟨S64x1024x256, .f32⟩
  | .hbm, ⟨19, _⟩ => ⟨S_, .i32⟩
  | .hbm, ⟨20, _⟩ => ⟨S444, .i32⟩
  | .hbm, ⟨21, _⟩ => ⟨S444, .i1⟩
  | .hbm, ⟨22, _⟩ => ⟨S_, .i32⟩
  | .hbm, ⟨23, _⟩ => ⟨S444, .i32⟩
  | .hbm, ⟨24, _⟩ => ⟨S444, .i32⟩
  | .hbm, ⟨25, _⟩ => ⟨S444, .i32⟩
  | .hbm, ⟨26, _⟩ => ⟨S444x1, .i32⟩
  | .hbm, ⟨27, _⟩ => ⟨S444x1024x256, .f32⟩
  | .hbm, ⟨28, _⟩ => ⟨S64x256x1024, .f32⟩
  | .hbm, ⟨29, _⟩ => ⟨S_, .i32⟩
  | .hbm, ⟨30, _⟩ => ⟨S444, .i32⟩
  | .hbm, ⟨31, _⟩ => ⟨S444, .i1⟩
  | .hbm, ⟨32, _⟩ => ⟨S_, .i32⟩
  | .hbm, ⟨33, _⟩ => ⟨S444, .i32⟩
  | .hbm, ⟨34, _⟩ => ⟨S444, .i32⟩
  | .hbm, ⟨35, _⟩ => ⟨S444, .i32⟩
  | .hbm, ⟨36, _⟩ => ⟨S444x1, .i32⟩
  | .hbm, ⟨37, _⟩ => ⟨S444x256x1024, .f32⟩
  | .hbm, ⟨38, _⟩ => ⟨S444x512x256, .f32⟩
  | .hbm, ⟨39, _⟩ => ⟨S444x512x256, .f32⟩
  | .hbm, ⟨40, _⟩ => ⟨S444x512x256, .f32⟩
  | .hbm, ⟨41, _⟩ => ⟨S_, .f32⟩
  | .hbm, ⟨42, _⟩ => ⟨S444x512x256, .f32⟩
  | .hbm, ⟨43, _⟩ => ⟨S444x512x256, .f32⟩
  | .hbm, ⟨44, _⟩ => ⟨S_, .f32⟩
  | .hbm, ⟨45, _⟩ => ⟨S444x512x256, .f32⟩
  | .hbm, ⟨46, _⟩ => ⟨S444x512x256, .f32⟩
  | .hbm, ⟨47, _⟩ => ⟨S444x512x256, .f32⟩
  | .hbm, ⟨48, _⟩ => ⟨S444x512x256, .f32⟩
  | .hbm, ⟨49, _⟩ => ⟨S444x512x256, .f32⟩
  | .hbm, ⟨50, _⟩ => ⟨S444x512x1024, .f32⟩
  | .hbm, ⟨51, _⟩ => ⟨S444, .i32⟩
  | .hbm, ⟨52, _⟩ => ⟨S_, .i32⟩
  | .hbm, ⟨53, _⟩ => ⟨S444, .i32⟩
  | .hbm, ⟨54, _⟩ => ⟨S444, .i1⟩
  | .hbm, ⟨55, _⟩ => ⟨S444x1x1, .i1⟩
  | .hbm, ⟨56, _⟩ => ⟨S_, .f32⟩
  | .hbm, ⟨57, _⟩ => ⟨S_, .f32⟩
  | .hbm, ⟨58, _⟩ => ⟨S444x512x1024, .i1⟩
  | .hbm, ⟨59, _⟩ => ⟨S444x512x1024, .f32⟩
  | .hbm, ⟨60, _⟩ => ⟨S444x512x1024, .f32⟩
  | .hbm, ⟨61, _⟩ => ⟨S227328x1024, .f32⟩
  | .hbm, ⟨62, _⟩ => ⟨S227328x1024, .bf16⟩
  | _, _ => ⟨S444, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_c_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩

abbrev nD : Nat := 1
abbrev τ : Topo := Topo.v7x

variable {F : FTy → Type} [FloatOps F]
-- ==== Proof.Base.lean ====
/- The buffers, cells and element sets the dispatch moves data between, and how a held set of rows is cut and joined. -/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Batch
public import Idealize.ShloMosaic.Lib.ValueLayout
public import Idealize.ShloMosaic.Lib.Pipeline.Routed
public import Idealize.ShloMosaic.Lib.Tactic

@[expose] public section

noncomputable section

namespace Cert.Proof.Send

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UD : Type := Pipeline.UC sig nD τ
local notation "𝕄" => MT nD τ sig Unit (Elt F) ℕ (Pipeline.UC sig nD τ) ℕ
/-- The counters a batch of transfers draws its tokens from. -/
abbrev EC : UEmb Counters (MT nD τ sig Unit (Elt F) ℕ (Pipeline.UC sig nD τ) ℕ) := countersEmb (U := UD)
abbrev 𝒱₀ : Variants := Variants.none

/-! ## Buffers and cells -/

abbrev xsM : Memref sig .tc .hbm S227328x1024 .bf16 := Memref.whole main_v0
abbrev sbM : Memref sig .tc .vmem S2x3072x1024 .bf16 := Memref.whole cc0_scratch0
abbrev zbM : Memref sig .tc .vmem S512x1024 .bf16 := Memref.whole cc0_scratch1

/-- The routed activations on core `c`, the two-slot staging scratch and the block of zeros. -/
abbrev xsL (c : Dev nD) : Loc nD τ sig := (c : Thread nD τ).loc main_v0
abbrev sbL (c : Dev nD) : Loc nD τ sig := (c : Thread nD τ).loc cc0_scratch0
abbrev zbL (c : Dev nD) : Loc nD τ sig := (c : Thread nD τ).loc cc0_scratch1

theorem semOff_inb (s : Fin 3) : ∀ a, (![s.val] : Fin 1 → ℕ) a + S1.size a ≤ S3.size a := by
  have := s.isLt; intro a; fin_cases a; show s.val + 1 ≤ 3; omega
/-- The scratch's completion semaphore `s`. -/
def cellS (s : Fin 3) : DmaSem sig :=
  ((cc0_scratch2.slice (Rect.unit (s := S3) ![s.val] S1.size (semOff_inb s))).squeeze S_ squeezes_S1_S_).sem

/-! ## Sets of rows -/

/-- The elements of the routed activations in the groups of sixteen rows that satisfy `P`. -/
def rowsX (P : ℕ → Prop) : Finset S227328x1024.Idx := @Finset.filter _ (fun y => P ((y 0).val / 16)) (fun _ => Classical.propDecidable _) Finset.univ
/-- The elements of slot `s` of the scratch in rows `lo … hi`. -/
def rowsS (s lo hi : ℕ) : Finset S2x3072x1024.Idx :=
  Finset.univ.filter fun y => (y 0).val = s ∧ lo ≤ (y 1).val ∧ (y 1).val < hi

theorem mem_rowsX {P : ℕ → Prop} {y : S227328x1024.Idx} : y ∈ rowsX P ↔ P ((y 0).val / 16) := by
  classical
  unfold rowsX; rw [Finset.mem_filter]; exact ⟨fun h => h.2, fun h => ⟨Finset.mem_univ _, h⟩⟩
theorem mem_rowsS {s lo hi : ℕ} {y : S2x3072x1024.Idx} : y ∈ rowsS s lo hi ↔ (y 0).val = s ∧ lo ≤ (y 1).val ∧ (y 1).val < hi := by
  unfold rowsS; rw [Finset.mem_filter]; exact ⟨fun h => h.2, fun h => ⟨Finset.mem_univ _, h⟩⟩

/-- Holding the groups that satisfy `P`, at contents `f`. -/
def xsAt (c : Dev nD) (P : ℕ → Prop) (f : Buf (Elt F) (xsL c)) : sProp 𝕄 := (xsL c) ↦[rowsX P]{fullShare} f
/-- Holding rows `lo … hi` of slot `s`, at contents `f`. -/
def sbAt (c : Dev nD) (s lo hi : ℕ) (f : Buf (Elt F) (sbL c)) : sProp 𝕄 := (sbL c) ↦[rowsS s lo hi]{fullShare} f

instance xsAt_storable (c : Dev nD) (P : ℕ → Prop) (f : Buf (Elt F) (xsL c)) : Storable (upEmb : UEmb _ 𝕄) (xsAt c P f) := by
  unfold xsAt; infer_instance
instance sbAt_storable (c : Dev nD) (s lo hi : ℕ) (f : Buf (Elt F) (sbL c)) : Storable (upEmb : UEmb _ 𝕄) (sbAt c s lo hi f) := by
  unfold sbAt; infer_instance

theorem eoe {P Q : sProp 𝕄} (e : P = Q) : P ⊢ Q := e ▸ .rfl

theorem rowsX_congr {P Q : ℕ → Prop} (h : ∀ r, r < 14208 → (P r ↔ Q r)) : rowsX P = rowsX Q := by
  ext y; rw [mem_rowsX, mem_rowsX]; apply h
  have : (y 0).val < 227328 := (y 0).isLt
  omega

theorem xs_congr (c : Dev nD) {P Q : ℕ → Prop} (h : ∀ r, r < 14208 → (P r ↔ Q r)) (f : Buf (Elt F) (xsL c)) :
    (xsAt c P f : sProp 𝕄) = xsAt c Q f := by unfold xsAt; rw [rowsX_congr h]

theorem xs_vals (c : Dev nD) {P : ℕ → Prop} {f g : Buf (Elt F) (xsL c)}
    (h : ∀ y : S227328x1024.Idx, P ((y 0).val / 16) → f y = g y) : (xsAt c P f : sProp 𝕄) = xsAt c P g := by
  unfold xsAt; exact pointsTo_congr fun i hi => h i (mem_rowsX.1 hi)

theorem xs_union (c : Dev nD) {P Q R : ℕ → Prop} (hd : ∀ r, r < 14208 → P r → Q r → False) (hR : ∀ r, r < 14208 → (R r ↔ P r ∨ Q r))
    (f : Buf (Elt F) (xsL c)) : (xsAt c R f : sProp 𝕄) = iprop(xsAt c P f ∗ xsAt c Q f) := by
  rw [xs_congr c hR]
  unfold xsAt
  have hdj : Disjoint (rowsX P) (rowsX Q) := by
    rw [Finset.disjoint_left]; intro y hy hy'
    have : (y 0).val < 227328 := (y 0).isLt
    exact hd _ (by omega) (mem_rowsX.1 hy) (mem_rowsX.1 hy')
  have e : rowsX (fun r => P r ∨ Q r) = rowsX P ∪ rowsX Q := by
    ext y; rw [Finset.mem_union, mem_rowsX, mem_rowsX, mem_rowsX]
  rw [e]; exact Entails.antisymm (pointsTo_union hdj).1 (pointsTo_union hdj).2

theorem xs_fin (c : Dev nD) {n : ℕ} (G : ℕ → ℕ) (hG : ∀ j, j < n → G j < 14208) (hi : ∀ j j', j < n → j' < n → G j = G j' → j = j')
    {P : ℕ → Prop} (hP : ∀ r, r < 14208 → (P r ↔ ∃ j, j < n ∧ r = G j)) (f : Buf (Elt F) (xsL c)) :
    (xsAt c P f : sProp 𝕄) = bigSep (Finset.univ : Finset (Fin n)) fun j => xsAt c (fun r => r = G j.val) f := by
  rw [xs_congr c hP]
  unfold xsAt
  rw [← pointsTo_biUnion (ℓ := xsL c) (q := fullShare) (f := f) (Finset.univ : Finset (Fin n)) (fun j => (rowsX (fun r => r = G j.val) : Finset S227328x1024.Idx))
    (fun j _ j' _ hne => by
      rw [Finset.disjoint_left]; intro y hy hy'
      have h1 := mem_rowsX.1 hy; have h2 := mem_rowsX.1 hy'
      exact hne (Fin.ext (hi _ _ j.isLt j'.isLt (h1.symm.trans h2))))]
  congr 1
  ext y
  rw [Finset.mem_biUnion, mem_rowsX]
  constructor
  · rintro ⟨j, hj, h⟩; exact ⟨⟨j, hj⟩, Finset.mem_univ _, mem_rowsX.2 h⟩
  · rintro ⟨j, -, h⟩; exact ⟨j.val, j.isLt, mem_rowsX.1 h⟩

theorem sb_split (c : Dev nD) (s lo mid hi : ℕ) (h1 : lo ≤ mid) (h2 : mid ≤ hi) (f : Buf (Elt F) (sbL c)) :
    (sbAt c s lo hi f : sProp 𝕄) = iprop(sbAt c s lo mid f ∗ sbAt c s mid hi f) := by
  unfold sbAt
  have hdj : Disjoint (rowsS s lo mid) (rowsS s mid hi) := by
    rw [Finset.disjoint_left]; intro y hy hy'
    have a := mem_rowsS.1 hy; have b := mem_rowsS.1 hy'; omega
  have e : rowsS s lo hi = rowsS s lo mid ∪ rowsS s mid hi := by
    ext y; rw [Finset.mem_union, mem_rowsS, mem_rowsS, mem_rowsS]; omega
  rw [e]; exact Entails.antisymm (pointsTo_union hdj).1 (pointsTo_union hdj).2

theorem sb_fin (c : Dev nD) (s n : ℕ) (f : Buf (Elt F) (sbL c)) :
    (sbAt c s 0 (16 * n) f : sProp 𝕄) = bigSep (Finset.univ : Finset (Fin n)) fun j => sbAt c s (16 * j.val) (16 * j.val + 16) f := by
  unfold sbAt
  rw [← pointsTo_biUnion (ℓ := sbL c) (q := fullShare) (f := f) (Finset.univ : Finset (Fin n)) (fun j => (rowsS s (16 * j.val) (16 * j.val + 16) : Finset S2x3072x1024.Idx))
    (fun j _ j' _ hne => by
      rw [Finset.disjoint_left]; intro y hy hy'
      have h1 := mem_rowsS.1 hy; have h2 := mem_rowsS.1 hy'
      exact hne (Fin.ext (by omega)))]
  congr 1
  ext y
  rw [Finset.mem_biUnion, mem_rowsS]
  constructor
  · rintro ⟨h0, h1, h2⟩
    exact ⟨⟨(y 1).val / 16, by omega⟩, Finset.mem_univ _, mem_rowsS.2 ⟨h0, by show 16 * ((y 1).val / 16) ≤ _; omega, by show _ < 16 * ((y 1).val / 16) + 16; omega⟩⟩
  · rintro ⟨j, -, h⟩
    have h := mem_rowsS.1 h; have := j.isLt
    exact ⟨h.1, by omega, by omega⟩

/-! ## The views of one group -/

/-- Sixteen rows of the routed activations starting at `od 0`. -/
abbrev dstM (od : Fin 2 → ℕ) (h : ∀ a, od a + S16x1024.size a ≤ S227328x1024.size a) : Memref sig .tc .hbm S16x1024 .bf16 :=
  xsM.slice (Rect.unit (s := S227328x1024) od S16x1024.size h) (fun _ => rfl)
/-- Sixteen rows of a slot of the scratch. -/
abbrev srcM (ob : Fin 3 → ℕ) (h : ∀ a, ob a + S1x16x1024.size a ≤ S2x3072x1024.size a) : Memref sig .tc .vmem S16x1024 .bf16 :=
  (sbM.slice (Rect.unit (s := S2x3072x1024) ob S1x16x1024.size h) (fun _ => rfl)).squeeze S16x1024 squeezes_S1x16x1024_S16x1024

theorem dst_set (r : ℕ) (h) : (dstM ![16 * r, 0] h).view.set = rowsX (fun x => x = r) := by
  refine (View.set_slice_whole _ _).trans ?_
  ext y
  rw [mem_rowsX]
  refine Rect.mem_set_unit.trans ?_
  have h1 : (y 1).val < 1024 := (y 1).isLt
  constructor
  · intro H; have a0 : 16 * r ≤ (y 0).val ∧ (y 0).val < 16 * r + 16 := H 0; omega
  · intro H i; fin_cases i
    · show 16 * r ≤ (y 0).val ∧ (y 0).val < 16 * r + 16; omega
    · show 0 ≤ (y 1).val ∧ (y 1).val < 0 + 1024; omega

theorem src_set (s j : ℕ) (h) : (srcM ![s, 16 * j, 0] h).view.set = rowsS s (16 * j) (16 * j + 16) := by
  refine ((View.set_reshape _ _).trans (View.set_slice_whole _ _)).trans ?_
  ext y
  rw [mem_rowsS]
  refine Rect.mem_set_unit.trans ?_
  have h1 : (y 2).val < 1024 := (y 2).isLt
  constructor
  · intro H
    have a0 : s ≤ (y 0).val ∧ (y 0).val < s + 1 := H 0
    have a1 : 16 * j ≤ (y 1).val ∧ (y 1).val < 16 * j + 16 := H 1
    omega
  · intro H i; fin_cases i
    · show s ≤ (y 0).val ∧ (y 0).val < s + 1; omega
    · show 16 * j ≤ (y 1).val ∧ (y 1).val < 16 * j + 16; omega
    · show 0 ≤ (y 2).val ∧ (y 2).val < 0 + 1024; omega

/-- What a send of group `j` of slot `s` reads: row `a`, lane `b` of it. -/
theorem src_read (c : Dev nD) (s j : ℕ) (h) (f : Buf (Elt F) (sbL c)) (a : Fin 16) (b : Fin 1024) (hs : s < 2) (hj : 16 * j + 16 ≤ 3072) :
    (srcM ![s, 16 * j, 0] h).view.read (Elt F) f (ix2 a b)
      = f (ix3 (⟨s, hs⟩ : Fin 2) (⟨16 * j + a.val, by omega⟩ : Fin 3072) b) := by
  show f _ = f _
  congr 1
  refine (congrArg (Rect.unit (s := S2x3072x1024) ![s, 16 * j, 0] S1x16x1024.size h).emb (ValueIdx.reshapeEquiv_ix2_1ab (a := 16) (b := 1024) _ a b)).trans ?_
  funext i; fin_cases i
  · exact Fin.ext (by show s + 1 * 0 = s; omega)
  · exact Fin.ext (by show 16 * j + 1 * a.val = 16 * j + a.val; omega)
  · exact Fin.ext (by show 0 + 1 * b.val = b.val; omega)

/-- A group written whole with `w` holds `w`'s rows. -/
theorem dst_write (c : Dev nD) (r : ℕ) (h) (f : Buf (Elt F) (xsL c)) (w : S16x1024.Idx → Elt F .bf16) (y : S227328x1024.Idx)
    (hy : (y 0).val / 16 = r) :
    (dstM ![16 * r, 0] h).view.write (Elt F) f w Finset.univ (y : (dstM ![16 * r, 0] h).view.ty.Idx)
      = w (ix2 (⟨(y 0).val % 16, by omega⟩ : Fin 16) (⟨(y 1).val, (y 1).isLt⟩ : Fin 1024)) := by
  have e : y = (dstM ![16 * r, 0] h).view.emb (ix2 (⟨(y 0).val % 16, by omega⟩ : Fin 16) (⟨(y 1).val, (y 1).isLt⟩ : Fin 1024)) := by
    funext i; fin_cases i
    · exact Fin.ext (by show (y 0).val = 16 * r + 1 * ((y 0).val % 16); omega)
    · exact Fin.ext (by show (y 1).val = 0 + 1 * (y 1).val; omega)
  conv_lhs => rw [e]
  exact (View.write_emb_of_mem _ _ (Finset.mem_univ _)).trans rfl

end Cert.Proof.Send

end
-- ==== Proof.Words.lean ====
/- The loop bounds, offsets and side conditions of the dispatch, computed from counts that are multiples of sixteen. -/
module

public import proofs.«01_k».proof.Proof.Base

@[expose] public section

set_option maxRecDepth 20000

noncomputable section

namespace Cert.Proof.Send

open Cert.KernelIdeal Cert.KernelIdeal.Gen
open Idealize.ShloMosaic Idealize.ShloMosaic.TcCoe

theorem w_shr4 (x : ℕ) (h : x < 4294967296) : Scalar.shrui (BitVec.ofNat 32 x) (BitVec.ofNat 32 4) = BitVec.ofNat 32 (x / 16) := by
  show IntOp.shrui .scalar _ _ = _
  unfold IntOp.shrui
  rw [if_pos (by decide)]
  apply BitVec.eq_of_toNat_eq
  show (BitVec.ofNat 32 x >>> (BitVec.ofNat 32 4).toNat).toNat = _
  have e : (BitVec.ofNat 32 4).toNat = 4 := by decide
  rw [BitVec.toNat_ushiftRight, e, BitVec.toNat_ofNat, BitVec.toNat_ofNat, Nat.shiftRight_eq_div_pow]
  omega
theorem w_shr3 (x : ℕ) (h : x < 4294967296) : Scalar.shrui (BitVec.ofNat 32 x) (BitVec.ofNat 32 3) = BitVec.ofNat 32 (x / 8) := by
  show IntOp.shrui .scalar _ _ = _
  unfold IntOp.shrui
  rw [if_pos (by decide)]
  apply BitVec.eq_of_toNat_eq
  show (BitVec.ofNat 32 x >>> (BitVec.ofNat 32 3).toNat).toNat = _
  have e : (BitVec.ofNat 32 3).toNat = 3 := by decide
  rw [BitVec.toNat_ushiftRight, e, BitVec.toNat_ofNat, BitVec.toNat_ofNat, Nat.shiftRight_eq_div_pow]
  omega
theorem w_mul (a b : ℕ) : Scalar.muli (BitVec.ofNat 32 a) (BitVec.ofNat 32 b) = BitVec.ofNat 32 (a * b) := by
  apply BitVec.eq_of_toNat_eq
  show (BitVec.ofNat 32 a * BitVec.ofNat 32 b).toNat = _
  rw [BitVec.toNat_mul, BitVec.toNat_ofNat, BitVec.toNat_ofNat, BitVec.toNat_ofNat, ← Nat.mul_mod]
theorem w_add (a b : ℕ) : Scalar.addi (BitVec.ofNat 32 a) (BitVec.ofNat 32 b) = BitVec.ofNat 32 (a + b) := (BitVec.ofNat_add a b).symm
theorem w_sub (a b : ℕ) (h : b ≤ a) : Scalar.subi (BitVec.ofNat 32 a) (BitVec.ofNat 32 b) = BitVec.ofNat 32 (a - b) := by
  show BitVec.ofNat 32 a - BitVec.ofNat 32 b = _
  rw [show a = (a - b) + b by omega, BitVec.ofNat_add, BitVec.add_sub_cancel, show (a - b) + b - b = a - b by omega]
theorem w_div1 (x : BitVec 32) : Scalar.divsi x (BitVec.ofNat 32 1) = x := by
  show IntOp.divsi .scalar x 1#32 = x
  unfold IntOp.divsi
  rw [if_neg (IntOp.not_corner_of_pos (by decide))]
  exact BitVec.sdiv_one
theorem w_iv (a k : ℕ) : Scf.iv (BitVec.ofNat 32 a) (BitVec.ofNat 32 1) k = BitVec.ofNat 32 (a + k) := by
  show BitVec.ofNat 32 a + BitVec.ofNat 32 k * 1#32 = _
  rw [BitVec.mul_one]; exact (BitVec.ofNat_add a k).symm
theorem w_toNat (x : ℕ) (h : x < 4294967296) : (BitVec.ofNat 32 x).toNat = x := by rw [BitVec.toNat_ofNat]; omega
theorem w_idx (x : BitVec 32) : Scalar.indexCast x = x := rfl
theorem w_rem2 (x : ℕ) (h : x < 65) : Scalar.remsi (BitVec.ofNat 32 x) (BitVec.ofNat 32 2) = BitVec.ofNat 32 (x % 2) := by
  apply BitVec.eq_of_toNat_eq
  refine (IntOp.toNat_remsi .scalar (x := BitVec.ofNat 32 x) (by rw [BitVec.toNat_ofNat]; omega) 2 (by decide) (by decide)).trans ?_
  rw [BitVec.toNat_ofNat, BitVec.toNat_ofNat]; omega
theorem w_lt (i : grid0.Coords) : (i 0).val < 65 := (i 0).isLt

theorem trips_N (a b : ℕ) (hb : b < 1000000) (hab : a ≤ b) :
    (Scf.Loop.mk (BitVec.ofNat 32 a) (BitVec.ofNat 32 b) (BitVec.ofNat 32 1)).trips = b - a := by
  show Scf.trips _ _ _ = _
  unfold Scf.trips
  have e1 : (BitVec.ofNat 32 a).toInt = a := by rw [BitVec.toInt_eq_toNat_of_lt] <;> rw [w_toNat a (by omega)]; omega
  have e2 : (BitVec.ofNat 32 b).toInt = b := by rw [BitVec.toInt_eq_toNat_of_lt] <;> rw [w_toNat b (by omega)]; omega
  have e3 : (BitVec.ofNat 32 1).toInt = 1 := by decide
  rw [e1, e2, e3]; omega
theorem ok_N (a b : ℕ) (hb : b < 1000000) (hab : a ≤ b) :
    (Scf.Loop.mk (BitVec.ofNat 32 a) (BitVec.ofNat 32 b) (BitVec.ofNat 32 1)).OK := by
  have ht := trips_N a b hb hab
  have e1 : (BitVec.ofNat 32 a).toInt = a := by rw [BitVec.toInt_eq_toNat_of_lt] <;> rw [w_toNat a (by omega)]; omega
  have e3 : (BitVec.ofNat 32 1).toInt = 1 := by decide
  refine ⟨by show 0 < (BitVec.ofNat 32 1).toInt; rw [e3]; decide, ?_⟩
  show (BitVec.ofNat 32 a).toInt + (Scf.trips _ _ _ : ℕ) * (BitVec.ofNat 32 1).toInt < _
  have ht' : Scf.trips (BitVec.ofNat 32 a) (BitVec.ofNat 32 b) (BitVec.ofNat 32 1) = b - a := ht
  rw [ht', e1, e3]; omega

theorem ww16 (x : ℕ) (hinb : ∀ a, (![16 * x, 0] : Fin 2 → ℕ) a + S16x1024.size a ≤ S227328x1024.size a) :
    (Rect.unit (s := S227328x1024) ![16 * x, 0] S16x1024.size hinb).WholeWords (EltTy.packing .bf16) :=
  .inl (.inr ⟨by decide, rfl, .inl ⟨⟨8 * x, by show 16 * x = 2 * (8 * x); omega⟩, ⟨8, rfl⟩⟩⟩)
theorem ww512 (x : ℕ) (hinb : ∀ a, (![512 * x, 0] : Fin 2 → ℕ) a + S512x1024.size a ≤ S227328x1024.size a) :
    (Rect.unit (s := S227328x1024) ![512 * x, 0] S512x1024.size hinb).WholeWords (EltTy.packing .bf16) :=
  .inl (.inr ⟨by decide, rfl, .inl ⟨⟨256 * x, by show 512 * x = 2 * (256 * x); omega⟩, ⟨256, rfl⟩⟩⟩)
theorem wwS16 (s x : ℕ) (hinb : ∀ a, (![s, 16 * x, 0] : Fin 3 → ℕ) a + S1x16x1024.size a ≤ S2x3072x1024.size a) :
    (Rect.unit (s := S2x3072x1024) ![s, 16 * x, 0] S1x16x1024.size hinb).WholeWords (EltTy.packing .bf16) :=
  .inl (.inr ⟨by decide, rfl, .inl ⟨⟨8 * x, by show 16 * x = 2 * (8 * x); omega⟩, ⟨8, rfl⟩⟩⟩)
theorem inbG256 (j : ℕ) (hj : j < 256) : ∀ a, (![0, 0, j] : Fin 3 → ℕ) a + S1x1x1.size a ≤ S1x1x256.size a := by
  intro a; fin_cases a
  · show 0 + 1 ≤ 1; omega
  · show 0 + 1 ≤ 1; omega
  · show j + 1 ≤ 256; omega
theorem inbG128 (j : ℕ) (hj : j < 128) : ∀ a, (![0, 0, j] : Fin 3 → ℕ) a + S1x1x1.size a ≤ S1x1x128.size a := by
  intro a; fin_cases a
  · show 0 + 1 ≤ 1; omega
  · show 0 + 1 ≤ 1; omega
  · show j + 1 ≤ 128; omega
theorem inbS (s j : ℕ) (hs : s < 2) (hj : j < 192) : ∀ a, (![s, 16 * j, 0] : Fin 3 → ℕ) a + S1x16x1024.size a ≤ S2x3072x1024.size a := by
  intro a; fin_cases a
  · show s + 1 ≤ 2; omega
  · show 16 * j + 16 ≤ 3072; omega
  · show 0 + 1024 ≤ 1024; omega
theorem inbX (r : ℕ) (hr : r < 14208) : ∀ a, (![16 * r, 0] : Fin 2 → ℕ) a + S16x1024.size a ≤ S227328x1024.size a := by
  intro a; fin_cases a
  · show 16 * r + 16 ≤ 227328; omega
  · show 0 + 1024 ≤ 1024; omega
theorem inbX512 (r : ℕ) (hr : r < 444) : ∀ a, (![512 * r, 0] : Fin 2 → ℕ) a + S512x1024.size a ≤ S227328x1024.size a := by
  intro a; fin_cases a
  · show 512 * r + 512 ≤ 227328; omega
  · show 0 + 1024 ≤ 1024; omega
theorem c5 (k u : ℕ) (hk : k < 24) (hu : u < 8) : (Scalar.addi (Scalar.muli (Scf.iv 0#32 1#32 k) 8#32) (BitVec.ofNat 32 u)).toNat = 8 * k + u := by
  rw [w_iv, w_mul, w_add, w_toNat _ (by omega)]; omega
theorem c5m (k u : ℕ) (hk : k < 24) (hu : u < 8) : (Scalar.muli (Scalar.addi (Scalar.muli (Scf.iv 0#32 1#32 k) 8#32) (BitVec.ofNat 32 u)) 16#32).toNat = 16 * (8 * k + u) := by
  rw [w_iv, w_mul, w_add, w_mul, w_toNat _ (by omega)]; omega
theorem c7 (n k : ℕ) (hn : n ≤ 192) (hk : k < 8) : (Scf.iv (Scalar.muli (Scalar.shrui (Scalar.shrui (BitVec.ofNat 32 (16 * n)) 4#32) 3#32) 8#32) 1#32 k).toNat = 8 * (n / 8) + k := by
  rw [w_shr4 _ (by omega), w_shr3 _ (by omega), w_mul, w_iv, w_toNat _ (by omega)]; omega
theorem c7m (n k : ℕ) (hn : n ≤ 192) (hk : k < 8) : (Scalar.muli (Scf.iv (Scalar.muli (Scalar.shrui (Scalar.shrui (BitVec.ofNat 32 (16 * n)) 4#32) 3#32) 8#32) 1#32 k) 16#32).toNat = 16 * (8 * (n / 8) + k) := by
  rw [w_shr4 _ (by omega), w_shr3 _ (by omega), w_mul, w_iv, w_mul, w_toNat _ (by omega)]; omega
theorem crem (i : grid0.Coords) : (Scalar.remsi (BitVec.ofNat 32 (i 0).val) 2#32).toNat = (i 0).val % 2 := by
  have := w_lt i
  rw [w_rem2 _ (w_lt i), w_toNat _ (by omega)]
theorem crem1 (i : grid0.Coords) : (Scalar.subi 1#32 (Scalar.remsi (BitVec.ofNat 32 (i 0).val) 2#32)).toNat = 1 - (i 0).val % 2 := by
  have := w_lt i
  rw [w_rem2 _ (w_lt i), w_sub _ _ (by omega), w_toNat _ (by omega)]
theorem cfill (r k : ℕ) (hr : 16 * (r + k) < 4294967296) : (Scalar.addi (BitVec.ofNat 32 (16 * r)) (Scalar.muli (Scf.iv 0#32 1#32 k) 16#32)).toNat = 16 * (r + k) := by
  rw [w_iv, w_mul, w_add, w_toNat _ (by omega)]; omega
theorem ctail (n k : ℕ) (hr : n + k < 444) : (Scalar.muli (Scalar.addi (BitVec.ofNat 32 n) (Scf.iv 0#32 1#32 k)) 512#32).toNat = 512 * (n + k) := by
  rw [w_iv, w_add, w_mul, w_toNat _ (by omega)]; omega

theorem t1_eq (n : ℕ) (hn : n ≤ 192) : k0_t1_loop (BitVec.ofNat 32 (16 * n)) = ⟨BitVec.ofNat 32 (0), BitVec.ofNat 32 (n / 8), BitVec.ofNat 32 1⟩ := by
  unfold k0_t1_loop
  simp (disch := omega) only [w_shr4, w_shr3, w_mul, w_add, w_sub, w_div1, w_iv, w_toNat, w_idx, w_rem2]
  congr 2 <;> omega
theorem t1_trips (n : ℕ) (hn : n ≤ 192) : (k0_t1_loop (BitVec.ofNat 32 (16 * n))).trips = (n / 8) - (0) := by
  rw [t1_eq n hn]; exact trips_N _ _ (by omega) (by omega)
theorem t1_okN (n : ℕ) (hn : n ≤ 192) : (k0_t1_loop (BitVec.ofNat 32 (16 * n))).OK := by
  rw [t1_eq n hn]; exact ok_N _ _ (by omega) (by omega)

theorem t5_eq (n : ℕ) (hn : n ≤ 192) : k0_t5_loop (BitVec.ofNat 32 (16 * n)) = ⟨BitVec.ofNat 32 (0), BitVec.ofNat 32 (n / 8), BitVec.ofNat 32 1⟩ := by
  unfold k0_t5_loop
  simp (disch := omega) only [w_shr4, w_shr3, w_mul, w_add, w_sub, w_div1, w_iv, w_toNat, w_idx, w_rem2]
  congr 2 <;> omega
theorem t5_trips (n : ℕ) (hn : n ≤ 192) : (k0_t5_loop (BitVec.ofNat 32 (16 * n))).trips = (n / 8) - (0) := by
  rw [t5_eq n hn]; exact trips_N _ _ (by omega) (by omega)
theorem t5_okN (n : ℕ) (hn : n ≤ 192) : (k0_t5_loop (BitVec.ofNat 32 (16 * n))).OK := by
  rw [t5_eq n hn]; exact ok_N _ _ (by omega) (by omega)

theorem t9_eq (n : ℕ) (hn : n ≤ 192) : k0_t9_loop (BitVec.ofNat 32 (16 * n)) = ⟨BitVec.ofNat 32 (0), BitVec.ofNat 32 (n / 8), BitVec.ofNat 32 1⟩ := by
  unfold k0_t9_loop
  simp (disch := omega) only [w_shr4, w_shr3, w_mul, w_add, w_sub, w_div1, w_iv, w_toNat, w_idx, w_rem2]
  congr 2 <;> omega
theorem t9_trips (n : ℕ) (hn : n ≤ 192) : (k0_t9_loop (BitVec.ofNat 32 (16 * n))).trips = (n / 8) - (0) := by
  rw [t9_eq n hn]; exact trips_N _ _ (by omega) (by omega)
theorem t9_okN (n : ℕ) (hn : n ≤ 192) : (k0_t9_loop (BitVec.ofNat 32 (16 * n))).OK := by
  rw [t9_eq n hn]; exact ok_N _ _ (by omega) (by omega)

theorem t13_eq (n : ℕ) (hn : n ≤ 192) : k0_t13_loop (BitVec.ofNat 32 (16 * n)) = ⟨BitVec.ofNat 32 (0), BitVec.ofNat 32 (n / 8), BitVec.ofNat 32 1⟩ := by
  unfold k0_t13_loop
  simp (disch := omega) only [w_shr4, w_shr3, w_mul, w_add, w_sub, w_div1, w_iv, w_toNat, w_idx, w_rem2]
  congr 2 <;> omega
theorem t13_trips (n : ℕ) (hn : n ≤ 192) : (k0_t13_loop (BitVec.ofNat 32 (16 * n))).trips = (n / 8) - (0) := by
  rw [t13_eq n hn]; exact trips_N _ _ (by omega) (by omega)
theorem t13_okN (n : ℕ) (hn : n ≤ 192) : (k0_t13_loop (BitVec.ofNat 32 (16 * n))).OK := by
  rw [t13_eq n hn]; exact ok_N _ _ (by omega) (by omega)

theorem t17_eq (n : ℕ) (hn : n ≤ 192) : k0_t17_loop (BitVec.ofNat 32 (16 * n)) = ⟨BitVec.ofNat 32 (0), BitVec.ofNat 32 (n / 8), BitVec.ofNat 32 1⟩ := by
  unfold k0_t17_loop
  simp (disch := omega) only [w_shr4, w_shr3, w_mul, w_add, w_sub, w_div1, w_iv, w_toNat, w_idx, w_rem2]
  congr 2 <;> omega
theorem t17_trips (n : ℕ) (hn : n ≤ 192) : (k0_t17_loop (BitVec.ofNat 32 (16 * n))).trips = (n / 8) - (0) := by
  rw [t17_eq n hn]; exact trips_N _ _ (by omega) (by omega)
theorem t17_okN (n : ℕ) (hn : n ≤ 192) : (k0_t17_loop (BitVec.ofNat 32 (16 * n))).OK := by
  rw [t17_eq n hn]; exact ok_N _ _ (by omega) (by omega)

theorem t2_eq (n : ℕ) (hn : n ≤ 192) : k0_t2_loop (BitVec.ofNat 32 (16 * n)) = ⟨BitVec.ofNat 32 (n / 8), BitVec.ofNat 32 (n / 8), BitVec.ofNat 32 1⟩ := by
  unfold k0_t2_loop
  simp (disch := omega) only [w_shr4, w_shr3, w_mul, w_add, w_sub, w_div1, w_iv, w_toNat, w_idx, w_rem2]
  congr 2 <;> omega
theorem t2_trips (n : ℕ) (hn : n ≤ 192) : (k0_t2_loop (BitVec.ofNat 32 (16 * n))).trips = (n / 8) - (n / 8) := by
  rw [t2_eq n hn]; exact trips_N _ _ (by omega) (by omega)
theorem t2_okN (n : ℕ) (hn : n ≤ 192) : (k0_t2_loop (BitVec.ofNat 32 (16 * n))).OK := by
  rw [t2_eq n hn]; exact ok_N _ _ (by omega) (by omega)

theorem t6_eq (n : ℕ) (hn : n ≤ 192) : k0_t6_loop (BitVec.ofNat 32 (16 * n)) = ⟨BitVec.ofNat 32 (n / 8), BitVec.ofNat 32 (n / 8), BitVec.ofNat 32 1⟩ := by
  unfold k0_t6_loop
  simp (disch := omega) only [w_shr4, w_shr3, w_mul, w_add, w_sub, w_div1, w_iv, w_toNat, w_idx, w_rem2]
  congr 2 <;> omega
theorem t6_trips (n : ℕ) (hn : n ≤ 192) : (k0_t6_loop (BitVec.ofNat 32 (16 * n))).trips = (n / 8) - (n / 8) := by
  rw [t6_eq n hn]; exact trips_N _ _ (by omega) (by omega)
theorem t6_okN (n : ℕ) (hn : n ≤ 192) : (k0_t6_loop (BitVec.ofNat 32 (16 * n))).OK := by
  rw [t6_eq n hn]; exact ok_N _ _ (by omega) (by omega)

theorem t10_eq (n : ℕ) (hn : n ≤ 192) : k0_t10_loop (BitVec.ofNat 32 (16 * n)) = ⟨BitVec.ofNat 32 (n / 8), BitVec.ofNat 32 (n / 8), BitVec.ofNat 32 1⟩ := by
  unfold k0_t10_loop
  simp (disch := omega) only [w_shr4, w_shr3, w_mul, w_add, w_sub, w_div1, w_iv, w_toNat, w_idx, w_rem2]
  congr 2 <;> omega
theorem t10_trips (n : ℕ) (hn : n ≤ 192) : (k0_t10_loop (BitVec.ofNat 32 (16 * n))).trips = (n / 8) - (n / 8) := by
  rw [t10_eq n hn]; exact trips_N _ _ (by omega) (by omega)
theorem t10_okN (n : ℕ) (hn : n ≤ 192) : (k0_t10_loop (BitVec.ofNat 32 (16 * n))).OK := by
  rw [t10_eq n hn]; exact ok_N _ _ (by omega) (by omega)

theorem t14_eq (n : ℕ) (hn : n ≤ 192) : k0_t14_loop (BitVec.ofNat 32 (16 * n)) = ⟨BitVec.ofNat 32 (n / 8), BitVec.ofNat 32 (n / 8), BitVec.ofNat 32 1⟩ := by
  unfold k0_t14_loop
  simp (disch := omega) only [w_shr4, w_shr3, w_mul, w_add, w_sub, w_div1, w_iv, w_toNat, w_idx, w_rem2]
  congr 2 <;> omega
theorem t14_trips (n : ℕ) (hn : n ≤ 192) : (k0_t14_loop (BitVec.ofNat 32 (16 * n))).trips = (n / 8) - (n / 8) := by
  rw [t14_eq n hn]; exact trips_N _ _ (by omega) (by omega)
theorem t14_okN (n : ℕ) (hn : n ≤ 192) : (k0_t14_loop (BitVec.ofNat 32 (16 * n))).OK := by
  rw [t14_eq n hn]; exact ok_N _ _ (by omega) (by omega)

theorem t18_eq (n : ℕ) (hn : n ≤ 192) : k0_t18_loop (BitVec.ofNat 32 (16 * n)) = ⟨BitVec.ofNat 32 (n / 8), BitVec.ofNat 32 (n / 8), BitVec.ofNat 32 1⟩ := by
  unfold k0_t18_loop
  simp (disch := omega) only [w_shr4, w_shr3, w_mul, w_add, w_sub, w_div1, w_iv, w_toNat, w_idx, w_rem2]
  congr 2 <;> omega
theorem t18_trips (n : ℕ) (hn : n ≤ 192) : (k0_t18_loop (BitVec.ofNat 32 (16 * n))).trips = (n / 8) - (n / 8) := by
  rw [t18_eq n hn]; exact trips_N _ _ (by omega) (by omega)
theorem t18_okN (n : ℕ) (hn : n ≤ 192) : (k0_t18_loop (BitVec.ofNat 32 (16 * n))).OK := by
  rw [t18_eq n hn]; exact ok_N _ _ (by omega) (by omega)

theorem t3_eq (n : ℕ) (hn : n ≤ 192) : k0_t3_loop (BitVec.ofNat 32 (16 * n)) = ⟨BitVec.ofNat 32 (8 * (n / 8)), BitVec.ofNat 32 (n), BitVec.ofNat 32 1⟩ := by
  unfold k0_t3_loop
  simp (disch := omega) only [w_shr4, w_shr3, w_mul, w_add, w_sub, w_div1, w_iv, w_toNat, w_idx, w_rem2]
  congr 2 <;> omega
theorem t3_trips (n : ℕ) (hn : n ≤ 192) : (k0_t3_loop (BitVec.ofNat 32 (16 * n))).trips = (n) - (8 * (n / 8)) := by
  rw [t3_eq n hn]; exact trips_N _ _ (by omega) (by omega)
theorem t3_okN (n : ℕ) (hn : n ≤ 192) : (k0_t3_loop (BitVec.ofNat 32 (16 * n))).OK := by
  rw [t3_eq n hn]; exact ok_N _ _ (by omega) (by omega)

theorem t7_eq (n : ℕ) (hn : n ≤ 192) : k0_t7_loop (BitVec.ofNat 32 (16 * n)) = ⟨BitVec.ofNat 32 (8 * (n / 8)), BitVec.ofNat 32 (n), BitVec.ofNat 32 1⟩ := by
  unfold k0_t7_loop
  simp (disch := omega) only [w_shr4, w_shr3, w_mul, w_add, w_sub, w_div1, w_iv, w_toNat, w_idx, w_rem2]
  congr 2 <;> omega
theorem t7_trips (n : ℕ) (hn : n ≤ 192) : (k0_t7_loop (BitVec.ofNat 32 (16 * n))).trips = (n) - (8 * (n / 8)) := by
  rw [t7_eq n hn]; exact trips_N _ _ (by omega) (by omega)
theorem t7_okN (n : ℕ) (hn : n ≤ 192) : (k0_t7_loop (BitVec.ofNat 32 (16 * n))).OK := by
  rw [t7_eq n hn]; exact ok_N _ _ (by omega) (by omega)

theorem t11_eq (n : ℕ) (hn : n ≤ 192) : k0_t11_loop (BitVec.ofNat 32 (16 * n)) = ⟨BitVec.ofNat 32 (8 * (n / 8)), BitVec.ofNat 32 (n), BitVec.ofNat 32 1⟩ := by
  unfold k0_t11_loop
  simp (disch := omega) only [w_shr4, w_shr3, w_mul, w_add, w_sub, w_div1, w_iv, w_toNat, w_idx, w_rem2]
  congr 2 <;> omega
theorem t11_trips (n : ℕ) (hn : n ≤ 192) : (k0_t11_loop (BitVec.ofNat 32 (16 * n))).trips = (n) - (8 * (n / 8)) := by
  rw [t11_eq n hn]; exact trips_N _ _ (by omega) (by omega)
theorem t11_okN (n : ℕ) (hn : n ≤ 192) : (k0_t11_loop (BitVec.ofNat 32 (16 * n))).OK := by
  rw [t11_eq n hn]; exact ok_N _ _ (by omega) (by omega)

theorem t15_eq (n : ℕ) (hn : n ≤ 192) : k0_t15_loop (BitVec.ofNat 32 (16 * n)) = ⟨BitVec.ofNat 32 (8 * (n / 8)), BitVec.ofNat 32 (n), BitVec.ofNat 32 1⟩ := by
  unfold k0_t15_loop
  simp (disch := omega) only [w_shr4, w_shr3, w_mul, w_add, w_sub, w_div1, w_iv, w_toNat, w_idx, w_rem2]
  congr 2 <;> omega
theorem t15_trips (n : ℕ) (hn : n ≤ 192) : (k0_t15_loop (BitVec.ofNat 32 (16 * n))).trips = (n) - (8 * (n / 8)) := by
  rw [t15_eq n hn]; exact trips_N _ _ (by omega) (by omega)
theorem t15_okN (n : ℕ) (hn : n ≤ 192) : (k0_t15_loop (BitVec.ofNat 32 (16 * n))).OK := by
  rw [t15_eq n hn]; exact ok_N _ _ (by omega) (by omega)

theorem t19_eq (n : ℕ) (hn : n ≤ 192) : k0_t19_loop (BitVec.ofNat 32 (16 * n)) = ⟨BitVec.ofNat 32 (8 * (n / 8)), BitVec.ofNat 32 (n), BitVec.ofNat 32 1⟩ := by
  unfold k0_t19_loop
  simp (disch := omega) only [w_shr4, w_shr3, w_mul, w_add, w_sub, w_div1, w_iv, w_toNat, w_idx, w_rem2]
  congr 2 <;> omega
theorem t19_trips (n : ℕ) (hn : n ≤ 192) : (k0_t19_loop (BitVec.ofNat 32 (16 * n))).trips = (n) - (8 * (n / 8)) := by
  rw [t19_eq n hn]; exact trips_N _ _ (by omega) (by omega)
theorem t19_okN (n : ℕ) (hn : n ≤ 192) : (k0_t19_loop (BitVec.ofNat 32 (16 * n))).OK := by
  rw [t19_eq n hn]; exact ok_N _ _ (by omega) (by omega)

theorem t4_eq (n : ℕ) (hn : n ≤ 192) : k0_t4_loop (BitVec.ofNat 32 (16 * n)) = ⟨BitVec.ofNat 32 (n), BitVec.ofNat 32 (n), BitVec.ofNat 32 1⟩ := by
  unfold k0_t4_loop
  simp (disch := omega) only [w_shr4, w_shr3, w_mul, w_add, w_sub, w_div1, w_iv, w_toNat, w_idx, w_rem2]
  congr 2 <;> omega
theorem t4_trips (n : ℕ) (hn : n ≤ 192) : (k0_t4_loop (BitVec.ofNat 32 (16 * n))).trips = (n) - (n) := by
  rw [t4_eq n hn]; exact trips_N _ _ (by omega) (by omega)
theorem t4_okN (n : ℕ) (hn : n ≤ 192) : (k0_t4_loop (BitVec.ofNat 32 (16 * n))).OK := by
  rw [t4_eq n hn]; exact ok_N _ _ (by omega) (by omega)

theorem t8_eq (n : ℕ) (hn : n ≤ 192) : k0_t8_loop (BitVec.ofNat 32 (16 * n)) = ⟨BitVec.ofNat 32 (n), BitVec.ofNat 32 (n), BitVec.ofNat 32 1⟩ := by
  unfold k0_t8_loop
  simp (disch := omega) only [w_shr4, w_shr3, w_mul, w_add, w_sub, w_div1, w_iv, w_toNat, w_idx, w_rem2]
  congr 2 <;> omega
theorem t8_trips (n : ℕ) (hn : n ≤ 192) : (k0_t8_loop (BitVec.ofNat 32 (16 * n))).trips = (n) - (n) := by
  rw [t8_eq n hn]; exact trips_N _ _ (by omega) (by omega)
theorem t8_okN (n : ℕ) (hn : n ≤ 192) : (k0_t8_loop (BitVec.ofNat 32 (16 * n))).OK := by
  rw [t8_eq n hn]; exact ok_N _ _ (by omega) (by omega)

theorem t12_eq (n : ℕ) (hn : n ≤ 192) : k0_t12_loop (BitVec.ofNat 32 (16 * n)) = ⟨BitVec.ofNat 32 (n), BitVec.ofNat 32 (n), BitVec.ofNat 32 1⟩ := by
  unfold k0_t12_loop
  simp (disch := omega) only [w_shr4, w_shr3, w_mul, w_add, w_sub, w_div1, w_iv, w_toNat, w_idx, w_rem2]
  congr 2 <;> omega
theorem t12_trips (n : ℕ) (hn : n ≤ 192) : (k0_t12_loop (BitVec.ofNat 32 (16 * n))).trips = (n) - (n) := by
  rw [t12_eq n hn]; exact trips_N _ _ (by omega) (by omega)
theorem t12_okN (n : ℕ) (hn : n ≤ 192) : (k0_t12_loop (BitVec.ofNat 32 (16 * n))).OK := by
  rw [t12_eq n hn]; exact ok_N _ _ (by omega) (by omega)

theorem t16_eq (n : ℕ) (hn : n ≤ 192) : k0_t16_loop (BitVec.ofNat 32 (16 * n)) = ⟨BitVec.ofNat 32 (n), BitVec.ofNat 32 (n), BitVec.ofNat 32 1⟩ := by
  unfold k0_t16_loop
  simp (disch := omega) only [w_shr4, w_shr3, w_mul, w_add, w_sub, w_div1, w_iv, w_toNat, w_idx, w_rem2]
  congr 2 <;> omega
theorem t16_trips (n : ℕ) (hn : n ≤ 192) : (k0_t16_loop (BitVec.ofNat 32 (16 * n))).trips = (n) - (n) := by
  rw [t16_eq n hn]; exact trips_N _ _ (by omega) (by omega)
theorem t16_okN (n : ℕ) (hn : n ≤ 192) : (k0_t16_loop (BitVec.ofNat 32 (16 * n))).OK := by
  rw [t16_eq n hn]; exact ok_N _ _ (by omega) (by omega)

theorem t20_eq (n : ℕ) (hn : n ≤ 192) : k0_t20_loop (BitVec.ofNat 32 (16 * n)) = ⟨BitVec.ofNat 32 (n), BitVec.ofNat 32 (n), BitVec.ofNat 32 1⟩ := by
  unfold k0_t20_loop
  simp (disch := omega) only [w_shr4, w_shr3, w_mul, w_add, w_sub, w_div1, w_iv, w_toNat, w_idx, w_rem2]
  congr 2 <;> omega
theorem t20_trips (n : ℕ) (hn : n ≤ 192) : (k0_t20_loop (BitVec.ofNat 32 (16 * n))).trips = (n) - (n) := by
  rw [t20_eq n hn]; exact trips_N _ _ (by omega) (by omega)
theorem t20_okN (n : ℕ) (hn : n ≤ 192) : (k0_t20_loop (BitVec.ofNat 32 (16 * n))).OK := by
  rw [t20_eq n hn]; exact ok_N _ _ (by omega) (by omega)

theorem t22_eq (n : ℕ) (hn : n ≤ 14208) : k0_t22_loop (BitVec.ofNat 32 n) = ⟨BitVec.ofNat 32 (0), BitVec.ofNat 32 (n), BitVec.ofNat 32 1⟩ := by
  unfold k0_t22_loop
  simp (disch := omega) only [w_shr4, w_shr3, w_mul, w_add, w_sub, w_div1, w_iv, w_toNat, w_idx, w_rem2]
  congr 2 <;> omega
theorem t22_trips (n : ℕ) (hn : n ≤ 14208) : (k0_t22_loop (BitVec.ofNat 32 n)).trips = (n) - (0) := by
  rw [t22_eq n hn]; exact trips_N _ _ (by omega) (by omega)
theorem t22_okN (n : ℕ) (hn : n ≤ 14208) : (k0_t22_loop (BitVec.ofNat 32 n)).OK := by
  rw [t22_eq n hn]; exact ok_N _ _ (by omega) (by omega)

theorem t24_eq (n : ℕ) (hn : n ≤ 14208) : k0_t24_loop (BitVec.ofNat 32 n) = ⟨BitVec.ofNat 32 (0), BitVec.ofNat 32 (n), BitVec.ofNat 32 1⟩ := by
  unfold k0_t24_loop
  simp (disch := omega) only [w_shr4, w_shr3, w_mul, w_add, w_sub, w_div1, w_iv, w_toNat, w_idx, w_rem2]
  congr 2 <;> omega
theorem t24_trips (n : ℕ) (hn : n ≤ 14208) : (k0_t24_loop (BitVec.ofNat 32 n)).trips = (n) - (0) := by
  rw [t24_eq n hn]; exact trips_N _ _ (by omega) (by omega)
theorem t24_okN (n : ℕ) (hn : n ≤ 14208) : (k0_t24_loop (BitVec.ofNat 32 n)).OK := by
  rw [t24_eq n hn]; exact ok_N _ _ (by omega) (by omega)

theorem t23_eq (n : ℕ) (hn : n ≤ 14208) : k0_t23_loop (BitVec.ofNat 32 n) = ⟨BitVec.ofNat 32 (n), BitVec.ofNat 32 (n), BitVec.ofNat 32 1⟩ := by
  unfold k0_t23_loop
  simp (disch := omega) only [w_shr4, w_shr3, w_mul, w_add, w_sub, w_div1, w_iv, w_toNat, w_idx, w_rem2]
  congr 2 <;> omega
theorem t23_trips (n : ℕ) (hn : n ≤ 14208) : (k0_t23_loop (BitVec.ofNat 32 n)).trips = (n) - (n) := by
  rw [t23_eq n hn]; exact trips_N _ _ (by omega) (by omega)
theorem t23_okN (n : ℕ) (hn : n ≤ 14208) : (k0_t23_loop (BitVec.ofNat 32 n)).OK := by
  rw [t23_eq n hn]; exact ok_N _ _ (by omega) (by omega)

theorem t25_eq (n : ℕ) (hn : n ≤ 14208) : k0_t25_loop (BitVec.ofNat 32 n) = ⟨BitVec.ofNat 32 (n), BitVec.ofNat 32 (n), BitVec.ofNat 32 1⟩ := by
  unfold k0_t25_loop
  simp (disch := omega) only [w_shr4, w_shr3, w_mul, w_add, w_sub, w_div1, w_iv, w_toNat, w_idx, w_rem2]
  congr 2 <;> omega
theorem t25_trips (n : ℕ) (hn : n ≤ 14208) : (k0_t25_loop (BitVec.ofNat 32 n)).trips = (n) - (n) := by
  rw [t25_eq n hn]; exact trips_N _ _ (by omega) (by omega)
theorem t25_okN (n : ℕ) (hn : n ≤ 14208) : (k0_t25_loop (BitVec.ofNat 32 n)).OK := by
  rw [t25_eq n hn]; exact ok_N _ _ (by omega) (by omega)

theorem t26_eq (n : ℕ) (hn : n ≤ 444) : k0_t26_loop (BitVec.ofNat 32 n) = ⟨BitVec.ofNat 32 (0), BitVec.ofNat 32 (444 - n), BitVec.ofNat 32 1⟩ := by
  unfold k0_t26_loop
  simp (disch := omega) only [w_shr4, w_shr3, w_mul, w_add, w_sub, w_div1, w_iv, w_toNat, w_idx, w_rem2]
  congr 2 <;> omega
theorem t26_trips (n : ℕ) (hn : n ≤ 444) : (k0_t26_loop (BitVec.ofNat 32 n)).trips = (444 - n) - (0) := by
  rw [t26_eq n hn]; exact trips_N _ _ (by omega) (by omega)
theorem t26_okN (n : ℕ) (hn : n ≤ 444) : (k0_t26_loop (BitVec.ofNat 32 n)).OK := by
  rw [t26_eq n hn]; exact ok_N _ _ (by omega) (by omega)

theorem t28_eq (n : ℕ) (hn : n ≤ 444) : k0_t28_loop (BitVec.ofNat 32 n) = ⟨BitVec.ofNat 32 (0), BitVec.ofNat 32 (444 - n), BitVec.ofNat 32 1⟩ := by
  unfold k0_t28_loop
  simp (disch := omega) only [w_shr4, w_shr3, w_mul, w_add, w_sub, w_div1, w_iv, w_toNat, w_idx, w_rem2]
  congr 2 <;> omega
theorem t28_trips (n : ℕ) (hn : n ≤ 444) : (k0_t28_loop (BitVec.ofNat 32 n)).trips = (444 - n) - (0) := by
  rw [t28_eq n hn]; exact trips_N _ _ (by omega) (by omega)
theorem t28_okN (n : ℕ) (hn : n ≤ 444) : (k0_t28_loop (BitVec.ofNat 32 n)).OK := by
  rw [t28_eq n hn]; exact ok_N _ _ (by omega) (by omega)

theorem t27_eq (n : ℕ) (hn : n ≤ 444) : k0_t27_loop (BitVec.ofNat 32 n) = ⟨BitVec.ofNat 32 (444 - n), BitVec.ofNat 32 (444 - n), BitVec.ofNat 32 1⟩ := by
  unfold k0_t27_loop
  simp (disch := omega) only [w_shr4, w_shr3, w_mul, w_add, w_sub, w_div1, w_iv, w_toNat, w_idx, w_rem2]
  congr 2 <;> omega
theorem t27_trips (n : ℕ) (hn : n ≤ 444) : (k0_t27_loop (BitVec.ofNat 32 n)).trips = (444 - n) - (444 - n) := by
  rw [t27_eq n hn]; exact trips_N _ _ (by omega) (by omega)
theorem t27_okN (n : ℕ) (hn : n ≤ 444) : (k0_t27_loop (BitVec.ofNat 32 n)).OK := by
  rw [t27_eq n hn]; exact ok_N _ _ (by omega) (by omega)

theorem t29_eq (n : ℕ) (hn : n ≤ 444) : k0_t29_loop (BitVec.ofNat 32 n) = ⟨BitVec.ofNat 32 (444 - n), BitVec.ofNat 32 (444 - n), BitVec.ofNat 32 1⟩ := by
  unfold k0_t29_loop
  simp (disch := omega) only [w_shr4, w_shr3, w_mul, w_add, w_sub, w_div1, w_iv, w_toNat, w_idx, w_rem2]
  congr 2 <;> omega
theorem t29_trips (n : ℕ) (hn : n ≤ 444) : (k0_t29_loop (BitVec.ofNat 32 n)).trips = (444 - n) - (444 - n) := by
  rw [t29_eq n hn]; exact trips_N _ _ (by omega) (by omega)
theorem t29_okN (n : ℕ) (hn : n ≤ 444) : (k0_t29_loop (BitVec.ofNat 32 n)).OK := by
  rw [t29_eq n hn]; exact ok_N _ _ (by omega) (by omega)

theorem off17_eq (n : ℕ) (hn : n ≤ 192) (t : Fin (k0_t5_loop (BitVec.ofNat 32 (16 * n))).trips) : k0_off17 (BitVec.ofNat 32 (16 * n)) t = ![0, 0, 8 * t.val + 0] := by
  have ht := lt_of_lt_of_eq t.isLt (t5_trips n hn)
  exact congrArg (fun x => (![0, 0, x] : Fin 3 → ℕ)) (c5 t.val 0 (by omega) (by omega))
theorem off18_eq (i : grid0.Coords) : k0_off18 i = ![(i 0).val % 2] := congrArg (fun x => (![x] : Fin 1 → ℕ)) (crem i)
theorem off20_eq (i : grid0.Coords) (n : ℕ) (hn : n ≤ 192) (t : Fin (k0_t5_loop (BitVec.ofNat 32 (16 * n))).trips) : k0_off20 i (BitVec.ofNat 32 (16 * n)) t = ![(i 0).val % 2, 16 * (8 * t.val + 0), 0] := by
  have ht := lt_of_lt_of_eq t.isLt (t5_trips n hn)
  exact congrArg₂ (fun s x => (![s, x, 0] : Fin 3 → ℕ)) (crem i) (c5m t.val 0 (by omega) (by omega))
theorem off21_eq (n : ℕ) (hn : n ≤ 192) (t : Fin (k0_t5_loop (BitVec.ofNat 32 (16 * n))).trips) : k0_off21 (BitVec.ofNat 32 (16 * n)) t = ![0, 0, 8 * t.val + 1] := by
  have ht := lt_of_lt_of_eq t.isLt (t5_trips n hn)
  exact congrArg (fun x => (![0, 0, x] : Fin 3 → ℕ)) (c5 t.val 1 (by omega) (by omega))
theorem off22_eq (i : grid0.Coords) : k0_off22 i = ![(i 0).val % 2] := congrArg (fun x => (![x] : Fin 1 → ℕ)) (crem i)
theorem off24_eq (i : grid0.Coords) (n : ℕ) (hn : n ≤ 192) (t : Fin (k0_t5_loop (BitVec.ofNat 32 (16 * n))).trips) : k0_off24 i (BitVec.ofNat 32 (16 * n)) t = ![(i 0).val % 2, 16 * (8 * t.val + 1), 0] := by
  have ht := lt_of_lt_of_eq t.isLt (t5_trips n hn)
  exact congrArg₂ (fun s x => (![s, x, 0] : Fin 3 → ℕ)) (crem i) (c5m t.val 1 (by omega) (by omega))
theorem off25_eq (n : ℕ) (hn : n ≤ 192) (t : Fin (k0_t5_loop (BitVec.ofNat 32 (16 * n))).trips) : k0_off25 (BitVec.ofNat 32 (16 * n)) t = ![0, 0, 8 * t.val + 2] := by
  have ht := lt_of_lt_of_eq t.isLt (t5_trips n hn)
  exact congrArg (fun x => (![0, 0, x] : Fin 3 → ℕ)) (c5 t.val 2 (by omega) (by omega))
theorem off26_eq (i : grid0.Coords) : k0_off26 i = ![(i 0).val % 2] := congrArg (fun x => (![x] : Fin 1 → ℕ)) (crem i)
theorem off28_eq (i : grid0.Coords) (n : ℕ) (hn : n ≤ 192) (t : Fin (k0_t5_loop (BitVec.ofNat 32 (16 * n))).trips) : k0_off28 i (BitVec.ofNat 32 (16 * n)) t = ![(i 0).val % 2, 16 * (8 * t.val + 2), 0] := by
  have ht := lt_of_lt_of_eq t.isLt (t5_trips n hn)
  exact congrArg₂ (fun s x => (![s, x, 0] : Fin 3 → ℕ)) (crem i) (c5m t.val 2 (by omega) (by omega))
theorem off29_eq (n : ℕ) (hn : n ≤ 192) (t : Fin (k0_t5_loop (BitVec.ofNat 32 (16 * n))).trips) : k0_off29 (BitVec.ofNat 32 (16 * n)) t = ![0, 0, 8 * t.val + 3] := by
  have ht := lt_of_lt_of_eq t.isLt (t5_trips n hn)
  exact congrArg (fun x => (![0, 0, x] : Fin 3 → ℕ)) (c5 t.val 3 (by omega) (by omega))
theorem off30_eq (i : grid0.Coords) : k0_off30 i = ![(i 0).val % 2] := congrArg (fun x => (![x] : Fin 1 → ℕ)) (crem i)
theorem off32_eq (i : grid0.Coords) (n : ℕ) (hn : n ≤ 192) (t : Fin (k0_t5_loop (BitVec.ofNat 32 (16 * n))).trips) : k0_off32 i (BitVec.ofNat 32 (16 * n)) t = ![(i 0).val % 2, 16 * (8 * t.val + 3), 0] := by
  have ht := lt_of_lt_of_eq t.isLt (t5_trips n hn)
  exact congrArg₂ (fun s x => (![s, x, 0] : Fin 3 → ℕ)) (crem i) (c5m t.val 3 (by omega) (by omega))
theorem off33_eq (n : ℕ) (hn : n ≤ 192) (t : Fin (k0_t5_loop (BitVec.ofNat 32 (16 * n))).trips) : k0_off33 (BitVec.ofNat 32 (16 * n)) t = ![0, 0, 8 * t.val + 4] := by
  have ht := lt_of_lt_of_eq t.isLt (t5_trips n hn)
  exact congrArg (fun x => (![0, 0, x] : Fin 3 → ℕ)) (c5 t.val 4 (by omega) (by omega))
theorem off34_eq (i : grid0.Coords) : k0_off34 i = ![(i 0).val % 2] := congrArg (fun x => (![x] : Fin 1 → ℕ)) (crem i)
theorem off36_eq (i : grid0.Coords) (n : ℕ) (hn : n ≤ 192) (t : Fin (k0_t5_loop (BitVec.ofNat 32 (16 * n))).trips) : k0_off36 i (BitVec.ofNat 32 (16 * n)) t = ![(i 0).val % 2, 16 * (8 * t.val + 4), 0] := by
  have ht := lt_of_lt_of_eq t.isLt (t5_trips n hn)
  exact congrArg₂ (fun s x => (![s, x, 0] : Fin 3 → ℕ)) (crem i) (c5m t.val 4 (by omega) (by omega))
theorem off37_eq (n : ℕ) (hn : n ≤ 192) (t : Fin (k0_t5_loop (BitVec.ofNat 32 (16 * n))).trips) : k0_off37 (BitVec.ofNat 32 (16 * n)) t = ![0, 0, 8 * t.val + 5] := by
  have ht := lt_of_lt_of_eq t.isLt (t5_trips n hn)
  exact congrArg (fun x => (![0, 0, x] : Fin 3 → ℕ)) (c5 t.val 5 (by omega) (by omega))
theorem off38_eq (i : grid0.Coords) : k0_off38 i = ![(i 0).val % 2] := congrArg (fun x => (![x] : Fin 1 → ℕ)) (crem i)
theorem off40_eq (i : grid0.Coords) (n : ℕ) (hn : n ≤ 192) (t : Fin (k0_t5_loop (BitVec.ofNat 32 (16 * n))).trips) : k0_off40 i (BitVec.ofNat 32 (16 * n)) t = ![(i 0).val % 2, 16 * (8 * t.val + 5), 0] := by
  have ht := lt_of_lt_of_eq t.isLt (t5_trips n hn)
  exact congrArg₂ (fun s x => (![s, x, 0] : Fin 3 → ℕ)) (crem i) (c5m t.val 5 (by omega) (by omega))
theorem off41_eq (n : ℕ) (hn : n ≤ 192) (t : Fin (k0_t5_loop (BitVec.ofNat 32 (16 * n))).trips) : k0_off41 (BitVec.ofNat 32 (16 * n)) t = ![0, 0, 8 * t.val + 6] := by
  have ht := lt_of_lt_of_eq t.isLt (t5_trips n hn)
  exact congrArg (fun x => (![0, 0, x] : Fin 3 → ℕ)) (c5 t.val 6 (by omega) (by omega))
theorem off42_eq (i : grid0.Coords) : k0_off42 i = ![(i 0).val % 2] := congrArg (fun x => (![x] : Fin 1 → ℕ)) (crem i)
theorem off44_eq (i : grid0.Coords) (n : ℕ) (hn : n ≤ 192) (t : Fin (k0_t5_loop (BitVec.ofNat 32 (16 * n))).trips) : k0_off44 i (BitVec.ofNat 32 (16 * n)) t = ![(i 0).val % 2, 16 * (8 * t.val + 6), 0] := by
  have ht := lt_of_lt_of_eq t.isLt (t5_trips n hn)
  exact congrArg₂ (fun s x => (![s, x, 0] : Fin 3 → ℕ)) (crem i) (c5m t.val 6 (by omega) (by omega))
theorem off45_eq (n : ℕ) (hn : n ≤ 192) (t : Fin (k0_t5_loop (BitVec.ofNat 32 (16 * n))).trips) : k0_off45 (BitVec.ofNat 32 (16 * n)) t = ![0, 0, 8 * t.val + 7] := by
  have ht := lt_of_lt_of_eq t.isLt (t5_trips n hn)
  exact congrArg (fun x => (![0, 0, x] : Fin 3 → ℕ)) (c5 t.val 7 (by omega) (by omega))
theorem off46_eq (i : grid0.Coords) : k0_off46 i = ![(i 0).val % 2] := congrArg (fun x => (![x] : Fin 1 → ℕ)) (crem i)
theorem off48_eq (i : grid0.Coords) (n : ℕ) (hn : n ≤ 192) (t : Fin (k0_t5_loop (BitVec.ofNat 32 (16 * n))).trips) : k0_off48 i (BitVec.ofNat 32 (16 * n)) t = ![(i 0).val % 2, 16 * (8 * t.val + 7), 0] := by
  have ht := lt_of_lt_of_eq t.isLt (t5_trips n hn)
  exact congrArg₂ (fun s x => (![s, x, 0] : Fin 3 → ℕ)) (crem i) (c5m t.val 7 (by omega) (by omega))
theorem off81_eq (n : ℕ) (hn : n ≤ 192) (t : Fin (k0_t7_loop (BitVec.ofNat 32 (16 * n))).trips) : k0_off81 (BitVec.ofNat 32 (16 * n)) t = ![0, 0, 8 * (n / 8) + t.val] := by
  have ht := lt_of_lt_of_eq t.isLt (t7_trips n hn)
  exact congrArg (fun x => (![0, 0, x] : Fin 3 → ℕ)) (c7 n t.val hn (by omega))
theorem off82_eq (i : grid0.Coords) : k0_off82 i = ![(i 0).val % 2] := congrArg (fun x => (![x] : Fin 1 → ℕ)) (crem i)
theorem off84_eq (i : grid0.Coords) (n : ℕ) (hn : n ≤ 192) (t : Fin (k0_t7_loop (BitVec.ofNat 32 (16 * n))).trips) : k0_off84 i (BitVec.ofNat 32 (16 * n)) t = ![(i 0).val % 2, 16 * (8 * (n / 8) + t.val), 0] := by
  have ht := lt_of_lt_of_eq t.isLt (t7_trips n hn)
  exact congrArg₂ (fun s x => (![s, x, 0] : Fin 3 → ℕ)) (crem i) (c7m n t.val hn (by omega))
theorem off93_eq (n : ℕ) (hn : n ≤ 192) (t : Fin (k0_t9_loop (BitVec.ofNat 32 (16 * n))).trips) : k0_off93 (BitVec.ofNat 32 (16 * n)) t = ![0, 0, 8 * t.val + 0] := by
  have ht := lt_of_lt_of_eq t.isLt (t9_trips n hn)
  exact congrArg (fun x => (![0, 0, x] : Fin 3 → ℕ)) (c5 t.val 0 (by omega) (by omega))
theorem off94_eq (i : grid0.Coords) : k0_off94 i = ![(i 0).val % 2] := congrArg (fun x => (![x] : Fin 1 → ℕ)) (crem i)
theorem off96_eq (i : grid0.Coords) (n : ℕ) (hn : n ≤ 192) (t : Fin (k0_t9_loop (BitVec.ofNat 32 (16 * n))).trips) : k0_off96 i (BitVec.ofNat 32 (16 * n)) t = ![(i 0).val % 2, 16 * (8 * t.val + 0), 0] := by
  have ht := lt_of_lt_of_eq t.isLt (t9_trips n hn)
  exact congrArg₂ (fun s x => (![s, x, 0] : Fin 3 → ℕ)) (crem i) (c5m t.val 0 (by omega) (by omega))
theorem off97_eq (n : ℕ) (hn : n ≤ 192) (t : Fin (k0_t9_loop (BitVec.ofNat 32 (16 * n))).trips) : k0_off97 (BitVec.ofNat 32 (16 * n)) t = ![0, 0, 8 * t.val + 1] := by
  have ht := lt_of_lt_of_eq t.isLt (t9_trips n hn)
  exact congrArg (fun x => (![0, 0, x] : Fin 3 → ℕ)) (c5 t.val 1 (by omega) (by omega))
theorem off98_eq (i : grid0.Coords) : k0_off98 i = ![(i 0).val % 2] := congrArg (fun x => (![x] : Fin 1 → ℕ)) (crem i)
theorem off100_eq (i : grid0.Coords) (n : ℕ) (hn : n ≤ 192) (t : Fin (k0_t9_loop (BitVec.ofNat 32 (16 * n))).trips) : k0_off100 i (BitVec.ofNat 32 (16 * n)) t = ![(i 0).val % 2, 16 * (8 * t.val + 1), 0] := by
  have ht := lt_of_lt_of_eq t.isLt (t9_trips n hn)
  exact congrArg₂ (fun s x => (![s, x, 0] : Fin 3 → ℕ)) (crem i) (c5m t.val 1 (by omega) (by omega))
theorem off101_eq (n : ℕ) (hn : n ≤ 192) (t : Fin (k0_t9_loop (BitVec.ofNat 32 (16 * n))).trips) : k0_off101 (BitVec.ofNat 32 (16 * n)) t = ![0, 0, 8 * t.val + 2] := by
  have ht := lt_of_lt_of_eq t.isLt (t9_trips n hn)
  exact congrArg (fun x => (![0, 0, x] : Fin 3 → ℕ)) (c5 t.val 2 (by omega) (by omega))
theorem off102_eq (i : grid0.Coords) : k0_off102 i = ![(i 0).val % 2] := congrArg (fun x => (![x] : Fin 1 → ℕ)) (crem i)
theorem off104_eq (i : grid0.Coords) (n : ℕ) (hn : n ≤ 192) (t : Fin (k0_t9_loop (BitVec.ofNat 32 (16 * n))).trips) : k0_off104 i (BitVec.ofNat 32 (16 * n)) t = ![(i 0).val % 2, 16 * (8 * t.val + 2), 0] := by
  have ht := lt_of_lt_of_eq t.isLt (t9_trips n hn)
  exact congrArg₂ (fun s x => (![s, x, 0] : Fin 3 → ℕ)) (crem i) (c5m t.val 2 (by omega) (by omega))
theorem off105_eq (n : ℕ) (hn : n ≤ 192) (t : Fin (k0_t9_loop (BitVec.ofNat 32 (16 * n))).trips) : k0_off105 (BitVec.ofNat 32 (16 * n)) t = ![0, 0, 8 * t.val + 3] := by
  have ht := lt_of_lt_of_eq t.isLt (t9_trips n hn)
  exact congrArg (fun x => (![0, 0, x] : Fin 3 → ℕ)) (c5 t.val 3 (by omega) (by omega))
theorem off106_eq (i : grid0.Coords) : k0_off106 i = ![(i 0).val % 2] := congrArg (fun x => (![x] : Fin 1 → ℕ)) (crem i)
theorem off108_eq (i : grid0.Coords) (n : ℕ) (hn : n ≤ 192) (t : Fin (k0_t9_loop (BitVec.ofNat 32 (16 * n))).trips) : k0_off108 i (BitVec.ofNat 32 (16 * n)) t = ![(i 0).val % 2, 16 * (8 * t.val + 3), 0] := by
  have ht := lt_of_lt_of_eq t.isLt (t9_trips n hn)
  exact congrArg₂ (fun s x => (![s, x, 0] : Fin 3 → ℕ)) (crem i) (c5m t.val 3 (by omega) (by omega))
theorem off109_eq (n : ℕ) (hn : n ≤ 192) (t : Fin (k0_t9_loop (BitVec.ofNat 32 (16 * n))).trips) : k0_off109 (BitVec.ofNat 32 (16 * n)) t = ![0, 0, 8 * t.val + 4] := by
  have ht := lt_of_lt_of_eq t.isLt (t9_trips n hn)
  exact congrArg (fun x => (![0, 0, x] : Fin 3 → ℕ)) (c5 t.val 4 (by omega) (by omega))
theorem off110_eq (i : grid0.Coords) : k0_off110 i = ![(i 0).val % 2] := congrArg (fun x => (![x] : Fin 1 → ℕ)) (crem i)
theorem off112_eq (i : grid0.Coords) (n : ℕ) (hn : n ≤ 192) (t : Fin (k0_t9_loop (BitVec.ofNat 32 (16 * n))).trips) : k0_off112 i (BitVec.ofNat 32 (16 * n)) t = ![(i 0).val % 2, 16 * (8 * t.val + 4), 0] := by
  have ht := lt_of_lt_of_eq t.isLt (t9_trips n hn)
  exact congrArg₂ (fun s x => (![s, x, 0] : Fin 3 → ℕ)) (crem i) (c5m t.val 4 (by omega) (by omega))
theorem off113_eq (n : ℕ) (hn : n ≤ 192) (t : Fin (k0_t9_loop (BitVec.ofNat 32 (16 * n))).trips) : k0_off113 (BitVec.ofNat 32 (16 * n)) t = ![0, 0, 8 * t.val + 5] := by
  have ht := lt_of_lt_of_eq t.isLt (t9_trips n hn)
  exact congrArg (fun x => (![0, 0, x] : Fin 3 → ℕ)) (c5 t.val 5 (by omega) (by omega))
theorem off114_eq (i : grid0.Coords) : k0_off114 i = ![(i 0).val % 2] := congrArg (fun x => (![x] : Fin 1 → ℕ)) (crem i)
theorem off116_eq (i : grid0.Coords) (n : ℕ) (hn : n ≤ 192) (t : Fin (k0_t9_loop (BitVec.ofNat 32 (16 * n))).trips) : k0_off116 i (BitVec.ofNat 32 (16 * n)) t = ![(i 0).val % 2, 16 * (8 * t.val + 5), 0] := by
  have ht := lt_of_lt_of_eq t.isLt (t9_trips n hn)
  exact congrArg₂ (fun s x => (![s, x, 0] : Fin 3 → ℕ)) (crem i) (c5m t.val 5 (by omega) (by omega))
theorem off117_eq (n : ℕ) (hn : n ≤ 192) (t : Fin (k0_t9_loop (BitVec.ofNat 32 (16 * n))).trips) : k0_off117 (BitVec.ofNat 32 (16 * n)) t = ![0, 0, 8 * t.val + 6] := by
  have ht := lt_of_lt_of_eq t.isLt (t9_trips n hn)
  exact congrArg (fun x => (![0, 0, x] : Fin 3 → ℕ)) (c5 t.val 6 (by omega) (by omega))
theorem off118_eq (i : grid0.Coords) : k0_off118 i = ![(i 0).val % 2] := congrArg (fun x => (![x] : Fin 1 → ℕ)) (crem i)
theorem off120_eq (i : grid0.Coords) (n : ℕ) (hn : n ≤ 192) (t : Fin (k0_t9_loop (BitVec.ofNat 32 (16 * n))).trips) : k0_off120 i (BitVec.ofNat 32 (16 * n)) t = ![(i 0).val % 2, 16 * (8 * t.val + 6), 0] := by
  have ht := lt_of_lt_of_eq t.isLt (t9_trips n hn)
  exact congrArg₂ (fun s x => (![s, x, 0] : Fin 3 → ℕ)) (crem i) (c5m t.val 6 (by omega) (by omega))
theorem off121_eq (n : ℕ) (hn : n ≤ 192) (t : Fin (k0_t9_loop (BitVec.ofNat 32 (16 * n))).trips) : k0_off121 (BitVec.ofNat 32 (16 * n)) t = ![0, 0, 8 * t.val + 7] := by
  have ht := lt_of_lt_of_eq t.isLt (t9_trips n hn)
  exact congrArg (fun x => (![0, 0, x] : Fin 3 → ℕ)) (c5 t.val 7 (by omega) (by omega))
theorem off122_eq (i : grid0.Coords) : k0_off122 i = ![(i 0).val % 2] := congrArg (fun x => (![x] : Fin 1 → ℕ)) (crem i)
theorem off124_eq (i : grid0.Coords) (n : ℕ) (hn : n ≤ 192) (t : Fin (k0_t9_loop (BitVec.ofNat 32 (16 * n))).trips) : k0_off124 i (BitVec.ofNat 32 (16 * n)) t = ![(i 0).val % 2, 16 * (8 * t.val + 7), 0] := by
  have ht := lt_of_lt_of_eq t.isLt (t9_trips n hn)
  exact congrArg₂ (fun s x => (![s, x, 0] : Fin 3 → ℕ)) (crem i) (c5m t.val 7 (by omega) (by omega))
theorem off157_eq (n : ℕ) (hn : n ≤ 192) (t : Fin (k0_t11_loop (BitVec.ofNat 32 (16 * n))).trips) : k0_off157 (BitVec.ofNat 32 (16 * n)) t = ![0, 0, 8 * (n / 8) + t.val] := by
  have ht := lt_of_lt_of_eq t.isLt (t11_trips n hn)
  exact congrArg (fun x => (![0, 0, x] : Fin 3 → ℕ)) (c7 n t.val hn (by omega))
theorem off158_eq (i : grid0.Coords) : k0_off158 i = ![(i 0).val % 2] := congrArg (fun x => (![x] : Fin 1 → ℕ)) (crem i)
theorem off160_eq (i : grid0.Coords) (n : ℕ) (hn : n ≤ 192) (t : Fin (k0_t11_loop (BitVec.ofNat 32 (16 * n))).trips) : k0_off160 i (BitVec.ofNat 32 (16 * n)) t = ![(i 0).val % 2, 16 * (8 * (n / 8) + t.val), 0] := by
  have ht := lt_of_lt_of_eq t.isLt (t11_trips n hn)
  exact congrArg₂ (fun s x => (![s, x, 0] : Fin 3 → ℕ)) (crem i) (c7m n t.val hn (by omega))
theorem off2_eq (i : grid0.Coords) : k0_off2 i = ![(i 0).val % 2] := congrArg (fun x => (![x] : Fin 1 → ℕ)) (crem i)
theorem off4_eq (i : grid0.Coords) : k0_off4 i = ![(i 0).val % 2] := congrArg (fun x => (![x] : Fin 1 → ℕ)) (crem i)
theorem off6_eq (i : grid0.Coords) : k0_off6 i = ![(i 0).val % 2] := congrArg (fun x => (![x] : Fin 1 → ℕ)) (crem i)
theorem off8_eq (i : grid0.Coords) : k0_off8 i = ![(i 0).val % 2] := congrArg (fun x => (![x] : Fin 1 → ℕ)) (crem i)
theorem off173_eq (i : grid0.Coords) : k0_off173 i = ![(i 0).val % 2] := congrArg (fun x => (![x] : Fin 1 → ℕ)) (crem i)
theorem off175_eq (i : grid0.Coords) : k0_off175 i = ![(i 0).val % 2] := congrArg (fun x => (![x] : Fin 1 → ℕ)) (crem i)
theorem off177_eq (i : grid0.Coords) : k0_off177 i = ![(i 0).val % 2] := congrArg (fun x => (![x] : Fin 1 → ℕ)) (crem i)
theorem off179_eq (i : grid0.Coords) : k0_off179 i = ![(i 0).val % 2] := congrArg (fun x => (![x] : Fin 1 → ℕ)) (crem i)
theorem off165_eq (i : grid0.Coords) : k0_off165 i = ![1 - (i 0).val % 2] := congrArg (fun x => (![x] : Fin 1 → ℕ)) (crem1 i)
theorem off167_eq (i : grid0.Coords) : k0_off167 i = ![1 - (i 0).val % 2] := congrArg (fun x => (![x] : Fin 1 → ℕ)) (crem1 i)
theorem off169_eq (i : grid0.Coords) : k0_off169 i = ![1 - (i 0).val % 2] := congrArg (fun x => (![x] : Fin 1 → ℕ)) (crem1 i)
theorem off171_eq (i : grid0.Coords) : k0_off171 i = ![1 - (i 0).val % 2] := congrArg (fun x => (![x] : Fin 1 → ℕ)) (crem1 i)
theorem off11_eq (i : grid0.Coords) : k0_off11 i = ![(i 0).val % 2, 0, 0] := congrArg (fun x => (![x, 0, 0] : Fin 3 → ℕ)) (crem i)
theorem off12_eq (i : grid0.Coords) : k0_off12 i = ![(i 0).val % 2, 512, 0] := congrArg (fun x => (![x, 512, 0] : Fin 3 → ℕ)) (crem i)
theorem off13_eq (i : grid0.Coords) : k0_off13 i = ![(i 0).val % 2, 1024, 0] := congrArg (fun x => (![x, 1024, 0] : Fin 3 → ℕ)) (crem i)
theorem off14_eq (i : grid0.Coords) : k0_off14 i = ![(i 0).val % 2, 1536, 0] := congrArg (fun x => (![x, 1536, 0] : Fin 3 → ℕ)) (crem i)
theorem off15_eq (i : grid0.Coords) : k0_off15 i = ![(i 0).val % 2, 2048, 0] := congrArg (fun x => (![x, 2048, 0] : Fin 3 → ℕ)) (crem i)
theorem off16_eq (i : grid0.Coords) : k0_off16 i = ![(i 0).val % 2, 2560, 0] := congrArg (fun x => (![x, 2560, 0] : Fin 3 → ℕ)) (crem i)
theorem off89_eq (i : grid0.Coords) : k0_off89 i = ![(i 0).val % 2, 0, 0] := congrArg (fun x => (![x, 0, 0] : Fin 3 → ℕ)) (crem i)
theorem off90_eq (i : grid0.Coords) : k0_off90 i = ![(i 0).val % 2, 512, 0] := congrArg (fun x => (![x, 512, 0] : Fin 3 → ℕ)) (crem i)
theorem off91_eq (i : grid0.Coords) : k0_off91 i = ![(i 0).val % 2, 1024, 0] := congrArg (fun x => (![x, 1024, 0] : Fin 3 → ℕ)) (crem i)
theorem off92_eq (i : grid0.Coords) : k0_off92 i = ![(i 0).val % 2, 1536, 0] := congrArg (fun x => (![x, 1536, 0] : Fin 3 → ℕ)) (crem i)
theorem off1_eq (i : grid0.Coords) (h : 2 ≤ (i 0).val) : k0_off1 i = ![(i 0).val - 2] := by
  have := w_lt i
  exact congrArg (fun x => (![x] : Fin 1 → ℕ)) (show (Scalar.subi (BitVec.ofNat 32 (i 0).val) 2#32).toNat = _ by rw [w_sub _ _ h, w_toNat _ (by omega)])
theorem off10_eq (i : grid0.Coords) : k0_off10 i = ![(i 0).val] := by
  have := w_lt i
  exact congrArg (fun x => (![x] : Fin 1 → ℕ)) (w_toNat _ (by omega))
theorem off181_eq (t : Fin k0_t21_loop.trips) (h : t.val < 64) : k0_off181 t = ![t.val] :=
  congrArg (fun x => (![x] : Fin 1 → ℕ)) (show (Scf.iv 0#32 1#32 t.val).toNat = _ by rw [w_iv, w_toNat _ (by omega)]; omega)
theorem off182_eq (t : Fin k0_t21_loop.trips) (h : t.val < 64) : k0_off182 t = ![t.val] :=
  congrArg (fun x => (![x] : Fin 1 → ℕ)) (show (Scf.iv 0#32 1#32 t.val).toNat = _ by rw [w_iv, w_toNat _ (by omega)]; omega)
theorem t21_trips : k0_t21_loop.trips = 64 := by
  show (Scf.Loop.mk 0#32 (Scalar.addi 0#32 64#32) 1#32).trips = 64
  rw [w_add]; exact trips_N 0 64 (by omega) (by omega)
theorem t21_okN : k0_t21_loop.OK := by
  show (Scf.Loop.mk 0#32 (Scalar.addi 0#32 64#32) 1#32).OK
  rw [w_add]; exact ok_N 0 64 (by omega) (by omega)
theorem off183_eq (m : ℕ) (hm : m ≤ 14208) (r : ℕ) (hr : r ≤ 14208) (t : Fin (k0_t22_loop (BitVec.ofNat 32 m)).trips) :
    k0_off183 (BitVec.ofNat 32 m) t (BitVec.ofNat 32 (16 * r)) = ![16 * (r + t.val), 0] := by
  have ht := lt_of_lt_of_eq t.isLt (t22_trips m hm)
  exact congrArg (fun x => (![x, 0] : Fin 2 → ℕ)) (cfill r t.val (by omega))
theorem off189_eq (n : ℕ) (hn : n ≤ 444) (t : Fin (k0_t26_loop (BitVec.ofNat 32 n)).trips) :
    k0_off189 (BitVec.ofNat 32 n) t = ![512 * (n + t.val), 0] := by
  have ht := lt_of_lt_of_eq t.isLt (t26_trips n hn)
  exact congrArg (fun x => (![x, 0] : Fin 2 → ℕ)) (ctail n t.val (by omega))
theorem off191_eq (n : ℕ) (hn : n ≤ 444) (t : Fin (k0_t28_loop (BitVec.ofNat 32 n)).trips) :
    k0_off191 (BitVec.ofNat 32 n) t = ![512 * (n + t.val), 0] := by
  have ht := lt_of_lt_of_eq t.isLt (t28_trips n hn)
  exact congrArg (fun x => (![x, 0] : Fin 2 → ℕ)) (ctail n t.val (by omega))

theorem chk3_of (i : grid0.Coords) (r : ℕ) (hr : r < 14208) : k0_chk3 i (BitVec.ofNat 32 (16 * r)) := by
  have e : k0_off19 (BitVec.ofNat 32 (16 * r)) = ![16 * r, 0] := congrArg (fun x => (![x, 0] : Fin 2 → ℕ)) (w_toNat (16 * r) (by omega))
  refine ⟨fun _ => ⟨r, w_toNat (16 * r) (by omega)⟩, fun _ => ?_, fun _ => ?_⟩
  · rw [e]; exact inbX r hr
  · rw [e]; exact fun h => ww16 r h
theorem off19_eq (r : ℕ) (hr : r < 14208) : k0_off19 (BitVec.ofNat 32 (16 * r)) = ![16 * r, 0] := congrArg (fun x => (![x, 0] : Fin 2 → ℕ)) (w_toNat (16 * r) (by omega))
theorem chk4_of (i : grid0.Coords) (r : ℕ) (hr : r < 14208) : k0_chk4 i (BitVec.ofNat 32 (16 * r)) := by
  have e : k0_off23 (BitVec.ofNat 32 (16 * r)) = ![16 * r, 0] := congrArg (fun x => (![x, 0] : Fin 2 → ℕ)) (w_toNat (16 * r) (by omega))
  refine ⟨fun _ => ⟨r, w_toNat (16 * r) (by omega)⟩, fun _ => ?_, fun _ => ?_⟩
  · rw [e]; exact inbX r hr
  · rw [e]; exact fun h => ww16 r h
theorem off23_eq (r : ℕ) (hr : r < 14208) : k0_off23 (BitVec.ofNat 32 (16 * r)) = ![16 * r, 0] := congrArg (fun x => (![x, 0] : Fin 2 → ℕ)) (w_toNat (16 * r) (by omega))
theorem chk5_of (i : grid0.Coords) (r : ℕ) (hr : r < 14208) : k0_chk5 i (BitVec.ofNat 32 (16 * r)) := by
  have e : k0_off27 (BitVec.ofNat 32 (16 * r)) = ![16 * r, 0] := congrArg (fun x => (![x, 0] : Fin 2 → ℕ)) (w_toNat (16 * r) (by omega))
  refine ⟨fun _ => ⟨r, w_toNat (16 * r) (by omega)⟩, fun _ => ?_, fun _ => ?_⟩
  · rw [e]; exact inbX r hr
  · rw [e]; exact fun h => ww16 r h
theorem off27_eq (r : ℕ) (hr : r < 14208) : k0_off27 (BitVec.ofNat 32 (16 * r)) = ![16 * r, 0] := congrArg (fun x => (![x, 0] : Fin 2 → ℕ)) (w_toNat (16 * r) (by omega))
theorem chk6_of (i : grid0.Coords) (r : ℕ) (hr : r < 14208) : k0_chk6 i (BitVec.ofNat 32 (16 * r)) := by
  have e : k0_off31 (BitVec.ofNat 32 (16 * r)) = ![16 * r, 0] := congrArg (fun x => (![x, 0] : Fin 2 → ℕ)) (w_toNat (16 * r) (by omega))
  refine ⟨fun _ => ⟨r, w_toNat (16 * r) (by omega)⟩, fun _ => ?_, fun _ => ?_⟩
  · rw [e]; exact inbX r hr
  · rw [e]; exact fun h => ww16 r h
theorem off31_eq (r : ℕ) (hr : r < 14208) : k0_off31 (BitVec.ofNat 32 (16 * r)) = ![16 * r, 0] := congrArg (fun x => (![x, 0] : Fin 2 → ℕ)) (w_toNat (16 * r) (by omega))
theorem chk7_of (i : grid0.Coords) (r : ℕ) (hr : r < 14208) : k0_chk7 i (BitVec.ofNat 32 (16 * r)) := by
  have e : k0_off35 (BitVec.ofNat 32 (16 * r)) = ![16 * r, 0] := congrArg (fun x => (![x, 0] : Fin 2 → ℕ)) (w_toNat (16 * r) (by omega))
  refine ⟨fun _ => ⟨r, w_toNat (16 * r) (by omega)⟩, fun _ => ?_, fun _ => ?_⟩
  · rw [e]; exact inbX r hr
  · rw [e]; exact fun h => ww16 r h
theorem off35_eq (r : ℕ) (hr : r < 14208) : k0_off35 (BitVec.ofNat 32 (16 * r)) = ![16 * r, 0] := congrArg (fun x => (![x, 0] : Fin 2 → ℕ)) (w_toNat (16 * r) (by omega))
theorem chk8_of (i : grid0.Coords) (r : ℕ) (hr : r < 14208) : k0_chk8 i (BitVec.ofNat 32 (16 * r)) := by
  have e : k0_off39 (BitVec.ofNat 32 (16 * r)) = ![16 * r, 0] := congrArg (fun x => (![x, 0] : Fin 2 → ℕ)) (w_toNat (16 * r) (by omega))
  refine ⟨fun _ => ⟨r, w_toNat (16 * r) (by omega)⟩, fun _ => ?_, fun _ => ?_⟩
  · rw [e]; exact inbX r hr
  · rw [e]; exact fun h => ww16 r h
theorem off39_eq (r : ℕ) (hr : r < 14208) : k0_off39 (BitVec.ofNat 32 (16 * r)) = ![16 * r, 0] := congrArg (fun x => (![x, 0] : Fin 2 → ℕ)) (w_toNat (16 * r) (by omega))
theorem chk9_of (i : grid0.Coords) (r : ℕ) (hr : r < 14208) : k0_chk9 i (BitVec.ofNat 32 (16 * r)) := by
  have e : k0_off43 (BitVec.ofNat 32 (16 * r)) = ![16 * r, 0] := congrArg (fun x => (![x, 0] : Fin 2 → ℕ)) (w_toNat (16 * r) (by omega))
  refine ⟨fun _ => ⟨r, w_toNat (16 * r) (by omega)⟩, fun _ => ?_, fun _ => ?_⟩
  · rw [e]; exact inbX r hr
  · rw [e]; exact fun h => ww16 r h
theorem off43_eq (r : ℕ) (hr : r < 14208) : k0_off43 (BitVec.ofNat 32 (16 * r)) = ![16 * r, 0] := congrArg (fun x => (![x, 0] : Fin 2 → ℕ)) (w_toNat (16 * r) (by omega))
theorem chk10_of (i : grid0.Coords) (r : ℕ) (hr : r < 14208) : k0_chk10 i (BitVec.ofNat 32 (16 * r)) := by
  have e : k0_off47 (BitVec.ofNat 32 (16 * r)) = ![16 * r, 0] := congrArg (fun x => (![x, 0] : Fin 2 → ℕ)) (w_toNat (16 * r) (by omega))
  refine ⟨fun _ => ⟨r, w_toNat (16 * r) (by omega)⟩, fun _ => ?_, fun _ => ?_⟩
  · rw [e]; exact inbX r hr
  · rw [e]; exact fun h => ww16 r h
theorem off47_eq (r : ℕ) (hr : r < 14208) : k0_off47 (BitVec.ofNat 32 (16 * r)) = ![16 * r, 0] := congrArg (fun x => (![x, 0] : Fin 2 → ℕ)) (w_toNat (16 * r) (by omega))
theorem chk19_of (i : grid0.Coords) (r : ℕ) (hr : r < 14208) : k0_chk19 i (BitVec.ofNat 32 (16 * r)) := by
  have e : k0_off83 (BitVec.ofNat 32 (16 * r)) = ![16 * r, 0] := congrArg (fun x => (![x, 0] : Fin 2 → ℕ)) (w_toNat (16 * r) (by omega))
  refine ⟨fun _ => ⟨r, w_toNat (16 * r) (by omega)⟩, fun _ => ?_, fun _ => ?_⟩
  · rw [e]; exact inbX r hr
  · rw [e]; exact fun h => ww16 r h
theorem off83_eq (r : ℕ) (hr : r < 14208) : k0_off83 (BitVec.ofNat 32 (16 * r)) = ![16 * r, 0] := congrArg (fun x => (![x, 0] : Fin 2 → ℕ)) (w_toNat (16 * r) (by omega))
theorem chk22_of (i : grid0.Coords) (r : ℕ) (hr : r < 14208) : k0_chk22 i (BitVec.ofNat 32 (16 * r)) := by
  have e : k0_off95 (BitVec.ofNat 32 (16 * r)) = ![16 * r, 0] := congrArg (fun x => (![x, 0] : Fin 2 → ℕ)) (w_toNat (16 * r) (by omega))
  refine ⟨fun _ => ⟨r, w_toNat (16 * r) (by omega)⟩, fun _ => ?_, fun _ => ?_⟩
  · rw [e]; exact inbX r hr
  · rw [e]; exact fun h => ww16 r h
theorem off95_eq (r : ℕ) (hr : r < 14208) : k0_off95 (BitVec.ofNat 32 (16 * r)) = ![16 * r, 0] := congrArg (fun x => (![x, 0] : Fin 2 → ℕ)) (w_toNat (16 * r) (by omega))
theorem chk23_of (i : grid0.Coords) (r : ℕ) (hr : r < 14208) : k0_chk23 i (BitVec.ofNat 32 (16 * r)) := by
  have e : k0_off99 (BitVec.ofNat 32 (16 * r)) = ![16 * r, 0] := congrArg (fun x => (![x, 0] : Fin 2 → ℕ)) (w_toNat (16 * r) (by omega))
  refine ⟨fun _ => ⟨r, w_toNat (16 * r) (by omega)⟩, fun _ => ?_, fun _ => ?_⟩
  · rw [e]; exact inbX r hr
  · rw [e]; exact fun h => ww16 r h
theorem off99_eq (r : ℕ) (hr : r < 14208) : k0_off99 (BitVec.ofNat 32 (16 * r)) = ![16 * r, 0] := congrArg (fun x => (![x, 0] : Fin 2 → ℕ)) (w_toNat (16 * r) (by omega))
theorem chk24_of (i : grid0.Coords) (r : ℕ) (hr : r < 14208) : k0_chk24 i (BitVec.ofNat 32 (16 * r)) := by
  have e : k0_off103 (BitVec.ofNat 32 (16 * r)) = ![16 * r, 0] := congrArg (fun x => (![x, 0] : Fin 2 → ℕ)) (w_toNat (16 * r) (by omega))
  refine ⟨fun _ => ⟨r, w_toNat (16 * r) (by omega)⟩, fun _ => ?_, fun _ => ?_⟩
  · rw [e]; exact inbX r hr
  · rw [e]; exact fun h => ww16 r h
theorem off103_eq (r : ℕ) (hr : r < 14208) : k0_off103 (BitVec.ofNat 32 (16 * r)) = ![16 * r, 0] := congrArg (fun x => (![x, 0] : Fin 2 → ℕ)) (w_toNat (16 * r) (by omega))
theorem chk25_of (i : grid0.Coords) (r : ℕ) (hr : r < 14208) : k0_chk25 i (BitVec.ofNat 32 (16 * r)) := by
  have e : k0_off107 (BitVec.ofNat 32 (16 * r)) = ![16 * r, 0] := congrArg (fun x => (![x, 0] : Fin 2 → ℕ)) (w_toNat (16 * r) (by omega))
  refine ⟨fun _ => ⟨r, w_toNat (16 * r) (by omega)⟩, fun _ => ?_, fun _ => ?_⟩
  · rw [e]; exact inbX r hr
  · rw [e]; exact fun h => ww16 r h
theorem off107_eq (r : ℕ) (hr : r < 14208) : k0_off107 (BitVec.ofNat 32 (16 * r)) = ![16 * r, 0] := congrArg (fun x => (![x, 0] : Fin 2 → ℕ)) (w_toNat (16 * r) (by omega))
theorem chk26_of (i : grid0.Coords) (r : ℕ) (hr : r < 14208) : k0_chk26 i (BitVec.ofNat 32 (16 * r)) := by
  have e : k0_off111 (BitVec.ofNat 32 (16 * r)) = ![16 * r, 0] := congrArg (fun x => (![x, 0] : Fin 2 → ℕ)) (w_toNat (16 * r) (by omega))
  refine ⟨fun _ => ⟨r, w_toNat (16 * r) (by omega)⟩, fun _ => ?_, fun _ => ?_⟩
  · rw [e]; exact inbX r hr
  · rw [e]; exact fun h => ww16 r h
theorem off111_eq (r : ℕ) (hr : r < 14208) : k0_off111 (BitVec.ofNat 32 (16 * r)) = ![16 * r, 0] := congrArg (fun x => (![x, 0] : Fin 2 → ℕ)) (w_toNat (16 * r) (by omega))
theorem chk27_of (i : grid0.Coords) (r : ℕ) (hr : r < 14208) : k0_chk27 i (BitVec.ofNat 32 (16 * r)) := by
  have e : k0_off115 (BitVec.ofNat 32 (16 * r)) = ![16 * r, 0] := congrArg (fun x => (![x, 0] : Fin 2 → ℕ)) (w_toNat (16 * r) (by omega))
  refine ⟨fun _ => ⟨r, w_toNat (16 * r) (by omega)⟩, fun _ => ?_, fun _ => ?_⟩
  · rw [e]; exact inbX r hr
  · rw [e]; exact fun h => ww16 r h
theorem off115_eq (r : ℕ) (hr : r < 14208) : k0_off115 (BitVec.ofNat 32 (16 * r)) = ![16 * r, 0] := congrArg (fun x => (![x, 0] : Fin 2 → ℕ)) (w_toNat (16 * r) (by omega))
theorem chk28_of (i : grid0.Coords) (r : ℕ) (hr : r < 14208) : k0_chk28 i (BitVec.ofNat 32 (16 * r)) := by
  have e : k0_off119 (BitVec.ofNat 32 (16 * r)) = ![16 * r, 0] := congrArg (fun x => (![x, 0] : Fin 2 → ℕ)) (w_toNat (16 * r) (by omega))
  refine ⟨fun _ => ⟨r, w_toNat (16 * r) (by omega)⟩, fun _ => ?_, fun _ => ?_⟩
  · rw [e]; exact inbX r hr
  · rw [e]; exact fun h => ww16 r h
theorem off119_eq (r : ℕ) (hr : r < 14208) : k0_off119 (BitVec.ofNat 32 (16 * r)) = ![16 * r, 0] := congrArg (fun x => (![x, 0] : Fin 2 → ℕ)) (w_toNat (16 * r) (by omega))
theorem chk29_of (i : grid0.Coords) (r : ℕ) (hr : r < 14208) : k0_chk29 i (BitVec.ofNat 32 (16 * r)) := by
  have e : k0_off123 (BitVec.ofNat 32 (16 * r)) = ![16 * r, 0] := congrArg (fun x => (![x, 0] : Fin 2 → ℕ)) (w_toNat (16 * r) (by omega))
  refine ⟨fun _ => ⟨r, w_toNat (16 * r) (by omega)⟩, fun _ => ?_, fun _ => ?_⟩
  · rw [e]; exact inbX r hr
  · rw [e]; exact fun h => ww16 r h
theorem off123_eq (r : ℕ) (hr : r < 14208) : k0_off123 (BitVec.ofNat 32 (16 * r)) = ![16 * r, 0] := congrArg (fun x => (![x, 0] : Fin 2 → ℕ)) (w_toNat (16 * r) (by omega))
theorem chk38_of (i : grid0.Coords) (r : ℕ) (hr : r < 14208) : k0_chk38 i (BitVec.ofNat 32 (16 * r)) := by
  have e : k0_off159 (BitVec.ofNat 32 (16 * r)) = ![16 * r, 0] := congrArg (fun x => (![x, 0] : Fin 2 → ℕ)) (w_toNat (16 * r) (by omega))
  refine ⟨fun _ => ⟨r, w_toNat (16 * r) (by omega)⟩, fun _ => ?_, fun _ => ?_⟩
  · rw [e]; exact inbX r hr
  · rw [e]; exact fun h => ww16 r h
theorem off159_eq (r : ℕ) (hr : r < 14208) : k0_off159 (BitVec.ofNat 32 (16 * r)) = ![16 * r, 0] := congrArg (fun x => (![x, 0] : Fin 2 → ℕ)) (w_toNat (16 * r) (by omega))
theorem chk46_of (i : grid0.Coords) (r : ℕ) (hr : r < 14208) : k0_chk46 i (BitVec.ofNat 32 (16 * r)) := by
  have v : (Scalar.addi (BitVec.ofNat 32 (16 * r)) 0#32).toNat = 16 * r := by rw [w_add, w_toNat _ (by omega)]; omega
  have e : k0_off187 (BitVec.ofNat 32 (16 * r)) = ![16 * r, 0] := congrArg (fun x => (![x, 0] : Fin 2 → ℕ)) v
  refine ⟨fun _ => ⟨r, v⟩, fun _ => ?_, fun _ => ?_⟩
  · rw [e]; exact inbX r hr
  · rw [e]; exact fun h => ww16 r h
theorem chk43_of (i : grid0.Coords) (m : ℕ) (hm : m ≤ 14208) (r : ℕ) (t : Fin (k0_t22_loop (BitVec.ofNat 32 m)).trips) (hr : r + m ≤ 14208) :
    k0_chk43 i (BitVec.ofNat 32 m) t (BitVec.ofNat 32 (16 * r)) := by
  have ht := lt_of_lt_of_eq t.isLt (t22_trips m hm)
  refine ⟨fun _ => ⟨r + t.val, cfill r t.val (by omega)⟩, fun _ => ?_, fun _ => ?_⟩
  · rw [off183_eq m hm r (by omega) t]; exact inbX _ (by omega)
  · rw [off183_eq m hm r (by omega) t]; exact fun h => ww16 _ h

theorem chk1_of (i : grid0.Coords) (n : ℕ) (hn : n ≤ 192) : k0_chk1 i (BitVec.ofNat 32 (16 * n)) :=
  ⟨fun _ => t1_okN n hn, fun _ => t2_okN n hn, fun _ => t3_okN n hn, fun _ => t4_okN n hn⟩
theorem chk40_of (i : grid0.Coords) (n : ℕ) (hn : n ≤ 192) : k0_chk40 i (BitVec.ofNat 32 (16 * n)) :=
  ⟨fun _ => t13_okN n hn, fun _ => t14_okN n hn, fun _ => t15_okN n hn, fun _ => t16_okN n hn⟩
theorem chk41_of (i : grid0.Coords) (n : ℕ) (hn : n ≤ 192) : k0_chk41 i (BitVec.ofNat 32 (16 * n)) :=
  ⟨fun _ => t17_okN n hn, fun _ => t18_okN n hn, fun _ => t19_okN n hn, fun _ => t20_okN n hn⟩
theorem chk42_of (i : grid0.Coords) (n : ℕ) (hn : n ≤ 14208) : k0_chk42 i (BitVec.ofNat 32 n) :=
  ⟨fun _ => t22_okN n hn, fun _ => t23_okN n hn⟩
theorem chk45_of (i : grid0.Coords) (n : ℕ) (hn : n ≤ 14208) : k0_chk45 i (BitVec.ofNat 32 n) :=
  ⟨fun _ => t24_okN n hn, fun _ => t25_okN n hn⟩
theorem chk2_0_of (i : grid0.Coords) (n : ℕ) (hn : n ≤ 192) (hb : n ≤ 192) : k0_chk2_0 i (BitVec.ofNat 32 (16 * n)) :=
  ⟨fun _ => t5_okN n hn,
   fun t _ => by have ht := lt_of_lt_of_eq t.isLt (t5_trips n hn); exact ⟨_, c5m t.val 0 (by omega) (by omega)⟩,
   fun t _ => by have ht := lt_of_lt_of_eq t.isLt (t5_trips n hn); rw [off17_eq n hn t]; exact inbG256 _ (by omega),
   fun t _ => by have ht := lt_of_lt_of_eq t.isLt (t5_trips n hn); rw [off20_eq i n hn t]; exact inbS _ _ (by omega) (by omega),
   fun t _ => by rw [off20_eq i n hn t]; exact fun h => wwS16 _ _ h,
   fun t _ => by have ht := lt_of_lt_of_eq t.isLt (t5_trips n hn); exact ⟨_, c5m t.val 1 (by omega) (by omega)⟩,
   fun t _ => by have ht := lt_of_lt_of_eq t.isLt (t5_trips n hn); rw [off21_eq n hn t]; exact inbG256 _ (by omega),
   fun t _ => by have ht := lt_of_lt_of_eq t.isLt (t5_trips n hn); rw [off24_eq i n hn t]; exact inbS _ _ (by omega) (by omega),
   fun t _ => by rw [off24_eq i n hn t]; exact fun h => wwS16 _ _ h,
   fun t _ => by have ht := lt_of_lt_of_eq t.isLt (t5_trips n hn); exact ⟨_, c5m t.val 2 (by omega) (by omega)⟩,
   fun t _ => by have ht := lt_of_lt_of_eq t.isLt (t5_trips n hn); rw [off25_eq n hn t]; exact inbG256 _ (by omega),
   fun t _ => by have ht := lt_of_lt_of_eq t.isLt (t5_trips n hn); rw [off28_eq i n hn t]; exact inbS _ _ (by omega) (by omega),
   fun t _ => by rw [off28_eq i n hn t]; exact fun h => wwS16 _ _ h,
   fun t _ => by have ht := lt_of_lt_of_eq t.isLt (t5_trips n hn); exact ⟨_, c5m t.val 3 (by omega) (by omega)⟩,
   fun t _ => by have ht := lt_of_lt_of_eq t.isLt (t5_trips n hn); rw [off29_eq n hn t]; exact inbG256 _ (by omega),
   fun t _ => by have ht := lt_of_lt_of_eq t.isLt (t5_trips n hn); rw [off32_eq i n hn t]; exact inbS _ _ (by omega) (by omega),
   fun t _ => by rw [off32_eq i n hn t]; exact fun h => wwS16 _ _ h,
   fun t _ => by have ht := lt_of_lt_of_eq t.isLt (t5_trips n hn); exact ⟨_, c5m t.val 4 (by omega) (by omega)⟩,
   fun t _ => by have ht := lt_of_lt_of_eq t.isLt (t5_trips n hn); rw [off33_eq n hn t]; exact inbG256 _ (by omega),
   fun t _ => by have ht := lt_of_lt_of_eq t.isLt (t5_trips n hn); rw [off36_eq i n hn t]; exact inbS _ _ (by omega) (by omega),
   fun t _ => by rw [off36_eq i n hn t]; exact fun h => wwS16 _ _ h,
   fun t _ => by have ht := lt_of_lt_of_eq t.isLt (t5_trips n hn); exact ⟨_, c5m t.val 5 (by omega) (by omega)⟩,
   fun t _ => by have ht := lt_of_lt_of_eq t.isLt (t5_trips n hn); rw [off37_eq n hn t]; exact inbG256 _ (by omega),
   fun t _ => by have ht := lt_of_lt_of_eq t.isLt (t5_trips n hn); rw [off40_eq i n hn t]; exact inbS _ _ (by omega) (by omega),
   fun t _ => by rw [off40_eq i n hn t]; exact fun h => wwS16 _ _ h,
   fun t _ => by have ht := lt_of_lt_of_eq t.isLt (t5_trips n hn); exact ⟨_, c5m t.val 6 (by omega) (by omega)⟩,
   fun t _ => by have ht := lt_of_lt_of_eq t.isLt (t5_trips n hn); rw [off41_eq n hn t]; exact inbG256 _ (by omega),
   fun t _ => by have ht := lt_of_lt_of_eq t.isLt (t5_trips n hn); rw [off44_eq i n hn t]; exact inbS _ _ (by omega) (by omega),
   fun t _ => by rw [off44_eq i n hn t]; exact fun h => wwS16 _ _ h,
   fun t _ => by have ht := lt_of_lt_of_eq t.isLt (t5_trips n hn); exact ⟨_, c5m t.val 7 (by omega) (by omega)⟩,
   fun t _ => by have ht := lt_of_lt_of_eq t.isLt (t5_trips n hn); rw [off45_eq n hn t]; exact inbG256 _ (by omega),
   fun t _ => by have ht := lt_of_lt_of_eq t.isLt (t5_trips n hn); rw [off48_eq i n hn t]; exact inbS _ _ (by omega) (by omega)⟩
theorem chk2_1_of (i : grid0.Coords) (n : ℕ) (hn : n ≤ 192) (hb : n ≤ 192) : k0_chk2_1 i (BitVec.ofNat 32 (16 * n)) :=
  ⟨fun t _ => by rw [off48_eq i n hn t]; exact fun h => wwS16 _ _ h,
   fun _ => t6_okN n hn,
   fun t => False.elim (by have h := lt_of_lt_of_eq t.isLt (t6_trips n hn); omega),
   fun t => False.elim (by have h := lt_of_lt_of_eq t.isLt (t6_trips n hn); omega),
   fun t => False.elim (by have h := lt_of_lt_of_eq t.isLt (t6_trips n hn); omega),
   fun t => False.elim (by have h := lt_of_lt_of_eq t.isLt (t6_trips n hn); omega),
   fun t => False.elim (by have h := lt_of_lt_of_eq t.isLt (t6_trips n hn); omega),
   fun t => False.elim (by have h := lt_of_lt_of_eq t.isLt (t6_trips n hn); omega),
   fun t => False.elim (by have h := lt_of_lt_of_eq t.isLt (t6_trips n hn); omega),
   fun t => False.elim (by have h := lt_of_lt_of_eq t.isLt (t6_trips n hn); omega),
   fun t => False.elim (by have h := lt_of_lt_of_eq t.isLt (t6_trips n hn); omega),
   fun t => False.elim (by have h := lt_of_lt_of_eq t.isLt (t6_trips n hn); omega),
   fun t => False.elim (by have h := lt_of_lt_of_eq t.isLt (t6_trips n hn); omega),
   fun t => False.elim (by have h := lt_of_lt_of_eq t.isLt (t6_trips n hn); omega),
   fun t => False.elim (by have h := lt_of_lt_of_eq t.isLt (t6_trips n hn); omega),
   fun t => False.elim (by have h := lt_of_lt_of_eq t.isLt (t6_trips n hn); omega),
   fun t => False.elim (by have h := lt_of_lt_of_eq t.isLt (t6_trips n hn); omega),
   fun t => False.elim (by have h := lt_of_lt_of_eq t.isLt (t6_trips n hn); omega),
   fun t => False.elim (by have h := lt_of_lt_of_eq t.isLt (t6_trips n hn); omega),
   fun t => False.elim (by have h := lt_of_lt_of_eq t.isLt (t6_trips n hn); omega),
   fun t => False.elim (by have h := lt_of_lt_of_eq t.isLt (t6_trips n hn); omega),
   fun t => False.elim (by have h := lt_of_lt_of_eq t.isLt (t6_trips n hn); omega),
   fun t => False.elim (by have h := lt_of_lt_of_eq t.isLt (t6_trips n hn); omega),
   fun t => False.elim (by have h := lt_of_lt_of_eq t.isLt (t6_trips n hn); omega),
   fun t => False.elim (by have h := lt_of_lt_of_eq t.isLt (t6_trips n hn); omega),
   fun t => False.elim (by have h := lt_of_lt_of_eq t.isLt (t6_trips n hn); omega),
   fun t => False.elim (by have h := lt_of_lt_of_eq t.isLt (t6_trips n hn); omega),
   fun t => False.elim (by have h := lt_of_lt_of_eq t.isLt (t6_trips n hn); omega),
   fun t => False.elim (by have h := lt_of_lt_of_eq t.isLt (t6_trips n hn); omega),
   fun t => False.elim (by have h := lt_of_lt_of_eq t.isLt (t6_trips n hn); omega),
   fun t => False.elim (by have h := lt_of_lt_of_eq t.isLt (t6_trips n hn); omega),
   fun t => False.elim (by have h := lt_of_lt_of_eq t.isLt (t6_trips n hn); omega)⟩
theorem chk2_2_of (i : grid0.Coords) (n : ℕ) (hn : n ≤ 192) (hb : n ≤ 192) : k0_chk2_2 i (BitVec.ofNat 32 (16 * n)) :=
  ⟨fun t => False.elim (by have h := lt_of_lt_of_eq t.isLt (t6_trips n hn); omega),
   fun t => False.elim (by have h := lt_of_lt_of_eq t.isLt (t6_trips n hn); omega),
   fun _ => t7_okN n hn,
   fun t _ => by have ht := lt_of_lt_of_eq t.isLt (t7_trips n hn); exact ⟨_, c7m n t.val hn (by omega)⟩,
   fun t _ => by have ht := lt_of_lt_of_eq t.isLt (t7_trips n hn); rw [off81_eq n hn t]; exact inbG256 _ (by omega),
   fun t _ => by have ht := lt_of_lt_of_eq t.isLt (t7_trips n hn); rw [off84_eq i n hn t]; exact inbS _ _ (by omega) (by omega),
   fun t _ => by rw [off84_eq i n hn t]; exact fun h => wwS16 _ _ h,
   fun _ => t8_okN n hn,
   fun t => False.elim (by have h := lt_of_lt_of_eq t.isLt (t8_trips n hn); omega),
   fun t => False.elim (by have h := lt_of_lt_of_eq t.isLt (t8_trips n hn); omega),
   fun t => False.elim (by have h := lt_of_lt_of_eq t.isLt (t8_trips n hn); omega),
   fun t => False.elim (by have h := lt_of_lt_of_eq t.isLt (t8_trips n hn); omega)⟩
theorem chk2_of (i : grid0.Coords) (n : ℕ) (hn : n ≤ 192) : k0_chk2 i (BitVec.ofNat 32 (16 * n)) := ⟨chk2_0_of i n hn hn, chk2_1_of i n hn hn, chk2_2_of i n hn hn⟩
theorem chk21_0_of (i : grid0.Coords) (n : ℕ) (hn : n ≤ 192) (hb : n ≤ 128) : k0_chk21_0 i (BitVec.ofNat 32 (16 * n)) :=
  ⟨fun _ => t9_okN n hn,
   fun t _ => by have ht := lt_of_lt_of_eq t.isLt (t9_trips n hn); exact ⟨_, c5m t.val 0 (by omega) (by omega)⟩,
   fun t _ => by have ht := lt_of_lt_of_eq t.isLt (t9_trips n hn); rw [off93_eq n hn t]; exact inbG128 _ (by omega),
   fun t _ => by have ht := lt_of_lt_of_eq t.isLt (t9_trips n hn); rw [off96_eq i n hn t]; exact inbS _ _ (by omega) (by omega),
   fun t _ => by rw [off96_eq i n hn t]; exact fun h => wwS16 _ _ h,
   fun t _ => by have ht := lt_of_lt_of_eq t.isLt (t9_trips n hn); exact ⟨_, c5m t.val 1 (by omega) (by omega)⟩,
   fun t _ => by have ht := lt_of_lt_of_eq t.isLt (t9_trips n hn); rw [off97_eq n hn t]; exact inbG128 _ (by omega),
   fun t _ => by have ht := lt_of_lt_of_eq t.isLt (t9_trips n hn); rw [off100_eq i n hn t]; exact inbS _ _ (by omega) (by omega),
   fun t _ => by rw [off100_eq i n hn t]; exact fun h => wwS16 _ _ h,
   fun t _ => by have ht := lt_of_lt_of_eq t.isLt (t9_trips n hn); exact ⟨_, c5m t.val 2 (by omega) (by omega)⟩,
   fun t _ => by have ht := lt_of_lt_of_eq t.isLt (t9_trips n hn); rw [off101_eq n hn t]; exact inbG128 _ (by omega),
   fun t _ => by have ht := lt_of_lt_of_eq t.isLt (t9_trips n hn); rw [off104_eq i n hn t]; exact inbS _ _ (by omega) (by omega),
   fun t _ => by rw [off104_eq i n hn t]; exact fun h => wwS16 _ _ h,
   fun t _ => by have ht := lt_of_lt_of_eq t.isLt (t9_trips n hn); exact ⟨_, c5m t.val 3 (by omega) (by omega)⟩,
   fun t _ => by have ht := lt_of_lt_of_eq t.isLt (t9_trips n hn); rw [off105_eq n hn t]; exact inbG128 _ (by omega),
   fun t _ => by have ht := lt_of_lt_of_eq t.isLt (t9_trips n hn); rw [off108_eq i n hn t]; exact inbS _ _ (by omega) (by omega),
   fun t _ => by rw [off108_eq i n hn t]; exact fun h => wwS16 _ _ h,
   fun t _ => by have ht := lt_of_lt_of_eq t.isLt (t9_trips n hn); exact ⟨_, c5m t.val 4 (by omega) (by omega)⟩,
   fun t _ => by have ht := lt_of_lt_of_eq t.isLt (t9_trips n hn); rw [off109_eq n hn t]; exact inbG128 _ (by omega),
   fun t _ => by have ht := lt_of_lt_of_eq t.isLt (t9_trips n hn); rw [off112_eq i n hn t]; exact inbS _ _ (by omega) (by omega),
   fun t _ => by rw [off112_eq i n hn t]; exact fun h => wwS16 _ _ h,
   fun t _ => by have ht := lt_of_lt_of_eq t.isLt (t9_trips n hn); exact ⟨_, c5m t.val 5 (by omega) (by omega)⟩,
   fun t _ => by have ht := lt_of_lt_of_eq t.isLt (t9_trips n hn); rw [off113_eq n hn t]; exact inbG128 _ (by omega),
   fun t _ => by have ht := lt_of_lt_of_eq t.isLt (t9_trips n hn); rw [off116_eq i n hn t]; exact inbS _ _ (by omega) (by omega),
   fun t _ => by rw [off116_eq i n hn t]; exact fun h => wwS16 _ _ h,
   fun t _ => by have ht := lt_of_lt_of_eq t.isLt (t9_trips n hn); exact ⟨_, c5m t.val 6 (by omega) (by omega)⟩,
   fun t _ => by have ht := lt_of_lt_of_eq t.isLt (t9_trips n hn); rw [off117_eq n hn t]; exact inbG128 _ (by omega),
   fun t _ => by have ht := lt_of_lt_of_eq t.isLt (t9_trips n hn); rw [off120_eq i n hn t]; exact inbS _ _ (by omega) (by omega),
   fun t _ => by rw [off120_eq i n hn t]; exact fun h => wwS16 _ _ h,
   fun t _ => by have ht := lt_of_lt_of_eq t.isLt (t9_trips n hn); exact ⟨_, c5m t.val 7 (by omega) (by omega)⟩,
   fun t _ => by have ht := lt_of_lt_of_eq t.isLt (t9_trips n hn); rw [off121_eq n hn t]; exact inbG128 _ (by omega),
   fun t _ => by have ht := lt_of_lt_of_eq t.isLt (t9_trips n hn); rw [off124_eq i n hn t]; exact inbS _ _ (by omega) (by omega)⟩
theorem chk21_1_of (i : grid0.Coords) (n : ℕ) (hn : n ≤ 192) (hb : n ≤ 128) : k0_chk21_1 i (BitVec.ofNat 32 (16 * n)) :=
  ⟨fun t _ => by rw [off124_eq i n hn t]; exact fun h => wwS16 _ _ h,
   fun _ => t10_okN n hn,
   fun t => False.elim (by have h := lt_of_lt_of_eq t.isLt (t10_trips n hn); omega),
   fun t => False.elim (by have h := lt_of_lt_of_eq t.isLt (t10_trips n hn); omega),
   fun t => False.elim (by have h := lt_of_lt_of_eq t.isLt (t10_trips n hn); omega),
   fun t => False.elim (by have h := lt_of_lt_of_eq t.isLt (t10_trips n hn); omega),
   fun t => False.elim (by have h := lt_of_lt_of_eq t.isLt (t10_trips n hn); omega),
   fun t => False.elim (by have h := lt_of_lt_of_eq t.isLt (t10_trips n hn); omega),
   fun t => False.elim (by have h := lt_of_lt_of_eq t.isLt (t10_trips n hn); omega),
   fun t => False.elim (by have h := lt_of_lt_of_eq t.isLt (t10_trips n hn); omega),
   fun t => False.elim (by have h := lt_of_lt_of_eq t.isLt (t10_trips n hn); omega),
   fun t => False.elim (by have h := lt_of_lt_of_eq t.isLt (t10_trips n hn); omega),
   fun t => False.elim (by have h := lt_of_lt_of_eq t.isLt (t10_trips n hn); omega),
   fun t => False.elim (by have h := lt_of_lt_of_eq t.isLt (t10_trips n hn); omega),
   fun t => False.elim (by have h := lt_of_lt_of_eq t.isLt (t10_trips n hn); omega),
   fun t => False.elim (by have h := lt_of_lt_of_eq t.isLt (t10_trips n hn); omega),
   fun t => False.elim (by have h := lt_of_lt_of_eq t.isLt (t10_trips n hn); omega),
   fun t => False.elim (by have h := lt_of_lt_of_eq t.isLt (t10_trips n hn); omega),
   fun t => False.elim (by have h := lt_of_lt_of_eq t.isLt (t10_trips n hn); omega),
   fun t => False.elim (by have h := lt_of_lt_of_eq t.isLt (t10_trips n hn); omega),
   fun t => False.elim (by have h := lt_of_lt_of_eq t.isLt (t10_trips n hn); omega),
   fun t => False.elim (by have h := lt_of_lt_of_eq t.isLt (t10_trips n hn); omega),
   fun t => False.elim (by have h := lt_of_lt_of_eq t.isLt (t10_trips n hn); omega),
   fun t => False.elim (by have h := lt_of_lt_of_eq t.isLt (t10_trips n hn); omega),
   fun t => False.elim (by have h := lt_of_lt_of_eq t.isLt (t10_trips n hn); omega),
   fun t => False.elim (by have h := lt_of_lt_of_eq t.isLt (t10_trips n hn); omega),
   fun t => False.elim (by have h := lt_of_lt_of_eq t.isLt (t10_trips n hn); omega),
   fun t => False.elim (by have h := lt_of_lt_of_eq t.isLt (t10_trips n hn); omega),
   fun t => False.elim (by have h := lt_of_lt_of_eq t.isLt (t10_trips n hn); omega),
   fun t => False.elim (by have h := lt_of_lt_of_eq t.isLt (t10_trips n hn); omega),
   fun t => False.elim (by have h := lt_of_lt_of_eq t.isLt (t10_trips n hn); omega),
   fun t => False.elim (by have h := lt_of_lt_of_eq t.isLt (t10_trips n hn); omega)⟩
theorem chk21_2_of (i : grid0.Coords) (n : ℕ) (hn : n ≤ 192) (hb : n ≤ 128) : k0_chk21_2 i (BitVec.ofNat 32 (16 * n)) :=
  ⟨fun t => False.elim (by have h := lt_of_lt_of_eq t.isLt (t10_trips n hn); omega),
   fun t => False.elim (by have h := lt_of_lt_of_eq t.isLt (t10_trips n hn); omega),
   fun _ => t11_okN n hn,
   fun t _ => by have ht := lt_of_lt_of_eq t.isLt (t11_trips n hn); exact ⟨_, c7m n t.val hn (by omega)⟩,
   fun t _ => by have ht := lt_of_lt_of_eq t.isLt (t11_trips n hn); rw [off157_eq n hn t]; exact inbG128 _ (by omega),
   fun t _ => by have ht := lt_of_lt_of_eq t.isLt (t11_trips n hn); rw [off160_eq i n hn t]; exact inbS _ _ (by omega) (by omega),
   fun t _ => by rw [off160_eq i n hn t]; exact fun h => wwS16 _ _ h,
   fun _ => t12_okN n hn,
   fun t => False.elim (by have h := lt_of_lt_of_eq t.isLt (t12_trips n hn); omega),
   fun t => False.elim (by have h := lt_of_lt_of_eq t.isLt (t12_trips n hn); omega),
   fun t => False.elim (by have h := lt_of_lt_of_eq t.isLt (t12_trips n hn); omega),
   fun t => False.elim (by have h := lt_of_lt_of_eq t.isLt (t12_trips n hn); omega)⟩
theorem chk21_of (i : grid0.Coords) (n : ℕ) (hn : n ≤ 128) : k0_chk21 i (BitVec.ofNat 32 (16 * n)) := ⟨chk21_0_of i n (by omega) hn, chk21_1_of i n (by omega) hn, chk21_2_of i n (by omega) hn⟩
theorem chk48_of (i : grid0.Coords) (n : ℕ) (hn : n ≤ 444) (hb : n ≤ 444) : k0_chk48 i (BitVec.ofNat 32 n) :=
  ⟨fun _ => t26_okN n hn,
   fun t _ => by have ht := lt_of_lt_of_eq t.isLt (t26_trips n hn); exact ⟨_, ctail n t.val (by omega)⟩,
   fun t _ => by have ht := lt_of_lt_of_eq t.isLt (t26_trips n hn); rw [off189_eq n hn t]; exact inbX512 _ (by omega),
   fun t _ => by rw [off189_eq n hn t]; exact fun h => ww512 _ h,
   fun _ => t27_okN n hn,
   fun t => False.elim (by have h := lt_of_lt_of_eq t.isLt (t27_trips n hn); omega),
   fun t => False.elim (by have h := lt_of_lt_of_eq t.isLt (t27_trips n hn); omega),
   fun t => False.elim (by have h := lt_of_lt_of_eq t.isLt (t27_trips n hn); omega),
   fun _ => t28_okN n hn,
   fun t _ => by have ht := lt_of_lt_of_eq t.isLt (t28_trips n hn); exact ⟨_, ctail n t.val (by omega)⟩,
   fun t _ => by have ht := lt_of_lt_of_eq t.isLt (t28_trips n hn); rw [off191_eq n hn t]; exact inbX512 _ (by omega),
   fun t _ => by rw [off191_eq n hn t]; exact fun h => ww512 _ h,
   fun _ => t29_okN n hn,
   fun t => False.elim (by have h := lt_of_lt_of_eq t.isLt (t29_trips n hn); omega),
   fun t => False.elim (by have h := lt_of_lt_of_eq t.isLt (t29_trips n hn); omega),
   fun t => False.elim (by have h := lt_of_lt_of_eq t.isLt (t29_trips n hn); omega)⟩
theorem cond1_iff (i : grid0.Coords) : k0_cond1 i = 1#1 ↔ 2 ≤ (i 0).val := by
  have key : ∀ x : Fin 65, (Scalar.cmpi .ne (Scalar.extui (Scalar.cmpi .sge (BitVec.ofNat 32 x.val) 2#32) : BitVec 32) 0#32 = 1#1 ↔ 2 ≤ x.val) := by decide
  exact key ⟨_, w_lt i⟩
theorem cond2_iff (i : grid0.Coords) : k0_cond2 i = 1#1 ↔ (i 0).val < 64 := by
  have key : ∀ x : Fin 65, (Scalar.cmpi .ne (Scalar.extui (Scalar.cmpi .slt (BitVec.ofNat 32 x.val) 64#32) : BitVec 32) 0#32 = 1#1 ↔ x.val < 64) := by decide
  exact key ⟨_, w_lt i⟩
theorem cond5_iff (i : grid0.Coords) : k0_cond5 i = 1#1 ↔ (i 0).val = 64 := by
  have key : ∀ x : Fin 65, (Scalar.cmpi .ne (Scalar.extui (Scalar.cmpi .eq (BitVec.ofNat 32 x.val) 64#32) : BitVec 32) 0#32 = 1#1 ↔ x.val = 64) := by decide
  exact key ⟨_, w_lt i⟩

end Cert.Proof.Send

end
-- ==== Proof.Sends.lean ====
/- One send of a group, one wait, and the loops of them. -/
module

public import proofs.«01_k».proof.Proof.Words
public import Idealize.ShloMosaic.Lib.Pipeline.TableIdle

@[expose] public section

noncomputable section

namespace Cert.Proof.Send

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UC sig nD τ) ℕ

/-- A program that ends in `Q` on core `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- The memref `m` of core `c`, owned whole at `X`. -/
abbrev OW (c : Dev nD) {sp : Space} {s : Shape} {e : EltTy} (m : Memref sig .tc sp s e) (X : s.Idx → Elt F e) : sProp 𝕄 :=
  owns (c : Thread nD τ) m fullShare X

/-- Reading a word of a memref owned at `X`. -/
theorem wp_word (c : Dev nD) {s : Shape} {m : Memref sig .tc .smem s .i32} {r : Rect s} {h1 : r.shape.numel = 1} {hp : EltTy.packing .i32 = 1}
    {α : Type} {k : Elt F .i32 → Prog (TpuEff nD τ sig (Elt F) Λ₀ .tc) α} {Q : α → sProp 𝕄} (X : s.Idx → Elt F .i32) (v : Elt F .i32)
    (hv : ∀ x, X (r.emb x) = v) :
    OW c m X ⊢ iprop((OW c m X -∗ WP c (k v) Q) -∗ WP c (smemLoad m r h1 hp >>= k) Q) := by
  show OW c m X ⊢ iprop((OW c m X -∗ WP c (k v) Q) -∗ WP c (smemLoadElt m r (View.loads_smem_one hp h1) (Shape.Idx.first (h1.symm ▸ Nat.one_pos)) k) Q)
  have e : (OW c m X : sProp 𝕄) = ((m.view.loc (c : Thread nD τ)) ↦[m.view.set]{fullShare} m.view.rep X) := owns_eq_rep _ _ _ _
  rw [e]
  iintro H Hk
  iapply (wp_smemLoadElt 𝒱₀ (c : Thread nD τ) none Set.univ (m := m) (r := r) (View.set_slice_subset _ _)) $$ H
  have ev : (m.access r).read (Elt F) (m.view.rep X) (Shape.Idx.first (h1.symm ▸ Nat.one_pos)) = v := by
    refine Eq.trans ?_ (hv (Shape.Idx.first (h1.symm ▸ Nat.one_pos)))
    exact congrFun (View.readAt_rep m.view r.toLoadRect X) _
  iintro H
  rw [ev]
  iapply Hk; iexact H

/-- The credit one group's transfer puts on its cell. -/
abbrev NU : ℕ := (dstM ![16 * 0, 0] (inbX 0 (by omega))).view.dmaCredit

/-- What the send of group `j` of slot `s` leaves: its rows at their place, and its source home. -/
def DD (c : Dev nD) (s n : ℕ) (G : ℕ → ℕ) (FIN : Buf (Elt F) (xsL c)) (f : Buf (Elt F) (sbL c)) : Fin n → sProp 𝕄 := fun j =>
  iprop(xsAt c (fun r => r = G j.val) FIN ∗ sbAt c s (16 * j.val) (16 * j.val + 16) f)

instance (c : Dev nD) (s n : ℕ) (G : ℕ → ℕ) (FIN : Buf (Elt F) (xsL c)) (f : Buf (Elt F) (sbL c)) (t : Fin n) :
    Storable (upEmb : UEmb _ 𝕄) (DD c s n G FIN f t) := by unfold DD; infer_instance

/-- The transfers of a tile's `n` groups on cell `s`, `j` issued and `u` units waited. -/
abbrev BT (c : Dev nD) (s : Fin 3) (n : ℕ) (G : ℕ → ℕ) (FIN : Buf (Elt F) (xsL c)) (f : Buf (Elt F) (sbL c)) (j u : ℕ) : sProp 𝕄 :=
  Transfers.Batch (EC (F := F)) (c : Thread nD τ) (.dma (cellS s)) () NU (DD c s.val n G FIN f) j u

/-- One group's send: read where it goes, check that, start the transfer. -/
def sendOne (w : ℕ) (g : Memref sig .tc .smem ⟨3, ![1, 1, w]⟩ .i32) (og : Fin 3 → ℕ)
    (hog : ∀ a, og a + S1x1x1.size a ≤ (⟨3, ![1, 1, w]⟩ : Shape).size a)
    (P : BitVec 32 → Prop) (dec : ∀ v, Decidable (P v)) (oc : Fin 1 → ℕ) (hoc : ∀ a, oc a + S1.size a ≤ S3.size a)
    (od : BitVec 32 → Fin 2 → ℕ) (hod : ∀ v, P v → ∀ a, od v a + S16x1024.size a ≤ S227328x1024.size a)
    (hodw : ∀ v (h : P v), (Rect.unit (s := S227328x1024) (od v) S16x1024.size (hod v h)).WholeWords (EltTy.packing .bf16))
    (ob : Fin 3 → ℕ) (hob : ∀ a, ob a + S1x16x1024.size a ≤ S2x3072x1024.size a)
    (hobw : (Rect.unit (s := S2x3072x1024) ob S1x16x1024.size hob).WholeWords (EltTy.packing .bf16)) :
    Prog (TpuEff nD τ sig (Elt F) Λ₀ .tc) PUnit := do
  let v : Elt F .i32 ← smemLoad g (Rect.unit (s := ⟨3, ![1, 1, w]⟩) og S1x1x1.size hog) numel1_S1x1x1 rfl
  have hp : P v := (← Prog.lift (TpuEff.assume (P v) (dec v))).down
  Prog.lift (.enqueueDma (srcM ob hob) (.here (dstM (od v) (hod v hp))) (.dma ((cc0_scratch2.slice (Rect.unit (s := S3) oc S1.size hoc)).squeeze S_ squeezes_S1_S_).sem)
    (((Memref.isWhole_whole _).wordExact_slice rfl _ hobw).reshape _ _) ((Memref.isWhole_whole _).wordExact_slice rfl _ (hodw v hp)) ⟨Or.inl rfl, trivial⟩)

/-- Before the send of group `j`: where the groups go, the groups not sent yet and their destinations, the transfers so far. -/
def sendSt (c : Dev nD) {w : ℕ} (g : Memref sig .tc .smem ⟨3, ![1, 1, w]⟩ .i32) (X : (⟨3, ![1, 1, w]⟩ : Shape).Idx → Elt F .i32)
    (s : Fin 3) (n : ℕ) (G : ℕ → ℕ) (FIN f0 : Buf (Elt F) (xsL c)) (f : Buf (Elt F) (sbL c)) (j : ℕ) : sProp 𝕄 :=
  iprop(OW c g X ∗ sbAt c s.val (16 * j) (16 * n) f ∗ xsAt c (fun r => ∃ j', j ≤ j' ∧ j' < n ∧ r = G j') f0 ∗ BT c s n G FIN f j 0)

/-- Starting one transfer of a batch, with its source and destination named. -/
theorem wp_dmaG (c : Dev nD) {src : Memref sig .tc .vmem S16x1024 .bf16} {dst : Memref sig .tc .hbm S16x1024 .bf16} {sm : DmaSem sig}
    (N n : ℕ) (D : Fin n → sProp 𝕄) (j : ℕ) (hj : j < n) (PX PB : sProp 𝕄) {fs : Buf (Elt F) (src.view.loc (c : Thread nD τ))} {fd : Buf (Elt F) (dst.view.loc (c : Thread nD τ))}
    {h1 h2 h3} {α : Type} {k : PUnit → Prog (TpuEff nD τ sig (Elt F) Λ₀ .tc) α} {Q : α → sProp 𝕄}
    (hN : dst.view.dmaCredit = N)
    (hx : PX = (dst.view.loc (c : Thread nD τ) ↦[dst.view.set]{fullShare} fd)) (hb : PB = (src.view.loc (c : Thread nD τ) ↦[src.view.set]{fullShare} fs))
    (hD : iprop((dst.view.loc (c : Thread nD τ) ↦[dst.view.set]{fullShare} dst.view.write (Elt F) fd (src.view.read (Elt F) fs) Finset.univ) ∗ PB) ⊢ D ⟨j, hj⟩) :
    iprop(PB ∗ PX ∗ Transfers.Batch (EC (F := F)) (c : Thread nD τ) (.dma sm) () N D j 0)
      ⊢ iprop((Transfers.Batch (EC (F := F)) (c : Thread nD τ) (.dma sm) () N D (j + 1) 0 -∗ WP c (k ⟨⟩) Q) -∗ WP c (.op (.enqueueDma src (.here dst) (.dma sm) h1 h2 h3) k) Q) := by
  subst hx hb
  exact Transfers.wp_dmaBatch (EC (F := F)) 𝒱₀ (c : Thread nD τ) none () N hN (Finset.Subset.refl _) hj (Nat.zero_le _) hD

/-- Starting one group's transfer. -/
theorem wp_enq (c : Dev nD) (s : Fin 3) (hs : s.val < 2) (n : ℕ) (hn : n ≤ 192) (G : ℕ → ℕ) (FIN f0 : Buf (Elt F) (xsL c)) (f : Buf (Elt F) (sbL c)) (j : ℕ) (hj : j < n)
    {od hod ob hob h1 h2 h3} {α : Type} {k : PUnit → Prog (TpuEff nD τ sig (Elt F) Λ₀ .tc) α} {Q : α → sProp 𝕄}
    (e3 : ob = ![s.val, 16 * j, 0]) (e4 : od = ![16 * G j, 0])
    (hval : ∀ y : S227328x1024.Idx, (y 0).val / 16 = G j → FIN y = f (ix3 (⟨s.val, hs⟩ : Fin 2) (⟨16 * j + (y 0).val % 16, by omega⟩ : Fin 3072) (⟨(y 1).val, (y 1).isLt⟩ : Fin 1024))) :
    iprop(sbAt c s.val (16 * j) (16 * j + 16) f ∗ xsAt c (fun r => r = G j) f0 ∗ BT c s n G FIN f j 0)
      ⊢ iprop((BT c s n G FIN f (j + 1) 0 -∗ WP c (k ⟨⟩) Q) -∗ WP c (.op (.enqueueDma (srcM ob hob) (.here (dstM od hod)) (.dma (cellS s)) h1 h2 h3) k) Q) := by
  subst e3 e4
  have hd := dst_set (G j) hod
  have hsrc := src_set s.val j hob
  have hx : (xsAt c (fun r => r = G j) f0 : sProp 𝕄) = ((dstM ![16 * G j, 0] hod).view.loc (c : Thread nD τ) ↦[(dstM ![16 * G j, 0] hod).view.set]{fullShare} f0) := by
    unfold xsAt; rw [← hd]
  have hb : (sbAt c s.val (16 * j) (16 * j + 16) f : sProp 𝕄) = ((srcM ![s.val, 16 * j, 0] hob).view.loc (c : Thread nD τ) ↦[(srcM ![s.val, 16 * j, 0] hob).view.set]{fullShare} f) := by
    unfold sbAt; rw [← hsrc]
  have hN : (dstM ![16 * G j, 0] hod).view.dmaCredit = NU := rfl
  have hD : iprop(((dstM ![16 * G j, 0] hod).view.loc (c : Thread nD τ) ↦[(dstM ![16 * G j, 0] hod).view.set]{fullShare}
        (dstM ![16 * G j, 0] hod).view.write (Elt F) f0 ((srcM ![s.val, 16 * j, 0] hob).view.read (Elt F) f) Finset.univ)
      ∗ sbAt c s.val (16 * j) (16 * j + 16) f) ⊢ DD (F := F) c s.val n G FIN f ⟨j, hj⟩ := by
    unfold DD
    refine BIClass.sep_mono (eoe ?_) .rfl
    rw [hd]
    unfold xsAt
    refine pointsTo_congr fun y hy => ?_
    have hy' : (y 0).val / 16 = G j := mem_rowsX.1 hy
    refine (dst_write c (G j) hod f0 _ y hy').trans ?_
    exact (src_read c s.val j hob f _ _ hs (by omega)).trans (hval y hy').symm
  exact wp_dmaG (F := F) c NU n (DD c s.val n G FIN f) j hj _ _ hN hx hb hD

/-- What the sends of a tile rest on: where its `n` groups go, and what their rows are. -/
structure SendOK (c : Dev nD) (w : ℕ) (X : (⟨3, ![1, 1, w]⟩ : Shape).Idx → Elt F .i32) (s : Fin 3) (n : ℕ) (G : ℕ → ℕ) (FIN : Buf (Elt F) (xsL c)) (f : Buf (Elt F) (sbL c)) : Prop where
  hs : s.val < 2
  hn : n ≤ 192
  hw : n ≤ w
  hG : ∀ j, j < n → G j < 14208
  hi : ∀ j j', j < n → j' < n → G j = G j' → j = j'
  hX : ∀ j (h : j < n), X (ix3 (0 : Fin 1) (0 : Fin 1) (⟨j, by omega⟩ : Fin w)) = BitVec.ofNat 32 (16 * G j)
  hval : ∀ j (h : j < n) (y : S227328x1024.Idx), (y 0).val / 16 = G j →
    FIN y = f (ix3 (⟨s.val, hs⟩ : Fin 2) (⟨16 * j + (y 0).val % 16, by omega⟩ : Fin 3072) (⟨(y 1).val, (y 1).isLt⟩ : Fin 1024))

theorem wp_sendOne (c : Dev nD) {w : ℕ} {g : Memref sig .tc .smem ⟨3, ![1, 1, w]⟩ .i32} {og hog P dec oc hoc od hod hodw ob hob hobw}
    {α : Type} {k : PUnit → Prog (TpuEff nD τ sig (Elt F) Λ₀ .tc) α} {Q : α → sProp 𝕄}
    {X : (⟨3, ![1, 1, w]⟩ : Shape).Idx → Elt F .i32} {s : Fin 3} {n : ℕ} {G : ℕ → ℕ} {FIN f0 : Buf (Elt F) (xsL c)} {f : Buf (Elt F) (sbL c)}
    (K : SendOK c w X s n G FIN f) (j : ℕ) (hj : j < n)
    (e1 : og = ![0, 0, j]) (e2 : oc = ![s.val]) (e3 : ob = ![s.val, 16 * j, 0]) (hP : P (BitVec.ofNat 32 (16 * G j)))
    (e4 : od (BitVec.ofNat 32 (16 * G j)) = ![16 * G j, 0]) :
    sendSt c g X s n G FIN f0 f j
      ⊢ iprop((sendSt c g X s n G FIN f0 f (j + 1) -∗ WP c (k ⟨⟩) Q) -∗ WP c (sendOne (F := F) w g og hog P dec oc hoc od hod hodw ob hob hobw >>= k) Q) := by
  obtain ⟨hs, hn, hw, hG, hi, hX, hval⟩ := K
  replace hX := hX j hj
  replace hval := hval j hj
  subst e1 e2 e3
  have hsp : (sbAt c s.val (16 * j) (16 * n) f : sProp 𝕄) = iprop(sbAt c s.val (16 * j) (16 * j + 16) f ∗ sbAt c s.val (16 * (j + 1)) (16 * n) f) :=
    (sb_split c s.val (16 * j) (16 * j + 16) (16 * n) (by omega) (by omega) f).trans rfl
  have hxp : (xsAt c (fun r => ∃ j', j ≤ j' ∧ j' < n ∧ r = G j') f0 : sProp 𝕄)
      = iprop(xsAt c (fun r => r = G j) f0 ∗ xsAt c (fun r => ∃ j', j + 1 ≤ j' ∧ j' < n ∧ r = G j') f0) := by
    refine xs_union c (fun r _ h1 h2 => ?_) (fun r _ => ?_) f0
    · obtain ⟨j', a, b, e⟩ := h2
      have := hi j j' hj b (h1.symm.trans e); omega
    · constructor
      · rintro ⟨j', a, b, e⟩
        by_cases h : j' = j
        · left; rw [e, h]
        · right; exact ⟨j', by omega, b, e⟩
      · rintro (h | ⟨j', a, b, e⟩)
        · exact ⟨j, le_refl _, hj, h⟩
        · exact ⟨j', by omega, b, e⟩
  unfold sendSt
  rw [hsp, hxp]
  have hword : ∀ x, X ((Rect.unit (s := ⟨3, ![1, 1, w]⟩) ![0, 0, j] S1x1x1.size hog).emb x) = BitVec.ofNat 32 (16 * G j) := fun x => by
    refine Eq.trans (congrArg X ?_) hX
    have h0 : (x 0).val = 0 := by have : (x 0).val < 1 := (x 0).isLt; omega
    have h1 : (x 1).val = 0 := by have : (x 1).val < 1 := (x 1).isLt; omega
    have h2 : (x 2).val = 0 := by have : (x 2).val < 1 := (x 2).isLt; omega
    funext a
    fin_cases a
    · exact Fin.ext (by show 0 + 1 * (x 0).val = 0; omega)
    · exact Fin.ext (by show 0 + 1 * (x 1).val = 0; omega)
    · exact Fin.ext (by show j + 1 * (x 2).val = j; omega)
  have hprog := wp_enq (F := F) c s hs n hn G FIN f0 f j hj (od := od (BitVec.ofNat 32 (16 * G j))) (hod := hod _ hP) (ob := ![s.val, 16 * j, 0]) (hob := hob) (k := k) (Q := Q)
    (h1 := (((Memref.isWhole_whole _).wordExact_slice rfl _ hobw).reshape _ _)) (h2 := ((Memref.isWhole_whole _).wordExact_slice rfl _ (hodw _ hP))) (h3 := ⟨Or.inl rfl, trivial⟩) rfl e4 hval
  have hl := wp_word (F := F) c (m := g) (h1 := numel1_S1x1x1) (hp := rfl) (k := fun v => (do
      have hp : P v := (← Prog.lift (TpuEff.assume (P v) (dec v))).down
      Prog.lift (.enqueueDma (srcM _ hob) (.here (dstM (od v) (hod v hp))) (.dma ((cc0_scratch2.slice (Rect.unit (s := S3) ![s.val] S1.size hoc)).squeeze S_ squeezes_S1_S_).sem)
        (((Memref.isWhole_whole _).wordExact_slice rfl _ hobw).reshape _ _) ((Memref.isWhole_whole _).wordExact_slice rfl _ (hodw v hp)) ⟨Or.inl rfl, trivial⟩) : Prog (TpuEff nD τ sig (Elt F) Λ₀ .tc) PUnit) >>= k) (Q := Q) X _ hword
  unfold sendOne
  rw [bind_assoc]
  iintro ⟨Hg, ⟨Hs, Hsr⟩, ⟨Hx, Hxr⟩, HB⟩ Hk
  iapply hl $$ Hg
  iintro Hg
  iapply (wp_assume 𝒱₀ (c : Thread nD τ) none Set.univ hP)
  iapply hprog $$ [Hs Hx HB]
  · isplitl [Hs]; · iexact Hs
    isplitl [Hx]; · iexact Hx
    iexact HB
  iintro HB
  iapply Hk
  isplitl [Hg]; · iexact Hg
  isplitl [Hsr]; · iexact Hsr
  isplitl [Hxr]; · iexact Hxr
  iexact HB

/-! ## Waits -/

/-- A batch of `n` transfers all issued, `u` of them waited for. -/
def waitSt (c : Dev nD) (sm : DmaSem sig) (n : ℕ) (D : Fin n → sProp 𝕄) (u : ℕ) : sProp 𝕄 :=
  iprop(Transfers.Batch (EC (F := F)) (c : Thread nD τ) (.dma sm) () NU D n (u * NU) ∗ ∃ W, owes (c : Thread nD τ) 0 W)

theorem wp_waitG (c : Dev nD) {sm : DmaSem sig} {n : ℕ} {D : Fin n → sProp 𝕄} {sp sp' : Space} {s s' : Shape} {e e' : EltTy}
    {srcw : Memref sig .tc sp' s' e'} {dstw : Memref sig .tc sp s e} {h1 h2}
    {α : Type} {k : PUnit → Prog (TpuEff nD τ sig (Elt F) Λ₀ .tc) α} {Q : α → sProp 𝕄} (q : ℕ) (hJ : dstw.view.dmaCredit = q * NU) (u : ℕ) (hu : u + q ≤ n) :
    waitSt c sm n D u ⊢ iprop((waitSt c sm n D (u + q) -∗ WP c (k ⟨⟩) Q) -∗ WP c (.op (.waitDma2 sm srcw dstw h1 h2) k) Q) := by
  unfold waitSt
  have hu' : u * NU + q * NU ≤ NU * n := by rw [← Nat.add_mul, Nat.mul_comm NU n]; exact Nat.mul_le_mul_right _ hu
  have he : (u + q) * NU = u * NU + q * NU := Nat.add_mul _ _ _
  rw [he]
  iintro ⟨HB, %W, HO⟩ Hk
  iapply (Transfers.wp_waitBatchMul (EC (F := F)) 𝒱₀ (c : Thread nD τ) none () q hJ hu') $$ [HB HO]
  · isplitl [HB]; · iexact HB
    iexact HO
  iintro ⟨HB, HO⟩
  iapply Hk
  isplitl [HB]; · iexact HB
  iexists _; iexact HO

/-- A wait on cell `s` of the scratch, for a transfer as large as `dstw`. -/
def waitOne {sp sp' : Space} {s s' : Shape} {e e' : EltTy} (oc : Fin 1 → ℕ) (hoc : ∀ a, oc a + S1.size a ≤ S3.size a) (srcw : Memref sig .tc sp' s' e') (dstw : Memref sig .tc sp s e)
    (h1 : srcw.view.WordExact) (h2 : dstw.view.WordExact) : Prog (TpuEff nD τ sig (Elt F) Λ₀ .tc) PUnit :=
  Prog.lift (.waitDma2 ((cc0_scratch2.slice (Rect.unit (s := S3) oc S1.size hoc)).squeeze S_ squeezes_S1_S_).sem srcw dstw h1 h2)

theorem wp_waitOne (c : Dev nD) {n : ℕ} {D : Fin n → sProp 𝕄} {sp sp' : Space} {sh sh' : Shape} {e e' : EltTy}
    {srcw : Memref sig .tc sp' sh' e'} {dstw : Memref sig .tc sp sh e} {oc hoc h1 h2}
    {α : Type} {k : PUnit → Prog (TpuEff nD τ sig (Elt F) Λ₀ .tc) α} {Q : α → sProp 𝕄} (s : Fin 3) (q : ℕ) (hJ : dstw.view.dmaCredit = q * NU) (e2 : oc = ![s.val]) (u : ℕ) (hu : u + q ≤ n) :
    waitSt c (cellS s) n D u ⊢ iprop((waitSt c (cellS s) n D (u + q) -∗ WP c (k ⟨⟩) Q) -∗ WP c (waitOne (F := F) oc hoc srcw dstw h1 h2 >>= k) Q) := by
  subst e2
  exact wp_waitG c (sm := cellS s) q hJ u hu

/-- A loop, one trip at a time. -/
theorem wp_loop (c : Dev nD) (lb ub st : BitVec 32) (hok : Scf.OK lb ub st) (body : Fin (Scf.trips lb ub st) → PUnit → Prog (TpuEff nD τ sig (Elt F) Λ₀ .tc) PUnit)
    (I : ℕ → sProp 𝕄) (T : ℕ) (hT : Scf.trips lb ub st = T)
    (hb : ∀ (t : Fin (Scf.trips lb ub st)), I t.val ⊢ WP c (body t ⟨⟩) (fun _ => I (t.val + 1)))
    {α : Type} {kk : PUnit → Prog (TpuEff nD τ sig (Elt F) Λ₀ .tc) α} {Q : α → sProp 𝕄} :
    I 0 ⊢ iprop((I T -∗ WP c (kk ⟨⟩) Q) -∗ WP c (Scf.for lb ub st hok ⟨⟩ body >>= kk) Q) := by
  subst hT
  iintro HI Hk
  iapply (Scf.wp_for_bind frame (wpE (defs₀ (F := F)) 𝒱₀ (c : Thread nD τ) none) Set.univ lb ub st hok ⟨⟩ body (fun n _ => I n) (fun t _ => hb t)) $$ HI
  iintro %acc HI
  iapply Hk; iexact HI

/-- A loop that makes no trip. -/
theorem wp_loop0 (c : Dev nD) (lb ub st : BitVec 32) (hok : Scf.OK lb ub st) (body : Fin (Scf.trips lb ub st) → PUnit → Prog (TpuEff nD τ sig (Elt F) Λ₀ .tc) PUnit)
    (hT : Scf.trips lb ub st = 0) {α : Type} {kk : PUnit → Prog (TpuEff nD τ sig (Elt F) Λ₀ .tc) α} {Q : α → sProp 𝕄} :
    WP c (kk ⟨⟩) Q ⊢ WP c (Scf.for lb ub st hok ⟨⟩ body >>= kk) Q :=
  Scf.wp_for0_bind frame (wpE (defs₀ (F := F)) 𝒱₀ (c : Thread nD τ) none) Set.univ lb ub st hok body hT kk Q _ .rfl

/-- The end of a trip. -/
theorem wp_done (c : Dev nD) {P : sProp 𝕄} : P ⊢ WP c (pure ⟨⟩ : Prog (TpuEff nD τ sig (Elt F) Λ₀ .tc) PUnit) (fun _ => P) := by
  rw [show (WP c (pure ⟨⟩ : Prog (TpuEff nD τ sig (Elt F) Λ₀ .tc) PUnit) (fun _ => P) : sProp 𝕄) = iprop(|={Set.univ}[frame]=> P) from rfl]
  iintro H; imodintro; iexact H

/-- One hundred and twenty-eight rows' transfer pays for eight groups of sixteen. -/
theorem credit8 : (xsM.slice (Rect.unit (s := S227328x1024) ![0, 0] S128x1024.size inb_S227328x1024_S128x1024_0_0) (fun _ => rfl)).view.dmaCredit = 8 * NU := by decide
theorem credit1 : (xsM.slice (Rect.unit (s := S227328x1024) ![0, 0] S16x1024.size inb_S227328x1024_S16x1024_0_0) (fun _ => rfl)).view.dmaCredit = 1 * NU := by decide

end Cert.Proof.Send

end
-- ==== Proof.Loops.lean ====
/- The loops that send a tile's groups and the loops that wait for them. -/
module

public import proofs.«01_k».proof.Proof.Sends

@[expose] public section

noncomputable section

namespace Cert.Proof.Send

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UC sig nD τ) ℕ

/-- One step, then the rest. -/
theorem seq_step {P P' A B : sProp 𝕄} (h1 : P ⊢ iprop((P' -∗ A) -∗ B)) (h2 : P' ⊢ A) : P ⊢ B := by
  iintro H
  iapply h1 $$ H
  iintro H
  iapply h2; iexact H

/-- A loop, with its invariant named before and after it. -/
theorem wp_loop' (c : Dev nD) (lb ub st : BitVec 32) (hok : Scf.OK lb ub st) (body : Fin (Scf.trips lb ub st) → PUnit → Prog (TpuEff nD τ sig (Elt F) Λ₀ .tc) PUnit)
    (I : ℕ → sProp 𝕄) (T : ℕ) (hT : Scf.trips lb ub st = T) (A B : sProp 𝕄) (hA : I 0 = A) (hB : I T = B)
    (hb : ∀ (t : Fin (Scf.trips lb ub st)), I t.val ⊢ WP c (body t ⟨⟩) (fun _ => I (t.val + 1)))
    {α : Type} {kk : PUnit → Prog (TpuEff nD τ sig (Elt F) Λ₀ .tc) α} {Q : α → sProp 𝕄} :
    A ⊢ iprop((B -∗ WP c (kk ⟨⟩) Q) -∗ WP c (Scf.for lb ub st hok ⟨⟩ body >>= kk) Q) := by
  subst hA hB
  exact wp_loop c lb ub st hok body I T hT hb

variable (a1 : Memref sig .tc .smem S64 .i32) (h1 : a1.IsWhole) (a2 : Memref sig .tc .smem S1 .i32) (h2 : a2.IsWhole) (a3 : Memref sig .tc .smem S64 .i32) (h3 : a3.IsWhole) (a4 : Memref sig .tc .smem S64 .i32) (h4 : a4.IsWhole) (a5 : Memref sig .tc .smem S1 .i32) (h5 : a5.IsWhole) (a6 : Memref sig .tc .smem S1x1x256 .i32) (h6 : a6.IsWhole) (a7 : Memref sig .tc .smem S1x1x128 .i32) (h7 : a7.IsWhole) (a8 : Memref sig .tc .vmem S8x256 .i32) (h8 : a8.IsWhole) (a9 : Memref sig .tc .vmem S256x1024 .bf16) (h9 : a9.IsWhole) (a10 : Memref sig .tc .vmem S8x128 .i32) (h10 : a10.IsWhole) (a11 : Memref sig .tc .vmem S128x1024 .bf16) (h11 : a11.IsWhole)

set_option maxHeartbeats 4000000 in
set_option maxRecDepth 65536 in
theorem t5_body_eq (i : grid0.Coords) (hc : k0_cond2 i = 1#1) (v : BitVec 32) (hw : k0_chk2 i v) (v0 : BitVec 32) (v216 : IVec S512x256 1) (v217 : IVec S1x256 16) (v218 : IVec S512x256 16) (t : Fin (k0_t5_loop v).trips) :
    k0_t5_body (F := F) i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 v0 hc v hw v216 v217 v218 t ⟨⟩ = (do
      sendOne (F := F) 256 a6 (k0_off17 v t) (k0_off17_inb i v hw t hc) (k0_chk3 i) (k0_chk3.dec i) (k0_off18 i) (k0_off18_inb i hc) k0_off19 (fun v hp => k0_off19_inb i v hp hc) (fun v hp => k0_off19_wordsbf16 i v hp hc) (k0_off20 i v t) (k0_off20_inb i v hw t hc) (k0_off20_wordsbf16 i v hw t hc)
      sendOne (F := F) 256 a6 (k0_off21 v t) (k0_off21_inb i v hw t hc) (k0_chk4 i) (k0_chk4.dec i) (k0_off22 i) (k0_off22_inb i hc) k0_off23 (fun v hp => k0_off23_inb i v hp hc) (fun v hp => k0_off23_wordsbf16 i v hp hc) (k0_off24 i v t) (k0_off24_inb i v hw t hc) (k0_off24_wordsbf16 i v hw t hc)
      sendOne (F := F) 256 a6 (k0_off25 v t) (k0_off25_inb i v hw t hc) (k0_chk5 i) (k0_chk5.dec i) (k0_off26 i) (k0_off26_inb i hc) k0_off27 (fun v hp => k0_off27_inb i v hp hc) (fun v hp => k0_off27_wordsbf16 i v hp hc) (k0_off28 i v t) (k0_off28_inb i v hw t hc) (k0_off28_wordsbf16 i v hw t hc)
      sendOne (F := F) 256 a6 (k0_off29 v t) (k0_off29_inb i v hw t hc) (k0_chk6 i) (k0_chk6.dec i) (k0_off30 i) (k0_off30_inb i hc) k0_off31 (fun v hp => k0_off31_inb i v hp hc) (fun v hp => k0_off31_wordsbf16 i v hp hc) (k0_off32 i v t) (k0_off32_inb i v hw t hc) (k0_off32_wordsbf16 i v hw t hc)
      sendOne (F := F) 256 a6 (k0_off33 v t) (k0_off33_inb i v hw t hc) (k0_chk7 i) (k0_chk7.dec i) (k0_off34 i) (k0_off34_inb i hc) k0_off35 (fun v hp => k0_off35_inb i v hp hc) (fun v hp => k0_off35_wordsbf16 i v hp hc) (k0_off36 i v t) (k0_off36_inb i v hw t hc) (k0_off36_wordsbf16 i v hw t hc)
      sendOne (F := F) 256 a6 (k0_off37 v t) (k0_off37_inb i v hw t hc) (k0_chk8 i) (k0_chk8.dec i) (k0_off38 i) (k0_off38_inb i hc) k0_off39 (fun v hp => k0_off39_inb i v hp hc) (fun v hp => k0_off39_wordsbf16 i v hp hc) (k0_off40 i v t) (k0_off40_inb i v hw t hc) (k0_off40_wordsbf16 i v hw t hc)
      sendOne (F := F) 256 a6 (k0_off41 v t) (k0_off41_inb i v hw t hc) (k0_chk9 i) (k0_chk9.dec i) (k0_off42 i) (k0_off42_inb i hc) k0_off43 (fun v hp => k0_off43_inb i v hp hc) (fun v hp => k0_off43_wordsbf16 i v hp hc) (k0_off44 i v t) (k0_off44_inb i v hw t hc) (k0_off44_wordsbf16 i v hw t hc)
      sendOne (F := F) 256 a6 (k0_off45 v t) (k0_off45_inb i v hw t hc) (k0_chk10 i) (k0_chk10.dec i) (k0_off46 i) (k0_off46_inb i hc) k0_off47 (fun v hp => k0_off47_inb i v hp hc) (fun v hp => k0_off47_wordsbf16 i v hp hc) (k0_off48 i v t) (k0_off48_inb i v hw t hc) (k0_off48_wordsbf16 i v hw t hc)
      pure ⟨⟩) := rfl

theorem wp_t5 (c : Dev nD) (i : grid0.Coords) (hc : k0_cond2 i = 1#1) (n : ℕ) (hn : n ≤ 192) (hw : k0_chk2 i (BitVec.ofNat 32 (16 * n))) (v0 : BitVec 32) (v216 : IVec S512x256 1) (v217 : IVec S1x256 16) (v218 : IVec S512x256 16) {ok}
    {X} {s : Fin 3} {G : ℕ → ℕ} {FIN f0 : Buf (Elt F) (xsL c)} {f : Buf (Elt F) (sbL c)} (K : SendOK c 256 X s n G FIN f) (hs : (i 0).val % 2 = s.val)
    {α : Type} {kk : PUnit → Prog (TpuEff nD τ sig (Elt F) Λ₀ .tc) α} {Q : α → sProp 𝕄} :
    sendSt c a6 X s n G FIN f0 f (0) ⊢ iprop((sendSt c a6 X s n G FIN f0 f (8 * (n / 8)) -∗ WP c (kk ⟨⟩) Q)
      -∗ WP c (Scf.Loop.for (k0_t5_loop (BitVec.ofNat 32 (16 * n))) ok ⟨⟩ (k0_t5_body (F := F) i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 v0 hc (BitVec.ofNat 32 (16 * n)) hw v216 v217 v218) >>= kk) Q) := by
  refine wp_loop' c _ _ _ ok _ (fun t => sendSt c a6 X s n G FIN f0 f (8 * t )) (n / 8) (t5_trips n hn) _ _ rfl (congrArg (sendSt c a6 X s n G FIN f0 f) (by omega)) (fun t => ?_)
  have ht := lt_of_lt_of_eq t.isLt (t5_trips n hn)
  refine (eoe rfl).trans ?_
  rw [t5_body_eq]
  exact (seq_step (wp_sendOne (F := F) c K (8 * t.val + 0) (by omega) (off17_eq n hn t) ((off18_eq i).trans (congrArg (fun x => (![x] : Fin 1 → ℕ)) hs)) ((off20_eq i n hn t).trans (congrArg (fun x => (![x, 16 * (8 * t.val + 0), 0] : Fin 3 → ℕ)) hs)) (chk3_of i _ (K.hG _ (by omega))) (off19_eq _ (K.hG _ (by omega))))
      (seq_step (wp_sendOne (F := F) c K (8 * t.val + 1) (by omega) (off21_eq n hn t) ((off22_eq i).trans (congrArg (fun x => (![x] : Fin 1 → ℕ)) hs)) ((off24_eq i n hn t).trans (congrArg (fun x => (![x, 16 * (8 * t.val + 1), 0] : Fin 3 → ℕ)) hs)) (chk4_of i _ (K.hG _ (by omega))) (off23_eq _ (K.hG _ (by omega))))
      (seq_step (wp_sendOne (F := F) c K (8 * t.val + 2) (by omega) (off25_eq n hn t) ((off26_eq i).trans (congrArg (fun x => (![x] : Fin 1 → ℕ)) hs)) ((off28_eq i n hn t).trans (congrArg (fun x => (![x, 16 * (8 * t.val + 2), 0] : Fin 3 → ℕ)) hs)) (chk5_of i _ (K.hG _ (by omega))) (off27_eq _ (K.hG _ (by omega))))
      (seq_step (wp_sendOne (F := F) c K (8 * t.val + 3) (by omega) (off29_eq n hn t) ((off30_eq i).trans (congrArg (fun x => (![x] : Fin 1 → ℕ)) hs)) ((off32_eq i n hn t).trans (congrArg (fun x => (![x, 16 * (8 * t.val + 3), 0] : Fin 3 → ℕ)) hs)) (chk6_of i _ (K.hG _ (by omega))) (off31_eq _ (K.hG _ (by omega))))
      (seq_step (wp_sendOne (F := F) c K (8 * t.val + 4) (by omega) (off33_eq n hn t) ((off34_eq i).trans (congrArg (fun x => (![x] : Fin 1 → ℕ)) hs)) ((off36_eq i n hn t).trans (congrArg (fun x => (![x, 16 * (8 * t.val + 4), 0] : Fin 3 → ℕ)) hs)) (chk7_of i _ (K.hG _ (by omega))) (off35_eq _ (K.hG _ (by omega))))
      (seq_step (wp_sendOne (F := F) c K (8 * t.val + 5) (by omega) (off37_eq n hn t) ((off38_eq i).trans (congrArg (fun x => (![x] : Fin 1 → ℕ)) hs)) ((off40_eq i n hn t).trans (congrArg (fun x => (![x, 16 * (8 * t.val + 5), 0] : Fin 3 → ℕ)) hs)) (chk8_of i _ (K.hG _ (by omega))) (off39_eq _ (K.hG _ (by omega))))
      (seq_step (wp_sendOne (F := F) c K (8 * t.val + 6) (by omega) (off41_eq n hn t) ((off42_eq i).trans (congrArg (fun x => (![x] : Fin 1 → ℕ)) hs)) ((off44_eq i n hn t).trans (congrArg (fun x => (![x, 16 * (8 * t.val + 6), 0] : Fin 3 → ℕ)) hs)) (chk9_of i _ (K.hG _ (by omega))) (off43_eq _ (K.hG _ (by omega))))
      (seq_step (wp_sendOne (F := F) c K (8 * t.val + 7) (by omega) (off45_eq n hn t) ((off46_eq i).trans (congrArg (fun x => (![x] : Fin 1 → ℕ)) hs)) ((off48_eq i n hn t).trans (congrArg (fun x => (![x, 16 * (8 * t.val + 7), 0] : Fin 3 → ℕ)) hs)) (chk10_of i _ (K.hG _ (by omega))) (off47_eq _ (K.hG _ (by omega))))
      (wp_done c)))))))))

set_option maxHeartbeats 4000000 in
set_option maxRecDepth 65536 in
theorem t7_body_eq (i : grid0.Coords) (hc : k0_cond2 i = 1#1) (v : BitVec 32) (hw : k0_chk2 i v) (v0 : BitVec 32) (v216 : IVec S512x256 1) (v217 : IVec S1x256 16) (v218 : IVec S512x256 16) (t : Fin (k0_t7_loop v).trips) :
    k0_t7_body (F := F) i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 v0 hc v hw v216 v217 v218 t ⟨⟩ = (do
      sendOne (F := F) 256 a6 (k0_off81 v t) (k0_off81_inb i v hw t hc) (k0_chk19 i) (k0_chk19.dec i) (k0_off82 i) (k0_off82_inb i hc) k0_off83 (fun v hp => k0_off83_inb i v hp hc) (fun v hp => k0_off83_wordsbf16 i v hp hc) (k0_off84 i v t) (k0_off84_inb i v hw t hc) (k0_off84_wordsbf16 i v hw t hc)
      pure ⟨⟩) := rfl

theorem wp_t7 (c : Dev nD) (i : grid0.Coords) (hc : k0_cond2 i = 1#1) (n : ℕ) (hn : n ≤ 192) (hw : k0_chk2 i (BitVec.ofNat 32 (16 * n))) (v0 : BitVec 32) (v216 : IVec S512x256 1) (v217 : IVec S1x256 16) (v218 : IVec S512x256 16) {ok}
    {X} {s : Fin 3} {G : ℕ → ℕ} {FIN f0 : Buf (Elt F) (xsL c)} {f : Buf (Elt F) (sbL c)} (K : SendOK c 256 X s n G FIN f) (hs : (i 0).val % 2 = s.val)
    {α : Type} {kk : PUnit → Prog (TpuEff nD τ sig (Elt F) Λ₀ .tc) α} {Q : α → sProp 𝕄} :
    sendSt c a6 X s n G FIN f0 f (8 * (n / 8)) ⊢ iprop((sendSt c a6 X s n G FIN f0 f (n) -∗ WP c (kk ⟨⟩) Q)
      -∗ WP c (Scf.Loop.for (k0_t7_loop (BitVec.ofNat 32 (16 * n))) ok ⟨⟩ (k0_t7_body (F := F) i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 v0 hc (BitVec.ofNat 32 (16 * n)) hw v216 v217 v218) >>= kk) Q) := by
  refine wp_loop' c _ _ _ ok _ (fun t => sendSt c a6 X s n G FIN f0 f (8 * (n / 8) + t)) (n - 8 * (n / 8)) (t7_trips n hn) _ _ rfl (congrArg (sendSt c a6 X s n G FIN f0 f) (by omega)) (fun t => ?_)
  have ht := lt_of_lt_of_eq t.isLt (t7_trips n hn)
  refine (eoe rfl).trans ?_
  rw [t7_body_eq]
  exact (seq_step (wp_sendOne (F := F) c K (8 * (n / 8) + t.val) (by omega) (off81_eq n hn t) ((off82_eq i).trans (congrArg (fun x => (![x] : Fin 1 → ℕ)) hs)) ((off84_eq i n hn t).trans (congrArg (fun x => (![x, 16 * (8 * (n / 8) + t.val), 0] : Fin 3 → ℕ)) hs)) (chk19_of i _ (K.hG _ (by omega))) (off83_eq _ (K.hG _ (by omega))))
      (wp_done c))

set_option maxHeartbeats 4000000 in
set_option maxRecDepth 65536 in
theorem t9_body_eq (i : grid0.Coords) (hc : k0_cond5 i = 1#1) (v : BitVec 32) (hw : k0_chk21 i v) (v0 : BitVec 32) (v113 : FVec F S512x128 .bf16) (t : Fin (k0_t9_loop v).trips) :
    k0_t9_body (F := F) i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 v0 hc v hw v113 t ⟨⟩ = (do
      sendOne (F := F) 128 a7 (k0_off93 v t) (k0_off93_inb i v hw t hc) (k0_chk22 i) (k0_chk22.dec i) (k0_off94 i) (k0_off94_inb i hc) k0_off95 (fun v hp => k0_off95_inb i v hp hc) (fun v hp => k0_off95_wordsbf16 i v hp hc) (k0_off96 i v t) (k0_off96_inb i v hw t hc) (k0_off96_wordsbf16 i v hw t hc)
      sendOne (F := F) 128 a7 (k0_off97 v t) (k0_off97_inb i v hw t hc) (k0_chk23 i) (k0_chk23.dec i) (k0_off98 i) (k0_off98_inb i hc) k0_off99 (fun v hp => k0_off99_inb i v hp hc) (fun v hp => k0_off99_wordsbf16 i v hp hc) (k0_off100 i v t) (k0_off100_inb i v hw t hc) (k0_off100_wordsbf16 i v hw t hc)
      sendOne (F := F) 128 a7 (k0_off101 v t) (k0_off101_inb i v hw t hc) (k0_chk24 i) (k0_chk24.dec i) (k0_off102 i) (k0_off102_inb i hc) k0_off103 (fun v hp => k0_off103_inb i v hp hc) (fun v hp => k0_off103_wordsbf16 i v hp hc) (k0_off104 i v t) (k0_off104_inb i v hw t hc) (k0_off104_wordsbf16 i v hw t hc)
      sendOne (F := F) 128 a7 (k0_off105 v t) (k0_off105_inb i v hw t hc) (k0_chk25 i) (k0_chk25.dec i) (k0_off106 i) (k0_off106_inb i hc) k0_off107 (fun v hp => k0_off107_inb i v hp hc) (fun v hp => k0_off107_wordsbf16 i v hp hc) (k0_off108 i v t) (k0_off108_inb i v hw t hc) (k0_off108_wordsbf16 i v hw t hc)
      sendOne (F := F) 128 a7 (k0_off109 v t) (k0_off109_inb i v hw t hc) (k0_chk26 i) (k0_chk26.dec i) (k0_off110 i) (k0_off110_inb i hc) k0_off111 (fun v hp => k0_off111_inb i v hp hc) (fun v hp => k0_off111_wordsbf16 i v hp hc) (k0_off112 i v t) (k0_off112_inb i v hw t hc) (k0_off112_wordsbf16 i v hw t hc)
      sendOne (F := F) 128 a7 (k0_off113 v t) (k0_off113_inb i v hw t hc) (k0_chk27 i) (k0_chk27.dec i) (k0_off114 i) (k0_off114_inb i hc) k0_off115 (fun v hp => k0_off115_inb i v hp hc) (fun v hp => k0_off115_wordsbf16 i v hp hc) (k0_off116 i v t) (k0_off116_inb i v hw t hc) (k0_off116_wordsbf16 i v hw t hc)
      sendOne (F := F) 128 a7 (k0_off117 v t) (k0_off117_inb i v hw t hc) (k0_chk28 i) (k0_chk28.dec i) (k0_off118 i) (k0_off118_inb i hc) k0_off119 (fun v hp => k0_off119_inb i v hp hc) (fun v hp => k0_off119_wordsbf16 i v hp hc) (k0_off120 i v t) (k0_off120_inb i v hw t hc) (k0_off120_wordsbf16 i v hw t hc)
      sendOne (F := F) 128 a7 (k0_off121 v t) (k0_off121_inb i v hw t hc) (k0_chk29 i) (k0_chk29.dec i) (k0_off122 i) (k0_off122_inb i hc) k0_off123 (fun v hp => k0_off123_inb i v hp hc) (fun v hp => k0_off123_wordsbf16 i v hp hc) (k0_off124 i v t) (k0_off124_inb i v hw t hc) (k0_off124_wordsbf16 i v hw t hc)
      pure ⟨⟩) := rfl

theorem wp_t9 (c : Dev nD) (i : grid0.Coords) (hc : k0_cond5 i = 1#1) (n : ℕ) (hn : n ≤ 192) (hw : k0_chk21 i (BitVec.ofNat 32 (16 * n))) (v0 : BitVec 32) (v113 : FVec F S512x128 .bf16) {ok}
    {X} {s : Fin 3} {G : ℕ → ℕ} {FIN f0 : Buf (Elt F) (xsL c)} {f : Buf (Elt F) (sbL c)} (K : SendOK c 128 X s n G FIN f) (hs : (i 0).val % 2 = s.val)
    {α : Type} {kk : PUnit → Prog (TpuEff nD τ sig (Elt F) Λ₀ .tc) α} {Q : α → sProp 𝕄} :
    sendSt c a7 X s n G FIN f0 f (0) ⊢ iprop((sendSt c a7 X s n G FIN f0 f (8 * (n / 8)) -∗ WP c (kk ⟨⟩) Q)
      -∗ WP c (Scf.Loop.for (k0_t9_loop (BitVec.ofNat 32 (16 * n))) ok ⟨⟩ (k0_t9_body (F := F) i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 v0 hc (BitVec.ofNat 32 (16 * n)) hw v113) >>= kk) Q) := by
  refine wp_loop' c _ _ _ ok _ (fun t => sendSt c a7 X s n G FIN f0 f (8 * t )) (n / 8) (t9_trips n hn) _ _ rfl (congrArg (sendSt c a7 X s n G FIN f0 f) (by omega)) (fun t => ?_)
  have ht := lt_of_lt_of_eq t.isLt (t9_trips n hn)
  refine (eoe rfl).trans ?_
  rw [t9_body_eq]
  exact (seq_step (wp_sendOne (F := F) c K (8 * t.val + 0) (by omega) (off93_eq n hn t) ((off94_eq i).trans (congrArg (fun x => (![x] : Fin 1 → ℕ)) hs)) ((off96_eq i n hn t).trans (congrArg (fun x => (![x, 16 * (8 * t.val + 0), 0] : Fin 3 → ℕ)) hs)) (chk22_of i _ (K.hG _ (by omega))) (off95_eq _ (K.hG _ (by omega))))
      (seq_step (wp_sendOne (F := F) c K (8 * t.val + 1) (by omega) (off97_eq n hn t) ((off98_eq i).trans (congrArg (fun x => (![x] : Fin 1 → ℕ)) hs)) ((off100_eq i n hn t).trans (congrArg (fun x => (![x, 16 * (8 * t.val + 1), 0] : Fin 3 → ℕ)) hs)) (chk23_of i _ (K.hG _ (by omega))) (off99_eq _ (K.hG _ (by omega))))
      (seq_step (wp_sendOne (F := F) c K (8 * t.val + 2) (by omega) (off101_eq n hn t) ((off102_eq i).trans (congrArg (fun x => (![x] : Fin 1 → ℕ)) hs)) ((off104_eq i n hn t).trans (congrArg (fun x => (![x, 16 * (8 * t.val + 2), 0] : Fin 3 → ℕ)) hs)) (chk24_of i _ (K.hG _ (by omega))) (off103_eq _ (K.hG _ (by omega))))
      (seq_step (wp_sendOne (F := F) c K (8 * t.val + 3) (by omega) (off105_eq n hn t) ((off106_eq i).trans (congrArg (fun x => (![x] : Fin 1 → ℕ)) hs)) ((off108_eq i n hn t).trans (congrArg (fun x => (![x, 16 * (8 * t.val + 3), 0] : Fin 3 → ℕ)) hs)) (chk25_of i _ (K.hG _ (by omega))) (off107_eq _ (K.hG _ (by omega))))
      (seq_step (wp_sendOne (F := F) c K (8 * t.val + 4) (by omega) (off109_eq n hn t) ((off110_eq i).trans (congrArg (fun x => (![x] : Fin 1 → ℕ)) hs)) ((off112_eq i n hn t).trans (congrArg (fun x => (![x, 16 * (8 * t.val + 4), 0] : Fin 3 → ℕ)) hs)) (chk26_of i _ (K.hG _ (by omega))) (off111_eq _ (K.hG _ (by omega))))
      (seq_step (wp_sendOne (F := F) c K (8 * t.val + 5) (by omega) (off113_eq n hn t) ((off114_eq i).trans (congrArg (fun x => (![x] : Fin 1 → ℕ)) hs)) ((off116_eq i n hn t).trans (congrArg (fun x => (![x, 16 * (8 * t.val + 5), 0] : Fin 3 → ℕ)) hs)) (chk27_of i _ (K.hG _ (by omega))) (off115_eq _ (K.hG _ (by omega))))
      (seq_step (wp_sendOne (F := F) c K (8 * t.val + 6) (by omega) (off117_eq n hn t) ((off118_eq i).trans (congrArg (fun x => (![x] : Fin 1 → ℕ)) hs)) ((off120_eq i n hn t).trans (congrArg (fun x => (![x, 16 * (8 * t.val + 6), 0] : Fin 3 → ℕ)) hs)) (chk28_of i _ (K.hG _ (by omega))) (off119_eq _ (K.hG _ (by omega))))
      (seq_step (wp_sendOne (F := F) c K (8 * t.val + 7) (by omega) (off121_eq n hn t) ((off122_eq i).trans (congrArg (fun x => (![x] : Fin 1 → ℕ)) hs)) ((off124_eq i n hn t).trans (congrArg (fun x => (![x, 16 * (8 * t.val + 7), 0] : Fin 3 → ℕ)) hs)) (chk29_of i _ (K.hG _ (by omega))) (off123_eq _ (K.hG _ (by omega))))
      (wp_done c)))))))))

set_option maxHeartbeats 4000000 in
set_option maxRecDepth 65536 in
theorem t11_body_eq (i : grid0.Coords) (hc : k0_cond5 i = 1#1) (v : BitVec 32) (hw : k0_chk21 i v) (v0 : BitVec 32) (v113 : FVec F S512x128 .bf16) (t : Fin (k0_t11_loop v).trips) :
    k0_t11_body (F := F) i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 v0 hc v hw v113 t ⟨⟩ = (do
      sendOne (F := F) 128 a7 (k0_off157 v t) (k0_off157_inb i v hw t hc) (k0_chk38 i) (k0_chk38.dec i) (k0_off158 i) (k0_off158_inb i hc) k0_off159 (fun v hp => k0_off159_inb i v hp hc) (fun v hp => k0_off159_wordsbf16 i v hp hc) (k0_off160 i v t) (k0_off160_inb i v hw t hc) (k0_off160_wordsbf16 i v hw t hc)
      pure ⟨⟩) := rfl

theorem wp_t11 (c : Dev nD) (i : grid0.Coords) (hc : k0_cond5 i = 1#1) (n : ℕ) (hn : n ≤ 192) (hw : k0_chk21 i (BitVec.ofNat 32 (16 * n))) (v0 : BitVec 32) (v113 : FVec F S512x128 .bf16) {ok}
    {X} {s : Fin 3} {G : ℕ → ℕ} {FIN f0 : Buf (Elt F) (xsL c)} {f : Buf (Elt F) (sbL c)} (K : SendOK c 128 X s n G FIN f) (hs : (i 0).val % 2 = s.val)
    {α : Type} {kk : PUnit → Prog (TpuEff nD τ sig (Elt F) Λ₀ .tc) α} {Q : α → sProp 𝕄} :
    sendSt c a7 X s n G FIN f0 f (8 * (n / 8)) ⊢ iprop((sendSt c a7 X s n G FIN f0 f (n) -∗ WP c (kk ⟨⟩) Q)
      -∗ WP c (Scf.Loop.for (k0_t11_loop (BitVec.ofNat 32 (16 * n))) ok ⟨⟩ (k0_t11_body (F := F) i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 v0 hc (BitVec.ofNat 32 (16 * n)) hw v113) >>= kk) Q) := by
  refine wp_loop' c _ _ _ ok _ (fun t => sendSt c a7 X s n G FIN f0 f (8 * (n / 8) + t)) (n - 8 * (n / 8)) (t11_trips n hn) _ _ rfl (congrArg (sendSt c a7 X s n G FIN f0 f) (by omega)) (fun t => ?_)
  have ht := lt_of_lt_of_eq t.isLt (t11_trips n hn)
  refine (eoe rfl).trans ?_
  rw [t11_body_eq]
  exact (seq_step (wp_sendOne (F := F) c K (8 * (n / 8) + t.val) (by omega) (off157_eq n hn t) ((off158_eq i).trans (congrArg (fun x => (![x] : Fin 1 → ℕ)) hs)) ((off160_eq i n hn t).trans (congrArg (fun x => (![x, 16 * (8 * (n / 8) + t.val), 0] : Fin 3 → ℕ)) hs)) (chk38_of i _ (K.hG _ (by omega))) (off159_eq _ (K.hG _ (by omega))))
      (wp_done c))

theorem wp_t6 (c : Dev nD) (i : grid0.Coords) (hc : k0_cond2 i = 1#1) (n : ℕ) (hn : n ≤ 192) (hw : k0_chk2 i (BitVec.ofNat 32 (16 * n))) (v0 : BitVec 32) (v216 : IVec S512x256 1) (v217 : IVec S1x256 16) (v218 : IVec S512x256 16) (v244 : BitVec 32) {ok}
    {α : Type} {kk : PUnit → Prog (TpuEff nD τ sig (Elt F) Λ₀ .tc) α} {Q : α → sProp 𝕄} :
    WP c (kk ⟨⟩) Q ⊢ WP c (Scf.Loop.for (k0_t6_loop (BitVec.ofNat 32 (16 * n))) ok ⟨⟩ (k0_t6_body (F := F) i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 v0 hc (BitVec.ofNat 32 (16 * n)) hw v216 v217 v218 v244) >>= kk) Q :=
  wp_loop0 c _ _ _ ok _ ((t6_trips n hn).trans (Nat.sub_self _))

theorem wp_t8 (c : Dev nD) (i : grid0.Coords) (hc : k0_cond2 i = 1#1) (n : ℕ) (hn : n ≤ 192) (hw : k0_chk2 i (BitVec.ofNat 32 (16 * n))) (v0 : BitVec 32) (v216 : IVec S512x256 1) (v217 : IVec S1x256 16) (v218 : IVec S512x256 16) {ok}
    {α : Type} {kk : PUnit → Prog (TpuEff nD τ sig (Elt F) Λ₀ .tc) α} {Q : α → sProp 𝕄} :
    WP c (kk ⟨⟩) Q ⊢ WP c (Scf.Loop.for (k0_t8_loop (BitVec.ofNat 32 (16 * n))) ok ⟨⟩ (k0_t8_body (F := F) i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 v0 hc (BitVec.ofNat 32 (16 * n)) hw v216 v217 v218) >>= kk) Q :=
  wp_loop0 c _ _ _ ok _ ((t8_trips n hn).trans (Nat.sub_self _))

theorem wp_t10 (c : Dev nD) (i : grid0.Coords) (hc : k0_cond5 i = 1#1) (n : ℕ) (hn : n ≤ 192) (hw : k0_chk21 i (BitVec.ofNat 32 (16 * n))) (v0 : BitVec 32) (v113 : FVec F S512x128 .bf16) (v133 : BitVec 32) {ok}
    {α : Type} {kk : PUnit → Prog (TpuEff nD τ sig (Elt F) Λ₀ .tc) α} {Q : α → sProp 𝕄} :
    WP c (kk ⟨⟩) Q ⊢ WP c (Scf.Loop.for (k0_t10_loop (BitVec.ofNat 32 (16 * n))) ok ⟨⟩ (k0_t10_body (F := F) i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 v0 hc (BitVec.ofNat 32 (16 * n)) hw v113 v133) >>= kk) Q :=
  wp_loop0 c _ _ _ ok _ ((t10_trips n hn).trans (Nat.sub_self _))

theorem wp_t12 (c : Dev nD) (i : grid0.Coords) (hc : k0_cond5 i = 1#1) (n : ℕ) (hn : n ≤ 192) (hw : k0_chk21 i (BitVec.ofNat 32 (16 * n))) (v0 : BitVec 32) (v113 : FVec F S512x128 .bf16) {ok}
    {α : Type} {kk : PUnit → Prog (TpuEff nD τ sig (Elt F) Λ₀ .tc) α} {Q : α → sProp 𝕄} :
    WP c (kk ⟨⟩) Q ⊢ WP c (Scf.Loop.for (k0_t12_loop (BitVec.ofNat 32 (16 * n))) ok ⟨⟩ (k0_t12_body (F := F) i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 v0 hc (BitVec.ofNat 32 (16 * n)) hw v113) >>= kk) Q :=
  wp_loop0 c _ _ _ ok _ ((t12_trips n hn).trans (Nat.sub_self _))

theorem wp_t2 (c : Dev nD) (i : grid0.Coords) (hc : k0_cond1 i = 1#1) (n : ℕ) (hn : n ≤ 192) (hw : k0_chk1 i (BitVec.ofNat 32 (16 * n)))  {ok}
    {α : Type} {kk : PUnit → Prog (TpuEff nD τ sig (Elt F) Λ₀ .tc) α} {Q : α → sProp 𝕄} :
    WP c (kk ⟨⟩) Q ⊢ WP c (Scf.Loop.for (k0_t2_loop (BitVec.ofNat 32 (16 * n))) ok ⟨⟩ (k0_t2_body (F := F) i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 hc (BitVec.ofNat 32 (16 * n)) hw) >>= kk) Q :=
  wp_loop0 c _ _ _ ok _ ((t2_trips n hn).trans (Nat.sub_self _))

theorem wp_t4 (c : Dev nD) (i : grid0.Coords) (hc : k0_cond1 i = 1#1) (n : ℕ) (hn : n ≤ 192) (hw : k0_chk1 i (BitVec.ofNat 32 (16 * n)))  {ok}
    {α : Type} {kk : PUnit → Prog (TpuEff nD τ sig (Elt F) Λ₀ .tc) α} {Q : α → sProp 𝕄} :
    WP c (kk ⟨⟩) Q ⊢ WP c (Scf.Loop.for (k0_t4_loop (BitVec.ofNat 32 (16 * n))) ok ⟨⟩ (k0_t4_body (F := F) i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 hc (BitVec.ofNat 32 (16 * n)) hw) >>= kk) Q :=
  wp_loop0 c _ _ _ ok _ ((t4_trips n hn).trans (Nat.sub_self _))

theorem wp_t14 (c : Dev nD) (i : grid0.Coords) (hc : k0_cond5 i = 1#1) (n : ℕ) (hn : n ≤ 192) (hw : k0_chk40 i (BitVec.ofNat 32 (16 * n))) (v142 : BitVec 32) (c3 : BitVec 32) {ok}
    {α : Type} {kk : PUnit → Prog (TpuEff nD τ sig (Elt F) Λ₀ .tc) α} {Q : α → sProp 𝕄} :
    WP c (kk ⟨⟩) Q ⊢ WP c (Scf.Loop.for (k0_t14_loop (BitVec.ofNat 32 (16 * n))) ok ⟨⟩ (k0_t14_body (F := F) i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 hc (BitVec.ofNat 32 (16 * n)) hw v142 c3) >>= kk) Q :=
  wp_loop0 c _ _ _ ok _ ((t14_trips n hn).trans (Nat.sub_self _))

theorem wp_t16 (c : Dev nD) (i : grid0.Coords) (hc : k0_cond5 i = 1#1) (n : ℕ) (hn : n ≤ 192) (hw : k0_chk40 i (BitVec.ofNat 32 (16 * n))) (v142 : BitVec 32) (c3 : BitVec 32) {ok}
    {α : Type} {kk : PUnit → Prog (TpuEff nD τ sig (Elt F) Λ₀ .tc) α} {Q : α → sProp 𝕄} :
    WP c (kk ⟨⟩) Q ⊢ WP c (Scf.Loop.for (k0_t16_loop (BitVec.ofNat 32 (16 * n))) ok ⟨⟩ (k0_t16_body (F := F) i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 hc (BitVec.ofNat 32 (16 * n)) hw v142 c3) >>= kk) Q :=
  wp_loop0 c _ _ _ ok _ ((t16_trips n hn).trans (Nat.sub_self _))

theorem wp_t18 (c : Dev nD) (i : grid0.Coords) (hc : k0_cond5 i = 1#1) (n : ℕ) (hn : n ≤ 192) (hw : k0_chk41 i (BitVec.ofNat 32 (16 * n))) (v141 : BitVec 32) (hw40 : k0_chk40 i v141) (v142 : BitVec 32) (c3 : BitVec 32) {ok}
    {α : Type} {kk : PUnit → Prog (TpuEff nD τ sig (Elt F) Λ₀ .tc) α} {Q : α → sProp 𝕄} :
    WP c (kk ⟨⟩) Q ⊢ WP c (Scf.Loop.for (k0_t18_loop (BitVec.ofNat 32 (16 * n))) ok ⟨⟩ (k0_t18_body (F := F) i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 hc v141 hw40 v142 c3 (BitVec.ofNat 32 (16 * n)) hw) >>= kk) Q :=
  wp_loop0 c _ _ _ ok _ ((t18_trips n hn).trans (Nat.sub_self _))

theorem wp_t20 (c : Dev nD) (i : grid0.Coords) (hc : k0_cond5 i = 1#1) (n : ℕ) (hn : n ≤ 192) (hw : k0_chk41 i (BitVec.ofNat 32 (16 * n))) (v141 : BitVec 32) (hw40 : k0_chk40 i v141) (v142 : BitVec 32) (c3 : BitVec 32) {ok}
    {α : Type} {kk : PUnit → Prog (TpuEff nD τ sig (Elt F) Λ₀ .tc) α} {Q : α → sProp 𝕄} :
    WP c (kk ⟨⟩) Q ⊢ WP c (Scf.Loop.for (k0_t20_loop (BitVec.ofNat 32 (16 * n))) ok ⟨⟩ (k0_t20_body (F := F) i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 hc v141 hw40 v142 c3 (BitVec.ofNat 32 (16 * n)) hw) >>= kk) Q :=
  wp_loop0 c _ _ _ ok _ ((t20_trips n hn).trans (Nat.sub_self _))

theorem wp_t23 (c : Dev nD) (i : grid0.Coords) (hc : k0_cond5 i = 1#1) (n : ℕ) (hn : n ≤ 14208) (hw : k0_chk42 i (BitVec.ofNat 32 n)) (t21 : Fin k0_t21_loop.trips) {ok}
    {α : Type} {kk : PUnit → Prog (TpuEff nD τ sig (Elt F) Λ₀ .tc) α} {Q : α → sProp 𝕄} :
    WP c (kk ⟨⟩) Q ⊢ WP c (Scf.Loop.for (k0_t23_loop (BitVec.ofNat 32 n)) ok ⟨⟩ (k0_t23_body (F := F) i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 hc t21 (BitVec.ofNat 32 n) hw) >>= kk) Q :=
  wp_loop0 c _ _ _ ok _ ((t23_trips n hn).trans (Nat.sub_self _))

theorem wp_t25 (c : Dev nD) (i : grid0.Coords) (hc : k0_cond5 i = 1#1) (n : ℕ) (hn : n ≤ 14208) (hw : k0_chk45 i (BitVec.ofNat 32 n))  {ok}
    {α : Type} {kk : PUnit → Prog (TpuEff nD τ sig (Elt F) Λ₀ .tc) α} {Q : α → sProp 𝕄} :
    WP c (kk ⟨⟩) Q ⊢ WP c (Scf.Loop.for (k0_t25_loop (BitVec.ofNat 32 n)) ok ⟨⟩ (k0_t25_body (F := F) i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 hc (BitVec.ofNat 32 n) hw) >>= kk) Q :=
  wp_loop0 c _ _ _ ok _ ((t25_trips n hn).trans (Nat.sub_self _))

theorem wp_t27 (c : Dev nD) (i : grid0.Coords) (hc : k0_cond5 i = 1#1) (n : ℕ) (hn : n ≤ 444) (hw : k0_chk48 i (BitVec.ofNat 32 n))  {ok}
    {α : Type} {kk : PUnit → Prog (TpuEff nD τ sig (Elt F) Λ₀ .tc) α} {Q : α → sProp 𝕄} :
    WP c (kk ⟨⟩) Q ⊢ WP c (Scf.Loop.for (k0_t27_loop (BitVec.ofNat 32 n)) ok ⟨⟩ (k0_t27_body (F := F) i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 hc (BitVec.ofNat 32 n) hw) >>= kk) Q :=
  wp_loop0 c _ _ _ ok _ ((t27_trips n hn).trans (Nat.sub_self _))

theorem wp_t29 (c : Dev nD) (i : grid0.Coords) (hc : k0_cond5 i = 1#1) (n : ℕ) (hn : n ≤ 444) (hw : k0_chk48 i (BitVec.ofNat 32 n))  {ok}
    {α : Type} {kk : PUnit → Prog (TpuEff nD τ sig (Elt F) Λ₀ .tc) α} {Q : α → sProp 𝕄} :
    WP c (kk ⟨⟩) Q ⊢ WP c (Scf.Loop.for (k0_t29_loop (BitVec.ofNat 32 n)) ok ⟨⟩ (k0_t29_body (F := F) i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 hc (BitVec.ofNat 32 n) hw) >>= kk) Q :=
  wp_loop0 c _ _ _ ok _ ((t29_trips n hn).trans (Nat.sub_self _))

theorem wp_t1 (c : Dev nD) (i : grid0.Coords) (hc : k0_cond1 i = 1#1) (n : ℕ) (hn : n ≤ 192) (hw : k0_chk1 i (BitVec.ofNat 32 (16 * n)))  {ok}
    {s : Fin 3} {D : Fin n → sProp 𝕄} (hs : (i 0).val % 2 = s.val)
    {α : Type} {kk : PUnit → Prog (TpuEff nD τ sig (Elt F) Λ₀ .tc) α} {Q : α → sProp 𝕄} :
    waitSt c (cellS s) n D (0) ⊢ iprop((waitSt c (cellS s) n D (8 * (n / 8)) -∗ WP c (kk ⟨⟩) Q)
      -∗ WP c (Scf.Loop.for (k0_t1_loop (BitVec.ofNat 32 (16 * n))) ok ⟨⟩ (k0_t1_body (F := F) i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 hc (BitVec.ofNat 32 (16 * n)) hw) >>= kk) Q) := by
  refine wp_loop' c _ _ _ ok _ (fun t => waitSt c (cellS s) n D (8 * t)) (n / 8) (t1_trips n hn) _ _ rfl (congrArg (waitSt c (cellS s) n D) (by omega)) (fun t => ?_)
  have ht := lt_of_lt_of_eq t.isLt (t1_trips n hn)
  exact seq_step (wp_waitOne (F := F) c s 8 credit8 ((off2_eq i).trans (congrArg (fun x => (![x] : Fin 1 → ℕ)) hs)) (8 * t.val) (by omega)) (wp_done c)

theorem wp_t3 (c : Dev nD) (i : grid0.Coords) (hc : k0_cond1 i = 1#1) (n : ℕ) (hn : n ≤ 192) (hw : k0_chk1 i (BitVec.ofNat 32 (16 * n)))  {ok}
    {s : Fin 3} {D : Fin n → sProp 𝕄} (hs : (i 0).val % 2 = s.val)
    {α : Type} {kk : PUnit → Prog (TpuEff nD τ sig (Elt F) Λ₀ .tc) α} {Q : α → sProp 𝕄} :
    waitSt c (cellS s) n D (8 * (n / 8)) ⊢ iprop((waitSt c (cellS s) n D (n) -∗ WP c (kk ⟨⟩) Q)
      -∗ WP c (Scf.Loop.for (k0_t3_loop (BitVec.ofNat 32 (16 * n))) ok ⟨⟩ (k0_t3_body (F := F) i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 hc (BitVec.ofNat 32 (16 * n)) hw) >>= kk) Q) := by
  refine wp_loop' c _ _ _ ok _ (fun t => waitSt c (cellS s) n D (8 * (n / 8) + t)) (n - 8 * (n / 8)) (t3_trips n hn) _ _ rfl (congrArg (waitSt c (cellS s) n D) (by omega)) (fun t => ?_)
  have ht := lt_of_lt_of_eq t.isLt (t3_trips n hn)
  exact seq_step (wp_waitOne (F := F) c s 1 credit1 ((off6_eq i).trans (congrArg (fun x => (![x] : Fin 1 → ℕ)) hs)) (8 * (n / 8) + t.val) (by omega)) (wp_done c)

theorem wp_t13 (c : Dev nD) (i : grid0.Coords) (hc : k0_cond5 i = 1#1) (n : ℕ) (hn : n ≤ 192) (hw : k0_chk40 i (BitVec.ofNat 32 (16 * n))) (v142 : BitVec 32) (c3 : BitVec 32) {ok}
    {s : Fin 3} {D : Fin n → sProp 𝕄} (hs : 1 - (i 0).val % 2 = s.val)
    {α : Type} {kk : PUnit → Prog (TpuEff nD τ sig (Elt F) Λ₀ .tc) α} {Q : α → sProp 𝕄} :
    waitSt c (cellS s) n D (0) ⊢ iprop((waitSt c (cellS s) n D (8 * (n / 8)) -∗ WP c (kk ⟨⟩) Q)
      -∗ WP c (Scf.Loop.for (k0_t13_loop (BitVec.ofNat 32 (16 * n))) ok ⟨⟩ (k0_t13_body (F := F) i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 hc (BitVec.ofNat 32 (16 * n)) hw v142 c3) >>= kk) Q) := by
  refine wp_loop' c _ _ _ ok _ (fun t => waitSt c (cellS s) n D (8 * t)) (n / 8) (t13_trips n hn) _ _ rfl (congrArg (waitSt c (cellS s) n D) (by omega)) (fun t => ?_)
  have ht := lt_of_lt_of_eq t.isLt (t13_trips n hn)
  exact seq_step (wp_waitOne (F := F) c s 8 credit8 ((off165_eq i).trans (congrArg (fun x => (![x] : Fin 1 → ℕ)) hs)) (8 * t.val) (by omega)) (wp_done c)

theorem wp_t15 (c : Dev nD) (i : grid0.Coords) (hc : k0_cond5 i = 1#1) (n : ℕ) (hn : n ≤ 192) (hw : k0_chk40 i (BitVec.ofNat 32 (16 * n))) (v142 : BitVec 32) (c3 : BitVec 32) {ok}
    {s : Fin 3} {D : Fin n → sProp 𝕄} (hs : 1 - (i 0).val % 2 = s.val)
    {α : Type} {kk : PUnit → Prog (TpuEff nD τ sig (Elt F) Λ₀ .tc) α} {Q : α → sProp 𝕄} :
    waitSt c (cellS s) n D (8 * (n / 8)) ⊢ iprop((waitSt c (cellS s) n D (n) -∗ WP c (kk ⟨⟩) Q)
      -∗ WP c (Scf.Loop.for (k0_t15_loop (BitVec.ofNat 32 (16 * n))) ok ⟨⟩ (k0_t15_body (F := F) i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 hc (BitVec.ofNat 32 (16 * n)) hw v142 c3) >>= kk) Q) := by
  refine wp_loop' c _ _ _ ok _ (fun t => waitSt c (cellS s) n D (8 * (n / 8) + t)) (n - 8 * (n / 8)) (t15_trips n hn) _ _ rfl (congrArg (waitSt c (cellS s) n D) (by omega)) (fun t => ?_)
  have ht := lt_of_lt_of_eq t.isLt (t15_trips n hn)
  exact seq_step (wp_waitOne (F := F) c s 1 credit1 ((off169_eq i).trans (congrArg (fun x => (![x] : Fin 1 → ℕ)) hs)) (8 * (n / 8) + t.val) (by omega)) (wp_done c)

theorem wp_t17 (c : Dev nD) (i : grid0.Coords) (hc : k0_cond5 i = 1#1) (n : ℕ) (hn : n ≤ 192) (hw : k0_chk41 i (BitVec.ofNat 32 (16 * n))) (v141 : BitVec 32) (hw40 : k0_chk40 i v141) (v142 : BitVec 32) (c3 : BitVec 32) {ok}
    {s : Fin 3} {D : Fin n → sProp 𝕄} (hs : (i 0).val % 2 = s.val)
    {α : Type} {kk : PUnit → Prog (TpuEff nD τ sig (Elt F) Λ₀ .tc) α} {Q : α → sProp 𝕄} :
    waitSt c (cellS s) n D (0) ⊢ iprop((waitSt c (cellS s) n D (8 * (n / 8)) -∗ WP c (kk ⟨⟩) Q)
      -∗ WP c (Scf.Loop.for (k0_t17_loop (BitVec.ofNat 32 (16 * n))) ok ⟨⟩ (k0_t17_body (F := F) i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 hc v141 hw40 v142 c3 (BitVec.ofNat 32 (16 * n)) hw) >>= kk) Q) := by
  refine wp_loop' c _ _ _ ok _ (fun t => waitSt c (cellS s) n D (8 * t)) (n / 8) (t17_trips n hn) _ _ rfl (congrArg (waitSt c (cellS s) n D) (by omega)) (fun t => ?_)
  have ht := lt_of_lt_of_eq t.isLt (t17_trips n hn)
  exact seq_step (wp_waitOne (F := F) c s 8 credit8 ((off173_eq i).trans (congrArg (fun x => (![x] : Fin 1 → ℕ)) hs)) (8 * t.val) (by omega)) (wp_done c)

theorem wp_t19 (c : Dev nD) (i : grid0.Coords) (hc : k0_cond5 i = 1#1) (n : ℕ) (hn : n ≤ 192) (hw : k0_chk41 i (BitVec.ofNat 32 (16 * n))) (v141 : BitVec 32) (hw40 : k0_chk40 i v141) (v142 : BitVec 32) (c3 : BitVec 32) {ok}
    {s : Fin 3} {D : Fin n → sProp 𝕄} (hs : (i 0).val % 2 = s.val)
    {α : Type} {kk : PUnit → Prog (TpuEff nD τ sig (Elt F) Λ₀ .tc) α} {Q : α → sProp 𝕄} :
    waitSt c (cellS s) n D (8 * (n / 8)) ⊢ iprop((waitSt c (cellS s) n D (n) -∗ WP c (kk ⟨⟩) Q)
      -∗ WP c (Scf.Loop.for (k0_t19_loop (BitVec.ofNat 32 (16 * n))) ok ⟨⟩ (k0_t19_body (F := F) i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 hc v141 hw40 v142 c3 (BitVec.ofNat 32 (16 * n)) hw) >>= kk) Q) := by
  refine wp_loop' c _ _ _ ok _ (fun t => waitSt c (cellS s) n D (8 * (n / 8) + t)) (n - 8 * (n / 8)) (t19_trips n hn) _ _ rfl (congrArg (waitSt c (cellS s) n D) (by omega)) (fun t => ?_)
  have ht := lt_of_lt_of_eq t.isLt (t19_trips n hn)
  exact seq_step (wp_waitOne (F := F) c s 1 credit1 ((off177_eq i).trans (congrArg (fun x => (![x] : Fin 1 → ℕ)) hs)) (8 * (n / 8) + t.val) (by omega)) (wp_done c)

end Cert.Proof.Send

end
-- ==== Proof.Fills.lean ====
/- Filling the groups that no token's row reaches with zeros. -/
module

public import proofs.«01_k».proof.Proof.Loops

@[expose] public section

noncomputable section

namespace Cert.Proof.Send

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UC sig nD τ) ℕ

/-- The elements of the block of zeros that a fill of one group reads. -/
abbrev zM : Memref sig .tc .vmem S16x1024 .bf16 := zbM.slice (Rect.unit (s := S512x1024) ![0, 0] S16x1024.size inb_S512x1024_S16x1024_0_0) (fun _ => rfl)
/-- Holding part of the block of zeros, in part. -/
def zbAt (c : Dev nD) (S : Finset S512x1024.Idx) (q : PosShare TreeShare) (z : Buf (Elt F) (zbL c)) : sProp 𝕄 := (zbL c) ↦[S]{q} z

instance zbAt_storable (c : Dev nD) (S : Finset S512x1024.Idx) (q : PosShare TreeShare) (z : Buf (Elt F) (zbL c)) : Storable (upEmb : UEmb _ 𝕄) (zbAt c S q z) := by
  unfold zbAt; infer_instance

/-- Starting one transfer of a batch of any size, its source read in part. -/
theorem wp_dmaZ (c : Dev nD) {s : Shape} {sp sp' : Space} {src : Memref sig .tc sp s .bf16} {dst : Memref sig .tc sp' s .bf16} {sm : DmaSem sig}
    (N n : ℕ) (D : Fin n → sProp 𝕄) (j : ℕ) (hj : j < n) (q : PosShare TreeShare) (PX PB : sProp 𝕄) {fs : Buf (Elt F) (src.view.loc (c : Thread nD τ))} {fd : Buf (Elt F) (dst.view.loc (c : Thread nD τ))}
    {h1 h2 h3} {α : Type} {k : PUnit → Prog (TpuEff nD τ sig (Elt F) Λ₀ .tc) α} {Q : α → sProp 𝕄}
    (hN : dst.view.dmaCredit = N)
    (hx : PX = (dst.view.loc (c : Thread nD τ) ↦[dst.view.set]{fullShare} fd)) (hb : PB = (src.view.loc (c : Thread nD τ) ↦[src.view.set]{q} fs))
    (hD : iprop((dst.view.loc (c : Thread nD τ) ↦[dst.view.set]{fullShare} dst.view.write (Elt F) fd (src.view.read (Elt F) fs) Finset.univ) ∗ PB) ⊢ D ⟨j, hj⟩) :
    iprop(PB ∗ PX ∗ Transfers.Batch (EC (F := F)) (c : Thread nD τ) (.dma sm) () N D j 0)
      ⊢ iprop((Transfers.Batch (EC (F := F)) (c : Thread nD τ) (.dma sm) () N D (j + 1) 0 -∗ WP c (k ⟨⟩) Q) -∗ WP c (.op (.enqueueDma src (.here dst) (.dma sm) h1 h2 h3) k) Q) := by
  subst hx hb
  exact Transfers.wp_dmaBatch (EC (F := F)) 𝒱₀ (c : Thread nD τ) none () N hN (Finset.Subset.refl _) hj (Nat.zero_le _) hD

/-- Five hundred and twelve rows of the routed activations. -/
abbrev dstT (od : Fin 2 → ℕ) (h : ∀ a, od a + S512x1024.size a ≤ S227328x1024.size a) : Memref sig .tc .hbm S512x1024 .bf16 :=
  xsM.slice (Rect.unit (s := S227328x1024) od S512x1024.size h) (fun _ => rfl)

theorem dstT_set (r : ℕ) (h) : (dstT ![512 * r, 0] h).view.set = rowsX (fun x => 32 * r ≤ x ∧ x < 32 * r + 32) := by
  refine (View.set_slice_whole _ _).trans ?_
  ext y
  rw [mem_rowsX]
  refine Rect.mem_set_unit.trans ?_
  have h1 : (y 1).val < 1024 := (y 1).isLt
  constructor
  · intro H; have a0 : 512 * r ≤ (y 0).val ∧ (y 0).val < 512 * r + 512 := H 0; omega
  · intro H i; fin_cases i
    · show 512 * r ≤ (y 0).val ∧ (y 0).val < 512 * r + 512; omega
    · show 0 ≤ (y 1).val ∧ (y 1).val < 0 + 1024; omega

theorem dstT_write (c : Dev nD) (r : ℕ) (h) (f : Buf (Elt F) (xsL c)) (w : S512x1024.Idx → Elt F .bf16) (Z : Elt F .bf16) (hw : ∀ x, w x = Z) (y : S227328x1024.Idx)
    (hy : 32 * r ≤ (y 0).val / 16 ∧ (y 0).val / 16 < 32 * r + 32) :
    (dstT ![512 * r, 0] h).view.write (Elt F) f w Finset.univ (y : (dstT ![512 * r, 0] h).view.ty.Idx) = Z := by
  have e : y = (dstT ![512 * r, 0] h).view.emb (ix2 (⟨(y 0).val - 512 * r, by omega⟩ : Fin 512) (⟨(y 1).val, (y 1).isLt⟩ : Fin 1024)) := by
    funext i; fin_cases i
    · exact Fin.ext (by show (y 0).val = 512 * r + 1 * ((y 0).val - 512 * r); omega)
    · exact Fin.ext (by show (y 1).val = 0 + 1 * (y 1).val; omega)
  conv_lhs => rw [e]
  exact (View.write_emb_of_mem _ _ (Finset.mem_univ _)).trans (hw _)

/-- What the fill of the `t`-th group leaves: zeros there, and its share of the block of zeros back. -/
def DF (c : Dev nD) (T : ℕ) (FG : ℕ → ℕ) (FIN : Buf (Elt F) (xsL c)) (Z : Elt F .bf16) : Fin T → sProp 𝕄 := fun j =>
  iprop(xsAt c (fun r => r = FG j.val) FIN ∗ zbAt c zM.view.set (Transfers.shareTokN fullShare j.val) (fun _ => Z))
instance (c : Dev nD) (T : ℕ) (FG : ℕ → ℕ) (FIN : Buf (Elt F) (xsL c)) (Z : Elt F .bf16) (t : Fin T) : Storable (upEmb : UEmb _ 𝕄) (DF c T FG FIN Z t) := by
  unfold DF; infer_instance

/-- What the fill of the `t`-th block of the tail leaves. -/
def DT (c : Dev nD) (m nr : ℕ) (FIN : Buf (Elt F) (xsL c)) (Z : Elt F .bf16) : Fin m → sProp 𝕄 := fun j =>
  iprop(xsAt c (fun r => 32 * (nr + j.val) ≤ r ∧ r < 32 * (nr + j.val) + 32) FIN ∗ zbAt c zbM.view.set (Transfers.shareTokN fullShare j.val) (fun _ => Z))
instance (c : Dev nD) (m nr : ℕ) (FIN : Buf (Elt F) (xsL c)) (Z : Elt F .bf16) (t : Fin m) : Storable (upEmb : UEmb _ 𝕄) (DT c m nr FIN Z t) := by
  unfold DT; infer_instance

/-- Before the fill of the `j`-th group. -/
def fillSt (c : Dev nD) (T : ℕ) (FG : ℕ → ℕ) (FIN f0 : Buf (Elt F) (xsL c)) (Z : Elt F .bf16) (j : ℕ) : sProp 𝕄 :=
  iprop(zbAt c zM.view.set (Transfers.shareDrop fullShare j) (fun _ => Z) ∗ xsAt c (fun r => ∃ j', j ≤ j' ∧ j' < T ∧ r = FG j') f0
    ∗ Transfers.Batch (EC (F := F)) (c : Thread nD τ) (.dma (cellS 2)) () NU (DF c T FG FIN Z) j 0)

/-- Before the fill of the `j`-th block of the tail. -/
def tailSt (c : Dev nD) (m nr : ℕ) (FIN f0 : Buf (Elt F) (xsL c)) (Z : Elt F .bf16) (j : ℕ) : sProp 𝕄 :=
  iprop(zbAt c zbM.view.set (Transfers.shareDrop fullShare j) (fun _ => Z) ∗ xsAt c (fun r => 32 * (nr + j) ≤ r ∧ r < 32 * (nr + m)) f0
    ∗ Transfers.Batch (EC (F := F)) (c : Thread nD τ) (.dma (cellS 2)) () (32 * NU) (DT c m nr FIN Z) j 0)

theorem zb_drop (c : Dev nD) (S : Finset S512x1024.Idx) (z : Buf (Elt F) (zbL c)) (k : ℕ) :
    (zbAt c S (Transfers.shareDrop fullShare k) z : sProp 𝕄) = iprop(zbAt c S (Transfers.shareDrop fullShare (k + 1)) z ∗ zbAt c S (Transfers.shareTokN fullShare k) z) := by
  have h := pointsTo_share (ℓ := zbL c) (I := S) (f := z) (PosShare.mem_left_op_right (Transfers.shareDrop fullShare k)) (Ix := Unit) (Name := ℕ) (U := UD) (Lvl := ℕ)
  exact Entails.antisymm h.1 h.2

theorem zb_toks (c : Dev nD) (S : Finset S512x1024.Idx) (z : Buf (Elt F) (zbL c)) (n : ℕ) :
    iprop(zbAt c S (Transfers.shareDrop fullShare n) z ∗ bigSep (Finset.univ : Finset (Fin n)) fun j => zbAt c S (Transfers.shareTokN fullShare j.val) z) ⊢ (zbAt c S fullShare z : sProp 𝕄) := by
  rw [Ring.bigSep_fin_eq_range n (fun j : Fin n => (zbAt c S (Transfers.shareTokN fullShare j.val) z : sProp 𝕄)) (fun j => zbAt c S (Transfers.shareTokN fullShare j) z) (fun _ _ => rfl)]
  exact (Transfers.pointsTo_toks_range fullShare n).2

theorem wp_fill (c : Dev nD) (T : ℕ) (FG : ℕ → ℕ) (FIN f0 : Buf (Elt F) (xsL c)) (Z : Elt F .bf16) (j : ℕ) (hj : j < T)
    (hi : ∀ j j', j < T → j' < T → FG j = FG j' → j = j')
    {od hod h1 h2 h3} {α : Type} {k : PUnit → Prog (TpuEff nD τ sig (Elt F) Λ₀ .tc) α} {Q : α → sProp 𝕄}
    (e4 : od = ![16 * FG j, 0]) (hval : ∀ y : S227328x1024.Idx, (y 0).val / 16 = FG j → FIN y = Z) :
    fillSt c T FG FIN f0 Z j ⊢ iprop((fillSt c T FG FIN f0 Z (j + 1) -∗ WP c (k ⟨⟩) Q) -∗ WP c (.op (.enqueueDma zM (.here (dstM od hod)) (.dma (cellS 2)) h1 h2 h3) k) Q) := by
  subst e4
  have hd := dst_set (FG j) hod
  have hx : (xsAt c (fun r => r = FG j) f0 : sProp 𝕄) = ((dstM ![16 * FG j, 0] hod).view.loc (c : Thread nD τ) ↦[(dstM ![16 * FG j, 0] hod).view.set]{fullShare} f0) := by
    unfold xsAt; rw [← hd]
  have hb : (zbAt c zM.view.set (Transfers.shareTokN fullShare j) (fun _ => Z) : sProp 𝕄) = (zM.view.loc (c : Thread nD τ) ↦[zM.view.set]{Transfers.shareTokN fullShare j} (fun _ => Z)) := rfl
  have hN : (dstM ![16 * FG j, 0] hod).view.dmaCredit = NU := rfl
  have hD : iprop(((dstM ![16 * FG j, 0] hod).view.loc (c : Thread nD τ) ↦[(dstM ![16 * FG j, 0] hod).view.set]{fullShare}
        (dstM ![16 * FG j, 0] hod).view.write (Elt F) f0 (zM.view.read (Elt F) (fun _ => Z)) Finset.univ)
      ∗ zbAt c zM.view.set (Transfers.shareTokN fullShare j) (fun _ => Z)) ⊢ DF (F := F) c T FG FIN Z ⟨j, hj⟩ := by
    unfold DF
    refine BIClass.sep_mono (eoe ?_) .rfl
    rw [hd]
    unfold xsAt
    refine pointsTo_congr fun y hy => ?_
    have hy' : (y 0).val / 16 = FG j := mem_rowsX.1 hy
    exact (dst_write c (FG j) hod f0 _ y hy').trans (hval y hy').symm
  have hxp : (xsAt c (fun r => ∃ j', j ≤ j' ∧ j' < T ∧ r = FG j') f0 : sProp 𝕄)
      = iprop(xsAt c (fun r => r = FG j) f0 ∗ xsAt c (fun r => ∃ j', j + 1 ≤ j' ∧ j' < T ∧ r = FG j') f0) := by
    refine xs_union c (fun r _ h1 h2 => ?_) (fun r _ => ?_) f0
    · obtain ⟨j', a, b, e⟩ := h2
      have := hi j j' hj b (h1.symm.trans e); omega
    · constructor
      · rintro ⟨j', a, b, e⟩
        by_cases h : j' = j
        · left; rw [e, h]
        · right; exact ⟨j', by omega, b, e⟩
      · rintro (h | ⟨j', a, b, e⟩)
        · exact ⟨j, le_refl _, hj, h⟩
        · exact ⟨j', by omega, b, e⟩
  have hp := wp_dmaZ (F := F) c NU T (DF c T FG FIN Z) j hj _ _ _ (h1 := h1) (h2 := h2) (h3 := h3) (sm := cellS 2) (k := k) (Q := Q) hN hx hb hD
  unfold fillSt
  rw [hxp, zb_drop]
  iintro ⟨⟨Hz, Ht⟩, ⟨Hx, Hxr⟩, HB⟩ Hk
  iapply hp $$ [Ht Hx HB]
  · isplitl [Ht]; · iexact Ht
    isplitl [Hx]; · iexact Hx
    iexact HB
  iintro HB
  iapply Hk
  isplitl [Hz]; · iexact Hz
  isplitl [Hxr]; · iexact Hxr
  iexact HB

theorem credit32 : (dstT ![512 * 0, 0] (inbX512 0 (by omega))).view.dmaCredit = 32 * NU := by decide

theorem wp_tail (c : Dev nD) (m nr : ℕ) (FIN f0 : Buf (Elt F) (xsL c)) (Z : Elt F .bf16) (j : ℕ) (hj : j < m)
    {od hod h1 h2 h3} {α : Type} {k : PUnit → Prog (TpuEff nD τ sig (Elt F) Λ₀ .tc) α} {Q : α → sProp 𝕄}
    (e4 : od = ![512 * (nr + j), 0]) (hval : ∀ y : S227328x1024.Idx, 32 * nr ≤ (y 0).val / 16 → FIN y = Z) :
    tailSt c m nr FIN f0 Z j ⊢ iprop((tailSt c m nr FIN f0 Z (j + 1) -∗ WP c (k ⟨⟩) Q) -∗ WP c (.op (.enqueueDma zbM (.here (dstT od hod)) (.dma (cellS 2)) h1 h2 h3) k) Q) := by
  subst e4
  have hd := dstT_set (nr + j) hod
  have hx : (xsAt c (fun r => 32 * (nr + j) ≤ r ∧ r < 32 * (nr + j) + 32) f0 : sProp 𝕄)
      = ((dstT ![512 * (nr + j), 0] hod).view.loc (c : Thread nD τ) ↦[(dstT ![512 * (nr + j), 0] hod).view.set]{fullShare} f0) := by
    unfold xsAt; rw [← hd]
  have hb : (zbAt c zbM.view.set (Transfers.shareTokN fullShare j) (fun _ => Z) : sProp 𝕄) = (zbM.view.loc (c : Thread nD τ) ↦[zbM.view.set]{Transfers.shareTokN fullShare j} (fun _ => Z)) := rfl
  have hN : (dstT ![512 * (nr + j), 0] hod).view.dmaCredit = 32 * NU := by
    exact credit32
  have hD : iprop(((dstT ![512 * (nr + j), 0] hod).view.loc (c : Thread nD τ) ↦[(dstT ![512 * (nr + j), 0] hod).view.set]{fullShare}
        (dstT ![512 * (nr + j), 0] hod).view.write (Elt F) f0 (zbM.view.read (Elt F) (fun _ => Z)) Finset.univ)
      ∗ zbAt c zbM.view.set (Transfers.shareTokN fullShare j) (fun _ => Z)) ⊢ DT (F := F) c m nr FIN Z ⟨j, hj⟩ := by
    unfold DT
    refine BIClass.sep_mono (eoe ?_) .rfl
    rw [hd]
    unfold xsAt
    refine pointsTo_congr fun y hy => ?_
    have hy' : 32 * (nr + j) ≤ (y 0).val / 16 ∧ (y 0).val / 16 < 32 * (nr + j) + 32 := mem_rowsX.1 hy
    exact (dstT_write c (nr + j) hod f0 _ Z (fun _ => rfl) y hy').trans (hval y (by omega)).symm
  have hxp : (xsAt c (fun r => 32 * (nr + j) ≤ r ∧ r < 32 * (nr + m)) f0 : sProp 𝕄)
      = iprop(xsAt c (fun r => 32 * (nr + j) ≤ r ∧ r < 32 * (nr + j) + 32) f0 ∗ xsAt c (fun r => 32 * (nr + (j + 1)) ≤ r ∧ r < 32 * (nr + m)) f0) :=
    xs_union c (fun r _ h1 h2 => by omega) (fun r _ => by omega) f0
  have hp := wp_dmaZ (F := F) c (32 * NU) m (DT c m nr FIN Z) j hj _ _ _ (h1 := h1) (h2 := h2) (h3 := h3) (sm := cellS 2) (k := k) (Q := Q) hN hx hb hD
  unfold tailSt
  rw [hxp, zb_drop]
  iintro ⟨⟨Hz, Ht⟩, ⟨Hx, Hxr⟩, HB⟩ Hk
  iapply hp $$ [Ht Hx HB]
  · isplitl [Ht]; · iexact Ht
    isplitl [Hx]; · iexact Hx
    iexact HB
  iintro HB
  iapply Hk
  isplitl [Hz]; · iexact Hz
  isplitl [Hxr]; · iexact Hxr
  iexact HB

/-- Reading word `e` of a vector of words. -/
theorem wp_word1 (c : Dev nD) {L : ℕ} {m : Memref sig .tc .smem ⟨1, ![L]⟩ .i32} {o : Fin 1 → ℕ} {ho : ∀ a, o a + S1.size a ≤ (⟨1, ![L]⟩ : Shape).size a}
    {h1 : S1.numel = 1} {hp : EltTy.packing .i32 = 1}
    {α : Type} {k : Elt F .i32 → Prog (TpuEff nD τ sig (Elt F) Λ₀ .tc) α} {Q : α → sProp 𝕄} (X : (⟨1, ![L]⟩ : Shape).Idx → Elt F .i32) (e : ℕ) (he : e < L) (eo : o = ![e]) (v : Elt F .i32)
    (hv : X (ix1 (⟨e, he⟩ : Fin L)) = v) :
    OW c m X ⊢ iprop((OW c m X -∗ WP c (k v) Q) -∗ WP c (smemLoad m (Rect.unit (s := ⟨1, ![L]⟩) o S1.size ho) h1 hp >>= k) Q) := by
  subst eo
  refine wp_word c X v (fun x => ?_)
  refine Eq.trans (congrArg X ?_) hv
  have h0 : (x 0).val = 0 := by have : (x 0).val < 1 := (x 0).isLt; omega
  funext a
  fin_cases a
  exact Fin.ext (by show e + 1 * (x 0).val = e; omega)

/-- What the fills rest on: how many groups each of the sixty-four gaps has and where it begins. -/
structure FillOK (c : Dev nD) (A3 A4 : S64.Idx → Elt F .i32) (T : ℕ) (FG kf fe K : ℕ → ℕ) (Z : Elt F .bf16) (FIN : Buf (Elt F) (xsL c)) : Prop where
  hk0 : K 0 = 0
  hk : ∀ e, e < 64 → K (e + 1) = K e + kf e
  hT : K 64 = T
  hle : ∀ e, e < 64 → K e + kf e ≤ T
  hT2 : T ≤ 14208
  hfe : ∀ e, e < 64 → fe e + kf e ≤ 14208
  h0 : fe 0 < 14208
  hX3 : ∀ e (h : e < 64), A3 (ix1 (⟨e, h⟩ : Fin 64)) = BitVec.ofNat 32 (16 * fe e)
  hX4 : ∀ e (h : e < 64), A4 (ix1 (⟨e, h⟩ : Fin 64)) = BitVec.ofNat 32 (kf e)
  hFG : ∀ e, e < 64 → ∀ t, t < kf e → FG (K e + t) = fe e + t
  hi : ∀ j j', j < T → j' < T → FG j = FG j' → j = j'
  hval : ∀ j, j < T → ∀ y : S227328x1024.Idx, (y 0).val / 16 = FG j → FIN y = Z

/-- One group's fill: read where its gap begins, check that, start the transfer. -/
def fillOne (g : Memref sig .tc .smem S64 .i32) (og : Fin 1 → ℕ) (hog : ∀ a, og a + S1.size a ≤ S64.size a)
    (P : BitVec 32 → Prop) (dec : ∀ v, Decidable (P v)) (od : BitVec 32 → Fin 2 → ℕ) (hod : ∀ v, P v → ∀ a, od v a + S16x1024.size a ≤ S227328x1024.size a)
    (hodw : ∀ v (h : P v), (Rect.unit (s := S227328x1024) (od v) S16x1024.size (hod v h)).WholeWords (EltTy.packing .bf16)) :
    Prog (TpuEff nD τ sig (Elt F) Λ₀ .tc) PUnit := do
  let v : Elt F .i32 ← smemLoad g (Rect.unit (s := S64) og S1.size hog) numel1_S1 rfl
  have hp : P v := (← Prog.lift (TpuEff.assume (P v) (dec v))).down
  Prog.lift (.enqueueDma zM (.here (dstM (od v) (hod v hp))) (.dma (cellS 2))
    ((Memref.isWhole_whole _).wordExact_slice rfl _ wordsbf16_S512x1024_S16x1024_0_0) ((Memref.isWhole_whole _).wordExact_slice rfl _ (hodw v hp)) ⟨Or.inl rfl, trivial⟩)

theorem wp_fillOne (c : Dev nD) {g : Memref sig .tc .smem S64 .i32} {og hog P dec od hod hodw}
    {α : Type} {k : PUnit → Prog (TpuEff nD τ sig (Elt F) Λ₀ .tc) α} {Q : α → sProp 𝕄}
    {A3 A4 : S64.Idx → Elt F .i32} {T : ℕ} {FG kf fe K : ℕ → ℕ} {Z : Elt F .bf16} {FIN f0 : Buf (Elt F) (xsL c)}
    (H : FillOK c A3 A4 T FG kf fe K Z FIN) (e : ℕ) (he : e < 64) (t : ℕ) (ht : t < kf e)
    (e1 : og = ![e]) (hP : P (BitVec.ofNat 32 (16 * fe e))) (e4 : od (BitVec.ofNat 32 (16 * fe e)) = ![16 * (fe e + t), 0]) :
    iprop(OW c g A3 ∗ fillSt c T FG FIN f0 Z (K e + t))
      ⊢ iprop((iprop(OW c g A3 ∗ fillSt c T FG FIN f0 Z (K e + t + 1)) -∗ WP c (k ⟨⟩) Q) -∗ WP c (fillOne (F := F) g og hog P dec od hod hodw >>= k) Q) := by
  have hj : K e + t < T := by have := H.hle e he; omega
  have hp := wp_fill (F := F) c T FG FIN f0 Z (K e + t) hj H.hi (od := od (BitVec.ofNat 32 (16 * fe e))) (hod := hod _ hP) (k := k) (Q := Q)
    (h1 := ((Memref.isWhole_whole _).wordExact_slice rfl _ wordsbf16_S512x1024_S16x1024_0_0)) (h2 := ((Memref.isWhole_whole _).wordExact_slice rfl _ (hodw _ hP))) (h3 := ⟨Or.inl rfl, trivial⟩)
    (e4.trans (by rw [H.hFG e he t ht])) (H.hval _ hj)
  have hl := wp_word1 (F := F) c (m := g) (ho := hog) (h1 := numel1_S1) (hp := rfl) (k := fun v => (do
      have hp : P v := (← Prog.lift (TpuEff.assume (P v) (dec v))).down
      Prog.lift (.enqueueDma zM (.here (dstM (od v) (hod v hp))) (.dma (cellS 2))
        ((Memref.isWhole_whole _).wordExact_slice rfl _ wordsbf16_S512x1024_S16x1024_0_0) ((Memref.isWhole_whole _).wordExact_slice rfl _ (hodw v hp)) ⟨Or.inl rfl, trivial⟩) : Prog (TpuEff nD τ sig (Elt F) Λ₀ .tc) PUnit) >>= k) (Q := Q) A3 e he e1 _ (H.hX3 e he)
  unfold fillOne
  rw [bind_assoc]
  iintro ⟨Hg, HS⟩ Hk
  iapply hl $$ Hg
  iintro Hg
  iapply (wp_assume 𝒱₀ (c : Thread nD τ) none Set.univ hP)
  iapply hp $$ HS
  iintro HS
  iapply Hk
  isplitl [Hg]; · iexact Hg
  iexact HS

/-- Waiting for one group's fill. -/
def wfillOne (g : Memref sig .tc .smem S64 .i32) (P : BitVec 32 → Prop) (dec : ∀ v, Decidable (P v)) (od : BitVec 32 → Fin 2 → ℕ) (hod : ∀ v, P v → ∀ a, od v a + S16x1024.size a ≤ S227328x1024.size a)
    (hodw : ∀ v (h : P v), (Rect.unit (s := S227328x1024) (od v) S16x1024.size (hod v h)).WholeWords (EltTy.packing .bf16)) :
    Prog (TpuEff nD τ sig (Elt F) Λ₀ .tc) PUnit := do
  let v : Elt F .i32 ← smemLoad g (Rect.unit (s := S64) ![0] S1.size inb_S64_S1_0) numel1_S1 rfl
  have hp : P v := (← Prog.lift (TpuEff.assume (P v) (dec v))).down
  Prog.lift (.waitDma2 (cellS 2) zM (dstM (od v) (hod v hp))
    ((Memref.isWhole_whole _).wordExact_slice rfl _ wordsbf16_S512x1024_S16x1024_0_0) ((Memref.isWhole_whole _).wordExact_slice rfl _ (hodw v hp)))

theorem wp_wfillOne (c : Dev nD) {g : Memref sig .tc .smem S64 .i32} {P dec od hod hodw} {n : ℕ} {D : Fin n → sProp 𝕄}
    {α : Type} {k : PUnit → Prog (TpuEff nD τ sig (Elt F) Λ₀ .tc) α} {Q : α → sProp 𝕄}
    {A3 : S64.Idx → Elt F .i32} (w : BitVec 32) (hX : A3 (ix1 (0 : Fin 64)) = w) (u : ℕ) (hu : u + 1 ≤ n) (hP : P w) :
    iprop(OW c g A3 ∗ waitSt c (cellS 2) n D u)
      ⊢ iprop((iprop(OW c g A3 ∗ waitSt c (cellS 2) n D (u + 1)) -∗ WP c (k ⟨⟩) Q) -∗ WP c (wfillOne (F := F) g P dec od hod hodw >>= k) Q) := by
  have hp := wp_waitG (F := F) c (sm := cellS 2) (D := D) (srcw := zM) (dstw := dstM (od w) (hod w hP)) (k := k) (Q := Q)
    (h1 := ((Memref.isWhole_whole _).wordExact_slice rfl _ wordsbf16_S512x1024_S16x1024_0_0)) (h2 := ((Memref.isWhole_whole _).wordExact_slice rfl _ (hodw _ hP))) 1 (show NU = 1 * NU from (Nat.one_mul _).symm) u hu
  have hl := wp_word1 (F := F) c (m := g) (ho := inb_S64_S1_0) (h1 := numel1_S1) (hp := rfl) (k := fun v => (do
      have hp : P v := (← Prog.lift (TpuEff.assume (P v) (dec v))).down
      Prog.lift (.waitDma2 (cellS 2) zM (dstM (od v) (hod v hp))
        ((Memref.isWhole_whole _).wordExact_slice rfl _ wordsbf16_S512x1024_S16x1024_0_0) ((Memref.isWhole_whole _).wordExact_slice rfl _ (hodw v hp))) : Prog (TpuEff nD τ sig (Elt F) Λ₀ .tc) PUnit) >>= k) (Q := Q) A3 0 (by omega) rfl _ hX
  unfold wfillOne
  rw [bind_assoc]
  iintro ⟨Hg, HS⟩ Hk
  iapply hl $$ Hg
  iintro Hg
  iapply (wp_assume 𝒱₀ (c : Thread nD τ) none Set.univ hP)
  iapply hp $$ HS
  iintro HS
  iapply Hk
  isplitl [Hg]; · iexact Hg
  iexact HS

/-- The tail's transfers all issued, `u` of them waited for. -/
def waitTl (c : Dev nD) (n : ℕ) (D : Fin n → sProp 𝕄) (u : ℕ) : sProp 𝕄 :=
  iprop(Transfers.Batch (EC (F := F)) (c : Thread nD τ) (.dma (cellS 2)) () (32 * NU) D n (u * (32 * NU)) ∗ ∃ W, owes (c : Thread nD τ) 0 W)

theorem wp_waitTl (c : Dev nD) {n : ℕ} {D : Fin n → sProp 𝕄} {s s' : Shape} {e e' : EltTy} {sp sp' : Space}
    {srcw : Memref sig .tc sp' s' e'} {dstw : Memref sig .tc sp s e} {h1 h2}
    {α : Type} {k : PUnit → Prog (TpuEff nD τ sig (Elt F) Λ₀ .tc) α} {Q : α → sProp 𝕄} (hJ : dstw.view.dmaCredit = 32 * NU) (u : ℕ) (hu : u + 1 ≤ n) :
    waitTl c n D u ⊢ iprop((waitTl c n D (u + 1) -∗ WP c (k ⟨⟩) Q) -∗ WP c (.op (.waitDma2 (cellS 2) srcw dstw h1 h2) k) Q) := by
  unfold waitTl
  have hu' : u * (32 * NU) + 1 * (32 * NU) ≤ (32 * NU) * n := by rw [← Nat.add_mul, Nat.mul_comm (32 * NU) n]; exact Nat.mul_le_mul_right _ hu
  have he : (u + 1) * (32 * NU) = u * (32 * NU) + 1 * (32 * NU) := Nat.add_mul _ _ _
  rw [he]
  iintro ⟨HB, %W, HO⟩ Hk
  iapply (Transfers.wp_waitBatchMul (EC (F := F)) 𝒱₀ (c : Thread nD τ) none () 1 (hJ.trans (Nat.one_mul _).symm) hu') $$ [HB HO]
  · isplitl [HB]; · iexact HB
    iexact HO
  iintro ⟨HB, HO⟩
  iapply Hk
  isplitl [HB]; · iexact HB
  iexists _; iexact HO

variable (a1 : Memref sig .tc .smem S64 .i32) (h1 : a1.IsWhole) (a2 : Memref sig .tc .smem S1 .i32) (h2 : a2.IsWhole) (a3 : Memref sig .tc .smem S64 .i32) (h3 : a3.IsWhole) (a4 : Memref sig .tc .smem S64 .i32) (h4 : a4.IsWhole) (a5 : Memref sig .tc .smem S1 .i32) (h5 : a5.IsWhole) (a6 : Memref sig .tc .smem S1x1x256 .i32) (h6 : a6.IsWhole) (a7 : Memref sig .tc .smem S1x1x128 .i32) (h7 : a7.IsWhole) (a8 : Memref sig .tc .vmem S8x256 .i32) (h8 : a8.IsWhole) (a9 : Memref sig .tc .vmem S256x1024 .bf16) (h9 : a9.IsWhole) (a10 : Memref sig .tc .vmem S8x128 .i32) (h10 : a10.IsWhole) (a11 : Memref sig .tc .vmem S128x1024 .bf16) (h11 : a11.IsWhole)

/-- The end of a trip, with the value it returns. -/
theorem wp_doneV (c : Dev nD) {α : Type} (v : α) (P : α → sProp 𝕄) : P v ⊢ WP c (pure v : Prog (TpuEff nD τ sig (Elt F) Λ₀ .tc) α) P := by
  rw [show (WP c (pure v : Prog (TpuEff nD τ sig (Elt F) Λ₀ .tc) α) P : sProp 𝕄) = iprop(|={Set.univ}[frame]=> P v) from rfl]
  iintro H; imodintro; iexact H

theorem wp_t22 (c : Dev nD) (i : grid0.Coords) (hc : k0_cond5 i = 1#1) (t21 : Fin k0_t21_loop.trips) {A3 A4 : S64.Idx → Elt F .i32} {T : ℕ} {FG kf fe K : ℕ → ℕ} {Z : Elt F .bf16} {FIN f0 : Buf (Elt F) (xsL c)}
    (H : FillOK c A3 A4 T FG kf fe K Z FIN) (he : t21.val < 64) (hn : kf t21.val ≤ 14208) (hw : k0_chk42 i (BitVec.ofNat 32 (kf t21.val))) {ok}
    {α : Type} {kk : PUnit → Prog (TpuEff nD τ sig (Elt F) Λ₀ .tc) α} {Q : α → sProp 𝕄} :
    iprop(OW c a3 A3 ∗ fillSt c T FG FIN f0 Z (K t21.val)) ⊢ iprop((iprop(OW c a3 A3 ∗ fillSt c T FG FIN f0 Z (K (t21.val + 1))) -∗ WP c (kk ⟨⟩) Q)
      -∗ WP c (Scf.Loop.for (k0_t22_loop (BitVec.ofNat 32 (kf t21.val))) ok ⟨⟩ (k0_t22_body (F := F) i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 hc t21 (BitVec.ofNat 32 (kf t21.val)) hw) >>= kk) Q) := by
  refine wp_loop' c _ _ _ ok _ (fun t => iprop(OW c a3 A3 ∗ fillSt c T FG FIN f0 Z (K t21.val + t))) (kf t21.val) (t22_trips _ hn) _ _ rfl
    (by rw [H.hk _ he]) (fun t => ?_)
  have ht := lt_of_lt_of_eq t.isLt (t22_trips _ hn)
  have hfe := H.hfe _ he
  exact seq_step (wp_fillOne (F := F) c (hod := fun v hp => k0_off183_inb i _ t v hp hc) (hodw := fun v hp => k0_off183_wordsbf16 i _ t v hp hc) H t21.val he t.val (by omega) (off182_eq t21 he) (chk43_of i _ hn (fe t21.val) t hfe) (off183_eq _ hn (fe t21.val) (by omega) t)) (wp_done c)

theorem off186_eq (t : Fin k0_t21_loop.trips) (h : t.val < 64) : k0_off186 t = ![t.val] := off181_eq t h

theorem wp_t21 (c : Dev nD) (i : grid0.Coords) (hc : k0_cond5 i = 1#1) {A3 A4 : S64.Idx → Elt F .i32} {T : ℕ} {FG kf fe K : ℕ → ℕ} {Z : Elt F .bf16} {FIN f0 : Buf (Elt F) (xsL c)}
    (H : FillOK c A3 A4 T FG kf fe K Z FIN) {ok}
    {α : Type} {kk : BitVec 32 → Prog (TpuEff nD τ sig (Elt F) Λ₀ .tc) α} {Q : α → sProp 𝕄} :
    iprop(OW c a4 A4 ∗ OW c a3 A3 ∗ fillSt c T FG FIN f0 Z 0) ⊢ iprop((iprop(OW c a4 A4 ∗ OW c a3 A3 ∗ fillSt c T FG FIN f0 Z T) -∗ WP c (kk (BitVec.ofNat 32 T)) Q)
      -∗ WP c (Scf.Loop.for k0_t21_loop ok 0#32 (k0_t21_body (F := F) i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 hc) >>= kk) Q) := by
  have hb : ∀ (t : Fin k0_t21_loop.trips) (acc : BitVec 32),
      iprop(⌜acc = BitVec.ofNat 32 (K t.val)⌝ ∗ OW c a4 A4 ∗ OW c a3 A3 ∗ fillSt c T FG FIN f0 Z (K t.val))
        ⊢ WP c (k0_t21_body (F := F) i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 hc t acc) (fun acc' => iprop(⌜acc' = BitVec.ofNat 32 (K (t.val + 1))⌝ ∗ OW c a4 A4 ∗ OW c a3 A3 ∗ fillSt c T FG FIN f0 Z (K (t.val + 1)))) := by
    intro t acc
    have he : t.val < 64 := lt_of_lt_of_eq t.isLt t21_trips
    have hle := H.hle _ he
    have hT2 := H.hT2
    have hn : kf t.val ≤ 14208 := by omega
    iintro ⟨%hacc, H4, H3, HF⟩
    subst hacc
    unfold k0_t21_body
    iapply (wp_word1 (F := F) c A4 t.val he (off181_eq t he) _ (H.hX4 _ he)) $$ H4
    iintro H4
    iapply (wp_assume 𝒱₀ (c : Thread nD τ) none Set.univ (chk42_of i _ hn))
    iapply (wp_t22 (F := F) a1 h1 a2 h2 a3 h3 a4 h4 a5 h5 a6 h6 a7 h7 a8 h8 a9 h9 a10 h10 a11 h11 c i hc t H he hn) $$ [H3 HF]
    · isplitl [H3]; · iexact H3
      iexact HF
    iintro ⟨H3, HF⟩
    iapply (wp_t23 (F := F) a1 h1 a2 h2 a3 h3 a4 h4 a5 h5 a6 h6 a7 h7 a8 h8 a9 h9 a10 h10 a11 h11 c i hc _ hn)
    iapply (wp_word1 (F := F) c A4 t.val he (off186_eq t he) _ (H.hX4 _ he)) $$ H4
    iintro H4
    iapply (wp_doneV (F := F) c _ (fun acc' => iprop(⌜acc' = BitVec.ofNat 32 (K (t.val + 1))⌝ ∗ OW c a4 A4 ∗ OW c a3 A3 ∗ fillSt c T FG FIN f0 Z (K (t.val + 1)))))
    isplitr
    · ipureintro
      rw [w_add, H.hk _ he]
    isplitl [H4]; · iexact H4
    isplitl [H3]; · iexact H3
    iexact HF
  iintro ⟨H4, H3, HF⟩ Hk
  iapply (Scf.wp_for_bind frame (wpE (defs₀ (F := F)) 𝒱₀ (c : Thread nD τ) none) Set.univ _ _ _ ok 0#32 _
    (fun n acc => iprop(⌜acc = BitVec.ofNat 32 (K n)⌝ ∗ OW c a4 A4 ∗ OW c a3 A3 ∗ fillSt c T FG FIN f0 Z (K n))) hb) $$ [H4 H3 HF]
  · isplitr
    · ipureintro; rw [H.hk0]
    rw [H.hk0]
    isplitl [H4]; · iexact H4
    isplitl [H3]; · iexact H3
    iexact HF
  rw [show Scf.trips _ _ _ = 64 from t21_trips, H.hT]
  iintro %acc ⟨%ha, H4, H3, HF⟩
  subst ha
  iapply Hk
  isplitl [H4]; · iexact H4
  isplitl [H3]; · iexact H3
  iexact HF

theorem wp_t24 (c : Dev nD) (i : grid0.Coords) (hc : k0_cond5 i = 1#1) (n : ℕ) (hn : n ≤ 14208) (hw : k0_chk45 i (BitVec.ofNat 32 n)) {ok}
    {D : Fin n → sProp 𝕄} {A3 : S64.Idx → Elt F .i32} (r : ℕ) (hr : r < 14208) (hX : A3 (ix1 (0 : Fin 64)) = BitVec.ofNat 32 (16 * r))
    {α : Type} {kk : PUnit → Prog (TpuEff nD τ sig (Elt F) Λ₀ .tc) α} {Q : α → sProp 𝕄} :
    iprop(OW c a3 A3 ∗ waitSt c (cellS 2) n D 0) ⊢ iprop((iprop(OW c a3 A3 ∗ waitSt c (cellS 2) n D n) -∗ WP c (kk ⟨⟩) Q)
      -∗ WP c (Scf.Loop.for (k0_t24_loop (BitVec.ofNat 32 n)) ok ⟨⟩ (k0_t24_body (F := F) i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 hc (BitVec.ofNat 32 n) hw) >>= kk) Q) := by
  refine wp_loop' c _ _ _ ok _ (fun t => iprop(OW c a3 A3 ∗ waitSt c (cellS 2) n D t)) n (t24_trips _ hn) _ _ rfl rfl (fun t => ?_)
  have ht := lt_of_lt_of_eq t.isLt (t24_trips _ hn)
  exact seq_step (wp_wfillOne (F := F) c (hod := fun v hp => k0_off187_inb i v hp hc) (hodw := fun v hp => k0_off187_wordsbf16 i v hp hc) _ hX t.val (by omega) (chk46_of i r hr)) (wp_done c)

theorem wp_t26 (c : Dev nD) (i : grid0.Coords) (hc : k0_cond5 i = 1#1) (n : ℕ) (hn : n ≤ 444) (hw : k0_chk48 i (BitVec.ofNat 32 n)) {ok}
    {FIN f0 : Buf (Elt F) (xsL c)} {Z : Elt F .bf16} (hval : ∀ y : S227328x1024.Idx, 32 * n ≤ (y 0).val / 16 → FIN y = Z)
    {α : Type} {kk : PUnit → Prog (TpuEff nD τ sig (Elt F) Λ₀ .tc) α} {Q : α → sProp 𝕄} :
    tailSt c (444 - n) n FIN f0 Z 0 ⊢ iprop((tailSt c (444 - n) n FIN f0 Z (444 - n) -∗ WP c (kk ⟨⟩) Q)
      -∗ WP c (Scf.Loop.for (k0_t26_loop (BitVec.ofNat 32 n)) ok ⟨⟩ (k0_t26_body (F := F) i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 hc (BitVec.ofNat 32 n) hw) >>= kk) Q) := by
  refine wp_loop' c _ _ _ ok _ (fun t => tailSt c (444 - n) n FIN f0 Z t) (444 - n) (t26_trips _ hn) _ _ rfl rfl (fun t => ?_)
  have ht := lt_of_lt_of_eq t.isLt (t26_trips _ hn)
  exact seq_step (wp_tail (F := F) c _ n FIN f0 Z t.val (by omega) (off189_eq n hn t) hval) (wp_done c)

theorem wp_t28 (c : Dev nD) (i : grid0.Coords) (hc : k0_cond5 i = 1#1) (n : ℕ) (hn : n ≤ 444) (hw : k0_chk48 i (BitVec.ofNat 32 n)) {ok} {D : Fin (444 - n) → sProp 𝕄}
    {α : Type} {kk : PUnit → Prog (TpuEff nD τ sig (Elt F) Λ₀ .tc) α} {Q : α → sProp 𝕄} :
    waitTl c (444 - n) D 0 ⊢ iprop((waitTl c (444 - n) D (444 - n) -∗ WP c (kk ⟨⟩) Q)
      -∗ WP c (Scf.Loop.for (k0_t28_loop (BitVec.ofNat 32 n)) ok ⟨⟩ (k0_t28_body (F := F) i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 hc (BitVec.ofNat 32 n) hw) >>= kk) Q) := by
  refine wp_loop' c _ _ _ ok _ (fun t => waitTl c (444 - n) D t) (444 - n) (t28_trips _ hn) _ _ rfl rfl (fun t => ?_)
  have ht := lt_of_lt_of_eq t.isLt (t28_trips _ hn)
  exact seq_step (wp_waitTl (F := F) c (srcw := zbM) (dstw := dstT (k0_off191 (BitVec.ofNat 32 n) t) (k0_off191_inb i _ hw t hc)) credit32 t.val (by omega)) (wp_done c)

end Cert.Proof.Send

end
-- ==== Proof.Chunks.lean ====
/- What a chunk of 512 slots holds, and how a tile’s chunks fill a slot of the scratch. -/
module

public import proofs.«01_k».proof.Proof.Fills
public import Idealize.ShloMosaic.Lib.VecWindow

@[expose] public section

noncomputable section

namespace Cert.Proof.Send

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UC sig nD τ) ℕ

/-- Which token of the tile, if any, sits in each of the 512 slots from `b`. -/
def selP (b : BitVec 32) (A : Vec F S8x256 .i32) : IVec S512x256 1 :=
  have r : IVec S512x1 16 := trunci 16 (addi (broadcast S512x1 b) (iota .tc S512x1 32 [0] iota_S512x1_d0_w32)) natLt_16_32
  have a : IVec S8x256 16 := trunci 16 A natLt_16_32
  (ori (ori (ori (ori (ori (ori (ori (cmpi .eq (broadcastTo S512x256 r broadcasts_S512x1_S512x256) (broadcastTo S512x256 (extractStridedSlice S1x256 ![0, 0] a slices_S8x256_o0_0_S1x256) broadcasts_S1x256_S512x256))
    (cmpi .eq (broadcastTo S512x256 r broadcasts_S512x1_S512x256) (broadcastTo S512x256 (extractStridedSlice S1x256 ![1, 0] a slices_S8x256_o1_0_S1x256) broadcasts_S1x256_S512x256)))
    (cmpi .eq (broadcastTo S512x256 r broadcasts_S512x1_S512x256) (broadcastTo S512x256 (extractStridedSlice S1x256 ![2, 0] a slices_S8x256_o2_0_S1x256) broadcasts_S1x256_S512x256)))
    (cmpi .eq (broadcastTo S512x256 r broadcasts_S512x1_S512x256) (broadcastTo S512x256 (extractStridedSlice S1x256 ![3, 0] a slices_S8x256_o3_0_S1x256) broadcasts_S1x256_S512x256)))
    (cmpi .eq (broadcastTo S512x256 r broadcasts_S512x1_S512x256) (broadcastTo S512x256 (extractStridedSlice S1x256 ![4, 0] a slices_S8x256_o4_0_S1x256) broadcasts_S1x256_S512x256)))
    (cmpi .eq (broadcastTo S512x256 r broadcasts_S512x1_S512x256) (broadcastTo S512x256 (extractStridedSlice S1x256 ![5, 0] a slices_S8x256_o5_0_S1x256) broadcasts_S1x256_S512x256)))
    (cmpi .eq (broadcastTo S512x256 r broadcasts_S512x1_S512x256) (broadcastTo S512x256 (extractStridedSlice S1x256 ![6, 0] a slices_S8x256_o6_0_S1x256) broadcasts_S1x256_S512x256)))
    (cmpi .eq (broadcastTo S512x256 r broadcasts_S512x1_S512x256) (broadcastTo S512x256 (extractStridedSlice S1x256 ![7, 0] a slices_S8x256_o7_0_S1x256) broadcasts_S1x256_S512x256)))
/-- The indicator of `selP`, as the product takes it. -/
def ohP (s : IVec S512x256 1) : FVec F S512x256 .bf16 := truncf .bf16 (sitofp .f32 (extui 32 s natLt_1_32) : FVec F S512x256 .f32) bitsLt_bf16_f32
/-- The rows an indicator takes. -/
def mmP (o : FVec F S512x256 .bf16) (H : Vec F S256x1024 .bf16) : FVec F S512x1024 .bf16 :=
  truncf .bf16 (matmul dot_S512x256_S256x1024_S512x1024_1_0_0_1_n_n none o H (constant S512x1024 .f32 0x00000000#32)) bitsLt_bf16_f32
/-- The rows of 512 slots from `b`. -/
def chunkP (b : BitVec 32) (A : Vec F S8x256 .i32) (H : Vec F S256x1024 .bf16) : FVec F S512x1024 .bf16 := mmP (ohP (F := F) (selP b A)) H
/-- Row `r` of a tile. -/
def rowP (A : Vec F S8x256 .i32) (H : Vec F S256x1024 .bf16) (r : ℕ) (b : Fin 1024) : Elt F .bf16 :=
  chunkP (BitVec.ofNat 32 (512 * (r / 512))) A H (ix2 (⟨r % 512, Nat.mod_lt _ (by decide)⟩ : Fin 512) b)

/-- Which token of the tile, if any, sits in each of the 512 slots from `b`. -/
def selS (b : BitVec 32) (A : Vec F S8x128 .i32) : IVec S512x128 1 :=
  have r : IVec S512x1 16 := trunci 16 (addi (broadcast S512x1 b) (iota .tc S512x1 32 [0] iota_S512x1_d0_w32)) natLt_16_32
  have a : IVec S8x128 16 := trunci 16 A natLt_16_32
  (ori (ori (ori (ori (ori (ori (ori (cmpi .eq (broadcastTo S512x128 r broadcasts_S512x1_S512x128) (broadcastTo S512x128 (extractStridedSlice S1x128 ![0, 0] a slices_S8x128_o0_0_S1x128) broadcasts_S1x128_S512x128))
    (cmpi .eq (broadcastTo S512x128 r broadcasts_S512x1_S512x128) (broadcastTo S512x128 (extractStridedSlice S1x128 ![1, 0] a slices_S8x128_o1_0_S1x128) broadcasts_S1x128_S512x128)))
    (cmpi .eq (broadcastTo S512x128 r broadcasts_S512x1_S512x128) (broadcastTo S512x128 (extractStridedSlice S1x128 ![2, 0] a slices_S8x128_o2_0_S1x128) broadcasts_S1x128_S512x128)))
    (cmpi .eq (broadcastTo S512x128 r broadcasts_S512x1_S512x128) (broadcastTo S512x128 (extractStridedSlice S1x128 ![3, 0] a slices_S8x128_o3_0_S1x128) broadcasts_S1x128_S512x128)))
    (cmpi .eq (broadcastTo S512x128 r broadcasts_S512x1_S512x128) (broadcastTo S512x128 (extractStridedSlice S1x128 ![4, 0] a slices_S8x128_o4_0_S1x128) broadcasts_S1x128_S512x128)))
    (cmpi .eq (broadcastTo S512x128 r broadcasts_S512x1_S512x128) (broadcastTo S512x128 (extractStridedSlice S1x128 ![5, 0] a slices_S8x128_o5_0_S1x128) broadcasts_S1x128_S512x128)))
    (cmpi .eq (broadcastTo S512x128 r broadcasts_S512x1_S512x128) (broadcastTo S512x128 (extractStridedSlice S1x128 ![6, 0] a slices_S8x128_o6_0_S1x128) broadcasts_S1x128_S512x128)))
    (cmpi .eq (broadcastTo S512x128 r broadcasts_S512x1_S512x128) (broadcastTo S512x128 (extractStridedSlice S1x128 ![7, 0] a slices_S8x128_o7_0_S1x128) broadcasts_S1x128_S512x128)))
/-- The indicator of `selS`, as the product takes it. -/
def ohS (s : IVec S512x128 1) : FVec F S512x128 .bf16 := truncf .bf16 (sitofp .f32 (extui 32 s natLt_1_32) : FVec F S512x128 .f32) bitsLt_bf16_f32
/-- The rows an indicator takes. -/
def mmS (o : FVec F S512x128 .bf16) (H : Vec F S128x1024 .bf16) : FVec F S512x1024 .bf16 :=
  truncf .bf16 (matmul dot_S512x128_S128x1024_S512x1024_1_0_0_1_n_n none o H (constant S512x1024 .f32 0x00000000#32)) bitsLt_bf16_f32
/-- The rows of 512 slots from `b`. -/
def chunkS (b : BitVec 32) (A : Vec F S8x128 .i32) (H : Vec F S128x1024 .bf16) : FVec F S512x1024 .bf16 := mmS (ohS (F := F) (selS b A)) H
/-- Row `r` of a tile. -/
def rowS (A : Vec F S8x128 .i32) (H : Vec F S128x1024 .bf16) (r : ℕ) (b : Fin 1024) : Elt F .bf16 :=
  chunkS (BitVec.ofNat 32 (512 * (r / 512))) A H (ix2 (⟨r % 512, Nat.mod_lt _ (by decide)⟩ : Fin 512) b)

def cast3 (v : FVec F S512x1024 .bf16) : FVec F S1x512x1024 .bf16 := shapeCast S1x512x1024 v shapeCasts_S512x1024_S1x512x1024

theorem pay_p0 (A : Vec F S8x256 .i32) (H : Vec F S256x1024 .bf16) : k0_pay5 (F := F) (k0_pay4 A H) = cast3 (chunkP 0#32 A H) := rfl
theorem pay_p1 (A : Vec F S8x256 .i32) (H : Vec F S256x1024 .bf16) : k0_pay7 (F := F) (k0_pay6 A) H = cast3 (chunkP 512#32 A H) := rfl
theorem pay_p2 (A : Vec F S8x256 .i32) (H : Vec F S256x1024 .bf16) : k0_pay9 (F := F) (k0_pay8 (F := F) A) H = cast3 (chunkP 1024#32 A H) := rfl
theorem pay_p3 (A : Vec F S8x256 .i32) (H : Vec F S256x1024 .bf16) : k0_pay15 (F := F) (k0_pay12 (F := F) A) (k0_pay13 (F := F) A) k0_pay14 H = cast3 (chunkP 1536#32 A H) := rfl
theorem pay_p4 (A : Vec F S8x256 .i32) (H : Vec F S256x1024 .bf16) : k0_pay16 (F := F) (k0_pay2 A H) = cast3 (chunkP 2048#32 A H) := rfl
theorem pay_p5 (A : Vec F S8x256 .i32) (H : Vec F S256x1024 .bf16) : k0_pay17 (F := F) (k0_pay3 A H) = cast3 (chunkP 2560#32 A H) := rfl
theorem pay_s0 (A : Vec F S8x128 .i32) (H : Vec F S128x1024 .bf16) : k0_pay21 (F := F) (k0_pay20 A H) = cast3 (chunkS 0#32 A H) := rfl
theorem pay_s1 (A : Vec F S8x128 .i32) (H : Vec F S128x1024 .bf16) : k0_pay23 (F := F) (k0_pay22 A) H = cast3 (chunkS 512#32 A H) := rfl
theorem pay_s2 (A : Vec F S8x128 .i32) (H : Vec F S128x1024 .bf16) : k0_pay24 (F := F) (k0_pay18 A H) = cast3 (chunkS 1024#32 A H) := rfl
theorem pay_s3 (A : Vec F S8x128 .i32) (H : Vec F S128x1024 .bf16) : k0_pay25 (F := F) (k0_pay19 A H) = cast3 (chunkS 1536#32 A H) := rfl

theorem cast3_apply (v : FVec F S512x1024 .bf16) (a : Fin 512) (b : Fin 1024) : cast3 v (ix3 (0 : Fin 1) a b) = v (ix2 a b) :=
  shapeCast_ab_1ab_apply (a := 512) (b := 1024) v shapeCasts_S512x1024_S1x512x1024 0 a b

theorem cast_rowP (A : Vec F S8x256 .i32) (H : Vec F S256x1024 .bf16) (q : ℕ) (w : FVec F S1x512x1024 .bf16) (hw : w = cast3 (chunkP (BitVec.ofNat 32 (512 * q)) A H)) (a : Fin 512) (b : Fin 1024) :
    w (ix3 (0 : Fin 1) a b) = rowP A H (512 * q + a.val) b := by
  subst hw
  rw [cast3_apply]
  unfold rowP
  have h1 : (512 * q + a.val) / 512 = q := by omega
  have h2 : (512 * q + a.val) % 512 = a.val := by omega
  rw [h1]
  exact congrArg _ (congrArg (fun x => ix2 x b) (Fin.ext h2.symm))

theorem cast_rowS (A : Vec F S8x128 .i32) (H : Vec F S128x1024 .bf16) (q : ℕ) (w : FVec F S1x512x1024 .bf16) (hw : w = cast3 (chunkS (BitVec.ofNat 32 (512 * q)) A H)) (a : Fin 512) (b : Fin 1024) :
    w (ix3 (0 : Fin 1) a b) = rowS A H (512 * q + a.val) b := by
  subst hw
  rw [cast3_apply]
  unfold rowS
  have h1 : (512 * q + a.val) / 512 = q := by omega
  have h2 : (512 * q + a.val) % 512 = a.val := by omega
  rw [h1]
  exact congrArg _ (congrArg (fun x => ix2 x b) (Fin.ext h2.symm))

/-- The first `n` rows of slot `s` are `T`'s. -/
def Rows (c : Dev nD) (f : Buf (Elt F) (sbL c)) (s : Fin 2) (n : ℕ) (T : ℕ → Fin 1024 → Elt F .bf16) : Prop :=
  ∀ (r : Fin 3072) (b : Fin 1024), r.val < n → f (ix3 s r b) = T r.val b

/-- Slot `s` held whole, its first `n` rows `T`'s. -/
def slotAt (c : Dev nD) (s : Fin 2) (n : ℕ) (T : ℕ → Fin 1024 → Elt F .bf16) : sProp 𝕄 := iprop(∃ f, ⌜Rows c f s n T⌝ ∗ sbAt c s.val 0 3072 f)

/-- Reading a memref whole. -/
theorem wp_loadW0 (c : Dev nD) {a b : ℕ} {e : EltTy} {m : Memref sig .tc .vmem ⟨2, ![a, b]⟩ e} {ho hl} {α : Type}
    {k : ((⟨2, ![a, b]⟩ : Shape).Idx → Elt F e) → Prog (TpuEff nD τ sig (Elt F) Λ₀ .tc) α} {Q : α → sProp 𝕄} (X : (⟨2, ![a, b]⟩ : Shape).Idx → Elt F e) :
    OW c m X ⊢ iprop((OW c m X -∗ WP c (k X) Q) -∗ WP c (.op (.load m (Rect.unit (s := ⟨2, ![a, b]⟩) ![0, 0] (⟨2, ![a, b]⟩ : Shape).size ho).toLoadRect hl) k) Q) := by
  have e1 : (OW c m X : sProp 𝕄) = ((m.view.loc (c : Thread nD τ)) ↦[m.view.set]{fullShare} m.view.rep X) := owns_eq_rep _ _ _ _
  have e2 : m.view.readAt (Elt F) (Rect.unit (s := ⟨2, ![a, b]⟩) ![0, 0] (⟨2, ![a, b]⟩ : Shape).size ho).toLoadRect (m.view.rep X) = X := View.readAt_rep_full m.view X ho
  rw [e1]
  iintro H Hk
  iapply (wp_load 𝒱₀ (c : Thread nD τ) none Set.univ (S := m.view.set) (View.setOn_subset_set _ _)) $$ H
  iintro H
  rw [e2]
  iapply Hk; iexact H

/-- Reading a memref whole. -/
theorem wp_loadW (c : Dev nD) {a b : ℕ} {e : EltTy} {m : Memref sig .tc .vmem ⟨2, ![a, b]⟩ e} {ho hl} {α : Type}
    {k : ((⟨2, ![a, b]⟩ : Shape).Idx → Elt F e) → Prog (TpuEff nD τ sig (Elt F) Λ₀ .tc) α} {Q : α → sProp 𝕄} (X : (⟨2, ![a, b]⟩ : Shape).Idx → Elt F e) :
    OW c m X ⊢ iprop((OW c m X -∗ WP c (k X) Q) -∗ WP c (Prog.lift (.load m (Rect.unit (s := ⟨2, ![a, b]⟩) ![0, 0] (⟨2, ![a, b]⟩ : Shape).size ho).toLoadRect hl) >>= k) Q) :=
  wp_loadW0 c X

/-- The rectangle of chunk `q` of slot `s`. -/
abbrev chunkR (s q : ℕ) (h : ∀ a, (![s, 512 * q, 0] : Fin 3 → ℕ) a + S1x512x1024.size a ≤ S2x3072x1024.size a) : Rect S2x3072x1024 :=
  Rect.unit (s := S2x3072x1024) ![s, 512 * q, 0] S1x512x1024.size h

/-- The elements a chunk's rectangle reaches. -/
theorem mem_chunk (s q : ℕ) (h) (y : S2x3072x1024.Idx) (hy : y ∈ (chunkR s q h).set) : (y 0).val = s ∧ 512 * q ≤ (y 1).val ∧ (y 1).val < 512 * q + 512 := by
  have H := Rect.mem_set_unit.1 hy
  have a0 : s ≤ (y 0).val ∧ (y 0).val < s + 1 := H 0
  have a1 : 512 * q ≤ (y 1).val ∧ (y 1).val < 512 * q + 512 := H 1
  omega
theorem chunk_set (s q : ℕ) (h) : (sbM.access (chunkR s q h)).set ⊆ rowsS s 0 3072 := by
  have e : (sbM.access (chunkR s q h)).set = (chunkR s q h).set := View.set_slice_whole _ _
  rw [e]
  intro y hy
  have a1 : (y 1).val < 3072 := (y 1).isLt
  exact mem_rowsS.2 ⟨(mem_chunk s q h y hy).1, Nat.zero_le _, a1⟩

theorem chunk_write_in (c : Dev nD) (s : Fin 2) (q : ℕ) (ho) (f : Buf (Elt F) (sbL c)) (w : S1x512x1024.Idx → Elt F .bf16) (r : Fin 3072) (b : Fin 1024) (h1 : 512 * q ≤ r.val) (h2 : r.val < 512 * q + 512) :
    (sbM.access (chunkR s.val q ho)).write (Elt F) f w Finset.univ (ix3 s r b : (sbM.access (chunkR s.val q ho)).ty.Idx) = w (ix3 (0 : Fin 1) (⟨r.val - 512 * q, by omega⟩ : Fin 512) b) := by
  have ee : (ix3 s r b : S2x3072x1024.Idx) = (sbM.access (chunkR s.val q ho)).emb (ix3 (0 : Fin 1) (⟨r.val - 512 * q, by omega⟩ : Fin 512) b) := by
    funext i; fin_cases i
    · exact Fin.ext (by show s.val = s.val + 1 * 0; omega)
    · exact Fin.ext (by show r.val = 512 * q + 1 * (r.val - 512 * q); omega)
    · exact Fin.ext (by show b.val = 0 + 1 * b.val; omega)
  conv_lhs => rw [ee]
  exact (View.write_emb_of_mem _ _ (Finset.mem_univ _)).trans rfl

theorem chunk_write_out (c : Dev nD) (s : Fin 2) (q : ℕ) (ho) (f : Buf (Elt F) (sbL c)) (w : S1x512x1024.Idx → Elt F .bf16) (r : Fin 3072) (b : Fin 1024) (h1 : r.val < 512 * q) :
    (sbM.access (chunkR s.val q ho)).write (Elt F) f w Finset.univ (ix3 s r b : (sbM.access (chunkR s.val q ho)).ty.Idx) = f (ix3 s r b) := by
  refine View.write_of_not_mem _ _ _ ?_
  intro hm
  have e : (sbM.access (chunkR s.val q ho)).set = (chunkR s.val q ho).set := View.set_slice_whole _ _
  have hm' : (ix3 s r b : S2x3072x1024.Idx) ∈ (chunkR s.val q ho).set := e ▸ hm
  have a1 : 512 * q ≤ r.val ∧ r.val < 512 * q + 512 := (mem_chunk _ _ _ _ hm').2
  omega

/-- Reading a chunk's old rows, which nothing uses. -/
theorem wp_chunkLd0 (c : Dev nD) (s : Fin 2) (n : ℕ) (T : ℕ → Fin 1024 → Elt F .bf16) (q : ℕ) {o ho hl} (e : o = ![s.val, 512 * q, 0]) {α : Type}
    {k : (S1x512x1024.Idx → Elt F .bf16) → Prog (TpuEff nD τ sig (Elt F) Λ₀ .tc) α} {Q : α → sProp 𝕄} :
    slotAt c s n T ⊢ iprop((∀ v, slotAt c s n T -∗ WP c (k v) Q) -∗ WP c (.op (.load sbM (Rect.unit (s := S2x3072x1024) o S1x512x1024.size ho).toLoadRect hl) k) Q) := by
  subst e
  unfold slotAt sbAt
  iintro ⟨%f, %hf, H⟩ Hk
  iapply (wp_load_rect 𝒱₀ (c : Thread nD τ) none Set.univ (m := sbM) (r := chunkR s.val q ho) (S := rowsS s.val 0 3072) (chunk_set s.val q ho)) $$ H
  iintro H
  iapply Hk
  iexists f
  isplitr; · ipureintro; exact hf
  iexact H

/-- Reading a chunk's old rows, which nothing uses. -/
theorem wp_chunkLd (c : Dev nD) (s : Fin 2) (n : ℕ) (T : ℕ → Fin 1024 → Elt F .bf16) (q : ℕ) {o ho hl} (e : o = ![s.val, 512 * q, 0]) {α : Type}
    {k : (S1x512x1024.Idx → Elt F .bf16) → Prog (TpuEff nD τ sig (Elt F) Λ₀ .tc) α} {Q : α → sProp 𝕄} :
    slotAt c s n T ⊢ iprop((∀ v, slotAt c s n T -∗ WP c (k v) Q) -∗ WP c (Prog.lift (.load sbM (Rect.unit (s := S2x3072x1024) o S1x512x1024.size ho).toLoadRect hl) >>= k) Q) :=
  wp_chunkLd0 c s n T q e

/-- Storing a chunk. -/
theorem wp_chunkSt0 (c : Dev nD) (s : Fin 2) (q : ℕ) (T : ℕ → Fin 1024 → Elt F .bf16) {o ho h1 h2} (e : o = ![s.val, 512 * q, 0]) (w : S1x512x1024.Idx → Elt F .bf16)
    (hw : ∀ (a : Fin 512) (b : Fin 1024), w (ix3 (0 : Fin 1) a b) = T (512 * q + a.val) b) {α : Type}
    {k : PUnit → Prog (TpuEff nD τ sig (Elt F) Λ₀ .tc) α} {Q : α → sProp 𝕄} :
    slotAt c s (512 * q) T ⊢ iprop((slotAt c s (512 * q + 512) T -∗ WP c (k ⟨⟩) Q) -∗ WP c (.op (.store sbM (Rect.unit (s := S2x3072x1024) o S1x512x1024.size ho) w Finset.univ h1 h2) k) Q) := by
  subst e
  unfold slotAt sbAt
  iintro ⟨%f, %hf, H⟩ Hk
  iapply (wp_store 𝒱₀ (c : Thread nD τ) none Set.univ (m := sbM) (r := chunkR s.val q ho) (w := w) (Mk := Finset.univ) (S := rowsS s.val 0 3072) (chunk_set s.val q ho)) $$ H
  iintro H
  iapply Hk
  iexists _
  isplitr
  · ipureintro
    intro r b hr
    by_cases hq : 512 * q ≤ r.val
    · refine (chunk_write_in c s q ho f w r b hq hr).trans ((hw _ b).trans (congrArg (fun x => T x b) ?_))
      show 512 * q + (r.val - 512 * q) = r.val
      omega
    · exact (chunk_write_out c s q ho f w r b (by omega)).trans (hf r b (by omega))
  iexact H

/-- Storing a chunk. -/
theorem wp_chunkSt (c : Dev nD) (s : Fin 2) (q : ℕ) (T : ℕ → Fin 1024 → Elt F .bf16) {o ho h1 h2} (e : o = ![s.val, 512 * q, 0]) (w : S1x512x1024.Idx → Elt F .bf16)
    (hw : ∀ (a : Fin 512) (b : Fin 1024), w (ix3 (0 : Fin 1) a b) = T (512 * q + a.val) b) {α : Type}
    {k : PUnit → Prog (TpuEff nD τ sig (Elt F) Λ₀ .tc) α} {Q : α → sProp 𝕄} :
    slotAt c s (512 * q) T ⊢ iprop((slotAt c s (512 * q + 512) T -∗ WP c (k ⟨⟩) Q) -∗ WP c (Prog.lift (.store sbM (Rect.unit (s := S2x3072x1024) o S1x512x1024.size ho) w Finset.univ h1 h2) >>= k) Q) :=
  wp_chunkSt0 c s q T e w hw

end Cert.Proof.Send

end
-- ==== Proof.Parts.lean ====
/- The stages of one grid point: filling a slot with a tile’s rows, and starting its sends. -/
module

public import proofs.«01_k».proof.Proof.Chunks

@[expose] public section

noncomputable section

namespace Cert.Proof.Send

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UC sig nD τ) ℕ

theorem gt2048_iff (n : ℕ) (hn : n ≤ 192) : (Scalar.cmpi .ne (Scalar.extui (Scalar.cmpi .sgt (BitVec.ofNat 32 (16 * n)) 2048#32) : BitVec 32) 0#32 = 1#1) ↔ 2048 < 16 * n := by
  have key : ∀ x : Fin 193, ((Scalar.cmpi .ne (Scalar.extui (Scalar.cmpi .sgt (BitVec.ofNat 32 (16 * x.val)) 2048#32) : BitVec 32) 0#32 = 1#1) ↔ 2048 < 16 * x.val) := by decide
  exact key ⟨n, by omega⟩
theorem gt2560_iff (n : ℕ) (hn : n ≤ 192) : (Scalar.cmpi .ne (Scalar.extui (Scalar.cmpi .sgt (BitVec.ofNat 32 (16 * n)) 2560#32) : BitVec 32) 0#32 = 1#1) ↔ 2560 < 16 * n := by
  have key : ∀ x : Fin 193, ((Scalar.cmpi .ne (Scalar.extui (Scalar.cmpi .sgt (BitVec.ofNat 32 (16 * x.val)) 2560#32) : BitVec 32) 0#32 = 1#1) ↔ 2560 < 16 * x.val) := by decide
  exact key ⟨n, by omega⟩
theorem gt1024_iff (n : ℕ) (hn : n ≤ 192) : (Scalar.cmpi .ne (Scalar.extui (Scalar.cmpi .sgt (BitVec.ofNat 32 (16 * n)) 1024#32) : BitVec 32) 0#32 = 1#1) ↔ 1024 < 16 * n := by
  have key : ∀ x : Fin 193, ((Scalar.cmpi .ne (Scalar.extui (Scalar.cmpi .sgt (BitVec.ofNat 32 (16 * x.val)) 1024#32) : BitVec 32) 0#32 = 1#1) ↔ 1024 < 16 * x.val) := by decide
  exact key ⟨n, by omega⟩
theorem gt1536_iff (n : ℕ) (hn : n ≤ 192) : (Scalar.cmpi .ne (Scalar.extui (Scalar.cmpi .sgt (BitVec.ofNat 32 (16 * n)) 1536#32) : BitVec 32) 0#32 = 1#1) ↔ 1536 < 16 * n := by
  have key : ∀ x : Fin 193, ((Scalar.cmpi .ne (Scalar.extui (Scalar.cmpi .sgt (BitVec.ofNat 32 (16 * x.val)) 1536#32) : BitVec 32) 0#32 = 1#1) ↔ 1536 < 16 * x.val) := by decide
  exact key ⟨n, by omega⟩

theorem slot_mono (c : Dev nD) (s : Fin 2) {n m : ℕ} (h : n ≤ m) (T : ℕ → Fin 1024 → Elt F .bf16) : slotAt c s m T ⊢ (slotAt c s n T : sProp 𝕄) := by
  unfold slotAt
  iintro ⟨%f, %hf, H⟩
  iexists f
  isplitr; · ipureintro; exact fun r b hr => hf r b (by omega)
  iexact H

variable (a1 : Memref sig .tc .smem S64 .i32) (h1 : a1.IsWhole) (a2 : Memref sig .tc .smem S1 .i32) (h2 : a2.IsWhole) (a3 : Memref sig .tc .smem S64 .i32) (h3 : a3.IsWhole) (a4 : Memref sig .tc .smem S64 .i32) (h4 : a4.IsWhole) (a5 : Memref sig .tc .smem S1 .i32) (h5 : a5.IsWhole) (a6 : Memref sig .tc .smem S1x1x256 .i32) (h6 : a6.IsWhole) (a7 : Memref sig .tc .smem S1x1x128 .i32) (h7 : a7.IsWhole) (a8 : Memref sig .tc .vmem S8x256 .i32) (h8 : a8.IsWhole) (a9 : Memref sig .tc .vmem S256x1024 .bf16) (h9 : a9.IsWhole) (a10 : Memref sig .tc .vmem S8x128 .i32) (h10 : a10.IsWhole) (a11 : Memref sig .tc .vmem S128x1024 .bf16) (h11 : a11.IsWhole)
theorem wp_part7 (c : Dev nD) (i : grid0.Coords) (hc : k0_cond2 i = 1#1) (n : ℕ) (hn : n ≤ 192) (X1 : S64.Idx → Elt F .i32) (X8 : Vec F S8x256 .i32) (X9 : Vec F S256x1024 .bf16) (hX : X1 (ix1 (⟨(i 0).val, (cond2_iff i).1 hc⟩ : Fin 64)) = BitVec.ofNat 32 (16 * n))
    {α : Type} {kk : (Σ' (v11 : Elt F .i32) (k0_hw2 : k0_chk2 i v11), FVec F S512x1024 .bf16) → Prog (TpuEff nD τ sig (Elt F) Λ₀ .tc) α} {Q : α → sProp 𝕄} :
    iprop(OW c a1 X1 ∗ OW c a8 X8 ∗ OW c a9 X9) ⊢ iprop((iprop(OW c a1 X1 ∗ OW c a8 X8 ∗ OW c a9 X9) -∗ WP c (kk ⟨BitVec.ofNat 32 (16 * n), chk2_of i n hn, k0_pay4 X8 X9⟩) Q) -∗ WP c (k0_part7 (F := F) i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 (BitVec.ofNat 32 (i 0).val) hc >>= kk) Q) := by
  rw [k0_part7_eq_skeleton]
  unfold k0_part7_skel
  simp only [bind_assoc, pure_bind]
  iintro ⟨H1, H8, H9⟩ Hk
  iapply (wp_word1 c (m := a1) X1 _ _ (off10_eq i) _ hX) $$ H1
  iintro H1
  iapply (wp_assume 𝒱₀ (c : Thread nD τ) none Set.univ (chk2_of i n hn))
  iapply (wp_loadW c X8) $$ H8
  iintro H8
  iapply (wp_loadW c X9) $$ H9
  iintro H9
  iapply Hk
  isplitl [H1]; · iexact H1
  isplitl [H8]; · iexact H8
  iexact H9
theorem wp_part8 (c : Dev nD) (i : grid0.Coords) (hc : k0_cond2 i = 1#1) (s : Fin 2) (hs : (i 0).val % 2 = s.val) (X8 : Vec F S8x256 .i32) (X9 : Vec F S256x1024 .bf16) (v0 : BitVec 32)
    {α : Type} {kk : FVec F S512x256 .bf16 → Prog (TpuEff nD τ sig (Elt F) Λ₀ .tc) α} {Q : α → sProp 𝕄} :
    iprop(slotAt c s 0 (rowP X8 X9) ∗ OW c a8 X8) ⊢ iprop((iprop(slotAt c s 512 (rowP X8 X9) ∗ OW c a8 X8) -∗ WP c (kk (k0_pay6 X8)) Q) -∗ WP c (k0_part8 (F := F) i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 v0 hc (k0_pay4 X8 X9) >>= kk) Q) := by
  rw [k0_part8_eq_skeleton]
  unfold k0_part8_skel
  simp only [bind_assoc, pure_bind]
  iintro ⟨HS, H8⟩ Hk
  iapply (wp_chunkLd c s 0 (rowP X8 X9) 0 ((off11_eq i).trans (by rw [hs]) : k0_off11 i = ![s.val, 512 * 0, 0])) $$ HS
  iintro %v HS
  iapply (wp_chunkSt c s 0 (rowP X8 X9) ((off11_eq i).trans (by rw [hs]) : k0_off11 i = ![s.val, 512 * 0, 0]) _ (cast_rowP X8 X9 0 _ (pay_p0 X8 X9))) $$ HS
  iintro HS
  iapply (wp_loadW c X8) $$ H8
  iintro H8
  iapply Hk
  isplitl [HS]; · iexact HS
  iexact H8
theorem wp_part9 (c : Dev nD) (i : grid0.Coords) (hc : k0_cond2 i = 1#1) (s : Fin 2) (hs : (i 0).val % 2 = s.val) (X8 : Vec F S8x256 .i32) (X9 : Vec F S256x1024 .bf16) (v0 : BitVec 32)
    {α : Type} {kk : IVec S512x256 32 → Prog (TpuEff nD τ sig (Elt F) Λ₀ .tc) α} {Q : α → sProp 𝕄} :
    iprop(slotAt c s 512 (rowP X8 X9) ∗ OW c a8 X8 ∗ OW c a9 X9) ⊢ iprop((iprop(slotAt c s 1024 (rowP X8 X9) ∗ OW c a8 X8 ∗ OW c a9 X9) -∗ WP c (kk (k0_pay8 (F := F) X8)) Q) -∗ WP c (k0_part9 (F := F) i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 v0 hc (k0_pay6 X8) >>= kk) Q) := by
  rw [k0_part9_eq_skeleton]
  unfold k0_part9_skel
  simp only [bind_assoc, pure_bind]
  iintro ⟨HS, H8, H9⟩ Hk
  iapply (wp_loadW c X9) $$ H9
  iintro H9
  iapply (wp_chunkLd c s 512 (rowP X8 X9) 1 ((off12_eq i).trans (by rw [hs]) : k0_off12 i = ![s.val, 512 * 1, 0])) $$ HS
  iintro %v HS
  iapply (wp_chunkSt c s 1 (rowP X8 X9) ((off12_eq i).trans (by rw [hs]) : k0_off12 i = ![s.val, 512 * 1, 0]) _ (cast_rowP X8 X9 1 _ (pay_p1 X8 X9))) $$ HS
  iintro HS
  iapply (wp_loadW c X8) $$ H8
  iintro H8
  iapply Hk
  isplitl [HS]; · iexact HS
  isplitl [H8]; · iexact H8
  iexact H9
theorem wp_part10 (c : Dev nD) (i : grid0.Coords) (hc : k0_cond2 i = 1#1) (s : Fin 2) (hs : (i 0).val % 2 = s.val) (X8 : Vec F S8x256 .i32) (X9 : Vec F S256x1024 .bf16) (v0 : BitVec 32)
    {α : Type} {kk : (Σ' (v216 : IVec S512x256 1) (v217 : IVec S1x256 16), IVec S512x256 16) → Prog (TpuEff nD τ sig (Elt F) Λ₀ .tc) α} {Q : α → sProp 𝕄} :
    iprop(slotAt c s 1024 (rowP X8 X9) ∗ OW c a8 X8 ∗ OW c a9 X9) ⊢ iprop((iprop(slotAt c s 1536 (rowP X8 X9) ∗ OW c a8 X8 ∗ OW c a9 X9) -∗ WP c (kk ⟨k0_pay12 (F := F) X8, k0_pay13 (F := F) X8, k0_pay14⟩) Q) -∗ WP c (k0_part10 (F := F) i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 v0 hc (k0_pay8 (F := F) X8) >>= kk) Q) := by
  rw [k0_part10_eq_skeleton]
  unfold k0_part10_skel
  simp only [bind_assoc, pure_bind]
  iintro ⟨HS, H8, H9⟩ Hk
  iapply (wp_loadW c X9) $$ H9
  iintro H9
  iapply (wp_chunkLd c s 1024 (rowP X8 X9) 2 ((off13_eq i).trans (by rw [hs]) : k0_off13 i = ![s.val, 512 * 2, 0])) $$ HS
  iintro %v HS
  iapply (wp_chunkSt c s 2 (rowP X8 X9) ((off13_eq i).trans (by rw [hs]) : k0_off13 i = ![s.val, 512 * 2, 0]) _ (cast_rowP X8 X9 2 _ (pay_p2 X8 X9))) $$ HS
  iintro HS
  iapply (wp_loadW c X8) $$ H8
  iintro H8
  iapply Hk
  isplitl [HS]; · iexact HS
  isplitl [H8]; · iexact H8
  iexact H9
/-- A stage of one grid point. -/
def blk1 (i : grid0.Coords) : Prog (TpuEff nD τ sig (Elt F) Λ₀ .tc) PUnit := do
  if k0_h1 : k0_cond1 i = 1#1 then do
    let v12 : Elt F .i32 ← smemLoad a1 (Rect.unit (s := S64) (k0_off1 i) S1.size (k0_off1_inb i k0_h1)) numel1_S1 rfl
    have k0_hw1 : k0_chk1 i v12 := (← Prog.lift (TpuEff.assume (k0_chk1 i v12) (k0_chk1.dec i v12))).down
    Scf.Loop.for (k0_t1_loop v12) (k0_t1_ok i v12 k0_hw1 k0_h1) ⟨⟩ (k0_t1_body i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 k0_h1 v12 k0_hw1)
    Scf.Loop.for (k0_t2_loop v12) (k0_t2_ok i v12 k0_hw1 k0_h1) ⟨⟩ (k0_t2_body i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 k0_h1 v12 k0_hw1)
    Scf.Loop.for (k0_t3_loop v12) (k0_t3_ok i v12 k0_hw1 k0_h1) ⟨⟩ (k0_t3_body i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 k0_h1 v12 k0_hw1)
    Scf.Loop.for (k0_t4_loop v12) (k0_t4_ok i v12 k0_hw1 k0_h1) ⟨⟩ (k0_t4_body i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 k0_h1 v12 k0_hw1)
    pure ⟨⟩
  else do
    pure ⟨⟩

/-- A stage of one grid point. -/
def blk2 (i : grid0.Coords) : Prog (TpuEff nD τ sig (Elt F) Λ₀ .tc) PUnit := do
  if k0_h2 : k0_cond2 i = 1#1 then do
    let ⟨v11, k0_hw2, v62⟩ : Σ' (v11 : Elt F .i32) (k0_hw2 : k0_chk2 i v11), FVec F S512x1024 .bf16 ← k0_part7 i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 (BitVec.ofNat 32 (i 0).val) k0_h2
    let v114 : FVec F S512x256 .bf16 ← k0_part8 i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 (Scalar.remsi (BitVec.ofNat 32 (i 0).val) 2#32) k0_h2 v62
    let v167 : IVec S512x256 32 ← k0_part9 i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 (Scalar.remsi (BitVec.ofNat 32 (i 0).val) 2#32) k0_h2 v114
    let ⟨v216, v217, v218⟩ : Σ' (v216 : IVec S512x256 1) (v217 : IVec S1x256 16), IVec S512x256 16 ← k0_part10 i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 (Scalar.remsi (BitVec.ofNat 32 (i 0).val) 2#32) k0_h2 v167
    k0_part11 i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 (Scalar.remsi (BitVec.ofNat 32 (i 0).val) 2#32) k0_h2 v11 k0_hw2 v216 v217 v218
    pure ⟨⟩
  else do
    pure ⟨⟩

/-- A stage of one grid point. -/
def blk5 (i : grid0.Coords) : Prog (TpuEff nD τ sig (Elt F) Λ₀ .tc) PUnit := do
  if k0_h5 : k0_cond5 i = 1#1 then do
    let ⟨v10, k0_hw21, v61⟩ : Σ' (v10 : Elt F .i32) (k0_hw21 : k0_chk21 i v10), FVec F S512x1024 .bf16 ← k0_part18 i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2
    let v113 : FVec F S512x128 .bf16 ← k0_part19 i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 (Scalar.remsi (BitVec.ofNat 32 (i 0).val) 2#32) k0_h5 v61
    let ⟨v141, k0_hw40, v142, c3_i32_29⟩ : Σ' (v141 : Elt F .i32) (k0_hw40 : k0_chk40 i v141) (v142 : BitVec 32), BitVec 32 ← k0_part20 i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 (Scalar.remsi (BitVec.ofNat 32 (i 0).val) 2#32) k0_h5 v10 k0_hw21 v113
    let v169 : FVec F S512x1024 .bf16 ← k0_part21 i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 k0_h5 v141 k0_hw40 v142 c3_i32_29
    let v170 : Vec F S512x1024 .bf16 ← Prog.lift (.load zbM (Rect.unit (s := S512x1024) ![0, 0] S512x1024.size inb_S512x1024_S512x1024_0_0).toLoadRect (View.loadsAt_vmem h_S512x1024))
    Prog.lift (.store zbM (Rect.unit (s := S512x1024) ![0, 0] S512x1024.size inb_S512x1024_S512x1024_0_0) (k0_pay1 v169) Finset.univ (View.stores_vmem h_S512x1024 ((Memref.isWhole_whole _).storeExact_slice rfl _ packedbf16_S512x1024_S512x1024_0_0) (fun _ => rfl)) (.inl rfl))
    let v174 : BitVec 32 ← Scf.Loop.for k0_t21_loop (k0_t21_ok i k0_h5) 0#32 (k0_t21_body i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 k0_h5)
    have k0_hw45 : k0_chk45 i v174 := (← Prog.lift (TpuEff.assume (k0_chk45 i v174) (k0_chk45.dec i v174))).down
    Scf.Loop.for (k0_t24_loop v174) (k0_t24_ok i v174 k0_hw45 k0_h5) ⟨⟩ (k0_t24_body i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 k0_h5 v174 k0_hw45)
    Scf.Loop.for (k0_t25_loop v174) (k0_t25_ok i v174 k0_hw45 k0_h5) ⟨⟩ (k0_t25_body i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 k0_h5 v174 k0_hw45)
    let v180 : Elt F .i32 ← smemLoad a5 (Rect.unit (s := S1) ![0] S1.size inb_S1_S1_0) numel1_S1 rfl
    have k0_hw48 : k0_chk48 i v180 := (← Prog.lift (TpuEff.assume (k0_chk48 i v180) (k0_chk48.dec i v180))).down
    Scf.Loop.for (k0_t26_loop v180) (k0_t26_ok i v180 k0_hw48 k0_h5) ⟨⟩ (k0_t26_body i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 k0_h5 v180 k0_hw48)
    Scf.Loop.for (k0_t27_loop v180) (k0_t27_ok i v180 k0_hw48 k0_h5) ⟨⟩ (k0_t27_body i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 k0_h5 v180 k0_hw48)
    Scf.Loop.for (k0_t28_loop v180) (k0_t28_ok i v180 k0_hw48 k0_h5) ⟨⟩ (k0_t28_body i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 k0_h5 v180 k0_hw48)
    Scf.Loop.for (k0_t29_loop v180) (k0_t29_ok i v180 k0_hw48 k0_h5) ⟨⟩ (k0_t29_body i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 k0_h5 v180 k0_hw48)
    pure ⟨⟩
  else do
    pure ⟨⟩

set_option maxHeartbeats 4000000 in
theorem dispatch_eq (i : grid0.Coords) : cc0_dispatch (F := F) i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 = (blk1 (F := F) a1 h1 a2 h2 a3 h3 a4 h4 a5 h5 a6 h6 a7 h7 a8 h8 a9 h9 a10 h10 a11 h11 i >>= fun _ => blk2 (F := F) a1 h1 a2 h2 a3 h3 a4 h4 a5 h5 a6 h6 a7 h7 a8 h8 a9 h9 a10 h10 a11 h11 i >>= fun _ => blk5 (F := F) a1 h1 a2 h2 a3 h3 a4 h4 a5 h5 a6 h6 a7 h7 a8 h8 a9 h9 a10 h10 a11 h11 i >>= fun _ => pure ⟨⟩) := by
  rw [cc0_dispatch_eq_skeleton]
  unfold cc0_dispatch_skel blk1 blk2 blk5
  by_cases c1 : k0_cond1 i = 1#1 <;> by_cases c2 : k0_cond2 i = 1#1 <;> by_cases c5 : k0_cond5 i = 1#1 <;>
    simp only [c1, c2, c5, dif_pos, dif_neg, not_false_eq_true, bind_assoc, pure_bind, ↓reduceDIte]

/-- What the sends of a tile rest on, whatever slot they go from. -/
structure TileOK (c : Dev nD) (w : ℕ) (X : (⟨3, ![1, 1, w]⟩ : Shape).Idx → Elt F .i32) (n : ℕ) (G : ℕ → ℕ) (FIN : Buf (Elt F) (xsL c)) (T : ℕ → Fin 1024 → Elt F .bf16) : Prop where
  hn : n ≤ 192
  hw : n ≤ w
  hG : ∀ j, j < n → G j < 14208
  hi : ∀ j j', j < n → j' < n → G j = G j' → j = j'
  hX : ∀ j (h : j < n), X (ix3 (0 : Fin 1) (0 : Fin 1) (⟨j, by omega⟩ : Fin w)) = BitVec.ofNat 32 (16 * G j)
  hval : ∀ j (h : j < n) (y : S227328x1024.Idx), (y 0).val / 16 = G j → FIN y = T (16 * j + (y 0).val % 16) (⟨(y 1).val, (y 1).isLt⟩ : Fin 1024)

/-- The completion cell of slot `s`. -/
abbrev cl (s : Fin 2) : Fin 3 := s.castSucc

theorem send_ok {c : Dev nD} {w : ℕ} {X : (⟨3, ![1, 1, w]⟩ : Shape).Idx → Elt F .i32} {n : ℕ} {G : ℕ → ℕ} {FIN : Buf (Elt F) (xsL c)} {T : ℕ → Fin 1024 → Elt F .bf16}
    (K : TileOK c w X n G FIN T) (s : Fin 2) {f : Buf (Elt F) (sbL c)} (hf : Rows c f s (16 * n) T) : SendOK c w X (cl s) n G FIN f where
  hs := s.isLt
  hn := K.hn
  hw := K.hw
  hG := K.hG
  hi := K.hi
  hX := K.hX
  hval := fun j h y hy => (K.hval j h y hy).trans (hf (⟨16 * j + (y 0).val % 16, by have := K.hn; omega⟩ : Fin 3072) _ (show 16 * j + (y 0).val % 16 < 16 * n by omega)).symm

/-- A slot and its cell, nothing in flight. -/
def free (c : Dev nD) (s : Fin 2) : sProp 𝕄 := iprop(semVal ((c : Thread nD τ), SemLoc.dma (cellS (cl s))) 0 ∗ ∃ f, sbAt c s.val 0 3072 f)
/-- A slot whose tile's `n` groups are all on their way. -/
def inFl (c : Dev nD) (s : Fin 2) (n : ℕ) (G : ℕ → ℕ) (FIN : Buf (Elt F) (xsL c)) : sProp 𝕄 := iprop(∃ f, BT c (cl s) n G FIN f n 0 ∗ sbAt c s.val (16 * n) 3072 f)
/-- What the core still owes, whatever it waited for. -/
def owe (c : Dev nD) : sProp 𝕄 := iprop(∃ W, owes (c : Thread nD τ) 0 W)

theorem free_slot (c : Dev nD) (s : Fin 2) (T : ℕ → Fin 1024 → Elt F .bf16) : (free c s : sProp 𝕄) ⊢ iprop(semVal ((c : Thread nD τ), SemLoc.dma (cellS (cl s))) 0 ∗ slotAt c s 0 T) := by
  unfold free slotAt
  iintro ⟨Hv, %f, H⟩
  isplitl [Hv]; · iexact Hv
  iexists f
  isplitr; · ipureintro; exact fun r b hr => absurd hr (Nat.not_lt_zero _)
  iexact H

/-- Before a tile's sends. -/
theorem send_open (c : Dev nD) {w : ℕ} (g : Memref sig .tc .smem ⟨3, ![1, 1, w]⟩ .i32) (X : (⟨3, ![1, 1, w]⟩ : Shape).Idx → Elt F .i32) (s : Fin 2) (n : ℕ) (hn : n ≤ 192) (G : ℕ → ℕ)
    (FIN f0 : Buf (Elt F) (xsL c)) (f : Buf (Elt F) (sbL c)) :
    iprop(OW c g X ∗ sbAt c s.val 0 3072 f ∗ xsAt c (fun r => ∃ j, j < n ∧ r = G j) f0 ∗ semVal ((c : Thread nD τ), SemLoc.dma (cellS (cl s))) 0)
      ⊢ (|={Set.univ}[frame]=> iprop(sendSt c g X (cl s) n G FIN f0 f 0 ∗ sbAt c s.val (16 * n) 3072 f) : sProp 𝕄) := by
  rw [sb_split c s.val 0 (16 * n) 3072 (Nat.zero_le _) (by omega) f]
  rw [xs_congr c (P := fun r => ∃ j, j < n ∧ r = G j) (Q := fun r => ∃ j', 0 ≤ j' ∧ j' < n ∧ r = G j') (fun r _ => ⟨fun ⟨j, a, b⟩ => ⟨j, Nat.zero_le _, a, b⟩, fun ⟨j, _, a, b⟩ => ⟨j, a, b⟩⟩)]
  unfold sendSt
  iintro ⟨Hg, ⟨Hs, Hr⟩, Hx, Hv⟩
  imod (Transfers.batch_alloc' (EC (F := F)) (c := (c : Thread nD τ)) (sm := .dma (cellS (cl s))) () NU (DD c (cl s).val n G FIN f) (E := Set.univ)) $$ Hv with HB
  imodintro
  isplitr [Hr]
  · isplitl [Hg]; · iexact Hg
    isplitl [Hs]; · iexact Hs
    isplitl [Hx]; · iexact Hx
    iexact HB
  iexact Hr

theorem send_close (c : Dev nD) {w : ℕ} (g : Memref sig .tc .smem ⟨3, ![1, 1, w]⟩ .i32) (X : (⟨3, ![1, 1, w]⟩ : Shape).Idx → Elt F .i32) (s : Fin 2) (n : ℕ) (G : ℕ → ℕ)
    (FIN f0 : Buf (Elt F) (xsL c)) (f : Buf (Elt F) (sbL c)) :
    iprop(sendSt c g X (cl s) n G FIN f0 f n ∗ sbAt c s.val (16 * n) 3072 f) ⊢ (iprop(OW c g X ∗ inFl c s n G FIN) : sProp 𝕄) := by
  unfold sendSt inFl
  iintro ⟨⟨Hg, -, -, HB⟩, Hr⟩
  isplitl [Hg]; · iexact Hg
  iexists f
  isplitl [HB]; · iexact HB
  iexact Hr

/-- A tile's sends all waited for: its rows are in place and its slot is free. -/
theorem drain_close (c : Dev nD) (s : Fin 2) (n : ℕ) (hn : n ≤ 192) (G : ℕ → ℕ) (hG : ∀ j, j < n → G j < 14208) (hi : ∀ j j', j < n → j' < n → G j = G j' → j = j')
    (FIN : Buf (Elt F) (xsL c)) (f : Buf (Elt F) (sbL c)) :
    iprop(waitSt c (cellS (cl s)) n (DD c (cl s).val n G FIN f) n ∗ sbAt c s.val (16 * n) 3072 f)
      ⊢ (|={Set.univ}[frame]=> iprop(free c s ∗ xsAt c (fun r => ∃ j, j < n ∧ r = G j) FIN ∗ owe c) : sProp 𝕄) := by
  unfold waitSt free owe
  rw [Nat.mul_comm n NU]
  iintro ⟨⟨HB, HO⟩, Hr⟩
  imod (Transfers.batch_collect' (EC (F := F)) (c := (c : Thread nD τ)) (sm := .dma (cellS (cl s))) (ι := ()) (N := NU) (n := n) (by decide) (D := DD c (cl s).val n G FIN f)) $$ HB with ⟨HD, Hv⟩
  imodintro
  have e : bigSep (Finset.univ : Finset (Fin n)) (DD c (cl s).val n G FIN f) ⊢ (iprop(xsAt c (fun r => ∃ j, j < n ∧ r = G j) FIN ∗ sbAt c s.val 0 (16 * n) f) : sProp 𝕄) := by
    rw [xs_fin c G hG hi (P := fun r => ∃ j, j < n ∧ r = G j) (fun r _ => Iff.rfl) FIN, sb_fin c s.val n f]
    exact eoe (bigSep_sep _ _ _)
  ihave HD := e $$ HD
  icases HD with ⟨Hx, Hs⟩
  isplitl [Hv Hs Hr]
  · isplitl [Hv]; · iexact Hv
    iexists f
    rw [sb_split c s.val 0 (16 * n) 3072 (Nat.zero_le _) (by omega) f]
    isplitl [Hs]; · iexact Hs
    iexact Hr
  isplitl [Hx]; · iexact Hx
  iexact HO

end Cert.Proof.Send

end
-- ==== Proof.Points.lean ====
/- One grid point’s stages: draining a tile, issuing a prompt tile. -/
module

public import proofs.«01_k».proof.Proof.Parts

@[expose] public section

noncomputable section

namespace Cert.Proof.Send

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UC sig nD τ) ℕ

variable (a1 : Memref sig .tc .smem S64 .i32) (h1 : a1.IsWhole) (a2 : Memref sig .tc .smem S1 .i32) (h2 : a2.IsWhole) (a3 : Memref sig .tc .smem S64 .i32) (h3 : a3.IsWhole) (a4 : Memref sig .tc .smem S64 .i32) (h4 : a4.IsWhole) (a5 : Memref sig .tc .smem S1 .i32) (h5 : a5.IsWhole) (a6 : Memref sig .tc .smem S1x1x256 .i32) (h6 : a6.IsWhole) (a7 : Memref sig .tc .smem S1x1x128 .i32) (h7 : a7.IsWhole) (a8 : Memref sig .tc .vmem S8x256 .i32) (h8 : a8.IsWhole) (a9 : Memref sig .tc .vmem S256x1024 .bf16) (h9 : a9.IsWhole) (a10 : Memref sig .tc .vmem S8x128 .i32) (h10 : a10.IsWhole) (a11 : Memref sig .tc .vmem S128x1024 .bf16) (h11 : a11.IsWhole)

theorem wp_loops5 (c : Dev nD) (i : grid0.Coords) (hc : k0_cond2 i = 1#1) (n : ℕ) (hn : n ≤ 192) (hw : k0_chk2 i (BitVec.ofNat 32 (16 * n))) (v0 : BitVec 32) (v216 : IVec S512x256 1) (v217 : IVec S1x256 16) (v218 : IVec S512x256 16) (v244 : BitVec 32) {ok5 ok6 ok7 ok8}
    {X} {G : ℕ → ℕ} {FIN f0 : Buf (Elt F) (xsL c)} {T : ℕ → Fin 1024 → Elt F .bf16} (K : TileOK c 256 X n G FIN T) (s : Fin 2) (hs : (i 0).val % 2 = s.val)
    {α : Type} {kk : PUnit → Prog (TpuEff nD τ sig (Elt F) Λ₀ .tc) α} {Q : α → sProp 𝕄} :
    iprop(OW c a6 X ∗ slotAt c s (16 * n) T ∗ xsAt c (fun r => ∃ j, j < n ∧ r = G j) f0 ∗ semVal ((c : Thread nD τ), SemLoc.dma (cellS (cl s))) 0) ⊢ iprop((iprop(OW c a6 X ∗ inFl c s n G FIN) -∗ WP c (kk ⟨⟩) Q)
      -∗ WP c (Scf.Loop.for (k0_t5_loop (BitVec.ofNat 32 (16 * n))) ok5 ⟨⟩ (k0_t5_body (F := F) i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 v0 hc (BitVec.ofNat 32 (16 * n)) hw v216 v217 v218) >>= fun _ => Scf.Loop.for (k0_t6_loop (BitVec.ofNat 32 (16 * n))) ok6 ⟨⟩ (k0_t6_body (F := F) i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 v0 hc (BitVec.ofNat 32 (16 * n)) hw v216 v217 v218 v244) >>= fun _ => Scf.Loop.for (k0_t7_loop (BitVec.ofNat 32 (16 * n))) ok7 ⟨⟩ (k0_t7_body (F := F) i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 v0 hc (BitVec.ofNat 32 (16 * n)) hw v216 v217 v218) >>= fun _ => Scf.Loop.for (k0_t8_loop (BitVec.ofNat 32 (16 * n))) ok8 ⟨⟩ (k0_t8_body (F := F) i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 v0 hc (BitVec.ofNat 32 (16 * n)) hw v216 v217 v218) >>= kk) Q) := by
  iintro ⟨Hg, HS, Hx, Hv⟩ Hk
  unfold slotAt
  icases HS with ⟨%f, %hf, Hs⟩
  have K' := send_ok K s hf
  have ho := send_open c a6 X s n hn G FIN f0 f
  imod ho $$ [Hg Hs Hx Hv] with ⟨HB, Hr⟩
  · isplitl [Hg]; · iexact Hg
    isplitl [Hs]; · iexact Hs
    isplitl [Hx]; · iexact Hx
    iexact Hv
  iapply (wp_t5 a1 h1 a2 h2 a3 h3 a4 h4 a5 h5 a6 h6 a7 h7 a8 h8 a9 h9 a10 h10 a11 h11 c i hc n hn hw v0 v216 v217 v218 K' hs) $$ HB
  iintro HB
  iapply (wp_t6 a1 h1 a2 h2 a3 h3 a4 h4 a5 h5 a6 h6 a7 h7 a8 h8 a9 h9 a10 h10 a11 h11 c i hc n hn hw v0 v216 v217 v218 v244)
  iapply (wp_t7 a1 h1 a2 h2 a3 h3 a4 h4 a5 h5 a6 h6 a7 h7 a8 h8 a9 h9 a10 h10 a11 h11 c i hc n hn hw v0 v216 v217 v218 K' hs) $$ HB
  iintro HB
  iapply (wp_t8 a1 h1 a2 h2 a3 h3 a4 h4 a5 h5 a6 h6 a7 h7 a8 h8 a9 h9 a10 h10 a11 h11 c i hc n hn hw v0 v216 v217 v218)
  iapply Hk
  iapply (send_close c a6 X s n G FIN f0 f)
  isplitl [HB]; · iexact HB
  iexact Hr

theorem wp_loops9 (c : Dev nD) (i : grid0.Coords) (hc : k0_cond5 i = 1#1) (n : ℕ) (hn : n ≤ 192) (hw : k0_chk21 i (BitVec.ofNat 32 (16 * n))) (v0 : BitVec 32) (v113 : FVec F S512x128 .bf16) (v133 : BitVec 32) {ok9 ok10 ok11 ok12}
    {X} {G : ℕ → ℕ} {FIN f0 : Buf (Elt F) (xsL c)} {T : ℕ → Fin 1024 → Elt F .bf16} (K : TileOK c 128 X n G FIN T) (s : Fin 2) (hs : (i 0).val % 2 = s.val)
    {α : Type} {kk : PUnit → Prog (TpuEff nD τ sig (Elt F) Λ₀ .tc) α} {Q : α → sProp 𝕄} :
    iprop(OW c a7 X ∗ slotAt c s (16 * n) T ∗ xsAt c (fun r => ∃ j, j < n ∧ r = G j) f0 ∗ semVal ((c : Thread nD τ), SemLoc.dma (cellS (cl s))) 0) ⊢ iprop((iprop(OW c a7 X ∗ inFl c s n G FIN) -∗ WP c (kk ⟨⟩) Q)
      -∗ WP c (Scf.Loop.for (k0_t9_loop (BitVec.ofNat 32 (16 * n))) ok9 ⟨⟩ (k0_t9_body (F := F) i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 v0 hc (BitVec.ofNat 32 (16 * n)) hw v113) >>= fun _ => Scf.Loop.for (k0_t10_loop (BitVec.ofNat 32 (16 * n))) ok10 ⟨⟩ (k0_t10_body (F := F) i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 v0 hc (BitVec.ofNat 32 (16 * n)) hw v113 v133) >>= fun _ => Scf.Loop.for (k0_t11_loop (BitVec.ofNat 32 (16 * n))) ok11 ⟨⟩ (k0_t11_body (F := F) i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 v0 hc (BitVec.ofNat 32 (16 * n)) hw v113) >>= fun _ => Scf.Loop.for (k0_t12_loop (BitVec.ofNat 32 (16 * n))) ok12 ⟨⟩ (k0_t12_body (F := F) i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 v0 hc (BitVec.ofNat 32 (16 * n)) hw v113) >>= kk) Q) := by
  iintro ⟨Hg, HS, Hx, Hv⟩ Hk
  unfold slotAt
  icases HS with ⟨%f, %hf, Hs⟩
  have K' := send_ok K s hf
  have ho := send_open c a7 X s n hn G FIN f0 f
  imod ho $$ [Hg Hs Hx Hv] with ⟨HB, Hr⟩
  · isplitl [Hg]; · iexact Hg
    isplitl [Hs]; · iexact Hs
    isplitl [Hx]; · iexact Hx
    iexact Hv
  iapply (wp_t9 a1 h1 a2 h2 a3 h3 a4 h4 a5 h5 a6 h6 a7 h7 a8 h8 a9 h9 a10 h10 a11 h11 c i hc n hn hw v0 v113 K' hs) $$ HB
  iintro HB
  iapply (wp_t10 a1 h1 a2 h2 a3 h3 a4 h4 a5 h5 a6 h6 a7 h7 a8 h8 a9 h9 a10 h10 a11 h11 c i hc n hn hw v0 v113 v133)
  iapply (wp_t11 a1 h1 a2 h2 a3 h3 a4 h4 a5 h5 a6 h6 a7 h7 a8 h8 a9 h9 a10 h10 a11 h11 c i hc n hn hw v0 v113 K' hs) $$ HB
  iintro HB
  iapply (wp_t12 a1 h1 a2 h2 a3 h3 a4 h4 a5 h5 a6 h6 a7 h7 a8 h8 a9 h9 a10 h10 a11 h11 c i hc n hn hw v0 v113)
  iapply Hk
  iapply (send_close c a7 X s n G FIN f0 f)
  isplitl [HB]; · iexact HB
  iexact Hr

theorem wp_drain1 (c : Dev nD) (i : grid0.Coords) (hc : k0_cond1 i = 1#1) (n : ℕ) (hn : n ≤ 192) (hw : k0_chk1 i (BitVec.ofNat 32 (16 * n)))  {ok1 ok2 ok3 ok4}
    {G : ℕ → ℕ} {FIN : Buf (Elt F) (xsL c)} (hG : ∀ j, j < n → G j < 14208) (hi : ∀ j j', j < n → j' < n → G j = G j' → j = j') (s : Fin 2) (hs : (i 0).val % 2 = s.val)
    {α : Type} {kk : PUnit → Prog (TpuEff nD τ sig (Elt F) Λ₀ .tc) α} {Q : α → sProp 𝕄} :
    iprop(inFl c s n G FIN ∗ owe c) ⊢ iprop((iprop(free c s ∗ xsAt c (fun r => ∃ j, j < n ∧ r = G j) FIN ∗ owe c) -∗ WP c (kk ⟨⟩) Q)
      -∗ WP c (Scf.Loop.for (k0_t1_loop (BitVec.ofNat 32 (16 * n))) ok1 ⟨⟩ (k0_t1_body (F := F) i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 hc  (BitVec.ofNat 32 (16 * n)) hw ) >>= fun _ => Scf.Loop.for (k0_t2_loop (BitVec.ofNat 32 (16 * n))) ok2 ⟨⟩ (k0_t2_body (F := F) i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 hc  (BitVec.ofNat 32 (16 * n)) hw ) >>= fun _ => Scf.Loop.for (k0_t3_loop (BitVec.ofNat 32 (16 * n))) ok3 ⟨⟩ (k0_t3_body (F := F) i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 hc  (BitVec.ofNat 32 (16 * n)) hw ) >>= fun _ => Scf.Loop.for (k0_t4_loop (BitVec.ofNat 32 (16 * n))) ok4 ⟨⟩ (k0_t4_body (F := F) i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 hc  (BitVec.ofNat 32 (16 * n)) hw ) >>= kk) Q) := by
  have hk := drain_close (F := F) c s n hn G hG hi FIN
  unfold inFl
  iintro ⟨⟨%f, HB, Hr⟩, HO⟩ Hk
  ihave HW : waitSt c (cellS (cl s)) n (DD c (cl s).val n G FIN f) 0 $$ [HB HO]
  · unfold waitSt owe
    rw [Nat.zero_mul]
    isplitl [HB]; · iexact HB
    iexact HO
  iapply (wp_t1 a1 h1 a2 h2 a3 h3 a4 h4 a5 h5 a6 h6 a7 h7 a8 h8 a9 h9 a10 h10 a11 h11 c i hc n hn hw  (s := cl s) hs) $$ HW
  iintro HW
  iapply (wp_t2 a1 h1 a2 h2 a3 h3 a4 h4 a5 h5 a6 h6 a7 h7 a8 h8 a9 h9 a10 h10 a11 h11 c i hc n hn hw )
  iapply (wp_t3 a1 h1 a2 h2 a3 h3 a4 h4 a5 h5 a6 h6 a7 h7 a8 h8 a9 h9 a10 h10 a11 h11 c i hc n hn hw  (s := cl s) hs) $$ HW
  iintro HW
  iapply (wp_t4 a1 h1 a2 h2 a3 h3 a4 h4 a5 h5 a6 h6 a7 h7 a8 h8 a9 h9 a10 h10 a11 h11 c i hc n hn hw )
  imod (hk f) $$ [HW Hr] with H
  · isplitl [HW]; · iexact HW
    iexact Hr
  iapply Hk; iexact H

theorem wp_drain13 (c : Dev nD) (i : grid0.Coords) (hc : k0_cond5 i = 1#1) (n : ℕ) (hn : n ≤ 192) (hw : k0_chk40 i (BitVec.ofNat 32 (16 * n))) (v142 c3 : BitVec 32) {ok13 ok14 ok15 ok16}
    {G : ℕ → ℕ} {FIN : Buf (Elt F) (xsL c)} (hG : ∀ j, j < n → G j < 14208) (hi : ∀ j j', j < n → j' < n → G j = G j' → j = j') (s : Fin 2) (hs : 1 - (i 0).val % 2 = s.val)
    {α : Type} {kk : PUnit → Prog (TpuEff nD τ sig (Elt F) Λ₀ .tc) α} {Q : α → sProp 𝕄} :
    iprop(inFl c s n G FIN ∗ owe c) ⊢ iprop((iprop(free c s ∗ xsAt c (fun r => ∃ j, j < n ∧ r = G j) FIN ∗ owe c) -∗ WP c (kk ⟨⟩) Q)
      -∗ WP c (Scf.Loop.for (k0_t13_loop (BitVec.ofNat 32 (16 * n))) ok13 ⟨⟩ (k0_t13_body (F := F) i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 hc  (BitVec.ofNat 32 (16 * n)) hw v142 c3) >>= fun _ => Scf.Loop.for (k0_t14_loop (BitVec.ofNat 32 (16 * n))) ok14 ⟨⟩ (k0_t14_body (F := F) i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 hc  (BitVec.ofNat 32 (16 * n)) hw v142 c3) >>= fun _ => Scf.Loop.for (k0_t15_loop (BitVec.ofNat 32 (16 * n))) ok15 ⟨⟩ (k0_t15_body (F := F) i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 hc  (BitVec.ofNat 32 (16 * n)) hw v142 c3) >>= fun _ => Scf.Loop.for (k0_t16_loop (BitVec.ofNat 32 (16 * n))) ok16 ⟨⟩ (k0_t16_body (F := F) i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 hc  (BitVec.ofNat 32 (16 * n)) hw v142 c3) >>= kk) Q) := by
  have hk := drain_close (F := F) c s n hn G hG hi FIN
  unfold inFl
  iintro ⟨⟨%f, HB, Hr⟩, HO⟩ Hk
  ihave HW : waitSt c (cellS (cl s)) n (DD c (cl s).val n G FIN f) 0 $$ [HB HO]
  · unfold waitSt owe
    rw [Nat.zero_mul]
    isplitl [HB]; · iexact HB
    iexact HO
  iapply (wp_t13 a1 h1 a2 h2 a3 h3 a4 h4 a5 h5 a6 h6 a7 h7 a8 h8 a9 h9 a10 h10 a11 h11 c i hc n hn hw v142 c3 (s := cl s) hs) $$ HW
  iintro HW
  iapply (wp_t14 a1 h1 a2 h2 a3 h3 a4 h4 a5 h5 a6 h6 a7 h7 a8 h8 a9 h9 a10 h10 a11 h11 c i hc n hn hw v142 c3)
  iapply (wp_t15 a1 h1 a2 h2 a3 h3 a4 h4 a5 h5 a6 h6 a7 h7 a8 h8 a9 h9 a10 h10 a11 h11 c i hc n hn hw v142 c3 (s := cl s) hs) $$ HW
  iintro HW
  iapply (wp_t16 a1 h1 a2 h2 a3 h3 a4 h4 a5 h5 a6 h6 a7 h7 a8 h8 a9 h9 a10 h10 a11 h11 c i hc n hn hw v142 c3)
  imod (hk f) $$ [HW Hr] with H
  · isplitl [HW]; · iexact HW
    iexact Hr
  iapply Hk; iexact H

theorem wp_drain17 (c : Dev nD) (i : grid0.Coords) (hc : k0_cond5 i = 1#1) (n : ℕ) (hn : n ≤ 192) (hw : k0_chk41 i (BitVec.ofNat 32 (16 * n))) (v141 : BitVec 32) (hw40 : k0_chk40 i v141) (v142 c3 : BitVec 32) {ok17 ok18 ok19 ok20}
    {G : ℕ → ℕ} {FIN : Buf (Elt F) (xsL c)} (hG : ∀ j, j < n → G j < 14208) (hi : ∀ j j', j < n → j' < n → G j = G j' → j = j') (s : Fin 2) (hs : (i 0).val % 2 = s.val)
    {α : Type} {kk : PUnit → Prog (TpuEff nD τ sig (Elt F) Λ₀ .tc) α} {Q : α → sProp 𝕄} :
    iprop(inFl c s n G FIN ∗ owe c) ⊢ iprop((iprop(free c s ∗ xsAt c (fun r => ∃ j, j < n ∧ r = G j) FIN ∗ owe c) -∗ WP c (kk ⟨⟩) Q)
      -∗ WP c (Scf.Loop.for (k0_t17_loop (BitVec.ofNat 32 (16 * n))) ok17 ⟨⟩ (k0_t17_body (F := F) i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 hc v141 hw40 v142 c3 (BitVec.ofNat 32 (16 * n)) hw ) >>= fun _ => Scf.Loop.for (k0_t18_loop (BitVec.ofNat 32 (16 * n))) ok18 ⟨⟩ (k0_t18_body (F := F) i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 hc v141 hw40 v142 c3 (BitVec.ofNat 32 (16 * n)) hw ) >>= fun _ => Scf.Loop.for (k0_t19_loop (BitVec.ofNat 32 (16 * n))) ok19 ⟨⟩ (k0_t19_body (F := F) i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 hc v141 hw40 v142 c3 (BitVec.ofNat 32 (16 * n)) hw ) >>= fun _ => Scf.Loop.for (k0_t20_loop (BitVec.ofNat 32 (16 * n))) ok20 ⟨⟩ (k0_t20_body (F := F) i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 hc v141 hw40 v142 c3 (BitVec.ofNat 32 (16 * n)) hw ) >>= kk) Q) := by
  have hk := drain_close (F := F) c s n hn G hG hi FIN
  unfold inFl
  iintro ⟨⟨%f, HB, Hr⟩, HO⟩ Hk
  ihave HW : waitSt c (cellS (cl s)) n (DD c (cl s).val n G FIN f) 0 $$ [HB HO]
  · unfold waitSt owe
    rw [Nat.zero_mul]
    isplitl [HB]; · iexact HB
    iexact HO
  iapply (wp_t17 a1 h1 a2 h2 a3 h3 a4 h4 a5 h5 a6 h6 a7 h7 a8 h8 a9 h9 a10 h10 a11 h11 c i hc n hn hw v141 hw40 v142 c3 (s := cl s) hs) $$ HW
  iintro HW
  iapply (wp_t18 a1 h1 a2 h2 a3 h3 a4 h4 a5 h5 a6 h6 a7 h7 a8 h8 a9 h9 a10 h10 a11 h11 c i hc n hn hw v141 hw40 v142 c3)
  iapply (wp_t19 a1 h1 a2 h2 a3 h3 a4 h4 a5 h5 a6 h6 a7 h7 a8 h8 a9 h9 a10 h10 a11 h11 c i hc n hn hw v141 hw40 v142 c3 (s := cl s) hs) $$ HW
  iintro HW
  iapply (wp_t20 a1 h1 a2 h2 a3 h3 a4 h4 a5 h5 a6 h6 a7 h7 a8 h8 a9 h9 a10 h10 a11 h11 c i hc n hn hw v141 hw40 v142 c3)
  imod (hk f) $$ [HW Hr] with H
  · isplitl [HW]; · iexact HW
    iexact Hr
  iapply Hk; iexact H

set_option maxRecDepth 65536 in
set_option maxHeartbeats 2000000 in
theorem wp_part11 (c : Dev nD) (i : grid0.Coords) (hc : k0_cond2 i = 1#1) (n : ℕ) (hw : k0_chk2 i (BitVec.ofNat 32 (16 * n))) (s : Fin 2) (hs : (i 0).val % 2 = s.val) (X8 : Vec F S8x256 .i32) (X9 : Vec F S256x1024 .bf16) (v0 : BitVec 32) {X6} {G : ℕ → ℕ} {FIN f0 : Buf (Elt F) (xsL c)} (K : TileOK c 256 X6 n G FIN (rowP X8 X9))
    {α : Type} {kk : PUnit → Prog (TpuEff nD τ sig (Elt F) Λ₀ .tc) α} {Q : α → sProp 𝕄} :
    iprop(slotAt c s 1536 (rowP X8 X9) ∗ OW c a8 X8 ∗ OW c a9 X9 ∗ OW c a6 X6 ∗ xsAt c (fun r => ∃ j, j < n ∧ r = G j) f0 ∗ semVal ((c : Thread nD τ), SemLoc.dma (cellS (cl s))) 0) ⊢ iprop((iprop(OW c a6 X6 ∗ inFl c s n G FIN ∗ OW c a8 X8 ∗ OW c a9 X9) -∗ WP c (kk ⟨⟩) Q) -∗ WP c (k0_part11 (F := F) i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 v0 hc (BitVec.ofNat 32 (16 * n)) hw (k0_pay12 (F := F) X8) (k0_pay13 (F := F) X8) k0_pay14 >>= kk) Q) := by
  rw [k0_part11_eq_skeleton]
  unfold k0_part11_skel
  have hn := K.hn
  have e3 := cast_rowP (F := F) X8 X9 3 _ (pay_p3 X8 X9)
  have e4 := cast_rowP (F := F) X8 X9 4 _ (pay_p4 X8 X9)
  have e5 := cast_rowP (F := F) X8 X9 5 _ (pay_p5 X8 X9)
  have o3 := ((off14_eq i).trans (by rw [hs]) : k0_off14 i = ![s.val, 512 * 3, 0])
  have o4 := ((off15_eq i).trans (by rw [hs]) : k0_off15 i = ![s.val, 512 * 4, 0])
  have o5 := ((off16_eq i).trans (by rw [hs]) : k0_off16 i = ![s.val, 512 * 5, 0])
  iintro ⟨HS, H8, H9, H6, Hx, Hv⟩ Hk
  by_cases c4 : 2048 < 16 * n <;> by_cases c5 : 2560 < 16 * n <;>
    simp only [gt2048_iff n hn, gt2560_iff n hn, c4, c5, if_true, if_false, ↓reduceIte, bind_assoc, pure_bind, k0_part1_eq_skeleton, k0_part2_eq_skeleton, k0_part1_skel, k0_part2_skel]
  · iapply (wp_loadW c X9) $$ H9
    iintro H9
    iapply (wp_chunkLd c s 1536 (rowP X8 X9) 3 o3) $$ HS
    iintro %v HS
    iapply (wp_chunkSt c s 3 (rowP X8 X9) o3 _ e3) $$ HS
    iintro HS
    iapply (wp_loadW c X8) $$ H8
    iintro H8
    iapply (wp_loadW c X9) $$ H9
    iintro H9
    iapply (wp_chunkLd c s 2048 (rowP X8 X9) 4 o4) $$ HS
    iintro %v HS
    iapply (wp_chunkSt c s 4 (rowP X8 X9) o4 _ e4) $$ HS
    iintro HS
    iapply (wp_loadW c X8) $$ H8
    iintro H8
    iapply (wp_loadW c X9) $$ H9
    iintro H9
    iapply (wp_chunkLd c s 2560 (rowP X8 X9) 5 o5) $$ HS
    iintro %v HS
    iapply (wp_chunkSt c s 5 (rowP X8 X9) o5 _ e5) $$ HS
    iintro HS
    ihave HS := (slot_mono c s (n := 16 * n) (by omega) (rowP X8 X9)) $$ HS
    iapply (wp_loops5 a1 h1 a2 h2 a3 h3 a4 h4 a5 h5 a6 h6 a7 h7 a8 h8 a9 h9 a10 h10 a11 h11 c i hc n hn hw v0 _ _ _ _ K s hs) $$ [H6 HS Hx Hv]
    · isplitl [H6]; · iexact H6
      isplitl [HS]; · iexact HS
      isplitl [Hx]; · iexact Hx
      iexact Hv
    iintro ⟨H6, HI⟩
    iapply Hk
    isplitl [H6]; · iexact H6
    isplitl [HI]; · iexact HI
    isplitl [H8]; · iexact H8
    iexact H9
  · iapply (wp_loadW c X9) $$ H9
    iintro H9
    iapply (wp_chunkLd c s 1536 (rowP X8 X9) 3 o3) $$ HS
    iintro %v HS
    iapply (wp_chunkSt c s 3 (rowP X8 X9) o3 _ e3) $$ HS
    iintro HS
    iapply (wp_loadW c X8) $$ H8
    iintro H8
    iapply (wp_loadW c X9) $$ H9
    iintro H9
    iapply (wp_chunkLd c s 2048 (rowP X8 X9) 4 o4) $$ HS
    iintro %v HS
    iapply (wp_chunkSt c s 4 (rowP X8 X9) o4 _ e4) $$ HS
    iintro HS
    ihave HS := (slot_mono c s (n := 16 * n) (by omega) (rowP X8 X9)) $$ HS
    iapply (wp_loops5 a1 h1 a2 h2 a3 h3 a4 h4 a5 h5 a6 h6 a7 h7 a8 h8 a9 h9 a10 h10 a11 h11 c i hc n hn hw v0 _ _ _ _ K s hs) $$ [H6 HS Hx Hv]
    · isplitl [H6]; · iexact H6
      isplitl [HS]; · iexact HS
      isplitl [Hx]; · iexact Hx
      iexact Hv
    iintro ⟨H6, HI⟩
    iapply Hk
    isplitl [H6]; · iexact H6
    isplitl [HI]; · iexact HI
    isplitl [H8]; · iexact H8
    iexact H9
  · exfalso; omega
  · iapply (wp_loadW c X9) $$ H9
    iintro H9
    iapply (wp_chunkLd c s 1536 (rowP X8 X9) 3 o3) $$ HS
    iintro %v HS
    iapply (wp_chunkSt c s 3 (rowP X8 X9) o3 _ e3) $$ HS
    iintro HS
    ihave HS := (slot_mono c s (n := 16 * n) (by omega) (rowP X8 X9)) $$ HS
    iapply (wp_loops5 a1 h1 a2 h2 a3 h3 a4 h4 a5 h5 a6 h6 a7 h7 a8 h8 a9 h9 a10 h10 a11 h11 c i hc n hn hw v0 _ _ _ _ K s hs) $$ [H6 HS Hx Hv]
    · isplitl [H6]; · iexact H6
      isplitl [HS]; · iexact HS
      isplitl [Hx]; · iexact Hx
      iexact Hv
    iintro ⟨H6, HI⟩
    iapply Hk
    isplitl [H6]; · iexact H6
    isplitl [HI]; · iexact HI
    isplitl [H8]; · iexact H8
    iexact H9

end Cert.Proof.Send

end
-- ==== Proof.Zeros.lean ====
/- Filling with zeros, from the block of zeros to the last group. -/
module

public import proofs.«01_k».proof.Proof.Points

@[expose] public section

noncomputable section

namespace Cert.Proof.Send

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UC sig nD τ) ℕ

/-- The cell the fills complete on, idle. -/
def sem2 (c : Dev nD) : sProp 𝕄 := semVal ((c : Thread nD τ), SemLoc.dma (cellS 2)) 0
/-- The block of zeros, whatever it holds. -/
def zbAny (c : Dev nD) : sProp 𝕄 := iprop(∃ z, zbAt c zbM.view.set fullShare z)

theorem zb_in (ho : ∀ a, (![0, 0] : Fin 2 → ℕ) a + S512x1024.size a ≤ S512x1024.size a) : (zbM.access (Rect.unit (s := S512x1024) ![0, 0] S512x1024.size ho)).set ⊆ zbM.view.set := View.set_slice_subset _ _

theorem zb_written (c : Dev nD) (ho : ∀ a, (![0, 0] : Fin 2 → ℕ) a + S512x1024.size a ≤ S512x1024.size a) (w : S512x1024.Idx → Elt F .bf16) (Z : Elt F .bf16) (hw : ∀ x, w x = Z) (z : Buf (Elt F) (zbL c)) (y : S512x1024.Idx) :
    (zbM.access (Rect.unit (s := S512x1024) ![0, 0] S512x1024.size ho)).write (Elt F) z w Finset.univ (y : (zbM.access (Rect.unit (s := S512x1024) ![0, 0] S512x1024.size ho)).ty.Idx) = Z := by
  have ee : (y : S512x1024.Idx) = (zbM.access (Rect.unit (s := S512x1024) ![0, 0] S512x1024.size ho)).emb (y : S512x1024.Idx) := by
    funext a; fin_cases a
    · exact Fin.ext (by show (y 0).val = 0 + 1 * (y 0).val; omega)
    · exact Fin.ext (by show (y 1).val = 0 + 1 * (y 1).val; omega)
  conv_lhs => rw [ee]
  exact (View.write_emb_of_mem _ _ (Finset.mem_univ _)).trans (hw _)

theorem wp_zbLd0 (c : Dev nD) {ho hl} {α : Type} {k : (S512x1024.Idx → Elt F .bf16) → Prog (TpuEff nD τ sig (Elt F) Λ₀ .tc) α} {Q : α → sProp 𝕄} :
    zbAny c ⊢ iprop((∀ v, zbAny c -∗ WP c (k v) Q) -∗ WP c (.op (.load zbM (Rect.unit (s := S512x1024) ![0, 0] S512x1024.size ho).toLoadRect hl) k) Q) := by
  unfold zbAny zbAt
  iintro ⟨%z, H⟩ Hk
  iapply (wp_load_rect 𝒱₀ (c : Thread nD τ) none Set.univ (m := zbM) (r := (Rect.unit (s := S512x1024) ![0, 0] S512x1024.size ho)) (S := zbM.view.set) (zb_in ho)) $$ H
  iintro H
  iapply Hk
  iexists z
  iexact H
theorem wp_zbLd (c : Dev nD) {ho hl} {α : Type} {k : (S512x1024.Idx → Elt F .bf16) → Prog (TpuEff nD τ sig (Elt F) Λ₀ .tc) α} {Q : α → sProp 𝕄} :
    zbAny c ⊢ iprop((∀ v, zbAny c -∗ WP c (k v) Q) -∗ WP c (Prog.lift (.load zbM (Rect.unit (s := S512x1024) ![0, 0] S512x1024.size ho).toLoadRect hl) >>= k) Q) :=
  wp_zbLd0 c

theorem zb_const (c : Dev nD) (S : Finset S512x1024.Idx) (q : PosShare TreeShare) (z z' : Buf (Elt F) (zbL c)) (h : ∀ y : S512x1024.Idx, z y = z' y) : ((zbL c) ↦[S]{q} z) ⊢ ((zbL c) ↦[S]{q} z' : sProp 𝕄) :=
  eoe (congrArg (zbAt c S q) (funext h))

theorem wp_zbSt0 (c : Dev nD) {ho h1 h2} (w : S512x1024.Idx → Elt F .bf16) (Z : Elt F .bf16) (hw : ∀ x, w x = Z) {α : Type} {k : PUnit → Prog (TpuEff nD τ sig (Elt F) Λ₀ .tc) α} {Q : α → sProp 𝕄} :
    zbAny c ⊢ iprop((zbAt c zbM.view.set fullShare (fun _ => Z) -∗ WP c (k ⟨⟩) Q) -∗ WP c (.op (.store zbM (Rect.unit (s := S512x1024) ![0, 0] S512x1024.size ho) w Finset.univ h1 h2) k) Q) := by
  unfold zbAny zbAt
  iintro ⟨%z, H⟩ Hk
  iapply (wp_store 𝒱₀ (c : Thread nD τ) none Set.univ (m := zbM) (r := (Rect.unit (s := S512x1024) ![0, 0] S512x1024.size ho)) (w := w) (Mk := Finset.univ) (S := zbM.view.set) (zb_in ho)) $$ H
  iintro H
  iapply Hk
  iapply (zb_const c zbM.view.set fullShare _ (fun _ => Z) (zb_written c ho w Z hw z)); iexact H
theorem wp_zbSt (c : Dev nD) {ho h1 h2} (w : S512x1024.Idx → Elt F .bf16) (Z : Elt F .bf16) (hw : ∀ x, w x = Z) {α : Type} {k : PUnit → Prog (TpuEff nD τ sig (Elt F) Λ₀ .tc) α} {Q : α → sProp 𝕄} :
    zbAny c ⊢ iprop((zbAt c zbM.view.set fullShare (fun _ => Z) -∗ WP c (k ⟨⟩) Q) -∗ WP c (Prog.lift (.store zbM (Rect.unit (s := S512x1024) ![0, 0] S512x1024.size ho) w Finset.univ h1 h2) >>= k) Q) :=
  wp_zbSt0 c w Z hw

/-- The block of zeros, cut into the rows the fills of a group read and the rest. -/
theorem zb_cut (c : Dev nD) (z : Buf (Elt F) (zbL c)) :
    (zbAt c zbM.view.set fullShare z : sProp 𝕄) = iprop(zbAt c zM.view.set fullShare z ∗ zbAt c (zbM.view.set \ zM.view.set) fullShare z) := by
  have h := pointsTo_split_subset (ℓ := zbL c) (q := fullShare) (f := z) (View.set_slice_subset zbM.view (Rect.unit (s := S512x1024) ![0, 0] S16x1024.size inb_S512x1024_S16x1024_0_0) : zM.view.set ⊆ zbM.view.set) (Ix := Unit) (Name := ℕ) (U := UD) (Lvl := ℕ)
  exact Entails.antisymm h.1 h.2

theorem fill_open (c : Dev nD) (T : ℕ) (FG : ℕ → ℕ) (FIN f0 : Buf (Elt F) (xsL c)) (Z : Elt F .bf16) :
    iprop(zbAt c zbM.view.set fullShare (fun _ => Z) ∗ xsAt c (fun r => ∃ j, j < T ∧ r = FG j) f0 ∗ sem2 c)
      ⊢ (|={Set.univ}[frame]=> iprop(fillSt c T FG FIN f0 Z 0 ∗ zbAt c (zbM.view.set \ zM.view.set) fullShare (fun _ => Z)) : sProp 𝕄) := by
  rw [zb_cut c]
  rw [xs_congr c (P := fun r => ∃ j, j < T ∧ r = FG j) (Q := fun r => ∃ j', 0 ≤ j' ∧ j' < T ∧ r = FG j') (fun r _ => ⟨fun ⟨j, a, b⟩ => ⟨j, Nat.zero_le _, a, b⟩, fun ⟨j, _, a, b⟩ => ⟨j, a, b⟩⟩)]
  unfold fillSt sem2
  iintro ⟨⟨Hz, Hr⟩, Hx, Hv⟩
  imod (Transfers.batch_alloc' (EC (F := F)) (c := (c : Thread nD τ)) (sm := .dma (cellS 2)) () NU (DF c T FG FIN Z) (E := Set.univ)) $$ Hv with HB
  imodintro
  isplitr [Hr]
  · isplitl [Hz]; · iexact Hz
    isplitl [Hx]; · iexact Hx
    iexact HB
  iexact Hr

theorem fill_turn (c : Dev nD) (T : ℕ) (FG : ℕ → ℕ) (FIN f0 : Buf (Elt F) (xsL c)) (Z : Elt F .bf16) :
    iprop(fillSt c T FG FIN f0 Z T ∗ owe c) ⊢ (iprop(waitSt c (cellS 2) T (DF c T FG FIN Z) 0 ∗ zbAt c zM.view.set (Transfers.shareDrop fullShare T) (fun _ => Z)) : sProp 𝕄) := by
  unfold fillSt waitSt owe
  rw [Nat.zero_mul]
  iintro ⟨⟨Hz, -, HB⟩, HO⟩
  isplitr [Hz]
  · isplitl [HB]; · iexact HB
    iexact HO
  iexact Hz

theorem fill_close (c : Dev nD) (T : ℕ) (FG : ℕ → ℕ) (hG : ∀ j, j < T → FG j < 14208) (hi : ∀ j j', j < T → j' < T → FG j = FG j' → j = j') (FIN : Buf (Elt F) (xsL c)) (Z : Elt F .bf16) :
    iprop(waitSt c (cellS 2) T (DF c T FG FIN Z) T ∗ zbAt c zM.view.set (Transfers.shareDrop fullShare T) (fun _ => Z) ∗ zbAt c (zbM.view.set \ zM.view.set) fullShare (fun _ => Z))
      ⊢ (|={Set.univ}[frame]=> iprop(zbAt c zbM.view.set fullShare (fun _ => Z) ∗ xsAt c (fun r => ∃ j, j < T ∧ r = FG j) FIN ∗ sem2 c ∗ owe c) : sProp 𝕄) := by
  have e : bigSep (Finset.univ : Finset (Fin T)) (DF c T FG FIN Z) ⊢ (iprop(xsAt c (fun r => ∃ j, j < T ∧ r = FG j) FIN ∗ bigSep (Finset.univ : Finset (Fin T)) fun j => zbAt c zM.view.set (Transfers.shareTokN fullShare j.val) (fun _ => Z)) : sProp 𝕄) := by
    rw [xs_fin c FG hG hi (P := fun r => ∃ j, j < T ∧ r = FG j) (fun r _ => Iff.rfl) FIN]
    exact eoe (bigSep_sep _ _ _)
  have ez := zb_toks (F := F) c zM.view.set (fun _ => Z) T
  rw [zb_cut c]
  unfold waitSt sem2 owe
  rw [Nat.mul_comm T NU]
  iintro ⟨⟨HB, HO⟩, Hd, Hr⟩
  imod (Transfers.batch_collect' (EC (F := F)) (c := (c : Thread nD τ)) (sm := .dma (cellS 2)) (ι := ()) (N := NU) (n := T) (by decide) (D := DF c T FG FIN Z)) $$ HB with ⟨HD, Hv⟩
  imodintro
  ihave HD := e $$ HD
  icases HD with ⟨Hx, Ht⟩
  isplitl [Hd Ht Hr]
  · isplitl [Hd Ht]
    · iapply ez
      isplitl [Hd]; · iexact Hd
      iexact Ht
    iexact Hr
  isplitl [Hx]; · iexact Hx
  isplitl [Hv]; · iexact Hv
  iexact HO

theorem xs_blocks (c : Dev nD) (nr m : ℕ) (f : Buf (Elt F) (xsL c)) :
    (xsAt c (fun r => 32 * nr ≤ r ∧ r < 32 * (nr + m)) f : sProp 𝕄) = bigSep (Finset.univ : Finset (Fin m)) fun j => xsAt c (fun r => 32 * (nr + j.val) ≤ r ∧ r < 32 * (nr + j.val) + 32) f := by
  unfold xsAt
  rw [← pointsTo_biUnion (ℓ := xsL c) (q := fullShare) (f := f) (Finset.univ : Finset (Fin m)) (fun j => (rowsX (fun r => 32 * (nr + j.val) ≤ r ∧ r < 32 * (nr + j.val) + 32) : Finset S227328x1024.Idx))
    (fun j _ j' _ hne => by
      rw [Finset.disjoint_left]; intro y hy hy'
      have h1 := mem_rowsX.1 hy; have h2 := mem_rowsX.1 hy'
      exact hne (Fin.ext (by omega)))]
  congr 1
  ext y
  rw [Finset.mem_biUnion, mem_rowsX]
  constructor
  · rintro ⟨h1, h2⟩
    exact ⟨⟨(y 0).val / 16 / 32 - nr, by omega⟩, Finset.mem_univ _, mem_rowsX.2 (by show 32 * (nr + ((y 0).val / 16 / 32 - nr)) ≤ _ ∧ _ < 32 * (nr + ((y 0).val / 16 / 32 - nr)) + 32; omega)⟩
  · rintro ⟨j, -, h⟩
    have h := mem_rowsX.1 h; have := j.isLt
    exact ⟨by omega, by omega⟩

theorem tail_open (c : Dev nD) (nr : ℕ) (hn : nr ≤ 444) (FIN f0 : Buf (Elt F) (xsL c)) (Z : Elt F .bf16) :
    iprop(zbAt c zbM.view.set fullShare (fun _ => Z) ∗ xsAt c (fun r => 32 * nr ≤ r) f0 ∗ sem2 c) ⊢ (|={Set.univ}[frame]=> tailSt c (444 - nr) nr FIN f0 Z 0 : sProp 𝕄) := by
  rw [xs_congr c (P := fun r => 32 * nr ≤ r) (Q := fun r => 32 * (nr + 0) ≤ r ∧ r < 32 * (nr + (444 - nr))) (fun r hr => by constructor <;> intro h <;> omega)]
  unfold tailSt sem2
  iintro ⟨Hz, Hx, Hv⟩
  imod (Transfers.batch_alloc' (EC (F := F)) (c := (c : Thread nD τ)) (sm := .dma (cellS 2)) () (32 * NU) (DT c (444 - nr) nr FIN Z) (E := Set.univ)) $$ Hv with HB
  imodintro
  isplitl [Hz]; · iexact Hz
  isplitl [Hx]; · iexact Hx
  iexact HB

theorem tail_turn (c : Dev nD) (m nr : ℕ) (FIN f0 : Buf (Elt F) (xsL c)) (Z : Elt F .bf16) :
    iprop(tailSt c m nr FIN f0 Z m ∗ owe c) ⊢ (iprop(waitTl c m (DT c m nr FIN Z) 0 ∗ zbAt c zbM.view.set (Transfers.shareDrop fullShare m) (fun _ => Z)) : sProp 𝕄) := by
  unfold tailSt waitTl owe
  rw [Nat.zero_mul]
  iintro ⟨⟨Hz, -, HB⟩, HO⟩
  isplitr [Hz]
  · isplitl [HB]; · iexact HB
    iexact HO
  iexact Hz

theorem tail_close (c : Dev nD) (nr : ℕ) (hn : nr ≤ 444) (FIN : Buf (Elt F) (xsL c)) (Z : Elt F .bf16) :
    iprop(waitTl c (444 - nr) (DT c (444 - nr) nr FIN Z) (444 - nr) ∗ zbAt c zbM.view.set (Transfers.shareDrop fullShare (444 - nr)) (fun _ => Z))
      ⊢ (|={Set.univ}[frame]=> iprop(zbAny c ∗ xsAt c (fun r => 32 * nr ≤ r) FIN ∗ sem2 c ∗ owe c) : sProp 𝕄) := by
  have e : bigSep (Finset.univ : Finset (Fin (444 - nr))) (DT c (444 - nr) nr FIN Z) ⊢ (iprop(xsAt c (fun r => 32 * nr ≤ r) FIN ∗ bigSep (Finset.univ : Finset (Fin (444 - nr))) fun j => zbAt c zbM.view.set (Transfers.shareTokN fullShare j.val) (fun _ => Z)) : sProp 𝕄) := by
    rw [xs_congr c (P := fun r => 32 * nr ≤ r) (Q := fun r => 32 * nr ≤ r ∧ r < 32 * (nr + (444 - nr))) (fun r hr => by constructor <;> intro h <;> omega), xs_blocks]
    exact eoe (bigSep_sep _ _ _)
  have ez := zb_toks (F := F) c zbM.view.set (fun _ => Z) (444 - nr)
  unfold waitTl sem2 owe zbAny
  rw [Nat.mul_comm (444 - nr) (32 * NU)]
  iintro ⟨⟨HB, HO⟩, Hd⟩
  imod (Transfers.batch_collect' (EC (F := F)) (c := (c : Thread nD τ)) (sm := .dma (cellS 2)) (ι := ()) (N := 32 * NU) (n := 444 - nr) (by decide) (D := DT c (444 - nr) nr FIN Z)) $$ HB with ⟨HD, Hv⟩
  imodintro
  ihave HD := e $$ HD
  icases HD with ⟨Hx, Ht⟩
  isplitl [Hd Ht]
  · iexists _
    iapply ez
    isplitl [Hd]; · iexact Hd
    iexact Ht
  isplitl [Hx]; · iexact Hx
  isplitl [Hv]; · iexact Hv
  iexact HO

end Cert.Proof.Send

end
-- ==== Proof.Sample.lean ====
/- The sample tile’s stages. -/
module

public import proofs.«01_k».proof.Proof.Zeros

@[expose] public section

noncomputable section

namespace Cert.Proof.Send

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UC sig nD τ) ℕ

variable (a1 : Memref sig .tc .smem S64 .i32) (h1 : a1.IsWhole) (a2 : Memref sig .tc .smem S1 .i32) (h2 : a2.IsWhole) (a3 : Memref sig .tc .smem S64 .i32) (h3 : a3.IsWhole) (a4 : Memref sig .tc .smem S64 .i32) (h4 : a4.IsWhole) (a5 : Memref sig .tc .smem S1 .i32) (h5 : a5.IsWhole) (a6 : Memref sig .tc .smem S1x1x256 .i32) (h6 : a6.IsWhole) (a7 : Memref sig .tc .smem S1x1x128 .i32) (h7 : a7.IsWhole) (a8 : Memref sig .tc .vmem S8x256 .i32) (h8 : a8.IsWhole) (a9 : Memref sig .tc .vmem S256x1024 .bf16) (h9 : a9.IsWhole) (a10 : Memref sig .tc .vmem S8x128 .i32) (h10 : a10.IsWhole) (a11 : Memref sig .tc .vmem S128x1024 .bf16) (h11 : a11.IsWhole)

theorem wp_part18 (c : Dev nD) (i : grid0.Coords) (hc : k0_cond5 i = 1#1) (n : ℕ) (hn : n ≤ 128) (X2 : S1.Idx → Elt F .i32) (X10 : Vec F S8x128 .i32) (X11 : Vec F S128x1024 .bf16) (hX : X2 (ix1 (0 : Fin 1)) = BitVec.ofNat 32 (16 * n))
    {α : Type} {kk : (Σ' (v10 : Elt F .i32) (k0_hw21 : k0_chk21 i v10), FVec F S512x1024 .bf16) → Prog (TpuEff nD τ sig (Elt F) Λ₀ .tc) α} {Q : α → sProp 𝕄} :
    iprop(OW c a2 X2 ∗ OW c a10 X10 ∗ OW c a11 X11) ⊢ iprop((iprop(OW c a2 X2 ∗ OW c a10 X10 ∗ OW c a11 X11) -∗ WP c (kk ⟨BitVec.ofNat 32 (16 * n), chk21_of i n hn, k0_pay20 X10 X11⟩) Q) -∗ WP c (k0_part18 (F := F) i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 >>= kk) Q) := by
  rw [k0_part18_eq_skeleton]
  unfold k0_part18_skel
  simp only [bind_assoc, pure_bind]
  iintro ⟨H1, H8, H9⟩ Hk
  iapply (wp_word1 c (m := a2) X2 0 (by omega) rfl _ hX) $$ H1
  iintro H1
  iapply (wp_assume 𝒱₀ (c : Thread nD τ) none Set.univ (chk21_of i n hn))
  iapply (wp_loadW c X10) $$ H8
  iintro H8
  iapply (wp_loadW c X11) $$ H9
  iintro H9
  iapply Hk
  isplitl [H1]; · iexact H1
  isplitl [H8]; · iexact H8
  iexact H9
theorem wp_part19 (c : Dev nD) (i : grid0.Coords) (hc : k0_cond5 i = 1#1) (s : Fin 2) (hs : (i 0).val % 2 = s.val) (X10 : Vec F S8x128 .i32) (X11 : Vec F S128x1024 .bf16) (v0 : BitVec 32)
    {α : Type} {kk : FVec F S512x128 .bf16 → Prog (TpuEff nD τ sig (Elt F) Λ₀ .tc) α} {Q : α → sProp 𝕄} :
    iprop(slotAt c s 0 (rowS X10 X11) ∗ OW c a10 X10) ⊢ iprop((iprop(slotAt c s 512 (rowS X10 X11) ∗ OW c a10 X10) -∗ WP c (kk (k0_pay22 X10)) Q) -∗ WP c (k0_part19 (F := F) i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 v0 hc (k0_pay20 X10 X11) >>= kk) Q) := by
  rw [k0_part19_eq_skeleton]
  unfold k0_part19_skel
  simp only [bind_assoc, pure_bind]
  iintro ⟨HS, H8⟩ Hk
  iapply (wp_chunkLd c s 0 (rowS X10 X11) 0 ((off89_eq i).trans (by rw [hs]) : k0_off89 i = ![s.val, 512 * 0, 0])) $$ HS
  iintro %v HS
  iapply (wp_chunkSt c s 0 (rowS X10 X11) ((off89_eq i).trans (by rw [hs]) : k0_off89 i = ![s.val, 512 * 0, 0]) _ (cast_rowS X10 X11 0 _ (pay_s0 X10 X11))) $$ HS
  iintro HS
  iapply (wp_loadW c X10) $$ H8
  iintro H8
  iapply Hk
  isplitl [HS]; · iexact HS
  iexact H8
set_option maxRecDepth 65536 in
set_option maxHeartbeats 2000000 in
theorem wp_part20 (c : Dev nD) (i : grid0.Coords) (hc : k0_cond5 i = 1#1) (n m : ℕ) (hm : m ≤ 192) (hn1 : n ≤ 128) (hw : k0_chk21 i (BitVec.ofNat 32 (16 * n))) (s : Fin 2) (hs : (i 0).val % 2 = s.val) (X10 : Vec F S8x128 .i32) (X11 : Vec F S128x1024 .bf16) (v0 : BitVec 32) (X1 : S64.Idx → Elt F .i32) (hX1 : X1 (ix1 (⟨63, by omega⟩ : Fin 64)) = BitVec.ofNat 32 (16 * m)) {X7} {G : ℕ → ℕ} {FIN f0 : Buf (Elt F) (xsL c)} (K : TileOK c 128 X7 n G FIN (rowS X10 X11))
    {α : Type} {kk : (Σ' (v141 : Elt F .i32) (k0_hw40 : k0_chk40 i v141) (v142 : BitVec 32), BitVec 32) → Prog (TpuEff nD τ sig (Elt F) Λ₀ .tc) α} {Q : α → sProp 𝕄} :
    iprop(slotAt c s 512 (rowS X10 X11) ∗ OW c a10 X10 ∗ OW c a11 X11 ∗ OW c a7 X7 ∗ xsAt c (fun r => ∃ j, j < n ∧ r = G j) f0 ∗ semVal ((c : Thread nD τ), SemLoc.dma (cellS (cl s))) 0 ∗ OW c a1 X1) ⊢ iprop((iprop(OW c a7 X7 ∗ inFl c s n G FIN ∗ OW c a10 X10 ∗ OW c a11 X11 ∗ OW c a1 X1) -∗ WP c (kk ⟨BitVec.ofNat 32 (16 * m), chk40_of i m hm, Scalar.shrui (BitVec.ofNat 32 (16 * m)) 4#32, 3#32⟩) Q) -∗ WP c (k0_part20 (F := F) i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 v0 hc (BitVec.ofNat 32 (16 * n)) hw (k0_pay22 X10) >>= kk) Q) := by
  rw [k0_part20_eq_skeleton]
  unfold k0_part20_skel
  have hn := K.hn
  have e3 := cast_rowS (F := F) X10 X11 1 _ (pay_s1 X10 X11)
  have e4 := cast_rowS (F := F) X10 X11 2 _ (pay_s2 X10 X11)
  have e5 := cast_rowS (F := F) X10 X11 3 _ (pay_s3 X10 X11)
  have o3 := ((off90_eq i).trans (by rw [hs]) : k0_off90 i = ![s.val, 512 * 1, 0])
  have o4 := ((off91_eq i).trans (by rw [hs]) : k0_off91 i = ![s.val, 512 * 2, 0])
  have o5 := ((off92_eq i).trans (by rw [hs]) : k0_off92 i = ![s.val, 512 * 3, 0])
  iintro ⟨HS, H8, H9, H6, Hx, Hv, H1⟩ Hk
  by_cases c4 : 1024 < 16 * n <;> by_cases c5 : 1536 < 16 * n <;>
    simp only [gt1024_iff n hn, gt1536_iff n hn, c4, c5, if_true, if_false, ↓reduceIte, bind_assoc, pure_bind, k0_part12_eq_skeleton, k0_part13_eq_skeleton, k0_part12_skel, k0_part13_skel]
  · iapply (wp_loadW c X11) $$ H9
    iintro H9
    iapply (wp_chunkLd c s 512 (rowS X10 X11) 1 o3) $$ HS
    iintro %v HS
    iapply (wp_chunkSt c s 1 (rowS X10 X11) o3 _ e3) $$ HS
    iintro HS
    iapply (wp_loadW c X10) $$ H8
    iintro H8
    iapply (wp_loadW c X11) $$ H9
    iintro H9
    iapply (wp_chunkLd c s 1024 (rowS X10 X11) 2 o4) $$ HS
    iintro %v HS
    iapply (wp_chunkSt c s 2 (rowS X10 X11) o4 _ e4) $$ HS
    iintro HS
    iapply (wp_loadW c X10) $$ H8
    iintro H8
    iapply (wp_loadW c X11) $$ H9
    iintro H9
    iapply (wp_chunkLd c s 1536 (rowS X10 X11) 3 o5) $$ HS
    iintro %v HS
    iapply (wp_chunkSt c s 3 (rowS X10 X11) o5 _ e5) $$ HS
    iintro HS
    ihave HS := (slot_mono c s (n := 16 * n) (by omega) (rowS X10 X11)) $$ HS
    iapply (wp_loops9 a1 h1 a2 h2 a3 h3 a4 h4 a5 h5 a6 h6 a7 h7 a8 h8 a9 h9 a10 h10 a11 h11 c i hc n hn hw v0 _ _ K s hs) $$ [H6 HS Hx Hv]
    · isplitl [H6]; · iexact H6
      isplitl [HS]; · iexact HS
      isplitl [Hx]; · iexact Hx
      iexact Hv
    iintro ⟨H6, HI⟩
    iapply (wp_word1 c (m := a1) X1 63 (by omega) rfl _ hX1) $$ H1
    iintro H1
    iapply (wp_assume 𝒱₀ (c : Thread nD τ) none Set.univ (chk40_of i m hm))
    iapply Hk
    isplitl [H6]; · iexact H6
    isplitl [HI]; · iexact HI
    isplitl [H8]; · iexact H8
    isplitl [H9]; · iexact H9
    iexact H1
  · iapply (wp_loadW c X11) $$ H9
    iintro H9
    iapply (wp_chunkLd c s 512 (rowS X10 X11) 1 o3) $$ HS
    iintro %v HS
    iapply (wp_chunkSt c s 1 (rowS X10 X11) o3 _ e3) $$ HS
    iintro HS
    iapply (wp_loadW c X10) $$ H8
    iintro H8
    iapply (wp_loadW c X11) $$ H9
    iintro H9
    iapply (wp_chunkLd c s 1024 (rowS X10 X11) 2 o4) $$ HS
    iintro %v HS
    iapply (wp_chunkSt c s 2 (rowS X10 X11) o4 _ e4) $$ HS
    iintro HS
    ihave HS := (slot_mono c s (n := 16 * n) (by omega) (rowS X10 X11)) $$ HS
    iapply (wp_loops9 a1 h1 a2 h2 a3 h3 a4 h4 a5 h5 a6 h6 a7 h7 a8 h8 a9 h9 a10 h10 a11 h11 c i hc n hn hw v0 _ _ K s hs) $$ [H6 HS Hx Hv]
    · isplitl [H6]; · iexact H6
      isplitl [HS]; · iexact HS
      isplitl [Hx]; · iexact Hx
      iexact Hv
    iintro ⟨H6, HI⟩
    iapply (wp_word1 c (m := a1) X1 63 (by omega) rfl _ hX1) $$ H1
    iintro H1
    iapply (wp_assume 𝒱₀ (c : Thread nD τ) none Set.univ (chk40_of i m hm))
    iapply Hk
    isplitl [H6]; · iexact H6
    isplitl [HI]; · iexact HI
    isplitl [H8]; · iexact H8
    isplitl [H9]; · iexact H9
    iexact H1
  · exfalso; omega
  · iapply (wp_loadW c X11) $$ H9
    iintro H9
    iapply (wp_chunkLd c s 512 (rowS X10 X11) 1 o3) $$ HS
    iintro %v HS
    iapply (wp_chunkSt c s 1 (rowS X10 X11) o3 _ e3) $$ HS
    iintro HS
    ihave HS := (slot_mono c s (n := 16 * n) (by omega) (rowS X10 X11)) $$ HS
    iapply (wp_loops9 a1 h1 a2 h2 a3 h3 a4 h4 a5 h5 a6 h6 a7 h7 a8 h8 a9 h9 a10 h10 a11 h11 c i hc n hn hw v0 _ _ K s hs) $$ [H6 HS Hx Hv]
    · isplitl [H6]; · iexact H6
      isplitl [HS]; · iexact HS
      isplitl [Hx]; · iexact Hx
      iexact Hv
    iintro ⟨H6, HI⟩
    iapply (wp_word1 c (m := a1) X1 63 (by omega) rfl _ hX1) $$ H1
    iintro H1
    iapply (wp_assume 𝒱₀ (c : Thread nD τ) none Set.univ (chk40_of i m hm))
    iapply Hk
    isplitl [H6]; · iexact H6
    isplitl [HI]; · iexact HI
    isplitl [H8]; · iexact H8
    isplitl [H9]; · iexact H9
    iexact H1
theorem wp_part21 (c : Dev nD) (i : grid0.Coords) (hc : k0_cond5 i = 1#1) (n m : ℕ) (hm : m ≤ 192) (hn : n ≤ 192) (hw40 : k0_chk40 i (BitVec.ofNat 32 (16 * m))) (v142 c3 : BitVec 32) (X2 : S1.Idx → Elt F .i32) (hX2 : X2 (ix1 (0 : Fin 1)) = BitVec.ofNat 32 (16 * n)) {G H : ℕ → ℕ} {FIN : Buf (Elt F) (xsL c)} (hG : ∀ j, j < m → G j < 14208) (hi : ∀ j j', j < m → j' < m → G j = G j' → j = j') (hH : ∀ j, j < n → H j < 14208) (hj : ∀ j j', j < n → j' < n → H j = H j' → j = j') (s s2 : Fin 2) (hs : 1 - (i 0).val % 2 = s.val) (hs2 : (i 0).val % 2 = s2.val)
    {α : Type} {kk : FVec F S512x1024 .bf16 → Prog (TpuEff nD τ sig (Elt F) Λ₀ .tc) α} {Q : α → sProp 𝕄} :
    iprop(inFl c s m G FIN ∗ inFl c s2 n H FIN ∗ owe c ∗ OW c a2 X2) ⊢ iprop((iprop(free c s ∗ xsAt c (fun r => ∃ j, j < m ∧ r = G j) FIN ∗ free c s2 ∗ xsAt c (fun r => ∃ j, j < n ∧ r = H j) FIN ∗ owe c ∗ OW c a2 X2) -∗ WP c (kk (k0_pay26 (F := F))) Q) -∗ WP c (k0_part21 (F := F) i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2 hc (BitVec.ofNat 32 (16 * m)) hw40 v142 c3 >>= kk) Q) := by
  rw [k0_part21_eq_skeleton]
  unfold k0_part21_skel
  simp only [bind_assoc, pure_bind]
  iintro ⟨HA, HB, HO, H2⟩ Hk
  iapply (wp_drain13 a1 h1 a2 h2 a3 h3 a4 h4 a5 h5 a6 h6 a7 h7 a8 h8 a9 h9 a10 h10 a11 h11 c i hc m hm hw40 v142 c3 hG hi s hs) $$ [HA HO]
  · isplitl [HA]; · iexact HA
    iexact HO
  iintro ⟨HA, HX, HO⟩
  iapply (wp_word1 c (m := a2) X2 0 (by omega) rfl _ hX2) $$ H2
  iintro H2
  iapply (wp_assume 𝒱₀ (c : Thread nD τ) none Set.univ (chk41_of i n hn))
  iapply (wp_drain17 a1 h1 a2 h2 a3 h3 a4 h4 a5 h5 a6 h6 a7 h7 a8 h8 a9 h9 a10 h10 a11 h11 c i hc n hn (chk41_of i n hn) _ hw40 v142 c3 hH hj s2 hs2) $$ [HB HO]
  · isplitl [HB]; · iexact HB
    iexact HO
  iintro ⟨HB, HY, HO⟩
  iapply Hk
  isplitl [HA]; · iexact HA
  isplitl [HX]; · iexact HX
  isplitl [HB]; · iexact HB
  isplitl [HY]; · iexact HY
  isplitl [HO]; · iexact HO
  iexact H2

end Cert.Proof.Send

end
-- ==== Proof.Stages.lean ====
/- The stages of a grid point, each as a triple. -/
module

public import proofs.«01_k».proof.Proof.Sample

@[expose] public section

noncomputable section

namespace Cert.Proof.Send

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UC sig nD τ) ℕ

variable (a1 : Memref sig .tc .smem S64 .i32) (h1 : a1.IsWhole) (a2 : Memref sig .tc .smem S1 .i32) (h2 : a2.IsWhole) (a3 : Memref sig .tc .smem S64 .i32) (h3 : a3.IsWhole) (a4 : Memref sig .tc .smem S64 .i32) (h4 : a4.IsWhole) (a5 : Memref sig .tc .smem S1 .i32) (h5 : a5.IsWhole) (a6 : Memref sig .tc .smem S1x1x256 .i32) (h6 : a6.IsWhole) (a7 : Memref sig .tc .smem S1x1x128 .i32) (h7 : a7.IsWhole) (a8 : Memref sig .tc .vmem S8x256 .i32) (h8 : a8.IsWhole) (a9 : Memref sig .tc .vmem S256x1024 .bf16) (h9 : a9.IsWhole) (a10 : Memref sig .tc .vmem S8x128 .i32) (h10 : a10.IsWhole) (a11 : Memref sig .tc .vmem S128x1024 .bf16) (h11 : a11.IsWhole)

theorem wp_skip1 (c : Dev nD) (i : grid0.Coords) (hc : ¬ k0_cond1 i = 1#1) {α : Type} {kk : PUnit → Prog (TpuEff nD τ sig (Elt F) Λ₀ .tc) α} {Q : α → sProp 𝕄} :
    WP c (kk ⟨⟩) Q ⊢ WP c (blk1 (F := F) a1 h1 a2 h2 a3 h3 a4 h4 a5 h5 a6 h6 a7 h7 a8 h8 a9 h9 a10 h10 a11 h11 i >>= kk) Q := by
  unfold blk1
  rw [dif_neg hc, pure_bind]
theorem wp_skip2 (c : Dev nD) (i : grid0.Coords) (hc : ¬ k0_cond2 i = 1#1) {α : Type} {kk : PUnit → Prog (TpuEff nD τ sig (Elt F) Λ₀ .tc) α} {Q : α → sProp 𝕄} :
    WP c (kk ⟨⟩) Q ⊢ WP c (blk2 (F := F) a1 h1 a2 h2 a3 h3 a4 h4 a5 h5 a6 h6 a7 h7 a8 h8 a9 h9 a10 h10 a11 h11 i >>= kk) Q := by
  unfold blk2
  rw [dif_neg hc, pure_bind]
theorem wp_skip5 (c : Dev nD) (i : grid0.Coords) (hc : ¬ k0_cond5 i = 1#1) {α : Type} {kk : PUnit → Prog (TpuEff nD τ sig (Elt F) Λ₀ .tc) α} {Q : α → sProp 𝕄} :
    WP c (kk ⟨⟩) Q ⊢ WP c (blk5 (F := F) a1 h1 a2 h2 a3 h3 a4 h4 a5 h5 a6 h6 a7 h7 a8 h8 a9 h9 a10 h10 a11 h11 i >>= kk) Q := by
  unfold blk5
  rw [dif_neg hc, pure_bind]
theorem wp_blk1 (c : Dev nD) (i : grid0.Coords) (hc : k0_cond1 i = 1#1) (n : ℕ) (hn : n ≤ 192) (X1 : S64.Idx → Elt F .i32) (hX : X1 (ix1 (⟨(i 0).val - 2, by have := w_lt i; omega⟩ : Fin 64)) = BitVec.ofNat 32 (16 * n)) {G : ℕ → ℕ} {FIN : Buf (Elt F) (xsL c)} (hG : ∀ j, j < n → G j < 14208) (hi : ∀ j j', j < n → j' < n → G j = G j' → j = j') (s : Fin 2) (hs : (i 0).val % 2 = s.val)
    {α : Type} {kk : PUnit → Prog (TpuEff nD τ sig (Elt F) Λ₀ .tc) α} {Q : α → sProp 𝕄} :
    iprop(OW c a1 X1 ∗ inFl c s n G FIN ∗ owe c) ⊢ iprop((iprop(OW c a1 X1 ∗ free c s ∗ xsAt c (fun r => ∃ j, j < n ∧ r = G j) FIN ∗ owe c) -∗ WP c (kk ⟨⟩) Q) -∗ WP c (blk1 (F := F) a1 h1 a2 h2 a3 h3 a4 h4 a5 h5 a6 h6 a7 h7 a8 h8 a9 h9 a10 h10 a11 h11 i >>= kk) Q) := by
  unfold blk1
  rw [dif_pos hc]
  simp only [bind_assoc, pure_bind]
  iintro ⟨H1, HA, HO⟩ Hk
  iapply (wp_word1 c (m := a1) X1 _ _ (off1_eq i ((cond1_iff i).1 hc)) _ hX) $$ H1
  iintro H1
  iapply (wp_assume 𝒱₀ (c : Thread nD τ) none Set.univ (chk1_of i n hn))
  iapply (wp_drain1 a1 h1 a2 h2 a3 h3 a4 h4 a5 h5 a6 h6 a7 h7 a8 h8 a9 h9 a10 h10 a11 h11 c i hc n hn (chk1_of i n hn) hG hi s hs) $$ [HA HO]
  · isplitl [HA]; · iexact HA
    iexact HO
  iintro ⟨HA, HX, HO⟩
  iapply Hk
  isplitl [H1]; · iexact H1
  isplitl [HA]; · iexact HA
  isplitl [HX]; · iexact HX
  iexact HO
theorem wp_blk2 (c : Dev nD) (i : grid0.Coords) (hc : k0_cond2 i = 1#1) (n : ℕ) (s : Fin 2) (hs : (i 0).val % 2 = s.val) (X1 : S64.Idx → Elt F .i32) (X8 : Vec F S8x256 .i32) (X9 : Vec F S256x1024 .bf16) (hX : X1 (ix1 (⟨(i 0).val, (cond2_iff i).1 hc⟩ : Fin 64)) = BitVec.ofNat 32 (16 * n)) {X6} {G : ℕ → ℕ} {FIN f0 : Buf (Elt F) (xsL c)} (K : TileOK c 256 X6 n G FIN (rowP X8 X9))
    {α : Type} {kk : PUnit → Prog (TpuEff nD τ sig (Elt F) Λ₀ .tc) α} {Q : α → sProp 𝕄} :
    iprop(OW c a1 X1 ∗ OW c a8 X8 ∗ OW c a9 X9 ∗ OW c a6 X6 ∗ free c s ∗ xsAt c (fun r => ∃ j, j < n ∧ r = G j) f0) ⊢ iprop((iprop(OW c a1 X1 ∗ OW c a8 X8 ∗ OW c a9 X9 ∗ OW c a6 X6 ∗ inFl c s n G FIN) -∗ WP c (kk ⟨⟩) Q) -∗ WP c (blk2 (F := F) a1 h1 a2 h2 a3 h3 a4 h4 a5 h5 a6 h6 a7 h7 a8 h8 a9 h9 a10 h10 a11 h11 i >>= kk) Q) := by
  unfold blk2
  rw [dif_pos hc]
  simp only [bind_assoc, pure_bind]
  iintro ⟨H1, H8, H9, H6, HF, Hx⟩ Hk
  ihave HF := (free_slot (F := F) c s (rowP X8 X9)) $$ HF
  icases HF with ⟨Hv, HS⟩
  iapply (wp_part7 a1 h1 a2 h2 a3 h3 a4 h4 a5 h5 a6 h6 a7 h7 a8 h8 a9 h9 a10 h10 a11 h11 c i hc n K.hn X1 X8 X9 hX) $$ [H1 H8 H9]
  · isplitl [H1]; · iexact H1
    isplitl [H8]; · iexact H8
    iexact H9
  iintro ⟨H1, H8, H9⟩
  dsimp only
  iapply (wp_part8 a1 h1 a2 h2 a3 h3 a4 h4 a5 h5 a6 h6 a7 h7 a8 h8 a9 h9 a10 h10 a11 h11 c i hc s hs X8 X9 _) $$ [HS H8]
  · isplitl [HS]; · iexact HS
    iexact H8
  iintro ⟨HS, H8⟩
  iapply (wp_part9 a1 h1 a2 h2 a3 h3 a4 h4 a5 h5 a6 h6 a7 h7 a8 h8 a9 h9 a10 h10 a11 h11 c i hc s hs X8 X9 _) $$ [HS H8 H9]
  · isplitl [HS]; · iexact HS
    isplitl [H8]; · iexact H8
    iexact H9
  iintro ⟨HS, H8, H9⟩
  iapply (wp_part10 a1 h1 a2 h2 a3 h3 a4 h4 a5 h5 a6 h6 a7 h7 a8 h8 a9 h9 a10 h10 a11 h11 c i hc s hs X8 X9 _) $$ [HS H8 H9]
  · isplitl [HS]; · iexact HS
    isplitl [H8]; · iexact H8
    iexact H9
  iintro ⟨HS, H8, H9⟩
  dsimp only
  iapply (wp_part11 a1 h1 a2 h2 a3 h3 a4 h4 a5 h5 a6 h6 a7 h7 a8 h8 a9 h9 a10 h10 a11 h11 c i hc n (chk2_of i n K.hn) s hs X8 X9 _ K) $$ [HS H8 H9 H6 Hx Hv]
  · isplitl [HS]; · iexact HS
    isplitl [H8]; · iexact H8
    isplitl [H9]; · iexact H9
    isplitl [H6]; · iexact H6
    isplitl [Hx]; · iexact Hx
    iexact Hv
  iintro ⟨H6, HI, H8, H9⟩
  iapply Hk
  isplitl [H1]; · iexact H1
  isplitl [H8]; · iexact H8
  isplitl [H9]; · iexact H9
  isplitl [H6]; · iexact H6
  iexact HI
/-- The value the zero rows hold. -/
def ZV : Elt F .bf16 := FloatOps.ofBits .bf16 0x0000#16
theorem pay1_zero (x : S512x1024.Idx) : k0_pay1 (F := F) k0_pay26 x = ZV := rfl

set_option maxHeartbeats 4000000 in
theorem wp_blk5 (c : Dev nD) (i : grid0.Coords) (hc : k0_cond5 i = 1#1) (s0 s1 : Fin 2) (hs0 : (i 0).val % 2 = s0.val) (hs1 : 1 - (i 0).val % 2 = s1.val) (m n T nr : ℕ) (hm : m ≤ 192) (hn : n ≤ 128) (hnr : nr ≤ 444)
    (X1 : S64.Idx → Elt F .i32) (hX1 : X1 (ix1 (⟨63, by omega⟩ : Fin 64)) = BitVec.ofNat 32 (16 * m))
    (X2 : S1.Idx → Elt F .i32) (hX2 : X2 (ix1 (0 : Fin 1)) = BitVec.ofNat 32 (16 * n)) (X5 : S1.Idx → Elt F .i32) (hX5 : X5 (ix1 (0 : Fin 1)) = BitVec.ofNat 32 nr)
    (X10 : Vec F S8x128 .i32) (X11 : Vec F S128x1024 .bf16) {X7} {G H FG kf fe KK : ℕ → ℕ} {A3 A4 : S64.Idx → Elt F .i32} {FIN f0 : Buf (Elt F) (xsL c)}
    (hG : ∀ j, j < m → G j < 14208) (hi : ∀ j j', j < m → j' < m → G j = G j' → j = j') (K : TileOK c 128 X7 n H FIN (rowS X10 X11))
    (hF : ∀ j, j < T → FG j < 14208) (hFi : ∀ j j', j < T → j' < T → FG j = FG j' → j = j') (FO : FillOK c A3 A4 T FG kf fe KK ZV FIN)
    (hval : ∀ y : S227328x1024.Idx, 32 * nr ≤ (y 0).val / 16 → FIN y = ZV)
    {α : Type} {kk : PUnit → Prog (TpuEff nD τ sig (Elt F) Λ₀ .tc) α} {Q : α → sProp 𝕄} :
    iprop(OW c a1 X1 ∗ OW c a2 X2 ∗ OW c a3 A3 ∗ OW c a4 A4 ∗ OW c a5 X5 ∗ OW c a7 X7 ∗ OW c a10 X10 ∗ OW c a11 X11 ∗ free c s0 ∗ inFl c s1 m G FIN ∗ xsAt c (fun r => ∃ j, j < n ∧ r = H j) f0 ∗ xsAt c (fun r => ∃ j, j < T ∧ r = FG j) f0 ∗ xsAt c (fun r => 32 * nr ≤ r) f0 ∗ sem2 c ∗ zbAny c ∗ owe c) ⊢ iprop((iprop(OW c a1 X1 ∗ OW c a2 X2 ∗ OW c a3 A3 ∗ OW c a4 A4 ∗ OW c a5 X5 ∗ OW c a7 X7 ∗ OW c a10 X10 ∗ OW c a11 X11 ∗ free c s0 ∗ free c s1 ∗ xsAt c (fun r => ∃ j, j < m ∧ r = G j) FIN ∗ xsAt c (fun r => ∃ j, j < n ∧ r = H j) FIN ∗ xsAt c (fun r => ∃ j, j < T ∧ r = FG j) FIN ∗ xsAt c (fun r => 32 * nr ≤ r) FIN ∗ sem2 c ∗ zbAny c ∗ owe c) -∗ WP c (kk ⟨⟩) Q) -∗ WP c (blk5 (F := F) a1 h1 a2 h2 a3 h3 a4 h4 a5 h5 a6 h6 a7 h7 a8 h8 a9 h9 a10 h10 a11 h11 i >>= kk) Q) := by
  have hfo := fill_open (F := F) c T FG FIN f0 ZV
  have hft := fill_turn (F := F) c T FG FIN f0 ZV
  have hfc := fill_close (F := F) c T FG hF hFi FIN ZV
  have hto := tail_open (F := F) c nr hnr FIN f0 ZV
  have htt := tail_turn (F := F) c (444 - nr) nr FIN f0 ZV
  have htc := tail_close (F := F) c nr hnr FIN ZV
  unfold blk5
  rw [dif_pos hc]
  simp only [bind_assoc, pure_bind]
  iintro ⟨H1, H2, H3, H4, H5, H7, H10, H11, HF, HI, Hxs, Hxf, Hxt, Hs2, Hz, HO⟩ Hk
  ihave HF := (free_slot (F := F) c s0 (rowS X10 X11)) $$ HF
  icases HF with ⟨Hv, HS⟩
  iapply (wp_part18 a1 h1 a2 h2 a3 h3 a4 h4 a5 h5 a6 h6 a7 h7 a8 h8 a9 h9 a10 h10 a11 h11 c i hc n hn X2 X10 X11 hX2) $$ [H2 H10 H11]
  · isplitl [H2]; · iexact H2
    isplitl [H10]; · iexact H10
    iexact H11
  iintro ⟨H2, H10, H11⟩
  dsimp only
  iapply (wp_part19 a1 h1 a2 h2 a3 h3 a4 h4 a5 h5 a6 h6 a7 h7 a8 h8 a9 h9 a10 h10 a11 h11 c i hc s0 hs0 X10 X11 _) $$ [HS H10]
  · isplitl [HS]; · iexact HS
    iexact H10
  iintro ⟨HS, H10⟩
  iapply (wp_part20 a1 h1 a2 h2 a3 h3 a4 h4 a5 h5 a6 h6 a7 h7 a8 h8 a9 h9 a10 h10 a11 h11 c i hc n m hm hn (chk21_of i n hn) s0 hs0 X10 X11 _ X1 hX1 K) $$ [HS H10 H11 H7 Hxs Hv H1]
  · isplitl [HS]; · iexact HS
    isplitl [H10]; · iexact H10
    isplitl [H11]; · iexact H11
    isplitl [H7]; · iexact H7
    isplitl [Hxs]; · iexact Hxs
    isplitl [Hv]; · iexact Hv
    iexact H1
  iintro ⟨H7, HJ, H10, H11, H1⟩
  dsimp only
  iapply (wp_part21 a1 h1 a2 h2 a3 h3 a4 h4 a5 h5 a6 h6 a7 h7 a8 h8 a9 h9 a10 h10 a11 h11 c i hc n m hm K.hn (chk40_of i m hm) _ _ X2 hX2 hG hi K.hG K.hi s1 s0 hs1 hs0) $$ [HI HJ HO H2]
  · isplitl [HI]; · iexact HI
    isplitl [HJ]; · iexact HJ
    isplitl [HO]; · iexact HO
    iexact H2
  iintro ⟨HF1, HX, HF0, HY, HO, H2⟩
  iapply (wp_zbLd c) $$ Hz
  iintro %v Hz
  iapply (wp_zbSt c (k0_pay1 (F := F) k0_pay26) ZV pay1_zero) $$ Hz
  iintro Hz
  imod hfo $$ [Hz Hxf Hs2] with ⟨HB, Hr⟩
  · isplitl [Hz]; · iexact Hz
    isplitl [Hxf]; · iexact Hxf
    iexact Hs2
  iapply (wp_t21 a1 h1 a2 h2 a3 h3 a4 h4 a5 h5 a6 h6 a7 h7 a8 h8 a9 h9 a10 h10 a11 h11 c i hc FO) $$ [H4 H3 HB]
  · isplitl [H4]; · iexact H4
    isplitl [H3]; · iexact H3
    iexact HB
  iintro ⟨H4, H3, HB⟩
  iapply (wp_assume 𝒱₀ (c : Thread nD τ) none Set.univ (chk45_of i T FO.hT2))
  ihave HB := hft $$ [HB HO]
  · isplitl [HB]; · iexact HB
    iexact HO
  icases HB with ⟨HB, Hd⟩
  iapply (wp_t24 a1 h1 a2 h2 a3 h3 a4 h4 a5 h5 a6 h6 a7 h7 a8 h8 a9 h9 a10 h10 a11 h11 c i hc T FO.hT2 (chk45_of i T FO.hT2) (fe 0) FO.h0 (FO.hX3 0 (by omega))) $$ [H3 HB]
  · isplitl [H3]; · iexact H3
    iexact HB
  iintro ⟨H3, HB⟩
  iapply (wp_t25 a1 h1 a2 h2 a3 h3 a4 h4 a5 h5 a6 h6 a7 h7 a8 h8 a9 h9 a10 h10 a11 h11 c i hc T FO.hT2 (chk45_of i T FO.hT2))
  imod hfc $$ [HB Hd Hr] with ⟨Hz, Hxf, Hs2, HO⟩
  · isplitl [HB]; · iexact HB
    isplitl [Hd]; · iexact Hd
    iexact Hr
  iapply (wp_word1 c (m := a5) X5 0 (by omega) rfl _ hX5) $$ H5
  iintro H5
  iapply (wp_assume 𝒱₀ (c : Thread nD τ) none Set.univ (chk48_of i nr hnr hnr))
  imod hto $$ [Hz Hxt Hs2] with HB
  · isplitl [Hz]; · iexact Hz
    isplitl [Hxt]; · iexact Hxt
    iexact Hs2
  iapply (wp_t26 a1 h1 a2 h2 a3 h3 a4 h4 a5 h5 a6 h6 a7 h7 a8 h8 a9 h9 a10 h10 a11 h11 c i hc nr hnr (chk48_of i nr hnr hnr) hval) $$ HB
  iintro HB
  iapply (wp_t27 a1 h1 a2 h2 a3 h3 a4 h4 a5 h5 a6 h6 a7 h7 a8 h8 a9 h9 a10 h10 a11 h11 c i hc nr hnr (chk48_of i nr hnr hnr))
  ihave HB := htt $$ [HB HO]
  · isplitl [HB]; · iexact HB
    iexact HO
  icases HB with ⟨HB, Hd⟩
  iapply (wp_t28 a1 h1 a2 h2 a3 h3 a4 h4 a5 h5 a6 h6 a7 h7 a8 h8 a9 h9 a10 h10 a11 h11 c i hc nr hnr (chk48_of i nr hnr hnr)) $$ HB
  iintro HB
  iapply (wp_t29 a1 h1 a2 h2 a3 h3 a4 h4 a5 h5 a6 h6 a7 h7 a8 h8 a9 h9 a10 h10 a11 h11 c i hc nr hnr (chk48_of i nr hnr hnr))
  imod htc $$ [HB Hd] with ⟨Hz, Hxt, Hs2, HO⟩
  · isplitl [HB]; · iexact HB
    iexact Hd
  iapply Hk
  isplitl [H1]; · iexact H1
  isplitl [H2]; · iexact H2
  isplitl [H3]; · iexact H3
  isplitl [H4]; · iexact H4
  isplitl [H5]; · iexact H5
  isplitl [H7]; · iexact H7
  isplitl [H10]; · iexact H10
  isplitl [H11]; · iexact H11
  isplitl [HF0]; · iexact HF0
  isplitl [HF1]; · iexact HF1
  isplitl [HX]; · iexact HX
  isplitl [HY]; · iexact HY
  isplitl [Hxf]; · iexact Hxf
  isplitl [Hxt]; · iexact Hxt
  isplitl [Hs2]; · iexact Hs2
  isplitl [Hz]; · iexact Hz
  iexact HO

end Cert.Proof.Send

end
-- ==== Proof.Body.lean ====
/- What the routing words say of the rows, and one grid point as a step between the states before and after it. -/
module

public import proofs.«01_k».proof.Proof.Stages

@[expose] public section

noncomputable section

namespace Cert.Proof.Send

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UC sig nD τ) ℕ

/-- What the routing words say: which groups of sixteen rows each tile's rows go to, which ones are filled with
    zeros, and where the tail begins — every group exactly once. -/
structure Plan (CP A3 A4 : S64.Idx → BitVec 32) (CS A5 : S1.Idx → BitVec 32) (GP : S64x1x256.Idx → BitVec 32) (GS : S1x1x128.Idx → BitVec 32) where
  n : ℕ → ℕ
  G : ℕ → ℕ → ℕ
  ph : ℕ → ℕ
  jx : ℕ → ℕ
  T : ℕ
  nr : ℕ
  FG : ℕ → ℕ
  kf : ℕ → ℕ
  fe : ℕ → ℕ
  KK : ℕ → ℕ
  hn : ∀ p, n p ≤ 192
  hns : n 64 ≤ 128
  hnr : nr ≤ 444
  hCP : ∀ p (h : p < 64), CP (ix1 (⟨p, h⟩ : Fin 64)) = BitVec.ofNat 32 (16 * n p)
  hCS : CS (ix1 (0 : Fin 1)) = BitVec.ofNat 32 (16 * n 64)
  hA5 : A5 (ix1 (0 : Fin 1)) = BitVec.ofNat 32 nr
  hGP : ∀ p (h : p < 64) j (hj : j < 256), j < n p → GP (ix3 (⟨p, h⟩ : Fin 64) (0 : Fin 1) (⟨j, hj⟩ : Fin 256)) = BitVec.ofNat 32 (16 * G p j)
  hGS : ∀ j (hj : j < 128), j < n 64 → GS (ix3 (0 : Fin 1) (0 : Fin 1) (⟨j, hj⟩ : Fin 128)) = BitVec.ofNat 32 (16 * G 64 j)
  hG : ∀ p, p ≤ 64 → ∀ j, j < n p → G p j < 14208
  hi : ∀ p, p ≤ 64 → ∀ j j', j < n p → j' < n p → G p j = G p j' → j = j'
  hph : ∀ p, p ≤ 64 → ∀ j, j < n p → ph (G p j) = p
  hjx : ∀ r, r < 14208 → ph r ≤ 64 → jx r < n (ph r) ∧ G (ph r) (jx r) = r
  hle : ∀ r, r < 14208 → ph r ≤ 66
  hF : ∀ j, j < T → FG j < 14208
  hFi : ∀ j j', j < T → j' < T → FG j = FG j' → j = j'
  hphF : ∀ r, r < 14208 → (ph r = 65 ↔ ∃ j, j < T ∧ r = FG j)
  hphT : ∀ r, r < 14208 → (ph r = 66 ↔ 32 * nr ≤ r)
  hT2 : T ≤ 14208
  hk0 : KK 0 = 0
  hk : ∀ e, e < 64 → KK (e + 1) = KK e + kf e
  hT : KK 64 = T
  hKle : ∀ e, e < 64 → KK e + kf e ≤ T
  hfe : ∀ e, e < 64 → fe e + kf e ≤ 14208
  h0 : fe 0 < 14208
  hX3 : ∀ e (h : e < 64), A3 (ix1 (⟨e, h⟩ : Fin 64)) = BitVec.ofNat 32 (16 * fe e)
  hX4 : ∀ e (h : e < 64), A4 (ix1 (⟨e, h⟩ : Fin 64)) = BitVec.ofNat 32 (kf e)
  hFG : ∀ e, e < 64 → ∀ t, t < kf e → FG (KK e + t) = fe e + t

variable {CP A3 A4 : S64.Idx → BitVec 32} {CS A5 : S1.Idx → BitVec 32} {GP : S64x1x256.Idx → BitVec 32} {GS : S1x1x128.Idx → BitVec 32} (P : Plan CP A3 A4 CS A5 GP GS)

theorem Plan.mem {p r : ℕ} (hp : p ≤ 64) (hr : r < 14208) : (∃ j, j < P.n p ∧ r = P.G p j) ↔ P.ph r = p := by
  constructor
  · rintro ⟨j, hj, rfl⟩; exact P.hph p hp j hj
  · intro h
    obtain ⟨h1, h2⟩ := P.hjx r hr (by omega)
    rw [h] at h1 h2
    exact ⟨P.jx r, h1, h2.symm⟩

theorem wp_ret (c : Dev nD) {Q : PUnit → sProp 𝕄} : Q ⟨⟩ ⊢ WP c (pure ⟨⟩ : Prog (TpuEff nD τ sig (Elt F) Λ₀ .tc) PUnit) Q := by
  rw [show (WP c (pure ⟨⟩ : Prog (TpuEff nD τ sig (Elt F) Λ₀ .tc) PUnit) Q : sProp 𝕄) = iprop(|={Set.univ}[frame]=> Q ⟨⟩) from rfl]
  iintro H; imodintro; iexact H

/-- What the routed activations hold in the end. -/
def finX (row : ℕ → ℕ → Fin 1024 → Elt F .bf16) : S227328x1024.Idx → Elt F .bf16 := fun y =>
  if P.ph ((y 0).val / 16) ≤ 64 then row (P.ph ((y 0).val / 16)) (16 * P.jx ((y 0).val / 16) + (y 0).val % 16) (⟨(y 1).val, (y 1).isLt⟩ : Fin 1024) else ZV

theorem finX_tile (row : ℕ → ℕ → Fin 1024 → Elt F .bf16) {p : ℕ} (hp : p ≤ 64) (j : ℕ) (h : j < P.n p) (y : S227328x1024.Idx) (hy : (y 0).val / 16 = P.G p j) :
    finX P row y = row p (16 * j + (y 0).val % 16) (⟨(y 1).val, (y 1).isLt⟩ : Fin 1024) := by
  have hg := P.hG p hp j h
  have e1 := P.hph p hp j h
  obtain ⟨h1, h2⟩ := P.hjx (P.G p j) hg (by omega)
  have e2 : P.jx (P.G p j) = j := by rw [e1] at h1 h2; exact P.hi p hp _ _ h1 h h2
  unfold finX
  rw [hy, e1, e2, if_pos hp]
theorem finX_zero (row : ℕ → ℕ → Fin 1024 → Elt F .bf16) (y : S227328x1024.Idx) (h : 64 < P.ph ((y 0).val / 16)) : finX P row y = ZV := by
  unfold finX; rw [if_neg (by omega)]

/-- Slot and cell that tile `k - 2` uses: free before the first two tiles. -/
def Sl (c : Dev nD) (FIN : Buf (Elt F) (xsL c)) : ℕ → sProp 𝕄
  | 0 => free c 0
  | 1 => free c 1
  | p + 2 => inFl c (⟨p % 2, Nat.mod_lt _ (by decide)⟩ : Fin 2) (P.n p) (P.G p) FIN

theorem Sl_two (c : Dev nD) (FIN : Buf (Elt F) (xsL c)) (p : ℕ) : Sl P c FIN (p + 2) = inFl c (⟨p % 2, Nat.mod_lt _ (by decide)⟩ : Fin 2) (P.n p) (P.G p) FIN := rfl

/-- The state before point `t`. -/
def mid (c : Dev nD) (f0 FIN : Buf (Elt F) (xsL c)) (t : ℕ) : sProp 𝕄 :=
  iprop(Sl P c FIN t ∗ Sl P c FIN (t + 1) ∗ xsAt c (fun r => t ≤ P.ph r) f0 ∗ xsAt c (fun r => P.ph r + 2 < t) FIN ∗ sem2 c ∗ zbAny c)
/-- The state after the last point. -/
def fin (c : Dev nD) (FIN : Buf (Elt F) (xsL c)) : sProp 𝕄 :=
  iprop(free c 0 ∗ free c 1 ∗ xsAt c (fun _ => True) FIN ∗ sem2 c ∗ zbAny c)
/-- The state at `t`. -/
def stateAt (c : Dev nD) (f0 FIN : Buf (Elt F) (xsL c)) (t : ℕ) : sProp 𝕄 := if t ≤ 64 then mid P c f0 FIN t else fin c FIN

theorem xs_empty (c : Dev nD) {Q : ℕ → Prop} (h : ∀ r, r < 14208 → ¬ Q r) (f g : Buf (Elt F) (xsL c)) : xsAt c Q f ⊢ (xsAt c Q g : sProp 𝕄) :=
  eoe (xs_vals c fun y hy => absurd hy (h _ (by have : (y 0).val < 227328 := (y 0).isLt; omega)))

variable (a1 : Memref sig .tc .smem S64 .i32) (h1 : a1.IsWhole) (a2 : Memref sig .tc .smem S1 .i32) (h2 : a2.IsWhole) (a3 : Memref sig .tc .smem S64 .i32) (h3 : a3.IsWhole) (a4 : Memref sig .tc .smem S64 .i32) (h4 : a4.IsWhole) (a5 : Memref sig .tc .smem S1 .i32) (h5 : a5.IsWhole) (a6 : Memref sig .tc .smem S1x1x256 .i32) (h6 : a6.IsWhole) (a7 : Memref sig .tc .smem S1x1x128 .i32) (h7 : a7.IsWhole) (a8 : Memref sig .tc .vmem S8x256 .i32) (h8 : a8.IsWhole) (a9 : Memref sig .tc .vmem S256x1024 .bf16) (h9 : a9.IsWhole) (a10 : Memref sig .tc .vmem S8x128 .i32) (h10 : a10.IsWhole) (a11 : Memref sig .tc .vmem S128x1024 .bf16) (h11 : a11.IsWhole)

theorem wp_stage1 (c : Dev nD) (i : grid0.Coords) (s : Fin 2) (hs : (i 0).val % 2 = s.val) (FIN : Buf (Elt F) (xsL c))
    {α : Type} {kk : PUnit → Prog (TpuEff nD τ sig (Elt F) Λ₀ .tc) α} {Q : α → sProp 𝕄} :
    iprop(OW c a1 CP ∗ Sl P c FIN (i 0).val ∗ xsAt c (fun r => P.ph r + 2 < (i 0).val) FIN ∗ owe c) ⊢ iprop((iprop(OW c a1 CP ∗ free c s ∗ xsAt c (fun r => P.ph r + 2 < (i 0).val + 1) FIN ∗ owe c) -∗ WP c (kk ⟨⟩) Q) -∗ WP c (blk1 (F := F) a1 h1 a2 h2 a3 h3 a4 h4 a5 h5 a6 h6 a7 h7 a8 h8 a9 h9 a10 h10 a11 h11 i >>= kk) Q) := by
  have hlt := w_lt i
  by_cases hc : k0_cond1 i = 1#1
  · have hg2 := (cond1_iff i).1 hc
    obtain ⟨p, hp⟩ : ∃ p, (i 0).val = p + 2 := ⟨(i 0).val - 2, by omega⟩
    have hp62 : p ≤ 62 := by omega
    have es : (⟨p % 2, Nat.mod_lt _ (by decide)⟩ : Fin 2) = s := Fin.ext (by show p % 2 = s.val; omega)
    have eS : Sl P c FIN (i 0).val = inFl c s (P.n p) (P.G p) FIN := by rw [hp, Sl_two, es]
    have eU : (xsAt c (fun r => P.ph r + 2 < (i 0).val + 1) FIN : sProp 𝕄) = iprop(xsAt c (fun r => P.ph r + 2 < (i 0).val) FIN ∗ xsAt c (fun r => ∃ j, j < P.n p ∧ r = P.G p j) FIN) :=
      xs_union c (fun r hr h1 h2 => by have := (P.mem (by omega) hr).1 h2; omega) (fun r hr => by rw [P.mem (by omega) hr]; omega) FIN
    rw [eS, eU]
    iintro ⟨H1, HS, HX, HO⟩ Hk
    iapply (wp_blk1 a1 h1 a2 h2 a3 h3 a4 h4 a5 h5 a6 h6 a7 h7 a8 h8 a9 h9 a10 h10 a11 h11 c i hc (P.n p) (P.hn p) CP ((congrArg (fun q => CP (ix1 q)) (Fin.ext (by show (i 0).val - 2 = p; omega))).trans (P.hCP p (by omega))) (P.hG p (by omega)) (P.hi p (by omega)) s hs) $$ [H1 HS HO]
    · isplitl [H1]; · iexact H1
      isplitl [HS]; · iexact HS
      iexact HO
    iintro ⟨H1, HF, HY, HO⟩
    iapply Hk
    isplitl [H1]; · iexact H1
    isplitl [HF]; · iexact HF
    isplitr [HO]
    · isplitl [HX]; · iexact HX
      iexact HY
    iexact HO
  · have hg2 : (i 0).val < 2 := by by_contra h; exact hc ((cond1_iff i).2 (by omega))
    have eS : Sl P c FIN (i 0).val = free c s := by
      rcases (show (i 0).val = 0 ∨ (i 0).val = 1 by omega) with h | h
      · rw [h]; unfold Sl; rw [show s = 0 from Fin.ext (by show s.val = 0; omega)]
      · rw [h]; unfold Sl; rw [show s = 1 from Fin.ext (by show s.val = 1; omega)]
    rw [eS, xs_congr c (P := fun r => P.ph r + 2 < (i 0).val) (Q := fun r => P.ph r + 2 < (i 0).val + 1) (fun r _ => by constructor <;> intro h <;> omega)]
    iintro H Hk
    iapply (wp_skip1 a1 h1 a2 h2 a3 h3 a4 h4 a5 h5 a6 h6 a7 h7 a8 h8 a9 h9 a10 h10 a11 h11 c i hc)
    iapply Hk; iexact H
theorem wp_stage2 (c : Dev nD) (i : grid0.Coords) (ht : (i 0).val < 64) (s : Fin 2) (hs : (i 0).val % 2 = s.val) (f0 : Buf (Elt F) (xsL c)) (row : ℕ → ℕ → Fin 1024 → Elt F .bf16)
    (X6 : S1x1x256.Idx → Elt F .i32) (X8 : Vec F S8x256 .i32) (X9 : Vec F S256x1024 .bf16) (hb6 : ∀ j : Fin 256, X6 (ix3 (0 : Fin 1) (0 : Fin 1) j) = GP (ix3 (⟨(i 0).val, ht⟩ : Fin 64) (0 : Fin 1) j)) (hrow : row (i 0).val = rowP X8 X9)
    {α : Type} {kk : PUnit → Prog (TpuEff nD τ sig (Elt F) Λ₀ .tc) α} {Q : α → sProp 𝕄} :
    iprop(OW c a1 CP ∗ OW c a8 X8 ∗ OW c a9 X9 ∗ OW c a6 X6 ∗ free c s ∗ xsAt c (fun r => (i 0).val ≤ P.ph r) f0) ⊢ iprop((iprop(OW c a1 CP ∗ OW c a8 X8 ∗ OW c a9 X9 ∗ OW c a6 X6 ∗ Sl P c (finX P row) ((i 0).val + 2) ∗ xsAt c (fun r => (i 0).val + 1 ≤ P.ph r) f0) -∗ WP c (kk ⟨⟩) Q) -∗ WP c (blk2 (F := F) a1 h1 a2 h2 a3 h3 a4 h4 a5 h5 a6 h6 a7 h7 a8 h8 a9 h9 a10 h10 a11 h11 i >>= kk) Q) := by
  have hc : k0_cond2 i = 1#1 := (cond2_iff i).2 ht
  have K : TileOK c 256 X6 (P.n (i 0).val) (P.G (i 0).val) (finX P row) (rowP X8 X9) :=
    ⟨P.hn _, by have := P.hn (i 0).val; omega, P.hG _ (by omega), P.hi _ (by omega), fun j h => (hb6 ⟨j, by have := P.hn (i 0).val; omega⟩).trans (P.hGP _ ht j (by have := P.hn (i 0).val; omega) h),
      fun j h y hy => by rw [finX_tile P row (by omega) j h y hy, hrow]⟩
  have es : (⟨(i 0).val % 2, Nat.mod_lt _ (by decide)⟩ : Fin 2) = s := Fin.ext hs
  have eU : (xsAt c (fun r => (i 0).val ≤ P.ph r) f0 : sProp 𝕄) = iprop(xsAt c (fun r => (i 0).val + 1 ≤ P.ph r) f0 ∗ xsAt c (fun r => ∃ j, j < P.n (i 0).val ∧ r = P.G (i 0).val j) f0) :=
    xs_union c (fun r hr h1 h2 => by have := (P.mem (by omega) hr).1 h2; omega) (fun r hr => by rw [P.mem (by omega) hr]; omega) f0
  have eS : Sl P c (finX P row) ((i 0).val + 2) = inFl c s (P.n (i 0).val) (P.G (i 0).val) (finX P row) := by rw [Sl_two, es]
  rw [eU, eS]
  iintro ⟨H1, H8, H9, H6, HF, HX, HY⟩ Hk
  iapply (wp_blk2 a1 h1 a2 h2 a3 h3 a4 h4 a5 h5 a6 h6 a7 h7 a8 h8 a9 h9 a10 h10 a11 h11 c i hc (P.n (i 0).val) s hs CP X8 X9 (P.hCP _ ht) K) $$ [H1 H8 H9 H6 HF HY]
  · isplitl [H1]; · iexact H1
    isplitl [H8]; · iexact H8
    isplitl [H9]; · iexact H9
    isplitl [H6]; · iexact H6
    isplitl [HF]; · iexact HF
    iexact HY
  iintro ⟨H1, H8, H9, H6, HI⟩
  iapply Hk
  isplitl [H1]; · iexact H1
  isplitl [H8]; · iexact H8
  isplitl [H9]; · iexact H9
  isplitl [H6]; · iexact H6
  isplitl [HI]; · iexact HI
  iexact HX
set_option maxHeartbeats 2000000 in
theorem wp_stage5 (c : Dev nD) (i : grid0.Coords) (ht : (i 0).val = 64) (f0 : Buf (Elt F) (xsL c)) (row : ℕ → ℕ → Fin 1024 → Elt F .bf16)
    (X10 : Vec F S8x128 .i32) (X11 : Vec F S128x1024 .bf16) (hrow : row 64 = rowS X10 X11)
    {α : Type} {kk : PUnit → Prog (TpuEff nD τ sig (Elt F) Λ₀ .tc) α} {Q : α → sProp 𝕄} :
    iprop(OW c a1 CP ∗ OW c a2 CS ∗ OW c a3 A3 ∗ OW c a4 A4 ∗ OW c a5 A5 ∗ OW c a7 GS ∗ OW c a10 X10 ∗ OW c a11 X11 ∗ free c 0 ∗ Sl P c (finX P row) 65 ∗ xsAt c (fun r => 64 ≤ P.ph r) f0 ∗ xsAt c (fun r => P.ph r + 2 < 65) (finX P row) ∗ sem2 c ∗ zbAny c ∗ owe c) ⊢ iprop((iprop(OW c a1 CP ∗ OW c a2 CS ∗ OW c a3 A3 ∗ OW c a4 A4 ∗ OW c a5 A5 ∗ OW c a7 GS ∗ OW c a10 X10 ∗ OW c a11 X11 ∗ fin c (finX P row) ∗ owe c) -∗ WP c (kk ⟨⟩) Q) -∗ WP c (blk5 (F := F) a1 h1 a2 h2 a3 h3 a4 h4 a5 h5 a6 h6 a7 h7 a8 h8 a9 h9 a10 h10 a11 h11 i >>= kk) Q) := by
  have hc : k0_cond5 i = 1#1 := (cond5_iff i).2 ht
  have K : TileOK c 128 GS (P.n 64) (P.G 64) (finX P row) (rowS X10 X11) :=
    ⟨P.hn _, P.hns, P.hG _ (by omega), P.hi _ (by omega), fun j h => P.hGS j (by have := P.hns; omega) h, fun j h y hy => by rw [finX_tile P row (by omega) j h y hy, hrow]⟩
  have FO : FillOK c A3 A4 P.T P.FG P.kf P.fe P.KK ZV (finX P row) := ⟨P.hk0, P.hk, P.hT, P.hKle, P.hT2, P.hfe, P.h0, P.hX3, P.hX4, P.hFG, P.hFi, (fun j hj y hy => finX_zero P row y (by have := (P.hphF _ (by have : (y 0).val < 227328 := (y 0).isLt; omega)).2 ⟨j, hj, hy⟩; omega))⟩
  have eA : (xsAt c (fun r => 64 ≤ P.ph r) f0 : sProp 𝕄) = iprop(xsAt c (fun r => ∃ j, j < P.n 64 ∧ r = P.G 64 j) f0 ∗ xsAt c (fun r => (∃ j, j < P.T ∧ r = P.FG j) ∨ 32 * P.nr ≤ r) f0) :=
    xs_union c (fun r hr h1 h2 => by have e := (P.mem (by omega) hr).1 h1; rw [← P.hphF r hr, ← P.hphT r hr] at h2; omega) (fun r hr => by rw [P.mem (by omega) hr, ← P.hphF r hr, ← P.hphT r hr]; have := P.hle r hr; omega) f0
  have eB : (xsAt c (fun r => (∃ j, j < P.T ∧ r = P.FG j) ∨ 32 * P.nr ≤ r) f0 : sProp 𝕄) = iprop(xsAt c (fun r => ∃ j, j < P.T ∧ r = P.FG j) f0 ∗ xsAt c (fun r => 32 * P.nr ≤ r) f0) :=
    xs_union c (fun r hr h1 h2 => by rw [← P.hphF r hr] at h1; rw [← P.hphT r hr] at h2; omega) (fun r hr => Iff.rfl) f0
  have eD : (xsAt c (fun r => (∃ j, j < P.T ∧ r = P.FG j) ∨ 32 * P.nr ≤ r) (finX P row) : sProp 𝕄) = iprop(xsAt c (fun r => ∃ j, j < P.T ∧ r = P.FG j) (finX P row) ∗ xsAt c (fun r => 32 * P.nr ≤ r) (finX P row)) :=
    xs_union c (fun r hr h1 h2 => by rw [← P.hphF r hr] at h1; rw [← P.hphT r hr] at h2; omega) (fun r hr => Iff.rfl) _
  have eE : (xsAt c (fun r => 64 ≤ P.ph r) (finX P row) : sProp 𝕄) = iprop(xsAt c (fun r => ∃ j, j < P.n 64 ∧ r = P.G 64 j) (finX P row) ∗ xsAt c (fun r => (∃ j, j < P.T ∧ r = P.FG j) ∨ 32 * P.nr ≤ r) (finX P row)) :=
    xs_union c (fun r hr h1 h2 => by have e := (P.mem (by omega) hr).1 h1; rw [← P.hphF r hr, ← P.hphT r hr] at h2; omega) (fun r hr => by rw [P.mem (by omega) hr, ← P.hphF r hr, ← P.hphT r hr]; have := P.hle r hr; omega) _
  have eG : (xsAt c (fun r => P.ph r ≤ 63) (finX P row) : sProp 𝕄) = iprop(xsAt c (fun r => P.ph r + 2 < 65) (finX P row) ∗ xsAt c (fun r => ∃ j, j < P.n 63 ∧ r = P.G 63 j) (finX P row)) :=
    xs_union c (fun r hr h1 h2 => by have := (P.mem (by omega) hr).1 h2; omega) (fun r hr => by rw [P.mem (by omega) hr]; omega) _
  have eH : (xsAt c (fun r => True) (finX P row) : sProp 𝕄) = iprop(xsAt c (fun r => P.ph r ≤ 63) (finX P row) ∗ xsAt c (fun r => 64 ≤ P.ph r) (finX P row)) :=
    xs_union c (fun r hr h1 h2 => by omega) (fun r hr => ⟨fun _ => by omega, fun _ => trivial⟩) _
  have eS : Sl P c (finX P row) 65 = inFl c 1 (P.n 63) (P.G 63) (finX P row) := rfl
  unfold fin
  rw [eA, eB, eS, eH, eG, eE, eD]
  iintro ⟨H1, H2, H3, H4, H5, H7, H10, H11, HF, HI, ⟨Hxs, Hxf, Hxt⟩, Hlow, Hs2, Hz, HO⟩ Hk
  iapply (wp_blk5 a1 h1 a2 h2 a3 h3 a4 h4 a5 h5 a6 h6 a7 h7 a8 h8 a9 h9 a10 h10 a11 h11 c i hc 0 1 (by rw [ht]; rfl) (by rw [ht]; rfl) (P.n 63) (P.n 64) P.T P.nr (P.hn _) P.hns P.hnr CP (P.hCP 63 (by omega)) CS P.hCS A5 P.hA5 X10 X11 (P.hG 63 (by omega)) (P.hi 63 (by omega)) K P.hF P.hFi FO
    (fun y hy => finX_zero P row y (by have := (P.hphT _ (by have : (y 0).val < 227328 := (y 0).isLt; omega)).2 hy; omega))) $$ [H1 H2 H3 H4 H5 H7 H10 H11 HF HI Hxs Hxf Hxt Hs2 Hz HO]
  · isplitl [H1]; · iexact H1
    isplitl [H2]; · iexact H2
    isplitl [H3]; · iexact H3
    isplitl [H4]; · iexact H4
    isplitl [H5]; · iexact H5
    isplitl [H7]; · iexact H7
    isplitl [H10]; · iexact H10
    isplitl [H11]; · iexact H11
    isplitl [HF]; · iexact HF
    isplitl [HI]; · iexact HI
    isplitl [Hxs]; · iexact Hxs
    isplitl [Hxf]; · iexact Hxf
    isplitl [Hxt]; · iexact Hxt
    isplitl [Hs2]; · iexact Hs2
    isplitl [Hz]; · iexact Hz
    iexact HO
  iintro ⟨H1, H2, H3, H4, H5, H7, H10, H11, HF0, HF1, HX, HY, Hxf, Hxt, Hs2, Hz, HO⟩
  iapply Hk
  isplitl [H1]; · iexact H1
  isplitl [H2]; · iexact H2
  isplitl [H3]; · iexact H3
  isplitl [H4]; · iexact H4
  isplitl [H5]; · iexact H5
  isplitl [H7]; · iexact H7
  isplitl [H10]; · iexact H10
  isplitl [H11]; · iexact H11
  isplitr [HO]
  · isplitl [HF0]; · iexact HF0
    isplitl [HF1]; · iexact HF1
    isplitr [Hs2 Hz]
    · isplitl [Hlow HX]
      · isplitl [Hlow]; · iexact Hlow
        iexact HX
      isplitl [HY]; · iexact HY
      isplitl [Hxf]; · iexact Hxf
      iexact Hxt
    isplitl [Hs2]; · iexact Hs2
    iexact Hz
  iexact HO
theorem wp_point (c : Dev nD) (i : grid0.Coords) (f0 : Buf (Elt F) (xsL c)) (row : ℕ → ℕ → Fin 1024 → Elt F .bf16)
    (X6 : S1x1x256.Idx → Elt F .i32) (X8 : Vec F S8x256 .i32) (X9 : Vec F S256x1024 .bf16) (X10 : Vec F S8x128 .i32) (X11 : Vec F S128x1024 .bf16)
    (hb6 : ∀ (ht : (i 0).val < 64) (j : Fin 256), X6 (ix3 (0 : Fin 1) (0 : Fin 1) j) = GP (ix3 (⟨(i 0).val, ht⟩ : Fin 64) (0 : Fin 1) j)) (hrow : (i 0).val < 64 → row (i 0).val = rowP X8 X9) (hrowS : (i 0).val = 64 → row 64 = rowS X10 X11)
    {Q : PUnit → sProp 𝕄} :
    iprop((OW c a1 CP ∗ OW c a2 CS ∗ OW c a3 A3 ∗ OW c a4 A4 ∗ OW c a5 A5 ∗ OW c a6 X6 ∗ OW c a7 GS ∗ OW c a8 X8 ∗ OW c a9 X9 ∗ OW c a10 X10 ∗ OW c a11 X11) ∗ stateAt P c f0 (finX P row) (i 0).val ∗ owe c)
      ⊢ iprop((iprop((OW c a1 CP ∗ OW c a2 CS ∗ OW c a3 A3 ∗ OW c a4 A4 ∗ OW c a5 A5 ∗ OW c a6 X6 ∗ OW c a7 GS ∗ OW c a8 X8 ∗ OW c a9 X9 ∗ OW c a10 X10 ∗ OW c a11 X11) ∗ stateAt P c f0 (finX P row) ((i 0).val + 1) ∗ owe c) -∗ Q ⟨⟩) -∗ WP c (cc0_dispatch (F := F) i a1 h1 a2 h2 a3 h3 a4 h4 a5 h5 a6 h6 a7 h7 a8 h8 a9 h9 a10 h10 a11 h11 xsM (Memref.isWhole_whole _) sbM (Memref.isWhole_whole _) zbM (Memref.isWhole_whole _) cc0_scratch2) Q) := by
  have hlt := w_lt i
  rw [dispatch_eq]
  obtain ⟨s, hs⟩ : ∃ s : Fin 2, (i 0).val % 2 = s.val := ⟨⟨(i 0).val % 2, Nat.mod_lt _ (by decide)⟩, rfl⟩
  by_cases ht : (i 0).val < 64
  · rw [show stateAt P c f0 (finX P row) (i 0).val = mid P c f0 (finX P row) (i 0).val from if_pos (by omega), show stateAt P c f0 (finX P row) ((i 0).val + 1) = mid P c f0 (finX P row) ((i 0).val + 1) from if_pos (by omega)]
    unfold mid
    iintro ⟨⟨H1, H2, H3, H4, H5, H6, H7, H8, H9, H10, H11⟩, ⟨HS, HS', HX, HY, Hs2, Hz⟩, HO⟩ Hk
    iapply (wp_stage1 P a1 h1 a2 h2 a3 h3 a4 h4 a5 h5 a6 h6 a7 h7 a8 h8 a9 h9 a10 h10 a11 h11 c i s hs (finX P row)) $$ [H1 HS HY HO]
    · isplitl [H1]; · iexact H1
      isplitl [HS]; · iexact HS
      isplitl [HY]; · iexact HY
      iexact HO
    iintro ⟨H1, HF, HY, HO⟩
    iapply (wp_stage2 P a1 h1 a2 h2 a3 h3 a4 h4 a5 h5 a6 h6 a7 h7 a8 h8 a9 h9 a10 h10 a11 h11 c i ht s hs f0 row X6 X8 X9 (hb6 ht) (hrow ht)) $$ [H1 H8 H9 H6 HF HX]
    · isplitl [H1]; · iexact H1
      isplitl [H8]; · iexact H8
      isplitl [H9]; · iexact H9
      isplitl [H6]; · iexact H6
      isplitl [HF]; · iexact HF
      iexact HX
    iintro ⟨H1, H8, H9, H6, HI, HX⟩
    iapply (wp_skip5 a1 h1 a2 h2 a3 h3 a4 h4 a5 h5 a6 h6 a7 h7 a8 h8 a9 h9 a10 h10 a11 h11 c i (fun h => by have := (cond5_iff i).1 h; omega))
    iapply (wp_ret c)
    iapply Hk
    isplitl [H1 H2 H3 H4 H5 H6 H7 H8 H9 H10 H11]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    isplitr [HO]
    · isplitl [HS']; · iexact HS'
      isplitl [HI]; · iexact HI
      isplitl [HX]; · iexact HX
      isplitl [HY]; · iexact HY
      isplitl [Hs2]; · iexact Hs2
      iexact Hz
    iexact HO
  · have h64 : (i 0).val = 64 := by omega
    have hs0 : s = 0 := Fin.ext (by show s.val = 0; omega)
    subst hs0
    rw [show stateAt P c f0 (finX P row) (i 0).val = mid P c f0 (finX P row) (i 0).val from if_pos (by omega), show stateAt P c f0 (finX P row) ((i 0).val + 1) = fin c (finX P row) from if_neg (by omega)]
    unfold mid
    iintro ⟨⟨H1, H2, H3, H4, H5, H6, H7, H8, H9, H10, H11⟩, ⟨HS, HS', HX, HY, Hs2, Hz⟩, HO⟩ Hk
    iapply (wp_stage1 P a1 h1 a2 h2 a3 h3 a4 h4 a5 h5 a6 h6 a7 h7 a8 h8 a9 h9 a10 h10 a11 h11 c i 0 hs (finX P row)) $$ [H1 HS HY HO]
    · isplitl [H1]; · iexact H1
      isplitl [HS]; · iexact HS
      isplitl [HY]; · iexact HY
      iexact HO
    rw [h64]
    iintro ⟨H1, HF, HY, HO⟩
    iapply (wp_skip2 a1 h1 a2 h2 a3 h3 a4 h4 a5 h5 a6 h6 a7 h7 a8 h8 a9 h9 a10 h10 a11 h11 c i (fun h => by have := (cond2_iff i).1 h; omega))
    iapply (wp_stage5 P a1 h1 a2 h2 a3 h3 a4 h4 a5 h5 a6 h6 a7 h7 a8 h8 a9 h9 a10 h10 a11 h11 c i h64 f0 row X10 X11 (hrowS h64)) $$ [H1 H2 H3 H4 H5 H7 H10 H11 HF HS' HX HY Hs2 Hz HO]
    · isplitl [H1]; · iexact H1
      isplitl [H2]; · iexact H2
      isplitl [H3]; · iexact H3
      isplitl [H4]; · iexact H4
      isplitl [H5]; · iexact H5
      isplitl [H7]; · iexact H7
      isplitl [H10]; · iexact H10
      isplitl [H11]; · iexact H11
      isplitl [HF]; · iexact HF
      isplitl [HS']; · iexact HS'
      isplitl [HX]; · iexact HX
      isplitl [HY]; · iexact HY
      isplitl [Hs2]; · iexact Hs2
      isplitl [Hz]; · iexact Hz
      iexact HO
    iintro ⟨H1, H2, H3, H4, H5, H7, H10, H11, HF, HO⟩
    iapply (wp_ret c)
    iapply Hk
    isplitl [H1 H2 H3 H4 H5 H6 H7 H8 H9 H10 H11]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    isplitl [HF]; · iexact HF
    iexact HO

end Cert.Proof.Send

end
-- ==== Proof.Windows.lean ====
/- The launch: every point steps the state, so the program ends with the routed activations in place. -/
module

public import proofs.«01_k».proof.Proof.Body

@[expose] public section

noncomputable section

namespace Cert.Proof.Send

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UC sig nD τ) ℕ

open Idealize.ShloMosaic.Pipeline (Dat Cfg Window BodyObligation cellOf)

variable (m : (ℓ : Loc nD τ sig) → Buf (Elt F) ℓ) (ρ : Dev nD → PrngReg)

theorem coords_val (t : Fin cfg0.N) : (grid0.coords t 0).val = t.val := by
  have h : ∀ t : Fin 65, (grid0.coords (t.cast (by decide)) 0).val = t.val := by decide +kernel
  exact h ⟨t.val, lt_of_lt_of_eq t.isLt N_0⟩

/-! ## What each window holds -/

theorem iblk_0 (c : Dev nD) (t : Fin cfg0.N) : iblk m c 0 t = m ((c : Thread nD τ).loc main_arg0) := by
  funext x
  show m ((c : Thread nD τ).loc main_arg0) (((cfg0.win 0).blk t).view.emb x) = m ((c : Thread nD τ).loc main_arg0) x
  congr 1
  funext a
  fin_cases a
  · exact Fin.ext (by show 0 * 64 + 1 * (x 0).val = (x 0).val; omega)
theorem iblk_1 (c : Dev nD) (t : Fin cfg0.N) : iblk m c 1 t = m ((c : Thread nD τ).loc main_arg1) := by
  funext x
  show m ((c : Thread nD τ).loc main_arg1) (((cfg0.win 1).blk t).view.emb x) = m ((c : Thread nD τ).loc main_arg1) x
  congr 1
  funext a
  fin_cases a
  · exact Fin.ext (by show 0 * 1 + 1 * (x 0).val = (x 0).val; omega)
theorem iblk_2 (c : Dev nD) (t : Fin cfg0.N) : iblk m c 2 t = m ((c : Thread nD τ).loc main_arg2) := by
  funext x
  show m ((c : Thread nD τ).loc main_arg2) (((cfg0.win 2).blk t).view.emb x) = m ((c : Thread nD τ).loc main_arg2) x
  congr 1
  funext a
  fin_cases a
  · exact Fin.ext (by show 0 * 64 + 1 * (x 0).val = (x 0).val; omega)
theorem iblk_3 (c : Dev nD) (t : Fin cfg0.N) : iblk m c 3 t = m ((c : Thread nD τ).loc main_arg3) := by
  funext x
  show m ((c : Thread nD τ).loc main_arg3) (((cfg0.win 3).blk t).view.emb x) = m ((c : Thread nD τ).loc main_arg3) x
  congr 1
  funext a
  fin_cases a
  · exact Fin.ext (by show 0 * 64 + 1 * (x 0).val = (x 0).val; omega)
theorem iblk_4 (c : Dev nD) (t : Fin cfg0.N) : iblk m c 4 t = m ((c : Thread nD τ).loc main_arg4) := by
  funext x
  show m ((c : Thread nD τ).loc main_arg4) (((cfg0.win 4).blk t).view.emb x) = m ((c : Thread nD τ).loc main_arg4) x
  congr 1
  funext a
  fin_cases a
  · exact Fin.ext (by show 0 * 1 + 1 * (x 0).val = (x 0).val; omega)
theorem iblk_6 (c : Dev nD) (t : Fin cfg0.N) : iblk m c 6 t = m ((c : Thread nD τ).loc main_arg6) := by
  funext x
  show m ((c : Thread nD τ).loc main_arg6) (((cfg0.win 6).blk t).view.emb x) = m ((c : Thread nD τ).loc main_arg6) x
  congr 1
  funext a
  fin_cases a
  · exact Fin.ext (by show 0 * 1 + 1 * (x 0).val = (x 0).val; omega)
  · exact Fin.ext (by show 0 * 1 + 1 * (x 1).val = (x 1).val; omega)
  · exact Fin.ext (by show 0 * 128 + 1 * (x 2).val = (x 2).val; omega)
theorem min63 (n : ℕ) (h : n < 64) : (Scalar.minsi (BitVec.ofNat 32 n) 63#32).toNat = n := by
  have key : ∀ x : Fin 64, (Scalar.minsi (BitVec.ofNat 32 x.val) 63#32).toNat = x.val := by decide
  exact key ⟨n, h⟩
theorem iblk_5 (c : Dev nD) (t : Fin cfg0.N) (ht : t.val < 64) (j : Fin 256) :
    iblk m c 5 t (ix3 (0 : Fin 1) (0 : Fin 1) j) = m ((c : Thread nD τ).loc main_arg5) (ix3 (⟨t.val, ht⟩ : Fin 64) (0 : Fin 1) j) := by
  show m ((c : Thread nD τ).loc main_arg5) (((cfg0.win 5).blk t).view.emb (ix3 (0 : Fin 1) (0 : Fin 1) j)) = _
  congr 1
  funext a
  fin_cases a
  · refine Fin.ext ?_
    show (Scalar.minsi (BitVec.ofNat 32 (grid0.coords t 0).val) 63#32).toNat * 1 + 1 * 0 = t.val
    rw [coords_val, min63 _ ht]; omega
  · exact Fin.ext (by show 0 * 1 + 1 * 0 = 0; omega)
  · exact Fin.ext (by show 0 * 256 + 1 * j.val = j.val; omega)

end Cert.Proof.Send

end
-- ==== Proof.Run.lean ====
/- The launch: every point steps the state, so the program ends with the routed activations in place. -/
module

public import proofs.«01_k».proof.Proof.Windows

@[expose] public section

noncomputable section

namespace Cert.Proof.Send

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (Pipeline.UC sig nD τ) ℕ

open Idealize.ShloMosaic.Pipeline (Dat Cfg Window BodyObligation cellOf)

variable (m : (ℓ : Loc nD τ sig) → Buf (Elt F) ℓ) (ρ : Dev nD → PrngReg)

/-- A plan of the routing on every core. -/
abbrev Plans : Type := ∀ c : Dev nD, Plan (m ((c : Thread nD τ).loc main_arg0)) (m ((c : Thread nD τ).loc main_arg2)) (m ((c : Thread nD τ).loc main_arg3)) (m ((c : Thread nD τ).loc main_arg1)) (m ((c : Thread nD τ).loc main_arg4)) (m ((c : Thread nD τ).loc main_arg5)) (m ((c : Thread nD τ).loc main_arg6))
variable (P : Plans m)

/-- Grid point `p`. -/
abbrev gp (p : ℕ) (h : p < 65) : Fin cfg0.N := ⟨p, lt_of_lt_of_eq h N_0.symm⟩
/-- Row `r` of tile `p`'s payload: the prompt tiles by their blocks, the sample tile after them. -/
def row (c : Dev nD) (p : ℕ) : ℕ → Fin 1024 → Elt F .bf16 :=
  if h : p < 64 then rowP (iblk m c 7 (gp p (by omega))) (iblk m c 8 (gp p (by omega)))
  else rowS (iblk m c 9 (gp 64 (by omega))) (iblk m c 10 (gp 64 (by omega)))
/-- The routed activations at the end. -/
def fini (c : Dev nD) : Buf (Elt F) (xsL c) := finX (P c) (row m c)

def ΦN (c : Dev nD) (t : ℕ) : sProp 𝕄 := iprop(stateAt (P c) c (m ((c : Thread nD τ).loc main_v0)) (finX (P c) (row m c)) t ∗ ∃ r, prngReg c r)

def dats (_ : Fin 1) (c : Dev nD) : Dat τ (Elt F) Unit ℕ (Pipeline.UC sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
  Φ t := ΦN m P c t.val
  q _ := fullShare
  owed _ := 0

theorem after_w0 (c : Dev nD) (t : Fin cfg0.N) : (dats m P 0 c).after 0 t = iblk m c 0 t := by dsimp only [dats]
theorem before_w0 (c : Dev nD) (t : Fin cfg0.N) (d) : (dats m P 0 c).before 0 t d = iblk m c 0 t :=
  ((dats m P 0 c).before_in_eq_fetched 0 rfl (fun _ => rfl) (fun _ _ _ => rfl) (fun t => by rw [after_w0]; unfold Dat.blockOf iblk; try rfl) t d).trans
    (by unfold Dat.fetched Dat.blockOf iblk; try rfl)
theorem after_w1 (c : Dev nD) (t : Fin cfg0.N) : (dats m P 0 c).after 1 t = iblk m c 1 t := by dsimp only [dats]
theorem before_w1 (c : Dev nD) (t : Fin cfg0.N) (d) : (dats m P 0 c).before 1 t d = iblk m c 1 t :=
  ((dats m P 0 c).before_in_eq_fetched 1 rfl (fun _ => rfl) (fun _ _ _ => rfl) (fun t => by rw [after_w1]; unfold Dat.blockOf iblk; try rfl) t d).trans
    (by unfold Dat.fetched Dat.blockOf iblk; try rfl)
theorem after_w2 (c : Dev nD) (t : Fin cfg0.N) : (dats m P 0 c).after 2 t = iblk m c 2 t := by dsimp only [dats]
theorem before_w2 (c : Dev nD) (t : Fin cfg0.N) (d) : (dats m P 0 c).before 2 t d = iblk m c 2 t :=
  ((dats m P 0 c).before_in_eq_fetched 2 rfl (fun _ => rfl) (fun _ _ _ => rfl) (fun t => by rw [after_w2]; unfold Dat.blockOf iblk; try rfl) t d).trans
    (by unfold Dat.fetched Dat.blockOf iblk; try rfl)
theorem after_w3 (c : Dev nD) (t : Fin cfg0.N) : (dats m P 0 c).after 3 t = iblk m c 3 t := by dsimp only [dats]
theorem before_w3 (c : Dev nD) (t : Fin cfg0.N) (d) : (dats m P 0 c).before 3 t d = iblk m c 3 t :=
  ((dats m P 0 c).before_in_eq_fetched 3 rfl (fun _ => rfl) (fun _ _ _ => rfl) (fun t => by rw [after_w3]; unfold Dat.blockOf iblk; try rfl) t d).trans
    (by unfold Dat.fetched Dat.blockOf iblk; try rfl)
theorem after_w4 (c : Dev nD) (t : Fin cfg0.N) : (dats m P 0 c).after 4 t = iblk m c 4 t := by dsimp only [dats]
theorem before_w4 (c : Dev nD) (t : Fin cfg0.N) (d) : (dats m P 0 c).before 4 t d = iblk m c 4 t :=
  ((dats m P 0 c).before_in_eq_fetched 4 rfl (fun _ => rfl) (fun _ _ _ => rfl) (fun t => by rw [after_w4]; unfold Dat.blockOf iblk; try rfl) t d).trans
    (by unfold Dat.fetched Dat.blockOf iblk; try rfl)
theorem after_w5 (c : Dev nD) (t : Fin cfg0.N) : (dats m P 0 c).after 5 t = iblk m c 5 t := by dsimp only [dats]
theorem before_w5 (c : Dev nD) (t : Fin cfg0.N) (d) : (dats m P 0 c).before 5 t d = iblk m c 5 t :=
  ((dats m P 0 c).before_in_eq_fetched 5 rfl (fun _ => rfl) (fun _ _ _ => rfl) (fun t => by rw [after_w5]; unfold Dat.blockOf iblk; try rfl) t d).trans
    (by unfold Dat.fetched Dat.blockOf iblk; try rfl)
theorem after_w6 (c : Dev nD) (t : Fin cfg0.N) : (dats m P 0 c).after 6 t = iblk m c 6 t := by dsimp only [dats]
theorem before_w6 (c : Dev nD) (t : Fin cfg0.N) (d) : (dats m P 0 c).before 6 t d = iblk m c 6 t :=
  ((dats m P 0 c).before_in_eq_fetched 6 rfl (fun _ => rfl) (fun _ _ _ => rfl) (fun t => by rw [after_w6]; unfold Dat.blockOf iblk; try rfl) t d).trans
    (by unfold Dat.fetched Dat.blockOf iblk; try rfl)
theorem after_w7 (c : Dev nD) (t : Fin cfg0.N) : (dats m P 0 c).after 7 t = iblk m c 7 t := by dsimp only [dats]
theorem before_w7 (c : Dev nD) (t : Fin cfg0.N) (d) : (dats m P 0 c).before 7 t d = iblk m c 7 t :=
  ((dats m P 0 c).before_in_eq_fetched 7 rfl (fun _ => rfl) (fun _ _ _ => rfl) (fun t => by rw [after_w7]; unfold Dat.blockOf iblk; try rfl) t d).trans
    (by unfold Dat.fetched Dat.blockOf iblk; try rfl)
theorem after_w8 (c : Dev nD) (t : Fin cfg0.N) : (dats m P 0 c).after 8 t = iblk m c 8 t := by dsimp only [dats]
theorem before_w8 (c : Dev nD) (t : Fin cfg0.N) (d) : (dats m P 0 c).before 8 t d = iblk m c 8 t :=
  ((dats m P 0 c).before_in_eq_fetched 8 rfl (fun _ => rfl) (fun _ _ _ => rfl) (fun t => by rw [after_w8]; unfold Dat.blockOf iblk; try rfl) t d).trans
    (by unfold Dat.fetched Dat.blockOf iblk; try rfl)
theorem after_w9 (c : Dev nD) (t : Fin cfg0.N) : (dats m P 0 c).after 9 t = iblk m c 9 t := by dsimp only [dats]
theorem before_w9 (c : Dev nD) (t : Fin cfg0.N) (d) : (dats m P 0 c).before 9 t d = iblk m c 9 t :=
  ((dats m P 0 c).before_in_eq_fetched 9 rfl (fun _ => rfl) (fun _ _ _ => rfl) (fun t => by rw [after_w9]; unfold Dat.blockOf iblk; try rfl) t d).trans
    (by unfold Dat.fetched Dat.blockOf iblk; try rfl)
theorem after_w10 (c : Dev nD) (t : Fin cfg0.N) : (dats m P 0 c).after 10 t = iblk m c 10 t := by dsimp only [dats]
theorem before_w10 (c : Dev nD) (t : Fin cfg0.N) (d) : (dats m P 0 c).before 10 t d = iblk m c 10 t :=
  ((dats m P 0 c).before_in_eq_fetched 10 rfl (fun _ => rfl) (fun _ _ _ => rfl) (fun t => by rw [after_w10]; unfold Dat.blockOf iblk; try rfl) t d).trans
    (by unfold Dat.fetched Dat.blockOf iblk; try rfl)

/-! ## The body obligation -/

theorem defs_tc : (defs₀ (F := F)) .tc cfg0.body
    = fun a => cc0_dispatch (grid0.coords a.1) (win0_0.stage (a.2 0)) (hstage0_0 ((a.2 0).cast nbuf0_0)) (win0_1.stage (a.2 1)) (hstage0_1 ((a.2 1).cast nbuf0_1)) (win0_2.stage (a.2 2)) (hstage0_2 ((a.2 2).cast nbuf0_2)) (win0_3.stage (a.2 3)) (hstage0_3 ((a.2 3).cast nbuf0_3)) (win0_4.stage (a.2 4)) (hstage0_4 ((a.2 4).cast nbuf0_4)) (win0_5.stage (a.2 5)) (hstage0_5 ((a.2 5).cast nbuf0_5)) (win0_6.stage (a.2 6)) (hstage0_6 ((a.2 6).cast nbuf0_6)) (win0_7.stage (a.2 7)) (hstage0_7 ((a.2 7).cast nbuf0_7)) (win0_8.stage (a.2 8)) (hstage0_8 ((a.2 8).cast nbuf0_8)) (win0_9.stage (a.2 9)) (hstage0_9 ((a.2 9).cast nbuf0_9)) (win0_10.stage (a.2 10)) (hstage0_10 ((a.2 10).cast nbuf0_10)) xsM (Memref.isWhole_whole _) sbM (Memref.isWhole_whole _) zbM (Memref.isWhole_whole _) cc0_scratch2 := rfl
theorem prog_eq (t : Fin cfg0.N) : (defs₀ (F := F)) .tc cfg0.body (cfg0.bodyArgs t (cfg0.slots t)) = bodyAt0 t :=
  (congrFun defs_tc _).trans rfl

theorem row_P (c : Dev nD) (t : Fin cfg0.N) (h : t.val < 64) : row m c t.val = rowP (iblk m c 7 t) (iblk m c 8 t) := by
  unfold row; rw [dif_pos h]
theorem row_S (c : Dev nD) (t : Fin cfg0.N) (h : t.val = 64) : row m c 64 = rowS (iblk m c 9 t) (iblk m c 10 t) := by
  unfold row; rw [dif_neg (by omega), show gp 64 (by omega) = t from Fin.ext h.symm]

theorem wp_at (c : Dev nD) (t : Fin cfg0.N) {Q : PUnit → sProp 𝕄} :
    iprop((OW c (win0_0.stage (cfg0.slots t 0)) (iblk m c 0 t) ∗ OW c (win0_1.stage (cfg0.slots t 1)) (iblk m c 1 t) ∗ OW c (win0_2.stage (cfg0.slots t 2)) (iblk m c 2 t) ∗ OW c (win0_3.stage (cfg0.slots t 3)) (iblk m c 3 t) ∗ OW c (win0_4.stage (cfg0.slots t 4)) (iblk m c 4 t) ∗ OW c (win0_5.stage (cfg0.slots t 5)) (iblk m c 5 t) ∗ OW c (win0_6.stage (cfg0.slots t 6)) (iblk m c 6 t) ∗ OW c (win0_7.stage (cfg0.slots t 7)) (iblk m c 7 t) ∗ OW c (win0_8.stage (cfg0.slots t 8)) (iblk m c 8 t) ∗ OW c (win0_9.stage (cfg0.slots t 9)) (iblk m c 9 t) ∗ OW c (win0_10.stage (cfg0.slots t 10)) (iblk m c 10 t)) ∗ stateAt (P c) c (m ((c : Thread nD τ).loc main_v0)) (finX (P c) (row m c)) t.val ∗ owe c)
      ⊢ iprop((iprop((OW c (win0_0.stage (cfg0.slots t 0)) (iblk m c 0 t) ∗ OW c (win0_1.stage (cfg0.slots t 1)) (iblk m c 1 t) ∗ OW c (win0_2.stage (cfg0.slots t 2)) (iblk m c 2 t) ∗ OW c (win0_3.stage (cfg0.slots t 3)) (iblk m c 3 t) ∗ OW c (win0_4.stage (cfg0.slots t 4)) (iblk m c 4 t) ∗ OW c (win0_5.stage (cfg0.slots t 5)) (iblk m c 5 t) ∗ OW c (win0_6.stage (cfg0.slots t 6)) (iblk m c 6 t) ∗ OW c (win0_7.stage (cfg0.slots t 7)) (iblk m c 7 t) ∗ OW c (win0_8.stage (cfg0.slots t 8)) (iblk m c 8 t) ∗ OW c (win0_9.stage (cfg0.slots t 9)) (iblk m c 9 t) ∗ OW c (win0_10.stage (cfg0.slots t 10)) (iblk m c 10 t)) ∗ stateAt (P c) c (m ((c : Thread nD τ).loc main_v0)) (finX (P c) (row m c)) (t.val + 1) ∗ owe c) -∗ Q ⟨⟩) -∗ WP c (bodyAt0 (F := F) t) Q) := by
  have e := coords_val t
  have K := wp_point (P c) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) c (grid0.coords t) (m ((c : Thread nD τ).loc main_v0)) (row m c)
    (iblk m c 5 t) (iblk m c 7 t) (iblk m c 8 t) (iblk m c 9 t) (iblk m c 10 t)
    (fun ht j => by
      have h' : t.val < 64 := by omega
      rw [iblk_5 m c t h' j]; congr 1; congr 1; exact Fin.ext e.symm)
    (fun ht => by rw [e]; exact row_P m c t (by omega))
    (fun ht => row_S m c t (by omega)) (Q := Q)
  rw [e] at K
  rw [iblk_0 m c t, iblk_1 m c t, iblk_2 m c t, iblk_3 m c t, iblk_4 m c t, iblk_6 m c t]
  exact K

set_option backward.isDefEq.respectTransparency.types false in
set_option maxHeartbeats 4000000 in
theorem body_obligation (c : Dev nD) : BodyObligation (dats (F := F) m P 0 c) (defs₀ (F := F)) 𝒱₀ () Set.univ := fun t => by
  rw [bigSep_W0, bigSep_W0]
  dsimp only
  simp only [before_w0, after_w0, before_w1, after_w1, before_w2, after_w2, before_w3, after_w3, before_w4, after_w4, before_w5, after_w5, before_w6, after_w6, before_w7, after_w7, before_w8, after_w8, before_w9, after_w9, before_w10, after_w10]
  rw [show (dats m P 0 c).Φ t.castSucc = ΦN m P c t.val from rfl, show (dats m P 0 c).Φ t.succ = ΦN m P c (t.val + 1) from rfl]
  unfold Dat.owesAt Pipeline.owesWithin
  rw [show (dats m P 0 c).owed t.castSucc = 0 from rfl, show (dats m P 0 c).owed t.succ = 0 from rfl]
  unfold ΦN
  iintro ⟨⟨HS, Hp⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  sl_rw [prog_eq t]
  iapply (wp_at m P c t) $$ [HS HW H0 H1 H2 H3 H4 H5 H6 H7 H8 H9 H10]
  · isplitl [H0 H1 H2 H3 H4 H5 H6 H7 H8 H9 H10]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    isplitl [HS]; · iexact HS
    unfold owe; iexists W; iexact HW
  unfold owe
  iintro ⟨⟨H0, H1, H2, H3, H4, H5, H6, H7, H8, H9, H10⟩, HS, ⟨%W', HW⟩⟩
  isplitl [HS Hp]
  · isplitl [HS]; · iexact HS
    iexact Hp
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-! ## The ends -/

def osem : Fin 3 → SemLoc sig := fun s => .dma (cellS s)
theorem ownSemFacts : Pipeline.OwnSemFacts spec0 osem := by decide

theorem xs_whole (c : Dev nD) (f : Buf (Elt F) (xsL c)) {Q : ℕ → Prop} (h : ∀ r, r < 14208 → Q r) : ((xsL c) ↦{fullShare} f : sProp 𝕄) = xsAt c Q f := by
  rw [xs_congr c (Q := fun _ => True) (fun r hr => ⟨fun _ => trivial, fun _ => h r hr⟩)]
  unfold xsAt
  rw [show rowsX (fun _ => True) = Finset.univ from by ext y; rw [mem_rowsX]; simp]
theorem xs_none (c : Dev nD) (f : Buf (Elt F) (xsL c)) {Q : ℕ → Prop} (h : ∀ r, r < 14208 → ¬ Q r) : (xsAt c Q f : sProp 𝕄) = BI.emp := by
  rw [xs_congr c (Q := fun _ => False) (fun r hr => ⟨fun a => h r hr a, fun a => a.elim⟩)]
  unfold xsAt
  rw [show rowsX (fun _ => False) = ∅ from by ext y; rw [mem_rowsX]; simp]
  exact pointsTo_empty

/-- The rows of slot `s`. -/
def slotRows (s : Fin 2) : Finset S2x3072x1024.Idx := rowsS s.val 0 3072
theorem slotRows_disjoint : ∀ s s' : Fin 2, s ≠ s' → Disjoint (slotRows s) (slotRows s') := by
  intro s s' hne; rw [Finset.disjoint_left]; intro y hy hy'
  exact hne (Fin.ext ((mem_rowsS.1 hy).1.symm.trans (mem_rowsS.1 hy').1))
theorem slotRows_cover : (Finset.univ : Finset (Fin 2)).biUnion slotRows = Finset.univ := by
  ext y; simp only [Finset.mem_biUnion, Finset.mem_univ, true_and, iff_true]
  exact ⟨(⟨(y 0).val, (y 0).isLt⟩ : Fin 2), mem_rowsS.2 ⟨rfl, Nat.zero_le _, (y 1).isLt⟩⟩
theorem fin2 (Φ : Fin 2 → sProp 𝕄) : bigSep Finset.univ Φ = iprop(Φ 0 ∗ Φ 1) :=
  bigSep_univ_eq_bigSepL [(0 : Fin 2), (1 : Fin 2)] (by decide) (by decide) Φ
theorem fin3 (Φ : Fin 3 → sProp 𝕄) : bigSep Finset.univ Φ = iprop(Φ 0 ∗ Φ 1 ∗ Φ 2) :=
  bigSep_univ_eq_bigSepL [(0 : Fin 3), (1 : Fin 3), (2 : Fin 3)] (by decide) (by decide) Φ
theorem sb_slots (c : Dev nD) :
    iprop(∃ f : Buf (Elt F) (sbL c), (sbL c) ↦{fullShare} f) ⊢ (iprop((∃ f, sbAt c 0 0 3072 f) ∗ ∃ f, sbAt c 1 0 3072 f) : sProp 𝕄) := by
  iintro ⟨%f, H⟩
  ihave H2 := (eoe ((Ring.pointsTo_blocks (Ix := Unit) (Name := ℕ) (U := Pipeline.UC sig nD τ) (Lvl := ℕ) (q := fullShare) (ℓ := sbL c) slotRows slotRows_disjoint slotRows_cover f).trans (fin2 _))) $$ H
  icases H2 with ⟨H0, H1⟩
  isplitl [H0]
  · iexists f; unfold sbAt; iexact H0
  · iexists f; unfold sbAt; iexact H1
theorem sb_whole (c : Dev nD) :
    iprop((∃ f, sbAt c 0 0 3072 f) ∗ ∃ f, sbAt c 1 0 3072 f) ⊢ (iprop(∃ f : Buf (Elt F) (sbL c), (sbL c) ↦{fullShare} f) : sProp 𝕄) := by
  iintro ⟨⟨%f0, H0⟩, ⟨%f1, H1⟩⟩
  iapply (Ring.pointsTo_blocks_join_exists (ℓ := sbL c) slotRows slotRows_disjoint slotRows_cover f0)
  irw [fin2]
  isplitl [H0]
  · iexists f0; unfold sbAt; iexact H0
  · iexists f1; unfold sbAt; iexact H1
theorem zb_whole (c : Dev nD) : (iprop(∃ f : Buf (Elt F) (zbL c), (zbL c) ↦{fullShare} f) : sProp 𝕄) = zbAny c := by
  unfold zbAny zbAt
  rw [show zbM.view.set = Finset.univ from View.set_whole _]
theorem sems_eq (c : Dev nD) : (Pipeline.ownSems0 (Ix := Unit) (Name := ℕ) (U := Pipeline.UC sig nD τ) (Lvl := ℕ) (Val := Elt F) (τ := τ) osem c : sProp 𝕄)
    = iprop(semVal ((c : Thread nD τ), SemLoc.dma (cellS (cl 0))) 0 ∗ semVal ((c : Thread nD τ), SemLoc.dma (cellS (cl 1))) 0 ∗ sem2 c) := by
  unfold Pipeline.ownSems0; rw [fin3]; rfl

/-- The contents the region leaves in a buffer. -/
def Y (c : Dev nD) (b : Ref sig .tc) : Buf (Elt F) ((c : Thread nD τ).loc b) :=
  if h : b = main_v0 then h ▸ fini m P c else m ((c : Thread nD τ).loc b)
theorem Y_v0 (c : Dev nD) : Y m P c main_v0 = fini m P c := by unfold Y; rw [dif_pos rfl]

theorem enter (c : Dev nD) : Pipeline.Ends spec0 osem {main_v0} c (V m c) ⊢ ΦN m P c 0 := by
  unfold Pipeline.Ends ΦN
  rw [Pipeline.routed_singleton, sems_eq, scopedRest0_eq, show stateAt (P c) c (m ((c : Thread nD τ).loc main_v0)) (finX (P c) (row m c)) 0 = mid (P c) c (m ((c : Thread nD τ).loc main_v0)) (finX (P c) (row m c)) 0 from if_pos (by omega)]
  unfold mid
  rw [xs_none c (finX (P c) (row m c)) (Q := fun r => (P c).ph r + 2 < 0) (fun r _ => by omega), ← xs_whole c (m ((c : Thread nD τ).loc main_v0)) (Q := fun r => 0 ≤ (P c).ph r) (fun r _ => by omega), ← zb_whole]
  unfold Sl free
  iintro ⟨HX, ⟨Hs0, Hs1, Hs2⟩, ⟨HB, HZ⟩, HP⟩
  ihave HB := (sb_slots c) $$ HB
  icases HB with ⟨HB0, HB1⟩
  isplitr [HP]
  · isplitl [Hs0 HB0]
    · isplitl [Hs0]; · iexact Hs0
      iexact HB0
    isplitl [Hs1 HB1]
    · isplitl [Hs1]; · iexact Hs1
      iexact HB1
    isplitl [HX]; · iexact HX
    isplitr [Hs2 HZ]; · iempintro
    isplitl [Hs2]; · iexact Hs2
    iexact HZ
  iexact HP
theorem leave (c : Dev nD) : ΦN m P c 65 ⊢ Pipeline.Ends spec0 osem {main_v0} c (Y m P c) := by
  unfold Pipeline.Ends ΦN
  rw [Pipeline.routed_singleton, sems_eq, scopedRest0_eq, Y_v0, show stateAt (P c) c (m ((c : Thread nD τ).loc main_v0)) (finX (P c) (row m c)) 65 = fin c (finX (P c) (row m c)) from if_neg (by omega)]
  unfold fin fini
  rw [← xs_whole c (finX (P c) (row m c)) (Q := fun r => True) (fun r _ => trivial), ← zb_whole]
  unfold free
  iintro ⟨⟨⟨Hs0, HB0⟩, ⟨Hs1, HB1⟩, HX, Hs2, HZ⟩, HP⟩
  isplitl [HX]; · iexact HX
  isplitl [Hs0 Hs1 Hs2]
  · isplitl [Hs0]; · iexact Hs0
    isplitl [Hs1]; · iexact Hs1
    iexact Hs2
  isplitr [HP]
  · isplitr [HZ]
    · iapply (sb_whole c)
      isplitl [HB0]; · iexact HB0
      iexact HB1
    iexact HZ
  iexact HP

/-! ## The run -/

theorem hmainC : Pipeline.HMain (Ix := Unit) (Name := ℕ) (U := Pipeline.UC sig nD τ) (Lvl := ℕ) cfgs 0 defs₀ 𝒱₀ m (main (F := F)) (V m) :=
  Pipeline.hmain_region cfgs 0 defs₀ 𝒱₀ m main fun c => (main_chain c).trans rfl

theorem N65 : cfg0.N = 65 := N_0
set_option backward.isDefEq.respectTransparency.types false in
/-- From any memory with zero counters whose routing has a plan: every weakly fair execution of @main on the TensorCores
    terminates, and every final state has the routed activations of the plan, the arguments unchanged and every semaphore counter at zero. -/
theorem run_main : θ_run defs (onTc (τ := τ) (main (F := F))) ⟨m, fun _ => 0, ρ⟩ (fun r => (∀ c : Dev nD,
    r.2.mem ((c.tc : Thread nD τ).loc main_v0) = fini m P c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
    ∧ r.2.sem = fun _ => 0) :=
  Pipeline.θ_run_frame_routed cfgs (dats m P) (0 : Fin 1) launch0 ownSemFacts defs₀ 𝒱₀ m ρ main
    (fun c => (body_obligation m P c).loose) (fun c => (dats m P 0 c).share_full fun _ => rfl)
    (fun _ _ => rfl) (V m) (hmainC m) (fun _ _ => rfl) {main_v0} (by decide) (Y m P)
    (fun c => enter m P c) (fun c => by
      rw [show (dats m P 0 c).Φ (Fin.last cfg0.N) = ΦN m P c 65 from congrArg (ΦN m P c) N65]; exact leave m P c)
    _ (fun r h => ⟨fun c => ⟨((h.1 c).2.1 main_v0 (by decide)).trans (Y_v0 m P c),
      ((h.1 c).1 0).trans ((dats m P 0 c).arrAt_in 0 rfl _),
      ((h.1 c).1 1).trans ((dats m P 0 c).arrAt_in 1 rfl _),
      ((h.1 c).1 2).trans ((dats m P 0 c).arrAt_in 2 rfl _),
      ((h.1 c).1 3).trans ((dats m P 0 c).arrAt_in 3 rfl _),
      ((h.1 c).1 4).trans ((dats m P 0 c).arrAt_in 4 rfl _),
      ((h.1 c).1 5).trans ((dats m P 0 c).arrAt_in 5 rfl _),
      ((h.1 c).1 6).trans ((dats m P 0 c).arrAt_in 6 rfl _),
      ((h.1 c).1 7).trans ((dats m P 0 c).arrAt_in 7 rfl _),
      ((h.1 c).1 8).trans ((dats m P 0 c).arrAt_in 8 rfl _),
      ((h.1 c).1 9).trans ((dats m P 0 c).arrAt_in 9 rfl _),
      ((h.1 c).1 10).trans ((dats m P 0 c).arrAt_in 10 rfl _)⟩, h.2⟩)

end Cert.Proof.Send

end
-- ==== Proof.Routed.lean ====
/- What the precondition says, in natural numbers. -/
module

public import proofs.«01_k».proof.Defs
public import proofs.«01_k».proof.Proof.Base
public import Idealize.ShloMosaic.Lib.ReduceAll
public import Idealize.ShloMosaic.Lib.Affine
public import Idealize.ShloMosaic.Lib.Routing.Ops

@[expose] public section

noncomputable section

namespace Cert.Proof.Send

open Cert.Pre_routed
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]
open Idealize.ShloMosaic.Routing

/-! ## Words -/

theorem and1 {s : Shape} {a b : IVec s 1} (h : andi a b = fun _ => 1#1) : a = (fun _ => 1#1) ∧ b = fun _ => 1#1 :=
  ⟨funext fun i => (IntOp.andi_eq_one.1 (congrFun h i)).1, funext fun i => (IntOp.andi_eq_one.1 (congrFun h i)).2⟩

theorem all1 {s t : Shape} {axes : List (Fin s.rank)} [Subsingleton t.Idx] {x : IVec s 1} {u : Shape} {init : IVec u 1} {h : s.ReducesTo axes t} {hu : 0 < u.numel} (j : t.Idx)
    (e : Host.reduce IntOp.andi x init h hu = fun _ => 1#1) (i : s.Idx) : x i = 1#1 :=
  Host.reduce_andi_all x init h hu j (congrFun e j) i

theorem nonneg {x : BitVec 32} (h : IntOp.cmpi .sge x 0#32 = 1#1) : x.toInt = x.toNat ∧ x.toNat < 2 ^ 31 := by
  have e := IntOp.cmpi_sge.1 h
  have : (0#32 : BitVec 32).toInt = 0 := by decide
  rw [this, BitVec.toInt_eq_toNat_cond] at e
  rw [BitVec.toInt_eq_toNat_cond]
  split at e <;> rename_i h2
  · rw [if_pos h2]; exact ⟨rfl, by omega⟩
  · have := x.isLt; omega

theorem toInt_small {n : ℕ} (h : n < 2 ^ 31) : (BitVec.ofNat 32 n).toInt = n ∧ (BitVec.ofNat 32 n).toNat = n := by
  have e : (BitVec.ofNat 32 n).toNat = n := by rw [BitVec.toNat_ofNat]; omega
  refine ⟨?_, e⟩
  rw [BitVec.toInt_eq_toNat_cond, e, if_pos (by omega)]

theorem le_of {x : BitVec 32} {n : ℕ} (h0 : IntOp.cmpi .sge x 0#32 = 1#1) (hn : n < 2 ^ 31) (h : IntOp.cmpi .sle x (BitVec.ofNat 32 n) = 1#1) : x.toNat ≤ n := by
  have e := IntOp.cmpi_sle.1 h
  rw [(nonneg h0).1, (toInt_small hn).1] at e
  omega

theorem lt_of {x : BitVec 32} {n : ℕ} (h0 : IntOp.cmpi .sge x 0#32 = 1#1) (hn : n < 2 ^ 31) (h : IntOp.cmpi .slt x (BitVec.ofNat 32 n) = 1#1) : x.toNat < n := by
  have e := IntOp.cmpi_slt.1 h
  rw [(nonneg h0).1, (toInt_small hn).1] at e
  omega

theorem dvd_of {x : BitVec 32} (h0 : IntOp.cmpi .sge x 0#32 = 1#1) (h : IntOp.cmpi .eq (IntOp.remsi .host x 16#32) 0#32 = 1#1) : 16 ∣ x.toNat :=
  (IntOp.remsi_eq_zero_iff .host (by have := (nonneg h0).2; omega) 16 (by norm_num) (by norm_num)).1 (IntOp.cmpi_eq.1 h)

theorem eq16 {x : BitVec 32} (h : 16 ∣ x.toNat) : x = BitVec.ofNat 32 (16 * (x.toNat / 16)) := by
  apply BitVec.eq_of_toNat_eq
  rw [Nat.mul_div_cancel' h, BitVec.toNat_ofNat, Nat.mod_eq_of_lt x.isLt]

theorem mul16 (k n : ℕ) : BitVec.ofNat 32 k * BitVec.ofNat 32 n = BitVec.ofNat 32 (k * n) := by
  apply BitVec.eq_of_toNat_eq
  simp [BitVec.toNat_mul, BitVec.toNat_ofNat, Nat.mul_mod]

theorem sum4 {a b c d : BitVec 32} {x y z w : ℕ} (h : IntOp.addi (IntOp.addi (IntOp.addi a b) c) d = 1#32) (ha : a = BitVec.ofNat 32 x) (hb : b = BitVec.ofNat 32 y)
    (hc : c = BitVec.ofNat 32 z) (hd : d = BitVec.ofNat 32 w) (hx : x ≤ 16384) (hy : y ≤ 128) (hz : z ≤ 64) (hw : w ≤ 1) : x + y + z + w = 1 := by
  subst ha hb hc hd
  have e := congrArg BitVec.toNat h
  simp only [IntOp.addi, BitVec.toNat_add, BitVec.toNat_ofNat] at e
  omega

theorem eq_nat {n k : ℕ} (hn : n < 2 ^ 32) (hk : k < 2 ^ 32) : BitVec.ofNat 32 n = BitVec.ofNat 32 k ↔ n = k := by
  refine ⟨fun h => ?_, fun h => by rw [h]⟩
  have := congrArg BitVec.toNat h
  simp only [BitVec.toNat_ofNat] at this
  omega

/-! ## The plan's arrays as numbers -/

variable (A0 A2 A3 : S64.Idx → BitVec 32) (A1 A4 : S1.Idx → BitVec 32) (A5 : S64x1x256.Idx → BitVec 32) (A6 : S1x1x128.Idx → BitVec 32)
variable (A7 : S8x16384.Idx → BitVec 32) (A8 : FVec F S16384x1024 .bf16) (A9 : S8x128.Idx → BitVec 32) (A10 : FVec F S128x1024 .bf16)

/-- The groups of 16 slots of tile `p` (the sample's tile is 64). -/
def tn (p : ℕ) : ℕ := if h : p < 64 then (A0 (ix1 (⟨p, h⟩ : Fin 64))).toNat / 16 else if p = 64 then (A1 (ix1 (0 : Fin 1))).toNat / 16 else 0
/-- The group of 16 rows the `j`-th group of tile `p` goes to. -/
def tg (p j : ℕ) : ℕ :=
  if h : p < 64 ∧ j < 256 then (A5 (ix3 (⟨p, h.1⟩ : Fin 64) (0 : Fin 1) (⟨j, h.2⟩ : Fin 256))).toNat / 16
  else if h : p = 64 ∧ j < 128 then (A6 (ix3 (0 : Fin 1) (0 : Fin 1) (⟨j, h.2⟩ : Fin 128))).toNat / 16 else 0
/-- The first group of expert `e`'s fill. -/
def tf (e : ℕ) : ℕ := if h : e < 64 then (A2 (ix1 (⟨e, h⟩ : Fin 64))).toNat / 16 else 0
/-- The groups of expert `e`'s fill. -/
def tk (e : ℕ) : ℕ := if h : e < 64 then (A3 (ix1 (⟨e, h⟩ : Fin 64))).toNat else 0

/-- The precondition in numbers. -/
structure Routed : Prop where
  cp : ∀ p : Fin 64, tn A0 A1 p ≤ 192 ∧ A0 (ix1 p) = BitVec.ofNat 32 (16 * tn A0 A1 p)
  cs : tn A0 A1 64 ≤ 128 ∧ A1 (ix1 (0 : Fin 1)) = BitVec.ofNat 32 (16 * tn A0 A1 64)
  gp : ∀ (p : Fin 64) (j : Fin 256), j.val < tn A0 A1 p → tg A5 A6 p j < 14208 ∧ A5 (ix3 p (0 : Fin 1) j) = BitVec.ofNat 32 (16 * tg A5 A6 p j)
  gs : ∀ j : Fin 128, j.val < tn A0 A1 64 → tg A5 A6 64 j < 14208 ∧ A6 (ix3 (0 : Fin 1) (0 : Fin 1) j) = BitVec.ofNat 32 (16 * tg A5 A6 64 j)
  fi : ∀ e : Fin 64, A2 (ix1 e) = BitVec.ofNat 32 (16 * tf A2 e) ∧ A3 (ix1 e) = BitVec.ofNat 32 (tk A3 e) ∧ tf A2 e + tk A3 e ≤ 14208
  f0 : tf A2 0 < 14208
  nr : (A4 (ix1 (0 : Fin 1))).toNat ≤ 444
  own : ∀ r, r < 14208 →
    Nat.count (fun q => q % 256 < tn A0 A1 (q / 256) ∧ tg A5 A6 (q / 256) (q % 256) = r) 16384
      + Nat.count (fun q => q < tn A0 A1 64 ∧ tg A5 A6 64 q = r) 128
      + Nat.count (fun e => tf A2 e ≤ r ∧ r < tf A2 e + tk A3 e) 64
      + (if 32 * (A4 (ix1 (0 : Fin 1))).toNat ≤ r then 1 else 0) = 1
  sp : ∀ (k : Fin 8) (t : Fin 16384), (A7 (ix2 k t)).toNat < 16 * tn A0 A1 (t.val / 256)
  ss : ∀ (k : Fin 8) (t : Fin 128), (A9 (ix2 k t)).toNat < 16 * tn A0 A1 64
  dp : ∀ (k k' : Fin 8) (t t' : Fin 16384), t.val / 256 = t'.val / 256 → A7 (ix2 k t) = A7 (ix2 k' t') → k = k' ∧ t = t'
  ds : ∀ (k k' : Fin 8) (t t' : Fin 128), A9 (ix2 k t) = A9 (ix2 k' t') → k = k' ∧ t = t'

theorem tn_lt {p : ℕ} (h : p < 64) : tn A0 A1 p = (A0 (ix1 (⟨p, h⟩ : Fin 64))).toNat / 16 := dif_pos h
theorem tn_64 : tn A0 A1 64 = (A1 (ix1 (0 : Fin 1))).toNat / 16 := by unfold tn; rw [dif_neg (by omega), if_pos rfl]
theorem tg_lt {p j : ℕ} (h : p < 64) (hj : j < 256) : tg A5 A6 p j = (A5 (ix3 (⟨p, h⟩ : Fin 64) (0 : Fin 1) (⟨j, hj⟩ : Fin 256))).toNat / 16 := dif_pos ⟨h, hj⟩
theorem tg_64 {j : ℕ} (hj : j < 128) : tg A5 A6 64 j = (A6 (ix3 (0 : Fin 1) (0 : Fin 1) (⟨j, hj⟩ : Fin 128))).toNat / 16 := by
  unfold tg; rw [dif_neg (by omega), dif_pos ⟨rfl, hj⟩]
theorem tf_lt {e : ℕ} (h : e < 64) : tf A2 e = (A2 (ix1 (⟨e, h⟩ : Fin 64))).toNat / 16 := dif_pos h
theorem tk_lt {e : ℕ} (h : e < 64) : tk A3 e = (A3 (ix1 (⟨e, h⟩ : Fin 64))).toNat := dif_pos h

instance : Subsingleton S_.Idx := ⟨fun a b => funext fun i => i.elim0⟩

variable {A0 A1 A2 A3 A4 A5 A6 A7 A8 A9 A10}

theorem live_iff {x : BitVec 32} {j : ℕ} (hj : j < 2 ^ 20) (hx : x.toNat < 2 ^ 31) (hd : 16 ∣ x.toNat) :
    IntOp.cmpi .slt (IntOp.muli 16#32 (BitVec.ofNat 32 j)) x = 1#1 ↔ j < x.toNat / 16 := by
  have e1 : IntOp.muli 16#32 (BitVec.ofNat 32 j) = BitVec.ofNat 32 (16 * j) := mul16 16 j
  have e2 : x.toInt = x.toNat := by rw [BitVec.toInt_eq_toNat_cond, if_pos (by omega)]
  rw [e1, IntOp.cmpi_slt, (toInt_small (by omega)).1, e2]
  omega

variable [Cert.Pre_routed.Facts]

theorem routed_of (H : fn (F := F) A0 A1 A2 A3 A4 A5 A6 A7 A8 A9 A10 = fun _ => 1#1) : Routed A0 A2 A3 A1 A4 A5 A6 A7 A9 := by
  obtain ⟨H, e195⟩ := and1 H
  obtain ⟨H, e182⟩ := and1 H
  obtain ⟨H, e162⟩ := and1 H
  obtain ⟨H, e154⟩ := and1 H
  obtain ⟨H, e145⟩ := and1 H
  obtain ⟨H, e141⟩ := and1 H
  obtain ⟨H, e134⟩ := and1 H
  obtain ⟨e129, e133⟩ := and1 e134
  obtain ⟨H, e125⟩ := and1 H
  obtain ⟨H, e107⟩ := and1 H
  obtain ⟨H, e93⟩ := and1 H
  obtain ⟨e68, e79⟩ := and1 H
  -- the covers
  have c0 : ∀ p : Fin 64, 16 ∣ (A0 (ix1 p)).toNat ∧ (A0 (ix1 p)).toNat ≤ 3072 := fun p => by
    have q : IntOp.andi (IntOp.andi (IntOp.cmpi .sge (A0 (ix1 p)) 0#32) (IntOp.cmpi .sle (A0 (ix1 p)) 3072#32)) (IntOp.cmpi .eq (IntOp.remsi .host (A0 (ix1 p)) 16#32) 0#32) = 1#1 :=
      all1 ix0 e68 (ix1 p)
    obtain ⟨q, q3⟩ := IntOp.andi_eq_one.1 q
    obtain ⟨q1, q2⟩ := IntOp.andi_eq_one.1 q
    exact ⟨dvd_of q1 q3, le_of q1 (by norm_num) q2⟩
  have c1 : 16 ∣ (A1 (ix1 (0 : Fin 1))).toNat ∧ (A1 (ix1 (0 : Fin 1))).toNat ≤ 2048 := by
    have q : IntOp.andi (IntOp.andi (IntOp.cmpi .sge (A1 (ix1 (0 : Fin 1))) 0#32) (IntOp.cmpi .sle (A1 (ix1 (0 : Fin 1))) 2048#32)) (IntOp.cmpi .eq (IntOp.remsi .host (A1 (ix1 (0 : Fin 1))) 16#32) 0#32) = 1#1 :=
      all1 ix0 e79 (ix1 (0 : Fin 1))
    obtain ⟨q, q3⟩ := IntOp.andi_eq_one.1 q
    obtain ⟨q1, q2⟩ := IntOp.andi_eq_one.1 q
    exact ⟨dvd_of q1 q3, le_of q1 (by norm_num) q2⟩
  have n0 : ∀ p : Fin 64, tn A0 A1 p = (A0 (ix1 p)).toNat / 16 := fun p => tn_lt A0 A1 p.isLt
  have n1 := tn_64 A0 A1
  -- the slot words of the two kinds of tile
  have v5 : ∀ (p : Fin 64) (j : Fin 256), (broadcastInDim S64x256 ![0, 1] Facts.bcast_S1x256_S64x256_0_1 (broadcastInDim S1x256 ![1] Facts.bcast_S256_S1x256_1 (muli (broadcastInDim S256 ![] Facts.bcast_S_S256 (constantI S_ 32 16#32)) (iotaInDim S256 32 0)))) (ix2 p j) = IntOp.muli 16#32 (BitVec.ofNat 32 j.val) :=
    fun p j => bcCols _ _ _ p j
  have v6 : ∀ (p : Fin 64) (j : Fin 256), (broadcastInDim S64x256 ![0, 1] Facts.bcast_S64x1_S64x256_0_1 (broadcastInDim S64x1 ![0] Facts.bcast_S64_S64x1_0 A0)) (ix2 p j) = A0 (ix1 p) :=
    fun p j => bcRows _ _ _ p j
  have v12 : ∀ (p : Fin 64) (j : Fin 256), shapeCast S64x256 A5 Facts.shapeCasts_S64x1x256_S64x256 (ix2 p j) = A5 (ix3 p (0 : Fin 1) j) := fun p j => by
    refine shapeCast_apply _ _ _ _ ?_
    rw [Shape.rowMajor_val_three, Shape.rowMajor_val_two]
    show (p.val * 1 + 0) * 256 + j.val = p.val * 256 + j.val
    omega
  have v15 : ∀ j : Fin 128, shapeCast S128 A6 Facts.shapeCasts_S1x1x128_S128 (ix1 j) = A6 (ix3 (0 : Fin 1) (0 : Fin 1) j) := fun j => by
    refine shapeCast_apply _ _ _ _ ?_
    rw [Shape.rowMajor_val_three, Shape.rowMajor_val_one]
    show (0 * 1 + 0) * 128 + j.val = j.val
    omega
  have v9 : shapeCast S_ A1 Facts.shapeCasts_S1_S_ ix0 = A1 (ix1 (0 : Fin 1)) := by
    refine shapeCast_apply _ _ _ _ ?_
    rw [Shape.rowMajor_val_one]
    show (0 : ℕ) = _
    exact (Nat.lt_one_iff.1 (Fin.isLt (S_.rowMajor ix0))).symm
  have v8 : ∀ j : Fin 128, extractStridedSlice S128 ![0] (muli (broadcastInDim S256 ![] Facts.bcast_S_S256 (constantI S_ 32 16#32)) (iotaInDim S256 32 0)) Facts.slices_S256_S128_0 (ix1 j) = IntOp.muli 16#32 (BitVec.ofNat 32 j.val) := fun j => by
    refine (slice1 0 _ _ j (by omega)).trans ?_
    show IntOp.muli 16#32 (BitVec.ofNat 32 (0 + j.val)) = _
    rw [Nat.zero_add]
  have lp : ∀ (p : Fin 64) (j : Fin 256), IntOp.cmpi .slt (IntOp.muli 16#32 (BitVec.ofNat 32 j.val)) (A0 (ix1 p)) = 1#1 ↔ j.val < tn A0 A1 p := fun p j => by
    rw [n0, live_iff (by omega) (by have := (c0 p).2; omega) (c0 p).1]
  have ls : ∀ j : Fin 128, IntOp.cmpi .slt (IntOp.muli 16#32 (BitVec.ofNat 32 j.val)) (A1 (ix1 (0 : Fin 1))) = 1#1 ↔ j.val < tn A0 A1 64 := fun j => by
    rw [n1, live_iff (by omega) (by have := c1.2; omega) c1.1]
  -- the places of the groups
  have g0 : ∀ (p : Fin 64) (j : Fin 256), j.val < tn A0 A1 p → tg A5 A6 p j < 14208 ∧ A5 (ix3 p (0 : Fin 1) j) = BitVec.ofNat 32 (16 * tg A5 A6 p j) := fun p j hj => by
    have q : Scalar.select (IntOp.cmpi .slt ((broadcastInDim S64x256 ![0, 1] Facts.bcast_S1x256_S64x256_0_1 (broadcastInDim S1x256 ![1] Facts.bcast_S256_S1x256_1 (muli (broadcastInDim S256 ![] Facts.bcast_S_S256 (constantI S_ 32 16#32)) (iotaInDim S256 32 0)))) (ix2 p j))
          ((broadcastInDim S64x256 ![0, 1] Facts.bcast_S64x1_S64x256_0_1 (broadcastInDim S64x1 ![0] Facts.bcast_S64_S64x1_0 A0)) (ix2 p j)))
        (IntOp.andi (IntOp.andi (IntOp.cmpi .sge (shapeCast S64x256 A5 Facts.shapeCasts_S64x1x256_S64x256 (ix2 p j)) 0#32) (IntOp.cmpi .slt (shapeCast S64x256 A5 Facts.shapeCasts_S64x1x256_S64x256 (ix2 p j)) 227328#32)) (IntOp.cmpi .eq (IntOp.remsi .host (shapeCast S64x256 A5 Facts.shapeCasts_S64x1x256_S64x256 (ix2 p j)) 16#32) 0#32)) 1#1 = 1#1 :=
      all1 ix0 e93 (ix2 p j)
    rw [v5, v6, v12, (lp p j).2 hj] at q
    obtain ⟨q, q3⟩ := IntOp.andi_eq_one.1 q
    obtain ⟨q1, q2⟩ := IntOp.andi_eq_one.1 q
    have d := dvd_of q1 q3
    have l := lt_of q1 (by norm_num) q2
    rw [tg_lt A5 A6 p.isLt j.isLt]
    exact ⟨by show (A5 (ix3 p (0 : Fin 1) j)).toNat / 16 < _; omega, eq16 d⟩
  have g1 : ∀ j : Fin 128, j.val < tn A0 A1 64 → tg A5 A6 64 j < 14208 ∧ A6 (ix3 (0 : Fin 1) (0 : Fin 1) j) = BitVec.ofNat 32 (16 * tg A5 A6 64 j) := fun j hj => by
    have q : Scalar.select (IntOp.cmpi .slt (extractStridedSlice S128 ![0] (muli (broadcastInDim S256 ![] Facts.bcast_S_S256 (constantI S_ 32 16#32)) (iotaInDim S256 32 0)) Facts.slices_S256_S128_0 (ix1 j))
          (broadcastInDim S128 ![] Facts.bcast_S_S128 (shapeCast S_ A1 Facts.shapeCasts_S1_S_) (ix1 j)))
        (IntOp.andi (IntOp.andi (IntOp.cmpi .sge (shapeCast S128 A6 Facts.shapeCasts_S1x1x128_S128 (ix1 j)) 0#32) (IntOp.cmpi .slt (shapeCast S128 A6 Facts.shapeCasts_S1x1x128_S128 (ix1 j)) 227328#32)) (IntOp.cmpi .eq (IntOp.remsi .host (shapeCast S128 A6 Facts.shapeCasts_S1x1x128_S128 (ix1 j)) 16#32) 0#32)) 1#1 = 1#1 :=
      all1 ix0 e107 (ix1 j)
    rw [v8, bc0, v9, v15, (ls j).2 hj] at q
    obtain ⟨q, q3⟩ := IntOp.andi_eq_one.1 q
    obtain ⟨q1, q2⟩ := IntOp.andi_eq_one.1 q
    have d := dvd_of q1 q3
    have l := lt_of q1 (by norm_num) q2
    rw [tg_64 A5 A6 j.isLt]
    exact ⟨by show (A6 (ix3 (0 : Fin 1) (0 : Fin 1) j)).toNat / 16 < _; omega, eq16 d⟩
  -- the fills
  have f1 : ∀ e : Fin 64, 16 ∣ (A2 (ix1 e)).toNat ∧ (A2 (ix1 e)).toNat ≤ 227328 ∧ (A3 (ix1 e)).toNat ≤ 14208 ∧ (A2 (ix1 e)).toNat + 16 * (A3 (ix1 e)).toNat ≤ 227328 := fun e => by
    have q : IntOp.andi (IntOp.andi (IntOp.andi (IntOp.andi (IntOp.cmpi .sge (A2 (ix1 e)) 0#32) (IntOp.cmpi .sle (A2 (ix1 e)) 227328#32)) (IntOp.cmpi .eq (IntOp.remsi .host (A2 (ix1 e)) 16#32) 0#32)) (IntOp.cmpi .sge (A3 (ix1 e)) 0#32)) (IntOp.cmpi .sle (A3 (ix1 e)) 14208#32) = 1#1 :=
      all1 ix0 e125 (ix1 e)
    obtain ⟨q, q5⟩ := IntOp.andi_eq_one.1 q
    obtain ⟨q, q4⟩ := IntOp.andi_eq_one.1 q
    obtain ⟨q, q3⟩ := IntOp.andi_eq_one.1 q
    obtain ⟨q1, q2⟩ := IntOp.andi_eq_one.1 q
    have d := dvd_of q1 q3
    have l2 := le_of q1 (by norm_num) q2
    have l3 := le_of q4 (by norm_num) q5
    have q : IntOp.cmpi .sle (A2 (ix1 e) + 16#32 * A3 (ix1 e)) 227328#32 = 1#1 := all1 ix0 e129 (ix1 e)
    have e0 : (A2 (ix1 e) + 16#32 * A3 (ix1 e)).toNat = (A2 (ix1 e)).toNat + 16 * (A3 (ix1 e)).toNat := by
      rw [BitVec.toNat_add, BitVec.toNat_mul]
      show ((A2 (ix1 e)).toNat + (16 * (A3 (ix1 e)).toNat) % 2 ^ 32) % 2 ^ 32 = _
      omega
    have e1 := IntOp.cmpi_sle.1 q
    rw [BitVec.toInt_eq_toNat_cond, e0, if_pos (by omega)] at e1
    have e2 : (227328#32 : BitVec 32).toInt = 227328 := by decide
    rw [e2] at e1
    exact ⟨d, l2, l3, by omega⟩
  have f2 : ∀ e : Fin 64, tf A2 e = (A2 (ix1 e)).toNat / 16 := fun e => tf_lt A2 e.isLt
  have f3 : ∀ e : Fin 64, tk A3 e = (A3 (ix1 e)).toNat := fun e => tk_lt A3 e.isLt
  have r0 : (A4 (ix1 (0 : Fin 1))).toNat ≤ 444 := by
    have q : IntOp.andi (IntOp.cmpi .sge (A4 (ix1 (0 : Fin 1))) 0#32) (IntOp.cmpi .sle (A4 (ix1 (0 : Fin 1))) 444#32) = 1#1 := all1 ix0 e141 (ix1 (0 : Fin 1))
    obtain ⟨q1, q2⟩ := IntOp.andi_eq_one.1 q
    exact le_of q1 (by norm_num) q2
  have cas : ∀ (k : Fin 8) (p : Fin 64) (t : Fin 256) (h : p.val * 256 + t.val < 16384),
      shapeCast S8x64x256 A7 Facts.shapeCasts_S8x16384_S8x64x256 (ix3 k p t) = A7 (ix2 k (⟨p.val * 256 + t.val, h⟩ : Fin 16384)) := fun k p t h => by
    refine shapeCast_apply _ _ _ _ ?_
    rw [Shape.rowMajor_val_three, Shape.rowMajor_val_two]
    show k.val * 16384 + (p.val * 256 + t.val) = (k.val * 64 + p.val) * 256 + t.val
    omega
  have back : ∀ t : Fin 16384, ∃ (p : Fin 64) (j : Fin 256), p.val = t.val / 256 ∧ j.val = t.val % 256 := fun t =>
    ⟨⟨t.val / 256, by omega⟩, ⟨t.val % 256, by omega⟩, rfl, rfl⟩
  refine ⟨fun p => ⟨by rw [n0]; have := (c0 p).2; omega, by rw [n0]; exact eq16 (c0 p).1⟩, ⟨by rw [n1]; have := c1.2; omega, by rw [n1]; exact eq16 c1.1⟩, g0, g1,
    fun e => ⟨by rw [f2]; exact eq16 (f1 e).1, by rw [f3]; exact (BitVec.ofNat_toNat 32 _ |>.trans (BitVec.setWidth_eq _)).symm, by rw [f2, f3]; have := f1 e; omega⟩, ?_, r0, ?_, ?_, ?_, ?_, ?_⟩
  · have q : IntOp.cmpi .slt (extractStridedSlice S1 ![0] A2 Facts.slices_S64_S1_0 (ix1 (0 : Fin 1))) 227328#32 = 1#1 := all1 ix0 e133 (ix1 (0 : Fin 1))
    rw [show extractStridedSlice S1 ![0] A2 Facts.slices_S64_S1_0 (ix1 (0 : Fin 1)) = A2 (ix1 (0 : Fin 64)) from slice1 0 _ _ (0 : Fin 1) (by norm_num)] at q
    have e1 := IntOp.cmpi_slt.1 q
    have f := f1 (0 : Fin 64)
    rw [BitVec.toInt_eq_toNat_cond, if_pos (by omega)] at e1
    have e2 : (227328#32 : BitVec 32).toInt = 227328 := by decide
    rw [e2] at e1
    have := f2 (0 : Fin 64)
    show tf A2 0 < 14208
    rw [show tf A2 0 = (A2 (ix1 (0 : Fin 64))).toNat / 16 from this]
    omega
  · intro r hr
    have q := IntOp.cmpi_eq.1 (all1 ix0 e145 (ix1 (⟨r, hr⟩ : Fin 14208)))
    have rr : IntOp.muli 16#32 (BitVec.ofNat 32 r) = BitVec.ofNat 32 (16 * r) := mul16 16 r
    have mo : BitVec.ofNat 32 (16 * r) ≠ 4294967295#32 := fun h => by
      have := congrArg BitVec.toNat h
      simp only [BitVec.toNat_ofNat] at this
      omega
    refine sum4 q (reduce_count (by norm_num) _ _ _ _ (⟨r, hr⟩ : Fin 14208) _ fun q => ?_) (reduce_count (by norm_num) _ _ _ _ (⟨r, hr⟩ : Fin 14208) _ fun q => ?_)
      (reduce_count (by norm_num) _ _ _ _ (⟨r, hr⟩ : Fin 14208) _ fun e => ?_) ?_ (Nat.count_le _) (Nat.count_le _) (Nat.count_le _) (by split <;> omega)
    · obtain ⟨p, j, hp, hj⟩ := back q
      refine IntOp.cmpi_eq.trans ?_
      rw [bcRows, bcCols, cast21 _ _ p j q (by omega)]
      change IntOp.muli 16#32 (BitVec.ofNat 32 r) = Scalar.select (IntOp.cmpi .slt ((broadcastInDim S64x256 ![0, 1] Facts.bcast_S1x256_S64x256_0_1 (broadcastInDim S1x256 ![1] Facts.bcast_S256_S1x256_1 (muli (broadcastInDim S256 ![] Facts.bcast_S_S256 (constantI S_ 32 16#32)) (iotaInDim S256 32 0)))) (ix2 p j))
          ((broadcastInDim S64x256 ![0, 1] Facts.bcast_S64x1_S64x256_0_1 (broadcastInDim S64x1 ![0] Facts.bcast_S64_S64x1_0 A0)) (ix2 p j)))
        (shapeCast S64x256 A5 Facts.shapeCasts_S64x1x256_S64x256 (ix2 p j)) 4294967295#32 ↔ _
      rw [v5, v6, v12, rr, ← hp, ← hj]
      unfold Scalar.select
      split_ifs with hc
      · have hl := (lp p j).1 hc
        rw [(g0 p j hl).2, eq_nat (by omega) (by have := (g0 p j hl).1; omega)]
        exact ⟨fun h => ⟨hl, by omega⟩, fun h => by omega⟩
      · exact ⟨fun h => absurd h mo, fun h => absurd ((lp p j).2 h.1) hc⟩
    · refine IntOp.cmpi_eq.trans ?_
      rw [bcRows, bcCols]
      change IntOp.muli 16#32 (BitVec.ofNat 32 r) = Scalar.select (IntOp.cmpi .slt (extractStridedSlice S128 ![0] (muli (broadcastInDim S256 ![] Facts.bcast_S_S256 (constantI S_ 32 16#32)) (iotaInDim S256 32 0)) Facts.slices_S256_S128_0 (ix1 q))
          (broadcastInDim S128 ![] Facts.bcast_S_S128 (shapeCast S_ A1 Facts.shapeCasts_S1_S_) (ix1 q)))
        (shapeCast S128 A6 Facts.shapeCasts_S1x1x128_S128 (ix1 q)) 4294967295#32 ↔ _
      rw [v8, bc0, v9, v15, rr]
      unfold Scalar.select
      split_ifs with hc
      · have hl := (ls q).1 hc
        rw [(g1 q hl).2, eq_nat (by omega) (by have := (g1 q hl).1; omega)]
        exact ⟨fun h => ⟨hl, by omega⟩, fun h => by omega⟩
      · exact ⟨fun h => absurd h mo, fun h => absurd ((ls q).2 h.1) hc⟩
    · refine IntOp.andi_eq_one.trans (and_congr (IntOp.cmpi_sle.trans ?_) (IntOp.cmpi_slt.trans ?_))
      · rw [bcRows, bcCols]
        change (A2 (ix1 e)).toInt ≤ (IntOp.muli 16#32 (BitVec.ofNat 32 r)).toInt ↔ _
        have f := f1 e
        rw [rr, (toInt_small (by omega)).1, BitVec.toInt_eq_toNat_cond, if_pos (by omega), f2]
        omega
      · rw [bcRows, bcCols]
        change (IntOp.muli 16#32 (BitVec.ofNat 32 r)).toInt < (A2 (ix1 e) + 16#32 * A3 (ix1 e)).toInt ↔ _
        have f := f1 e
        have e0 : (A2 (ix1 e) + 16#32 * A3 (ix1 e)).toNat = (A2 (ix1 e)).toNat + 16 * (A3 (ix1 e)).toNat := by
          rw [BitVec.toNat_add, BitVec.toNat_mul]
          show ((A2 (ix1 e)).toNat + (16 * (A3 (ix1 e)).toNat) % 2 ^ 32) % 2 ^ 32 = _
          omega
        rw [rr, (toInt_small (by omega)).1, BitVec.toInt_eq_toNat_cond, e0, if_pos (by omega), f2, f3]
        omega
    · have hb : broadcastInDim S14208 ![0] Facts.bcast_S1_S14208_0 (muli (broadcastInDim S1 ![] Facts.bcast_S_S1 (constantI S_ 32 512#32)) A4) (ix1 (⟨r, hr⟩ : Fin 14208)) = 512#32 * A4 (ix1 (0 : Fin 1)) :=
        broadcastInDim_apply _ _ _ _ (ix1 (0 : Fin 1)) (fun a => match a with | ⟨0, _⟩ => rfl)
      change (IntOp.cmpi .sle (broadcastInDim S14208 ![0] Facts.bcast_S1_S14208_0 (muli (broadcastInDim S1 ![] Facts.bcast_S_S1 (constantI S_ 32 512#32)) A4) (ix1 (⟨r, hr⟩ : Fin 14208))) (IntOp.muli 16#32 (BitVec.ofNat 32 r))).setWidth 32 = _
      rw [hb, rr]
      have e0 : (512#32 * A4 (ix1 (0 : Fin 1))).toNat = 512 * (A4 (ix1 (0 : Fin 1))).toNat := by
        rw [BitVec.toNat_mul]
        show (512 * (A4 (ix1 (0 : Fin 1))).toNat) % 2 ^ 32 = _
        omega
      have ei : IntOp.cmpi .sle (512#32 * A4 (ix1 (0 : Fin 1))) (BitVec.ofNat 32 (16 * r)) = 1#1 ↔ 32 * (A4 (ix1 (0 : Fin 1))).toNat ≤ r := by
        rw [IntOp.cmpi_sle, (toInt_small (by omega)).1, BitVec.toInt_eq_toNat_cond, e0, if_pos (by omega)]
        omega
      by_cases hc : 32 * (A4 (ix1 (0 : Fin 1))).toNat ≤ r
      · rw [if_pos hc, ei.2 hc]; rfl
      · rw [if_neg hc, BitVec.eq_zero_or_eq_one _ |>.resolve_right (fun h => hc (ei.1 h))]; rfl
  · intro k t
    obtain ⟨p, j, hp, hj⟩ := back t
    have ht : (⟨p.val * 256 + j.val, by omega⟩ : Fin 16384) = t := Fin.ext (by show p.val * 256 + j.val = t.val; omega)
    have q : IntOp.andi (IntOp.cmpi .sge (shapeCast S8x64x256 A7 Facts.shapeCasts_S8x16384_S8x64x256 (ix3 k p j)) 0#32)
        (IntOp.cmpi .slt (shapeCast S8x64x256 A7 Facts.shapeCasts_S8x16384_S8x64x256 (ix3 k p j)) (broadcastInDim S8x64x256 ![0, 1, 2] Facts.bcast_S1x64x1_S8x64x256_0_1_2 (broadcastInDim S1x64x1 ![1] Facts.bcast_S64_S1x64x1_1 A0) (ix3 k p j))) = 1#1 := all1 ix0 e154 (ix3 k p j)
    have b : broadcastInDim S8x64x256 ![0, 1, 2] Facts.bcast_S1x64x1_S8x64x256_0_1_2 (broadcastInDim S1x64x1 ![1] Facts.bcast_S64_S1x64x1_1 A0) (ix3 k p j) = A0 (ix1 p) :=
      (broadcastInDim_apply _ _ _ _ (ix3 (0 : Fin 1) p (0 : Fin 1)) (fun a => match a with | ⟨0, _⟩ => rfl | ⟨1, _⟩ => rfl | ⟨2, _⟩ => rfl)).trans
        (broadcastInDim_apply _ _ _ _ (ix1 p) (fun a => match a with | ⟨0, _⟩ => rfl))
    rw [cas k p j (by omega), b, ht, eq16 (c0 p).1] at q
    obtain ⟨q1, q2⟩ := IntOp.andi_eq_one.1 q
    have := lt_of q1 (by have := (c0 p).2; omega) q2
    rw [← hp, n0]; exact this
  · intro k t
    have q : IntOp.andi (IntOp.cmpi .sge (A9 (ix2 k t)) 0#32) (IntOp.cmpi .slt (A9 (ix2 k t)) (broadcastInDim S8x128 ![] Facts.bcast_S_S8x128 (shapeCast S_ A1 Facts.shapeCasts_S1_S_) (ix2 k t))) = 1#1 := all1 ix0 e162 (ix2 k t)
    rw [bc0, v9, eq16 c1.1] at q
    obtain ⟨q1, q2⟩ := IntOp.andi_eq_one.1 q
    have := lt_of q1 (by have := c1.2; omega) q2
    rw [n1]; exact this
  · intro k k' t t' htt hA
    obtain ⟨p, j, hp, hj⟩ := back t
    obtain ⟨p', j', hp', hj'⟩ := back t'
    obtain rfl : p = p' := Fin.ext (by omega)
    have ht : (⟨p.val * 256 + j.val, by omega⟩ : Fin 16384) = t := Fin.ext (by show p.val * 256 + j.val = t.val; omega)
    have ht' : (⟨p.val * 256 + j'.val, by omega⟩ : Fin 16384) = t' := Fin.ext (by show p.val * 256 + j'.val = t'.val; omega)
    have sl : ∀ (k : Fin 8) (p : Fin 64) (j : Fin 256), shapeCast S64x2048 (transpose S64x8x256 [1, 0, 2] (shapeCast S8x64x256 A7 Facts.shapeCasts_S8x16384_S8x64x256) Facts.transposes_S8x64x256_S64x8x256_1_0_2) Facts.shapeCasts_S64x8x256_S64x2048
        (ix2 p (⟨k.val * 256 + j.val, by omega⟩ : Fin 2048)) = A7 (ix2 k (⟨p.val * 256 + j.val, by omega⟩ : Fin 16384)) := fun k p j => by
      refine (shapeCast_apply _ _ _ (ix3 p k j) ?_).trans ((transpose_apply _ _ _ _ (ix3 k p j) (fun b => match b with | ⟨0, _⟩ => rfl | ⟨1, _⟩ => rfl | ⟨2, _⟩ => rfl)).trans (cas k p j (by omega)))
      rw [Shape.rowMajor_val_three, Shape.rowMajor_val_two]
      show (p.val * 8 + k.val) * 256 + j.val = p.val * 2048 + (k.val * 256 + j.val)
      omega
    rcases IntOp.ori_eq_one.1 (all1 ix0 e182 (ix3 p (⟨k.val * 256 + j.val, by omega⟩ : Fin 2048) (⟨k'.val * 256 + j'.val, by omega⟩ : Fin 2048))) with q | q
    · exfalso
      refine IntOp.cmpi_ne.1 q ?_
      refine ((broadcastInDim_apply _ _ _ _ (ix3 p (⟨k.val * 256 + j.val, by omega⟩ : Fin 2048) (0 : Fin 1)) (fun a => match a with | ⟨0, _⟩ => rfl | ⟨1, _⟩ => rfl | ⟨2, _⟩ => rfl)).trans
        (broadcastInDim_apply _ _ _ _ (ix2 p (⟨k.val * 256 + j.val, by omega⟩ : Fin 2048)) (fun a => match a with | ⟨0, _⟩ => rfl | ⟨1, _⟩ => rfl))).trans ?_
      refine Eq.trans ?_ ((broadcastInDim_apply _ _ _ _ (ix3 p (0 : Fin 1) (⟨k'.val * 256 + j'.val, by omega⟩ : Fin 2048)) (fun a => match a with | ⟨0, _⟩ => rfl | ⟨1, _⟩ => rfl | ⟨2, _⟩ => rfl)).trans
        (broadcastInDim_apply _ _ _ _ (ix2 p (⟨k'.val * 256 + j'.val, by omega⟩ : Fin 2048)) (fun a => match a with | ⟨0, _⟩ => rfl | ⟨1, _⟩ => rfl))).symm
      rw [sl, sl, ht, ht', hA]
    · have r1 : BitVec.ofNat 32 (k.val * 256 + j.val) = BitVec.ofNat 32 (k'.val * 256 + j'.val) := by
        rw [broadcastInDim_apply _ _ _ _ (ix3 (0 : Fin 1) (⟨k.val * 256 + j.val, by omega⟩ : Fin 2048) (⟨k'.val * 256 + j'.val, by omega⟩ : Fin 2048)) (fun a => match a with | ⟨0, _⟩ => rfl | ⟨1, _⟩ => rfl | ⟨2, _⟩ => rfl),
          broadcastInDim_apply _ _ _ _ (ix2 (⟨k.val * 256 + j.val, by omega⟩ : Fin 2048) (⟨k'.val * 256 + j'.val, by omega⟩ : Fin 2048)) (fun a => match a with | ⟨0, _⟩ => rfl | ⟨1, _⟩ => rfl)] at q
        have r2 := IntOp.cmpi_eq.1 q
        rw [bcRows, bcCols] at r2
        exact r2
      have s1 := (eq_nat (by omega) (by omega)).1 r1
      exact ⟨Fin.ext (by omega), Fin.ext (by omega)⟩
  · intro k k' j j' hA
    have sl : ∀ (k : Fin 8) (j : Fin 128), shapeCast S1024 A9 Facts.shapeCasts_S8x128_S1024 (ix1 (⟨k.val * 128 + j.val, by omega⟩ : Fin 1024)) = A9 (ix2 k j) := fun k j =>
      cast21 _ _ k j _ rfl
    rcases IntOp.ori_eq_one.1 (all1 ix0 e195 (ix2 (⟨k.val * 128 + j.val, by omega⟩ : Fin 1024) (⟨k'.val * 128 + j'.val, by omega⟩ : Fin 1024))) with q | q
    · exfalso
      have q := IntOp.cmpi_ne.1 q
      rw [bcRows, bcCols, sl, sl] at q
      exact q hA
    · have q := IntOp.cmpi_eq.1 q
      rw [bcRows, bcCols] at q
      have r1 : BitVec.ofNat 32 (k.val * 128 + j.val) = BitVec.ofNat 32 (k'.val * 128 + j'.val) := q
      have s1 := (eq_nat (by omega) (by omega)).1 r1
      exact ⟨Fin.ext (by omega), Fin.ext (by omega)⟩

end Cert.Proof.Send

end
-- ==== Proof.Plans.lean ====
/- A plan from the numbers of the precondition: each group of 16 rows has one owner. -/
module

public import proofs.«01_k».proof.Proof.Run
public import proofs.«01_k».proof.Proof.Routed

@[expose] public section

noncomputable section

namespace Cert.Proof.Send

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Counting -/

section
variable {Q : ℕ → Prop} [DecidablePred Q]

theorem cnt_pos {N q : ℕ} (hq : q < N) (h : Q q) : 1 ≤ Nat.count Q N := by
  rw [Nat.count_eq_card_filter_range]
  exact Finset.card_pos.2 ⟨q, Finset.mem_filter.2 ⟨Finset.mem_range.2 hq, h⟩⟩

theorem cnt_two {N q q' : ℕ} (hq : q < N) (h : Q q) (hq' : q' < N) (h' : Q q') (hc : Nat.count Q N ≤ 1) : q = q' := by
  rw [Nat.count_eq_card_filter_range] at hc
  exact Finset.card_le_one.1 hc q (Finset.mem_filter.2 ⟨Finset.mem_range.2 hq, h⟩) q' (Finset.mem_filter.2 ⟨Finset.mem_range.2 hq', h'⟩)

theorem cnt_ex {N : ℕ} (h : 1 ≤ Nat.count Q N) : ∃ q, q < N ∧ Q q := by
  rw [Nat.count_eq_card_filter_range] at h
  obtain ⟨q, hq⟩ := Finset.card_pos.1 h
  exact ⟨q, Finset.mem_range.1 (Finset.mem_filter.1 hq).1, (Finset.mem_filter.1 hq).2⟩
end

/-- One owner: the tile and place of the group, or a fill, or the blocks past the real ones. -/
theorem owner {n : ℕ → ℕ} {G : ℕ → ℕ → ℕ} {f k : ℕ → ℕ} {r : ℕ} {t : Prop} [Decidable t] (hn : ∀ p, n p ≤ 192) (hs : n 64 ≤ 128)
    (h : Nat.count (fun q => q % 256 < n (q / 256) ∧ G (q / 256) (q % 256) = r) 16384 + Nat.count (fun q => q < n 64 ∧ G 64 q = r) 128
      + Nat.count (fun e => f e ≤ r ∧ r < f e + k e) 64 + (if t then 1 else 0) = 1) :
    ∃ p j, p ≤ 66 ∧ (p ≤ 64 → j < n p ∧ G p j = r) ∧ (∀ p' j', p' ≤ 64 → j' < n p' → G p' j' = r → p' = p ∧ j' = j)
      ∧ (p = 65 ↔ ∃ e, e < 64 ∧ f e ≤ r ∧ r < f e + k e) ∧ (p = 66 ↔ t)
      ∧ ∀ e e', e < 64 → e' < 64 → f e ≤ r ∧ r < f e + k e → f e' ≤ r ∧ r < f e' + k e' → e = e' := by
  have A : ∀ p' j', p' < 64 → j' < n p' → G p' j' = r → (256 * p' + j') < 16384 ∧ ((256 * p' + j') % 256 < n ((256 * p' + j') / 256) ∧ G ((256 * p' + j') / 256) ((256 * p' + j') % 256) = r) := by
    intro p' j' hp hj hG
    have := hn p'
    rw [show (256 * p' + j') % 256 = j' by omega, show (256 * p' + j') / 256 = p' by omega]
    exact ⟨by omega, hj, hG⟩
  have uf : ∀ e e', e < 64 → e' < 64 → f e ≤ r ∧ r < f e + k e → f e' ≤ r ∧ r < f e' + k e' → e = e' := fun e e' he he' q q' =>
    cnt_two (Q := fun e => f e ≤ r ∧ r < f e + k e) he q he' q' (by omega)
  have nf : (∃ e, e < 64 ∧ f e ≤ r ∧ r < f e + k e) → 1 ≤ Nat.count (fun e => f e ≤ r ∧ r < f e + k e) 64 := fun ⟨e, he, q⟩ => cnt_pos he q
  have nt : t → (if t then 1 else 0) = 1 := fun h => if_pos h
  by_cases ha : 1 ≤ Nat.count (fun q => q % 256 < n (q / 256) ∧ G (q / 256) (q % 256) = r) 16384
  · obtain ⟨q, hq, hq1, hq2⟩ := cnt_ex ha
    refine ⟨q / 256, q % 256, by omega, fun _ => ⟨hq1, hq2⟩, ?_, ⟨fun e => by omega, fun e => by have := nf e; omega⟩, ⟨fun e => by omega, fun e => by have := nt e; omega⟩, uf⟩
    intro p' j' hp hj hG
    rcases Nat.lt_or_ge p' 64 with h64 | h64
    · obtain ⟨hb, hc⟩ := A p' j' h64 hj hG
      have := hn p'
      have e := cnt_two (Q := fun q => q % 256 < n (q / 256) ∧ G (q / 256) (q % 256) = r) hb hc hq ⟨hq1, hq2⟩ (by omega)
      omega
    · obtain rfl : p' = 64 := by omega
      have := cnt_pos (Q := fun q => q < n 64 ∧ G 64 q = r) (N := 128) (q := j') (by omega) ⟨hj, hG⟩
      omega
  · have na : ∀ p' j', p' < 64 → j' < n p' → G p' j' = r → False := fun p' j' hp hj hG => by
      obtain ⟨hb, hc⟩ := A p' j' hp hj hG
      exact ha (cnt_pos (Q := fun q => q % 256 < n (q / 256) ∧ G (q / 256) (q % 256) = r) hb hc)
    by_cases hb : 1 ≤ Nat.count (fun q => q < n 64 ∧ G 64 q = r) 128
    · obtain ⟨q, hq, hq1, hq2⟩ := cnt_ex hb
      refine ⟨64, q, by omega, fun _ => ⟨hq1, hq2⟩, ?_, ⟨fun e => by omega, fun e => by have := nf e; omega⟩, ⟨fun e => by omega, fun e => by have := nt e; omega⟩, uf⟩
      intro p' j' hp hj hG
      rcases Nat.lt_or_ge p' 64 with h64 | h64
      · exact (na p' j' h64 hj hG).elim
      · obtain rfl : p' = 64 := by omega
        exact ⟨rfl, cnt_two (Q := fun q => q < n 64 ∧ G 64 q = r) (N := 128) (by omega) ⟨hj, hG⟩ hq ⟨hq1, hq2⟩ (by omega)⟩
    · have nb : ∀ p' j', p' ≤ 64 → j' < n p' → G p' j' = r → False := fun p' j' hp hj hG => by
        rcases Nat.lt_or_ge p' 64 with h64 | h64
        · exact na p' j' h64 hj hG
        · obtain rfl : p' = 64 := by omega
          exact hb (cnt_pos (Q := fun q => q < n 64 ∧ G 64 q = r) (N := 128) (q := j') (by omega) ⟨hj, hG⟩)
      by_cases hf : 1 ≤ Nat.count (fun e => f e ≤ r ∧ r < f e + k e) 64
      · obtain ⟨e, he, hq⟩ := cnt_ex hf
        exact ⟨65, 0, by omega, fun h => by omega, fun p' j' hp hj hG => (nb p' j' hp hj hG).elim, ⟨fun _ => ⟨e, he, hq⟩, fun _ => rfl⟩, ⟨fun e => by omega, fun e => by have := nt e; omega⟩, uf⟩
      · have ht : t := by by_contra ht; rw [if_neg ht] at h; omega
        exact ⟨66, 0, by omega, fun h => by omega, fun p' j' hp hj hG => (nb p' j' hp hj hG).elim, ⟨fun e => by omega, fun e => absurd (nf e) hf⟩, ⟨fun _ => ht, fun _ => rfl⟩, uf⟩

/-! ## The fills, one after another -/

/-- The groups of the first `e` fills. -/
def pre (k : ℕ → ℕ) : ℕ → ℕ
  | 0 => 0
  | e + 1 => pre k e + k e

theorem pre_mono (k : ℕ → ℕ) {a b : ℕ} (h : a ≤ b) : pre k a ≤ pre k b := by
  induction h with
  | refl => exact le_rfl
  | step _ ih => exact ih.trans (Nat.le_add_right _ _)

theorem pre_find (k : ℕ → ℕ) (x : ℕ) : ∀ b, x < pre k b → ∃ e, e < b ∧ ∃ t, t < k e ∧ x = pre k e + t
  | 0, h => absurd h (Nat.not_lt_zero _)
  | b + 1, h => by
    by_cases hx : x < pre k b
    · obtain ⟨e, he, t, ht⟩ := pre_find k x b hx
      exact ⟨e, by omega, t, ht⟩
    · have : pre k (b + 1) = pre k b + k b := rfl
      exact ⟨b, by omega, x - pre k b, by omega, by omega⟩

theorem pre_uniq (k : ℕ → ℕ) {e e' t t' : ℕ} (ht : t < k e) (ht' : t' < k e') (h : pre k e + t = pre k e' + t') : e = e' ∧ t = t' := by
  rcases Nat.lt_trichotomy e e' with hl | rfl | hl
  · have := pre_mono k (Nat.succ_le_of_lt hl)
    have e1 : pre k (e + 1) = pre k e + k e := rfl
    have : pre k (e + 1) ≤ pre k e' := this
    omega
  · exact ⟨rfl, by omega⟩
  · have := pre_mono k (Nat.succ_le_of_lt hl)
    have e1 : pre k (e' + 1) = pre k e' + k e' := rfl
    have : pre k (e' + 1) ≤ pre k e := this
    omega

/-- The group the `x`-th filled one is. -/
def place (f k : ℕ → ℕ) (x : ℕ) : ℕ :=
  open Classical in if h : ∃ e t, t < k e ∧ x = pre k e + t then f h.choose + h.choose_spec.choose else 0

theorem place_eq (f k : ℕ → ℕ) {e t : ℕ} (ht : t < k e) : place f k (pre k e + t) = f e + t := by
  have h : ∃ e' t', t' < k e' ∧ pre k e + t = pre k e' + t' := ⟨e, t, ht, rfl⟩
  have u := pre_uniq k ht h.choose_spec.choose_spec.1 h.choose_spec.choose_spec.2
  unfold place
  rw [dif_pos h]
  exact congrArg₂ (· + ·) (congrArg f u.1.symm) u.2.symm

variable {A0 A2 A3 : S64.Idx → BitVec 32} {A1 A4 : S1.Idx → BitVec 32} {A5 : S64x1x256.Idx → BitVec 32} {A6 : S1x1x128.Idx → BitVec 32}
  {A7 : S8x16384.Idx → BitVec 32} {A9 : S8x128.Idx → BitVec 32}

theorem Routed.n_le (R : Routed A0 A2 A3 A1 A4 A5 A6 A7 A9) (p : ℕ) : tn A0 A1 p ≤ 192 := by
  rcases Nat.lt_trichotomy p 64 with h | rfl | h
  · exact (R.cp ⟨p, h⟩).1
  · exact R.cs.1.trans (by norm_num)
  · unfold tn; rw [dif_neg (by omega), if_neg (by omega)]; omega

theorem Routed.g_lt (R : Routed A0 A2 A3 A1 A4 A5 A6 A7 A9) (p : ℕ) (hp : p ≤ 64) (j : ℕ) (hj : j < tn A0 A1 p) : tg A5 A6 p j < 14208 := by
  have := R.n_le p
  rcases Nat.lt_or_ge p 64 with h | h
  · exact (R.gp ⟨p, h⟩ ⟨j, by omega⟩ hj).1
  · obtain rfl : p = 64 := by omega
    exact (R.gs ⟨j, by have := R.cs.1; omega⟩ hj).1

theorem Routed.plan (R : Routed A0 A2 A3 A1 A4 A5 A6 A7 A9) :
    ∃ P : Plan A0 A2 A3 A1 A4 A5 A6, P.n = tn A0 A1 ∧ P.G = tg A5 A6 := by
  have O : ∀ r, ∃ p j, r < 14208 → p ≤ 66 ∧ (p ≤ 64 → j < tn A0 A1 p ∧ tg A5 A6 p j = r) ∧ (∀ p' j', p' ≤ 64 → j' < tn A0 A1 p' → tg A5 A6 p' j' = r → p' = p ∧ j' = j)
      ∧ (p = 65 ↔ ∃ e, e < 64 ∧ tf A2 e ≤ r ∧ r < tf A2 e + tk A3 e) ∧ (p = 66 ↔ 32 * (A4 (ix1 (0 : Fin 1))).toNat ≤ r)
      ∧ ∀ e e', e < 64 → e' < 64 → tf A2 e ≤ r ∧ r < tf A2 e + tk A3 e → tf A2 e' ≤ r ∧ r < tf A2 e' + tk A3 e' → e = e' := fun r => by
    by_cases hr : r < 14208
    · obtain ⟨p, j, h⟩ := owner R.n_le R.cs.1 (R.own r hr)
      exact ⟨p, j, fun _ => h⟩
    · exact ⟨0, 0, fun h => absurd h hr⟩
  choose ph jx O using O
  have hF : ∀ x, x < pre (tk A3) 64 → ∃ e, e < 64 ∧ ∃ t, t < tk A3 e ∧ x = pre (tk A3) e + t := fun x hx => pre_find _ x 64 hx
  have fl : ∀ e, e < 64 → tf A2 e + tk A3 e ≤ 14208 := fun e he => (R.fi ⟨e, he⟩).2.2
  have hF1 : ∀ j, j < pre (tk A3) 64 → place (tf A2) (tk A3) j < 14208 := fun x hx => by
    obtain ⟨e, he, t, ht, rfl⟩ := hF x hx
    rw [place_eq _ _ ht]
    have := fl e he
    omega
  have hFi : ∀ j j', j < pre (tk A3) 64 → j' < pre (tk A3) 64 → place (tf A2) (tk A3) j = place (tf A2) (tk A3) j' → j = j' := fun x y hx hy h => by
    obtain ⟨e, he, t, ht, rfl⟩ := hF x hx
    obtain ⟨e', he', t', ht', rfl⟩ := hF y hy
    rw [place_eq _ _ ht, place_eq _ _ ht'] at h
    have := fl e he
    have u := (O (tf A2 e + t) (by omega)).2.2.2.2.2 e e' he he' ⟨by omega, by omega⟩ ⟨by omega, by omega⟩
    subst u
    omega
  have hT2 : pre (tk A3) 64 ≤ 14208 := by
    have := Fintype.card_le_of_injective (fun x : Fin (pre (tk A3) 64) => (⟨place (tf A2) (tk A3) x, hF1 x x.isLt⟩ : Fin 14208)) (fun x y h => Fin.ext (hFi x y x.isLt y.isLt (Fin.mk.inj h)))
    simpa only [Fintype.card_fin] using this
  exact ⟨{
    n := tn A0 A1, G := tg A5 A6, ph := ph, jx := jx, T := pre (tk A3) 64, nr := (A4 (ix1 (0 : Fin 1))).toNat, FG := place (tf A2) (tk A3)
    kf := tk A3, fe := tf A2, KK := pre (tk A3)
    hn := R.n_le, hns := R.cs.1, hnr := R.nr
    hCP := fun p h => (R.cp ⟨p, h⟩).2
    hCS := R.cs.2
    hA5 := (BitVec.ofNat_toNat 32 _ |>.trans (BitVec.setWidth_eq _)).symm
    hGP := fun p h j hj hl => (R.gp ⟨p, h⟩ ⟨j, hj⟩ hl).2
    hGS := fun j hj hl => (R.gs ⟨j, hj⟩ hl).2
    hG := R.g_lt
    hi := fun p hp j j' hj hj' e => ((O _ (R.g_lt p hp j hj)).2.2.1 p j hp hj rfl).2.trans ((O _ (R.g_lt p hp j hj)).2.2.1 p j' hp hj' e.symm).2.symm
    hph := fun p hp j hj => ((O _ (R.g_lt p hp j hj)).2.2.1 p j hp hj rfl).1.symm
    hjx := fun r hr h => (O r hr).2.1 h
    hle := fun r hr => (O r hr).1
    hF := hF1
    hFi := hFi
    hphF := fun r hr => (O r hr).2.2.2.1.trans ⟨fun ⟨e, he, q1, q2⟩ => ⟨pre (tk A3) e + (r - tf A2 e), by
        have h1 : pre (tk A3) (e + 1) ≤ pre (tk A3) 64 := pre_mono _ he
        have h2 : pre (tk A3) (e + 1) = pre (tk A3) e + tk A3 e := rfl
        omega, by rw [place_eq _ _ (by omega)]; omega⟩, fun ⟨j, hj, h⟩ => by
        obtain ⟨e, he, t, ht, rfl⟩ := hF j hj
        rw [place_eq _ _ ht] at h
        exact ⟨e, he, by omega, by omega⟩⟩
    hphT := fun r hr => (O r hr).2.2.2.2.1
    hT2 := hT2
    hk0 := rfl
    hk := fun _ _ => rfl
    hT := rfl
    hKle := fun e he => pre_mono (tk A3) (a := e + 1) he
    hfe := fl
    h0 := R.f0
    hX3 := fun e h => (R.fi ⟨e, h⟩).1
    hX4 := fun e h => (R.fi ⟨e, h⟩).2.1
    hFG := fun e _ t ht => place_eq _ _ ht }, rfl, rfl⟩

end Cert.Proof.Send

end
-- ==== Proof.Same.lean ====
/- The two printed programs of the dispatch are the same text, so their definitions are equal. -/
module

public import proofs.«01_k».proof.Proof.Gen.Kernel
public import proofs.«01_k».proof.Proof.Gen.KernelIdeal

@[expose] public section

noncomputable section

namespace Cert.Proof.Send

open Idealize.ShloMosaic

variable {F : FTy → Type} [FloatOps F]

set_option smartUnfolding false in
set_option maxHeartbeats 4000000 in
theorem same_dispatch : Cert.Kernel.cc0_dispatch (F := F) = Cert.KernelIdeal.cc0_dispatch (F := F) := rfl

set_option smartUnfolding false in
set_option maxHeartbeats 4000000 in
theorem same_defs₀ : Cert.Kernel.defs₀ (F := F) = Cert.KernelIdeal.defs₀ (F := F) := by
  unfold Cert.Kernel.defs₀ Cert.KernelIdeal.defs₀
  rw [same_dispatch]
  refine congrArg Defs.onTc ?_
  funext x y
  match x, y with
  | 0, (t, s) => rfl

theorem same_defs : Cert.Kernel.defs (F := F) = Cert.KernelIdeal.defs (F := F) :=
  congrArg (fun d => Pipeline.defs (Cert.KernelIdeal.pcfgs (F := F)) d) same_defs₀

end Cert.Proof.Send

end
-- ==== Proof.Table.lean ====
/- The reference's tables, read at an index: the row each assignment is sent to, and the token each row takes. -/
module

public import proofs.«01_k».proof.Proof.Gen.ReferenceIdeal
public import proofs.«01_k».proof.Proof.Gen.ReferenceIdeal.Run
public import proofs.«01_k».proof.Proof.Routed
public import Idealize.ShloMosaic.Lib.Routing.OpsSet
public import Idealize.ShloMosaic.Lib.Routing.OpsPair

@[expose] public section

noncomputable section

namespace Cert.Proof.Send

open Cert.ReferenceIdeal Cert.ReferenceIdeal.Gen
open Idealize.ShloMosaic Idealize.ShloMosaic.TcCoe
open Idealize.ShloMosaic.ValueIdx Idealize.ShloMosaic.Routing

/-! ## The generated operations at an index -/

theorem take_p {α : Type} (x : S16384.Idx → α) (idx : IVec S8x16384x1 32) (k : Fin 8) (t n : Fin 16384) (h : idx (ix3 k t (0 : Fin 1)) = BitVec.ofNat 32 n.val) :
    Host.gather gather_S16384_S8x16384x1_S8x16384_n_0_n_n_0_2_1 x idx (ix2 k t) = x (ix1 n) := by
  unfold Host.gather
  refine congrArg x (funext fun a => Fin.ext ?_)
  obtain rfl : a = 0 := Subsingleton.elim _ _
  have hb : (0 : Fin 1) ∉ gather_S16384_S8x16384x1_S8x16384_n_0_n_n_0_2_1.operandBatchingDims := List.not_mem_nil
  have hk : (0 : Fin 1) ∉ gather_S16384_S8x16384x1_S8x16384_n_0_n_n_0_2_1.sKept := by rw [GatherDims.mem_sKept]; exact fun h => h.1 (List.mem_singleton.2 rfl)
  have hm : (0 : Fin 1) ∈ gather_S16384_S8x16384x1_S8x16384_n_0_n_n_0_2_1.startIndexMap := List.mem_singleton.2 rfl
  show gather_S16384_S8x16384x1_S8x16384_n_0_n_n_0_2_1.start (ix2 k t) idx 0 + GatherDims.batchCoord _ (ix2 k t) 0 + GatherDims.offCoord _ (ix2 k t) 0 = n.val
  rw [GatherDims.batchCoord_eq_zero _ _ _ hb, GatherDims.offCoord_eq_zero _ _ _ hk]
  simp only [Nat.add_zero]
  unfold GatherDims.start
  rw [dif_pos hm]
  have hsi : gather_S16384_S8x16384x1_S8x16384_n_0_n_n_0_2_1.siIdx (ix2 k t) ⟨gather_S16384_S8x16384x1_S8x16384_n_0_n_n_0_2_1.startIndexMap.idxOf 0, List.idxOf_lt_length_iff.2 hm⟩ = ix3 k t (0 : Fin 1) := by
    funext b'
    apply Fin.ext
    match b' with
    | ⟨0, _⟩ => rfl
    | ⟨1, _⟩ => rfl
    | ⟨2, _⟩ => rfl
  rw [hsi, h, (toInt_small (by have := n.isLt; omega)).1]
  show min n.val (16384 - 1) = n.val
  have := n.isLt
  omega

theorem take_s {α : Type} (x : S128.Idx → α) (idx : IVec S8x128x1 32) (k : Fin 8) (t n : Fin 128) (h : idx (ix3 k t (0 : Fin 1)) = BitVec.ofNat 32 n.val) :
    Host.gather gather_S128_S8x128x1_S8x128_n_0_n_n_0_2_1 x idx (ix2 k t) = x (ix1 n) := by
  unfold Host.gather
  refine congrArg x (funext fun a => Fin.ext ?_)
  obtain rfl : a = 0 := Subsingleton.elim _ _
  have hb : (0 : Fin 1) ∉ gather_S128_S8x128x1_S8x128_n_0_n_n_0_2_1.operandBatchingDims := List.not_mem_nil
  have hk : (0 : Fin 1) ∉ gather_S128_S8x128x1_S8x128_n_0_n_n_0_2_1.sKept := by rw [GatherDims.mem_sKept]; exact fun h => h.1 (List.mem_singleton.2 rfl)
  have hm : (0 : Fin 1) ∈ gather_S128_S8x128x1_S8x128_n_0_n_n_0_2_1.startIndexMap := List.mem_singleton.2 rfl
  show gather_S128_S8x128x1_S8x128_n_0_n_n_0_2_1.start (ix2 k t) idx 0 + GatherDims.batchCoord _ (ix2 k t) 0 + GatherDims.offCoord _ (ix2 k t) 0 = n.val
  rw [GatherDims.batchCoord_eq_zero _ _ _ hb, GatherDims.offCoord_eq_zero _ _ _ hk]
  simp only [Nat.add_zero]
  unfold GatherDims.start
  rw [dif_pos hm]
  have hsi : gather_S128_S8x128x1_S8x128_n_0_n_n_0_2_1.siIdx (ix2 k t) ⟨gather_S128_S8x128x1_S8x128_n_0_n_n_0_2_1.startIndexMap.idxOf 0, List.idxOf_lt_length_iff.2 hm⟩ = ix3 k t (0 : Fin 1) := by
    funext b'
    apply Fin.ext
    match b' with
    | ⟨0, _⟩ => rfl
    | ⟨1, _⟩ => rfl
    | ⟨2, _⟩ => rfl
  rw [hsi, h, (toInt_small (by have := n.isLt; omega)).1]
  show min n.val (128 - 1) = n.val
  have := n.isLt
  omega

theorem lands (idx : IVec S8x16512x1 32) (k : Fin 8) (t : Fin 16512) (e : Fin 227328) :
    scatter_S227328_S8x16512x1_S8x16512_n_0_0_2.resultIdx? (ix2 k t) idx = some (ix1 e) ↔ (idx (ix3 k t (0 : Fin 1))).toInt = (e.val : Int) := by
  rw [resultIdx?_ix1]
  have hm : (0 : Fin 1) ∈ scatter_S227328_S8x16512x1_S8x16512_n_0_0_2.scatterDimsToOperandDims := List.mem_singleton.2 rfl
  have hwin : scatter_S227328_S8x16512x1_S8x16512_n_0_0_2.window (ix2 k t) 0 = 0 := by
    unfold ScatterDims.window
    rw [dif_neg fun h => (of_decide_eq_true (List.mem_filter.1 h).2) (List.mem_singleton.2 rfl)]
  have hstart : scatter_S227328_S8x16512x1_S8x16512_n_0_0_2.start (ix2 k t) idx 0 = (idx (ix3 k t (0 : Fin 1))).toInt := by
    unfold ScatterDims.start
    rw [dif_pos hm]
    have hsi : scatter_S227328_S8x16512x1_S8x16512_n_0_0_2.siIdx (ix2 k t) ⟨scatter_S227328_S8x16512x1_S8x16512_n_0_0_2.scatterDimsToOperandDims.idxOf 0, List.idxOf_lt_length_iff.2 hm⟩ = ix3 k t (0 : Fin 1) := by
      funext b'
      apply Fin.ext
      match b' with
      | ⟨0, _⟩ => rfl
      | ⟨1, _⟩ => rfl
      | ⟨2, _⟩ => rfl
    rw [hsi]
  rw [hwin, hstart]
  simp only [Nat.cast_zero, add_zero]

/-! ## The tables, named -/

/-- Where a prompt token's group stands in the tile's list of groups. -/
def atP (A7 : IVec S8x16384 32) : IVec S8x16384 32 :=
  addi (broadcastInDim S8x16384 ![0, 1] bcast_S1x16384_S8x16384_0_1 (muli (broadcastInDim S1x16384 ![1] bcast_S16384_S1x16384_1 (Host.divsi (iotaInDim S16384 32 0) (broadcastInDim S16384 ![] bcast_S_S16384 (constantI S_ 32 256#32)))) (broadcastInDim S1x16384 ![] bcast_S_S1x16384 (constantI S_ 32 256#32))))
    (Host.divsi A7 (broadcastInDim S8x16384 ![] bcast_S_S8x16384 (constantI S_ 32 16#32)))

/-- The row of each assignment of a prompt token. -/
def destP (A5 : IVec S64x1x256 32) (A7 : IVec S8x16384 32) : IVec S8x16384 32 :=
  addi (Host.gather gather_S16384_S8x16384x1_S8x16384_n_0_n_n_0_2_1 (shapeCast _ A5 shapeCasts_S64x1x256_S16384)
      (broadcastInDim S8x16384x1 ![0, 1] bcast_S8x16384_S8x16384x1_0_1 (select (cmpi .slt (atP A7) (broadcastInDim S8x16384 ![] bcast_S_S8x16384 (constantI S_ 32 0#32)))
        (addi (atP A7) (broadcastInDim S8x16384 ![] bcast_S_S8x16384 (constantI S_ 32 16384#32))) (atP A7))))
    (Host.remsi A7 (broadcastInDim S8x16384 ![] bcast_S_S8x16384 (constantI S_ 32 16#32)))

/-- Where a sample token's group stands in the tile's list of groups. -/
def atS (A9 : IVec S8x128 32) : IVec S8x128 32 := Host.divsi A9 (broadcastInDim S8x128 ![] bcast_S_S8x128 (constantI S_ 32 16#32))

/-- The row of each assignment of a sample token. -/
def destS (A6 : IVec S1x1x128 32) (A9 : IVec S8x128 32) : IVec S8x128 32 :=
  addi (Host.gather gather_S128_S8x128x1_S8x128_n_0_n_n_0_2_1 (shapeCast _ A6 shapeCasts_S1x1x128_S128)
      (broadcastInDim S8x128x1 ![0, 1] bcast_S8x128_S8x128x1_0_1 (select (cmpi .slt (atS A9) (broadcastInDim S8x128 ![] bcast_S_S8x128 (constantI S_ 32 0#32)))
        (addi (atS A9) (broadcastInDim S8x128 ![] bcast_S_S8x128 (constantI S_ 32 128#32))) (atS A9))))
    (Host.remsi A9 (broadcastInDim S8x128 ![] bcast_S_S8x128 (constantI S_ 32 16#32)))

/-- The row of each assignment, prompt then sample. -/
def destA (A5 : IVec S64x1x256 32) (A6 : IVec S1x1x128 32) (A7 : IVec S8x16384 32) (A9 : IVec S8x128 32) : IVec S8x16512 32 :=
  concatenate S8x16512 1 [⟨S8x16384, destP A5 A7⟩, ⟨S8x128, destS A6 A9⟩] concatenates_S8x16384_S8x128_S8x16512_d1

/-- The token of each assignment. -/
def tokA : IVec S8x16512 32 :=
  concatenate S8x16512 1 [⟨S8x16384, broadcastInDim S8x16384 ![1] bcast_S16384_S8x16384_1 (iotaInDim S16384 32 0)⟩,
    ⟨S8x128, broadcastInDim S8x128 ![1] bcast_S128_S8x128_1 (addi (broadcastInDim S128 ![] bcast_S_S128 (constantI S_ 32 16384#32)) (iotaInDim S128 32 0))⟩] concatenates_S8x16384_S8x128_S8x16512_d1

/-- The token each row takes; 16512 for none. -/
def tokR (D : IVec S8x16512 32) : IVec S227328 32 :=
  Host.scatter scatter_S227328_S8x16512x1_S8x16512_n_0_0_2 (fun _ b => b) (broadcastInDim S227328 ![] bcast_S_S227328 (constantI S_ 32 16512#32))
    (broadcastInDim S8x16512x1 ![0, 1] bcast_S8x16512_S8x16512x1_0_1 (select (cmpi .slt D (broadcastInDim S8x16512 ![] bcast_S_S8x16512 (constantI S_ 32 0#32)))
      (addi D (broadcastInDim S8x16512 ![] bcast_S_S8x16512 (constantI S_ 32 227328#32))) D)) tokA

/-- The tokens' activations, and a row of zeros for no token. -/
def hAll (A8 : FVec Ideal S16384x1024 .bf16) (A10 : FVec Ideal S128x1024 .bf16) : FVec Ideal S16513x1024 .bf16 :=
  concatenate S16513x1024 0 [⟨S16384x1024, A8⟩, ⟨S128x1024, A10⟩, ⟨S1x1024, broadcastInDim S1x1024 ![] bcast_S_S1x1024 (constant S_ .bf16 0x0000#16)⟩] concatenates_S16384x1024_S128x1024_S1x1024_S16513x1024_d0

/-- The rows, each its token's activations. -/
def rowsR (T : IVec S227328 32) (H : FVec Ideal S16513x1024 .bf16) : FVec Ideal S227328x1024 .bf16 :=
  Host.gather gather_S16513x1024_S227328x1_S227328x1024_1_0_n_n_0_1_11024 H
    (broadcastInDim S227328x1 ![0] bcast_S227328_S227328x1_0 (select (cmpi .slt T (broadcastInDim S227328 ![] bcast_S_S227328 (constantI S_ 32 0#32)))
      (addi T (broadcastInDim S227328 ![] bcast_S_S227328 (constantI S_ 32 16513#32))) T))

set_option maxHeartbeats 4000000 in
theorem res_eq (m : (ℓ : Loc nD τ sig) → Buf (Elt Ideal) ℓ) (c : Dev nD) :
    Cert.ReferenceIdeal.Value.res_out0 m c = rowsR (tokR (destA (m ((c.tc : Thread nD τ).loc main_arg5)) (m ((c.tc : Thread nD τ).loc main_arg6)) (m ((c.tc : Thread nD τ).loc main_arg7)) (m ((c.tc : Thread nD τ).loc main_arg9))))
      (hAll (m ((c.tc : Thread nD τ).loc main_arg8)) (m ((c.tc : Thread nD τ).loc main_arg10))) := rfl

end Cert.Proof.Send

end
-- ==== Proof.Reads.lean ====
/- The rows the reference leaves, element by element. -/
module

public import proofs.«01_k».proof.Proof.Table
public import Idealize.ShloMosaic.Lib.Routing.Words

@[expose] public section

noncomputable section

namespace Cert.Proof.Send

open Cert.ReferenceIdeal Cert.ReferenceIdeal.Gen
open Idealize.ShloMosaic Idealize.ShloMosaic.TcCoe
open Idealize.ShloMosaic.ValueIdx Idealize.ShloMosaic.Routing

/-- A small word is left as it is by the wrap of negative indices. -/
theorem wrap_small (n : ℕ) (a : BitVec 32) (h : n < 2 ^ 31) : Scalar.select (IntOp.cmpi .slt (BitVec.ofNat 32 n) 0#32) a (BitVec.ofNat 32 n) = BitVec.ofNat 32 n :=
  wrap_of_lt _ _ (by rw [(toInt_small h).2]; exact h)

theorem add_word (a b : ℕ) : IntOp.addi (BitVec.ofNat 32 a) (BitVec.ofNat 32 b) = BitVec.ofNat 32 (a + b) := by
  show BitVec.ofNat 32 a + BitVec.ofNat 32 b = _
  exact (BitVec.ofNat_add ..).symm

theorem mul_word (a b : ℕ) : IntOp.muli (BitVec.ofNat 32 a) (BitVec.ofNat 32 b) = BitVec.ofNat 32 (a * b) := by
  show BitVec.ofNat 32 a * BitVec.ofNat 32 b = _
  exact (BitVec.ofNat_mul ..).symm

theorem word_of (x : BitVec 32) : BitVec.ofNat 32 x.toNat = x := BitVec.ofNat_toNat 32 _ |>.trans (BitVec.setWidth_eq _)

section
variable (A0 : IVec S64 32) (A2 : IVec S64 32) (A3 : IVec S64 32) (A1 : IVec S1 32) (A4 : IVec S1 32) (A5 : IVec S64x1x256 32) (A6 : IVec S1x1x128 32) (A7 : IVec S8x16384 32) (A9 : IVec S8x128 32)
variable (R : Routed A0 A2 A3 A1 A4 A5 A6 A7 A9)
include R

theorem atP_ap (k : Fin 8) (t : Fin 16384) : atP A7 (ix2 k t) = BitVec.ofNat 32 (t.val / 256 * 256 + (A7 (ix2 k t)).toNat / 16) := by
  have hs := R.sp k t
  have hn : tn A0 A1 (t.val / 256) ≤ 192 := (R.cp ⟨t.val / 256, by omega⟩).1
  have e1 : (broadcastInDim S8x16384 ![0, 1] bcast_S1x16384_S8x16384_0_1 (muli (broadcastInDim S1x16384 ![1] bcast_S16384_S1x16384_1 (Host.divsi (iotaInDim S16384 32 0) (broadcastInDim S16384 ![] bcast_S_S16384 (constantI S_ 32 256#32)))) (broadcastInDim S1x16384 ![] bcast_S_S1x16384 (constantI S_ 32 256#32)))) (ix2 k t)
      = BitVec.ofNat 32 (t.val / 256 * 256) := by
    refine (broadcastInDim_apply _ _ _ _ (ix2 (0 : Fin 1) t) (fun a => match a with | ⟨0, _⟩ => rfl | ⟨1, _⟩ => rfl)).trans ?_
    show IntOp.muli (broadcastInDim S1x16384 ![1] bcast_S16384_S1x16384_1 (Host.divsi (iotaInDim S16384 32 0) (broadcastInDim S16384 ![] bcast_S_S16384 (constantI S_ 32 256#32))) (ix2 (0 : Fin 1) t)) 256#32 = _
    rw [broadcastInDim_apply _ _ _ _ (ix1 t) (fun a => match a with | ⟨0, _⟩ => rfl)]
    show IntOp.muli (IntOp.divsi _ (BitVec.ofNat 32 t.val) 256#32) 256#32 = _
    rw [divsi_word _ (by have := t.isLt; omega) (by norm_num) (by norm_num)]
    exact mul_word _ _
  show IntOp.addi _ (IntOp.divsi _ (A7 (ix2 k t)) 16#32) = _
  have e0 : IntOp.divsi .host (A7 (ix2 k t)) 16#32 = BitVec.ofNat 32 ((A7 (ix2 k t)).toNat / 16) := by
    conv_lhs => rw [← word_of (A7 (ix2 k t))]
    exact divsi_word _ (by omega) (by norm_num) (by norm_num)
  rw [e1, e0]
  exact add_word _ _

theorem destP_ap (k : Fin 8) (t : Fin 16384) : destP A5 A7 (ix2 k t) = BitVec.ofNat 32 (16 * tg A5 A6 (t.val / 256) ((A7 (ix2 k t)).toNat / 16) + (A7 (ix2 k t)).toNat % 16) := by
  have hs := R.sp k t
  have hn : tn A0 A1 (t.val / 256) ≤ 192 := (R.cp ⟨t.val / 256, by omega⟩).1
  obtain ⟨hg, hA⟩ := R.gp ⟨t.val / 256, by omega⟩ ⟨(A7 (ix2 k t)).toNat / 16, by omega⟩ (by show (A7 (ix2 k t)).toNat / 16 < tn A0 A1 (t.val / 256); omega)
  have e1 := take_p (shapeCast _ A5 shapeCasts_S64x1x256_S16384)
      (broadcastInDim S8x16384x1 ![0, 1] bcast_S8x16384_S8x16384x1_0_1 (select (cmpi .slt (atP A7) (broadcastInDim S8x16384 ![] bcast_S_S8x16384 (constantI S_ 32 0#32)))
        (addi (atP A7) (broadcastInDim S8x16384 ![] bcast_S_S8x16384 (constantI S_ 32 16384#32))) (atP A7)))
      k t ⟨t.val / 256 * 256 + (A7 (ix2 k t)).toNat / 16, by omega⟩ (by
        refine (broadcastInDim_apply _ _ _ _ (ix2 k t) (fun a => match a with | ⟨0, _⟩ => rfl | ⟨1, _⟩ => rfl)).trans ?_
        show Scalar.select (IntOp.cmpi .slt (atP A7 (ix2 k t)) 0#32) _ (atP A7 (ix2 k t)) = _
        rw [atP_ap A0 A2 A3 A1 A4 A5 A6 A7 A9 R]
        exact wrap_small _ _ (by omega))
  have e2 : shapeCast S16384 A5 shapeCasts_S64x1x256_S16384 (ix1 (⟨t.val / 256 * 256 + (A7 (ix2 k t)).toNat / 16, by omega⟩ : Fin 16384))
      = A5 (ix3 (⟨t.val / 256, by omega⟩ : Fin 64) (0 : Fin 1) (⟨(A7 (ix2 k t)).toNat / 16, by omega⟩ : Fin 256)) := by
    refine shapeCast_apply _ _ _ _ ?_
    rw [Shape.rowMajor_val_three, Shape.rowMajor_val_one]
    show (t.val / 256 * 1 + 0) * 256 + (A7 (ix2 k t)).toNat / 16 = t.val / 256 * 256 + (A7 (ix2 k t)).toNat / 16
    omega
  have e3 : IntOp.remsi .host (A7 (ix2 k t)) 16#32 = BitVec.ofNat 32 ((A7 (ix2 k t)).toNat % 16) := by
    conv_lhs => rw [← word_of (A7 (ix2 k t))]
    exact remsi_word _ (by omega) (by norm_num) (by norm_num)
  refine (congrArg₂ IntOp.addi (e1.trans (e2.trans hA)) e3).trans (add_word _ _)

theorem destS_ap (k : Fin 8) (t : Fin 128) : destS A6 A9 (ix2 k t) = BitVec.ofNat 32 (16 * tg A5 A6 64 ((A9 (ix2 k t)).toNat / 16) + (A9 (ix2 k t)).toNat % 16) := by
  have hs := R.ss k t
  have hn := R.cs.1
  obtain ⟨hg, hA⟩ := R.gs ⟨(A9 (ix2 k t)).toNat / 16, by omega⟩ (by show (A9 (ix2 k t)).toNat / 16 < tn A0 A1 64; omega)
  have e0 : IntOp.divsi .host (A9 (ix2 k t)) 16#32 = BitVec.ofNat 32 ((A9 (ix2 k t)).toNat / 16) := by
    conv_lhs => rw [← word_of (A9 (ix2 k t))]
    exact divsi_word _ (by omega) (by norm_num) (by norm_num)
  have e1 := take_s (shapeCast _ A6 shapeCasts_S1x1x128_S128)
      (broadcastInDim S8x128x1 ![0, 1] bcast_S8x128_S8x128x1_0_1 (select (cmpi .slt (atS A9) (broadcastInDim S8x128 ![] bcast_S_S8x128 (constantI S_ 32 0#32)))
        (addi (atS A9) (broadcastInDim S8x128 ![] bcast_S_S8x128 (constantI S_ 32 128#32))) (atS A9)))
      k t ⟨(A9 (ix2 k t)).toNat / 16, by omega⟩ (by
        refine (broadcastInDim_apply _ _ _ _ (ix2 k t) (fun a => match a with | ⟨0, _⟩ => rfl | ⟨1, _⟩ => rfl)).trans ?_
        show Scalar.select (IntOp.cmpi .slt (IntOp.divsi .host (A9 (ix2 k t)) 16#32) 0#32) _ (IntOp.divsi .host (A9 (ix2 k t)) 16#32) = _
        rw [e0]
        exact wrap_small _ _ (by omega))
  have e2 : shapeCast S128 A6 shapeCasts_S1x1x128_S128 (ix1 (⟨(A9 (ix2 k t)).toNat / 16, by omega⟩ : Fin 128))
      = A6 (ix3 (0 : Fin 1) (0 : Fin 1) (⟨(A9 (ix2 k t)).toNat / 16, by omega⟩ : Fin 128)) := by
    refine shapeCast_apply _ _ _ _ ?_
    rw [Shape.rowMajor_val_three, Shape.rowMajor_val_one]
    show (0 * 1 + 0) * 128 + (A9 (ix2 k t)).toNat / 16 = (A9 (ix2 k t)).toNat / 16
    omega
  have e3 : IntOp.remsi .host (A9 (ix2 k t)) 16#32 = BitVec.ofNat 32 ((A9 (ix2 k t)).toNat % 16) := by
    conv_lhs => rw [← word_of (A9 (ix2 k t))]
    exact remsi_word _ (by omega) (by norm_num) (by norm_num)
  refine (congrArg₂ IntOp.addi (e1.trans (e2.trans hA)) e3).trans (add_word _ _)

theorem destA_p (k : Fin 8) (t : Fin 16384) : destA A5 A6 A7 A9 (ix2 k (⟨t.val, by omega⟩ : Fin 16512)) = BitVec.ofNat 32 (16 * tg A5 A6 (t.val / 256) ((A7 (ix2 k t)).toNat / 16) + (A7 (ix2 k t)).toNat % 16) :=
  (concatenate_pair_apply_left (t := S8x16512) 1 (destP A5 A7) (destS A6 A9) concatenates_S8x16384_S8x128_S8x16512_d1 (ix2 k (⟨t.val, by omega⟩ : Fin 16512)) rfl (ix2 k t) (fun a => match a with | ⟨0, _⟩ => rfl | ⟨1, _⟩ => rfl)).trans
    (destP_ap A0 A2 A3 A1 A4 A5 A6 A7 A9 R k t)

theorem destA_s (k : Fin 8) (t : Fin 128) : destA A5 A6 A7 A9 (ix2 k (⟨16384 + t.val, by omega⟩ : Fin 16512)) = BitVec.ofNat 32 (16 * tg A5 A6 64 ((A9 (ix2 k t)).toNat / 16) + (A9 (ix2 k t)).toNat % 16) :=
  (concatenate_pair_apply_right (t := S8x16512) 1 (destP A5 A7) (destS A6 A9) concatenates_S8x16384_S8x128_S8x16512_d1 (ix2 k (⟨16384 + t.val, by omega⟩ : Fin 16512)) rfl rfl (ix2 k t) (fun a => match a with | ⟨0, _⟩ => fun _ => rfl | ⟨1, _⟩ => fun h => absurd rfl h) (Nat.add_comm _ _)).trans
    (destS_ap A0 A2 A3 A1 A4 A5 A6 A7 A9 R k t)

end

theorem tokA_ap (k : Fin 8) (t : Fin 16512) : tokA (ix2 k t) = BitVec.ofNat 32 t.val := by
  by_cases h : t.val < 16384
  · refine (concatenate_pair_apply_left (t := S8x16512) 1 (broadcastInDim S8x16384 ![1] bcast_S16384_S8x16384_1 (iotaInDim S16384 32 0)) _ concatenates_S8x16384_S8x128_S8x16512_d1 (ix2 k t) rfl (ix2 k (⟨t.val, h⟩ : Fin 16384)) (fun a => match a with | ⟨0, _⟩ => rfl | ⟨1, _⟩ => rfl)).trans ?_
    exact broadcastInDim_apply _ _ _ _ (ix1 (⟨t.val, h⟩ : Fin 16384)) (fun a => match a with | ⟨0, _⟩ => rfl)
  · obtain ⟨u, hu⟩ : ∃ u : Fin 128, t.val = 16384 + u.val := ⟨⟨t.val - 16384, by omega⟩, by show t.val = 16384 + (t.val - 16384); omega⟩
    refine (concatenate_pair_apply_right (t := S8x16512) 1 (broadcastInDim S8x16384 ![1] bcast_S16384_S8x16384_1 (iotaInDim S16384 32 0)) (broadcastInDim S8x128 ![1] bcast_S128_S8x128_1 (addi (broadcastInDim S128 ![] bcast_S_S128 (constantI S_ 32 16384#32)) (iotaInDim S128 32 0))) concatenates_S8x16384_S8x128_S8x16512_d1 (ix2 k t) rfl rfl (ix2 k u) (fun a => match a with | ⟨0, _⟩ => fun _ => rfl | ⟨1, _⟩ => fun h => absurd rfl h) ((Nat.add_comm _ _).trans hu.symm)).trans ?_
    refine (broadcastInDim_apply _ _ _ _ (ix1 u) (fun a => match a with | ⟨0, _⟩ => rfl)).trans ?_
    rw [hu]
    exact add_word 16384 u.val

section
variable (D : IVec S8x16512 32) (hD : ∀ k t, (D (ix2 k t)).toNat < 2 ^ 31)
include hD

theorem lands_D (k : Fin 8) (t : Fin 16512) (e : Fin 227328) :
    scatter_S227328_S8x16512x1_S8x16512_n_0_0_2.resultIdx? (ix2 k t) (broadcastInDim S8x16512x1 ![0, 1] bcast_S8x16512_S8x16512x1_0_1 (select (cmpi .slt D (broadcastInDim S8x16512 ![] bcast_S_S8x16512 (constantI S_ 32 0#32)))
      (addi D (broadcastInDim S8x16512 ![] bcast_S_S8x16512 (constantI S_ 32 227328#32))) D)) = some (ix1 e) ↔ (D (ix2 k t)).toNat = e.val := by
  rw [lands, broadcastInDim_apply _ _ _ _ (ix2 k t) (fun a => match a with | ⟨0, _⟩ => rfl | ⟨1, _⟩ => rfl)]
  show (Scalar.select (IntOp.cmpi .slt (D (ix2 k t)) 0#32) _ (D (ix2 k t))).toInt = _ ↔ _
  rw [wrap_of_lt _ _ (hD k t), ← word_of (D (ix2 k t)), (toInt_small (hD k t)).1, (toInt_small (hD k t)).2]
  exact Int.ofNat_inj

theorem tokR_hit (R : Fin 227328) (k : Fin 8) (t : Fin 16512) (h : (D (ix2 k t)).toNat = R.val) (hu : ∀ k' t', (D (ix2 k' t')).toNat = R.val → t' = t) :
    tokR D (ix1 R) = BitVec.ofNat 32 t.val := by
  refine scatter_set_hit _ _ _ _ _ _ (fun j hj => ?_) (ix2 k t) ((lands_D D hD k t R).2 h)
  obtain ⟨k', t', rfl⟩ : ∃ (k' : Fin 8) (t' : Fin 16512), j = ix2 k' t' := ⟨j 0, j 1, eq_ix2 j⟩
  rw [tokA_ap, hu _ _ ((lands_D D hD _ _ R).1 hj)]

theorem tokR_miss (R : Fin 227328) (hu : ∀ k' t', (D (ix2 k' t')).toNat ≠ R.val) : tokR D (ix1 R) = 16512#32 := by
  refine (scatter_set_miss _ _ _ _ _ (fun j hj => ?_)).trans rfl
  obtain ⟨k', t', rfl⟩ : ∃ (k' : Fin 8) (t' : Fin 16512), j = ix2 k' t' := ⟨j 0, j 1, eq_ix2 j⟩
  exact hu _ _ ((lands_D D hD _ _ R).1 hj)

end

theorem rowsR_ap (T : IVec S227328 32) (H : FVec Ideal S16513x1024 .bf16) (R : Fin 227328) (b : Fin 1024) (n : Fin 16513) (h : T (ix1 R) = BitVec.ofNat 32 n.val) :
    rowsR T H (ix2 R b) = H (ix2 n b) := by
  refine gather_row _ rfl rfl rfl rfl rfl H _ R b n ?_ (by norm_num)
  refine (broadcastInDim_apply _ _ _ _ (ix1 R) (fun a => match a with | ⟨0, _⟩ => rfl)).trans ?_
  show Scalar.select (IntOp.cmpi .slt (T (ix1 R)) 0#32) _ (T (ix1 R)) = _
  rw [h]
  exact wrap_small _ _ (by have := n.isLt; omega)

section
variable (A8 : FVec Ideal S16384x1024 .bf16) (A10 : FVec Ideal S128x1024 .bf16)

/-- The three pieces. -/
def hL : List ((s : Shape) × (s.Idx → Ideal .bf16)) := [⟨S16384x1024, A8⟩, ⟨S128x1024, A10⟩, ⟨S1x1024, broadcastInDim S1x1024 ![] bcast_S_S1x1024 (constant S_ .bf16 0x0000#16)⟩]

theorem hAll_p (t : Fin 16384) (b : Fin 1024) : hAll A8 A10 (ix2 (⟨t.val, by omega⟩ : Fin 16513) b) = A8 (ix2 t b) :=
  concatenate_apply_piece (t := S16513x1024) 0 (hL A8 A10) concatenates_S16384x1024_S128x1024_S1x1024_S16513x1024_d0 (ix2 (⟨t.val, by omega⟩ : Fin 16513) b) 0 (by show 0 < 3; omega) S16384x1024 A8 rfl rfl 0 rfl (ix2 t b)
    (fun a => match a with | ⟨0, _⟩ => fun h => absurd rfl h | ⟨1, _⟩ => fun _ => rfl) (Nat.zero_add _)

theorem hAll_s (t : Fin 128) (b : Fin 1024) : hAll A8 A10 (ix2 (⟨16384 + t.val, by omega⟩ : Fin 16513) b) = A10 (ix2 t b) :=
  concatenate_apply_piece (t := S16513x1024) 0 (hL A8 A10) concatenates_S16384x1024_S128x1024_S1x1024_S16513x1024_d0 (ix2 (⟨16384 + t.val, by omega⟩ : Fin 16513) b) 1 (by show 1 < 3; omega) S128x1024 A10 rfl rfl 16384 rfl (ix2 t b)
    (fun a => match a with | ⟨0, _⟩ => fun h => absurd rfl h | ⟨1, _⟩ => fun _ => rfl) rfl

theorem hAll_z (b : Fin 1024) : hAll A8 A10 (ix2 (⟨16512, by omega⟩ : Fin 16513) b) = FloatOps.ofBits .bf16 0x0000#16 :=
  (concatenate_apply_piece (t := S16513x1024) 0 (hL A8 A10) concatenates_S16384x1024_S128x1024_S1x1024_S16513x1024_d0 (ix2 (⟨16512, by omega⟩ : Fin 16513) b) 2 (by show 2 < 3; omega) S1x1024 (broadcastInDim S1x1024 ![] bcast_S_S1x1024 (constant S_ .bf16 0x0000#16)) rfl rfl 16512 rfl (ix2 (0 : Fin 1) b)
    (fun a => match a with | ⟨0, _⟩ => fun h => absurd rfl h | ⟨1, _⟩ => fun _ => rfl) rfl).trans rfl

end

end Cert.Proof.Send

end
-- ==== Proof.OneHot.lean ====
/- A tile's row at exact arithmetic: the activations of the token in its slot, or zeros. -/
module

public import proofs.«01_k».proof.Proof.Chunks
public import Idealize.ShloMosaic.Lib.MatmulPlain
public import Idealize.ShloMosaic.Lib.ValueLayout
public import Idealize.ShloMosaic.PureOps.Ideal.Laws

@[expose] public section

noncomputable section

namespace Cert.Proof.Send

open Cert.KernelIdeal Cert.KernelIdeal.Gen
open Idealize.ShloMosaic Idealize.ShloMosaic.TcCoe
open Idealize.ShloMosaic.ValueIdx

/-- Two small words agree when their low halves do. -/
theorem half_eq (n : ℕ) (hn : n < 2 ^ 16) (x : BitVec 32) (hx : x.toNat < 2 ^ 16) : (BitVec.ofNat 32 n).setWidth 16 = x.setWidth 16 ↔ x.toNat = n := by
  constructor
  · intro h
    have e := congrArg BitVec.toNat h
    rw [BitVec.toNat_setWidth, BitVec.toNat_setWidth, BitVec.toNat_ofNat] at e
    omega
  · intro h
    apply BitVec.eq_of_toNat_eq
    rw [BitVec.toNat_setWidth, BitVec.toNat_setWidth, BitVec.toNat_ofNat]
    omega

/-- A selector bit as a number. -/
theorem bit_one : (FloatOps.sitofp (F := Ideal) .f32 ((1#1 : BitVec 1).setWidth 32) : EReal) = 1 := by
  show ((((1#1 : BitVec 1).setWidth 32).toInt : ℝ) : EReal) = 1
  have : ((1#1 : BitVec 1).setWidth 32).toInt = 1 := by decide
  rw [this]; norm_num
theorem bit_zero : (FloatOps.sitofp (F := Ideal) .f32 ((0#1 : BitVec 1).setWidth 32) : EReal) = 0 := by
  show ((((0#1 : BitVec 1).setWidth 32).toInt : ℝ) : EReal) = 0
  have : ((0#1 : BitVec 1).setWidth 32).toInt = 0 := by decide
  rw [this]; norm_num

/-! ## The prompt tiles -/

theorem lineP (q : Fin 8) (a : IVec S8x256 16) (h : S8x256.Slices ![q.val, 0] S1x256) (r : Fin 512) (u : Fin 256) :
    broadcastTo S512x256 (extractStridedSlice S1x256 ![q.val, 0] a h) broadcasts_S1x256_S512x256 (ix2 r u) = a (ix2 q u) := by
  refine (broadcastTo_1b_ab_apply _ broadcasts_S1x256_S512x256 r u).trans ?_
  exact extractStridedSlice_apply _ _ _ _ _ (fun a => match a with | ⟨0, _⟩ => rfl | ⟨1, _⟩ => (Nat.zero_add _).symm)

theorem slotP (q : ℕ) (r : Fin 512) (u : Fin 256) :
    broadcastTo S512x256 (trunci 16 (addi (broadcast S512x1 (BitVec.ofNat 32 (512 * q))) (iota .tc S512x1 32 [0] iota_S512x1_d0_w32)) natLt_16_32) broadcasts_S512x1_S512x256 (ix2 r u)
      = (BitVec.ofNat 32 (512 * q + r.val)).setWidth 16 := by
  refine (broadcastTo_apply _ broadcasts_S512x1_S512x256 (ix2 r u) (ix2 r (0 : Fin 1)) (fun a => match a with | ⟨0, _⟩ => rfl | ⟨1, _⟩ => rfl)).trans ?_
  show (BitVec.ofNat 32 (512 * q) + iota .tc S512x1 32 [0] iota_S512x1_d0_w32 (ix2 r (0 : Fin 1))).setWidth 16 = _
  rw [iota_single_apply]
  exact congrArg (BitVec.setWidth 16) (BitVec.ofNat_add ..).symm

theorem selP_iff (q : ℕ) (hq : q < 6) (A : Vec Ideal S8x256 .i32) (hA : ∀ k u, (A (ix2 k u)).toNat < 2 ^ 16) (r : Fin 512) (u : Fin 256) :
    selP (F := Ideal) (BitVec.ofNat 32 (512 * q)) A (ix2 r u) = 1#1 ↔ ∃ k : Fin 8, (A (ix2 k u)).toNat = 512 * q + r.val := by
  have key : ∀ k : Fin 8, (512 * q + r.val) < 2 ^ 16 → (IntOp.cmpi .eq ((BitVec.ofNat 32 (512 * q + r.val)).setWidth 16) ((A (ix2 k u)).setWidth 16) = 1#1 ↔ (A (ix2 k u)).toNat = 512 * q + r.val) :=
    fun k hk => IntOp.cmpi_eq.trans (half_eq _ hk _ (hA k u))
  have hb : 512 * q + r.val < 2 ^ 16 := by have := r.isLt; omega
  have line : ∀ (k : Fin 8) (h : S8x256.Slices ![k.val, 0] S1x256),
      IntOp.cmpi .eq (broadcastTo S512x256 (trunci 16 (addi (broadcast S512x1 (BitVec.ofNat 32 (512 * q))) (iota .tc S512x1 32 [0] iota_S512x1_d0_w32)) natLt_16_32) broadcasts_S512x1_S512x256 (ix2 r u))
        (broadcastTo S512x256 (extractStridedSlice S1x256 ![k.val, 0] (trunci 16 A natLt_16_32) h) broadcasts_S1x256_S512x256 (ix2 r u)) = 1#1 ↔ (A (ix2 k u)).toNat = 512 * q + r.val := fun k h => by
    rw [slotP, lineP]
    exact key k hb
  have all : selP (F := Ideal) (BitVec.ofNat 32 (512 * q)) A (ix2 r u) = 1#1 ↔
      ((((((((A (ix2 (0 : Fin 8) u)).toNat = 512 * q + r.val ∨ (A (ix2 (1 : Fin 8) u)).toNat = 512 * q + r.val) ∨ (A (ix2 (2 : Fin 8) u)).toNat = 512 * q + r.val) ∨ (A (ix2 (3 : Fin 8) u)).toNat = 512 * q + r.val)
        ∨ (A (ix2 (4 : Fin 8) u)).toNat = 512 * q + r.val) ∨ (A (ix2 (5 : Fin 8) u)).toNat = 512 * q + r.val) ∨ (A (ix2 (6 : Fin 8) u)).toNat = 512 * q + r.val) ∨ (A (ix2 (7 : Fin 8) u)).toNat = 512 * q + r.val) := by
    refine IntOp.ori_eq_one.trans (or_congr ?_ (line 7 slices_S8x256_o7_0_S1x256))
    refine IntOp.ori_eq_one.trans (or_congr ?_ (line 6 slices_S8x256_o6_0_S1x256))
    refine IntOp.ori_eq_one.trans (or_congr ?_ (line 5 slices_S8x256_o5_0_S1x256))
    refine IntOp.ori_eq_one.trans (or_congr ?_ (line 4 slices_S8x256_o4_0_S1x256))
    refine IntOp.ori_eq_one.trans (or_congr ?_ (line 3 slices_S8x256_o3_0_S1x256))
    refine IntOp.ori_eq_one.trans (or_congr ?_ (line 2 slices_S8x256_o2_0_S1x256))
    exact IntOp.ori_eq_one.trans (or_congr (line 0 slices_S8x256_o0_0_S1x256) (line 1 slices_S8x256_o1_0_S1x256))
  rw [all]
  constructor
  · rintro (((((((h | h) | h) | h) | h) | h) | h) | h)
    exacts [⟨0, h⟩, ⟨1, h⟩, ⟨2, h⟩, ⟨3, h⟩, ⟨4, h⟩, ⟨5, h⟩, ⟨6, h⟩, ⟨7, h⟩]
  · rintro ⟨k, h⟩
    fin_cases k
    exacts [.inl (.inl (.inl (.inl (.inl (.inl (.inl h)))))), .inl (.inl (.inl (.inl (.inl (.inl (.inr h)))))), .inl (.inl (.inl (.inl (.inl (.inr h))))), .inl (.inl (.inl (.inl (.inr h)))),
      .inl (.inl (.inl (.inr h))), .inl (.inl (.inr h)), .inl (.inr h), .inr h]

theorem ohP_one (s : IVec S512x256 1) (i : S512x256.Idx) (h : s i = 1#1) : (ohP (F := Ideal) s i : EReal) = 1 := by
  show (FloatOps.sitofp (F := Ideal) .f32 ((s i).setWidth 32) : EReal) = 1
  rw [h]; exact bit_one
theorem ohP_zero (s : IVec S512x256 1) (i : S512x256.Idx) (h : s i = 0#1) : (ohP (F := Ideal) s i : EReal) = 0 := by
  show (FloatOps.sitofp (F := Ideal) .f32 ((s i).setWidth 32) : EReal) = 0
  rw [h]; exact bit_zero

theorem dotP_plain : dot_S512x256_S256x1024_S512x1024_1_0_0_1_n_n = DotDims.plain 512 256 1024 := rfl

theorem mmP_ap (o : FVec Ideal S512x256 .bf16) (H : Vec Ideal S256x1024 .bf16) (r : Fin 512) (b : Fin 1024) :
    mmP (F := Ideal) o H (ix2 r b) = (∑ u : Fin 256, (o (ix2 r u) * H (ix2 u b) : EReal) : EReal) := by
  show (FloatOps.matmul (φ₂ := .bf16) dot_S512x256_S256x1024_S512x1024_1_0_0_1_n_n none o H (constant (F := Ideal) S512x1024 .f32 0x00000000#32) (ix2 r b) : EReal) = _
  rw [dotP_plain]
  refine (Ideal.matmul_plain_apply none o H (constant (F := Ideal) S512x1024 .f32 0x00000000#32) r b).trans ?_
  show (Ideal.ofBits .f32 0x00000000#32 : EReal) + _ = _
  rw [Ideal.ofBits_zero_f32]
  exact zero_add _

theorem rowP_hit (A : Vec Ideal S8x256 .i32) (hA : ∀ k u, (A (ix2 k u)).toNat < 2 ^ 16) (H : Vec Ideal S256x1024 .bf16) (s : ℕ) (hs : s < 3072) (b : Fin 1024) (k : Fin 8) (u : Fin 256)
    (h : (A (ix2 k u)).toNat = s) (hu : ∀ k' u', (A (ix2 k' u')).toNat = s → u' = u) : rowP (F := Ideal) A H s b = H (ix2 u b) := by
  have hq : 512 * (s / 512) + s % 512 = s := by omega
  refine (mmP_ap _ H ⟨s % 512, by omega⟩ b).trans ?_
  rw [Finset.sum_eq_single u]
  · have e : selP (F := Ideal) (BitVec.ofNat 32 (512 * (s / 512))) A (ix2 (⟨s % 512, by omega⟩ : Fin 512) u) = 1#1 :=
      (selP_iff _ (by omega) A hA _ _).2 ⟨k, by show _ = 512 * (s / 512) + s % 512; rw [hq, h]⟩
    have e2 : (ohP (F := Ideal) (selP (F := Ideal) (BitVec.ofNat 32 (512 * (s / 512))) A) (ix2 (⟨s % 512, by omega⟩ : Fin 512) u) : EReal) = 1 := ohP_one _ _ e
    exact (congrArg (fun z : EReal => z * (H (ix2 u b) : EReal)) e2).trans (one_mul _)
  · intro u' _ hne
    have e : selP (F := Ideal) (BitVec.ofNat 32 (512 * (s / 512))) A (ix2 (⟨s % 512, by omega⟩ : Fin 512) u') = 0#1 := by
      refine (BitVec.eq_zero_or_eq_one _).resolve_right fun h1 => hne ?_
      obtain ⟨k', hk'⟩ := (selP_iff _ (by omega) A hA _ _).1 h1
      exact hu k' u' (hk'.trans hq)
    have e2 : (ohP (F := Ideal) (selP (F := Ideal) (BitVec.ofNat 32 (512 * (s / 512))) A) (ix2 (⟨s % 512, by omega⟩ : Fin 512) u') : EReal) = 0 := ohP_zero _ _ e
    exact (congrArg (fun z : EReal => z * (H (ix2 u' b) : EReal)) e2).trans (zero_mul _)
  · intro h; exact absurd (Finset.mem_univ _) h

theorem rowP_miss (A : Vec Ideal S8x256 .i32) (hA : ∀ k u, (A (ix2 k u)).toNat < 2 ^ 16) (H : Vec Ideal S256x1024 .bf16) (s : ℕ) (hs : s < 3072) (b : Fin 1024)
    (hu : ∀ k u, (A (ix2 k u)).toNat ≠ s) : rowP (F := Ideal) A H s b = (0 : EReal) := by
  have hq : 512 * (s / 512) + s % 512 = s := by omega
  refine (mmP_ap _ H ⟨s % 512, by omega⟩ b).trans (Finset.sum_eq_zero fun u' _ => ?_)
  have e : selP (F := Ideal) (BitVec.ofNat 32 (512 * (s / 512))) A (ix2 (⟨s % 512, by omega⟩ : Fin 512) u') = 0#1 := by
    refine (BitVec.eq_zero_or_eq_one _).resolve_right fun h1 => ?_
    obtain ⟨k', hk'⟩ := (selP_iff _ (by omega) A hA _ _).1 h1
    exact hu k' u' (hk'.trans hq)
  have e2 : (ohP (F := Ideal) (selP (F := Ideal) (BitVec.ofNat 32 (512 * (s / 512))) A) (ix2 (⟨s % 512, by omega⟩ : Fin 512) u') : EReal) = 0 := ohP_zero _ _ e
  exact (congrArg (fun z : EReal => z * (H (ix2 u' b) : EReal)) e2).trans (zero_mul _)

/-! ## The sample tile -/

theorem lineS (q : Fin 8) (a : IVec S8x128 16) (h : S8x128.Slices ![q.val, 0] S1x128) (r : Fin 512) (u : Fin 128) :
    broadcastTo S512x128 (extractStridedSlice S1x128 ![q.val, 0] a h) broadcasts_S1x128_S512x128 (ix2 r u) = a (ix2 q u) := by
  refine (broadcastTo_1b_ab_apply _ broadcasts_S1x128_S512x128 r u).trans ?_
  exact extractStridedSlice_apply _ _ _ _ _ (fun a => match a with | ⟨0, _⟩ => rfl | ⟨1, _⟩ => (Nat.zero_add _).symm)

theorem slotS (q : ℕ) (r : Fin 512) (u : Fin 128) :
    broadcastTo S512x128 (trunci 16 (addi (broadcast S512x1 (BitVec.ofNat 32 (512 * q))) (iota .tc S512x1 32 [0] iota_S512x1_d0_w32)) natLt_16_32) broadcasts_S512x1_S512x128 (ix2 r u)
      = (BitVec.ofNat 32 (512 * q + r.val)).setWidth 16 := by
  refine (broadcastTo_apply _ broadcasts_S512x1_S512x128 (ix2 r u) (ix2 r (0 : Fin 1)) (fun a => match a with | ⟨0, _⟩ => rfl | ⟨1, _⟩ => rfl)).trans ?_
  show (BitVec.ofNat 32 (512 * q) + iota .tc S512x1 32 [0] iota_S512x1_d0_w32 (ix2 r (0 : Fin 1))).setWidth 16 = _
  rw [iota_single_apply]
  exact congrArg (BitVec.setWidth 16) (BitVec.ofNat_add ..).symm

theorem selS_iff (q : ℕ) (hq : q < 6) (A : Vec Ideal S8x128 .i32) (hA : ∀ k u, (A (ix2 k u)).toNat < 2 ^ 16) (r : Fin 512) (u : Fin 128) :
    selS (F := Ideal) (BitVec.ofNat 32 (512 * q)) A (ix2 r u) = 1#1 ↔ ∃ k : Fin 8, (A (ix2 k u)).toNat = 512 * q + r.val := by
  have key : ∀ k : Fin 8, (512 * q + r.val) < 2 ^ 16 → (IntOp.cmpi .eq ((BitVec.ofNat 32 (512 * q + r.val)).setWidth 16) ((A (ix2 k u)).setWidth 16) = 1#1 ↔ (A (ix2 k u)).toNat = 512 * q + r.val) :=
    fun k hk => IntOp.cmpi_eq.trans (half_eq _ hk _ (hA k u))
  have hb : 512 * q + r.val < 2 ^ 16 := by have := r.isLt; omega
  have line : ∀ (k : Fin 8) (h : S8x128.Slices ![k.val, 0] S1x128),
      IntOp.cmpi .eq (broadcastTo S512x128 (trunci 16 (addi (broadcast S512x1 (BitVec.ofNat 32 (512 * q))) (iota .tc S512x1 32 [0] iota_S512x1_d0_w32)) natLt_16_32) broadcasts_S512x1_S512x128 (ix2 r u))
        (broadcastTo S512x128 (extractStridedSlice S1x128 ![k.val, 0] (trunci 16 A natLt_16_32) h) broadcasts_S1x128_S512x128 (ix2 r u)) = 1#1 ↔ (A (ix2 k u)).toNat = 512 * q + r.val := fun k h => by
    rw [slotS, lineS]
    exact key k hb
  have all : selS (F := Ideal) (BitVec.ofNat 32 (512 * q)) A (ix2 r u) = 1#1 ↔
      ((((((((A (ix2 (0 : Fin 8) u)).toNat = 512 * q + r.val ∨ (A (ix2 (1 : Fin 8) u)).toNat = 512 * q + r.val) ∨ (A (ix2 (2 : Fin 8) u)).toNat = 512 * q + r.val) ∨ (A (ix2 (3 : Fin 8) u)).toNat = 512 * q + r.val)
        ∨ (A (ix2 (4 : Fin 8) u)).toNat = 512 * q + r.val) ∨ (A (ix2 (5 : Fin 8) u)).toNat = 512 * q + r.val) ∨ (A (ix2 (6 : Fin 8) u)).toNat = 512 * q + r.val) ∨ (A (ix2 (7 : Fin 8) u)).toNat = 512 * q + r.val) := by
    refine IntOp.ori_eq_one.trans (or_congr ?_ (line 7 slices_S8x128_o7_0_S1x128))
    refine IntOp.ori_eq_one.trans (or_congr ?_ (line 6 slices_S8x128_o6_0_S1x128))
    refine IntOp.ori_eq_one.trans (or_congr ?_ (line 5 slices_S8x128_o5_0_S1x128))
    refine IntOp.ori_eq_one.trans (or_congr ?_ (line 4 slices_S8x128_o4_0_S1x128))
    refine IntOp.ori_eq_one.trans (or_congr ?_ (line 3 slices_S8x128_o3_0_S1x128))
    refine IntOp.ori_eq_one.trans (or_congr ?_ (line 2 slices_S8x128_o2_0_S1x128))
    exact IntOp.ori_eq_one.trans (or_congr (line 0 slices_S8x128_o0_0_S1x128) (line 1 slices_S8x128_o1_0_S1x128))
  rw [all]
  constructor
  · rintro (((((((h | h) | h) | h) | h) | h) | h) | h)
    exacts [⟨0, h⟩, ⟨1, h⟩, ⟨2, h⟩, ⟨3, h⟩, ⟨4, h⟩, ⟨5, h⟩, ⟨6, h⟩, ⟨7, h⟩]
  · rintro ⟨k, h⟩
    fin_cases k
    exacts [.inl (.inl (.inl (.inl (.inl (.inl (.inl h)))))), .inl (.inl (.inl (.inl (.inl (.inl (.inr h)))))), .inl (.inl (.inl (.inl (.inl (.inr h))))), .inl (.inl (.inl (.inl (.inr h)))),
      .inl (.inl (.inl (.inr h))), .inl (.inl (.inr h)), .inl (.inr h), .inr h]

theorem ohS_one (s : IVec S512x128 1) (i : S512x128.Idx) (h : s i = 1#1) : (ohS (F := Ideal) s i : EReal) = 1 := by
  show (FloatOps.sitofp (F := Ideal) .f32 ((s i).setWidth 32) : EReal) = 1
  rw [h]; exact bit_one
theorem ohS_zero (s : IVec S512x128 1) (i : S512x128.Idx) (h : s i = 0#1) : (ohS (F := Ideal) s i : EReal) = 0 := by
  show (FloatOps.sitofp (F := Ideal) .f32 ((s i).setWidth 32) : EReal) = 0
  rw [h]; exact bit_zero

theorem dotS_plain : dot_S512x128_S128x1024_S512x1024_1_0_0_1_n_n = DotDims.plain 512 128 1024 := rfl

theorem mmS_ap (o : FVec Ideal S512x128 .bf16) (H : Vec Ideal S128x1024 .bf16) (r : Fin 512) (b : Fin 1024) :
    mmS (F := Ideal) o H (ix2 r b) = (∑ u : Fin 128, (o (ix2 r u) * H (ix2 u b) : EReal) : EReal) := by
  show (FloatOps.matmul (φ₂ := .bf16) dot_S512x128_S128x1024_S512x1024_1_0_0_1_n_n none o H (constant (F := Ideal) S512x1024 .f32 0x00000000#32) (ix2 r b) : EReal) = _
  rw [dotS_plain]
  refine (Ideal.matmul_plain_apply none o H (constant (F := Ideal) S512x1024 .f32 0x00000000#32) r b).trans ?_
  show (Ideal.ofBits .f32 0x00000000#32 : EReal) + _ = _
  rw [Ideal.ofBits_zero_f32]
  exact zero_add _

theorem rowS_hit (A : Vec Ideal S8x128 .i32) (hA : ∀ k u, (A (ix2 k u)).toNat < 2 ^ 16) (H : Vec Ideal S128x1024 .bf16) (s : ℕ) (hs : s < 3072) (b : Fin 1024) (k : Fin 8) (u : Fin 128)
    (h : (A (ix2 k u)).toNat = s) (hu : ∀ k' u', (A (ix2 k' u')).toNat = s → u' = u) : rowS (F := Ideal) A H s b = H (ix2 u b) := by
  have hq : 512 * (s / 512) + s % 512 = s := by omega
  refine (mmS_ap _ H ⟨s % 512, by omega⟩ b).trans ?_
  rw [Finset.sum_eq_single u]
  · have e : selS (F := Ideal) (BitVec.ofNat 32 (512 * (s / 512))) A (ix2 (⟨s % 512, by omega⟩ : Fin 512) u) = 1#1 :=
      (selS_iff _ (by omega) A hA _ _).2 ⟨k, by show _ = 512 * (s / 512) + s % 512; rw [hq, h]⟩
    have e2 : (ohS (F := Ideal) (selS (F := Ideal) (BitVec.ofNat 32 (512 * (s / 512))) A) (ix2 (⟨s % 512, by omega⟩ : Fin 512) u) : EReal) = 1 := ohS_one _ _ e
    exact (congrArg (fun z : EReal => z * (H (ix2 u b) : EReal)) e2).trans (one_mul _)
  · intro u' _ hne
    have e : selS (F := Ideal) (BitVec.ofNat 32 (512 * (s / 512))) A (ix2 (⟨s % 512, by omega⟩ : Fin 512) u') = 0#1 := by
      refine (BitVec.eq_zero_or_eq_one _).resolve_right fun h1 => hne ?_
      obtain ⟨k', hk'⟩ := (selS_iff _ (by omega) A hA _ _).1 h1
      exact hu k' u' (hk'.trans hq)
    have e2 : (ohS (F := Ideal) (selS (F := Ideal) (BitVec.ofNat 32 (512 * (s / 512))) A) (ix2 (⟨s % 512, by omega⟩ : Fin 512) u') : EReal) = 0 := ohS_zero _ _ e
    exact (congrArg (fun z : EReal => z * (H (ix2 u' b) : EReal)) e2).trans (zero_mul _)
  · intro h; exact absurd (Finset.mem_univ _) h

theorem rowS_miss (A : Vec Ideal S8x128 .i32) (hA : ∀ k u, (A (ix2 k u)).toNat < 2 ^ 16) (H : Vec Ideal S128x1024 .bf16) (s : ℕ) (hs : s < 3072) (b : Fin 1024)
    (hu : ∀ k u, (A (ix2 k u)).toNat ≠ s) : rowS (F := Ideal) A H s b = (0 : EReal) := by
  have hq : 512 * (s / 512) + s % 512 = s := by omega
  refine (mmS_ap _ H ⟨s % 512, by omega⟩ b).trans (Finset.sum_eq_zero fun u' _ => ?_)
  have e : selS (F := Ideal) (BitVec.ofNat 32 (512 * (s / 512))) A (ix2 (⟨s % 512, by omega⟩ : Fin 512) u') = 0#1 := by
    refine (BitVec.eq_zero_or_eq_one _).resolve_right fun h1 => ?_
    obtain ⟨k', hk'⟩ := (selS_iff _ (by omega) A hA _ _).1 h1
    exact hu k' u' (hk'.trans hq)
  have e2 : (ohS (F := Ideal) (selS (F := Ideal) (BitVec.ofNat 32 (512 * (s / 512))) A) (ix2 (⟨s % 512, by omega⟩ : Fin 512) u') : EReal) = 0 := ohS_zero _ _ e
  exact (congrArg (fun z : EReal => z * (H (ix2 u' b) : EReal)) e2).trans (zero_mul _)

end Cert.Proof.Send

end
-- ==== Proof.Value.lean ====
/- The rows the dispatch leaves are the reference's. -/
module

public import proofs.«01_k».proof.Proof.Plans
public import proofs.«01_k».proof.Proof.Run
public import proofs.«01_k».proof.Proof.Reads
public import proofs.«01_k».proof.Proof.OneHot

@[expose] public section

noncomputable section

namespace Cert.Proof.Send

open Cert.KernelIdeal Cert.KernelIdeal.Gen
open Idealize.ShloMosaic Idealize.ShloMosaic.TcCoe
open Idealize.ShloMosaic.ValueIdx

/-! ## The blocks a tile reads -/

section
variable {F : FTy → Type} [FloatOps F]
variable (m : (ℓ : Loc nD τ sig) → Buf (Elt F) ℓ)

theorem iblk_7 (c : Dev nD) (t : Fin cfg0.N) (ht : t.val < 64) (k : Fin 8) (u : Fin 256) :
    iblk m c 7 t (ix2 k u) = m ((c : Thread nD τ).loc main_arg7) (ix2 k (⟨256 * t.val + u.val, by omega⟩ : Fin 16384)) := by
  show m ((c : Thread nD τ).loc main_arg7) (((cfg0.win 7).blk t).view.emb (ix2 k u)) = _
  congr 1
  funext a
  fin_cases a
  · exact Fin.ext (by show 0 * 8 + 1 * k.val = k.val; omega)
  · refine Fin.ext ?_
    show (Scalar.minsi (BitVec.ofNat 32 (grid0.coords t 0).val) 63#32).toNat * 256 + 1 * u.val = 256 * t.val + u.val
    rw [coords_val, min63 _ ht]; omega
theorem iblk_8 (c : Dev nD) (t : Fin cfg0.N) (ht : t.val < 64) (u : Fin 256) (b : Fin 1024) :
    iblk m c 8 t (ix2 u b) = m ((c : Thread nD τ).loc main_arg8) (ix2 (⟨256 * t.val + u.val, by omega⟩ : Fin 16384) b) := by
  show m ((c : Thread nD τ).loc main_arg8) (((cfg0.win 8).blk t).view.emb (ix2 u b)) = _
  congr 1
  funext a
  fin_cases a
  · refine Fin.ext ?_
    show (Scalar.minsi (BitVec.ofNat 32 (grid0.coords t 0).val) 63#32).toNat * 256 + 1 * u.val = 256 * t.val + u.val
    rw [coords_val, min63 _ ht]; omega
  · exact Fin.ext (by show 0 * 1024 + 1 * b.val = b.val; omega)
theorem iblk_9 (c : Dev nD) (t : Fin cfg0.N) : iblk m c 9 t = m ((c : Thread nD τ).loc main_arg9) := by
  funext x
  show m ((c : Thread nD τ).loc main_arg9) (((cfg0.win 9).blk t).view.emb x) = m ((c : Thread nD τ).loc main_arg9) x
  congr 1
  funext a
  fin_cases a
  · exact Fin.ext (by show 0 * 8 + 1 * (x 0).val = (x 0).val; omega)
  · exact Fin.ext (by show 0 * 128 + 1 * (x 1).val = (x 1).val; omega)
theorem iblk_10 (c : Dev nD) (t : Fin cfg0.N) : iblk m c 10 t = m ((c : Thread nD τ).loc main_arg10) := by
  funext x
  show m ((c : Thread nD τ).loc main_arg10) (((cfg0.win 10).blk t).view.emb x) = m ((c : Thread nD τ).loc main_arg10) x
  congr 1
  funext a
  fin_cases a
  · exact Fin.ext (by show 0 * 128 + 1 * (x 0).val = (x 0).val; omega)
  · exact Fin.ext (by show 0 * 1024 + 1 * (x 1).val = (x 1).val; omega)
end

/-! ## The rows -/

section
variable (A0 : IVec S64 32) (A2 : IVec S64 32) (A3 : IVec S64 32) (A1 : IVec S1 32) (A4 : IVec S1 32) (A5 : IVec S64x1x256 32) (A6 : IVec S1x1x128 32) (A7 : IVec S8x16384 32) (A9 : IVec S8x128 32)
variable (R : Routed A0 A2 A3 A1 A4 A5 A6 A7 A9)
include R

/-- The tile, slot and row of an assignment. -/
theorem destN (k : Fin 8) (t : Fin 16512) : ∃ p s, p ≤ 64 ∧ s < 16 * tn A0 A1 p ∧ tg A5 A6 p (s / 16) < 14208 ∧ (destA A5 A6 A7 A9 (ix2 k t)).toNat = 16 * tg A5 A6 p (s / 16) + s % 16
    ∧ ((∃ t' : Fin 16384, t.val = t'.val ∧ p = t'.val / 256 ∧ s = (A7 (ix2 k t')).toNat) ∨ ∃ u : Fin 128, t.val = 16384 + u.val ∧ p = 64 ∧ s = (A9 (ix2 k u)).toNat) := by
  by_cases h : t.val < 16384
  · have hs := R.sp k ⟨t.val, h⟩
    have hn : tn A0 A1 (t.val / 256) ≤ 192 := (R.cp ⟨t.val / 256, by omega⟩).1
    have hg : tg A5 A6 (t.val / 256) ((A7 (ix2 k (⟨t.val, h⟩ : Fin 16384))).toNat / 16) < 14208 :=
      (R.gp ⟨t.val / 256, by omega⟩ ⟨(A7 (ix2 k (⟨t.val, h⟩ : Fin 16384))).toNat / 16, by simp only at hs; omega⟩ (by show _ / 16 < tn A0 A1 (t.val / 256); simp only at hs; omega)).1
    have e := destA_p A0 A2 A3 A1 A4 A5 A6 A7 A9 R k ⟨t.val, h⟩
    refine ⟨t.val / 256, _, by omega, hs, hg, ?_, .inl ⟨⟨t.val, h⟩, rfl, rfl, rfl⟩⟩
    refine (congrArg BitVec.toNat e).trans ((toInt_small ?_).2)
    simp only
    omega
  · obtain ⟨u, hu⟩ : ∃ u : Fin 128, t.val = 16384 + u.val := ⟨⟨t.val - 16384, by omega⟩, by show t.val = 16384 + (t.val - 16384); omega⟩
    obtain rfl : t = ⟨16384 + u.val, Nat.add_lt_add_left u.isLt 16384⟩ := Fin.ext hu
    have hs := R.ss k u
    have hn := R.cs.1
    have hg := (R.gs ⟨(A9 (ix2 k u)).toNat / 16, by omega⟩ (by show _ / 16 < tn A0 A1 64; omega)).1
    have e := destA_s A0 A2 A3 A1 A4 A5 A6 A7 A9 R k u
    refine ⟨64, _, le_rfl, hs, hg, ?_, .inr ⟨u, rfl, rfl, rfl⟩⟩
    refine (congrArg BitVec.toNat e).trans ((toInt_small ?_).2)
    simp only at hg
    omega

theorem destA_lt (k : Fin 8) (t : Fin 16512) : (destA A5 A6 A7 A9 (ix2 k t)).toNat < 2 ^ 31 := by
  obtain ⟨p, s, hp, hs, hg, e, _⟩ := destN A0 A2 A3 A1 A4 A5 A6 A7 A9 R k t
  omega

variable (P : Plan A0 A2 A3 A1 A4 A5 A6) (hn : P.n = tn A0 A1) (hG : P.G = tg A5 A6)
include hn hG

/-- An assignment sent to a row is that row's tile's, in that row's slot. -/
theorem row_owner {k : Fin 8} {t : Fin 16512} {r : Fin 227328} (h : (destA A5 A6 A7 A9 (ix2 k t)).toNat = r.val) : P.ph (r.val / 16) ≤ 64 ∧
    ((∃ t' : Fin 16384, t.val = t'.val ∧ P.ph (r.val / 16) = t'.val / 256 ∧ (A7 (ix2 k t')).toNat = 16 * P.jx (r.val / 16) + r.val % 16)
      ∨ ∃ u : Fin 128, t.val = 16384 + u.val ∧ P.ph (r.val / 16) = 64 ∧ (A9 (ix2 k u)).toNat = 16 * P.jx (r.val / 16) + r.val % 16) := by
  obtain ⟨p, s, hp, hs, hg, e, hh⟩ := destN A0 A2 A3 A1 A4 A5 A6 A7 A9 R k t
  have hj : s / 16 < P.n p := by rw [hn]; omega
  have e1 : P.G p (s / 16) = r.val / 16 := by rw [hG]; omega
  have e2 : P.ph (r.val / 16) = p := by rw [← e1]; exact P.hph p hp _ hj
  obtain ⟨j1, j2⟩ := P.hjx (r.val / 16) (by have := r.isLt; omega) (by omega)
  rw [e2] at j1 j2
  have e3 : P.jx (r.val / 16) = s / 16 := P.hi p hp _ _ j1 hj (j2.trans e1.symm)
  rw [e2, e3]
  have e4 : s = 16 * (s / 16) + r.val % 16 := by omega
  refine ⟨hp, ?_⟩
  rcases hh with ⟨t', a, b, d⟩ | ⟨u, a, b, d⟩
  · exact .inl ⟨t', a, b, d ▸ e4⟩
  · exact .inr ⟨u, a, b, d ▸ e4⟩

variable (A8 : FVec Ideal S16384x1024 .bf16) (A10 : FVec Ideal S128x1024 .bf16)
variable (row : ℕ → ℕ → Fin 1024 → Ideal .bf16) (a7 : ℕ → Vec Ideal S8x256 .i32) (h8 : ℕ → Vec Ideal S256x1024 .bf16)
variable (ha7 : ∀ p (hp : p < 64) (k : Fin 8) (u : Fin 256), a7 p (ix2 k u) = A7 (ix2 k (⟨256 * p + u.val, by omega⟩ : Fin 16384)))
variable (hh8 : ∀ p (hp : p < 64) (u : Fin 256) (b : Fin 1024), h8 p (ix2 u b) = A8 (ix2 (⟨256 * p + u.val, by omega⟩ : Fin 16384) b))
variable (hrp : ∀ p, p < 64 → row p = rowP (F := Ideal) (a7 p) (h8 p)) (hrs : row 64 = rowS (F := Ideal) A9 A10)
include ha7 hh8 hrp hrs

theorem zero_row {r : Fin 227328} {b : Fin 1024} (h : ∀ k t, (destA A5 A6 A7 A9 (ix2 k t)).toNat ≠ r.val) :
    rowsR (tokR (destA A5 A6 A7 A9)) (hAll A8 A10) (ix2 r b) = FloatOps.ofBits (F := Ideal) .bf16 0x0000#16 :=
  (rowsR_ap _ _ r b ⟨16512, by omega⟩ (tokR_miss _ (destA_lt A0 A2 A3 A1 A4 A5 A6 A7 A9 R) r h)).trans (hAll_z A8 A10 b)

theorem zero_word : (FloatOps.ofBits (F := Ideal) .bf16 0x0000#16 : EReal) = 0 := by
  show Ideal.ofBits .bf16 0x0000#16 = 0
  simp [Ideal.ofBits, Ideal.ieee]

theorem rows_eq : rowsR (tokR (destA A5 A6 A7 A9)) (hAll A8 A10) = finX (F := Ideal) P row := by
  funext y
  obtain ⟨r, b, rfl⟩ : ∃ (r : Fin 227328) (b : Fin 1024), y = ix2 r b := ⟨y 0, y 1, eq_ix2 y⟩
  have hlt := destA_lt A0 A2 A3 A1 A4 A5 A6 A7 A9 R
  have own := fun (k : Fin 8) (t : Fin 16512) => @row_owner A0 A2 A3 A1 A4 A5 A6 A7 A9 R P hn hG k t r
  have hz := @zero_row A0 A2 A3 A1 A4 A5 A6 A7 A9 R P hn hG A8 A10 row a7 h8 ha7 hh8 hrp hrs r b
  have hzw := zero_word A0 A2 A3 A1 A4 A5 A6 A7 A9 R P hn hG A8 A10 row a7 h8 ha7 hh8 hrp hrs
  show _ = if P.ph (r.val / 16) ≤ 64 then row (P.ph (r.val / 16)) (16 * P.jx (r.val / 16) + r.val % 16) b else FloatOps.ofBits (F := Ideal) .bf16 0x0000#16
  by_cases hp : P.ph (r.val / 16) ≤ 64
  · rw [if_pos hp]
    obtain ⟨j1, j2⟩ := P.hjx (r.val / 16) (by have := r.isLt; omega) hp
    generalize hph : P.ph (r.val / 16) = p at hp j1 j2 own ⊢
    generalize hjx : P.jx (r.val / 16) = j at j1 j2 own ⊢
    have hd : ∀ s, s = 16 * j + r.val % 16 → 16 * tg A5 A6 p (s / 16) + s % 16 = r.val := fun s hs => by
      have : s / 16 = j := by omega
      rw [this, ← hG, j2]; omega
    have hn2 := P.hn p
    generalize hs0 : 16 * j + r.val % 16 = s0 at own ⊢
    have hs3 : s0 < 3072 := by omega
    by_cases h64 : p < 64
    · rw [hrp p h64]
      have hA : ∀ k u, (a7 p (ix2 k u)).toNat < 2 ^ 16 := fun k u => by
        rw [ha7 p h64]
        have h1 := R.sp k ⟨256 * p + u.val, by omega⟩
        have h2 : tn A0 A1 ((256 * p + u.val) / 256) ≤ 192 := (R.cp ⟨(256 * p + u.val) / 256, by omega⟩).1
        simp only at h1
        omega
      by_cases ex : ∃ (k : Fin 8) (u : Fin 256), (a7 p (ix2 k u)).toNat = s0
      · obtain ⟨k, u, hk⟩ := ex
        have hdiv : (256 * p + u.val) / 256 = p := by omega
        have hk7 : (A7 (ix2 k (⟨256 * p + u.val, by omega⟩ : Fin 16384))).toNat = s0 := by rw [← ha7 p h64]; exact hk
        rw [rowP_hit (a7 p) hA (h8 p) s0 hs3 b k u hk (fun k' u' h' => by
          rw [ha7 p h64] at h'
          have := (R.dp k' k ⟨256 * p + u'.val, by omega⟩ ⟨256 * p + u.val, by omega⟩ (by show (256 * p + u'.val) / 256 = (256 * p + u.val) / 256; omega) (BitVec.eq_of_toNat_eq (h'.trans hk7.symm))).2
          have := Fin.mk.inj this
          exact Fin.ext (by omega)), hh8 p h64]
        have ht : tokR (destA A5 A6 A7 A9) (ix1 r) = BitVec.ofNat 32 (256 * p + u.val) := by
          refine tokR_hit _ hlt r k (⟨256 * p + u.val, by omega⟩ : Fin 16512) ?_ ?_
          · have e := destA_p A0 A2 A3 A1 A4 A5 A6 A7 A9 R k ⟨256 * p + u.val, by omega⟩
            rw [hk7] at e
            have e' := congrArg BitVec.toNat e
            simp only [hdiv] at e'
            rw [hd s0 hs0.symm, (toInt_small (by have := r.isLt; omega)).2] at e'
            exact e'
          · intro k' t' h'
            rcases (own _ _ h').2 with ⟨t1, a1, b1, c1⟩ | ⟨u1, a1, b1, c1⟩
            · have := (R.dp k' k t1 ⟨256 * p + u.val, by omega⟩ (by show t1.val / 256 = (256 * p + u.val) / 256; omega) (BitVec.eq_of_toNat_eq (c1.trans hk7.symm))).2
              exact Fin.ext (a1.trans (congrArg Fin.val this))
            · omega
        exact (rowsR_ap _ _ r b ⟨256 * p + u.val, by omega⟩ ht).trans (hAll_p A8 A10 ⟨256 * p + u.val, by omega⟩ b)
      · refine (hz fun k t h => ?_).trans (hzw.trans (rowP_miss (a7 p) hA (h8 p) s0 hs3 b fun k u h => ex ⟨k, u, h⟩).symm)
        rcases (own _ _ h).2 with ⟨t1, a1, b1, c1⟩ | ⟨u1, a1, b1, c1⟩
        · refine ex ⟨k, ⟨t1.val % 256, by omega⟩, ?_⟩
          rw [ha7 p h64, ← c1]
          exact congrArg (fun x => (A7 (ix2 k x)).toNat) (Fin.ext (by show 256 * p + t1.val % 256 = t1.val; omega))
        · omega
    · obtain rfl : p = 64 := by omega
      rw [hrs]
      have hn3 := P.hns
      have hs2 : s0 < 2048 := by omega
      have hA : ∀ k u, (A9 (ix2 k u)).toNat < 2 ^ 16 := fun k u => by
        have h1 := R.ss k u
        have h2 := R.cs.1
        omega
      by_cases ex : ∃ (k : Fin 8) (u : Fin 128), (A9 (ix2 k u)).toNat = s0
      · obtain ⟨k, u, hk⟩ := ex
        rw [rowS_hit A9 hA A10 s0 hs3 b k u hk (fun k' u' h' => (R.ds k' k u' u (BitVec.eq_of_toNat_eq (h'.trans hk.symm))).2)]
        have ht : tokR (destA A5 A6 A7 A9) (ix1 r) = BitVec.ofNat 32 (16384 + u.val) := by
          refine tokR_hit _ hlt r k (⟨16384 + u.val, by omega⟩ : Fin 16512) ?_ ?_
          · have e := destA_s A0 A2 A3 A1 A4 A5 A6 A7 A9 R k u
            rw [hk] at e
            have e' := congrArg BitVec.toNat e
            rw [hd s0 hs0.symm, (toInt_small (by have := r.isLt; omega)).2] at e'
            exact e'
          · intro k' t' h'
            rcases (own _ _ h').2 with ⟨t1, a1, b1, c1⟩ | ⟨u1, a1, b1, c1⟩
            · have := t1.isLt; omega
            · have := (R.ds k' k u1 u (BitVec.eq_of_toNat_eq (c1.trans hk.symm))).2
              exact Fin.ext (a1.trans (by rw [this]))
        exact (rowsR_ap _ _ r b ⟨16384 + u.val, by omega⟩ ht).trans (hAll_s A8 A10 u b)
      · refine (hz fun k t h => ?_).trans (hzw.trans (rowS_miss A9 hA A10 s0 hs3 b fun k u h => ex ⟨k, u, h⟩).symm)
        rcases (own _ _ h).2 with ⟨t1, a1, b1, c1⟩ | ⟨u1, a1, b1, c1⟩
        · have := t1.isLt; omega
        · exact ex ⟨k, u1, c1⟩
  · rw [if_neg hp]
    exact hz fun k t h => hp (own _ _ h).1

end

/-- The reference's rows, from arguments the two programs agree on. -/
theorem ref_eq (m : (ℓ : Loc nD τ sig) → Buf (Elt Ideal) ℓ) (m' : (ℓ : Loc Cert.ReferenceIdeal.nD Cert.ReferenceIdeal.τ Cert.ReferenceIdeal.sig) → Buf (Elt Ideal) ℓ) (c : Dev nD)
    (e5 : m' ((c.tc : Thread Cert.ReferenceIdeal.nD Cert.ReferenceIdeal.τ).loc Cert.ReferenceIdeal.main_arg5) = m ((c.tc : Thread nD τ).loc main_arg5))
    (e6 : m' ((c.tc : Thread Cert.ReferenceIdeal.nD Cert.ReferenceIdeal.τ).loc Cert.ReferenceIdeal.main_arg6) = m ((c.tc : Thread nD τ).loc main_arg6))
    (e7 : m' ((c.tc : Thread Cert.ReferenceIdeal.nD Cert.ReferenceIdeal.τ).loc Cert.ReferenceIdeal.main_arg7) = m ((c.tc : Thread nD τ).loc main_arg7))
    (e8 : m' ((c.tc : Thread Cert.ReferenceIdeal.nD Cert.ReferenceIdeal.τ).loc Cert.ReferenceIdeal.main_arg8) = m ((c.tc : Thread nD τ).loc main_arg8))
    (e9 : m' ((c.tc : Thread Cert.ReferenceIdeal.nD Cert.ReferenceIdeal.τ).loc Cert.ReferenceIdeal.main_arg9) = m ((c.tc : Thread nD τ).loc main_arg9))
    (e10 : m' ((c.tc : Thread Cert.ReferenceIdeal.nD Cert.ReferenceIdeal.τ).loc Cert.ReferenceIdeal.main_arg10) = m ((c.tc : Thread nD τ).loc main_arg10))
    (R : Routed (m ((c.tc : Thread nD τ).loc main_arg0)) (m ((c.tc : Thread nD τ).loc main_arg2)) (m ((c.tc : Thread nD τ).loc main_arg3)) (m ((c.tc : Thread nD τ).loc main_arg1))
      (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg9)))
    (P : Plans m) (hP : (P c).n = tn (m ((c.tc : Thread nD τ).loc main_arg0)) (m ((c.tc : Thread nD τ).loc main_arg1)) ∧ (P c).G = tg (m ((c.tc : Thread nD τ).loc main_arg5)) (m ((c.tc : Thread nD τ).loc main_arg6))) :
    Cert.ReferenceIdeal.Value.res_out0 m' c = fini m P c := by
  refine (res_eq m' c).trans ?_
  rw [e5, e6, e7, e8, e9, e10]
  refine rows_eq _ _ _ _ _ _ _ _ _ R (P c) hP.1 hP.2 _ _ (row m c) (fun p => if h : p < 64 then iblk m c 7 (gp p (by omega)) else fun _ => 0#32)
    (fun p => if h : p < 64 then iblk m c 8 (gp p (by omega)) else fun _ => (0 : EReal)) (fun p hp k u => ?_) (fun p hp u b => ?_) (fun p hp => ?_) ?_
  · simp only [dif_pos hp]; exact iblk_7 m c (gp p (by omega)) hp k u
  · simp only [dif_pos hp]; exact iblk_8 m c (gp p (by omega)) hp u b
  · simp only [dif_pos hp, row]
  · unfold row
    rw [dif_neg (by omega), iblk_9, iblk_10]

end Cert.Proof.Send

end
-- ==== Proof.MemRows.lean ====
/- The memory's keys and values at exact arithmetic: an entry is the sum, over the model's width, of the row's normalized
   entry times the weight, in the kernel's block and in the reference alike. -/
module

public import proofs.«01_k».proof.Proof.Gen.Kernel2Ideal.Skeleton
public import proofs.«01_k».proof.Proof.Gen.Reference2Ideal
public import Idealize.ShloMosaic.Lib.MatmulPlain
public import Idealize.ShloMosaic.Lib.ValueLayout
public import Idealize.ShloMosaic.PureOps.Ideal.Laws

@[expose] public section

noncomputable section

namespace Cert.Proof.Mem

open Idealize.ShloMosaic Idealize.ShloMosaic.TcCoe
open Idealize.ShloMosaic.ValueIdx

/-- A row's entry, normalized: the entry over the root of the row's mean square, times the gain. -/
def scaled (row : Fin 1024 → EReal) (g : Fin 1024 → EReal) (k : Fin 1024) : EReal :=
  row k * Ideal.rsqrt (Ideal.div (∑ j : Fin 1024, row j * row j) (Ideal.ofBits .f32 0x44800000#32) + Ideal.ofBits .f32 0x358637BD#32) * g k

/-- The projection of a normalized row onto a column of weights. -/
def proj (row g w : Fin 1024 → EReal) : EReal := ∑ k : Fin 1024, scaled row g k * w k

section Ker
open Cert.Kernel2Ideal Cert.Kernel2Ideal.Gen

theorem pay3_apply (x : FVec Ideal S1x256x1024 .f32) (g : FVec Ideal S1x1024 .f32) (r : Fin 256) (k : Fin 1024) :
    k0_pay3 (F := Ideal) x g (ix2 r k) = scaled (fun j => x (ix3 (0 : Fin 1) r j)) (fun j => g (ix2 (0 : Fin 1) j)) k := by
  have hx : ∀ j : Fin 1024, shapeCast S256x1024 x shapeCasts_S1x256x1024_S256x1024 (ix2 r j) = x (ix3 (0 : Fin 1) r j) := fun j =>
    shapeCast_apply _ _ _ _ (by
      rw [Shape.rowMajor_val_three, Shape.rowMajor_val_two]
      show (0 * 256 + r.val) * 1024 + j.val = r.val * 1024 + j.val
      omega)
  have hs : shapeCast S256x1 (multiReduction .add [1] S256 (mulf (shapeCast S256x1024 x shapeCasts_S1x256x1024_S256x1024) (shapeCast S256x1024 x shapeCasts_S1x256x1024_S256x1024)) 0x00000000#32 reduces_S256x1024_S256 (.inl rfl) rfl) shapeCasts_S256_S256x1 (ix2 r (0 : Fin 1))
      = ∑ j : Fin 1024, x (ix3 (0 : Fin 1) r j) * x (ix3 (0 : Fin 1) r j) := by
    refine (shapeCast_apply _ _ _ (ix1 r) (by
      rw [Shape.rowMajor_val_one, Shape.rowMajor_val_two]
      show r.val = r.val * 1 + 0
      omega)).trans ?_
    refine (Ideal.multiReduction_add_single _ _ reduces_S256x1024_S256 _ _ _).trans ?_
    refine Finset.sum_congr rfl fun (j : Fin 1024) _ => ?_
    have hl : reduces_S256x1024_S256.lift (ix1 r) j = ix2 r j := funext fun a => Fin.ext (match a with | ⟨0, _⟩ => rfl | ⟨1, _⟩ => rfl)
    refine (congrArg (mulf (shapeCast S256x1024 x shapeCasts_S1x256x1024_S256x1024) (shapeCast S256x1024 x shapeCasts_S1x256x1024_S256x1024)) hl).trans ?_
    exact congrArg₂ (fun p q : EReal => p * q) (hx j) (hx j)
  have hb : ∀ v : FVec Ideal S256x1 .f32, broadcastTo S256x1024 v broadcasts_S256x1_S256x1024 (ix2 r k) = v (ix2 r (0 : Fin 1)) := fun v =>
    broadcastTo_apply _ _ _ _ (fun a => match a with | ⟨0, _⟩ => rfl | ⟨1, _⟩ => rfl)
  have hg : broadcastTo S256x1024 (shapeCast S1x1024 g shapeCasts_S1x1024_S1x1024) broadcasts_S1x1024_S256x1024 (ix2 r k) = g (ix2 (0 : Fin 1) k) :=
    (broadcastTo_1b_ab_apply _ _ r k).trans (shapeCast_apply _ _ _ _ rfl)
  show shapeCast S256x1024 x shapeCasts_S1x256x1024_S256x1024 (ix2 r k) * broadcastTo S256x1024 _ broadcasts_S256x1_S256x1024 (ix2 r k) * broadcastTo S256x1024 (shapeCast S1x1024 g shapeCasts_S1x1024_S1x1024) broadcasts_S1x1024_S256x1024 (ix2 r k) = _
  rw [hx, hb, hg]
  unfold scaled
  rw [← hs]
  rfl

theorem pay4_apply (x : FVec Ideal S1x256x1024 .f32) (g : FVec Ideal S1x1024 .f32) (w : FVec Ideal S1024x1024 .bf16) (r : Fin 256) (k : Fin 1024) :
    k0_pay4 (F := Ideal) x g w (ix2 r k) = proj (fun j => x (ix3 (0 : Fin 1) r j)) (fun j => g (ix2 (0 : Fin 1) j)) (fun j => w (ix2 j k)) := by
  refine (Ideal.matmul_plain_apply (φ₂ := .bf16) none _ _ _ r k).trans ?_
  refine (congrArg (· + _) (Ideal.ofBits_zero_f32)).trans ((zero_add _).trans ?_)
  exact Finset.sum_congr rfl fun j _ => congrArg₂ (· * ·) (pay3_apply x g r j) (shapeCast_apply _ _ _ _ rfl)

theorem pay5_apply (x : FVec Ideal S1x256x1024 .f32) (g : FVec Ideal S1x1024 .f32) (w : FVec Ideal S1024x1024 .bf16) (r : Fin 256) (k : Fin 1024) :
    k0_pay5 (F := Ideal) x g w (ix2 r k) = proj (fun j => x (ix3 (0 : Fin 1) r j)) (fun j => g (ix2 (0 : Fin 1) j)) (fun j => w (ix2 j k)) :=
  pay4_apply x g w r k

end Ker

section Ref
open Cert.Reference2Ideal Cert.Reference2Ideal.Gen

/-- The reference's normalized rows. -/
def refRows (x : FVec Ideal S8x256x1024 .f32) (g : FVec Ideal S1x1024 .f32) : FVec Ideal S8x256x1024 .f32 :=
  mulf (mulf x (broadcastInDim S8x256x1024 ![0, 1, 2] bcast_S8x256x1_S8x256x1024_0_1_2 (Host.rsqrt (addf (Host.divf (broadcastInDim S8x256x1 ![0, 1] bcast_S8x256_S8x256x1_0_1 (Host.reduceAdd (mulf x x) (constant S_ .f32 0x00000000#32) reducesTo_S8x256x1024_S8x256_d2 h_S_)) (broadcastInDim S8x256x1 ![] bcast_S_S8x256x1 (constant S_ .f32 0x44800000#32))) (broadcastInDim S8x256x1 ![] bcast_S_S8x256x1 (constant S_ .f32 0x358637BD#32)))))) (broadcastInDim S8x256x1024 ![0, 1, 2] bcast_S1x1x1024_S8x256x1024_0_1_2 (broadcastInDim S1x1x1024 ![2] bcast_S1024_S1x1x1024_2 (shapeCast _ g shapeCasts_S1x1024_S1024)))

/-- The reference's projection of them. -/
def refProj (x : FVec Ideal S8x256x1024 .f32) (g : FVec Ideal S1x1024 .f32) (w : FVec Ideal S1x1024x1024 .f32) : FVec Ideal S8x256x1024 .f32 :=
  Host.dotGeneral dot_S8x256x1024_S1024x1024_S8x256x1024_2_0_01_1_n_n none (refRows x g) (shapeCast _ w shapeCasts_S1x1024x1024_S1024x1024)

theorem refRows_apply (x : FVec Ideal S8x256x1024 .f32) (g : FVec Ideal S1x1024 .f32) (b : Fin 8) (r : Fin 256) (k : Fin 1024) :
    refRows x g (ix3 b r k) = scaled (fun j => x (ix3 b r j)) (fun j => g (ix2 (0 : Fin 1) j)) k := by
  have hred : Shape.Reduces S8x256x1024 [2] S8x256 := by decide
  have hs : Host.reduceAdd (mulf x x) (constant S_ .f32 0x00000000#32) reducesTo_S8x256x1024_S8x256_d2 h_S_ (ix2 b r)
      = ∑ j : Fin 1024, x (ix3 b r j) * x (ix3 b r j) := by
    refine (Ideal.hostReduceAdd_single reducesTo_S8x256x1024_S8x256_d2 hred _ _ _).trans ?_
    refine (congrArg (· + _) (Ideal.ofBits_zero_f32)).trans ((zero_add _).trans ?_)
    refine Finset.sum_congr rfl fun j _ => ?_
    have hl : hred.lift (ix2 b r) j = ix3 b r j := funext fun a => Fin.ext (match a with | ⟨0, _⟩ => rfl | ⟨1, _⟩ => rfl | ⟨2, _⟩ => rfl)
    rw [hl]
    rfl
  have hb1 : ∀ v : FVec Ideal S8x256 .f32, broadcastInDim S8x256x1 ![0, 1] bcast_S8x256_S8x256x1_0_1 v (ix3 b r (0 : Fin 1)) = v (ix2 b r) := fun v =>
    broadcastInDim_apply _ _ _ _ _ (fun a => match a with | ⟨0, _⟩ => rfl | ⟨1, _⟩ => rfl)
  have hb : ∀ v : FVec Ideal S8x256x1 .f32, broadcastInDim S8x256x1024 ![0, 1, 2] bcast_S8x256x1_S8x256x1024_0_1_2 v (ix3 b r k) = v (ix3 b r (0 : Fin 1)) := fun v =>
    broadcastInDim_apply _ _ _ _ _ (fun a => match a with | ⟨0, _⟩ => rfl | ⟨1, _⟩ => rfl | ⟨2, _⟩ => rfl)
  have hg : broadcastInDim S8x256x1024 ![0, 1, 2] bcast_S1x1x1024_S8x256x1024_0_1_2 (broadcastInDim S1x1x1024 ![2] bcast_S1024_S1x1x1024_2 (shapeCast S1024 g shapeCasts_S1x1024_S1024)) (ix3 b r k) = g (ix2 (0 : Fin 1) k) := by
    refine (broadcastInDim_apply _ _ _ _ (ix3 (0 : Fin 1) (0 : Fin 1) k) (fun a => match a with | ⟨0, _⟩ => rfl | ⟨1, _⟩ => rfl | ⟨2, _⟩ => rfl)).trans ?_
    refine (broadcastInDim_apply _ _ _ _ (ix1 k) (fun a => match a with | ⟨0, _⟩ => rfl)).trans ?_
    exact shapeCast_apply _ _ _ _ (by
      rw [Shape.rowMajor_val_one, Shape.rowMajor_val_two]
      show 0 * 1024 + k.val = k.val
      omega)
  unfold refRows
  refine (congrArg₂ (fun p q : EReal => p * q) (congrArg (fun p : EReal => x (ix3 b r k) * p) (hb _)) hg).trans ?_
  unfold scaled
  rw [← hs, ← hb1 (Host.reduceAdd (mulf x x) (constant S_ .f32 0x00000000#32) reducesTo_S8x256x1024_S8x256_d2 h_S_)]
  rfl

theorem refProj_apply (x : FVec Ideal S8x256x1024 .f32) (g : FVec Ideal S1x1024 .f32) (w : FVec Ideal S1x1024x1024 .f32) (b : Fin 8) (r : Fin 256) (k : Fin 1024) :
    refProj x g w (ix3 b r k) = proj (fun j => x (ix3 b r j)) (fun j => g (ix2 (0 : Fin 1) j)) (fun j => w (ix3 (0 : Fin 1) j k)) := by
  unfold refProj
  show FloatOps.dotGeneral dot_S8x256x1024_S1024x1024_S8x256x1024_2_0_01_1_n_n none _ _ _ _ = _
  rw [Ideal.dotGeneral_apply, ← Equiv.sum_comp (contrEquiv1 dot_S8x256x1024_S1024x1024_S8x256x1024_2_0_01_1_n_n 1024 rfl rfl).symm]
  refine Finset.sum_congr rfl fun j _ => ?_
  have hc := contrEquiv1_symm_val dot_S8x256x1024_S1024x1024_S8x256x1024_2_0_01_1_n_n 1024 rfl rfl j
  have hl : dot_S8x256x1024_S1024x1024_S8x256x1024_2_0_01_1_n_n.lhsIdx (ix3 b r k) ((contrEquiv1 _ 1024 rfl rfl).symm j) = ix3 b r j :=
    funext fun a => Fin.ext (match a with | ⟨0, _⟩ => rfl | ⟨1, _⟩ => rfl | ⟨2, _⟩ => hc)
  have hr : dot_S8x256x1024_S1024x1024_S8x256x1024_2_0_01_1_n_n.rhsIdx (ix3 b r k) ((contrEquiv1 _ 1024 rfl rfl).symm j) = ix2 j k :=
    funext fun a => Fin.ext (match a with | ⟨0, _⟩ => hc | ⟨1, _⟩ => rfl)
  rw [hl, hr, refRows_apply]
  refine congrArg (fun p : EReal => scaled (fun j => x (ix3 b r j)) (fun j => g (ix2 (0 : Fin 1) j)) j * p) ?_
  exact shapeCast_apply _ _ _ _ (by
    rw [Shape.rowMajor_val_three, Shape.rowMajor_val_two]
    show (0 * 1024 + j.val) * 1024 + k.val = j.val * 1024 + k.val
    omega)

end Ref

end Cert.Proof.Mem

end
-- ==== Proof.MemRun.lean ====
/- What the memory projection leaves: in every block the rows' projections, so each of its four arrays at an index. -/
module

public import proofs.«01_k».proof.Proof.Gen.Kernel2Ideal.Frame
public import proofs.«01_k».proof.Proof.MemRows
public import Idealize.ShloMosaic.Lib.Pipeline.Value
public import Idealize.ShloMosaic.Lib.Pipeline.ValueKit.Basic

@[expose] public section

noncomputable section

namespace Cert.Proof.Mem

open Cert.Kernel2Ideal Cert.Kernel2Ideal.Gen
open Idealize.ShloMosaic Idealize.ShloMosaic.TcCoe Idealize.SL.Sem
open Idealize.ShloMosaic.ValueIdx
open Idealize.ShloMosaic.Pipeline (Dat Cfg Window)

variable (m : (ℓ : Loc nD τ sig) → Buf (Elt Ideal) ℓ) (ρ : Dev nD → PrngReg)

/-! ## What the call finds -/

theorem V_gain (c : Dev nD) : V m c main_v1 = shapeCast S1x1024 (shapeCast S1024 (m ((c : Thread nD τ).loc main_arg1)) shapeCasts_S1x1024_S1024) shapeCasts_S1024_S1x1024 := by
  show StableHlo.after hostOps0 _ _ = _
  after_results <;> rfl

theorem V_keys (c : Dev nD) : V m c main_v3 = (truncf (F := Ideal) (φ := .f32) .bf16 (shapeCast S1024x1024 (m ((c : Thread nD τ).loc main_arg2) : FVec Ideal S1x1024x1024 .f32) shapeCasts_S1x1024x1024_S1024x1024 : FVec Ideal S1024x1024 .f32) bitsLt_bf16_f32 : FVec Ideal S1024x1024 .bf16) := by
  show StableHlo.after hostOps0 _ _ = _
  after_results <;> rfl

theorem V_vals (c : Dev nD) : V m c main_v5 = (truncf (F := Ideal) (φ := .f32) .bf16 (shapeCast S1024x1024 (m ((c : Thread nD τ).loc main_arg3) : FVec Ideal S1x1024x1024 .f32) shapeCasts_S1x1024x1024_S1024x1024 : FVec Ideal S1024x1024 .f32) bitsLt_bf16_f32 : FVec Ideal S1024x1024 .bf16) := by
  show StableHlo.after hostOps0 _ _ = _
  after_results <;> rfl

/-! ## The windows' places -/

theorem at_0 : ∀ t : Fin cfg0.N, win0_0.index t (0 : Fin 3) = t.val ∧ win0_0.index t (1 : Fin 3) = 0 ∧ win0_0.index t (2 : Fin 3) = 0 :=
  (by decide +kernel : ∀ t : Fin grid0.N, _)
theorem at_1 : ∀ t : Fin cfg0.N, win0_1.index t (0 : Fin 2) = 0 ∧ win0_1.index t (1 : Fin 2) = 0 :=
  (by decide +kernel : ∀ t : Fin grid0.N, _)
theorem at_2 : ∀ t : Fin cfg0.N, win0_2.index t (0 : Fin 2) = 0 ∧ win0_2.index t (1 : Fin 2) = 0 :=
  (by decide +kernel : ∀ t : Fin grid0.N, _)
theorem at_3 : ∀ t : Fin cfg0.N, win0_3.index t (0 : Fin 2) = 0 ∧ win0_3.index t (1 : Fin 2) = 0 :=
  (by decide +kernel : ∀ t : Fin grid0.N, _)
theorem at_4 : ∀ t : Fin cfg0.N, win0_4.index t (0 : Fin 4) = t.val ∧ win0_4.index t (1 : Fin 4) = 0 ∧ win0_4.index t (2 : Fin 4) = 0 ∧ win0_4.index t (3 : Fin 4) = 0 :=
  (by decide +kernel : ∀ t : Fin grid0.N, _)
theorem at_5 : ∀ t : Fin cfg0.N, win0_5.index t (0 : Fin 4) = t.val ∧ win0_5.index t (1 : Fin 4) = 0 ∧ win0_5.index t (2 : Fin 4) = 0 ∧ win0_5.index t (3 : Fin 4) = 0 :=
  (by decide +kernel : ∀ t : Fin grid0.N, _)
theorem at_6 : ∀ t : Fin cfg0.N, win0_6.index t (0 : Fin 3) = t.val ∧ win0_6.index t (1 : Fin 3) = 0 ∧ win0_6.index t (2 : Fin 3) = 0 :=
  (by decide +kernel : ∀ t : Fin grid0.N, _)
theorem at_7 : ∀ t : Fin cfg0.N, win0_7.index t (0 : Fin 3) = t.val ∧ win0_7.index t (1 : Fin 3) = 0 ∧ win0_7.index t (2 : Fin 3) = 0 :=
  (by decide +kernel : ∀ t : Fin grid0.N, _)
theorem flush_4 : ∀ t : Fin cfg0.N, (cfg0.win 4).flush t = true :=
  (by decide +kernel : ∀ t : Fin grid0.N, _)
theorem flush_5 : ∀ t : Fin cfg0.N, (cfg0.win 5).flush t = true :=
  (by decide +kernel : ∀ t : Fin grid0.N, _)
theorem flush_6 : ∀ t : Fin cfg0.N, (cfg0.win 6).flush t = true :=
  (by decide +kernel : ∀ t : Fin grid0.N, _)
theorem flush_7 : ∀ t : Fin cfg0.N, (cfg0.win 7).flush t = true :=
  (by decide +kernel : ∀ t : Fin grid0.N, _)

theorem emb_0 (t : Fin 8) (r : Fin 256) (k : Fin 1024) : ((cfg0.win 0).blk (t : Fin cfg0.N)).view.emb (ix3 (0 : Fin 1) r k) = ix3 t r k := by
  obtain ⟨h0, h1, h2⟩ := at_0 t
  funext (a : Fin 3)
  apply Fin.ext
  match a with
  | ⟨0, _⟩ => show win0_0.index t (0 : Fin 3) * 1 + 1 * 0 = t.val; omega
  | ⟨1, _⟩ => show win0_0.index t (1 : Fin 3) * 256 + 1 * r.val = r.val; omega
  | ⟨2, _⟩ => show win0_0.index t (2 : Fin 3) * 1024 + 1 * k.val = k.val; omega
theorem emb_1 (t : Fin 8) (k : Fin 1024) : ((cfg0.win 1).blk (t : Fin cfg0.N)).view.emb (ix2 (0 : Fin 1) k) = ix2 (0 : Fin 1) k := by
  obtain ⟨h0, h1⟩ := at_1 t
  funext (a : Fin 2)
  apply Fin.ext
  match a with
  | ⟨0, _⟩ => show win0_1.index t (0 : Fin 2) * 1 + 1 * 0 = 0; omega
  | ⟨1, _⟩ => show win0_1.index t (1 : Fin 2) * 1024 + 1 * k.val = k.val; omega
theorem emb_2 (t : Fin 8) (j k : Fin 1024) : ((cfg0.win 2).blk (t : Fin cfg0.N)).view.emb (ix2 j k) = ix2 j k := by
  obtain ⟨h0, h1⟩ := at_2 t
  funext (a : Fin 2)
  apply Fin.ext
  match a with
  | ⟨0, _⟩ => show win0_2.index t (0 : Fin 2) * 1024 + 1 * j.val = j.val; omega
  | ⟨1, _⟩ => show win0_2.index t (1 : Fin 2) * 1024 + 1 * k.val = k.val; omega
theorem emb_3 (t : Fin 8) (j k : Fin 1024) : ((cfg0.win 3).blk (t : Fin cfg0.N)).view.emb (ix2 j k) = ix2 j k := by
  obtain ⟨h0, h1⟩ := at_3 t
  funext (a : Fin 2)
  apply Fin.ext
  match a with
  | ⟨0, _⟩ => show win0_3.index t (0 : Fin 2) * 1024 + 1 * j.val = j.val; omega
  | ⟨1, _⟩ => show win0_3.index t (1 : Fin 2) * 1024 + 1 * k.val = k.val; omega
theorem emb_4 (t : Fin 8) (r : Fin 256) (h : Fin 4) (k : Fin 256) : ((cfg0.win 4).blk (t : Fin cfg0.N)).view.emb (ix4 (0 : Fin 1) r h k) = ix4 t r h k := by
  obtain ⟨h0, h1, h2, h3⟩ := at_4 t
  funext (a : Fin 4)
  apply Fin.ext
  match a with
  | ⟨0, _⟩ => show win0_4.index t (0 : Fin 4) * 1 + 1 * 0 = t.val; omega
  | ⟨1, _⟩ => show win0_4.index t (1 : Fin 4) * 256 + 1 * r.val = r.val; omega
  | ⟨2, _⟩ => show win0_4.index t (2 : Fin 4) * 4 + 1 * h.val = h.val; omega
  | ⟨3, _⟩ => show win0_4.index t (3 : Fin 4) * 256 + 1 * k.val = k.val; omega
theorem emb_5 (t : Fin 8) (r : Fin 256) (h : Fin 4) (k : Fin 256) : ((cfg0.win 5).blk (t : Fin cfg0.N)).view.emb (ix4 (0 : Fin 1) r h k) = ix4 t r h k := by
  obtain ⟨h0, h1, h2, h3⟩ := at_5 t
  funext (a : Fin 4)
  apply Fin.ext
  match a with
  | ⟨0, _⟩ => show win0_5.index t (0 : Fin 4) * 1 + 1 * 0 = t.val; omega
  | ⟨1, _⟩ => show win0_5.index t (1 : Fin 4) * 256 + 1 * r.val = r.val; omega
  | ⟨2, _⟩ => show win0_5.index t (2 : Fin 4) * 4 + 1 * h.val = h.val; omega
  | ⟨3, _⟩ => show win0_5.index t (3 : Fin 4) * 256 + 1 * k.val = k.val; omega
theorem emb_6 (t : Fin 8) (r : Fin 256) (k : Fin 1024) : ((cfg0.win 6).blk (t : Fin cfg0.N)).view.emb (ix3 (0 : Fin 1) r k) = ix3 t r k := by
  obtain ⟨h0, h1, h2⟩ := at_6 t
  funext (a : Fin 3)
  apply Fin.ext
  match a with
  | ⟨0, _⟩ => show win0_6.index t (0 : Fin 3) * 1 + 1 * 0 = t.val; omega
  | ⟨1, _⟩ => show win0_6.index t (1 : Fin 3) * 256 + 1 * r.val = r.val; omega
  | ⟨2, _⟩ => show win0_6.index t (2 : Fin 3) * 1024 + 1 * k.val = k.val; omega
theorem emb_7 (t : Fin 8) (r : Fin 256) (k : Fin 1024) : ((cfg0.win 7).blk (t : Fin cfg0.N)).view.emb (ix3 (0 : Fin 1) r k) = ix3 t r k := by
  obtain ⟨h0, h1, h2⟩ := at_7 t
  funext (a : Fin 3)
  apply Fin.ext
  match a with
  | ⟨0, _⟩ => show win0_7.index t (0 : Fin 3) * 1 + 1 * 0 = t.val; omega
  | ⟨1, _⟩ => show win0_7.index t (1 : Fin 3) * 256 + 1 * r.val = r.val; omega
  | ⟨2, _⟩ => show win0_7.index t (2 : Fin 3) * 1024 + 1 * k.val = k.val; omega

/-! ## The staged blocks -/

theorem gain_cast (g : FVec Ideal S1x1024 .f32) (k : Fin 1024) :
    shapeCast S1x1024 (shapeCast S1024 g shapeCasts_S1x1024_S1024) shapeCasts_S1024_S1x1024 (ix2 (0 : Fin 1) k) = g (ix2 (0 : Fin 1) k) :=
  (shapeCast_apply _ _ _ (ix1 k) (by
    rw [Shape.rowMajor_val_one, Shape.rowMajor_val_two]
    show k.val = 0 * 1024 + k.val
    omega)).trans (shapeCast_apply _ _ _ _ (by
    rw [Shape.rowMajor_val_one, Shape.rowMajor_val_two]
    show 0 * 1024 + k.val = k.val
    omega))
theorem weight_cast (w : FVec Ideal S1x1024x1024 .f32) (j k : Fin 1024) :
    truncf .bf16 (shapeCast S1024x1024 w shapeCasts_S1x1024x1024_S1024x1024) bitsLt_bf16_f32 (ix2 j k) = w (ix3 (0 : Fin 1) j k) :=
  shapeCast_apply w _ (ix2 j k) (ix3 (0 : Fin 1) j k) (by
    rw [Shape.rowMajor_val_three, Shape.rowMajor_val_two]
    show (0 * 1024 + j.val) * 1024 + k.val = j.val * 1024 + k.val
    omega)

theorem mem_at (c : Dev nD) (t : Fin 8) (r : Fin 256) (k : Fin 1024) :
    iblk m c 0 (t : Fin cfg0.N) (ix3 (0 : Fin 1) r k) = m ((c : Thread nD τ).loc main_arg0) (ix3 t r k) := by
  show V m c main_arg0 (((cfg0.win 0).blk (t : Fin cfg0.N)).view.emb (ix3 (0 : Fin 1) r k)) = _
  rw [emb_0, V_main_arg0]
theorem gain_at (c : Dev nD) (t : Fin 8) (k : Fin 1024) :
    iblk m c 1 (t : Fin cfg0.N) (ix2 (0 : Fin 1) k) = m ((c : Thread nD τ).loc main_arg1) (ix2 (0 : Fin 1) k) := by
  show V m c main_v1 (((cfg0.win 1).blk (t : Fin cfg0.N)).view.emb (ix2 (0 : Fin 1) k)) = _
  rw [emb_1, V_gain]
  exact gain_cast _ k
theorem keys_at (c : Dev nD) (t : Fin 8) (j k : Fin 1024) :
    iblk m c 2 (t : Fin cfg0.N) (ix2 j k) = m ((c : Thread nD τ).loc main_arg2) (ix3 (0 : Fin 1) j k) := by
  show V m c main_v3 (((cfg0.win 2).blk (t : Fin cfg0.N)).view.emb (ix2 j k)) = _
  rw [emb_2, V_keys]
  exact weight_cast _ j k
theorem vals_at (c : Dev nD) (t : Fin 8) (j k : Fin 1024) :
    iblk m c 3 (t : Fin cfg0.N) (ix2 j k) = m ((c : Thread nD τ).loc main_arg3) (ix3 (0 : Fin 1) j k) := by
  show V m c main_v5 (((cfg0.win 3).blk (t : Fin cfg0.N)).view.emb (ix2 j k)) = _
  rw [emb_3, V_vals]
  exact weight_cast _ j k

theorem proj_congr {a a' g g' w w' : Fin 1024 → EReal} (ha : ∀ j, a j = a' j) (hg : ∀ j, g j = g' j) (hw : ∀ j, w j = w' j) : proj a g w = proj a' g' w' := by
  rw [funext ha, funext hg, funext hw]

/-- A row's projection onto a column of the keys' weights, from the arguments. -/
def keyOf (c : Dev nD) (t : Fin 8) (r : Fin 256) (k : Fin 1024) : EReal :=
  proj (fun j => m ((c : Thread nD τ).loc main_arg0) (ix3 t r j)) (fun j => m ((c : Thread nD τ).loc main_arg1) (ix2 (0 : Fin 1) j)) (fun j => m ((c : Thread nD τ).loc main_arg2) (ix3 (0 : Fin 1) j k))
/-- The same onto a column of the values' weights. -/
def valOf (c : Dev nD) (t : Fin 8) (r : Fin 256) (k : Fin 1024) : EReal :=
  proj (fun j => m ((c : Thread nD τ).loc main_arg0) (ix3 t r j)) (fun j => m ((c : Thread nD τ).loc main_arg1) (ix2 (0 : Fin 1) j)) (fun j => m ((c : Thread nD τ).loc main_arg3) (ix3 (0 : Fin 1) j k))

/-- A head's lane, as a column. -/
def col (h : Fin 4) (k : Fin 256) : Fin 1024 := ⟨256 * h.val + k.val, by omega⟩

theorem heads (x : FVec Ideal S256x1024 .f32) (r : Fin 256) (h : Fin 4) (k : Fin 256) :
    shapeCast S1x256x4x256 (shapeCast S256x4x256 x shapeCasts_S256x1024_S256x4x256) shapeCasts_S256x4x256_S1x256x4x256 (ix4 (0 : Fin 1) r h k) = x (ix2 r (col h k)) :=
  (shapeCast_apply _ _ _ (ix3 r h k) (by
    rw [Shape.rowMajor_val_three, Shape.rowMajor_val_four]
    show (r.val * 4 + h.val) * 256 + k.val = ((0 * 256 + r.val) * 4 + h.val) * 256 + k.val
    omega)).trans (shapeCast_apply _ _ _ (ix2 r (col h k)) (by
    rw [Shape.rowMajor_val_two, Shape.rowMajor_val_three]
    show r.val * 1024 + (256 * h.val + k.val) = (r.val * 4 + h.val) * 256 + k.val
    omega))
theorem flat (x : FVec Ideal S256x1024 .bf16) (r : Fin 256) (k : Fin 1024) :
    shapeCast S1x256x1024 x shapeCasts_S256x1024_S1x256x1024 (ix3 (0 : Fin 1) r k) = x (ix2 r k) :=
  shapeCast_apply _ _ _ _ (by
    rw [Shape.rowMajor_val_two, Shape.rowMajor_val_three]
    show r.val * 1024 + k.val = (0 * 256 + r.val) * 1024 + k.val
    omega)

theorem key_pay (x : FVec Ideal S1x256x1024 .f32) (g : FVec Ideal S1x1024 .f32) (w : FVec Ideal S1024x1024 .bf16) (r : Fin 256) (k : Fin 1024) :
    k0_pay4 (F := Ideal) (View.ld (Val := Elt Ideal) x r0_0) (View.ld (Val := Elt Ideal) g r0_1) (View.ld (Val := Elt Ideal) w r0_2) (ix2 r k) = proj (fun j => x (ix3 (0 : Fin 1) r j)) (fun j => g (ix2 (0 : Fin 1) j)) (fun j => w (ix2 j k)) := by
  rw [View.ld_unit_lit inb_S1x256x1024_S1x256x1024_0_0_0 _ (by decide), View.ld_unit_lit inb_S1x1024_S1x1024_0_0 _ (by decide), View.ld_unit_lit inb_S1024x1024_S1024x1024_0_0 _ (by decide)]
  exact pay4_apply _ _ _ r k
theorem val_pay (x : FVec Ideal S1x256x1024 .f32) (g : FVec Ideal S1x1024 .f32) (w : FVec Ideal S1024x1024 .bf16) (r : Fin 256) (k : Fin 1024) :
    k0_pay5 (F := Ideal) (View.ld (Val := Elt Ideal) x r0_0) (View.ld (Val := Elt Ideal) g r0_1) (View.ld (Val := Elt Ideal) w r0_2) (ix2 r k) = proj (fun j => x (ix3 (0 : Fin 1) r j)) (fun j => g (ix2 (0 : Fin 1) j)) (fun j => w (ix2 j k)) := by
  rw [View.ld_unit_lit inb_S1x256x1024_S1x256x1024_0_0_0 _ (by decide), View.ld_unit_lit inb_S1x1024_S1x1024_0_0 _ (by decide), View.ld_unit_lit inb_S1024x1024_S1024x1024_0_0 _ (by decide)]
  exact pay5_apply _ _ _ r k

theorem key_heads (x : FVec Ideal S1x256x1024 .f32) (g : FVec Ideal S1x1024 .f32) (w : FVec Ideal S1024x1024 .bf16) (r : Fin 256) (h : Fin 4) (k : Fin 256) :
    k0_pay6 (F := Ideal) x g w (ix4 (0 : Fin 1) r h k) = k0_pay4 (F := Ideal) x g w (ix2 r (col h k)) := by
  have e : k0_pay6 (F := Ideal) x g w = shapeCast S1x256x4x256 (shapeCast S256x4x256 (k0_pay4 (F := Ideal) x g w) shapeCasts_S256x1024_S256x4x256) shapeCasts_S256x4x256_S1x256x4x256 := by
    unfold k0_pay6
    rfl
  rw [e]
  exact heads _ r h k
theorem val_heads (x : FVec Ideal S1x256x1024 .f32) (g : FVec Ideal S1x1024 .f32) (w : FVec Ideal S1024x1024 .bf16) (r : Fin 256) (h : Fin 4) (k : Fin 256) :
    k0_pay7 (F := Ideal) x g w (ix4 (0 : Fin 1) r h k) = k0_pay5 (F := Ideal) x g w (ix2 r (col h k)) := by
  have e : k0_pay7 (F := Ideal) x g w = shapeCast S1x256x4x256 (shapeCast S256x4x256 (k0_pay5 (F := Ideal) x g w) shapeCasts_S256x1024_S256x4x256) shapeCasts_S256x4x256_S1x256x4x256 := by
    unfold k0_pay7
    rfl
  rw [e]
  exact heads _ r h k
theorem left_4 (x : FVec Ideal S1x256x1024 .f32) (g : FVec Ideal S1x1024 .f32) (w u : FVec Ideal S1024x1024 .bf16) (r : Fin 256) (h : Fin 4) (k : Fin 256) :
    out0_4 (F := Ideal) x g w u (ix4 (0 : Fin 1) r h k) = proj (fun j => x (ix3 (0 : Fin 1) r j)) (fun j => g (ix2 (0 : Fin 1) j)) (fun j => w (ix2 j (col h k))) := by
  have e : out0_4 (F := Ideal) x g w u = k0_pay6 (F := Ideal) (View.ld (Val := Elt Ideal) x r0_0) (View.ld (Val := Elt Ideal) g r0_1) (View.ld (Val := Elt Ideal) w r0_2) := by
    unfold out0_4
    exact View.canon_cons_unit_lit inb_S1x256x4x256_S1x256x4x256_0_0_0_0 _ [] (by decide)
  rw [e, key_heads]
  exact key_pay x g w r (col h k)
theorem left_5 (x : FVec Ideal S1x256x1024 .f32) (g : FVec Ideal S1x1024 .f32) (w u : FVec Ideal S1024x1024 .bf16) (r : Fin 256) (h : Fin 4) (k : Fin 256) :
    out0_5 (F := Ideal) x g w u (ix4 (0 : Fin 1) r h k) = proj (fun j => x (ix3 (0 : Fin 1) r j)) (fun j => g (ix2 (0 : Fin 1) j)) (fun j => u (ix2 j (col h k))) := by
  have e : out0_5 (F := Ideal) x g w u = k0_pay7 (F := Ideal) (View.ld (Val := Elt Ideal) x r0_0) (View.ld (Val := Elt Ideal) g r0_1) (View.ld (Val := Elt Ideal) u r0_2) := by
    unfold out0_5
    exact View.canon_cons_unit_lit inb_S1x256x4x256_S1x256x4x256_0_0_0_0 _ [] (by decide)
  rw [e, val_heads]
  exact val_pay x g u r (col h k)
theorem left_6 (x : FVec Ideal S1x256x1024 .f32) (g : FVec Ideal S1x1024 .f32) (w u : FVec Ideal S1024x1024 .bf16) (r : Fin 256) (k : Fin 1024) :
    out0_6 (F := Ideal) x g w u (ix3 (0 : Fin 1) r k) = proj (fun j => x (ix3 (0 : Fin 1) r j)) (fun j => g (ix2 (0 : Fin 1) j)) (fun j => w (ix2 j (k))) := by
  unfold out0_6
  rw [View.canon_cons_unit_lit inb_S1x256x1024_S1x256x1024_0_0_0 _ _ (by decide)]
  exact (flat _ r k).trans (key_pay x g w r (k))
theorem left_7 (x : FVec Ideal S1x256x1024 .f32) (g : FVec Ideal S1x1024 .f32) (w u : FVec Ideal S1024x1024 .bf16) (r : Fin 256) (k : Fin 1024) :
    out0_7 (F := Ideal) x g w u (ix3 (0 : Fin 1) r k) = proj (fun j => x (ix3 (0 : Fin 1) r j)) (fun j => g (ix2 (0 : Fin 1) j)) (fun j => u (ix2 j (k))) := by
  unfold out0_7
  rw [View.canon_cons_unit_lit inb_S1x256x1024_S1x256x1024_0_0_0 _ _ (by decide)]
  exact (flat _ r k).trans (val_pay x g u r (k))

/-! ## The arrays after the run -/

theorem apart_4 : ∀ t t' : Fin cfg0.N, (cfg0.win 4).flush t = true → (cfg0.win 4).flush t' = true → t ≠ t' → Disjoint ((cfg0.win 4).blk t).view.set ((cfg0.win 4).blk t').view.set :=
  fun t t' _ _ hne => (cfg0.win 4).disjoint_blk fun h => hne (Fin.ext ((at_4 t).1.symm.trans ((congrFun h (0 : Fin 4)).trans (at_4 t').1)))
theorem apart_5 : ∀ t t' : Fin cfg0.N, (cfg0.win 5).flush t = true → (cfg0.win 5).flush t' = true → t ≠ t' → Disjoint ((cfg0.win 5).blk t).view.set ((cfg0.win 5).blk t').view.set :=
  fun t t' _ _ hne => (cfg0.win 5).disjoint_blk fun h => hne (Fin.ext ((at_5 t).1.symm.trans ((congrFun h (0 : Fin 4)).trans (at_5 t').1)))
theorem apart_6 : ∀ t t' : Fin cfg0.N, (cfg0.win 6).flush t = true → (cfg0.win 6).flush t' = true → t ≠ t' → Disjoint ((cfg0.win 6).blk t).view.set ((cfg0.win 6).blk t').view.set :=
  fun t t' _ _ hne => (cfg0.win 6).disjoint_blk fun h => hne (Fin.ext ((at_6 t).1.symm.trans ((congrFun h (0 : Fin 3)).trans (at_6 t').1)))
theorem apart_7 : ∀ t t' : Fin cfg0.N, (cfg0.win 7).flush t = true → (cfg0.win 7).flush t' = true → t ≠ t' → Disjoint ((cfg0.win 7).blk t).view.set ((cfg0.win 7).blk t').view.set :=
  fun t t' _ _ hne => (cfg0.win 7).disjoint_blk fun h => hne (Fin.ext ((at_7 t).1.symm.trans ((congrFun h (0 : Fin 3)).trans (at_7 t').1)))

theorem final_4 (c : Dev nD) (t : Fin 8) (r : Fin 256) (h : Fin 4) (k : Fin 256) :
    (dats m 0 c).arrAt 4 cfg0.N (ix4 t r h k) = keyOf m c t r (col h k) := by
  have b := congrFun ((dats m 0 c).read_blk_arrAt_eq_flushed 4 apart_4 cfg0.N t t.isLt (flush_4 t)) (ix4 (0 : Fin 1) r h k)
  have b' : (dats m 0 c).arrAt 4 cfg0.N (((cfg0.win 4).blk (t : Fin cfg0.N)).view.emb (ix4 (0 : Fin 1) r h k)) = (dats m 0 c).after 4 t (ix4 (0 : Fin 1) r h k) := b
  rw [emb_4] at b'
  refine b'.trans ((congrFun (after0_4 m c t) (ix4 (0 : Fin 1) r h k)).trans ((left_4 _ _ _ _ r h k).trans ?_))
  unfold keyOf
  exact proj_congr (fun j => mem_at m c t r j) (fun j => gain_at m c t j) (fun j => keys_at m c t j (col h k))
theorem final_5 (c : Dev nD) (t : Fin 8) (r : Fin 256) (h : Fin 4) (k : Fin 256) :
    (dats m 0 c).arrAt 5 cfg0.N (ix4 t r h k) = valOf m c t r (col h k) := by
  have b := congrFun ((dats m 0 c).read_blk_arrAt_eq_flushed 5 apart_5 cfg0.N t t.isLt (flush_5 t)) (ix4 (0 : Fin 1) r h k)
  have b' : (dats m 0 c).arrAt 5 cfg0.N (((cfg0.win 5).blk (t : Fin cfg0.N)).view.emb (ix4 (0 : Fin 1) r h k)) = (dats m 0 c).after 5 t (ix4 (0 : Fin 1) r h k) := b
  rw [emb_5] at b'
  refine b'.trans ((congrFun (after0_5 m c t) (ix4 (0 : Fin 1) r h k)).trans ((left_5 _ _ _ _ r h k).trans ?_))
  unfold valOf
  exact proj_congr (fun j => mem_at m c t r j) (fun j => gain_at m c t j) (fun j => vals_at m c t j (col h k))
theorem final_6 (c : Dev nD) (t : Fin 8) (r : Fin 256) (k : Fin 1024) :
    (dats m 0 c).arrAt 6 cfg0.N (ix3 t r k) = keyOf m c t r k := by
  have b := congrFun ((dats m 0 c).read_blk_arrAt_eq_flushed 6 apart_6 cfg0.N t t.isLt (flush_6 t)) (ix3 (0 : Fin 1) r k)
  have b' : (dats m 0 c).arrAt 6 cfg0.N (((cfg0.win 6).blk (t : Fin cfg0.N)).view.emb (ix3 (0 : Fin 1) r k)) = (dats m 0 c).after 6 t (ix3 (0 : Fin 1) r k) := b
  rw [emb_6] at b'
  refine b'.trans ((congrFun (after0_6 m c t) (ix3 (0 : Fin 1) r k)).trans ((left_6 _ _ _ _ r k).trans ?_))
  unfold keyOf
  exact proj_congr (fun j => mem_at m c t r j) (fun j => gain_at m c t j) (fun j => keys_at m c t j k)
theorem final_7 (c : Dev nD) (t : Fin 8) (r : Fin 256) (k : Fin 1024) :
    (dats m 0 c).arrAt 7 cfg0.N (ix3 t r k) = valOf m c t r k := by
  have b := congrFun ((dats m 0 c).read_blk_arrAt_eq_flushed 7 apart_7 cfg0.N t t.isLt (flush_7 t)) (ix3 (0 : Fin 1) r k)
  have b' : (dats m 0 c).arrAt 7 cfg0.N (((cfg0.win 7).blk (t : Fin cfg0.N)).view.emb (ix3 (0 : Fin 1) r k)) = (dats m 0 c).after 7 t (ix3 (0 : Fin 1) r k) := b
  rw [emb_7] at b'
  refine b'.trans ((congrFun (after0_7 m c t) (ix3 (0 : Fin 1) r k)).trans ((left_7 _ _ _ _ r k).trans ?_))
  unfold valOf
  exact proj_congr (fun j => mem_at m c t r j) (fun j => gain_at m c t j) (fun j => vals_at m c t j k)

/-- The run: each result is the array the pipeline leaves, the arguments as launched. -/
theorem run : θ_run defs (onTc (τ := τ) (main (F := Ideal))) ⟨m, fun _ => 0, ρ⟩ fun r => ∀ c : Dev nD,
      r.2.mem ((c : Thread nD τ).loc main_v6_0) = (dats m 0 c).arrAt 4 cfg0.N
      ∧ r.2.mem ((c : Thread nD τ).loc main_v6_1) = (dats m 0 c).arrAt 5 cfg0.N
      ∧ r.2.mem ((c : Thread nD τ).loc main_v6_2) = (dats m 0 c).arrAt 6 cfg0.N
      ∧ r.2.mem ((c : Thread nD τ).loc main_v6_3) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 4, (h c).1 5, (h c).1 6, (h c).1 7,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.Proof.Mem

end
-- ==== Proof.MemClaim.lean ====
/- The memory projection's claims: its frames, and its four arrays equal to the reference's keys and values. -/
module

public import proofs.«01_k».proof.Defs
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.MemRun
public import Idealize.ShloMosaic.Adequacy
public import Idealize.ShloMosaic.Init

@[expose] public section

noncomputable section

namespace Cert.Proof.Mem

open Idealize.ShloMosaic Idealize.ShloMosaic.TcCoe Idealize.SL.Sem
open Idealize.ShloMosaic.ValueIdx

section Ref
open Cert.Reference2Ideal Cert.Reference2Ideal.Gen

theorem ref_heads (x : FVec Ideal S8x256x1024 .f32) (t : Fin 8) (r : Fin 256) (h : Fin 4) (k : Fin 256) :
    shapeCast S8x256x4x256 x shapeCasts_S8x256x1024_S8x256x4x256 (ix4 t r h k) = x (ix3 t r (col h k)) :=
  shapeCast_apply _ _ _ _ (by
    rw [Shape.rowMajor_val_three, Shape.rowMajor_val_four]
    show (t.val * 256 + r.val) * 1024 + (256 * h.val + k.val) = ((t.val * 256 + r.val) * 4 + h.val) * 256 + k.val
    omega)

end Ref

variable (m : (ℓ : Loc Cert.Kernel2Ideal.nD Cert.Kernel2Ideal.τ Cert.Kernel2Ideal.sig) → Buf (Elt Ideal) ℓ)

/-- The reference's projection, at an index, is the keys' or the values'. -/
theorem ref_key (c : Dev Cert.Kernel2Ideal.nD) (x : FVec Ideal ⟨3, ![8, 256, 1024]⟩ .f32) (g : FVec Ideal ⟨2, ![1, 1024]⟩ .f32) (w : FVec Ideal ⟨3, ![1, 1024, 1024]⟩ .f32)
    (hx : x = m ((c.tc : Thread Cert.Kernel2Ideal.nD Cert.Kernel2Ideal.τ).loc Cert.Kernel2Ideal.main_arg0)) (hg : g = m ((c.tc : Thread Cert.Kernel2Ideal.nD Cert.Kernel2Ideal.τ).loc Cert.Kernel2Ideal.main_arg1))
    (hw : w = m ((c.tc : Thread Cert.Kernel2Ideal.nD Cert.Kernel2Ideal.τ).loc Cert.Kernel2Ideal.main_arg2)) (t : Fin 8) (r : Fin 256) (k : Fin 1024) :
    refProj x g w (ix3 t r k) = keyOf m c t r k := by
  subst hx hg hw
  exact refProj_apply _ _ _ t r k
theorem ref_val (c : Dev Cert.Kernel2Ideal.nD) (x : FVec Ideal ⟨3, ![8, 256, 1024]⟩ .f32) (g : FVec Ideal ⟨2, ![1, 1024]⟩ .f32) (w : FVec Ideal ⟨3, ![1, 1024, 1024]⟩ .f32)
    (hx : x = m ((c.tc : Thread Cert.Kernel2Ideal.nD Cert.Kernel2Ideal.τ).loc Cert.Kernel2Ideal.main_arg0)) (hg : g = m ((c.tc : Thread Cert.Kernel2Ideal.nD Cert.Kernel2Ideal.τ).loc Cert.Kernel2Ideal.main_arg1))
    (hw : w = m ((c.tc : Thread Cert.Kernel2Ideal.nD Cert.Kernel2Ideal.τ).loc Cert.Kernel2Ideal.main_arg3)) (t : Fin 8) (r : Fin 256) (k : Fin 1024) :
    refProj x g w (ix3 t r k) = valOf m c t r k := by
  subst hx hg hw
  exact refProj_apply _ _ _ t r k

/-- Two arrays that agree at every written index. -/
theorem ext3 {x y : (⟨3, ![8, 256, 1024]⟩ : Shape).Idx → EReal} (h : ∀ t r k, x (ix3 t r k) = y (ix3 t r k)) : x = y :=
  funext fun i => by rw [eq_ix3 i]; exact h _ _ _
theorem ext4 {x y : (⟨4, ![8, 256, 4, 256]⟩ : Shape).Idx → EReal} (h : ∀ t r a k, x (ix4 t r a k) = y (ix4 t r a k)) : x = y :=
  funext fun i => by rw [eq_ix4 i]; exact h _ _ _ _

theorem frame_kernel : Cert.quiescent_Kernel2 := fun m ρ _ => Cert.Kernel2.Gen.frame m ρ
theorem frame_ideal : Cert.quiescent_Kernel2Ideal := fun m ρ _ => Cert.Kernel2Ideal.Gen.frame m ρ
theorem frame_ref : Cert.quiescent_Reference2Ideal := fun m ρ _ =>
  (θ_run Cert.Reference2Ideal.defs _ _).mono (fun r h => ⟨fun c => (h c).2.2.2.2, sem_eq_zero_of_no_sems (by decide) r.2⟩)
    (Cert.Reference2Ideal.Value.run (F := Ideal) m ρ)

theorem algebraic : Cert.algebraic_Kernel2Ideal_Reference2Ideal := fun m ρ m' ρ' _ e =>
  ⟨fun c => (Cert.Kernel2Ideal.Gen.dats m 0 c).arrAt 4 Cert.Kernel2Ideal.cfg0.N, fun c => (Cert.Kernel2Ideal.Gen.dats m 0 c).arrAt 5 Cert.Kernel2Ideal.cfg0.N,
    fun c => (Cert.Kernel2Ideal.Gen.dats m 0 c).arrAt 6 Cert.Kernel2Ideal.cfg0.N, fun c => (Cert.Kernel2Ideal.Gen.dats m 0 c).arrAt 7 Cert.Kernel2Ideal.cfg0.N,
    run m ρ,
    (θ_run Cert.Reference2Ideal.defs _ _).mono (fun r hh c =>
      ⟨(hh c).1.trans (ext4 fun t r a k => (ref_heads _ t r a k).trans ((ref_key m c _ _ _ (e c).1 (e c).2.1 (e c).2.2.1 t r (col a k)).trans (final_4 m c t r a k).symm)),
        (hh c).2.1.trans (ext4 fun t r a k => (ref_heads _ t r a k).trans ((ref_val m c _ _ _ (e c).1 (e c).2.1 (e c).2.2.2 t r (col a k)).trans (final_5 m c t r a k).symm)),
        (hh c).2.2.1.trans (ext3 fun t r k => (ref_key m c _ _ _ (e c).1 (e c).2.1 (e c).2.2.1 t r k).trans (final_6 m c t r k).symm),
        (hh c).2.2.2.1.trans (ext3 fun t r k => (ref_val m c _ _ _ (e c).1 (e c).2.1 (e c).2.2.2 t r k).trans (final_7 m c t r k).symm),
        (hh c).2.2.2.2⟩)
      (Cert.Reference2Ideal.Value.run (F := Ideal) m' ρ')⟩

end Cert.Proof.Mem

end
-- ==== Proof.GmmBody.lean ====
module

public import proofs.«01_k».proof.Proof.Gen.Kernel3Ideal
public import proofs.«01_k».proof.Proof.Gen.Kernel3Ideal.Skeleton
public import proofs.«01_k».proof.Proof.Gen.Kernel3Ideal.Launch
public import Idealize.ShloMosaic.Lib.Pipeline.FrameBody
public import Idealize.ShloMosaic.Lib.Tactic

@[expose] public section

set_option maxRecDepth 16384

noncomputable section

namespace Cert.Kernel3Ideal.Gmm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem Cert.Kernel3Ideal.Gen
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev rX : Rect S1024x1024 := Rect.unit (s := S1024x1024) ![0, 0] S1024x1024.size inb_S1024x1024_S1024x1024_0_0
abbrev rTop : Rect S1024x1024 := Rect.unit (s := S1024x1024) ![0, 0] S512x1024.size inb_S1024x1024_S512x1024_0_0
abbrev rBot : Rect S1024x1024 := Rect.unit (s := S1024x1024) ![512, 0] S512x1024.size inb_S1024x1024_S512x1024_512_0
abbrev rW : Rect S1x1024x256 := Rect.unit (s := S1x1024x256) ![0, 0, 0] S1x1024x256.size inb_S1x1024x256_S1x1024x256_0_0_0
abbrev rD : Rect S1x256x1024 := Rect.unit (s := S1x256x1024) ![0, 0, 0] S1x256x1024.size inb_S1x256x1024_S1x256x1024_0_0_0
abbrev rGate : Rect S1024x512 := Rect.unit (s := S1024x512) ![0, 0] S1024x256.size inb_S1024x512_S1024x256_0_0
abbrev rUp : Rect S1024x512 := Rect.unit (s := S1024x512) ![0, 256] S1024x256.size inb_S1024x512_S1024x256_0_256
abbrev rGU : Rect S1024x512 := Rect.unit (s := S1024x512) ![0, 0] S1024x512.size inb_S1024x512_S1024x512_0_0
abbrev rDn : Rect S256x1024 := Rect.unit (s := S256x1024) ![0, 0] S256x1024.size inb_S256x1024_S256x1024_0_0

/-- Whether lane `k` of step `i` copies its expert's weights: the block is live and the expert has changed (or
    the step is the first). -/
def need (i : grid0.Coords) (k n a b : BitVec 32) : BitVec 1 :=
  Scalar.cmpi .ne (Scalar.extui (Scalar.andi (Scalar.cmpi .slt (Scalar.addi (Scalar.muli (BitVec.ofNat 32 (i 0).val) 2#32) k) n)
    (Scalar.ori (Scalar.cmpi .eq (BitVec.ofNat 32 (i 0).val) 0#32) (Scalar.cmpi .ne a b))) : BitVec 32) 0#32

/-- An expert's gate and up weights side by side, -/
def gu (p q : Vec F S1x1024x256 .f32) : Vec F S1024x512 .bf16 :=
  View.canon [⟨rUp, k0_pay5 (View.ld q rW)⟩, ⟨rGate, k0_pay4 (View.ld p rW)⟩]
/-- and its down weights. -/
def dn (p : Vec F S1x256x1024 .f32) : Vec F S256x1024 .bf16 := View.canon [⟨rDn, k0_pay6 (View.ld p rD)⟩]

/-- The block of results, from the block of rows and the two lanes' weights. -/
def outv (i : grid0.Coords) (n : BitVec 32) (x : Vec F S1024x1024 .bf16) (g0 : Vec F S1024x512 .bf16) (d0 : Vec F S256x1024 .bf16)
    (g1 : Vec F S1024x512 .bf16) (d1 : Vec F S256x1024 .bf16) : Vec F S1024x1024 .bf16 :=
  if k0_cond4 i n = 1#1 then View.canon [⟨rX, k0_pay1 (F := F)⟩]
  else View.canon [⟨rBot, k0_pay3 (F := F) (BitVec.ofNat 32 (i 0).val) n (View.ld x rBot) (View.ld g1 rGU) (View.ld d1 rDn)⟩,
    ⟨rTop, k0_pay2 (F := F) (BitVec.ofNat 32 (i 0).val) n (View.ld x rTop) (View.ld g0 rGU) (View.ld d0 rDn)⟩]

theorem cover_gu (p q : Vec F S1024x256 .bf16) (y : S1024x512.Idx) :
    ∃ pc ∈ ([⟨rUp, p⟩, ⟨rGate, q⟩] : List (View.Piece (Elt F) S1024x512 .bf16)), y ∈ pc.1.set :=
  View.cover_of_tiled [⟨rUp, p⟩, ⟨rGate, q⟩] S1024x256.size (by rfl) y
theorem cover_dn (p : Vec F S256x1024 .bf16) (y : S256x1024.Idx) :
    ∃ pc ∈ ([⟨rDn, p⟩] : List (View.Piece (Elt F) S256x1024 .bf16)), y ∈ pc.1.set :=
  View.cover_of_tiled [⟨rDn, p⟩] S256x1024.size (by rfl) y
theorem cover_x (p : Vec F S1024x1024 .bf16) (y : S1024x1024.Idx) :
    ∃ pc ∈ ([⟨rX, p⟩] : List (View.Piece (Elt F) S1024x1024 .bf16)), y ∈ pc.1.set :=
  View.cover_of_tiled [⟨rX, p⟩] S1024x1024.size (by rfl) y
theorem cover_out (p q : Vec F S512x1024 .bf16) (y : S1024x1024.Idx) :
    ∃ pc ∈ ([⟨rBot, p⟩, ⟨rTop, q⟩] : List (View.Piece (Elt F) S1024x1024 .bf16)), y ∈ pc.1.set :=
  View.cover_of_tiled [⟨rBot, p⟩, ⟨rTop, q⟩] S512x1024.size (by rfl) y

/-- What a view reads of contents overwritten, under a condition, by pieces that cover it. -/
theorem read_dite {sp : Space} {s : Shape} {e : EltTy} (v : View sig .tc sp s e) (f : v.ty.Contents (Elt F)) (P : Prop) [Decidable P]
    (L : List (View.Piece (Elt F) s e)) (hL : ∀ y, ∃ pc ∈ L, y ∈ pc.1.set) :
    v.read (Elt F) (if _h : P then v.writes (Elt F) f L else f) = if P then View.canon L else v.read (Elt F) f := by
  by_cases h : P
  · rw [dif_pos h, if_pos h]; exact View.read_writes_eq_canon _ _ _ hL
  · rw [dif_neg h, if_neg h]

/-- The one word a unit rectangle reads of a buffer's contents. -/
abbrev rd {sp : Space} {s : Shape} {e : EltTy} (v : View sig .tc sp s e) (r : Rect s) (h1 : r.shape.numel = 1) (f : v.ty.Contents (Elt F)) : Elt F e :=
  v.readAt (Elt F) r.toLoadRect f (Shape.Idx.first (h1.symm ▸ Nat.one_pos))

theorem ne0 (b : BitVec 1) : Scalar.cmpi .ne (Scalar.extui b : BitVec 32) 0#32 = b := by revert b; decide

theorem cond34 (i : grid0.Coords) (n : BitVec 32) (h : ¬ k0_cond4 i n = 1#1) : k0_cond3 i n = 1#1 := by
  have h3 : k0_cond3 i n = Scalar.cmpi .slt (Scalar.muli (BitVec.ofNat 32 (i 0).val) 2#32) n := ne0 _
  have h4 : k0_cond4 i n = Scalar.cmpi .sge (Scalar.muli (BitVec.ofNat 32 (i 0).val) 2#32) n := ne0 _
  rw [h4, show Scalar.cmpi .sge _ _ = IntOp.cmpi .sge _ _ from rfl, IntOp.cmpi_sge] at h
  rw [h3]
  exact IntOp.cmpi_slt.mpr (not_le.mp h)

set_option maxHeartbeats 1000000 in
theorem sound_kernel (c : Dev nD) (E : Set ℕ) (i : grid0.Coords)
    (arg1 : Memref sig .tc .smem S444 .i32) (harg1 : arg1.IsWhole) (arg2 : Memref sig .tc .smem S1 .i32) (harg2 : arg2.IsWhole)
    (T0 : Buf (Elt F) (arg1.view.loc (c : Thread nD τ))) (T1 : Buf (Elt F) (arg2.view.loc (c : Thread nD τ)))
    (arg3 : Memref sig .tc .vmem S1024x1024 .bf16) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x256x1024 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1x256x1024 .f32) (harg9 : arg9.IsWhole) (arg10 : Memref sig .tc .vmem S1024x1024 .bf16) (harg10 : arg10.IsWhole) (arg11 : Memref sig .tc .vmem S1024x512 .bf16) (harg11 : arg11.IsWhole) (arg12 : Memref sig .tc .vmem S256x1024 .bf16) (harg12 : arg12.IsWhole) (arg13 : Memref sig .tc .vmem S1024x512 .bf16) (harg13 : arg13.IsWhole) (arg14 : Memref sig .tc .vmem S256x1024 .bf16) (harg14 : arg14.IsWhole)
    (x0 : Vec F S1024x1024 .bf16) (x1 : Vec F S1x1024x256 .f32) (x2 : Vec F S1x1024x256 .f32) (x3 : Vec F S1x256x1024 .f32) (x4 : Vec F S1x1024x256 .f32) (x5 : Vec F S1x1024x256 .f32) (x6 : Vec F S1x256x1024 .f32)
    (s0 : Vec F S1024x512 .bf16) (s1 : Vec F S256x1024 .bf16) (s2 : Vec F S1024x512 .bf16) (s3 : Vec F S256x1024 .bf16)
    (n a0 b0 a1 b1 : BitVec 32)
    (hn : rd arg2.view (Rect.unit (s := S1) ![0] S1.size inb_S1_S1_0) numel1_S1 T1 = n)
    (ha0 : rd arg1.view (Rect.unit (s := S444) (k0_off1 i 0#32) S1.size (k0_off1_inb i 0)) numel1_S1 T0 = a0)
    (hb0 : rd arg1.view (Rect.unit (s := S444) (k0_off2 i) S1.size (k0_off2_inb i)) numel1_S1 T0 = b0)
    (ha1 : rd arg1.view (Rect.unit (s := S444) (k0_off3 i) S1.size (k0_off3_inb i)) numel1_S1 T0 = a1)
    (hb1 : rd arg1.view (Rect.unit (s := S444) (k0_off4 i) S1.size (k0_off4_inb i)) numel1_S1 T0 = b1)
    (K : PUnit → sProp 𝕄) :
    iprop((arg1.view.loc (c : Thread nD τ) ↦{fullShare.right} T0) ∗ (arg2.view.loc (c : Thread nD τ) ↦{fullShare.right} T1)
        ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6
        ∗ (∃ d, owns (c : Thread nD τ) arg10 fullShare d)
        ∗ owns (c : Thread nD τ) arg11 fullShare s0 ∗ owns (c : Thread nD τ) arg12 fullShare s1 ∗ owns (c : Thread nD τ) arg13 fullShare s2 ∗ owns (c : Thread nD τ) arg14 fullShare s3
        ∗ (iprop((arg1.view.loc (c : Thread nD τ) ↦{fullShare.right} T0) ∗ (arg2.view.loc (c : Thread nD τ) ↦{fullShare.right} T1)
        ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6
        ∗ owns (c : Thread nD τ) arg10 fullShare (outv i n x0 (if need i 0#32 n a0 b0 = 1#1 then gu x1 x2 else s0) (if need i 0#32 n a0 b0 = 1#1 then dn x3 else s1) (if need i 1#32 n a1 b1 = 1#1 then gu x4 x5 else s2) (if need i 1#32 n a1 b1 = 1#1 then dn x6 else s3))
        ∗ owns (c : Thread nD τ) arg11 fullShare (if need i 0#32 n a0 b0 = 1#1 then gu x1 x2 else s0) ∗ owns (c : Thread nD τ) arg12 fullShare (if need i 0#32 n a0 b0 = 1#1 then dn x3 else s1) ∗ owns (c : Thread nD τ) arg13 fullShare (if need i 1#32 n a1 b1 = 1#1 then gu x4 x5 else s2) ∗ owns (c : Thread nD τ) arg14 fullShare (if need i 1#32 n a1 b1 = 1#1 then dn x6 else s3)) -∗ K ⟨⟩))
      ⊢ wp frame (wpE (defs₀ (F := F)) Variants.none c none) E (cc0_gmm i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_gmm_eq_skeleton]; unfold cc0_gmm_skel
  simp only [k0_part2_eq_skeleton, k0_part1_eq_skeleton]
  unfold owns
  iintro ⟨HT0, HT1, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%g0, %hg0, G0⟩, ⟨%g1, %hg1, G1⟩, ⟨%g2, %hg2, G2⟩, ⟨%g3, %hg3, G3⟩, Hk⟩
  subst hf0 hf1 hf2 hf3 hf4 hf5 hf6 hg0 hg1 hg2 hg3
  sl_exec
  sl_step
  have hv15 : sound_kernel.sl.v15 c i arg1 arg2 T0 T1 = need i 0#32 n a0 b0 := by subst hn ha0 hb0; rfl
  have hv30 : sound_kernel.sl.v30 c i arg1 arg2 T0 T1 = need i 1#32 n a1 b1 := by subst hn ha1 hb1; rfl
  have hr : sound_kernel.sl.r c arg2 T1 = n := hn
  have e0 : arg11.view.read (Elt F) (if hc : sound_kernel.sl.v15 c i arg1 arg2 T0 T1 = 1#1 then
      arg11.view.writes (Elt F) g0 [⟨rUp, k0_pay5 (View.readAt (Elt F) arg5.view rW.toLoadRect f2)⟩,
        ⟨rGate, k0_pay4 (View.readAt (Elt F) arg4.view rW.toLoadRect f1)⟩] else g0)
      = if need i 0#32 n a0 b0 = 1#1 then gu (arg4.view.read (Elt F) f1) (arg5.view.read (Elt F) f2) else arg11.view.read (Elt F) g0 := by
    rw [hv15]; exact read_dite _ _ _ _ (cover_gu _ _)
  have e1 : arg12.view.read (Elt F) (if hc : sound_kernel.sl.v15 c i arg1 arg2 T0 T1 = 1#1 then
      arg12.view.writes (Elt F) g1 [⟨rDn, k0_pay6 (View.readAt (Elt F) arg6.view rD.toLoadRect f3)⟩] else g1)
      = if need i 0#32 n a0 b0 = 1#1 then dn (arg6.view.read (Elt F) f3) else arg12.view.read (Elt F) g1 := by
    rw [hv15]; exact read_dite _ _ _ _ (cover_dn _)
  have e2 : arg13.view.read (Elt F) (if hc : sound_kernel.sl.v30 c i arg1 arg2 T0 T1 = 1#1 then
      arg13.view.writes (Elt F) g2 [⟨rUp, k0_pay8 (View.readAt (Elt F) arg8.view rW.toLoadRect f5)⟩,
        ⟨rGate, k0_pay7 (View.readAt (Elt F) arg7.view rW.toLoadRect f4)⟩] else g2)
      = if need i 1#32 n a1 b1 = 1#1 then gu (arg7.view.read (Elt F) f4) (arg8.view.read (Elt F) f5) else arg13.view.read (Elt F) g2 := by
    rw [hv30]; exact read_dite _ _ _ _ (cover_gu _ _)
  have e3 : arg14.view.read (Elt F) (if hc : sound_kernel.sl.v30 c i arg1 arg2 T0 T1 = 1#1 then
      arg14.view.writes (Elt F) g3 [⟨rDn, k0_pay9 (View.readAt (Elt F) arg9.view rD.toLoadRect f6)⟩] else g3)
      = if need i 1#32 n a1 b1 = 1#1 then dn (arg9.view.read (Elt F) f6) else arg14.view.read (Elt F) g3 := by
    rw [hv30]; exact read_dite _ _ _ _ (cover_dn _)
  have h40 : sound_kernel.sl.v40 c i arg1 arg2 T0 T1 arg4 arg5 arg11 f1 f2 g0
      = View.ld (if need i 0#32 n a0 b0 = 1#1 then gu (arg4.view.read (Elt F) f1) (arg5.view.read (Elt F) f2) else arg11.view.read (Elt F) g0) rGU := by
    rw [← e0]; rfl
  have h48 : sound_kernel.sl.v48 c i arg1 arg2 T0 T1 arg6 arg12 f3 g1
      = View.ld (if need i 0#32 n a0 b0 = 1#1 then dn (arg6.view.read (Elt F) f3) else arg12.view.read (Elt F) g1) rDn := by
    rw [← e1]; rfl
  have h58 : sound_kernel.sl.v58 c i arg1 arg2 T0 T1 arg7 arg8 arg13 f4 f5 g2
      = View.ld (if need i 1#32 n a1 b1 = 1#1 then gu (arg7.view.read (Elt F) f4) (arg8.view.read (Elt F) f5) else arg13.view.read (Elt F) g2) rGU := by
    rw [← e2]; rfl
  have h66 : sound_kernel.sl.v66 c i arg1 arg2 T0 T1 arg9 arg14 f6 g3
      = View.ld (if need i 1#32 n a1 b1 = 1#1 then dn (arg9.view.read (Elt F) f6) else arg14.view.read (Elt F) g3) rDn := by
    rw [← e3]; rfl
  iapply Hk
  isplitl [HT0]; · iexact HT0
  isplitl [HT1]; · iexact HT1
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    unfold outv
    by_cases h4 : k0_cond4 i n = 1#1
    · rw [if_pos h4, dif_pos (by rw [hr]; exact h4)]
      exact View.read_writes_eq_canon _ _ _ (cover_x _)
    · rw [if_neg h4, dif_neg (by rw [hr]; exact h4), dif_pos (by rw [hr]; exact cond34 i n h4)]
      refine (View.read_writes_eq_canon _ _ _ (cover_out _ _)).trans ?_
      rw [← h40, ← h48, ← h58, ← h66, ← hr]; rfl
  isplitl [G0]
  · iexists _; isplitr
    swap; · iexact G0
    ipureintro; exact e0
  isplitl [G1]
  · iexists _; isplitr
    swap; · iexact G1
    ipureintro; exact e1
  isplitl [G2]
  · iexists _; isplitr
    swap; · iexact G2
    ipureintro; exact e2
  iexists _; isplitr
  swap; · iexact G3
  ipureintro; exact e3

end Cert.Kernel3Ideal.Gmm

end
-- ==== Proof.GmmData.lean ====
/- The experts' products' run: at every step the scratch weights of a live lane are its expert's, so each block of
   results is its rows' products with its two experts. -/
module

public import proofs.«01_k».proof.Proof.GmmBody
public import Idealize.ShloMosaic.Lib.Claim
public import Idealize.ShloMosaic.Lib.Ring
public import Idealize.ShloMosaic.Lib.WordCmp

@[expose] public section

set_option maxRecDepth 16384

noncomputable section

namespace Cert.Kernel3Ideal.Gmm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem Cert.Kernel3Ideal.Gen
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the call -/

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))

/-! ## The tables -/

def tbl : pre0.Contents (Elt F) := fun j => V m (0 : Dev nD) (pre0.ref j)
theorem V_pre (c : Dev nD) (j : Fin 2) : V m c (pre0.ref j) = tbl m j := by obtain rfl : c = 0 := Subsingleton.elim _ _; rfl
abbrev Ok : Prop := ok0 (F := F) (tbl m)
variable (hO : Ok m)
abbrev adm : (pcfg0 (F := F)).Adm := ⟨tbl m, hO⟩
abbrev cfgM : Pipeline.Cfg sig Λ₀ := cfg0 (adm m hO)

/-- The number of live blocks, -/
def nw : BitVec 32 := (tbl m).at 1 (Rect.unit (s := S1) ![0] S1.size inb_S1_S1_0) numel1_S1
/-- and a block's expert. -/
def ew (o : Fin 1 → Nat) (h : ∀ a, o a + S1.size a ≤ S444.size a) : BitVec 32 := (tbl m).at 0 (Rect.unit (s := S444) o S1.size h) numel1_S1
theorem ew_congr {o o' : Fin 1 → Nat} (e : o = o') (h) (h') : ew m o h = ew m o' h' := by subst e; rfl

theorem PhiT0_eq (c : Dev nD) : (Pipeline.ΦT pre0 (tbl m) c : sProp 𝕄)
    = iprop(((Memref.whole main_arg0).view.loc (c : Thread nD τ) ↦{fullShare.right} tbl m 0) ∗ ((Memref.whole main_arg1).view.loc (c : Thread nD τ) ↦{fullShare.right} tbl m 1)) := by
  unfold Pipeline.ΦT Pipeline.prefHeld
  rw [show (Finset.univ : Finset (Fin 2)) = insert (0 : Fin 2) {(1 : Fin 2)} from by decide, bigSep_insert (by decide), bigSep_singleton]; rfl

/-! ## The windows' blocks -/

def iblk (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem iblk_congr0 {c : Dev nD} (dat : Dat τ (Elt F) Unit ℕ (UR sig nD τ) ℕ (cfgM m hO) c) (hA : dat.A 0 = V m c (Pipeline.arrRef spec0 0))
    (t t' : Fin (cfgM m hO).N) (d : ((cfgM m hO).win 0).block.Idx → Elt F ((cfgM m hO).win 0).elt) (h : ((cfgM m hO).win 0).index t = ((cfgM m hO).win 0).index t') : iblk m hO c 0 t = iblk m hO c 0 t' := by
  have e : ∀ t, dat.fetched 0 t d = iblk m hO c 0 t := fun t => by unfold Dat.fetched Dat.blockOf iblk; rw [hA]; try rfl
  rw [← e, ← e]; exact dat.fetched_congr 0 h rfl d
theorem before0_1_of {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem iblk_congr1 {c : Dev nD} (dat : Dat τ (Elt F) Unit ℕ (UR sig nD τ) ℕ (cfgM m hO) c) (hA : dat.A 1 = V m c (Pipeline.arrRef spec0 1))
    (t t' : Fin (cfgM m hO).N) (d : ((cfgM m hO).win 1).block.Idx → Elt F ((cfgM m hO).win 1).elt) (h : ((cfgM m hO).win 1).index t = ((cfgM m hO).win 1).index t') : iblk m hO c 1 t = iblk m hO c 1 t' := by
  have e : ∀ t, dat.fetched 1 t d = iblk m hO c 1 t := fun t => by unfold Dat.fetched Dat.blockOf iblk; rw [hA]; try rfl
  rw [← e, ← e]; exact dat.fetched_congr 1 h rfl d
theorem before0_2_of {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem iblk_congr2 {c : Dev nD} (dat : Dat τ (Elt F) Unit ℕ (UR sig nD τ) ℕ (cfgM m hO) c) (hA : dat.A 2 = V m c (Pipeline.arrRef spec0 2))
    (t t' : Fin (cfgM m hO).N) (d : ((cfgM m hO).win 2).block.Idx → Elt F ((cfgM m hO).win 2).elt) (h : ((cfgM m hO).win 2).index t = ((cfgM m hO).win 2).index t') : iblk m hO c 2 t = iblk m hO c 2 t' := by
  have e : ∀ t, dat.fetched 2 t d = iblk m hO c 2 t := fun t => by unfold Dat.fetched Dat.blockOf iblk; rw [hA]; try rfl
  rw [← e, ← e]; exact dat.fetched_congr 2 h rfl d
theorem before0_3_of {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem iblk_congr3 {c : Dev nD} (dat : Dat τ (Elt F) Unit ℕ (UR sig nD τ) ℕ (cfgM m hO) c) (hA : dat.A 3 = V m c (Pipeline.arrRef spec0 3))
    (t t' : Fin (cfgM m hO).N) (d : ((cfgM m hO).win 3).block.Idx → Elt F ((cfgM m hO).win 3).elt) (h : ((cfgM m hO).win 3).index t = ((cfgM m hO).win 3).index t') : iblk m hO c 3 t = iblk m hO c 3 t' := by
  have e : ∀ t, dat.fetched 3 t d = iblk m hO c 3 t := fun t => by unfold Dat.fetched Dat.blockOf iblk; rw [hA]; try rfl
  rw [← e, ← e]; exact dat.fetched_congr 3 h rfl d
theorem before0_4_of {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem iblk_congr4 {c : Dev nD} (dat : Dat τ (Elt F) Unit ℕ (UR sig nD τ) ℕ (cfgM m hO) c) (hA : dat.A 4 = V m c (Pipeline.arrRef spec0 4))
    (t t' : Fin (cfgM m hO).N) (d : ((cfgM m hO).win 4).block.Idx → Elt F ((cfgM m hO).win 4).elt) (h : ((cfgM m hO).win 4).index t = ((cfgM m hO).win 4).index t') : iblk m hO c 4 t = iblk m hO c 4 t' := by
  have e : ∀ t, dat.fetched 4 t d = iblk m hO c 4 t := fun t => by unfold Dat.fetched Dat.blockOf iblk; rw [hA]; try rfl
  rw [← e, ← e]; exact dat.fetched_congr 4 h rfl d
theorem before0_5_of {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem iblk_congr5 {c : Dev nD} (dat : Dat τ (Elt F) Unit ℕ (UR sig nD τ) ℕ (cfgM m hO) c) (hA : dat.A 5 = V m c (Pipeline.arrRef spec0 5))
    (t t' : Fin (cfgM m hO).N) (d : ((cfgM m hO).win 5).block.Idx → Elt F ((cfgM m hO).win 5).elt) (h : ((cfgM m hO).win 5).index t = ((cfgM m hO).win 5).index t') : iblk m hO c 5 t = iblk m hO c 5 t' := by
  have e : ∀ t, dat.fetched 5 t d = iblk m hO c 5 t := fun t => by unfold Dat.fetched Dat.blockOf iblk; rw [hA]; try rfl
  rw [← e, ← e]; exact dat.fetched_congr 5 h rfl d
theorem before0_6_of {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem iblk_congr6 {c : Dev nD} (dat : Dat τ (Elt F) Unit ℕ (UR sig nD τ) ℕ (cfgM m hO) c) (hA : dat.A 6 = V m c (Pipeline.arrRef spec0 6))
    (t t' : Fin (cfgM m hO).N) (d : ((cfgM m hO).win 6).block.Idx → Elt F ((cfgM m hO).win 6).elt) (h : ((cfgM m hO).win 6).index t = ((cfgM m hO).win 6).index t') : iblk m hO c 6 t = iblk m hO c 6 t' := by
  have e : ∀ t, dat.fetched 6 t d = iblk m hO c 6 t := fun t => by unfold Dat.fetched Dat.blockOf iblk; rw [hA]; try rfl
  rw [← e, ← e]; exact dat.fetched_congr 6 h rfl d

/-! ## What the call's steps hold -/

def G0 (c : Dev nD) (t : Fin (cfgM m hO).N) : Vec F S1024x512 .bf16 := gu (iblk m hO c 1 t) (iblk m hO c 2 t)
def D0 (c : Dev nD) (t : Fin (cfgM m hO).N) : Vec F S256x1024 .bf16 := dn (iblk m hO c 3 t)
def G1 (c : Dev nD) (t : Fin (cfgM m hO).N) : Vec F S1024x512 .bf16 := gu (iblk m hO c 4 t) (iblk m hO c 5 t)
def D1 (c : Dev nD) (t : Fin (cfgM m hO).N) : Vec F S256x1024 .bf16 := dn (iblk m hO c 6 t)

/-- Lane `k` of step `i` is a live block. -/
def live (i : grid0.Coords) (k n : BitVec 32) : Prop := Scalar.cmpi .slt (Scalar.addi (Scalar.muli (BitVec.ofNat 32 (i 0).val) 2#32) k) n = 1#1

/-- After a step the scratch weights of a live lane are its expert's. -/
def Inv (c : Dev nD) (p : Nat) (s0 : Vec F S1024x512 .bf16) (s1 : Vec F S256x1024 .bf16) (s2 : Vec F S1024x512 .bf16) (s3 : Vec F S256x1024 .bf16) : Prop :=
  ∀ t : Fin (cfgM m hO).N, t.val + 1 = p →
    (live (grid0.coords t) 0#32 (nw m) → s0 = G0 m hO c t ∧ s1 = D0 m hO c t) ∧ (live (grid0.coords t) 1#32 (nw m) → s2 = G1 m hO c t ∧ s3 = D1 m hO c t)

/-- What is held between the steps. -/
def held (c : Dev nD) (p : Nat) : sProp 𝕄 :=
  iprop(∃ s0 s1 s2 s3, owns (c : Thread nD τ) (Memref.whole cc0_scratch0) fullShare s0 ∗ owns (c : Thread nD τ) (Memref.whole cc0_scratch1) fullShare s1
    ∗ owns (c : Thread nD τ) (Memref.whole cc0_scratch2) fullShare s2 ∗ owns (c : Thread nD τ) (Memref.whole cc0_scratch3) fullShare s3
    ∗ (∃ r, prngReg (c : Dev nD) r)
    ∗ ((Memref.whole main_arg0).view.loc (c : Thread nD τ) ↦{fullShare.right} tbl m 0) ∗ ((Memref.whole main_arg1).view.loc (c : Thread nD τ) ↦{fullShare.right} tbl m 1)
    ∗ ⌜Inv m hO c p s0 s1 s2 s3⌝)

/-- The block of results of a step. -/
def res (c : Dev nD) (t : Fin (cfgM m hO).N) : Vec F S1024x1024 .bf16 :=
  outv (grid0.coords t) (nw m) (iblk m hO c 0 t) (G0 m hO c t) (D0 m hO c t) (G1 m hO c t) (D1 m hO c t)

def dats (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => res m hO c t
  Φ p := held m hO c p.val
  q w := Pipeline.shareOf spec0 w
  owed _ := 0

theorem A_eq (c : Dev nD) (w : Fin (cfgM m hO).W) : (dats m hO 0 c).A w = V m c (Pipeline.arrRef spec0 w) := by
  dsimp only [dats]
theorem after0_0 (c : Dev nD) (t : Fin (cfgM m hO).N) : (dats m hO 0 c).after 0 t = iblk m hO c 0 t := by dsimp only [dats]; rfl
theorem before0_0 (c : Dev nD) (t : Fin (cfgM m hO).N) (d) : (dats m hO 0 c).before 0 t d = iblk m hO c 0 t :=
  before0_0_of m hO (dats m hO 0 c) (A_eq m hO c 0) (after0_0 m hO c) t d
theorem same0 (c : Dev nD) (t t' : Fin (cfgM m hO).N) (h : ((cfgM m hO).win 0).index t = ((cfgM m hO).win 0).index t') : iblk m hO c 0 t = iblk m hO c 0 t' :=
  iblk_congr0 m hO (dats m hO 0 c) (A_eq m hO c 0) t t' (iblk m hO c 0 t) h
theorem after0_1 (c : Dev nD) (t : Fin (cfgM m hO).N) : (dats m hO 0 c).after 1 t = iblk m hO c 1 t := by dsimp only [dats]; rfl
theorem before0_1 (c : Dev nD) (t : Fin (cfgM m hO).N) (d) : (dats m hO 0 c).before 1 t d = iblk m hO c 1 t :=
  before0_1_of m hO (dats m hO 0 c) (A_eq m hO c 1) (after0_1 m hO c) t d
theorem same1 (c : Dev nD) (t t' : Fin (cfgM m hO).N) (h : ((cfgM m hO).win 1).index t = ((cfgM m hO).win 1).index t') : iblk m hO c 1 t = iblk m hO c 1 t' :=
  iblk_congr1 m hO (dats m hO 0 c) (A_eq m hO c 1) t t' (iblk m hO c 1 t) h
theorem after0_2 (c : Dev nD) (t : Fin (cfgM m hO).N) : (dats m hO 0 c).after 2 t = iblk m hO c 2 t := by dsimp only [dats]; rfl
theorem before0_2 (c : Dev nD) (t : Fin (cfgM m hO).N) (d) : (dats m hO 0 c).before 2 t d = iblk m hO c 2 t :=
  before0_2_of m hO (dats m hO 0 c) (A_eq m hO c 2) (after0_2 m hO c) t d
theorem same2 (c : Dev nD) (t t' : Fin (cfgM m hO).N) (h : ((cfgM m hO).win 2).index t = ((cfgM m hO).win 2).index t') : iblk m hO c 2 t = iblk m hO c 2 t' :=
  iblk_congr2 m hO (dats m hO 0 c) (A_eq m hO c 2) t t' (iblk m hO c 2 t) h
theorem after0_3 (c : Dev nD) (t : Fin (cfgM m hO).N) : (dats m hO 0 c).after 3 t = iblk m hO c 3 t := by dsimp only [dats]; rfl
theorem before0_3 (c : Dev nD) (t : Fin (cfgM m hO).N) (d) : (dats m hO 0 c).before 3 t d = iblk m hO c 3 t :=
  before0_3_of m hO (dats m hO 0 c) (A_eq m hO c 3) (after0_3 m hO c) t d
theorem same3 (c : Dev nD) (t t' : Fin (cfgM m hO).N) (h : ((cfgM m hO).win 3).index t = ((cfgM m hO).win 3).index t') : iblk m hO c 3 t = iblk m hO c 3 t' :=
  iblk_congr3 m hO (dats m hO 0 c) (A_eq m hO c 3) t t' (iblk m hO c 3 t) h
theorem after0_4 (c : Dev nD) (t : Fin (cfgM m hO).N) : (dats m hO 0 c).after 4 t = iblk m hO c 4 t := by dsimp only [dats]; rfl
theorem before0_4 (c : Dev nD) (t : Fin (cfgM m hO).N) (d) : (dats m hO 0 c).before 4 t d = iblk m hO c 4 t :=
  before0_4_of m hO (dats m hO 0 c) (A_eq m hO c 4) (after0_4 m hO c) t d
theorem same4 (c : Dev nD) (t t' : Fin (cfgM m hO).N) (h : ((cfgM m hO).win 4).index t = ((cfgM m hO).win 4).index t') : iblk m hO c 4 t = iblk m hO c 4 t' :=
  iblk_congr4 m hO (dats m hO 0 c) (A_eq m hO c 4) t t' (iblk m hO c 4 t) h
theorem after0_5 (c : Dev nD) (t : Fin (cfgM m hO).N) : (dats m hO 0 c).after 5 t = iblk m hO c 5 t := by dsimp only [dats]; rfl
theorem before0_5 (c : Dev nD) (t : Fin (cfgM m hO).N) (d) : (dats m hO 0 c).before 5 t d = iblk m hO c 5 t :=
  before0_5_of m hO (dats m hO 0 c) (A_eq m hO c 5) (after0_5 m hO c) t d
theorem same5 (c : Dev nD) (t t' : Fin (cfgM m hO).N) (h : ((cfgM m hO).win 5).index t = ((cfgM m hO).win 5).index t') : iblk m hO c 5 t = iblk m hO c 5 t' :=
  iblk_congr5 m hO (dats m hO 0 c) (A_eq m hO c 5) t t' (iblk m hO c 5 t) h
theorem after0_6 (c : Dev nD) (t : Fin (cfgM m hO).N) : (dats m hO 0 c).after 6 t = iblk m hO c 6 t := by dsimp only [dats]; rfl
theorem before0_6 (c : Dev nD) (t : Fin (cfgM m hO).N) (d) : (dats m hO 0 c).before 6 t d = iblk m hO c 6 t :=
  before0_6_of m hO (dats m hO 0 c) (A_eq m hO c 6) (after0_6 m hO c) t d
theorem same6 (c : Dev nD) (t t' : Fin (cfgM m hO).N) (h : ((cfgM m hO).win 6).index t = ((cfgM m hO).win 6).index t') : iblk m hO c 6 t = iblk m hO c 6 t' :=
  iblk_congr6 m hO (dats m hO 0 c) (A_eq m hO c 6) t t' (iblk m hO c 6 t) h
theorem after0_7 (c : Dev nD) (t : Fin (cfgM m hO).N) : (dats m hO 0 c).after 7 t = res m hO c t := by dsimp only [dats]; rfl

end Cert.Kernel3Ideal.Gmm

end
-- ==== Proof.GmmFrame.lean ====
/- The experts' products' steps: a lane that copies no weights has the ones it needs from the step before, so after
   every step the block of results is as stated; and the run of the whole call. -/
module

public import proofs.«01_k».proof.Proof.GmmData

@[expose] public section

set_option maxRecDepth 16384

noncomputable section

namespace Cert.Kernel3Ideal.Gmm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem Cert.Kernel3Ideal.Gen
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (hO : Ok m)

/-! ## A lane that copies no weights -/

theorem need_eq (i : grid0.Coords) (k n a b : BitVec 32) : need i k n a b
    = Scalar.andi (Scalar.cmpi .slt (Scalar.addi (Scalar.muli (BitVec.ofNat 32 (i 0).val) 2#32) k) n)
    (Scalar.ori (Scalar.cmpi .eq (BitVec.ofNat 32 (i 0).val) 0#32) (Scalar.cmpi .ne a b)) := ne0 _
theorem bits3 : ∀ p q r : BitVec 1, ¬ Scalar.andi p (Scalar.ori q r) = 1#1 → p = 1#1 → ¬ q = 1#1 ∧ ¬ r = 1#1 := by decide
theorem not_need {i : grid0.Coords} {k n a b : BitVec 32} (h : ¬ need i k n a b = 1#1) (hl : live i k n) : (i 0).val ≠ 0 ∧ a = b := by
  rw [need_eq] at h
  obtain ⟨h1, h2⟩ := bits3 _ _ _ h hl
  refine ⟨fun e => h1 ?_, ?_⟩
  · rw [e]; rfl
  · by_contra hne
    exact h2 (IntOp.cmpi_ne.mpr hne)

theorem pos0 : ∀ t : Fin grid0.N, (Scalar.addi (Scalar.muli (BitVec.ofNat 32 (grid0.coords t 0).val) 2#32) 0#32).toInt = 2 * (t.val : Int) := by decide +kernel
theorem pos1 : ∀ t : Fin grid0.N, (Scalar.addi (Scalar.muli (BitVec.ofNat 32 (grid0.coords t 0).val) 2#32) 1#32).toInt = 2 * (t.val : Int) + 1 := by decide +kernel
theorem coord : ∀ t : Fin grid0.N, (grid0.coords t 0).val = t.val := by decide +kernel
theorem offA : ∀ t : Fin grid0.N, k0_off1 (grid0.coords t) 0#32 = ![2 * t.val] := by decide +kernel
theorem offC : ∀ t : Fin grid0.N, k0_off1 (grid0.coords t) 1#32 = ![2 * t.val + 1] := by decide +kernel
theorem offB : ∀ t : Fin grid0.N, k0_off2 (grid0.coords t) = ![2 * (t.val - 1)] := by decide +kernel
theorem offD : ∀ t : Fin grid0.N, t.val ≠ 0 → k0_off4 (grid0.coords t) = ![2 * (t.val - 1) + 1] := by decide +kernel

theorem live0 (t : Fin grid0.N) (n : BitVec 32) : live (grid0.coords t) 0#32 n ↔ 2 * (t.val : Int) < n.toInt := by
  unfold live; rw [show Scalar.cmpi .slt _ n = IntOp.cmpi .slt _ n from rfl, IntOp.cmpi_slt, pos0]
theorem live1 (t : Fin grid0.N) (n : BitVec 32) : live (grid0.coords t) 1#32 n ↔ 2 * (t.val : Int) + 1 < n.toInt := by
  unfold live; rw [show Scalar.cmpi .slt _ n = IntOp.cmpi .slt _ n from rfl, IntOp.cmpi_slt, pos1]

theorem lane0 (c : Dev nD) (t t' : Fin (cfgM m hO).N) (ht : t'.val + 1 = t.val)
    (h : ew m (k0_off1 (grid0.coords t) 0#32) (k0_off1_inb (grid0.coords t) 0) = ew m (k0_off1 (grid0.coords t') 0#32) (k0_off1_inb (grid0.coords t') 0)) :
    G0 m hO c t' = G0 m hO c t ∧ D0 m hO c t' = D0 m hO c t := by
  have e : (![(ew m (k0_off1 (grid0.coords t') 0#32) (k0_off1_inb (grid0.coords t') 0)).toNat, 0, 0] : Fin 3 → Nat)
      = ![(ew m (k0_off1 (grid0.coords t) 0#32) (k0_off1_inb (grid0.coords t) 0)).toNat, 0, 0] := by rw [h]
  unfold G0 D0
  rw [same1 m hO c t' t e, same2 m hO c t' t e, same3 m hO c t' t e]
  exact ⟨rfl, rfl⟩
theorem lane1 (c : Dev nD) (t t' : Fin (cfgM m hO).N) (ht : t'.val + 1 = t.val)
    (h : ew m (k0_off1 (grid0.coords t) 1#32) (k0_off1_inb (grid0.coords t) 1) = ew m (k0_off1 (grid0.coords t') 1#32) (k0_off1_inb (grid0.coords t') 1)) :
    G1 m hO c t' = G1 m hO c t ∧ D1 m hO c t' = D1 m hO c t := by
  have e : (![(ew m (k0_off1 (grid0.coords t') 1#32) (k0_off1_inb (grid0.coords t') 1)).toNat, 0, 0] : Fin 3 → Nat)
      = ![(ew m (k0_off1 (grid0.coords t) 1#32) (k0_off1_inb (grid0.coords t) 1)).toNat, 0, 0] := by rw [h]
  unfold G1 D1
  rw [same4 m hO c t' t e, same5 m hO c t' t e, same6 m hO c t' t e]
  exact ⟨rfl, rfl⟩

/-! ## One step -/

abbrev need0 (t : Fin (cfgM m hO).N) : BitVec 1 := need (grid0.coords t) 0#32 (nw m)
  (ew m (k0_off1 (grid0.coords t) 0#32) (k0_off1_inb (grid0.coords t) 0)) (ew m (k0_off2 (grid0.coords t)) (k0_off2_inb (grid0.coords t)))
abbrev need1 (t : Fin (cfgM m hO).N) : BitVec 1 := need (grid0.coords t) 1#32 (nw m)
  (ew m (k0_off3 (grid0.coords t)) (k0_off3_inb (grid0.coords t))) (ew m (k0_off4 (grid0.coords t)) (k0_off4_inb (grid0.coords t)))

theorem step0 (c : Dev nD) (t : Fin (cfgM m hO).N) (s0 : Vec F S1024x512 .bf16) (s1 : Vec F S256x1024 .bf16) (s2 : Vec F S1024x512 .bf16) (s3 : Vec F S256x1024 .bf16)
    (hI : Inv m hO c t.val s0 s1 s2 s3) (hl : live (grid0.coords t) 0#32 (nw m)) :
    (if need0 m hO t = 1#1 then gu (iblk m hO c 1 t) (iblk m hO c 2 t) else s0) = G0 m hO c t
      ∧ (if need0 m hO t = 1#1 then dn (iblk m hO c 3 t) else s1) = D0 m hO c t := by
  by_cases hn : need0 m hO t = 1#1
  · rw [if_pos hn, if_pos hn]; exact ⟨rfl, rfl⟩
  · rw [if_neg hn, if_neg hn]
    obtain ⟨h0, hab⟩ := not_need hn hl
    rw [coord] at h0
    have htN := t.isLt
    let t' : Fin (cfgM m hO).N := ⟨t.val - 1, by omega⟩
    have ht' : t'.val + 1 = t.val := by show t.val - 1 + 1 = t.val; omega
    have hl' : live (grid0.coords t') 0#32 (nw m) := by
      rw [live0] at hl ⊢
      have : (t'.val : Int) + 1 = t.val := by exact_mod_cast ht'
      omega
    obtain ⟨e0, e1⟩ := (hI t' ht').1 hl'
    have key := lane0 m hO c t t' ht' (hab.trans (ew_congr m ((offB t).trans (offA t').symm) _ _))
    exact ⟨e0.trans key.1, e1.trans key.2⟩
theorem step1 (c : Dev nD) (t : Fin (cfgM m hO).N) (s0 : Vec F S1024x512 .bf16) (s1 : Vec F S256x1024 .bf16) (s2 : Vec F S1024x512 .bf16) (s3 : Vec F S256x1024 .bf16)
    (hI : Inv m hO c t.val s0 s1 s2 s3) (hl : live (grid0.coords t) 1#32 (nw m)) :
    (if need1 m hO t = 1#1 then gu (iblk m hO c 4 t) (iblk m hO c 5 t) else s2) = G1 m hO c t
      ∧ (if need1 m hO t = 1#1 then dn (iblk m hO c 6 t) else s3) = D1 m hO c t := by
  by_cases hn : need1 m hO t = 1#1
  · rw [if_pos hn, if_pos hn]; exact ⟨rfl, rfl⟩
  · rw [if_neg hn, if_neg hn]
    obtain ⟨h0, hab⟩ := not_need hn hl
    rw [coord] at h0
    have htN := t.isLt
    let t' : Fin (cfgM m hO).N := ⟨t.val - 1, by omega⟩
    have ht' : t'.val + 1 = t.val := by show t.val - 1 + 1 = t.val; omega
    have hl' : live (grid0.coords t') 1#32 (nw m) := by
      rw [live1] at hl ⊢
      have : (t'.val : Int) + 1 = t.val := by exact_mod_cast ht'
      omega
    obtain ⟨e0, e1⟩ := (hI t' ht').2 hl'
    have key := lane1 m hO c t t' ht' (Eq.trans (ew_congr m rfl _ _) (hab.trans (ew_congr m ((offD t h0).trans (offC t').symm) _ _)))
    exact ⟨e0.trans key.1, e1.trans key.2⟩

theorem pay2_dead (i n) (x x' : Vec F S512x1024 .bf16) (g g' : Vec F S1024x512 .bf16) (d d' : Vec F S256x1024 .bf16)
    (h : ¬ Scalar.cmpi .slt (Scalar.addi (Scalar.muli i 2#32) 0#32) n = 1#1) : k0_pay2 (F := F) i n x g d = k0_pay2 i n x' g' d' := by
  unfold k0_pay2
  simp only [Scalar.select]
  exact (if_neg h).trans (if_neg h).symm
theorem pay3_dead (i n) (x x' : Vec F S512x1024 .bf16) (g g' : Vec F S1024x512 .bf16) (d d' : Vec F S256x1024 .bf16)
    (h : ¬ Scalar.cmpi .slt (Scalar.addi (Scalar.muli i 2#32) 1#32) n = 1#1) : k0_pay3 (F := F) i n x g d = k0_pay3 i n x' g' d' := by
  unfold k0_pay3
  simp only [Scalar.select]
  exact (if_neg h).trans (if_neg h).symm

/-- A dead lane's weights do not matter. -/
theorem outv_congr (i : grid0.Coords) (n : BitVec 32) (x : Vec F S1024x1024 .bf16) {g0 g0' : Vec F S1024x512 .bf16} {d0 d0' : Vec F S256x1024 .bf16}
    {g1 g1' : Vec F S1024x512 .bf16} {d1 d1' : Vec F S256x1024 .bf16} (h0 : live i 0#32 n → g0 = g0' ∧ d0 = d0') (h1 : live i 1#32 n → g1 = g1' ∧ d1 = d1') :
    outv i n x g0 d0 g1 d1 = outv i n x g0' d0' g1' d1' := by
  have e0 : k0_pay2 (F := F) (BitVec.ofNat 32 (i 0).val) n (View.ld x rTop) (View.ld g0 rGU) (View.ld d0 rDn)
      = k0_pay2 (F := F) (BitVec.ofNat 32 (i 0).val) n (View.ld x rTop) (View.ld g0' rGU) (View.ld d0' rDn) := by
    by_cases h : live i 0#32 n
    · rw [(h0 h).1, (h0 h).2]
    · exact pay2_dead _ _ _ _ _ _ _ _ h
  have e1 : k0_pay3 (F := F) (BitVec.ofNat 32 (i 0).val) n (View.ld x rBot) (View.ld g1 rGU) (View.ld d1 rDn)
      = k0_pay3 (F := F) (BitVec.ofNat 32 (i 0).val) n (View.ld x rBot) (View.ld g1' rGU) (View.ld d1' rDn) := by
    by_cases h : live i 1#32 n
    · rw [(h1 h).1, (h1 h).2]
    · exact pay3_dead _ _ _ _ _ _ _ _ h
  unfold outv
  rw [e0, e1]

/-! ## The call's steps -/

abbrev st0_0 (t : Fin (cfgM m hO).N) := ((cfgM m hO).win 0).stage ((cfgM m hO).slots t 0)
abbrev st0_1 (t : Fin (cfgM m hO).N) := ((cfgM m hO).win 1).stage ((cfgM m hO).slots t 1)
abbrev st0_2 (t : Fin (cfgM m hO).N) := ((cfgM m hO).win 2).stage ((cfgM m hO).slots t 2)
abbrev st0_3 (t : Fin (cfgM m hO).N) := ((cfgM m hO).win 3).stage ((cfgM m hO).slots t 3)
abbrev st0_4 (t : Fin (cfgM m hO).N) := ((cfgM m hO).win 4).stage ((cfgM m hO).slots t 4)
abbrev st0_5 (t : Fin (cfgM m hO).N) := ((cfgM m hO).win 5).stage ((cfgM m hO).slots t 5)
abbrev st0_6 (t : Fin (cfgM m hO).N) := ((cfgM m hO).win 6).stage ((cfgM m hO).slots t 6)
abbrev st0_7 (t : Fin (cfgM m hO).N) := ((cfgM m hO).win 7).stage ((cfgM m hO).slots t 7)

abbrev bodyAt0 (t : Fin (cfgM m hO).N) : Prog (TpuEff nD τ sig (Elt F) Λ₀ .tc) PUnit :=
  cc0_gmm (grid0.coords t) (Memref.whole main_arg0) (Memref.isWhole_whole _) (Memref.whole main_arg1) (Memref.isWhole_whole _) (spec0_0.stage ((cfgM m hO).slots t 0)) (hstage0_0 (((cfgM m hO).slots t 0).cast nbuf0_0)) (spec0_1.stage ((cfgM m hO).slots t 1)) (hstage0_1 (((cfgM m hO).slots t 1).cast nbuf0_1)) (spec0_2.stage ((cfgM m hO).slots t 2)) (hstage0_2 (((cfgM m hO).slots t 2).cast nbuf0_2)) (spec0_3.stage ((cfgM m hO).slots t 3)) (hstage0_3 (((cfgM m hO).slots t 3).cast nbuf0_3)) (spec0_4.stage ((cfgM m hO).slots t 4)) (hstage0_4 (((cfgM m hO).slots t 4).cast nbuf0_4)) (spec0_5.stage ((cfgM m hO).slots t 5)) (hstage0_5 (((cfgM m hO).slots t 5).cast nbuf0_5)) (spec0_6.stage ((cfgM m hO).slots t 6)) (hstage0_6 (((cfgM m hO).slots t 6).cast nbuf0_6)) (spec0_7.stage ((cfgM m hO).slots t 7)) (hstage0_7 (((cfgM m hO).slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _)

def bodyPre (c : Dev nD) (t : Fin (cfgM m hO).N) : sProp 𝕄 :=
  iprop((dats m hO 0 c).Φ t.castSucc ∗ (dats m hO 0 c).owesAt () t.castSucc
    ∗ (∃ d, owns (c : Thread nD τ) (st0_0 m hO t) fullShare ((dats m hO 0 c).before 0 t d))
    ∗ (∃ d, owns (c : Thread nD τ) (st0_1 m hO t) fullShare ((dats m hO 0 c).before 1 t d))
    ∗ (∃ d, owns (c : Thread nD τ) (st0_2 m hO t) fullShare ((dats m hO 0 c).before 2 t d))
    ∗ (∃ d, owns (c : Thread nD τ) (st0_3 m hO t) fullShare ((dats m hO 0 c).before 3 t d))
    ∗ (∃ d, owns (c : Thread nD τ) (st0_4 m hO t) fullShare ((dats m hO 0 c).before 4 t d))
    ∗ (∃ d, owns (c : Thread nD τ) (st0_5 m hO t) fullShare ((dats m hO 0 c).before 5 t d))
    ∗ (∃ d, owns (c : Thread nD τ) (st0_6 m hO t) fullShare ((dats m hO 0 c).before 6 t d))
    ∗ (∃ d, owns (c : Thread nD τ) (st0_7 m hO t) fullShare ((dats m hO 0 c).before 7 t d)))

def bodyPost (c : Dev nD) (t : Fin (cfgM m hO).N) : sProp 𝕄 :=
  iprop((dats m hO 0 c).Φ t.succ ∗ (dats m hO 0 c).owesAt () t.succ
    ∗ owns (c : Thread nD τ) (st0_0 m hO t) fullShare ((dats m hO 0 c).after 0 t)
    ∗ owns (c : Thread nD τ) (st0_1 m hO t) fullShare ((dats m hO 0 c).after 1 t)
    ∗ owns (c : Thread nD τ) (st0_2 m hO t) fullShare ((dats m hO 0 c).after 2 t)
    ∗ owns (c : Thread nD τ) (st0_3 m hO t) fullShare ((dats m hO 0 c).after 3 t)
    ∗ owns (c : Thread nD τ) (st0_4 m hO t) fullShare ((dats m hO 0 c).after 4 t)
    ∗ owns (c : Thread nD τ) (st0_5 m hO t) fullShare ((dats m hO 0 c).after 5 t)
    ∗ owns (c : Thread nD τ) (st0_6 m hO t) fullShare ((dats m hO 0 c).after 6 t)
    ∗ owns (c : Thread nD τ) (st0_7 m hO t) fullShare ((dats m hO 0 c).after 7 t))

theorem Phi_eq (c : Dev nD) (p : Fin ((cfgM m hO).N + 1)) : (dats m hO 0 c).Φ p = held m hO c p.val := by dsimp only [dats]
theorem Phi_at (c : Dev nD) (t : Fin (cfgM m hO).N) : (dats m hO 0 c).Φ t.castSucc = held m hO c t.val := Phi_eq m hO c t.castSucc
theorem Phi_next (c : Dev nD) (t : Fin (cfgM m hO).N) : (dats m hO 0 c).Φ t.succ = held m hO c (t.val + 1) := Phi_eq m hO c t.succ

theorem owes_eq (c : Dev nD) (t : Fin (cfgM m hO).N) : (dats m hO 0 c).owesAt () t.succ = ((dats m hO 0 c).owesAt () t.castSucc : sProp 𝕄) := rfl

set_option maxHeartbeats 2000000 in
theorem sound_body (c : Dev nD) (t : Fin (cfgM m hO).N) :
    bodyPre m hO c t ⊢ wp frame (wpE (defs₀ (F := F)) Variants.none c none) Set.univ (bodyAt0 m hO t) (fun _ => bodyPost m hO c t) := by
  unfold bodyPre bodyPost bodyAt0
  simp only [before0_0, before0_1, before0_2, before0_3, before0_4, before0_5, before0_6]
  rw [Phi_at, Phi_next, owes_eq,
    after0_0, after0_1, after0_2, after0_3, after0_4, after0_5, after0_6, after0_7]
  unfold held
  iintro ⟨⟨%s0, %s1, %s2, %s3, S0, S1, S2, S3, HP, HT0, HT1, %hI⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) (Memref.whole main_arg0) (Memref.isWhole_whole _) (Memref.whole main_arg1) (Memref.isWhole_whole _) (tbl m 0) (tbl m 1)
    _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t)
    s0 s1 s2 s3 (nw m) (ew m (k0_off1 (grid0.coords t) 0#32) (k0_off1_inb (grid0.coords t) 0)) (ew m (k0_off2 (grid0.coords t)) (k0_off2_inb (grid0.coords t)))
    (ew m (k0_off3 (grid0.coords t)) (k0_off3_inb (grid0.coords t))) (ew m (k0_off4 (grid0.coords t)) (k0_off4_inb (grid0.coords t))) rfl rfl rfl rfl rfl _)
  isplitl [HT0]; · iexact HT0
  isplitl [HT1]; · iexact HT1
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [S0]; · iexact S0
  isplitl [S1]; · iexact S1
  isplitl [S2]; · iexact S2
  isplitl [S3]; · iexact S3
  iintro ⟨HT0, HT1, H0, H1, H2, H3, H4, H5, H6, H7, S0, S1, S2, S3⟩
  have hres : outv (grid0.coords t) (nw m) (iblk m hO c 0 t) (if need0 m hO t = 1#1 then gu (iblk m hO c 1 t) (iblk m hO c 2 t) else s0)
      (if need0 m hO t = 1#1 then dn (iblk m hO c 3 t) else s1) (if need1 m hO t = 1#1 then gu (iblk m hO c 4 t) (iblk m hO c 5 t) else s2)
      (if need1 m hO t = 1#1 then dn (iblk m hO c 6 t) else s3) = res m hO c t :=
    outv_congr _ _ _ (step0 m hO c t s0 s1 s2 s3 hI) (step1 m hO c t s0 s1 s2 s3 hI)
  rw [← hres]
  isplitl [S0 S1 S2 S3 HP HT0 HT1]
  · iexists _; iexists _; iexists _; iexists _
    isplitl [S0]; · iexact S0
    isplitl [S1]; · iexact S1
    isplitl [S2]; · iexact S2
    isplitl [S3]; · iexact S3
    isplitl [HP]; · iexact HP
    isplitl [HT0]; · iexact HT0
    isplitl [HT1]; · iexact HT1
    ipureintro
    intro t' ht'
    obtain rfl : t' = t := Fin.ext (Nat.succ.inj ht')
    exact ⟨step0 m hO c t' s0 s1 s2 s3 hI, step1 m hO c t' s0 s1 s2 s3 hI⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin (cfgM m hO).N) :
    defs₀ (F := F) .tc (cfgM m hO).body ((cfgM m hO).bodyArgs t ((cfgM m hO).slots t)) = bodyAt0 m hO t := by
  unfold defs₀; rw [Defs.onTc_tc]

theorem never_idle (pf : pre0.Contents (Elt F)) (i : grid0.Coords) : idle0 pf 7 i = false := by
  show (!(k0_cond3 i (pf.atD 1 ![0]) == 1#1) && !(k0_cond4 i (pf.atD 1 ![0]) == 1#1)) = false
  by_cases h : k0_cond4 i (pf.atD 1 ![0]) = 1#1
  · rw [h]; simp
  · rw [cond34 i _ h]; simp

theorem idle_eq (a : (pcfg0 (F := F)).Adm) : (cfg0 a).idle = idle0 a.1 := rfl

theorem all_live (pf : pre0.Contents (Elt F)) (i : grid0.Coords) : ∀ w : Fin 8, idle0 pf w i = false
  | 0 => rfl | 1 => rfl | 2 => rfl | 3 => rfl | 4 => rfl | 5 => rfl | 6 => rfl | 7 => never_idle pf i

/-- The body's obligation where no window is ever left alone. -/
theorem obligation_of_live {cfg : Cfg sig Λ₀} {c : Dev nD} (dat : Dat τ (Elt F) Unit ℕ (UR sig nD τ) ℕ cfg c)
    (hl : ∀ w t, cfg.idle w (cfg.grid.coords t) = false)
    (h : ∀ t : Fin cfg.N, iprop(dat.Φ t.castSucc ∗ dat.owesAt () t.castSucc
        ∗ bigSep Finset.univ fun w : Fin cfg.W => iprop(∃ d, owns c ((cfg.win w).stage (cfg.slots t w)) fullShare (dat.before w t d)))
      ⊢ wp frame (wpE (defs₀ (F := F)) Variants.none c none) Set.univ (defs₀ .tc cfg.body (cfg.bodyArgs t (cfg.slots t))) fun _ =>
        iprop(dat.Φ t.succ ∗ dat.owesAt () t.succ
        ∗ bigSep Finset.univ fun w : Fin cfg.W => owns c ((cfg.win w).stage (cfg.slots t w)) fullShare (dat.after w t))) :
    BodyObligation dat (defs₀ (F := F)) Variants.none () Set.univ := fun t =>
  (h t).trans (wp_mono _ _ _ fun _ => sep_mono .rfl (sep_mono .rfl (Idealize.SL.BI.bigSep_mono fun w _ => by
    dsimp only
    rw [hl w t]
    exact Entails.refl _)))

theorem body_obligation (c : Dev nD) : BodyObligation (dats (F := F) m hO 0 c) (defs₀ (F := F)) Variants.none () Set.univ :=
  obligation_of_live (dats m hO 0 c) (fun w t => by rw [idle_eq]; exact all_live _ _ w) fun t => by
    rw [bigSep_W0, bigSep_W0, defs₀_row]
    exact triple_restated (sound_body m hO c t) rfl .rfl fun _ => .rfl

/-! ## The run -/

theorem enter (c : Dev nD) : iprop(Pipeline.ΦA spec0 c ∗ Pipeline.ΦT pre0 (tbl m) c) ⊢ (held m hO c 0 : sProp 𝕄) := by
  rw [PhiT0_eq]
  unfold Pipeline.ΦA held
  rw [scopedRest0_eq]
  simp only [owns_whole]
  iintro ⟨⟨⟨⟨%f0, H0⟩, ⟨%f1, H1⟩, ⟨%f2, H2⟩, ⟨%f3, H3⟩⟩, HP⟩, HT0, HT1⟩
  iexists f0; iexists f1; iexists f2; iexists f3
  isplitl [H0]; · iexact H0
  isplitl [H1]; · iexact H1
  isplitl [H2]; · iexact H2
  isplitl [H3]; · iexact H3
  isplitl [HP]; · iexact HP
  isplitl [HT0]; · iexact HT0
  isplitl [HT1]; · iexact HT1
  ipureintro
  intro t ht
  exact absurd ht (Nat.succ_ne_zero _)
theorem leave (c : Dev nD) (p : Nat) : (held m hO c p : sProp 𝕄) ⊢ Pipeline.ΦA spec0 c := by
  unfold Pipeline.ΦA held
  rw [scopedRest0_eq]
  simp only [owns_whole]
  iintro ⟨%f0, %f1, %f2, %f3, H0, H1, H2, H3, HP, -, -, -⟩
  isplitr [HP]
  · isplitl [H0]; · iexists f0; iexact H0
    isplitl [H1]; · iexists f1; iexact H1
    isplitl [H2]; · iexists f2; iexact H2
    iexists f3; iexact H3
  iexact HP

set_option backward.isDefEq.respectTransparency.types false in
set_option maxHeartbeats 800000 in
theorem run_main_quiescent : θ_run defs (onTc (τ := τ) (main (F := F))) (s₀ m ρ)
    (fun r => (Pipeline.FramePost (Pipeline.pin pcfgs (fun _ => adm m hO)) (dats m hO) 0 (V m)) r ∧ r.2.sem = fun _ => 0) :=
  Pipeline.θ_run_frameP_track_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hin := fun c => by rw [Phi_eq]; exact enter m hO c) (hout := fun c => by rw [Phi_eq]; exact leave m hO c _)

end Cert.Kernel3Ideal.Gmm

end
-- ==== Proof.GmmReady.lean ====
/- What the experts' precondition says, and that it puts every block the program fetches inside its array. -/
module

public import proofs.«01_k».proof.Proof.GmmFrame
public import proofs.«01_k».proof.Proof.Gen.Pre_ready
public import proofs.«01_k».proof.Proof.Routed
public import Idealize.ShloMosaic.Lib.StableHlo.Predicate
public import Idealize.ShloMosaic.Lib.WordArith

@[expose] public section

set_option maxRecDepth 16384

noncomputable section

namespace Cert.Kernel3Ideal.Gmm

open Idealize.ShloMosaic Idealize.ShloMosaic.TcCoe Cert.Kernel3Ideal.Gen
open Idealize.ShloMosaic.ValueIdx

variable {F : FTy → Type} [FloatOps F]

/-- Every block's expert is one of the 64, and at least one block is live. -/
structure Ready (A0 : S444.Idx → BitVec 32) (A1 : S1.Idx → BitVec 32) : Prop where
  ex : ∀ j, 0 ≤ (A0 j).toInt ∧ (A0 j).toNat < 64
  nr : 1 ≤ (A1 (ix1 (0 : Fin 1))).toInt

theorem ready_of {A0 : S444.Idx → BitVec 32} {A1 : S1.Idx → BitVec 32} {A2 : FVec F S227328x1024 .bf16} {A3 A4 : FVec F S1x64x1024x256 .f32} {A5 : FVec F S1x64x256x1024 .f32}
    [Cert.Pre_ready.Facts] (H : Cert.Pre_ready.fn (F := F) A0 A1 A2 A3 A4 A5 = fun _ => 1#1) : Ready A0 A1 := by
  obtain ⟨e5, e7⟩ := Cert.Proof.Send.and1 H
  refine ⟨fun j => ?_, ?_⟩
  · have q : IntOp.andi (IntOp.cmpi .sge (A0 j) 0#32) (IntOp.cmpi .slt (A0 j) 64#32) = 1#1 := Cert.Proof.Send.all1 ValueIdx.ix0 e5 j
    obtain ⟨q1, q2⟩ := IntOp.andi_eq_one.1 q
    exact ⟨by have := Cert.Proof.Send.nonneg q1; omega, Cert.Proof.Send.lt_of q1 (by norm_num) q2⟩
  · have q : IntOp.cmpi .sge (shapeCast Cert.Pre_ready.S_ A1 Cert.Pre_ready.Facts.shapeCasts_S1_S_ ValueIdx.ix0) 1#32 = 1#1 := congrFun e7 ValueIdx.ix0
    have v9 : shapeCast Cert.Pre_ready.S_ A1 Cert.Pre_ready.Facts.shapeCasts_S1_S_ ValueIdx.ix0 = A1 (ix1 (0 : Fin 1)) := by
      refine shapeCast_apply _ _ _ _ ?_
      rw [Shape.rowMajor_val_one]
      show (0 : ℕ) = _
      exact (Nat.lt_one_iff.1 (Fin.isLt (Cert.Pre_ready.S_.rowMajor ValueIdx.ix0))).symm
    rw [v9] at q
    exact IntOp.cmpi_sge.1 q

/-! ## The last live step's block -/

/-- The block of rows the last live step reads, as the index map computes it. -/
def lastb (n : BitVec 32) : BitVec 32 :=
  let v1 := Scalar.subi n 1#32
  let v2 := Scalar.divsi v1 2#32
  let v7 := Scalar.subi (Scalar.extui (Scalar.cmpi .sgt v1 0#32)) (Scalar.extui (Scalar.cmpi .slt v1 0#32) : BitVec 32)
  let v12 := Scalar.subi (Scalar.extui (Scalar.cmpi .sgt 2#32 (0#32 : BitVec 32))) (Scalar.extui (Scalar.cmpi .slt 2#32 (0#32 : BitVec 32)) : BitVec 32)
  let v16 := Scalar.andi (Scalar.cmpi .ne v7 v12) (Scalar.cmpi .ne (Scalar.remsi v1 2#32) 0#32)
  Scalar.select v16 (Scalar.subi v2 1#32) v2

theorem transform_0 (pf : pre0.Contents (Elt F)) (i : grid0.Coords) : cc0_transform_0 inb_S1_S1_0 numel1_S1 pf i
    = ![(Scalar.minsi (BitVec.ofNat 32 (i 0).val) (lastb (pf.at 1 (Rect.unit (s := S1) ![0] S1.size inb_S1_S1_0) numel1_S1))).toNat, 0] := rfl

theorem lastb_toNat {n : BitVec 32} (h : 1 ≤ n.toInt) : (lastb n).toNat = (n.toNat - 1) / 2 := by
  have hn : n.toInt = n.toNat ∧ n.toNat < 2 ^ 31 := by
    have := n.isLt
    rw [BitVec.toInt_eq_toNat_cond] at h ⊢
    split at h <;> rename_i h2
    · rw [if_pos h2]; exact ⟨rfl, by omega⟩
    · omega
  have hx : (n - 1#32).toNat = n.toNat - 1 := by
    rw [BitVec.toNat_sub]
    have : (1#32 : BitVec 32).toNat = 1 := rfl
    rw [this]
    omega
  have hd : (IntOp.divsi .scalar (n - 1#32) 2#32).toNat = (n.toNat - 1) / 2 := by
    rw [StableHlo.Predicate.divsi_two _ _ (by omega), hx]
  have hs : lastb n = IntOp.divsi .scalar (n - 1#32) 2#32 := by
    by_cases h0 : n - 1#32 = 0#32
    · unfold lastb
      show Scalar.select (Scalar.andi _ (Scalar.cmpi .ne (Scalar.remsi (n - 1#32) 2#32) 0#32)) (Scalar.subi (Scalar.divsi (n - 1#32) 2#32) 1#32) (Scalar.divsi (n - 1#32) 2#32) = Scalar.divsi (n - 1#32) 2#32
      rw [h0]
      have hz : ∀ b : BitVec 1, Scalar.select (Scalar.andi b (Scalar.cmpi .ne (Scalar.remsi 0#32 2#32) (0#32 : BitVec 32))) (Scalar.subi (Scalar.divsi 0#32 2#32) 1#32) (Scalar.divsi 0#32 2#32) = Scalar.divsi (0#32 : BitVec 32) 2#32 := by decide
      exact hz _
    · have hi : (n - 1#32).toInt = (n - 1#32).toNat := by
        rw [BitVec.toInt_eq_toNat_cond, if_pos (by omega)]
      have z : (0#32 : BitVec 32).toInt = 0 := by decide
      have hne : (n - 1#32).toNat ≠ 0 := fun e => h0 (BitVec.eq_of_toNat_eq e)
      have g1 : Scalar.cmpi .sgt (n - 1#32) 0#32 = 1#1 := IntOp.cmpi_sgt.2 (by rw [z, hi]; omega)
      have g2 : Scalar.cmpi .slt (n - 1#32) 0#32 = 0#1 := by
        have : ¬ IntOp.cmpi .slt (n - 1#32) 0#32 = 1#1 := fun e => by have := IntOp.cmpi_slt.1 e; rw [z, hi] at this; omega
        revert this
        show ¬ Scalar.cmpi .slt (n - 1#32) 0#32 = 1#1 → _
        generalize Scalar.cmpi .slt (n - 1#32) 0#32 = b
        revert b
        decide
      unfold lastb
      show Scalar.select (Scalar.andi (Scalar.cmpi .ne (Scalar.subi (Scalar.extui (Scalar.cmpi .sgt (n - 1#32) 0#32)) (Scalar.extui (Scalar.cmpi .slt (n - 1#32) 0#32) : BitVec 32)) _) (Scalar.cmpi .ne (Scalar.remsi (n - 1#32) 2#32) 0#32)) (Scalar.subi (Scalar.divsi (n - 1#32) 2#32) 1#32) (Scalar.divsi (n - 1#32) 2#32) = Scalar.divsi (n - 1#32) 2#32
      rw [g1, g2]
      generalize Scalar.divsi (n - 1#32) 2#32 = a
      generalize (Scalar.cmpi .ne (Scalar.remsi (n - 1#32) 2#32) 0#32) = b
      have hz : ∀ b : BitVec 1, Scalar.andi (Scalar.cmpi .ne (Scalar.subi (Scalar.extui (1#1 : BitVec 1)) (Scalar.extui (0#1 : BitVec 1)) : BitVec 32) (Scalar.subi (Scalar.extui (Scalar.cmpi .sgt 2#32 (0#32 : BitVec 32))) (Scalar.extui (Scalar.cmpi .slt 2#32 (0#32 : BitVec 32))) : BitVec 32)) b = 0#1 := by decide
      rw [hz b]
      rfl
  rw [hs, hd]

theorem first_toNat {n : BitVec 32} (h : 1 ≤ n.toInt) (i : grid0.Coords) :
    (Scalar.minsi (BitVec.ofNat 32 (i 0).val) (lastb n)).toNat = min (i 0).val ((n.toNat - 1) / 2) := by
  have hi : (i 0).val < 222 := (i 0).isLt
  have hl := lastb_toNat h
  have := n.isLt
  refine (WordArith.toNat_minsi_of_lt _ _ (by rw [BitVec.toNat_ofNat]; omega) (by rw [hl]; omega)).trans ?_
  rw [hl, BitVec.toNat_ofNat, Nat.mod_eq_of_lt (by omega)]

/-! ## The tables' words -/

variable (m : (ℓ : Loc nD τ sig) → Buf (Elt F) ℓ)
variable (hR : Ready (m (((0 : Dev nD) : Thread nD τ).loc main_arg0)) (m (((0 : Dev nD) : Thread nD τ).loc main_arg1)))

theorem tbl_0 : tbl m 0 = m (((0 : Dev nD) : Thread nD τ).loc main_arg0) := V_main_arg0 m 0
theorem tbl_1 : tbl m 1 = m (((0 : Dev nD) : Thread nD τ).loc main_arg1) := V_main_arg1 m 0

theorem nw_eq : nw m = m (((0 : Dev nD) : Thread nD τ).loc main_arg1) (ix1 (0 : Fin 1)) := by
  refine (congrFun (tbl_1 m) _).trans (congrArg _ ?_)
  funext (a : Fin 1)
  obtain rfl : a = 0 := Subsingleton.elim _ _
  rfl
theorem ew_eq (o : Fin 1 → Nat) (h : ∀ a, o a + S1.size a ≤ S444.size a) (b : Fin 444) (ho : o 0 = b.val) : ew m o h = m (((0 : Dev nD) : Thread nD τ).loc main_arg0) (ix1 b) := by
  refine (congrFun (tbl_0 m) _).trans (congrArg _ ?_)
  funext (a : Fin 1)
  obtain rfl : a = 0 := Subsingleton.elim _ _
  apply Fin.ext
  show o 0 + 1 * 0 = b.val
  omega

include hR in
theorem ew_lt (o : Fin 1 → Nat) (h : ∀ a, o a + S1.size a ≤ S444.size a) : (ew m o h).toNat < 64 := by
  have e : ew m o h = tbl m 0 ((Rect.unit (s := S444) o S1.size h).emb (Shape.Idx.first _)) := rfl
  rw [ew_eq m o h ⟨o 0, by have : o 0 + 1 ≤ 444 := h 0; omega⟩ rfl]
  exact (hR.ex _).2

include hR in
theorem inb_0 (i : grid0.Coords) : ∀ a, (cc0_transform_0 inb_S1_S1_0 numel1_S1 (tbl m) i a + 1) * S1024x1024.size a ≤ S227328x1024.size a := fun (a : Fin 2) => match a with
  | ⟨0, _⟩ => by
    have hn : 1 ≤ (nw m).toInt := by rw [nw_eq]; exact hR.nr
    have hi : (i 0).val < 222 := (i 0).isLt
    have e := first_toNat hn i
    show ((Scalar.minsi (BitVec.ofNat 32 (i 0).val) (lastb (nw m))).toNat + 1) * 1024 ≤ 227328
    rw [e]
    omega
  | ⟨1, _⟩ => by show (0 + 1) * 1024 ≤ 1024; omega
include hR in
theorem inb_1 (i : grid0.Coords) : ∀ a, (cc0_transform_1 k0_off1_inb numel1_S1 (tbl m) i a + 1) * S1x1024x256.size a ≤ S64x1024x256.size a := fun (a : Fin 3) => match a with
  | ⟨0, _⟩ => by
    have e := ew_lt m hR (k0_off1 i 0#32) (k0_off1_inb i 0)
    show ((ew m (k0_off1 i 0#32) (k0_off1_inb i 0)).toNat + 1) * 1 ≤ 64
    omega
  | ⟨1, _⟩ => by show (0 + 1) * 1024 ≤ 1024; omega
  | ⟨2, _⟩ => by show (0 + 1) * 256 ≤ 256; omega
include hR in
theorem inb_2 (i : grid0.Coords) : ∀ a, (cc0_transform_2 k0_off1_inb numel1_S1 (tbl m) i a + 1) * S1x1024x256.size a ≤ S64x1024x256.size a := fun (a : Fin 3) => match a with
  | ⟨0, _⟩ => by
    have e := ew_lt m hR (k0_off1 i 0#32) (k0_off1_inb i 0)
    show ((ew m (k0_off1 i 0#32) (k0_off1_inb i 0)).toNat + 1) * 1 ≤ 64
    omega
  | ⟨1, _⟩ => by show (0 + 1) * 1024 ≤ 1024; omega
  | ⟨2, _⟩ => by show (0 + 1) * 256 ≤ 256; omega
include hR in
theorem inb_3 (i : grid0.Coords) : ∀ a, (cc0_transform_3 k0_off1_inb numel1_S1 (tbl m) i a + 1) * S1x256x1024.size a ≤ S64x256x1024.size a := fun (a : Fin 3) => match a with
  | ⟨0, _⟩ => by
    have e := ew_lt m hR (k0_off1 i 0#32) (k0_off1_inb i 0)
    show ((ew m (k0_off1 i 0#32) (k0_off1_inb i 0)).toNat + 1) * 1 ≤ 64
    omega
  | ⟨1, _⟩ => by show (0 + 1) * 256 ≤ 256; omega
  | ⟨2, _⟩ => by show (0 + 1) * 1024 ≤ 1024; omega
include hR in
theorem inb_4 (i : grid0.Coords) : ∀ a, (cc0_transform_4 k0_off1_inb numel1_S1 (tbl m) i a + 1) * S1x1024x256.size a ≤ S64x1024x256.size a := fun (a : Fin 3) => match a with
  | ⟨0, _⟩ => by
    have e := ew_lt m hR (k0_off1 i 1#32) (k0_off1_inb i 1)
    show ((ew m (k0_off1 i 1#32) (k0_off1_inb i 1)).toNat + 1) * 1 ≤ 64
    omega
  | ⟨1, _⟩ => by show (0 + 1) * 1024 ≤ 1024; omega
  | ⟨2, _⟩ => by show (0 + 1) * 256 ≤ 256; omega
include hR in
theorem inb_5 (i : grid0.Coords) : ∀ a, (cc0_transform_5 k0_off1_inb numel1_S1 (tbl m) i a + 1) * S1x1024x256.size a ≤ S64x1024x256.size a := fun (a : Fin 3) => match a with
  | ⟨0, _⟩ => by
    have e := ew_lt m hR (k0_off1 i 1#32) (k0_off1_inb i 1)
    show ((ew m (k0_off1 i 1#32) (k0_off1_inb i 1)).toNat + 1) * 1 ≤ 64
    omega
  | ⟨1, _⟩ => by show (0 + 1) * 1024 ≤ 1024; omega
  | ⟨2, _⟩ => by show (0 + 1) * 256 ≤ 256; omega
include hR in
theorem inb_6 (i : grid0.Coords) : ∀ a, (cc0_transform_6 k0_off1_inb numel1_S1 (tbl m) i a + 1) * S1x256x1024.size a ≤ S64x256x1024.size a := fun (a : Fin 3) => match a with
  | ⟨0, _⟩ => by
    have e := ew_lt m hR (k0_off1 i 1#32) (k0_off1_inb i 1)
    show ((ew m (k0_off1 i 1#32) (k0_off1_inb i 1)).toNat + 1) * 1 ≤ 64
    omega
  | ⟨1, _⟩ => by show (0 + 1) * 256 ≤ 256; omega
  | ⟨2, _⟩ => by show (0 + 1) * 1024 ≤ 1024; omega

include hR in
theorem ok : Ok m :=
  ⟨fun i => ⟨inb_0 m hR i, .inr (Affine.block_words_dvd (of_decide_eq_true rfl) (by decide))⟩, fun i => ⟨inb_1 m hR i, .inl rfl⟩, fun i => ⟨inb_2 m hR i, .inl rfl⟩, fun i => ⟨inb_3 m hR i, .inl rfl⟩, fun i => ⟨inb_4 m hR i, .inl rfl⟩, fun i => ⟨inb_5 m hR i, .inl rfl⟩, fun i => ⟨inb_6 m hR i, .inl rfl⟩⟩

end Cert.Kernel3Ideal.Gmm

end
-- ==== Proof.GmmMath.lean ====
/- The experts' products in extended reals: what a row of a block is worth, from the arguments alone. -/
module

public import Idealize.ShloMosaic.Lib.MatmulPlain
public import Idealize.ShloMosaic.Lib.ValueLayout
public import Idealize.ShloMosaic.Lib.Pipeline.Value
public import Idealize.ShloMosaic.PureOps.Ideal.Laws

@[expose] public section

noncomputable section

namespace Cert.Proof.Gmm

open Idealize.ShloMosaic Idealize.ShloMosaic.ValueIdx

/-- An expert on a row, at a column of its results: over the 256 hidden columns, the gate's product through silu, times
    the up product, times the down weight. -/
def expert (x : Fin 1024 → EReal) (g u : Fin 1024 → Fin 256 → EReal) (d : Fin 256 → EReal) : EReal :=
  ∑ j : Fin 256, (∑ i : Fin 1024, x i * g i j) * Ideal.logistic (∑ i : Fin 1024, x i * g i j) * (∑ i : Fin 1024, x i * u i j) * d j

theorem expert_congr {x x' : Fin 1024 → EReal} {g g' u u' : Fin 1024 → Fin 256 → EReal} {d d' : Fin 256 → EReal}
    (hx : ∀ i, x i = x' i) (hg : ∀ i j, g i j = g' i j) (hu : ∀ i j, u i j = u' i j) (hd : ∀ j, d j = d' j) : expert x g u d = expert x' g' u' d' := by
  obtain rfl : x = x' := funext hx
  obtain rfl : g = g' := funext fun i => funext (hg i)
  obtain rfl : u = u' := funext fun i => funext (hu i)
  obtain rfl : d = d' := funext hd
  rfl

/-- A table's word as an expert. -/
def eOf (w : BitVec 32) : Fin 64 := ⟨w.toNat % 64, Nat.mod_lt _ (by norm_num)⟩
/-- Row `r` of block `b`. -/
def row (b : Fin 444) (r : Fin 512) : Fin 227328 := ⟨512 * b.val + r.val, by omega⟩

/-- A row of a live block is its expert's; a row of any other is zero. -/
def value (A0 : (⟨1, ![444]⟩ : Shape).Idx → BitVec 32) (A1 : (⟨1, ![1]⟩ : Shape).Idx → BitVec 32) (A2 : (⟨2, ![227328, 1024]⟩ : Shape).Idx → EReal)
    (A3 A4 : (⟨4, ![1, 64, 1024, 256]⟩ : Shape).Idx → EReal) (A5 : (⟨4, ![1, 64, 256, 1024]⟩ : Shape).Idx → EReal)
    (b : Fin 444) (r : Fin 512) (k : Fin 1024) : EReal :=
  if (b.val : Int) < (A1 (ix1 (0 : Fin 1))).toInt then
    expert (fun i => A2 (ix2 (row b r) i)) (fun i j => A3 (ix4 (0 : Fin 1) (eOf (A0 (ix1 b))) i j)) (fun i j => A4 (ix4 (0 : Fin 1) (eOf (A0 (ix1 b))) i j))
      (fun j => A5 (ix4 (0 : Fin 1) (eOf (A0 (ix1 b))) j k))
  else 0

theorem rows_ext {f g : (⟨2, ![227328, 1024]⟩ : Shape).Idx → EReal} (h : ∀ b r k, f (ix2 (row b r) k) = g (ix2 (row b r) k)) : f = g := by
  funext y
  have e : y = ix2 (row ⟨(y (0 : Fin 2)).val / 512, by have : (y (0 : Fin 2)).val < 227328 := (y (0 : Fin 2)).isLt; omega⟩ ⟨(y (0 : Fin 2)).val % 512, by omega⟩) (y (1 : Fin 2)) := by
    funext (a : Fin 2)
    apply Fin.ext
    match a with
    | ⟨0, _⟩ => show (y (0 : Fin 2)).val = 512 * ((y (0 : Fin 2)).val / 512) + (y (0 : Fin 2)).val % 512; omega
    | ⟨1, _⟩ => rfl
  rw [e]
  exact h _ _ _

end Cert.Proof.Gmm

end
-- ==== Proof.GmmRows.lean ====
/- The body's block of results at exact arithmetic. -/
module

public import proofs.«01_k».proof.Proof.GmmBody
public import proofs.«01_k».proof.Proof.GmmMath
public import Idealize.ShloMosaic.Lib.Pipeline.ValueKit.Basic

@[expose] public section

set_option maxRecDepth 16384

noncomputable section

namespace Cert.Kernel3Ideal.Gmm

open Idealize.ShloMosaic Idealize.ShloMosaic.TcCoe Cert.Kernel3Ideal.Gen
open Idealize.ShloMosaic.ValueIdx Cert.Proof.Gmm

abbrev lo (j : Fin 256) : Fin 512 := ⟨j.val, by omega⟩
abbrev hi (j : Fin 256) : Fin 512 := ⟨256 + j.val, by omega⟩

/-- The hidden block: the gate's half through silu, times the up half. -/
def hid (x : FVec Ideal S512x1024 .bf16) (g : FVec Ideal S1024x512 .bf16) : FVec Ideal S512x256 .bf16 :=
  let v : FVec Ideal S512x512 .f32 := matmul dot_S512x1024_S1024x512_S512x512_1_0_0_1_n_n none x g (constant S512x512 .f32 0x00000000#32)
  let p : FVec Ideal S512x256 .f32 := extractStridedSlice S512x256 ![0, 0] v slices_S512x512_o0_0_S512x256
  truncf .bf16 (mulf (mulf p (logistic p)) (extractStridedSlice S512x256 ![0, 256] v slices_S512x512_o0_256_S512x256)) bitsLt_bf16_f32

theorem mm_apply (x : FVec Ideal S512x1024 .bf16) (g : FVec Ideal S1024x512 .bf16) (r : Fin 512) (j : Fin 512) :
    matmul dot_S512x1024_S1024x512_S512x512_1_0_0_1_n_n none x g (constant S512x512 .f32 0x00000000#32) (ix2 r j) = ∑ i : Fin 1024, x (ix2 r i) * g (ix2 i j) := by
  refine (Ideal.matmul_plain_apply (φ₂ := .bf16) none _ _ _ r j).trans ?_
  exact (congrArg (· + _) (Ideal.ofBits_zero_f32)).trans (zero_add _)

theorem hid_apply (x : FVec Ideal S512x1024 .bf16) (g : FVec Ideal S1024x512 .bf16) (r : Fin 512) (j : Fin 256) :
    hid x g (ix2 r j) = (∑ i : Fin 1024, x (ix2 r i) * g (ix2 i (lo j))) * Ideal.logistic (∑ i : Fin 1024, x (ix2 r i) * g (ix2 i (lo j))) * (∑ i : Fin 1024, x (ix2 r i) * g (ix2 i (hi j))) := by
  have hl : ∀ v : FVec Ideal S512x512 .f32, extractStridedSlice S512x256 ![0, 0] v slices_S512x512_o0_0_S512x256 (ix2 r j) = v (ix2 r (lo j)) := fun v =>
    extractStridedSlice_apply _ _ _ _ _ (fun a => match a with
      | ⟨0, _⟩ => by show r.val = 0 + r.val; omega
      | ⟨1, _⟩ => by show j.val = 0 + j.val; omega)
  have hh : ∀ v : FVec Ideal S512x512 .f32, extractStridedSlice S512x256 ![0, 256] v slices_S512x512_o0_256_S512x256 (ix2 r j) = v (ix2 r (hi j)) := fun v =>
    extractStridedSlice_apply _ _ _ _ _ (fun a => match a with
      | ⟨0, _⟩ => by show r.val = 0 + r.val; omega
      | ⟨1, _⟩ => rfl)
  rw [← mm_apply x g r (lo j), ← mm_apply x g r (hi j)]
  unfold hid
  exact congrArg₂ (fun p q : EReal => p * Ideal.logistic p * q) (hl _) (hh _)

theorem down_apply (h : FVec Ideal S512x256 .bf16) (d : FVec Ideal S256x1024 .bf16) (r : Fin 512) (k : Fin 1024) :
    truncf .bf16 (matmul dot_S512x256_S256x1024_S512x1024_1_0_0_1_n_n none h d (constant S512x1024 .f32 0x00000000#32)) bitsLt_bf16_f32 (ix2 r k) = ∑ j : Fin 256, h (ix2 r j) * d (ix2 j k) := by
  refine (Ideal.matmul_plain_apply (φ₂ := .bf16) none _ _ _ r k).trans ?_
  exact (congrArg (· + _) (Ideal.ofBits_zero_f32)).trans (zero_add _)

/-- A lane's rows. -/
def lane (p : BitVec 1) (x : FVec Ideal S512x1024 .bf16) (g : FVec Ideal S1024x512 .bf16) (d : FVec Ideal S256x1024 .bf16) : FVec Ideal S512x1024 .bf16 :=
  Scalar.select p (truncf .bf16 (matmul dot_S512x256_S256x1024_S512x1024_1_0_0_1_n_n none (hid x g) d (constant S512x1024 .f32 0x00000000#32)) bitsLt_bf16_f32)
    (broadcast S512x1024 (Scalar.ofBits .bf16 0x0000#16))

theorem zero16 : (Scalar.ofBits .bf16 0x0000#16 : Ideal .bf16) = (0 : EReal) := by
  show Ideal.ofBits .bf16 0x0000#16 = 0
  simp [Ideal.ofBits, Ideal.ieee]

theorem lane_apply (p : BitVec 1) (x : FVec Ideal S512x1024 .bf16) (g : FVec Ideal S1024x512 .bf16) (d : FVec Ideal S256x1024 .bf16) (r : Fin 512) (k : Fin 1024) :
    lane p x g d (ix2 r k) = if p = 1#1 then expert (fun i => x (ix2 r i)) (fun i j => g (ix2 i (lo j))) (fun i j => g (ix2 i (hi j))) (fun j => d (ix2 j k)) else 0 := by
  by_cases h : p = 1#1
  · subst h
    rw [if_pos rfl]
    refine (down_apply (hid x g) d r k).trans ?_
    exact Finset.sum_congr rfl fun j _ => congrArg (· * d (ix2 j k)) (hid_apply x g r j)
  · rw [if_neg h]
    exact (congrFun (if_neg h : lane p x g d = _) (ix2 r k)).trans zero16

theorem pay2_lane (a : BitVec 32) (n : Elt Ideal .i32) (x : FVec Ideal S512x1024 .bf16) (g : FVec Ideal S1024x512 .bf16) (d : FVec Ideal S256x1024 .bf16) :
    k0_pay2 (F := Ideal) a n x g d = lane (Scalar.cmpi .slt (Scalar.addi (Scalar.muli a 2#32) 0#32) n) x g d := rfl
theorem pay3_lane (a : BitVec 32) (n : Elt Ideal .i32) (x : FVec Ideal S512x1024 .bf16) (g : FVec Ideal S1024x512 .bf16) (d : FVec Ideal S256x1024 .bf16) :
    k0_pay3 (F := Ideal) a n x g d = lane (Scalar.cmpi .slt (Scalar.addi (Scalar.muli a 2#32) 1#32) n) x g d := rfl

/-! ## The scratch weights -/

theorem pay4_apply (p : FVec Ideal S1x1024x256 .f32) (i : Fin 1024) (j : Fin 256) : k0_pay4 (F := Ideal) p (ix2 i j) = p (ix3 (0 : Fin 1) i j) := by
  unfold k0_pay4
  refine (shapeCast_apply _ _ _ (ix2 i j) rfl).trans ?_
  exact shapeCast_apply _ _ _ (ix3 (0 : Fin 1) i j) (by
    rw [Shape.rowMajor_val_three, Shape.rowMajor_val_two]
    show (0 * 1024 + i.val) * 256 + j.val = i.val * 256 + j.val
    omega)
theorem pay5_apply (p : FVec Ideal S1x1024x256 .f32) (i : Fin 1024) (j : Fin 256) : k0_pay5 (F := Ideal) p (ix2 i j) = p (ix3 (0 : Fin 1) i j) := pay4_apply p i j
theorem pay6_apply (p : FVec Ideal S1x256x1024 .f32) (j : Fin 256) (k : Fin 1024) : k0_pay6 (F := Ideal) p (ix2 j k) = p (ix3 (0 : Fin 1) j k) := by
  unfold k0_pay6
  refine (shapeCast_apply _ _ _ (ix2 j k) rfl).trans ?_
  exact shapeCast_apply _ _ _ (ix3 (0 : Fin 1) j k) (by
    rw [Shape.rowMajor_val_three, Shape.rowMajor_val_two]
    show (0 * 256 + j.val) * 1024 + k.val = j.val * 1024 + k.val
    omega)

theorem rUp_emb (i : Fin 1024) (j : Fin 256) : rUp.emb (ix2 i j) = ix2 i (hi j) := by
  funext (a : Fin 2)
  apply Fin.ext
  match a with
  | ⟨0, _⟩ => show 0 + 1 * i.val = i.val; omega
  | ⟨1, _⟩ => show 256 + 1 * j.val = 256 + j.val; omega
theorem rGate_emb (i : Fin 1024) (j : Fin 256) : rGate.emb (ix2 i j) = ix2 i (lo j) := by
  funext (a : Fin 2)
  apply Fin.ext
  match a with
  | ⟨0, _⟩ => show 0 + 1 * i.val = i.val; omega
  | ⟨1, _⟩ => show 0 + 1 * j.val = j.val; omega
theorem rTop_emb (r : Fin 512) (k : Fin 1024) : rTop.emb (ix2 r k) = ix2 (⟨r.val, by omega⟩ : Fin 1024) k := by
  funext (a : Fin 2)
  apply Fin.ext
  match a with
  | ⟨0, _⟩ => show 0 + 1 * r.val = r.val; omega
  | ⟨1, _⟩ => show 0 + 1 * k.val = k.val; omega
theorem rBot_emb (r : Fin 512) (k : Fin 1024) : rBot.emb (ix2 r k) = ix2 (⟨512 + r.val, by omega⟩ : Fin 1024) k := by
  funext (a : Fin 2)
  apply Fin.ext
  match a with
  | ⟨0, _⟩ => show 512 + 1 * r.val = 512 + r.val; omega
  | ⟨1, _⟩ => show 0 + 1 * k.val = k.val; omega

theorem gu_hi (p q : FVec Ideal S1x1024x256 .f32) (i : Fin 1024) (j : Fin 256) : gu (F := Ideal) p q (ix2 i (hi j)) = q (ix3 (0 : Fin 1) i j) := by
  unfold gu
  rw [← rUp_emb, View.canon_cons_emb, View.ld_unit_lit inb_S1x1024x256_S1x1024x256_0_0_0 _ (by decide)]
  exact pay5_apply q i j
theorem lo_off (i : Fin 1024) (j : Fin 256) : ix2 i (lo j) ∉ rUp.set := fun h => by
  obtain ⟨z, _, e⟩ := rUp.mem_set.mp h (1 : Fin 2)
  have e' : j.val = 256 + 1 * z := e
  omega
theorem gu_lo (p q : FVec Ideal S1x1024x256 .f32) (i : Fin 1024) (j : Fin 256) : gu (F := Ideal) p q (ix2 i (lo j)) = p (ix3 (0 : Fin 1) i j) := by
  unfold gu
  rw [View.canon_cons_of_not_mem (⟨rUp, k0_pay5 (F := Ideal) (View.ld q rW)⟩ : View.Piece (Elt Ideal) S1024x512 .bf16) _ (y := ix2 i (lo j)) (lo_off i j), ← rGate_emb, View.canon_cons_emb, View.ld_unit_lit inb_S1x1024x256_S1x1024x256_0_0_0 _ (by decide)]
  exact pay4_apply p i j
theorem dn_apply (p : FVec Ideal S1x256x1024 .f32) (j : Fin 256) (k : Fin 1024) : dn (F := Ideal) p (ix2 j k) = p (ix3 (0 : Fin 1) j k) := by
  unfold dn
  rw [View.canon_cons_unit_lit inb_S256x1024_S256x1024_0_0 _ _ (by decide), View.ld_unit_lit inb_S1x256x1024_S1x256x1024_0_0_0 _ (by decide)]
  exact pay6_apply p j k

/-! ## The block of results -/

theorem cond4_iff (i : grid0.Coords) (n : BitVec 32) : k0_cond4 i n = 1#1 ↔ n.toInt ≤ (Scalar.muli (BitVec.ofNat 32 (i 0).val) 2#32).toInt := by
  have h4 : k0_cond4 i n = Scalar.cmpi .sge (Scalar.muli (BitVec.ofNat 32 (i 0).val) 2#32) n := ne0 _
  rw [h4]
  exact IntOp.cmpi_sge

theorem zero_block : (View.canon [⟨rX, k0_pay1 (F := Ideal)⟩] : Vec Ideal S1024x1024 .bf16) = k0_pay1 (F := Ideal) :=
  View.canon_cons_unit_lit inb_S1024x1024_S1024x1024_0_0 _ [] (by decide)
theorem ld_gu (g : FVec Ideal S1024x512 .bf16) : (View.ld (Val := Elt Ideal) (e' := .bf16) g rGU : Vec Ideal S1024x512 .bf16) = g := View.ld_unit_lit inb_S1024x512_S1024x512_0_0 _ (by decide)
theorem ld_dn (d : FVec Ideal S256x1024 .bf16) : (View.ld (Val := Elt Ideal) (e' := .bf16) d rDn : Vec Ideal S256x1024 .bf16) = d := View.ld_unit_lit inb_S256x1024_S256x1024_0_0 _ (by decide)

/-- The rows of either half of a block, -/
abbrev top (r : Fin 512) : Fin 1024 := ⟨r.val, by omega⟩
abbrev bot (r : Fin 512) : Fin 1024 := ⟨512 + r.val, by omega⟩

theorem top_off (r : Fin 512) (k : Fin 1024) : ix2 (top r) k ∉ rBot.set := fun h => by
  obtain ⟨z, _, e⟩ := rBot.mem_set.mp h (0 : Fin 2)
  have e' : r.val = 512 + 1 * z := e
  omega
theorem canon_top (p q : FVec Ideal S512x1024 .bf16) (r : Fin 512) (k : Fin 1024) :
    (View.canon [⟨rBot, p⟩, ⟨rTop, q⟩] : Vec Ideal S1024x1024 .bf16) (ix2 (top r) k) = q (ix2 r k) := by
  rw [View.canon_cons_of_not_mem (⟨rBot, p⟩ : View.Piece (Elt Ideal) S1024x1024 .bf16) _ (y := ix2 (top r) k) (top_off r k), ← rTop_emb, View.canon_cons_emb]
theorem canon_bot (p q : FVec Ideal S512x1024 .bf16) (r : Fin 512) (k : Fin 1024) :
    (View.canon [⟨rBot, p⟩, ⟨rTop, q⟩] : Vec Ideal S1024x1024 .bf16) (ix2 (bot r) k) = p (ix2 r k) := by
  rw [← rBot_emb, View.canon_cons_emb]

section
variable (i : grid0.Coords) (n : BitVec 32) (x : FVec Ideal S1024x1024 .bf16) (g0 g1 : FVec Ideal S1024x512 .bf16) (d0 d1 : FVec Ideal S256x1024 .bf16) (r : Fin 512) (k : Fin 1024)

theorem outv_dead (h : k0_cond4 i n = 1#1) (y : S1024x1024.Idx) : outv (F := Ideal) i n x g0 d0 g1 d1 y = (0 : EReal) := by
  have e : outv (F := Ideal) i n x g0 d0 g1 d1 = View.canon [⟨rX, k0_pay1 (F := Ideal)⟩] := by unfold outv; exact if_pos h
  rw [e, zero_block]
  exact zero16
theorem outv_live (h : ¬ k0_cond4 i n = 1#1) : outv (F := Ideal) i n x g0 d0 g1 d1
    = View.canon [⟨rBot, k0_pay3 (F := Ideal) (BitVec.ofNat 32 (i 0).val) n (View.ld x rBot) (View.ld g1 rGU) (View.ld d1 rDn)⟩,
      ⟨rTop, k0_pay2 (F := Ideal) (BitVec.ofNat 32 (i 0).val) n (View.ld x rTop) (View.ld g0 rGU) (View.ld d0 rDn)⟩] := by
  unfold outv
  exact if_neg h

/-- A row of a lane, as the expert's. -/
def rowOf (x : FVec Ideal S1024x1024 .bf16) (g : FVec Ideal S1024x512 .bf16) (d : FVec Ideal S256x1024 .bf16) (q : Fin 1024) (k : Fin 1024) : EReal :=
  expert (fun a => x (ix2 q a)) (fun a j => g (ix2 a (lo j))) (fun a j => g (ix2 a (hi j))) (fun j => d (ix2 j k))

theorem outv_top : outv (F := Ideal) i n x g0 d0 g1 d1 (ix2 (top r) k)
    = if (Scalar.addi (Scalar.muli (BitVec.ofNat 32 (i 0).val) 2#32) 0#32).toInt < n.toInt then rowOf x g0 d0 (top r) k else 0 := by
  have ea : Scalar.addi (Scalar.muli (BitVec.ofNat 32 (i 0).val) 2#32) 0#32 = Scalar.muli (BitVec.ofNat 32 (i 0).val) 2#32 := BitVec.add_zero _
  by_cases h : k0_cond4 i n = 1#1
  · refine (outv_dead i n x g0 g1 d0 d1 h _).trans (if_neg ?_).symm
    rw [ea]
    have := (cond4_iff i n).mp h
    omega
  · rw [outv_live i n x g0 g1 d0 d1 h, canon_top, pay2_lane, lane_apply, ld_gu, ld_dn]
    refine if_congr IntOp.cmpi_slt ?_ rfl
    exact expert_congr (fun a => congrArg x (rTop_emb r a)) (fun _ _ => rfl) (fun _ _ => rfl) (fun _ => rfl)

theorem outv_bot (hb : (Scalar.addi (Scalar.muli (BitVec.ofNat 32 (i 0).val) 2#32) 1#32).toInt = (Scalar.muli (BitVec.ofNat 32 (i 0).val) 2#32).toInt + 1) :
    outv (F := Ideal) i n x g0 d0 g1 d1 (ix2 (bot r) k)
    = if (Scalar.addi (Scalar.muli (BitVec.ofNat 32 (i 0).val) 2#32) 1#32).toInt < n.toInt then rowOf x g1 d1 (bot r) k else 0 := by
  by_cases h : k0_cond4 i n = 1#1
  · refine (outv_dead i n x g0 g1 d0 d1 h _).trans (if_neg ?_).symm
    rw [hb]
    have := (cond4_iff i n).mp h
    omega
  · rw [outv_live i n x g0 g1 d0 d1 h, canon_bot, pay3_lane, lane_apply, ld_gu, ld_dn]
    refine if_congr IntOp.cmpi_slt ?_ rfl
    exact expert_congr (fun a => congrArg x (rBot_emb r a)) (fun _ _ => rfl) (fun _ _ => rfl) (fun _ => rfl)
end

theorem rowOf_gu (x : FVec Ideal S1024x1024 .bf16) (p q : FVec Ideal S1x1024x256 .f32) (d : FVec Ideal S1x256x1024 .f32) (r k : Fin 1024) :
    rowOf x (gu (F := Ideal) p q) (dn (F := Ideal) d) r k
      = expert (fun a => x (ix2 r a)) (fun a j => p (ix3 (0 : Fin 1) a j)) (fun a j => q (ix3 (0 : Fin 1) a j)) (fun j => d (ix3 (0 : Fin 1) j k)) :=
  expert_congr (fun _ => rfl) (fun a j => gu_lo p q a j) (fun a j => gu_hi p q a j) (fun j => dn_apply d j k)

end Cert.Kernel3Ideal.Gmm

end
-- ==== Proof.GmmFinal.lean ====
/- What the experts' call leaves: every row of its array is its expert's, or zero past the live blocks. -/
module

public import proofs.«01_k».proof.Proof.GmmReady
public import proofs.«01_k».proof.Proof.GmmRows
public import Idealize.ShloMosaic.Lib.Pipeline.Value
public import Idealize.ShloMosaic.Lib.Pipeline.ValueKit.Basic

@[expose] public section

set_option maxRecDepth 16384

noncomputable section

namespace Cert.Kernel3Ideal.Gmm

open Idealize.ShloMosaic Idealize.ShloMosaic.TcCoe Idealize.SL.Sem Cert.Kernel3Ideal.Gen
open Idealize.ShloMosaic.ValueIdx Cert.Proof.Gmm
open Idealize.ShloMosaic.Pipeline (Dat Cfg Window)

variable (m : (ℓ : Loc nD τ sig) → Buf (Elt Ideal) ℓ) (ρ : Dev nD → PrngReg)

/-! ## What the call finds -/

theorem V_gates (c : Dev nD) : V m c main_v0 = shapeCast S64x1024x256 (m ((c : Thread nD τ).loc main_arg3)) shapeCasts_S1x64x1024x256_S64x1024x256 := by
  show StableHlo.after hostOps0 _ _ = _
  after_results <;> rfl
theorem V_ups (c : Dev nD) : V m c main_v1 = shapeCast S64x1024x256 (m ((c : Thread nD τ).loc main_arg4)) shapeCasts_S1x64x1024x256_S64x1024x256 := by
  show StableHlo.after hostOps0 _ _ = _
  after_results <;> rfl
theorem V_downs (c : Dev nD) : V m c main_v2 = shapeCast S64x256x1024 (m ((c : Thread nD τ).loc main_arg5)) shapeCasts_S1x64x256x1024_S64x256x1024 := by
  show StableHlo.after hostOps0 _ _ = _
  after_results <;> rfl

theorem wide (x : FVec Ideal S1x64x1024x256 .f32) (e : Fin 64) (i : Fin 1024) (j : Fin 256) :
    shapeCast S64x1024x256 x shapeCasts_S1x64x1024x256_S64x1024x256 (ix3 e i j) = x (ix4 (0 : Fin 1) e i j) :=
  shapeCast_apply _ _ _ _ (by
    rw [Shape.rowMajor_val_three, Shape.rowMajor_val_four]
    show ((0 * 64 + e.val) * 1024 + i.val) * 256 + j.val = (e.val * 1024 + i.val) * 256 + j.val
    omega)
theorem tall (x : FVec Ideal S1x64x256x1024 .f32) (e : Fin 64) (i : Fin 256) (j : Fin 1024) :
    shapeCast S64x256x1024 x shapeCasts_S1x64x256x1024_S64x256x1024 (ix3 e i j) = x (ix4 (0 : Fin 1) e i j) :=
  shapeCast_apply _ _ _ _ (by
    rw [Shape.rowMajor_val_three, Shape.rowMajor_val_four]
    show ((0 * 64 + e.val) * 256 + i.val) * 1024 + j.val = (e.val * 256 + i.val) * 1024 + j.val
    omega)

variable (hR : Ready (m (((0 : Dev nD) : Thread nD τ).loc main_arg0)) (m (((0 : Dev nD) : Thread nD τ).loc main_arg1))) (hO : Ok m)

/-! ## The windows' places -/

/-- Lane 0's block of a step, and lane 1's. -/
def evn (t : Fin grid0.N) : Fin 444 := ⟨2 * t.val, by have : t.val < 222 := t.isLt; omega⟩
def odd (t : Fin grid0.N) : Fin 444 := ⟨2 * t.val + 1, by have : t.val < 222 := t.isLt; omega⟩
/-- A row of a step's block, as a row of the array. -/
def at0 (t : Fin grid0.N) (q : Fin 1024) : Fin 227328 := ⟨1024 * t.val + q.val, by have : t.val < 222 := t.isLt; omega⟩

/-- The words a step reads of the table of experts. -/
def wordA (t : Fin grid0.N) : BitVec 32 := ew m (k0_off1 (grid0.coords t) 0#32) (k0_off1_inb (grid0.coords t) 0)
def wordB (t : Fin grid0.N) : BitVec 32 := ew m (k0_off1 (grid0.coords t) 1#32) (k0_off1_inb (grid0.coords t) 1)
theorem wordA_eq (t : Fin grid0.N) : wordA m t = m (((0 : Dev nD) : Thread nD τ).loc main_arg0) (ix1 (evn t)) :=
  ew_eq m _ _ (evn t) (congrFun (offA t) 0)
theorem wordB_eq (t : Fin grid0.N) : wordB m t = m (((0 : Dev nD) : Thread nD τ).loc main_arg0) (ix1 (odd t)) :=
  ew_eq m _ _ (odd t) (congrFun (offC t) 0)
include hR in
theorem wordA_lt (t : Fin grid0.N) : (wordA m t).toNat < 64 := ew_lt m hR _ _
include hR in
theorem wordB_lt (t : Fin grid0.N) : (wordB m t).toNat < 64 := ew_lt m hR _ _

include hR in
theorem emb_1 (t : Fin grid0.N) (i : Fin 1024) (j : Fin 256) : (((cfgM m hO).win 1).blk t).view.emb (ix3 (0 : Fin 1) i j) = ix3 (eOf (wordA m t)) i j := by
  have h := wordA_lt m hR t
  funext (a : Fin 3)
  apply Fin.ext
  match a with
  | ⟨0, _⟩ => show (wordA m t).toNat * 1 + 1 * 0 = (wordA m t).toNat % 64; omega
  | ⟨1, _⟩ => show 0 * 1024 + 1 * i.val = i.val; omega
  | ⟨2, _⟩ => show 0 * 256 + 1 * j.val = j.val; omega
include hR in
theorem emb_2 (t : Fin grid0.N) (i : Fin 1024) (j : Fin 256) : (((cfgM m hO).win 2).blk t).view.emb (ix3 (0 : Fin 1) i j) = ix3 (eOf (wordA m t)) i j := by
  have h := wordA_lt m hR t
  funext (a : Fin 3)
  apply Fin.ext
  match a with
  | ⟨0, _⟩ => show (wordA m t).toNat * 1 + 1 * 0 = (wordA m t).toNat % 64; omega
  | ⟨1, _⟩ => show 0 * 1024 + 1 * i.val = i.val; omega
  | ⟨2, _⟩ => show 0 * 256 + 1 * j.val = j.val; omega
include hR in
theorem emb_3 (t : Fin grid0.N) (i : Fin 256) (j : Fin 1024) : (((cfgM m hO).win 3).blk t).view.emb (ix3 (0 : Fin 1) i j) = ix3 (eOf (wordA m t)) i j := by
  have h := wordA_lt m hR t
  funext (a : Fin 3)
  apply Fin.ext
  match a with
  | ⟨0, _⟩ => show (wordA m t).toNat * 1 + 1 * 0 = (wordA m t).toNat % 64; omega
  | ⟨1, _⟩ => show 0 * 256 + 1 * i.val = i.val; omega
  | ⟨2, _⟩ => show 0 * 1024 + 1 * j.val = j.val; omega
include hR in
theorem emb_4 (t : Fin grid0.N) (i : Fin 1024) (j : Fin 256) : (((cfgM m hO).win 4).blk t).view.emb (ix3 (0 : Fin 1) i j) = ix3 (eOf (wordB m t)) i j := by
  have h := wordB_lt m hR t
  funext (a : Fin 3)
  apply Fin.ext
  match a with
  | ⟨0, _⟩ => show (wordB m t).toNat * 1 + 1 * 0 = (wordB m t).toNat % 64; omega
  | ⟨1, _⟩ => show 0 * 1024 + 1 * i.val = i.val; omega
  | ⟨2, _⟩ => show 0 * 256 + 1 * j.val = j.val; omega
include hR in
theorem emb_5 (t : Fin grid0.N) (i : Fin 1024) (j : Fin 256) : (((cfgM m hO).win 5).blk t).view.emb (ix3 (0 : Fin 1) i j) = ix3 (eOf (wordB m t)) i j := by
  have h := wordB_lt m hR t
  funext (a : Fin 3)
  apply Fin.ext
  match a with
  | ⟨0, _⟩ => show (wordB m t).toNat * 1 + 1 * 0 = (wordB m t).toNat % 64; omega
  | ⟨1, _⟩ => show 0 * 1024 + 1 * i.val = i.val; omega
  | ⟨2, _⟩ => show 0 * 256 + 1 * j.val = j.val; omega
include hR in
theorem emb_6 (t : Fin grid0.N) (i : Fin 256) (j : Fin 1024) : (((cfgM m hO).win 6).blk t).view.emb (ix3 (0 : Fin 1) i j) = ix3 (eOf (wordB m t)) i j := by
  have h := wordB_lt m hR t
  funext (a : Fin 3)
  apply Fin.ext
  match a with
  | ⟨0, _⟩ => show (wordB m t).toNat * 1 + 1 * 0 = (wordB m t).toNat % 64; omega
  | ⟨1, _⟩ => show 0 * 256 + 1 * i.val = i.val; omega
  | ⟨2, _⟩ => show 0 * 1024 + 1 * j.val = j.val; omega

/-- The block of rows a step fetches, of a live step. -/
def first (t : Fin grid0.N) : Nat := (Scalar.minsi (BitVec.ofNat 32 (grid0.coords t 0).val) (lastb (nw m))).toNat
include hR in
theorem first_eq (t : Fin grid0.N) (hl : 2 * (t.val : Int) < (nw m).toInt) : first m t = t.val := by
  have hn : 1 ≤ (nw m).toInt := by rw [nw_eq]; exact hR.nr
  have e := first_toNat hn (grid0.coords t)
  have hp : (nw m).toInt = ((nw m).toNat : Int) := by
    have h1 := BitVec.toInt_eq_toNat_cond (nw m)
    have h2 := (nw m).isLt
    split at h1 <;> omega
  unfold first
  rw [e, coord t]
  omega
include hR in
theorem emb_0 (t : Fin grid0.N) (hl : 2 * (t.val : Int) < (nw m).toInt) (q k : Fin 1024) : (((cfgM m hO).win 0).blk t).view.emb (ix2 q k) = ix2 (at0 t q) k := by
  have h := first_eq m hR t hl
  funext (a : Fin 2)
  apply Fin.ext
  match a with
  | ⟨0, _⟩ => show first m t * 1024 + 1 * q.val = 1024 * t.val + q.val; omega
  | ⟨1, _⟩ => show 0 * 1024 + 1 * k.val = k.val; omega
theorem at_7 : ∀ t : Fin grid0.N, cc0_transform_7 (grid0.coords t) (0 : Fin 2) = t.val ∧ cc0_transform_7 (grid0.coords t) (1 : Fin 2) = 0 := by decide +kernel
theorem emb_7 (t : Fin grid0.N) (q k : Fin 1024) : (((cfgM m hO).win 7).blk t).view.emb (ix2 q k) = ix2 (at0 t q) k := by
  obtain ⟨h0, h1⟩ := at_7 t
  funext (a : Fin 2)
  apply Fin.ext
  match a with
  | ⟨0, _⟩ => show cc0_transform_7 (grid0.coords t) (0 : Fin 2) * 1024 + 1 * q.val = 1024 * t.val + q.val; omega
  | ⟨1, _⟩ => show cc0_transform_7 (grid0.coords t) (1 : Fin 2) * 1024 + 1 * k.val = k.val; omega
theorem flush_7' : ∀ t : Fin grid0.N, Window.flushOf grid0 true cc0_transform_7 t = true := by decide +kernel
theorem flush_7 (t : Fin grid0.N) : ((cfgM m hO).win 7).flush t = true := flush_7' t
theorem apart_7 : ∀ t t' : Fin (cfgM m hO).N, ((cfgM m hO).win 7).flush t = true → ((cfgM m hO).win 7).flush t' = true → t ≠ t' →
    Disjoint (((cfgM m hO).win 7).blk t).view.set (((cfgM m hO).win 7).blk t').view.set :=
  fun t t' _ _ hne => ((cfgM m hO).win 7).disjoint_blk fun h => hne (Fin.ext ((at_7 t).1.symm.trans ((congrFun h (0 : Fin 2)).trans (at_7 t').1)))

/-! ## The staged blocks -/

include hR in
theorem rows_at (c : Dev nD) (t : Fin grid0.N) (hl : 2 * (t.val : Int) < (nw m).toInt) (q k : Fin 1024) :
    iblk m hO c 0 t (ix2 q k) = m ((c : Thread nD τ).loc main_arg2) (ix2 (at0 t q) k) := by
  show V m c main_arg2 ((((cfgM m hO).win 0).blk t).view.emb (ix2 q k)) = _
  rw [emb_0 m hR hO t hl, V_main_arg2]
include hR in
theorem at_w1 (c : Dev nD) (t : Fin grid0.N) (i : Fin 1024) (j : Fin 256) :
    iblk m hO c 1 t (ix3 (0 : Fin 1) i j) = m ((c : Thread nD τ).loc main_arg3) (ix4 (0 : Fin 1) (eOf (m (((0 : Dev nD) : Thread nD τ).loc main_arg0) (ix1 (evn t)))) i j) := by
  show V m c main_v0 ((((cfgM m hO).win 1).blk t).view.emb (ix3 (0 : Fin 1) i j)) = _
  rw [emb_1 m hR hO t, V_gates, wordA_eq]
  exact wide _ _ i j
include hR in
theorem at_w2 (c : Dev nD) (t : Fin grid0.N) (i : Fin 1024) (j : Fin 256) :
    iblk m hO c 2 t (ix3 (0 : Fin 1) i j) = m ((c : Thread nD τ).loc main_arg4) (ix4 (0 : Fin 1) (eOf (m (((0 : Dev nD) : Thread nD τ).loc main_arg0) (ix1 (evn t)))) i j) := by
  show V m c main_v1 ((((cfgM m hO).win 2).blk t).view.emb (ix3 (0 : Fin 1) i j)) = _
  rw [emb_2 m hR hO t, V_ups, wordA_eq]
  exact wide _ _ i j
include hR in
theorem at_w3 (c : Dev nD) (t : Fin grid0.N) (i : Fin 256) (j : Fin 1024) :
    iblk m hO c 3 t (ix3 (0 : Fin 1) i j) = m ((c : Thread nD τ).loc main_arg5) (ix4 (0 : Fin 1) (eOf (m (((0 : Dev nD) : Thread nD τ).loc main_arg0) (ix1 (evn t)))) i j) := by
  show V m c main_v2 ((((cfgM m hO).win 3).blk t).view.emb (ix3 (0 : Fin 1) i j)) = _
  rw [emb_3 m hR hO t, V_downs, wordA_eq]
  exact tall _ _ i j
include hR in
theorem at_w4 (c : Dev nD) (t : Fin grid0.N) (i : Fin 1024) (j : Fin 256) :
    iblk m hO c 4 t (ix3 (0 : Fin 1) i j) = m ((c : Thread nD τ).loc main_arg3) (ix4 (0 : Fin 1) (eOf (m (((0 : Dev nD) : Thread nD τ).loc main_arg0) (ix1 (odd t)))) i j) := by
  show V m c main_v0 ((((cfgM m hO).win 4).blk t).view.emb (ix3 (0 : Fin 1) i j)) = _
  rw [emb_4 m hR hO t, V_gates, wordB_eq]
  exact wide _ _ i j
include hR in
theorem at_w5 (c : Dev nD) (t : Fin grid0.N) (i : Fin 1024) (j : Fin 256) :
    iblk m hO c 5 t (ix3 (0 : Fin 1) i j) = m ((c : Thread nD τ).loc main_arg4) (ix4 (0 : Fin 1) (eOf (m (((0 : Dev nD) : Thread nD τ).loc main_arg0) (ix1 (odd t)))) i j) := by
  show V m c main_v1 ((((cfgM m hO).win 5).blk t).view.emb (ix3 (0 : Fin 1) i j)) = _
  rw [emb_5 m hR hO t, V_ups, wordB_eq]
  exact wide _ _ i j
include hR in
theorem at_w6 (c : Dev nD) (t : Fin grid0.N) (i : Fin 256) (j : Fin 1024) :
    iblk m hO c 6 t (ix3 (0 : Fin 1) i j) = m ((c : Thread nD τ).loc main_arg5) (ix4 (0 : Fin 1) (eOf (m (((0 : Dev nD) : Thread nD τ).loc main_arg0) (ix1 (odd t)))) i j) := by
  show V m c main_v2 ((((cfgM m hO).win 6).blk t).view.emb (ix3 (0 : Fin 1) i j)) = _
  rw [emb_6 m hR hO t, V_downs, wordB_eq]
  exact tall _ _ i j

/-! ## The array after the run -/

theorem cut_7 (t : Fin grid0.N) (g : FVec Ideal S1024x1024 .bf16) (q k : Fin 1024) : ((cfgM m hO).win 7).cut (α := EReal) ((cfgM m hO).grid.coords t) g (ix2 q k) = g (ix2 q k) := rfl
theorem read_7 (t : Fin grid0.N) (A : FVec Ideal S227328x1024 .bf16) (q k : Fin 1024) : (((cfgM m hO).win 7).blk t).view.read (Elt Ideal) A (ix2 q k) = A (ix2 (at0 t q) k) :=
  congrArg A (emb_7 m hO t q k)
set_option maxHeartbeats 1000000 in
theorem left_7 (c : Dev nD) (t : Fin grid0.N) (q k : Fin 1024) : (dats m hO 0 c).arrAt 7 (cfgM m hO).N (ix2 (at0 t q) k) = res m hO c t (ix2 q k) := by
  have b := congrFun ((dats m hO 0 c).read_blk_arrAt_eq_flushed 7 (apart_7 m hO) (cfgM m hO).N t t.isLt (flush_7 m hO t)) (ix2 q k)
  refine (read_7 m hO t _ q k).symm.trans (b.trans ?_)
  exact (cut_7 m hO t _ q k).trans (congrFun (after0_7 m hO c t) (ix2 q k))

/-- A row's value, from the arguments. -/
abbrev val (c : Dev nD) (b : Fin 444) (r : Fin 512) (k : Fin 1024) : EReal :=
  value (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) b r k

include hR in
theorem res_top (c : Dev nD) (t : Fin grid0.N) (r : Fin 512) (k : Fin 1024) : res m hO c t (ix2 (top r) k) = val m c (evn t) r k := by
  obtain rfl : c = 0 := Subsingleton.elim _ _
  unfold res
  refine (outv_top (grid0.coords t) (nw m) _ _ _ _ _ r k).trans ?_
  rw [pos0 t]
  unfold val value
  rw [← nw_eq m]
  have hi : ((evn t).val : Int) = 2 * (t.val : Int) := by show ((2 * t.val : Nat) : Int) = _; omega
  rw [hi]
  by_cases h : 2 * (t.val : Int) < (nw m).toInt
  · rw [if_pos h, if_pos h]
    refine (rowOf_gu _ _ _ _ _ k).trans (expert_congr (fun a => ?_) (fun a j => at_w1 m hR hO 0 t a j) (fun a j => at_w2 m hR hO 0 t a j) (fun j => at_w3 m hR hO 0 t j k))
    refine (rows_at m hR hO 0 t h (top r) a).trans (congrArg (fun z => m (((0 : Dev nD) : Thread nD τ).loc main_arg2) (ix2 z a)) ?_)
    apply Fin.ext
    show 1024 * t.val + r.val = 512 * (2 * t.val) + r.val
    omega
  · rw [if_neg h, if_neg h]

include hR in
theorem res_bot (c : Dev nD) (t : Fin grid0.N) (r : Fin 512) (k : Fin 1024) : res m hO c t (ix2 (bot r) k) = val m c (odd t) r k := by
  obtain rfl : c = 0 := Subsingleton.elim _ _
  unfold res
  have ea : (Scalar.muli (BitVec.ofNat 32 (grid0.coords t 0).val) 2#32).toInt = 2 * (t.val : Int) := by
    have e : Scalar.addi (Scalar.muli (BitVec.ofNat 32 (grid0.coords t 0).val) 2#32) 0#32 = Scalar.muli (BitVec.ofNat 32 (grid0.coords t 0).val) 2#32 := BitVec.add_zero _
    rw [← e]
    exact pos0 t
  refine (outv_bot (grid0.coords t) (nw m) _ _ _ _ _ r k (by rw [ea]; exact pos1 t)).trans ?_
  rw [pos1 t]
  unfold val value
  rw [← nw_eq m]
  have hi : ((odd t).val : Int) = 2 * (t.val : Int) + 1 := by show ((2 * t.val + 1 : Nat) : Int) = _; omega
  rw [hi]
  by_cases h : 2 * (t.val : Int) + 1 < (nw m).toInt
  · rw [if_pos h, if_pos h]
    refine (rowOf_gu _ _ _ _ _ k).trans (expert_congr (fun a => ?_) (fun a j => at_w4 m hR hO 0 t a j) (fun a j => at_w5 m hR hO 0 t a j) (fun j => at_w6 m hR hO 0 t j k))
    refine (rows_at m hR hO 0 t (by omega) (bot r) a).trans (congrArg (fun z => m (((0 : Dev nD) : Thread nD τ).loc main_arg2) (ix2 z a)) ?_)
    apply Fin.ext
    show 1024 * t.val + (512 + r.val) = 512 * (2 * t.val + 1) + r.val
    omega
  · rw [if_neg h, if_neg h]

include hR in
theorem final_7 (c : Dev nD) (b : Fin 444) (r : Fin 512) (k : Fin 1024) : (dats m hO 0 c).arrAt 7 (cfgM m hO).N (ix2 (row b r) k) = val m c b r k := by
  have hN : grid0.N = 222 := rfl
  rcases Nat.even_or_odd' b.val with ⟨u, hu | hu⟩
  · have eb : b = evn ⟨u, by omega⟩ := Fin.ext hu
    have er : row b r = at0 ⟨u, by omega⟩ (top r) := Fin.ext (by show 512 * b.val + r.val = 1024 * u + r.val; omega)
    rw [er]
    exact (left_7 m hO c _ _ k).trans ((res_top m hR hO c _ r k).trans (congrArg (fun z => val m c z r k) eb.symm))
  · have eb : b = odd ⟨u, by omega⟩ := Fin.ext hu
    have er : row b r = at0 ⟨u, by omega⟩ (bot r) := Fin.ext (by show 512 * b.val + r.val = 1024 * u + (512 + r.val); omega)
    rw [er]
    exact (left_7 m hO c _ _ k).trans ((res_bot m hR hO c _ r k).trans (congrArg (fun z => val m c z r k) eb.symm))

end Cert.Kernel3Ideal.Gmm

end
-- ==== Proof.GmmRef.lean ====
/- The reference's rows at an index: a row of a live block is its expert's, a row of any other is zero. -/
module

public import proofs.«01_k».proof.Proof.Gen.Reference3Ideal
public import proofs.«01_k».proof.Proof.GmmMath
public import Idealize.ShloMosaic.Lib.Routing.Ops
public import Idealize.ShloMosaic.Lib.IdealHost
public import Idealize.ShloMosaic.Lib.StableHlo.Predicate

@[expose] public section

set_option maxRecDepth 16384

noncomputable section

namespace Cert.Proof.Gmm

open Idealize.ShloMosaic Idealize.ShloMosaic.TcCoe
open Idealize.ShloMosaic.ValueIdx

section Gather
variable {A B : Nat} {α : Type}

/-- Taking, for each of 444 blocks, a matrix of 64. -/
def takeM (wf : GatherDims.WF ⟨3, ![64, A, B]⟩ ⟨2, ![444, 1]⟩ ⟨3, ![444, A, B]⟩ [1, 2] [0] [] [0] [] 1 ![1, A, B]) :
    GatherDims ⟨3, ![64, A, B]⟩ ⟨2, ![444, 1]⟩ ⟨3, ![444, A, B]⟩ where
  offsetDims := [1, 2]
  collapsedSliceDims := [0]
  operandBatchingDims := []
  startIndicesBatchingDims := []
  startIndexMap := [0]
  indexVectorDim := 1
  sliceSizes := ![1, A, B]
  wf := wf

theorem takeM_apply (wf : GatherDims.WF ⟨3, ![64, A, B]⟩ ⟨2, ![444, 1]⟩ ⟨3, ![444, A, B]⟩ [1, 2] [0] [] [0] [] 1 ![1, A, B])
    (x : (⟨3, ![64, A, B]⟩ : Shape).Idx → α) (idx : IVec ⟨2, ![444, 1]⟩ 32) (b : Fin 444) (i : Fin A) (j : Fin B)
    (h0 : 0 ≤ (idx (ix2 b (0 : Fin 1))).toInt) (h1 : (idx (ix2 b (0 : Fin 1))).toNat < 64) :
    Host.gather (takeM wf) x idx (ix3 b i j) = x (ix3 (eOf (idx (ix2 b (0 : Fin 1)))) i j) := by
  unfold Host.gather
  refine congrArg x (funext fun (a : Fin 3) => Fin.ext ?_)
  match a with
  | ⟨0, _⟩ =>
    show (takeM wf).start (ix3 b i j) idx 0 + (takeM wf).batchCoord (ix3 b i j) 0 + (takeM wf).offCoord (ix3 b i j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (takeM wf).startIndexMap from List.mem_singleton.mpr rfl)]
    have hsi : (takeM wf).siIdx (ix3 b i j) ⟨List.idxOf (0 : Fin 3) (takeM wf).startIndexMap,
        List.idxOf_lt_length_iff.2 (List.mem_singleton.mpr rfl)⟩ = ix2 b (0 : Fin 1) := by
      funext (q : Fin 2)
      refine Fin.ext ?_
      match q with
      | ⟨0, _⟩ => rfl
      | ⟨1, _⟩ => rfl
    rw [hsi]
    show min (idx (ix2 b (0 : Fin 1))).toInt.toNat (64 - 1) = (idx (ix2 b (0 : Fin 1))).toNat % 64
    have e : (idx (ix2 b (0 : Fin 1))).toInt = ((idx (ix2 b (0 : Fin 1))).toNat : Int) := BitVec.toInt_eq_toNat_of_lt (by omega)
    rw [e, Int.toNat_natCast]
    omega
  | ⟨1, _⟩ =>
    show (takeM wf).start (ix3 b i j) idx 1 + (takeM wf).batchCoord (ix3 b i j) 1 + (takeM wf).offCoord (ix3 b i j) 1 = i.val
    rw [GatherDims.batchCoord_eq_zero _ _ _ List.not_mem_nil]
    unfold GatherDims.start
    rw [dif_neg (show (1 : Fin 3) ∉ (takeM wf).startIndexMap from fun h => (show (1 : Fin 3) ≠ 0 from by decide) (List.mem_singleton.mp h))]
    simp only [Nat.zero_add]
    rfl
  | ⟨2, _⟩ =>
    show (takeM wf).start (ix3 b i j) idx 2 + (takeM wf).batchCoord (ix3 b i j) 2 + (takeM wf).offCoord (ix3 b i j) 2 = j.val
    rw [GatherDims.batchCoord_eq_zero _ _ _ List.not_mem_nil]
    unfold GatherDims.start
    rw [dif_neg (show (2 : Fin 3) ∉ (takeM wf).startIndexMap from fun h => (show (2 : Fin 3) ≠ 0 from by decide) (List.mem_singleton.mp h))]
    simp only [Nat.zero_add]
    rfl

end Gather

open Cert.Reference3Ideal Cert.Reference3Ideal.Gen

/-! ## The reference's parts -/

/-- The blocks' experts, as the gathers read them. -/
def refIdx (A0 : IVec S444 32) : IVec S444x1 32 :=
  broadcastInDim S444x1 ![0] bcast_S444_S444x1_0 (select (cmpi .slt A0 (broadcastInDim S444 ![] bcast_S_S444 (constantI S_ 32 0#32))) (addi A0 (broadcastInDim S444 ![] bcast_S_S444 (constantI S_ 32 64#32))) A0)
/-- The gates' or the ups' weights, one matrix per block. -/
def refW (A0 : IVec S444 32) (A3 : FVec Ideal S1x64x1024x256 .f32) : FVec Ideal S444x1024x256 .f32 :=
  Host.gather gather_S64x1024x256_S444x1_S444x1024x256_12_0_n_n_0_1_11024256 (shapeCast _ A3 shapeCasts_S1x64x1024x256_S64x1024x256) (refIdx A0)
/-- The downs' weights. -/
def refD (A0 : IVec S444 32) (A5 : FVec Ideal S1x64x256x1024 .f32) : FVec Ideal S444x256x1024 .f32 :=
  Host.gather gather_S64x256x1024_S444x1_S444x256x1024_12_0_n_n_0_1_12561024 (shapeCast _ A5 shapeCasts_S1x64x256x1024_S64x256x1024) (refIdx A0)
/-- The rows, in blocks. -/
def refX (A2 : FVec Ideal S227328x1024 .bf16) : FVec Ideal S444x512x1024 .f32 :=
  shapeCast _ (extf .f32 A2 bitsLt_bf16_f32) shapeCasts_S227328x1024_S444x512x1024
/-- The rows' products with the weights. -/
def refP (A0 : IVec S444 32) (A2 : FVec Ideal S227328x1024 .bf16) (A3 : FVec Ideal S1x64x1024x256 .f32) : FVec Ideal S444x512x256 .f32 :=
  Host.dotGeneral dot_S444x512x1024_S444x1024x256_S444x512x256_2_1_1_2_0_0 none (refX A2) (refW A0 A3)
/-- The hidden rows. -/
def refH (A0 : IVec S444 32) (A2 : FVec Ideal S227328x1024 .bf16) (A3 A4 : FVec Ideal S1x64x1024x256 .f32) : FVec Ideal S444x512x256 .f32 :=
  mulf (mulf (refP A0 A2 A3) (Host.divf (broadcastInDim S444x512x256 ![] bcast_S_S444x512x256 (constant S_ .f32 0x3F800000#32)) (addf (broadcastInDim S444x512x256 ![] bcast_S_S444x512x256 (constant S_ .f32 0x3F800000#32)) (Host.exp (Host.negf (refP A0 A2 A3)))))) (refP A0 A2 A4)
/-- Which blocks are live. -/
def refLive (A1 : IVec S1 32) : IVec S444x512x1024 1 :=
  broadcastInDim S444x512x1024 ![0, 1, 2] bcast_S444x1x1_S444x512x1024_0_1_2 (broadcastInDim S444x1x1 ![0] bcast_S444_S444x1x1_0 (cmpi .slt (iotaInDim S444 32 0) (broadcastInDim S444 ![] bcast_S_S444 (shapeCast _ A1 shapeCasts_S1_S_))))
/-- The experts' rows. -/
def refY (A0 : IVec S444 32) (A2 : FVec Ideal S227328x1024 .bf16) (A3 A4 : FVec Ideal S1x64x1024x256 .f32) (A5 : FVec Ideal S1x64x256x1024 .f32) : FVec Ideal S444x512x1024 .f32 :=
  Host.dotGeneral dot_S444x512x256_S444x256x1024_S444x512x1024_2_1_1_2_0_0 none (refH A0 A2 A3 A4) (refD A0 A5)
/-- The reference's result. -/
def refv (A0 : IVec S444 32) (A1 : IVec S1 32) (A2 : FVec Ideal S227328x1024 .bf16) (A3 A4 : FVec Ideal S1x64x1024x256 .f32) (A5 : FVec Ideal S1x64x256x1024 .f32) : FVec Ideal S227328x1024 .bf16 :=
  truncf .bf16 (shapeCast _ (select (refLive A1) (refY A0 A2 A3 A4 A5) (broadcastInDim S444x512x1024 ![] bcast_S_S444x512x1024 (id (constant S_ .f32 0x00000000#32)))) shapeCasts_S444x512x1024_S227328x1024) bitsLt_bf16_f32

/-! ## The parts at an index -/

variable (A0 : IVec S444 32) (A1 : IVec S1 32) (A2 : FVec Ideal S227328x1024 .bf16) (A3 A4 : FVec Ideal S1x64x1024x256 .f32) (A5 : FVec Ideal S1x64x256x1024 .f32)
variable (b : Fin 444) (r : Fin 512)

theorem refIdx_apply (h0 : 0 ≤ (A0 (ix1 b)).toInt) : refIdx A0 (ix2 b (0 : Fin 1)) = A0 (ix1 b) := by
  refine (broadcastInDim_apply _ _ _ _ (ix1 b) (fun a => match a with | ⟨0, _⟩ => rfl)).trans ?_
  have hn : ¬ IntOp.cmpi .slt (A0 (ix1 b)) 0#32 = 1#1 := fun h => by
    have := (IntOp.cmpi_slt).mp h
    rw [BitVec.toInt_zero] at this
    omega
  exact if_neg hn

theorem refW_apply (h0 : 0 ≤ (A0 (ix1 b)).toInt) (h1 : (A0 (ix1 b)).toNat < 64) (i : Fin 1024) (j : Fin 256) :
    refW A0 A3 (ix3 b i j) = A3 (ix4 (0 : Fin 1) (eOf (A0 (ix1 b))) i j) := by
  have e := refIdx_apply A0 b h0
  refine (takeM_apply gather_S64x1024x256_S444x1_S444x1024x256_12_0_n_n_0_1_11024256.wf _ (refIdx A0) b i j (by rw [e]; exact h0) (by rw [e]; exact h1)).trans ?_
  rw [e]
  refine shapeCast_apply _ _ _ _ ?_
  rw [Shape.rowMajor_val_three, Shape.rowMajor_val_four]
  show ((0 * 64 + (eOf (A0 (ix1 b))).val) * 1024 + i.val) * 256 + j.val = ((eOf (A0 (ix1 b))).val * 1024 + i.val) * 256 + j.val
  omega

theorem refD_apply (h0 : 0 ≤ (A0 (ix1 b)).toInt) (h1 : (A0 (ix1 b)).toNat < 64) (i : Fin 256) (j : Fin 1024) :
    refD A0 A5 (ix3 b i j) = A5 (ix4 (0 : Fin 1) (eOf (A0 (ix1 b))) i j) := by
  have e := refIdx_apply A0 b h0
  refine (takeM_apply gather_S64x256x1024_S444x1_S444x256x1024_12_0_n_n_0_1_12561024.wf _ (refIdx A0) b i j (by rw [e]; exact h0) (by rw [e]; exact h1)).trans ?_
  rw [e]
  refine shapeCast_apply _ _ _ _ ?_
  rw [Shape.rowMajor_val_three, Shape.rowMajor_val_four]
  show ((0 * 64 + (eOf (A0 (ix1 b))).val) * 256 + i.val) * 1024 + j.val = ((eOf (A0 (ix1 b))).val * 256 + i.val) * 1024 + j.val
  omega

theorem refX_apply (i : Fin 1024) : refX A2 (ix3 b r i) = A2 (ix2 (row b r) i) := by
  refine shapeCast_apply (α := EReal) A2 _ _ _ ?_
  rw [Shape.rowMajor_val_two, Shape.rowMajor_val_three]
  show (512 * b.val + r.val) * 1024 + i.val = (b.val * 512 + r.val) * 1024 + i.val
  omega

theorem refP_apply (h0 : 0 ≤ (A0 (ix1 b)).toInt) (h1 : (A0 (ix1 b)).toNat < 64) (k : Fin 256) :
    refP A0 A2 A3 (ix3 b r k) = ∑ i : Fin 1024, A2 (ix2 (row b r) i) * A3 (ix4 (0 : Fin 1) (eOf (A0 (ix1 b))) i k) := by
  show FloatOps.dotGeneral dot_S444x512x1024_S444x1024x256_S444x512x256_2_1_1_2_0_0 none _ _ _ _ = _
  rw [Ideal.dotGeneral_apply, ← Equiv.sum_comp (contrEquiv1 dot_S444x512x1024_S444x1024x256_S444x512x256_2_1_1_2_0_0 1024 rfl rfl).symm]
  refine Finset.sum_congr rfl fun j _ => ?_
  have hc := contrEquiv1_symm_val dot_S444x512x1024_S444x1024x256_S444x512x256_2_1_1_2_0_0 1024 rfl rfl j
  have hl : dot_S444x512x1024_S444x1024x256_S444x512x256_2_1_1_2_0_0.lhsIdx (ix3 b r k) ((contrEquiv1 _ 1024 rfl rfl).symm j) = ix3 b r j :=
    funext fun a => Fin.ext (match a with | ⟨0, _⟩ => rfl | ⟨1, _⟩ => rfl | ⟨2, _⟩ => hc)
  have hr : dot_S444x512x1024_S444x1024x256_S444x512x256_2_1_1_2_0_0.rhsIdx (ix3 b r k) ((contrEquiv1 _ 1024 rfl rfl).symm j) = ix3 b j k :=
    funext fun a => Fin.ext (match a with | ⟨0, _⟩ => rfl | ⟨1, _⟩ => hc | ⟨2, _⟩ => rfl)
  rw [hl, hr]
  exact congrArg₂ (· * ·) (refX_apply A2 b r j) (refW_apply A0 A3 b h0 h1 j k)

theorem refH_apply (h0 : 0 ≤ (A0 (ix1 b)).toInt) (h1 : (A0 (ix1 b)).toNat < 64) (k : Fin 256) :
    refH A0 A2 A3 A4 (ix3 b r k) = (∑ i : Fin 1024, A2 (ix2 (row b r) i) * A3 (ix4 (0 : Fin 1) (eOf (A0 (ix1 b))) i k))
      * Ideal.logistic (∑ i : Fin 1024, A2 (ix2 (row b r) i) * A3 (ix4 (0 : Fin 1) (eOf (A0 (ix1 b))) i k))
      * ∑ i : Fin 1024, A2 (ix2 (row b r) i) * A4 (ix4 (0 : Fin 1) (eOf (A0 (ix1 b))) i k) := by
  rw [← refP_apply A0 A2 A3 b r h0 h1 k, ← refP_apply A0 A2 A4 b r h0 h1 k]
  generalize hp : refP A0 A2 A3 = p
  have hs : ∀ y : (⟨3, ![444, 512, 256]⟩ : Shape).Idx, Ideal.div (Ideal.ofBits .f32 0x3F800000#32) (Ideal.ofBits .f32 0x3F800000#32 + Ideal.exp (-p y)) = Ideal.logistic (p y) := fun y => by
    rw [Ideal.ofBits_one_f32]
    rfl
  unfold refH
  rw [hp]
  exact congrArg (fun z : EReal => p (ix3 b r k) * z * refP A0 A2 A4 (ix3 b r k)) (hs (ix3 b r k))

theorem refY_apply (h0 : 0 ≤ (A0 (ix1 b)).toInt) (h1 : (A0 (ix1 b)).toNat < 64) (k : Fin 1024) :
    refY A0 A2 A3 A4 A5 (ix3 b r k) = expert (fun i => A2 (ix2 (row b r) i)) (fun i j => A3 (ix4 (0 : Fin 1) (eOf (A0 (ix1 b))) i j)) (fun i j => A4 (ix4 (0 : Fin 1) (eOf (A0 (ix1 b))) i j))
      (fun j => A5 (ix4 (0 : Fin 1) (eOf (A0 (ix1 b))) j k)) := by
  unfold expert
  show FloatOps.dotGeneral dot_S444x512x256_S444x256x1024_S444x512x1024_2_1_1_2_0_0 none _ _ _ _ = _
  rw [Ideal.dotGeneral_apply, ← Equiv.sum_comp (contrEquiv1 dot_S444x512x256_S444x256x1024_S444x512x1024_2_1_1_2_0_0 256 rfl rfl).symm]
  refine Finset.sum_congr rfl fun j _ => ?_
  have hc := contrEquiv1_symm_val dot_S444x512x256_S444x256x1024_S444x512x1024_2_1_1_2_0_0 256 rfl rfl j
  have hl : dot_S444x512x256_S444x256x1024_S444x512x1024_2_1_1_2_0_0.lhsIdx (ix3 b r k) ((contrEquiv1 _ 256 rfl rfl).symm j) = ix3 b r j :=
    funext fun a => Fin.ext (match a with | ⟨0, _⟩ => rfl | ⟨1, _⟩ => rfl | ⟨2, _⟩ => hc)
  have hr : dot_S444x512x256_S444x256x1024_S444x512x1024_2_1_1_2_0_0.rhsIdx (ix3 b r k) ((contrEquiv1 _ 256 rfl rfl).symm j) = ix3 b j k :=
    funext fun a => Fin.ext (match a with | ⟨0, _⟩ => rfl | ⟨1, _⟩ => hc | ⟨2, _⟩ => rfl)
  rw [hl, hr]
  exact congrArg₂ (· * ·) (refH_apply A0 A2 A3 A4 b r h0 h1 j) (refD_apply A0 A5 b h0 h1 j k)

theorem refLive_apply (k : Fin 1024) : refLive A1 (ix3 b r k) = IntOp.cmpi .slt (BitVec.ofNat 32 b.val) (A1 (ix1 (0 : Fin 1))) := by
  refine (broadcastInDim_apply _ _ _ _ (ix3 b (0 : Fin 1) (0 : Fin 1)) (fun a => match a with | ⟨0, _⟩ => rfl | ⟨1, _⟩ => rfl | ⟨2, _⟩ => rfl)).trans ?_
  refine (broadcastInDim_apply _ _ _ _ (ix1 b) (fun a => match a with | ⟨0, _⟩ => rfl)).trans ?_
  refine congrArg (IntOp.cmpi .slt (BitVec.ofNat 32 b.val)) ?_
  refine (broadcastInDim_apply _ _ _ _ ix0 (fun a => a.elim0)).trans ?_
  exact shapeCast_apply _ _ _ (ix1 (0 : Fin 1)) rfl

/-- The reference's result, at a row of a block. -/
theorem refv_apply (h0 : 0 ≤ (A0 (ix1 b)).toInt) (h1 : (A0 (ix1 b)).toNat < 64) (k : Fin 1024) :
    refv A0 A1 A2 A3 A4 A5 (ix2 (row b r) k) = value A0 A1 A2 A3 A4 A5 b r k := by
  show shapeCast S227328x1024 (select (refLive A1) (refY A0 A2 A3 A4 A5) (broadcastInDim S444x512x1024 ![] bcast_S_S444x512x1024 (id (constant S_ .f32 0x00000000#32)))) shapeCasts_S444x512x1024_S227328x1024 (ix2 (row b r) k) = _
  refine (shapeCast_apply (α := EReal) _ _ (ix2 (row b r) k) (ix3 b r k) (by
    rw [Shape.rowMajor_val_two, Shape.rowMajor_val_three]
    show (b.val * 512 + r.val) * 1024 + k.val = (512 * b.val + r.val) * 1024 + k.val
    omega)).trans ?_
  show Scalar.select (refLive A1 (ix3 b r k)) (refY A0 A2 A3 A4 A5 (ix3 b r k)) (Ideal.ofBits .f32 0x00000000#32) = _
  rw [refLive_apply, refY_apply A0 A2 A3 A4 A5 b r h0 h1 k, Ideal.ofBits_zero_f32]
  have hb : (BitVec.ofNat 32 b.val).toInt = (b.val : Int) := StableHlo.Predicate.toInt_ofNat_small _ (by omega)
  unfold value
  by_cases h : (b.val : Int) < (A1 (ix1 (0 : Fin 1))).toInt
  · rw [if_pos h]
    exact if_pos ((IntOp.cmpi_slt).mpr (by rw [hb]; exact h))
  · rw [if_neg h]
    exact if_neg (fun e => h (by have := (IntOp.cmpi_slt).mp e; rw [hb] at this; exact this))

end Cert.Proof.Gmm

end
-- ==== Proof.GmmSame.lean ====
/- The two printed programs of the experts are the same text, so their definitions are equal. -/
module

public import proofs.«01_k».proof.Proof.Gen.Kernel3
public import proofs.«01_k».proof.Proof.Gen.Kernel3Ideal

@[expose] public section

noncomputable section

namespace Cert.Proof.Gmm

open Idealize.ShloMosaic

variable {F : FTy → Type} [FloatOps F]

set_option smartUnfolding false in
set_option maxHeartbeats 4000000 in
theorem same_gmm : Cert.Kernel3.cc0_gmm (F := F) = Cert.Kernel3Ideal.cc0_gmm (F := F) := rfl

set_option smartUnfolding false in
set_option maxHeartbeats 4000000 in
theorem same_defs₀ : Cert.Kernel3.defs₀ (F := F) = Cert.Kernel3Ideal.defs₀ (F := F) := by
  unfold Cert.Kernel3.defs₀ Cert.Kernel3Ideal.defs₀
  rw [same_gmm]
  refine congrArg Defs.onTc ?_
  funext x y
  match x, y with
  | 0, (t, s) => rfl

set_option smartUnfolding false in
set_option maxHeartbeats 4000000 in
theorem same_defs : Cert.Kernel3.defs (F := F) = Cert.Kernel3Ideal.defs (F := F) :=
  congrArg (fun d => Pipeline.defs (Cert.Kernel3Ideal.pcfgs (F := F)) d) same_defs₀

end Cert.Proof.Gmm

end
-- ==== Proof.GmmClaim.lean ====
/- The experts' products' claims: the call's frames, and its rows equal to the reference's. -/
module

public import proofs.«01_k».proof.Defs
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import proofs.«01_k».proof.Proof.Gen.Pre_ready
public import proofs.«01_k».proof.Proof.GmmFinal
public import proofs.«01_k».proof.Proof.GmmRef
public import proofs.«01_k».proof.Proof.GmmSame
public import Idealize.ShloMosaic.Adequacy
public import Idealize.ShloMosaic.Init

@[expose] public section

set_option maxRecDepth 16384

noncomputable section

namespace Cert.Kernel3Ideal.Gmm

open Idealize.ShloMosaic Idealize.ShloMosaic.TcCoe Idealize.SL.Sem Cert.Kernel3Ideal.Gen
open Idealize.ShloMosaic.ValueIdx

variable {F : FTy → Type} [FloatOps F]
variable (m : (ℓ : Loc nD τ sig) → Buf (Elt F) ℓ) (ρ : Dev nD → PrngReg) (hO : Ok m)

set_option maxHeartbeats 1000000 in
/-- The run: the result is the array the call leaves, the arguments as launched, every semaphore at rest. -/
theorem run : θ_run defs (onTc (τ := τ) (main (F := F))) ⟨m, fun _ => 0, ρ⟩ fun r => (∀ c : Dev nD,
      r.2.mem ((c : Thread nD τ).loc main_v3) = (dats m hO 0 c).arrAt 7 (cfgM m hO).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) ∧ r.2.sem = fun _ => 0 :=
  (θ_run defs _ _).mono (fun r h => ⟨fun c => ⟨(h.1 c).1 7,
      ((h.1 c).2 main_arg0 (Pipeline.mem_restRefs_of main_arg0 (by decide) (show ∀ w : Fin 8, (spec0 w).arr.view.ref ≠ main_arg0 from by decide))).trans (V_main_arg0 m c),
      ((h.1 c).2 main_arg1 (Pipeline.mem_restRefs_of main_arg1 (by decide) (show ∀ w : Fin 8, (spec0 w).arr.view.ref ≠ main_arg1 from by decide))).trans (V_main_arg1 m c),
      ((h.1 c).1 0).trans (((dats m hO 0 c).arrAt_in 0 rfl _).trans ((A_eq m hO c 0).trans (V_main_arg2 m c))),
      ((h.1 c).2 main_arg3 (Pipeline.mem_restRefs_of main_arg3 (by decide) (show ∀ w : Fin 8, (spec0 w).arr.view.ref ≠ main_arg3 from by decide))).trans (V_main_arg3 m c),
      ((h.1 c).2 main_arg4 (Pipeline.mem_restRefs_of main_arg4 (by decide) (show ∀ w : Fin 8, (spec0 w).arr.view.ref ≠ main_arg4 from by decide))).trans (V_main_arg4 m c),
      ((h.1 c).2 main_arg5 (Pipeline.mem_restRefs_of main_arg5 (by decide) (show ∀ w : Fin 8, (spec0 w).arr.view.ref ≠ main_arg5 from by decide))).trans (V_main_arg5 m c)⟩, h.2⟩)
    (run_main_quiescent m ρ hO)

end Cert.Kernel3Ideal.Gmm

namespace Cert.Proof.Gmm

open Idealize.ShloMosaic Idealize.ShloMosaic.TcCoe Idealize.SL.Sem
open Idealize.ShloMosaic.ValueIdx
open Cert.Kernel3Ideal.Gmm (Ready ready_of ok)

theorem frame_kernel : Cert.quiescent_Kernel3 := fun m ρ h => by
  rw [same_defs]
  exact (θ_run Cert.Kernel3Ideal.defs _ _).mono (fun _ hh => ⟨fun c => (hh.1 c).2, hh.2⟩)
    (Cert.Kernel3Ideal.Gmm.run (F := Bits) m ρ (ok m (ready_of (h 0))))

theorem frame_ideal : Cert.quiescent_Kernel3Ideal := fun m ρ h =>
  (θ_run Cert.Kernel3Ideal.defs _ _).mono (fun _ hh => ⟨fun c => (hh.1 c).2, hh.2⟩)
    (Cert.Kernel3Ideal.Gmm.run (F := Ideal) m ρ (ok m (ready_of (h 0))))

theorem frame_ref : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The reference's result, of the kernel's arguments, is what the kernel leaves. -/
theorem ref_eq (m : (ℓ : Loc Cert.Kernel3Ideal.nD Cert.Kernel3Ideal.τ Cert.Kernel3Ideal.sig) → Buf (Elt Ideal) ℓ) (c : Dev Cert.Kernel3Ideal.nD)
    (hR : Ready (m (((0 : Dev Cert.Kernel3Ideal.nD) : Thread Cert.Kernel3Ideal.nD Cert.Kernel3Ideal.τ).loc Cert.Kernel3Ideal.main_arg0)) (m (((0 : Dev Cert.Kernel3Ideal.nD) : Thread Cert.Kernel3Ideal.nD Cert.Kernel3Ideal.τ).loc Cert.Kernel3Ideal.main_arg1)))
    (hO : Cert.Kernel3Ideal.Gmm.Ok m)
    (A0 : IVec ⟨1, ![444]⟩ 32) (A1 : IVec ⟨1, ![1]⟩ 32) (A2 : FVec Ideal ⟨2, ![227328, 1024]⟩ .bf16) (A3 A4 : FVec Ideal ⟨4, ![1, 64, 1024, 256]⟩ .f32) (A5 : FVec Ideal ⟨4, ![1, 64, 256, 1024]⟩ .f32)
    (h0 : A0 = m ((c.tc : Thread Cert.Kernel3Ideal.nD Cert.Kernel3Ideal.τ).loc Cert.Kernel3Ideal.main_arg0)) (h1 : A1 = m ((c.tc : Thread Cert.Kernel3Ideal.nD Cert.Kernel3Ideal.τ).loc Cert.Kernel3Ideal.main_arg1))
    (h2 : A2 = m ((c.tc : Thread Cert.Kernel3Ideal.nD Cert.Kernel3Ideal.τ).loc Cert.Kernel3Ideal.main_arg2)) (h3 : A3 = m ((c.tc : Thread Cert.Kernel3Ideal.nD Cert.Kernel3Ideal.τ).loc Cert.Kernel3Ideal.main_arg3))
    (h4 : A4 = m ((c.tc : Thread Cert.Kernel3Ideal.nD Cert.Kernel3Ideal.τ).loc Cert.Kernel3Ideal.main_arg4)) (h5 : A5 = m ((c.tc : Thread Cert.Kernel3Ideal.nD Cert.Kernel3Ideal.τ).loc Cert.Kernel3Ideal.main_arg5)) :
    refv A0 A1 A2 A3 A4 A5 = (Cert.Kernel3Ideal.Gmm.dats m hO 0 c).arrAt 7 (Cert.Kernel3Ideal.Gmm.cfgM m hO).N := by
  subst h0 h1 h2 h3 h4 h5
  refine rows_ext fun b r k => ?_
  obtain rfl : c = 0 := Subsingleton.elim _ _
  exact (refv_apply _ _ _ _ _ _ b r (hR.ex (ix1 b)).1 (hR.ex (ix1 b)).2 k).trans (Cert.Kernel3Ideal.Gmm.final_7 m hR hO 0 b r k).symm

theorem algebraic : Cert.algebraic_Kernel3Ideal_Reference3Ideal := fun m ρ m' ρ' h e =>
  ⟨fun c => (Cert.Kernel3Ideal.Gmm.dats m (ok m (ready_of (h 0))) 0 c).arrAt 7 (Cert.Kernel3Ideal.Gmm.cfgM m (ok m (ready_of (h 0)))).N,
    (θ_run Cert.Kernel3Ideal.defs _ _).mono (fun _ hh c => hh.1 c) (Cert.Kernel3Ideal.Gmm.run (F := Ideal) m ρ (ok m (ready_of (h 0)))),
    (θ_run Cert.Reference3Ideal.defs _ _).mono (fun r hh c =>
      ⟨(hh c).1.trans (ref_eq m c (ready_of (h 0)) (ok m (ready_of (h 0))) _ _ _ _ _ _ (e c).1 (e c).2.1 (e c).2.2.1 (e c).2.2.2.1 (e c).2.2.2.2.1 (e c).2.2.2.2.2), (hh c).2⟩)
      (Cert.Reference3Ideal.Value.run (F := Ideal) m' ρ')⟩

end Cert.Proof.Gmm

end
-- ==== Proof.lean ====
/- The claim: the frames of the dispatch and of its reference, and the rows the dispatch leaves; the memory's keys and
   values (MemClaim.lean); the experts' products (GmmClaim.lean). -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_routed
public import proofs.«01_k».proof.Proof.Plans
public import proofs.«01_k».proof.Proof.Same
public import proofs.«01_k».proof.Proof.Value
public import proofs.«01_k».proof.Proof.MemClaim
public import proofs.«01_k».proof.Proof.GmmClaim
public import Idealize.ShloMosaic.Adequacy
public import Idealize.ShloMosaic.Init

@[expose] public section

noncomputable section

namespace Cert.Proof

open Idealize.ShloMosaic Idealize.ShloMosaic.TcCoe Idealize.SL.Sem Cert.Proof.Send

/-- A plan for every core, from the precondition. -/
def plans {F : FTy → Type} [FloatOps F] (m : (ℓ : Loc Cert.KernelIdeal.nD Cert.KernelIdeal.τ Cert.KernelIdeal.sig) → Buf (Elt F) ℓ)
    (h : ∀ c : Dev Cert.KernelIdeal.nD, Routed (m ((c.tc : Thread Cert.KernelIdeal.nD Cert.KernelIdeal.τ).loc Cert.KernelIdeal.main_arg0)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg1))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg9))) : Plans m :=
  fun c => (h c).plan.choose

theorem frame_kernel : Cert.quiescent_Kernel := fun m ρ h => by
  rw [same_defs]
  exact (θ_run Cert.KernelIdeal.defs _ _).mono (fun _ hh => ⟨fun c => (hh.1 c).2, hh.2⟩)
    (run_main (F := Bits) m ρ (plans m fun c => routed_of (h c)))

theorem frame_ideal : Cert.quiescent_KernelIdeal := fun m ρ h =>
  (θ_run Cert.KernelIdeal.defs _ _).mono (fun _ hh => ⟨fun c => (hh.1 c).2, hh.2⟩)
    (run_main (F := Ideal) m ρ (plans m fun c => routed_of (h c)))

theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic : Cert.algebraic_KernelIdeal_ReferenceIdeal := fun m ρ m' ρ' h e =>
  ⟨fun c => fini m (plans m fun c => routed_of (h c)) c,
    (θ_run Cert.KernelIdeal.defs _ _).mono (fun _ hh c => hh.1 c) (run_main (F := Ideal) m ρ (plans m fun c => routed_of (h c))),
    (θ_run Cert.ReferenceIdeal.defs _ _).mono (fun r hh c => ⟨(hh c).1.trans (ref_eq m m' c (e c).2.2.2.2.2.1 (e c).2.2.2.2.2.2.1 (e c).2.2.2.2.2.2.2.1 (e c).2.2.2.2.2.2.2.2.1 (e c).2.2.2.2.2.2.2.2.2.1 (e c).2.2.2.2.2.2.2.2.2.2 (routed_of (h c)) (plans m (fun c => routed_of (h c))) (routed_of (h c)).plan.choose_spec), (hh c).2⟩)
      (Cert.ReferenceIdeal.Value.run (F := Ideal) m' ρ')⟩

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts, Cert.Pre_routed.Gen.facts, Cert.Pre_ready.Gen.facts,
    frame_kernel, frame_ideal, frame_ref, Mem.frame_kernel, Mem.frame_ideal, Mem.frame_ref, Gmm.frame_kernel, Gmm.frame_ideal, Gmm.frame_ref,
    trivial, algebraic, trivial, Mem.algebraic, trivial, Gmm.algebraic⟩

end Cert.Proof

end
